-- ==== Defs.lean ====
def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_MlpKernel (m : (ℓ : Loc Cert.MlpKernel.nD Cert.MlpKernel.τ Cert.MlpKernel.sig) → Buf (Elt Bits) ℓ) : Prop :=
  True

def Pre_MlpKernelIdeal (m : (ℓ : Loc Cert.MlpKernelIdeal.nD Cert.MlpKernelIdeal.τ Cert.MlpKernelIdeal.sig) → Buf (Elt Ideal) ℓ) : Prop :=
  True

def Pre_MlpKernelIdeal_mlp_finite [hPre_mlp_finite : Cert.Pre_mlp_finite.Facts] (m : (ℓ : Loc Cert.MlpKernelIdeal.nD Cert.MlpKernelIdeal.τ Cert.MlpKernelIdeal.sig) → Buf (Elt Ideal) ℓ) : Prop :=
  ∀ c : Dev Cert.MlpKernelIdeal.nD,
    (Cert.Pre_mlp_finite.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4)) (m ((c.tc : Thread Cert.MlpKernelIdeal.nD Cert.MlpKernelIdeal.τ).loc Cert.MlpKernelIdeal.main_arg5)) (m ((c.tc : Thread Cert.MlpKernelIdeal.nD Cert.MlpKernelIdeal.τ).loc Cert.MlpKernelIdeal.main_arg6)) (m ((c.tc : Thread Cert.MlpKernelIdeal.nD Cert.MlpKernelIdeal.τ).loc Cert.MlpKernelIdeal.main_arg7))).1 = (fun _ => 1#1)
    ∧ (Cert.Pre_mlp_finite.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4)) (m ((c.tc : Thread Cert.MlpKernelIdeal.nD Cert.MlpKernelIdeal.τ).loc Cert.MlpKernelIdeal.main_arg5)) (m ((c.tc : Thread Cert.MlpKernelIdeal.nD Cert.MlpKernelIdeal.τ).loc Cert.MlpKernelIdeal.main_arg6)) (m ((c.tc : Thread Cert.MlpKernelIdeal.nD Cert.MlpKernelIdeal.τ).loc Cert.MlpKernelIdeal.main_arg7))).2.1 = (fun _ => 1#1)
    ∧ (Cert.Pre_mlp_finite.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4)) (m ((c.tc : Thread Cert.MlpKernelIdeal.nD Cert.MlpKernelIdeal.τ).loc Cert.MlpKernelIdeal.main_arg5)) (m ((c.tc : Thread Cert.MlpKernelIdeal.nD Cert.MlpKernelIdeal.τ).loc Cert.MlpKernelIdeal.main_arg6)) (m ((c.tc : Thread Cert.MlpKernelIdeal.nD Cert.MlpKernelIdeal.τ).loc Cert.MlpKernelIdeal.main_arg7))).2.2.1 = (fun _ => 1#1)
    ∧ (Cert.Pre_mlp_finite.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4)) (m ((c.tc : Thread Cert.MlpKernelIdeal.nD Cert.MlpKernelIdeal.τ).loc Cert.MlpKernelIdeal.main_arg5)) (m ((c.tc : Thread Cert.MlpKernelIdeal.nD Cert.MlpKernelIdeal.τ).loc Cert.MlpKernelIdeal.main_arg6)) (m ((c.tc : Thread Cert.MlpKernelIdeal.nD Cert.MlpKernelIdeal.τ).loc Cert.MlpKernelIdeal.main_arg7))).2.2.2 = (fun _ => 1#1)

def Pre_MlpReferenceIdeal (m : (ℓ : Loc Cert.MlpReferenceIdeal.nD Cert.MlpReferenceIdeal.τ Cert.MlpReferenceIdeal.sig) → Buf (Elt Ideal) ℓ) : Prop :=
  True

def Pre_MlpReferenceIdeal_mlp_finite [hPre_mlp_finite : Cert.Pre_mlp_finite.Facts] (m : (ℓ : Loc Cert.MlpReferenceIdeal.nD Cert.MlpReferenceIdeal.τ Cert.MlpReferenceIdeal.sig) → Buf (Elt Ideal) ℓ) : Prop :=
  ∀ c : Dev Cert.MlpReferenceIdeal.nD,
    (Cert.Pre_mlp_finite.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5)) (m ((c.tc : Thread Cert.MlpReferenceIdeal.nD Cert.MlpReferenceIdeal.τ).loc Cert.MlpReferenceIdeal.main_arg6)) (m ((c.tc : Thread Cert.MlpReferenceIdeal.nD Cert.MlpReferenceIdeal.τ).loc Cert.MlpReferenceIdeal.main_arg7))).1 = (fun _ => 1#1)
    ∧ (Cert.Pre_mlp_finite.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5)) (m ((c.tc : Thread Cert.MlpReferenceIdeal.nD Cert.MlpReferenceIdeal.τ).loc Cert.MlpReferenceIdeal.main_arg6)) (m ((c.tc : Thread Cert.MlpReferenceIdeal.nD Cert.MlpReferenceIdeal.τ).loc Cert.MlpReferenceIdeal.main_arg7))).2.1 = (fun _ => 1#1)
    ∧ (Cert.Pre_mlp_finite.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5)) (m ((c.tc : Thread Cert.MlpReferenceIdeal.nD Cert.MlpReferenceIdeal.τ).loc Cert.MlpReferenceIdeal.main_arg6)) (m ((c.tc : Thread Cert.MlpReferenceIdeal.nD Cert.MlpReferenceIdeal.τ).loc Cert.MlpReferenceIdeal.main_arg7))).2.2.1 = (fun _ => 1#1)
    ∧ (Cert.Pre_mlp_finite.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5)) (m ((c.tc : Thread Cert.MlpReferenceIdeal.nD Cert.MlpReferenceIdeal.τ).loc Cert.MlpReferenceIdeal.main_arg6)) (m ((c.tc : Thread Cert.MlpReferenceIdeal.nD Cert.MlpReferenceIdeal.τ).loc Cert.MlpReferenceIdeal.main_arg7))).2.2.2 = (fun _ => 1#1)

def Pre_RetKernel (m : (ℓ : Loc Cert.RetKernel.nD Cert.RetKernel.τ Cert.RetKernel.sig) → Buf (Elt Bits) ℓ) : Prop :=
  True

def Pre_RetKernelIdeal (m : (ℓ : Loc Cert.RetKernelIdeal.nD Cert.RetKernelIdeal.τ Cert.RetKernelIdeal.sig) → Buf (Elt Ideal) ℓ) : Prop :=
  True

def Pre_RetKernelIdeal_ret_finite [hPre_ret_finite : Cert.Pre_ret_finite.Facts] (m : (ℓ : Loc Cert.RetKernelIdeal.nD Cert.RetKernelIdeal.τ Cert.RetKernelIdeal.sig) → Buf (Elt Ideal) ℓ) : Prop :=
  ∀ c : Dev Cert.RetKernelIdeal.nD,
    (Cert.Pre_ret_finite.fn (F := Ideal) (m ((c.tc : Thread Cert.RetKernelIdeal.nD Cert.RetKernelIdeal.τ).loc Cert.RetKernelIdeal.main_arg0)) (m ((c.tc : Thread Cert.RetKernelIdeal.nD Cert.RetKernelIdeal.τ).loc Cert.RetKernelIdeal.main_arg1)) (m ((c.tc : Thread Cert.RetKernelIdeal.nD Cert.RetKernelIdeal.τ).loc Cert.RetKernelIdeal.main_arg2)) (m ((c.tc : Thread Cert.RetKernelIdeal.nD Cert.RetKernelIdeal.τ).loc Cert.RetKernelIdeal.main_arg3)) (m ((c.tc : Thread Cert.RetKernelIdeal.nD Cert.RetKernelIdeal.τ).loc Cert.RetKernelIdeal.main_arg4)) (m ((c.tc : Thread Cert.RetKernelIdeal.nD Cert.RetKernelIdeal.τ).loc Cert.RetKernelIdeal.main_arg5))).1 = (fun _ => 1#1)
    ∧ (Cert.Pre_ret_finite.fn (F := Ideal) (m ((c.tc : Thread Cert.RetKernelIdeal.nD Cert.RetKernelIdeal.τ).loc Cert.RetKernelIdeal.main_arg0)) (m ((c.tc : Thread Cert.RetKernelIdeal.nD Cert.RetKernelIdeal.τ).loc Cert.RetKernelIdeal.main_arg1)) (m ((c.tc : Thread Cert.RetKernelIdeal.nD Cert.RetKernelIdeal.τ).loc Cert.RetKernelIdeal.main_arg2)) (m ((c.tc : Thread Cert.RetKernelIdeal.nD Cert.RetKernelIdeal.τ).loc Cert.RetKernelIdeal.main_arg3)) (m ((c.tc : Thread Cert.RetKernelIdeal.nD Cert.RetKernelIdeal.τ).loc Cert.RetKernelIdeal.main_arg4)) (m ((c.tc : Thread Cert.RetKernelIdeal.nD Cert.RetKernelIdeal.τ).loc Cert.RetKernelIdeal.main_arg5))).2.1 = (fun _ => 1#1)
    ∧ (Cert.Pre_ret_finite.fn (F := Ideal) (m ((c.tc : Thread Cert.RetKernelIdeal.nD Cert.RetKernelIdeal.τ).loc Cert.RetKernelIdeal.main_arg0)) (m ((c.tc : Thread Cert.RetKernelIdeal.nD Cert.RetKernelIdeal.τ).loc Cert.RetKernelIdeal.main_arg1)) (m ((c.tc : Thread Cert.RetKernelIdeal.nD Cert.RetKernelIdeal.τ).loc Cert.RetKernelIdeal.main_arg2)) (m ((c.tc : Thread Cert.RetKernelIdeal.nD Cert.RetKernelIdeal.τ).loc Cert.RetKernelIdeal.main_arg3)) (m ((c.tc : Thread Cert.RetKernelIdeal.nD Cert.RetKernelIdeal.τ).loc Cert.RetKernelIdeal.main_arg4)) (m ((c.tc : Thread Cert.RetKernelIdeal.nD Cert.RetKernelIdeal.τ).loc Cert.RetKernelIdeal.main_arg5))).2.2.1 = (fun _ => 1#1)
    ∧ (Cert.Pre_ret_finite.fn (F := Ideal) (m ((c.tc : Thread Cert.RetKernelIdeal.nD Cert.RetKernelIdeal.τ).loc Cert.RetKernelIdeal.main_arg0)) (m ((c.tc : Thread Cert.RetKernelIdeal.nD Cert.RetKernelIdeal.τ).loc Cert.RetKernelIdeal.main_arg1)) (m ((c.tc : Thread Cert.RetKernelIdeal.nD Cert.RetKernelIdeal.τ).loc Cert.RetKernelIdeal.main_arg2)) (m ((c.tc : Thread Cert.RetKernelIdeal.nD Cert.RetKernelIdeal.τ).loc Cert.RetKernelIdeal.main_arg3)) (m ((c.tc : Thread Cert.RetKernelIdeal.nD Cert.RetKernelIdeal.τ).loc Cert.RetKernelIdeal.main_arg4)) (m ((c.tc : Thread Cert.RetKernelIdeal.nD Cert.RetKernelIdeal.τ).loc Cert.RetKernelIdeal.main_arg5))).2.2.2.1 = (fun _ => 1#1)
    ∧ (Cert.Pre_ret_finite.fn (F := Ideal) (m ((c.tc : Thread Cert.RetKernelIdeal.nD Cert.RetKernelIdeal.τ).loc Cert.RetKernelIdeal.main_arg0)) (m ((c.tc : Thread Cert.RetKernelIdeal.nD Cert.RetKernelIdeal.τ).loc Cert.RetKernelIdeal.main_arg1)) (m ((c.tc : Thread Cert.RetKernelIdeal.nD Cert.RetKernelIdeal.τ).loc Cert.RetKernelIdeal.main_arg2)) (m ((c.tc : Thread Cert.RetKernelIdeal.nD Cert.RetKernelIdeal.τ).loc Cert.RetKernelIdeal.main_arg3)) (m ((c.tc : Thread Cert.RetKernelIdeal.nD Cert.RetKernelIdeal.τ).loc Cert.RetKernelIdeal.main_arg4)) (m ((c.tc : Thread Cert.RetKernelIdeal.nD Cert.RetKernelIdeal.τ).loc Cert.RetKernelIdeal.main_arg5))).2.2.2.2.1 = (fun _ => 1#1)
    ∧ (Cert.Pre_ret_finite.fn (F := Ideal) (m ((c.tc : Thread Cert.RetKernelIdeal.nD Cert.RetKernelIdeal.τ).loc Cert.RetKernelIdeal.main_arg0)) (m ((c.tc : Thread Cert.RetKernelIdeal.nD Cert.RetKernelIdeal.τ).loc Cert.RetKernelIdeal.main_arg1)) (m ((c.tc : Thread Cert.RetKernelIdeal.nD Cert.RetKernelIdeal.τ).loc Cert.RetKernelIdeal.main_arg2)) (m ((c.tc : Thread Cert.RetKernelIdeal.nD Cert.RetKernelIdeal.τ).loc Cert.RetKernelIdeal.main_arg3)) (m ((c.tc : Thread Cert.RetKernelIdeal.nD Cert.RetKernelIdeal.τ).loc Cert.RetKernelIdeal.main_arg4)) (m ((c.tc : Thread Cert.RetKernelIdeal.nD Cert.RetKernelIdeal.τ).loc Cert.RetKernelIdeal.main_arg5))).2.2.2.2.2 = (fun _ => 1#1)

def Pre_RetReferenceIdeal (m : (ℓ : Loc Cert.RetReferenceIdeal.nD Cert.RetReferenceIdeal.τ Cert.RetReferenceIdeal.sig) → Buf (Elt Ideal) ℓ) : Prop :=
  True

def Pre_RetReferenceIdeal_ret_finite [hPre_ret_finite : Cert.Pre_ret_finite.Facts] (m : (ℓ : Loc Cert.RetReferenceIdeal.nD Cert.RetReferenceIdeal.τ Cert.RetReferenceIdeal.sig) → Buf (Elt Ideal) ℓ) : Prop :=
  ∀ c : Dev Cert.RetReferenceIdeal.nD,
    (Cert.Pre_ret_finite.fn (F := Ideal) (m ((c.tc : Thread Cert.RetReferenceIdeal.nD Cert.RetReferenceIdeal.τ).loc Cert.RetReferenceIdeal.main_arg0)) (m ((c.tc : Thread Cert.RetReferenceIdeal.nD Cert.RetReferenceIdeal.τ).loc Cert.RetReferenceIdeal.main_arg1)) (m ((c.tc : Thread Cert.RetReferenceIdeal.nD Cert.RetReferenceIdeal.τ).loc Cert.RetReferenceIdeal.main_arg2)) (m ((c.tc : Thread Cert.RetReferenceIdeal.nD Cert.RetReferenceIdeal.τ).loc Cert.RetReferenceIdeal.main_arg3)) (m ((c.tc : Thread Cert.RetReferenceIdeal.nD Cert.RetReferenceIdeal.τ).loc Cert.RetReferenceIdeal.main_arg4)) (m ((c.tc : Thread Cert.RetReferenceIdeal.nD Cert.RetReferenceIdeal.τ).loc Cert.RetReferenceIdeal.main_arg5))).1 = (fun _ => 1#1)
    ∧ (Cert.Pre_ret_finite.fn (F := Ideal) (m ((c.tc : Thread Cert.RetReferenceIdeal.nD Cert.RetReferenceIdeal.τ).loc Cert.RetReferenceIdeal.main_arg0)) (m ((c.tc : Thread Cert.RetReferenceIdeal.nD Cert.RetReferenceIdeal.τ).loc Cert.RetReferenceIdeal.main_arg1)) (m ((c.tc : Thread Cert.RetReferenceIdeal.nD Cert.RetReferenceIdeal.τ).loc Cert.RetReferenceIdeal.main_arg2)) (m ((c.tc : Thread Cert.RetReferenceIdeal.nD Cert.RetReferenceIdeal.τ).loc Cert.RetReferenceIdeal.main_arg3)) (m ((c.tc : Thread Cert.RetReferenceIdeal.nD Cert.RetReferenceIdeal.τ).loc Cert.RetReferenceIdeal.main_arg4)) (m ((c.tc : Thread Cert.RetReferenceIdeal.nD Cert.RetReferenceIdeal.τ).loc Cert.RetReferenceIdeal.main_arg5))).2.1 = (fun _ => 1#1)
    ∧ (Cert.Pre_ret_finite.fn (F := Ideal) (m ((c.tc : Thread Cert.RetReferenceIdeal.nD Cert.RetReferenceIdeal.τ).loc Cert.RetReferenceIdeal.main_arg0)) (m ((c.tc : Thread Cert.RetReferenceIdeal.nD Cert.RetReferenceIdeal.τ).loc Cert.RetReferenceIdeal.main_arg1)) (m ((c.tc : Thread Cert.RetReferenceIdeal.nD Cert.RetReferenceIdeal.τ).loc Cert.RetReferenceIdeal.main_arg2)) (m ((c.tc : Thread Cert.RetReferenceIdeal.nD Cert.RetReferenceIdeal.τ).loc Cert.RetReferenceIdeal.main_arg3)) (m ((c.tc : Thread Cert.RetReferenceIdeal.nD Cert.RetReferenceIdeal.τ).loc Cert.RetReferenceIdeal.main_arg4)) (m ((c.tc : Thread Cert.RetReferenceIdeal.nD Cert.RetReferenceIdeal.τ).loc Cert.RetReferenceIdeal.main_arg5))).2.2.1 = (fun _ => 1#1)
    ∧ (Cert.Pre_ret_finite.fn (F := Ideal) (m ((c.tc : Thread Cert.RetReferenceIdeal.nD Cert.RetReferenceIdeal.τ).loc Cert.RetReferenceIdeal.main_arg0)) (m ((c.tc : Thread Cert.RetReferenceIdeal.nD Cert.RetReferenceIdeal.τ).loc Cert.RetReferenceIdeal.main_arg1)) (m ((c.tc : Thread Cert.RetReferenceIdeal.nD Cert.RetReferenceIdeal.τ).loc Cert.RetReferenceIdeal.main_arg2)) (m ((c.tc : Thread Cert.RetReferenceIdeal.nD Cert.RetReferenceIdeal.τ).loc Cert.RetReferenceIdeal.main_arg3)) (m ((c.tc : Thread Cert.RetReferenceIdeal.nD Cert.RetReferenceIdeal.τ).loc Cert.RetReferenceIdeal.main_arg4)) (m ((c.tc : Thread Cert.RetReferenceIdeal.nD Cert.RetReferenceIdeal.τ).loc Cert.RetReferenceIdeal.main_arg5))).2.2.2.1 = (fun _ => 1#1)
    ∧ (Cert.Pre_ret_finite.fn (F := Ideal) (m ((c.tc : Thread Cert.RetReferenceIdeal.nD Cert.RetReferenceIdeal.τ).loc Cert.RetReferenceIdeal.main_arg0)) (m ((c.tc : Thread Cert.RetReferenceIdeal.nD Cert.RetReferenceIdeal.τ).loc Cert.RetReferenceIdeal.main_arg1)) (m ((c.tc : Thread Cert.RetReferenceIdeal.nD Cert.RetReferenceIdeal.τ).loc Cert.RetReferenceIdeal.main_arg2)) (m ((c.tc : Thread Cert.RetReferenceIdeal.nD Cert.RetReferenceIdeal.τ).loc Cert.RetReferenceIdeal.main_arg3)) (m ((c.tc : Thread Cert.RetReferenceIdeal.nD Cert.RetReferenceIdeal.τ).loc Cert.RetReferenceIdeal.main_arg4)) (m ((c.tc : Thread Cert.RetReferenceIdeal.nD Cert.RetReferenceIdeal.τ).loc Cert.RetReferenceIdeal.main_arg5))).2.2.2.2.1 = (fun _ => 1#1)
    ∧ (Cert.Pre_ret_finite.fn (F := Ideal) (m ((c.tc : Thread Cert.RetReferenceIdeal.nD Cert.RetReferenceIdeal.τ).loc Cert.RetReferenceIdeal.main_arg0)) (m ((c.tc : Thread Cert.RetReferenceIdeal.nD Cert.RetReferenceIdeal.τ).loc Cert.RetReferenceIdeal.main_arg1)) (m ((c.tc : Thread Cert.RetReferenceIdeal.nD Cert.RetReferenceIdeal.τ).loc Cert.RetReferenceIdeal.main_arg2)) (m ((c.tc : Thread Cert.RetReferenceIdeal.nD Cert.RetReferenceIdeal.τ).loc Cert.RetReferenceIdeal.main_arg3)) (m ((c.tc : Thread Cert.RetReferenceIdeal.nD Cert.RetReferenceIdeal.τ).loc Cert.RetReferenceIdeal.main_arg4)) (m ((c.tc : Thread Cert.RetReferenceIdeal.nD Cert.RetReferenceIdeal.τ).loc Cert.RetReferenceIdeal.main_arg5))).2.2.2.2.2 = (fun _ => 1#1)

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_FmlpKernel (m : (ℓ : Loc Cert.FmlpKernel.nD Cert.FmlpKernel.τ Cert.FmlpKernel.sig) → Buf (Elt Bits) ℓ) : Prop :=
  True

def Pre_FmlpKernelIdeal (m : (ℓ : Loc Cert.FmlpKernelIdeal.nD Cert.FmlpKernelIdeal.τ Cert.FmlpKernelIdeal.sig) → Buf (Elt Ideal) ℓ) : Prop :=
  True

def Pre_FmlpReferenceIdeal (m : (ℓ : Loc Cert.FmlpReferenceIdeal.nD Cert.FmlpReferenceIdeal.τ Cert.FmlpReferenceIdeal.sig) → Buf (Elt Ideal) ℓ) : Prop :=
  True

def Pre_FretKernel (m : (ℓ : Loc Cert.FretKernel.nD Cert.FretKernel.τ Cert.FretKernel.sig) → Buf (Elt Bits) ℓ) : Prop :=
  True

def Pre_FretKernelIdeal (m : (ℓ : Loc Cert.FretKernelIdeal.nD Cert.FretKernelIdeal.τ Cert.FretKernelIdeal.sig) → Buf (Elt Ideal) ℓ) : Prop :=
  True

def Pre_FretReferenceIdeal (m : (ℓ : Loc Cert.FretReferenceIdeal.nD Cert.FretReferenceIdeal.τ Cert.FretReferenceIdeal.sig) → Buf (Elt Ideal) ℓ) : Prop :=
  True

def Pre_FinKernel (m : (ℓ : Loc Cert.FinKernel.nD Cert.FinKernel.τ Cert.FinKernel.sig) → Buf (Elt Bits) ℓ) : Prop :=
  True

def Pre_FinKernelIdeal (m : (ℓ : Loc Cert.FinKernelIdeal.nD Cert.FinKernelIdeal.τ Cert.FinKernelIdeal.sig) → Buf (Elt Ideal) ℓ) : Prop :=
  True

def Pre_FinReferenceIdeal (m : (ℓ : Loc Cert.FinReferenceIdeal.nD Cert.FinReferenceIdeal.τ Cert.FinReferenceIdeal.sig) → Buf (Elt Ideal) ℓ) : Prop :=
  True

def Pre_AdamwKernel (m : (ℓ : Loc Cert.AdamwKernel.nD Cert.AdamwKernel.τ Cert.AdamwKernel.sig) → Buf (Elt Bits) ℓ) : Prop :=
  True

def Pre_AdamwKernelIdeal (m : (ℓ : Loc Cert.AdamwKernelIdeal.nD Cert.AdamwKernelIdeal.τ Cert.AdamwKernelIdeal.sig) → Buf (Elt Ideal) ℓ) : Prop :=
  True

def Pre_AdamwReferenceIdeal (m : (ℓ : Loc Cert.AdamwReferenceIdeal.nD Cert.AdamwReferenceIdeal.τ Cert.AdamwReferenceIdeal.sig) → Buf (Elt Ideal) ℓ) : Prop :=
  True

def Pre_DwKernel (m : (ℓ : Loc Cert.DwKernel.nD Cert.DwKernel.τ Cert.DwKernel.sig) → Buf (Elt Bits) ℓ) : Prop :=
  True

def Pre_DwKernelIdeal (m : (ℓ : Loc Cert.DwKernelIdeal.nD Cert.DwKernelIdeal.τ Cert.DwKernelIdeal.sig) → Buf (Elt Ideal) ℓ) : Prop :=
  True

def Pre_DwReferenceIdeal (m : (ℓ : Loc Cert.DwReferenceIdeal.nD Cert.DwReferenceIdeal.τ Cert.DwReferenceIdeal.sig) → Buf (Elt Ideal) ℓ) : Prop :=
  True

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_MlpKernel [hMlpKernel : Cert.MlpKernel.Facts] : Prop :=
  ∀ (m : (ℓ : Loc Cert.MlpKernel.nD Cert.MlpKernel.τ Cert.MlpKernel.sig) → Buf (Elt Bits) ℓ) (g : Dev Cert.MlpKernel.nD → PrngReg), Pre_MlpKernel m →
    θ_run (Cert.MlpKernel.defs (F := Bits)) (onTc (τ := Cert.MlpKernel.τ) (Cert.MlpKernel.main (F := Bits))) ⟨m, fun _ => 0, g⟩ (fun r => (∀ c : Dev Cert.MlpKernel.nD,
      r.2.mem ((c.tc : Thread Cert.MlpKernel.nD Cert.MlpKernel.τ).loc Cert.MlpKernel.main_arg0) = m ((c.tc : Thread Cert.MlpKernel.nD Cert.MlpKernel.τ).loc Cert.MlpKernel.main_arg0)
      ∧ r.2.mem ((c.tc : Thread Cert.MlpKernel.nD Cert.MlpKernel.τ).loc Cert.MlpKernel.main_arg1) = m ((c.tc : Thread Cert.MlpKernel.nD Cert.MlpKernel.τ).loc Cert.MlpKernel.main_arg1)
      ∧ r.2.mem ((c.tc : Thread Cert.MlpKernel.nD Cert.MlpKernel.τ).loc Cert.MlpKernel.main_arg2) = m ((c.tc : Thread Cert.MlpKernel.nD Cert.MlpKernel.τ).loc Cert.MlpKernel.main_arg2)
      ∧ r.2.mem ((c.tc : Thread Cert.MlpKernel.nD Cert.MlpKernel.τ).loc Cert.MlpKernel.main_arg3) = m ((c.tc : Thread Cert.MlpKernel.nD Cert.MlpKernel.τ).loc Cert.MlpKernel.main_arg3)
      ∧ r.2.mem ((c.tc : Thread Cert.MlpKernel.nD Cert.MlpKernel.τ).loc Cert.MlpKernel.main_arg4) = m ((c.tc : Thread Cert.MlpKernel.nD Cert.MlpKernel.τ).loc Cert.MlpKernel.main_arg4)
      ∧ r.2.mem ((c.tc : Thread Cert.MlpKernel.nD Cert.MlpKernel.τ).loc Cert.MlpKernel.main_arg5) = m ((c.tc : Thread Cert.MlpKernel.nD Cert.MlpKernel.τ).loc Cert.MlpKernel.main_arg5)
      ∧ r.2.mem ((c.tc : Thread Cert.MlpKernel.nD Cert.MlpKernel.τ).loc Cert.MlpKernel.main_arg6) = m ((c.tc : Thread Cert.MlpKernel.nD Cert.MlpKernel.τ).loc Cert.MlpKernel.main_arg6)
      ∧ r.2.mem ((c.tc : Thread Cert.MlpKernel.nD Cert.MlpKernel.τ).loc Cert.MlpKernel.main_arg7) = m ((c.tc : Thread Cert.MlpKernel.nD Cert.MlpKernel.τ).loc Cert.MlpKernel.main_arg7))
      ∧ r.2.sem = fun _ => 0)

def quiescent_MlpKernelIdeal [hMlpKernelIdeal : Cert.MlpKernelIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg), Pre_MlpKernelIdeal m →
    θ_run (Cert.MlpKernelIdeal.defs (F := Ideal)) (onTc (τ := Cert.MlpKernelIdeal.τ) (Cert.MlpKernelIdeal.main (F := Ideal))) ⟨m, fun _ => 0, g⟩ (fun r => (∀ c : Dev Cert.MlpKernelIdeal.nD,
      r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
      ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
      ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
      ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
      ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4)
      ∧ r.2.mem ((c.tc : Thread Cert.MlpKernelIdeal.nD Cert.MlpKernelIdeal.τ).loc Cert.MlpKernelIdeal.main_arg5) = m ((c.tc : Thread Cert.MlpKernelIdeal.nD Cert.MlpKernelIdeal.τ).loc Cert.MlpKernelIdeal.main_arg5)
      ∧ r.2.mem ((c.tc : Thread Cert.MlpKernelIdeal.nD Cert.MlpKernelIdeal.τ).loc Cert.MlpKernelIdeal.main_arg6) = m ((c.tc : Thread Cert.MlpKernelIdeal.nD Cert.MlpKernelIdeal.τ).loc Cert.MlpKernelIdeal.main_arg6)
      ∧ r.2.mem ((c.tc : Thread Cert.MlpKernelIdeal.nD Cert.MlpKernelIdeal.τ).loc Cert.MlpKernelIdeal.main_arg7) = m ((c.tc : Thread Cert.MlpKernelIdeal.nD Cert.MlpKernelIdeal.τ).loc Cert.MlpKernelIdeal.main_arg7))
      ∧ r.2.sem = fun _ => 0)

def quiescent_MlpKernelIdeal_pre_mlp_finite [hMlpKernelIdeal : Cert.MlpKernelIdeal.Facts] [hPre_mlp_finite : Cert.Pre_mlp_finite.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg), Pre_MlpKernelIdeal_mlp_finite m →
    θ_run (Cert.MlpKernelIdeal.defs (F := Ideal)) (onTc (τ := Cert.MlpKernelIdeal.τ) (Cert.MlpKernelIdeal.main (F := Ideal))) ⟨m, fun _ => 0, g⟩ (fun r => (∀ c : Dev Cert.MlpKernelIdeal.nD,
      r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
      ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
      ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
      ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
      ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4)
      ∧ r.2.mem ((c.tc : Thread Cert.MlpKernelIdeal.nD Cert.MlpKernelIdeal.τ).loc Cert.MlpKernelIdeal.main_arg5) = m ((c.tc : Thread Cert.MlpKernelIdeal.nD Cert.MlpKernelIdeal.τ).loc Cert.MlpKernelIdeal.main_arg5)
      ∧ r.2.mem ((c.tc : Thread Cert.MlpKernelIdeal.nD Cert.MlpKernelIdeal.τ).loc Cert.MlpKernelIdeal.main_arg6) = m ((c.tc : Thread Cert.MlpKernelIdeal.nD Cert.MlpKernelIdeal.τ).loc Cert.MlpKernelIdeal.main_arg6)
      ∧ r.2.mem ((c.tc : Thread Cert.MlpKernelIdeal.nD Cert.MlpKernelIdeal.τ).loc Cert.MlpKernelIdeal.main_arg7) = m ((c.tc : Thread Cert.MlpKernelIdeal.nD Cert.MlpKernelIdeal.τ).loc Cert.MlpKernelIdeal.main_arg7))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7))
      ∧ r.2.sem = fun _ => 0)

def quiescent_MlpReferenceIdeal_pre_mlp_finite [hMlpReferenceIdeal : Cert.MlpReferenceIdeal.Facts] [hPre_mlp_finite : Cert.Pre_mlp_finite.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal_mlp_finite m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7))
      ∧ r.2.sem = fun _ => 0)

def quiescent_RetKernel [hRetKernel : Cert.RetKernel.Facts] : Prop :=
  ∀ (m : (ℓ : Loc Cert.RetKernel.nD Cert.RetKernel.τ Cert.RetKernel.sig) → Buf (Elt Bits) ℓ) (g : Dev Cert.RetKernel.nD → PrngReg), Pre_RetKernel m →
    θ_run (Cert.RetKernel.defs (F := Bits)) (onTc (τ := Cert.RetKernel.τ) (Cert.RetKernel.main (F := Bits))) ⟨m, fun _ => 0, g⟩ (fun r => (∀ c : Dev Cert.RetKernel.nD,
      r.2.mem ((c.tc : Thread Cert.RetKernel.nD Cert.RetKernel.τ).loc Cert.RetKernel.main_arg0) = m ((c.tc : Thread Cert.RetKernel.nD Cert.RetKernel.τ).loc Cert.RetKernel.main_arg0)
      ∧ r.2.mem ((c.tc : Thread Cert.RetKernel.nD Cert.RetKernel.τ).loc Cert.RetKernel.main_arg1) = m ((c.tc : Thread Cert.RetKernel.nD Cert.RetKernel.τ).loc Cert.RetKernel.main_arg1)
      ∧ r.2.mem ((c.tc : Thread Cert.RetKernel.nD Cert.RetKernel.τ).loc Cert.RetKernel.main_arg2) = m ((c.tc : Thread Cert.RetKernel.nD Cert.RetKernel.τ).loc Cert.RetKernel.main_arg2)
      ∧ r.2.mem ((c.tc : Thread Cert.RetKernel.nD Cert.RetKernel.τ).loc Cert.RetKernel.main_arg3) = m ((c.tc : Thread Cert.RetKernel.nD Cert.RetKernel.τ).loc Cert.RetKernel.main_arg3)
      ∧ r.2.mem ((c.tc : Thread Cert.RetKernel.nD Cert.RetKernel.τ).loc Cert.RetKernel.main_arg4) = m ((c.tc : Thread Cert.RetKernel.nD Cert.RetKernel.τ).loc Cert.RetKernel.main_arg4)
      ∧ r.2.mem ((c.tc : Thread Cert.RetKernel.nD Cert.RetKernel.τ).loc Cert.RetKernel.main_arg5) = m ((c.tc : Thread Cert.RetKernel.nD Cert.RetKernel.τ).loc Cert.RetKernel.main_arg5))
      ∧ r.2.sem = fun _ => 0)

def quiescent_RetKernelIdeal [hRetKernelIdeal : Cert.RetKernelIdeal.Facts] : Prop :=
  ∀ (m : (ℓ : Loc Cert.RetKernelIdeal.nD Cert.RetKernelIdeal.τ Cert.RetKernelIdeal.sig) → Buf (Elt Ideal) ℓ) (g : Dev Cert.RetKernelIdeal.nD → PrngReg), Pre_RetKernelIdeal m →
    θ_run (Cert.RetKernelIdeal.defs (F := Ideal)) (onTc (τ := Cert.RetKernelIdeal.τ) (Cert.RetKernelIdeal.main (F := Ideal))) ⟨m, fun _ => 0, g⟩ (fun r => (∀ c : Dev Cert.RetKernelIdeal.nD,
      r.2.mem ((c.tc : Thread Cert.RetKernelIdeal.nD Cert.RetKernelIdeal.τ).loc Cert.RetKernelIdeal.main_arg0) = m ((c.tc : Thread Cert.RetKernelIdeal.nD Cert.RetKernelIdeal.τ).loc Cert.RetKernelIdeal.main_arg0)
      ∧ r.2.mem ((c.tc : Thread Cert.RetKernelIdeal.nD Cert.RetKernelIdeal.τ).loc Cert.RetKernelIdeal.main_arg1) = m ((c.tc : Thread Cert.RetKernelIdeal.nD Cert.RetKernelIdeal.τ).loc Cert.RetKernelIdeal.main_arg1)
      ∧ r.2.mem ((c.tc : Thread Cert.RetKernelIdeal.nD Cert.RetKernelIdeal.τ).loc Cert.RetKernelIdeal.main_arg2) = m ((c.tc : Thread Cert.RetKernelIdeal.nD Cert.RetKernelIdeal.τ).loc Cert.RetKernelIdeal.main_arg2)
      ∧ r.2.mem ((c.tc : Thread Cert.RetKernelIdeal.nD Cert.RetKernelIdeal.τ).loc Cert.RetKernelIdeal.main_arg3) = m ((c.tc : Thread Cert.RetKernelIdeal.nD Cert.RetKernelIdeal.τ).loc Cert.RetKernelIdeal.main_arg3)
      ∧ r.2.mem ((c.tc : Thread Cert.RetKernelIdeal.nD Cert.RetKernelIdeal.τ).loc Cert.RetKernelIdeal.main_arg4) = m ((c.tc : Thread Cert.RetKernelIdeal.nD Cert.RetKernelIdeal.τ).loc Cert.RetKernelIdeal.main_arg4)
      ∧ r.2.mem ((c.tc : Thread Cert.RetKernelIdeal.nD Cert.RetKernelIdeal.τ).loc Cert.RetKernelIdeal.main_arg5) = m ((c.tc : Thread Cert.RetKernelIdeal.nD Cert.RetKernelIdeal.τ).loc Cert.RetKernelIdeal.main_arg5))
      ∧ r.2.sem = fun _ => 0)

def quiescent_RetKernelIdeal_pre_ret_finite [hRetKernelIdeal : Cert.RetKernelIdeal.Facts] [hPre_ret_finite : Cert.Pre_ret_finite.Facts] : Prop :=
  ∀ (m : (ℓ : Loc Cert.RetKernelIdeal.nD Cert.RetKernelIdeal.τ Cert.RetKernelIdeal.sig) → Buf (Elt Ideal) ℓ) (g : Dev Cert.RetKernelIdeal.nD → PrngReg), Pre_RetKernelIdeal_ret_finite m →
    θ_run (Cert.RetKernelIdeal.defs (F := Ideal)) (onTc (τ := Cert.RetKernelIdeal.τ) (Cert.RetKernelIdeal.main (F := Ideal))) ⟨m, fun _ => 0, g⟩ (fun r => (∀ c : Dev Cert.RetKernelIdeal.nD,
      r.2.mem ((c.tc : Thread Cert.RetKernelIdeal.nD Cert.RetKernelIdeal.τ).loc Cert.RetKernelIdeal.main_arg0) = m ((c.tc : Thread Cert.RetKernelIdeal.nD Cert.RetKernelIdeal.τ).loc Cert.RetKernelIdeal.main_arg0)
      ∧ r.2.mem ((c.tc : Thread Cert.RetKernelIdeal.nD Cert.RetKernelIdeal.τ).loc Cert.RetKernelIdeal.main_arg1) = m ((c.tc : Thread Cert.RetKernelIdeal.nD Cert.RetKernelIdeal.τ).loc Cert.RetKernelIdeal.main_arg1)
      ∧ r.2.mem ((c.tc : Thread Cert.RetKernelIdeal.nD Cert.RetKernelIdeal.τ).loc Cert.RetKernelIdeal.main_arg2) = m ((c.tc : Thread Cert.RetKernelIdeal.nD Cert.RetKernelIdeal.τ).loc Cert.RetKernelIdeal.main_arg2)
      ∧ r.2.mem ((c.tc : Thread Cert.RetKernelIdeal.nD Cert.RetKernelIdeal.τ).loc Cert.RetKernelIdeal.main_arg3) = m ((c.tc : Thread Cert.RetKernelIdeal.nD Cert.RetKernelIdeal.τ).loc Cert.RetKernelIdeal.main_arg3)
      ∧ r.2.mem ((c.tc : Thread Cert.RetKernelIdeal.nD Cert.RetKernelIdeal.τ).loc Cert.RetKernelIdeal.main_arg4) = m ((c.tc : Thread Cert.RetKernelIdeal.nD Cert.RetKernelIdeal.τ).loc Cert.RetKernelIdeal.main_arg4)
      ∧ r.2.mem ((c.tc : Thread Cert.RetKernelIdeal.nD Cert.RetKernelIdeal.τ).loc Cert.RetKernelIdeal.main_arg5) = m ((c.tc : Thread Cert.RetKernelIdeal.nD Cert.RetKernelIdeal.τ).loc Cert.RetKernelIdeal.main_arg5))
      ∧ r.2.sem = fun _ => 0)

def quiescent_RetReferenceIdeal [hRetReferenceIdeal : Cert.RetReferenceIdeal.Facts] : Prop :=
  ∀ (m : (ℓ : Loc Cert.RetReferenceIdeal.nD Cert.RetReferenceIdeal.τ Cert.RetReferenceIdeal.sig) → Buf (Elt Ideal) ℓ) (g : Dev Cert.RetReferenceIdeal.nD → PrngReg), Pre_RetReferenceIdeal m →
    θ_run (Cert.RetReferenceIdeal.defs (F := Ideal)) (onTc (τ := Cert.RetReferenceIdeal.τ) (Cert.RetReferenceIdeal.main (F := Ideal))) ⟨m, fun _ => 0, g⟩ (fun r => (∀ c : Dev Cert.RetReferenceIdeal.nD,
      r.2.mem ((c.tc : Thread Cert.RetReferenceIdeal.nD Cert.RetReferenceIdeal.τ).loc Cert.RetReferenceIdeal.main_arg0) = m ((c.tc : Thread Cert.RetReferenceIdeal.nD Cert.RetReferenceIdeal.τ).loc Cert.RetReferenceIdeal.main_arg0)
      ∧ r.2.mem ((c.tc : Thread Cert.RetReferenceIdeal.nD Cert.RetReferenceIdeal.τ).loc Cert.RetReferenceIdeal.main_arg1) = m ((c.tc : Thread Cert.RetReferenceIdeal.nD Cert.RetReferenceIdeal.τ).loc Cert.RetReferenceIdeal.main_arg1)
      ∧ r.2.mem ((c.tc : Thread Cert.RetReferenceIdeal.nD Cert.RetReferenceIdeal.τ).loc Cert.RetReferenceIdeal.main_arg2) = m ((c.tc : Thread Cert.RetReferenceIdeal.nD Cert.RetReferenceIdeal.τ).loc Cert.RetReferenceIdeal.main_arg2)
      ∧ r.2.mem ((c.tc : Thread Cert.RetReferenceIdeal.nD Cert.RetReferenceIdeal.τ).loc Cert.RetReferenceIdeal.main_arg3) = m ((c.tc : Thread Cert.RetReferenceIdeal.nD Cert.RetReferenceIdeal.τ).loc Cert.RetReferenceIdeal.main_arg3)
      ∧ r.2.mem ((c.tc : Thread Cert.RetReferenceIdeal.nD Cert.RetReferenceIdeal.τ).loc Cert.RetReferenceIdeal.main_arg4) = m ((c.tc : Thread Cert.RetReferenceIdeal.nD Cert.RetReferenceIdeal.τ).loc Cert.RetReferenceIdeal.main_arg4)
      ∧ r.2.mem ((c.tc : Thread Cert.RetReferenceIdeal.nD Cert.RetReferenceIdeal.τ).loc Cert.RetReferenceIdeal.main_arg5) = m ((c.tc : Thread Cert.RetReferenceIdeal.nD Cert.RetReferenceIdeal.τ).loc Cert.RetReferenceIdeal.main_arg5))
      ∧ r.2.sem = fun _ => 0)

def quiescent_RetReferenceIdeal_pre_ret_finite [hRetReferenceIdeal : Cert.RetReferenceIdeal.Facts] [hPre_ret_finite : Cert.Pre_ret_finite.Facts] : Prop :=
  ∀ (m : (ℓ : Loc Cert.RetReferenceIdeal.nD Cert.RetReferenceIdeal.τ Cert.RetReferenceIdeal.sig) → Buf (Elt Ideal) ℓ) (g : Dev Cert.RetReferenceIdeal.nD → PrngReg), Pre_RetReferenceIdeal_ret_finite m →
    θ_run (Cert.RetReferenceIdeal.defs (F := Ideal)) (onTc (τ := Cert.RetReferenceIdeal.τ) (Cert.RetReferenceIdeal.main (F := Ideal))) ⟨m, fun _ => 0, g⟩ (fun r => (∀ c : Dev Cert.RetReferenceIdeal.nD,
      r.2.mem ((c.tc : Thread Cert.RetReferenceIdeal.nD Cert.RetReferenceIdeal.τ).loc Cert.RetReferenceIdeal.main_arg0) = m ((c.tc : Thread Cert.RetReferenceIdeal.nD Cert.RetReferenceIdeal.τ).loc Cert.RetReferenceIdeal.main_arg0)
      ∧ r.2.mem ((c.tc : Thread Cert.RetReferenceIdeal.nD Cert.RetReferenceIdeal.τ).loc Cert.RetReferenceIdeal.main_arg1) = m ((c.tc : Thread Cert.RetReferenceIdeal.nD Cert.RetReferenceIdeal.τ).loc Cert.RetReferenceIdeal.main_arg1)
      ∧ r.2.mem ((c.tc : Thread Cert.RetReferenceIdeal.nD Cert.RetReferenceIdeal.τ).loc Cert.RetReferenceIdeal.main_arg2) = m ((c.tc : Thread Cert.RetReferenceIdeal.nD Cert.RetReferenceIdeal.τ).loc Cert.RetReferenceIdeal.main_arg2)
      ∧ r.2.mem ((c.tc : Thread Cert.RetReferenceIdeal.nD Cert.RetReferenceIdeal.τ).loc Cert.RetReferenceIdeal.main_arg3) = m ((c.tc : Thread Cert.RetReferenceIdeal.nD Cert.RetReferenceIdeal.τ).loc Cert.RetReferenceIdeal.main_arg3)
      ∧ r.2.mem ((c.tc : Thread Cert.RetReferenceIdeal.nD Cert.RetReferenceIdeal.τ).loc Cert.RetReferenceIdeal.main_arg4) = m ((c.tc : Thread Cert.RetReferenceIdeal.nD Cert.RetReferenceIdeal.τ).loc Cert.RetReferenceIdeal.main_arg4)
      ∧ r.2.mem ((c.tc : Thread Cert.RetReferenceIdeal.nD Cert.RetReferenceIdeal.τ).loc Cert.RetReferenceIdeal.main_arg5) = m ((c.tc : Thread Cert.RetReferenceIdeal.nD Cert.RetReferenceIdeal.τ).loc Cert.RetReferenceIdeal.main_arg5))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2)
      ∧ r.2.mem ((c.tc : Thread Cert.ConvKernel.nD Cert.ConvKernel.τ).loc Cert.ConvKernel.main_arg3) = m ((c.tc : Thread Cert.ConvKernel.nD Cert.ConvKernel.τ).loc Cert.ConvKernel.main_arg3)
      ∧ r.2.mem ((c.tc : Thread Cert.ConvKernel.nD Cert.ConvKernel.τ).loc Cert.ConvKernel.main_arg4) = m ((c.tc : Thread Cert.ConvKernel.nD Cert.ConvKernel.τ).loc Cert.ConvKernel.main_arg4)
      ∧ r.2.mem ((c.tc : Thread Cert.ConvKernel.nD Cert.ConvKernel.τ).loc Cert.ConvKernel.main_arg5) = m ((c.tc : Thread Cert.ConvKernel.nD Cert.ConvKernel.τ).loc Cert.ConvKernel.main_arg5)
      ∧ r.2.mem ((c.tc : Thread Cert.ConvKernel.nD Cert.ConvKernel.τ).loc Cert.ConvKernel.main_arg6) = m ((c.tc : Thread Cert.ConvKernel.nD Cert.ConvKernel.τ).loc Cert.ConvKernel.main_arg6))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3)
      ∧ r.2.mem ((c.tc : Thread Cert.ConvKernelIdeal.nD Cert.ConvKernelIdeal.τ).loc Cert.ConvKernelIdeal.main_arg4) = m ((c.tc : Thread Cert.ConvKernelIdeal.nD Cert.ConvKernelIdeal.τ).loc Cert.ConvKernelIdeal.main_arg4)
      ∧ r.2.mem ((c.tc : Thread Cert.ConvKernelIdeal.nD Cert.ConvKernelIdeal.τ).loc Cert.ConvKernelIdeal.main_arg5) = m ((c.tc : Thread Cert.ConvKernelIdeal.nD Cert.ConvKernelIdeal.τ).loc Cert.ConvKernelIdeal.main_arg5)
      ∧ r.2.mem ((c.tc : Thread Cert.ConvKernelIdeal.nD Cert.ConvKernelIdeal.τ).loc Cert.ConvKernelIdeal.main_arg6) = m ((c.tc : Thread Cert.ConvKernelIdeal.nD Cert.ConvKernelIdeal.τ).loc Cert.ConvKernelIdeal.main_arg6))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5)
      ∧ r.2.mem ((c.tc : Thread Cert.ConvReferenceIdeal.nD Cert.ConvReferenceIdeal.τ).loc Cert.ConvReferenceIdeal.main_arg6) = m ((c.tc : Thread Cert.ConvReferenceIdeal.nD Cert.ConvReferenceIdeal.τ).loc Cert.ConvReferenceIdeal.main_arg6))
      ∧ r.2.sem = fun _ => 0)

def quiescent_FmlpKernel [hFmlpKernel : Cert.FmlpKernel.Facts] : Prop :=
  ∀ (m : (ℓ : Loc Cert.FmlpKernel.nD Cert.FmlpKernel.τ Cert.FmlpKernel.sig) → Buf (Elt Bits) ℓ) (g : Dev Cert.FmlpKernel.nD → PrngReg), Pre_FmlpKernel m →
    θ_run (Cert.FmlpKernel.defs (F := Bits)) (onTc (τ := Cert.FmlpKernel.τ) (Cert.FmlpKernel.main (F := Bits))) ⟨m, fun _ => 0, g⟩ (fun r => (∀ c : Dev Cert.FmlpKernel.nD,
      r.2.mem ((c.tc : Thread Cert.FmlpKernel.nD Cert.FmlpKernel.τ).loc Cert.FmlpKernel.main_arg0) = m ((c.tc : Thread Cert.FmlpKernel.nD Cert.FmlpKernel.τ).loc Cert.FmlpKernel.main_arg0)
      ∧ r.2.mem ((c.tc : Thread Cert.FmlpKernel.nD Cert.FmlpKernel.τ).loc Cert.FmlpKernel.main_arg1) = m ((c.tc : Thread Cert.FmlpKernel.nD Cert.FmlpKernel.τ).loc Cert.FmlpKernel.main_arg1)
      ∧ r.2.mem ((c.tc : Thread Cert.FmlpKernel.nD Cert.FmlpKernel.τ).loc Cert.FmlpKernel.main_arg2) = m ((c.tc : Thread Cert.FmlpKernel.nD Cert.FmlpKernel.τ).loc Cert.FmlpKernel.main_arg2)
      ∧ r.2.mem ((c.tc : Thread Cert.FmlpKernel.nD Cert.FmlpKernel.τ).loc Cert.FmlpKernel.main_arg3) = m ((c.tc : Thread Cert.FmlpKernel.nD Cert.FmlpKernel.τ).loc Cert.FmlpKernel.main_arg3)
      ∧ r.2.mem ((c.tc : Thread Cert.FmlpKernel.nD Cert.FmlpKernel.τ).loc Cert.FmlpKernel.main_arg4) = m ((c.tc : Thread Cert.FmlpKernel.nD Cert.FmlpKernel.τ).loc Cert.FmlpKernel.main_arg4)
      ∧ r.2.mem ((c.tc : Thread Cert.FmlpKernel.nD Cert.FmlpKernel.τ).loc Cert.FmlpKernel.main_arg5) = m ((c.tc : Thread Cert.FmlpKernel.nD Cert.FmlpKernel.τ).loc Cert.FmlpKernel.main_arg5)
      ∧ r.2.mem ((c.tc : Thread Cert.FmlpKernel.nD Cert.FmlpKernel.τ).loc Cert.FmlpKernel.main_arg6) = m ((c.tc : Thread Cert.FmlpKernel.nD Cert.FmlpKernel.τ).loc Cert.FmlpKernel.main_arg6))
      ∧ r.2.sem = fun _ => 0)

def quiescent_FmlpKernelIdeal [hFmlpKernelIdeal : Cert.FmlpKernelIdeal.Facts] : Prop :=
  ∀ (m : (ℓ : Loc Cert.FmlpKernelIdeal.nD Cert.FmlpKernelIdeal.τ Cert.FmlpKernelIdeal.sig) → Buf (Elt Ideal) ℓ) (g : Dev Cert.FmlpKernelIdeal.nD → PrngReg), Pre_FmlpKernelIdeal m →
    θ_run (Cert.FmlpKernelIdeal.defs (F := Ideal)) (onTc (τ := Cert.FmlpKernelIdeal.τ) (Cert.FmlpKernelIdeal.main (F := Ideal))) ⟨m, fun _ => 0, g⟩ (fun r => (∀ c : Dev Cert.FmlpKernelIdeal.nD,
      r.2.mem ((c.tc : Thread Cert.FmlpKernelIdeal.nD Cert.FmlpKernelIdeal.τ).loc Cert.FmlpKernelIdeal.main_arg0) = m ((c.tc : Thread Cert.FmlpKernelIdeal.nD Cert.FmlpKernelIdeal.τ).loc Cert.FmlpKernelIdeal.main_arg0)
      ∧ r.2.mem ((c.tc : Thread Cert.FmlpKernelIdeal.nD Cert.FmlpKernelIdeal.τ).loc Cert.FmlpKernelIdeal.main_arg1) = m ((c.tc : Thread Cert.FmlpKernelIdeal.nD Cert.FmlpKernelIdeal.τ).loc Cert.FmlpKernelIdeal.main_arg1)
      ∧ r.2.mem ((c.tc : Thread Cert.FmlpKernelIdeal.nD Cert.FmlpKernelIdeal.τ).loc Cert.FmlpKernelIdeal.main_arg2) = m ((c.tc : Thread Cert.FmlpKernelIdeal.nD Cert.FmlpKernelIdeal.τ).loc Cert.FmlpKernelIdeal.main_arg2)
      ∧ r.2.mem ((c.tc : Thread Cert.FmlpKernelIdeal.nD Cert.FmlpKernelIdeal.τ).loc Cert.FmlpKernelIdeal.main_arg3) = m ((c.tc : Thread Cert.FmlpKernelIdeal.nD Cert.FmlpKernelIdeal.τ).loc Cert.FmlpKernelIdeal.main_arg3)
      ∧ r.2.mem ((c.tc : Thread Cert.FmlpKernelIdeal.nD Cert.FmlpKernelIdeal.τ).loc Cert.FmlpKernelIdeal.main_arg4) = m ((c.tc : Thread Cert.FmlpKernelIdeal.nD Cert.FmlpKernelIdeal.τ).loc Cert.FmlpKernelIdeal.main_arg4)
      ∧ r.2.mem ((c.tc : Thread Cert.FmlpKernelIdeal.nD Cert.FmlpKernelIdeal.τ).loc Cert.FmlpKernelIdeal.main_arg5) = m ((c.tc : Thread Cert.FmlpKernelIdeal.nD Cert.FmlpKernelIdeal.τ).loc Cert.FmlpKernelIdeal.main_arg5)
      ∧ r.2.mem ((c.tc : Thread Cert.FmlpKernelIdeal.nD Cert.FmlpKernelIdeal.τ).loc Cert.FmlpKernelIdeal.main_arg6) = m ((c.tc : Thread Cert.FmlpKernelIdeal.nD Cert.FmlpKernelIdeal.τ).loc Cert.FmlpKernelIdeal.main_arg6))
      ∧ r.2.sem = fun _ => 0)

def quiescent_FmlpReferenceIdeal [hFmlpReferenceIdeal : Cert.FmlpReferenceIdeal.Facts] : Prop :=
  ∀ (m : (ℓ : Loc Cert.FmlpReferenceIdeal.nD Cert.FmlpReferenceIdeal.τ Cert.FmlpReferenceIdeal.sig) → Buf (Elt Ideal) ℓ) (g : Dev Cert.FmlpReferenceIdeal.nD → PrngReg), Pre_FmlpReferenceIdeal m →
    θ_run (Cert.FmlpReferenceIdeal.defs (F := Ideal)) (onTc (τ := Cert.FmlpReferenceIdeal.τ) (Cert.FmlpReferenceIdeal.main (F := Ideal))) ⟨m, fun _ => 0, g⟩ (fun r => (∀ c : Dev Cert.FmlpReferenceIdeal.nD,
      r.2.mem ((c.tc : Thread Cert.FmlpReferenceIdeal.nD Cert.FmlpReferenceIdeal.τ).loc Cert.FmlpReferenceIdeal.main_arg0) = m ((c.tc : Thread Cert.FmlpReferenceIdeal.nD Cert.FmlpReferenceIdeal.τ).loc Cert.FmlpReferenceIdeal.main_arg0)
      ∧ r.2.mem ((c.tc : Thread Cert.FmlpReferenceIdeal.nD Cert.FmlpReferenceIdeal.τ).loc Cert.FmlpReferenceIdeal.main_arg1) = m ((c.tc : Thread Cert.FmlpReferenceIdeal.nD Cert.FmlpReferenceIdeal.τ).loc Cert.FmlpReferenceIdeal.main_arg1)
      ∧ r.2.mem ((c.tc : Thread Cert.FmlpReferenceIdeal.nD Cert.FmlpReferenceIdeal.τ).loc Cert.FmlpReferenceIdeal.main_arg2) = m ((c.tc : Thread Cert.FmlpReferenceIdeal.nD Cert.FmlpReferenceIdeal.τ).loc Cert.FmlpReferenceIdeal.main_arg2)
      ∧ r.2.mem ((c.tc : Thread Cert.FmlpReferenceIdeal.nD Cert.FmlpReferenceIdeal.τ).loc Cert.FmlpReferenceIdeal.main_arg3) = m ((c.tc : Thread Cert.FmlpReferenceIdeal.nD Cert.FmlpReferenceIdeal.τ).loc Cert.FmlpReferenceIdeal.main_arg3)
      ∧ r.2.mem ((c.tc : Thread Cert.FmlpReferenceIdeal.nD Cert.FmlpReferenceIdeal.τ).loc Cert.FmlpReferenceIdeal.main_arg4) = m ((c.tc : Thread Cert.FmlpReferenceIdeal.nD Cert.FmlpReferenceIdeal.τ).loc Cert.FmlpReferenceIdeal.main_arg4)
      ∧ r.2.mem ((c.tc : Thread Cert.FmlpReferenceIdeal.nD Cert.FmlpReferenceIdeal.τ).loc Cert.FmlpReferenceIdeal.main_arg5) = m ((c.tc : Thread Cert.FmlpReferenceIdeal.nD Cert.FmlpReferenceIdeal.τ).loc Cert.FmlpReferenceIdeal.main_arg5)
      ∧ r.2.mem ((c.tc : Thread Cert.FmlpReferenceIdeal.nD Cert.FmlpReferenceIdeal.τ).loc Cert.FmlpReferenceIdeal.main_arg6) = m ((c.tc : Thread Cert.FmlpReferenceIdeal.nD Cert.FmlpReferenceIdeal.τ).loc Cert.FmlpReferenceIdeal.main_arg6))
      ∧ r.2.sem = fun _ => 0)

def quiescent_FretKernel [hFretKernel : Cert.FretKernel.Facts] : Prop :=
  ∀ (m : (ℓ : Loc Cert.FretKernel.nD Cert.FretKernel.τ Cert.FretKernel.sig) → Buf (Elt Bits) ℓ) (g : Dev Cert.FretKernel.nD → PrngReg), Pre_FretKernel m →
    θ_run (Cert.FretKernel.defs (F := Bits)) (onTc (τ := Cert.FretKernel.τ) (Cert.FretKernel.main (F := Bits))) ⟨m, fun _ => 0, g⟩ (fun r => (∀ c : Dev Cert.FretKernel.nD,
      r.2.mem ((c.tc : Thread Cert.FretKernel.nD Cert.FretKernel.τ).loc Cert.FretKernel.main_arg0) = m ((c.tc : Thread Cert.FretKernel.nD Cert.FretKernel.τ).loc Cert.FretKernel.main_arg0)
      ∧ r.2.mem ((c.tc : Thread Cert.FretKernel.nD Cert.FretKernel.τ).loc Cert.FretKernel.main_arg1) = m ((c.tc : Thread Cert.FretKernel.nD Cert.FretKernel.τ).loc Cert.FretKernel.main_arg1)
      ∧ r.2.mem ((c.tc : Thread Cert.FretKernel.nD Cert.FretKernel.τ).loc Cert.FretKernel.main_arg2) = m ((c.tc : Thread Cert.FretKernel.nD Cert.FretKernel.τ).loc Cert.FretKernel.main_arg2)
      ∧ r.2.mem ((c.tc : Thread Cert.FretKernel.nD Cert.FretKernel.τ).loc Cert.FretKernel.main_arg3) = m ((c.tc : Thread Cert.FretKernel.nD Cert.FretKernel.τ).loc Cert.FretKernel.main_arg3)
      ∧ r.2.mem ((c.tc : Thread Cert.FretKernel.nD Cert.FretKernel.τ).loc Cert.FretKernel.main_arg4) = m ((c.tc : Thread Cert.FretKernel.nD Cert.FretKernel.τ).loc Cert.FretKernel.main_arg4)
      ∧ r.2.mem ((c.tc : Thread Cert.FretKernel.nD Cert.FretKernel.τ).loc Cert.FretKernel.main_arg5) = m ((c.tc : Thread Cert.FretKernel.nD Cert.FretKernel.τ).loc Cert.FretKernel.main_arg5))
      ∧ r.2.sem = fun _ => 0)

def quiescent_FretKernelIdeal [hFretKernelIdeal : Cert.FretKernelIdeal.Facts] : Prop :=
  ∀ (m : (ℓ : Loc Cert.FretKernelIdeal.nD Cert.FretKernelIdeal.τ Cert.FretKernelIdeal.sig) → Buf (Elt Ideal) ℓ) (g : Dev Cert.FretKernelIdeal.nD → PrngReg), Pre_FretKernelIdeal m →
    θ_run (Cert.FretKernelIdeal.defs (F := Ideal)) (onTc (τ := Cert.FretKernelIdeal.τ) (Cert.FretKernelIdeal.main (F := Ideal))) ⟨m, fun _ => 0, g⟩ (fun r => (∀ c : Dev Cert.FretKernelIdeal.nD,
      r.2.mem ((c.tc : Thread Cert.FretKernelIdeal.nD Cert.FretKernelIdeal.τ).loc Cert.FretKernelIdeal.main_arg0) = m ((c.tc : Thread Cert.FretKernelIdeal.nD Cert.FretKernelIdeal.τ).loc Cert.FretKernelIdeal.main_arg0)
      ∧ r.2.mem ((c.tc : Thread Cert.FretKernelIdeal.nD Cert.FretKernelIdeal.τ).loc Cert.FretKernelIdeal.main_arg1) = m ((c.tc : Thread Cert.FretKernelIdeal.nD Cert.FretKernelIdeal.τ).loc Cert.FretKernelIdeal.main_arg1)
      ∧ r.2.mem ((c.tc : Thread Cert.FretKernelIdeal.nD Cert.FretKernelIdeal.τ).loc Cert.FretKernelIdeal.main_arg2) = m ((c.tc : Thread Cert.FretKernelIdeal.nD Cert.FretKernelIdeal.τ).loc Cert.FretKernelIdeal.main_arg2)
      ∧ r.2.mem ((c.tc : Thread Cert.FretKernelIdeal.nD Cert.FretKernelIdeal.τ).loc Cert.FretKernelIdeal.main_arg3) = m ((c.tc : Thread Cert.FretKernelIdeal.nD Cert.FretKernelIdeal.τ).loc Cert.FretKernelIdeal.main_arg3)
      ∧ r.2.mem ((c.tc : Thread Cert.FretKernelIdeal.nD Cert.FretKernelIdeal.τ).loc Cert.FretKernelIdeal.main_arg4) = m ((c.tc : Thread Cert.FretKernelIdeal.nD Cert.FretKernelIdeal.τ).loc Cert.FretKernelIdeal.main_arg4)
      ∧ r.2.mem ((c.tc : Thread Cert.FretKernelIdeal.nD Cert.FretKernelIdeal.τ).loc Cert.FretKernelIdeal.main_arg5) = m ((c.tc : Thread Cert.FretKernelIdeal.nD Cert.FretKernelIdeal.τ).loc Cert.FretKernelIdeal.main_arg5))
      ∧ r.2.sem = fun _ => 0)

def quiescent_FretReferenceIdeal [hFretReferenceIdeal : Cert.FretReferenceIdeal.Facts] : Prop :=
  ∀ (m : (ℓ : Loc Cert.FretReferenceIdeal.nD Cert.FretReferenceIdeal.τ Cert.FretReferenceIdeal.sig) → Buf (Elt Ideal) ℓ) (g : Dev Cert.FretReferenceIdeal.nD → PrngReg), Pre_FretReferenceIdeal m →
    θ_run (Cert.FretReferenceIdeal.defs (F := Ideal)) (onTc (τ := Cert.FretReferenceIdeal.τ) (Cert.FretReferenceIdeal.main (F := Ideal))) ⟨m, fun _ => 0, g⟩ (fun r => (∀ c : Dev Cert.FretReferenceIdeal.nD,
      r.2.mem ((c.tc : Thread Cert.FretReferenceIdeal.nD Cert.FretReferenceIdeal.τ).loc Cert.FretReferenceIdeal.main_arg0) = m ((c.tc : Thread Cert.FretReferenceIdeal.nD Cert.FretReferenceIdeal.τ).loc Cert.FretReferenceIdeal.main_arg0)
      ∧ r.2.mem ((c.tc : Thread Cert.FretReferenceIdeal.nD Cert.FretReferenceIdeal.τ).loc Cert.FretReferenceIdeal.main_arg1) = m ((c.tc : Thread Cert.FretReferenceIdeal.nD Cert.FretReferenceIdeal.τ).loc Cert.FretReferenceIdeal.main_arg1)
      ∧ r.2.mem ((c.tc : Thread Cert.FretReferenceIdeal.nD Cert.FretReferenceIdeal.τ).loc Cert.FretReferenceIdeal.main_arg2) = m ((c.tc : Thread Cert.FretReferenceIdeal.nD Cert.FretReferenceIdeal.τ).loc Cert.FretReferenceIdeal.main_arg2)
      ∧ r.2.mem ((c.tc : Thread Cert.FretReferenceIdeal.nD Cert.FretReferenceIdeal.τ).loc Cert.FretReferenceIdeal.main_arg3) = m ((c.tc : Thread Cert.FretReferenceIdeal.nD Cert.FretReferenceIdeal.τ).loc Cert.FretReferenceIdeal.main_arg3)
      ∧ r.2.mem ((c.tc : Thread Cert.FretReferenceIdeal.nD Cert.FretReferenceIdeal.τ).loc Cert.FretReferenceIdeal.main_arg4) = m ((c.tc : Thread Cert.FretReferenceIdeal.nD Cert.FretReferenceIdeal.τ).loc Cert.FretReferenceIdeal.main_arg4)
      ∧ r.2.mem ((c.tc : Thread Cert.FretReferenceIdeal.nD Cert.FretReferenceIdeal.τ).loc Cert.FretReferenceIdeal.main_arg5) = m ((c.tc : Thread Cert.FretReferenceIdeal.nD Cert.FretReferenceIdeal.τ).loc Cert.FretReferenceIdeal.main_arg5))
      ∧ r.2.sem = fun _ => 0)

def quiescent_FinKernel [hFinKernel : Cert.FinKernel.Facts] : Prop :=
  ∀ (m : (ℓ : Loc Cert.FinKernel.nD Cert.FinKernel.τ Cert.FinKernel.sig) → Buf (Elt Bits) ℓ) (g : Dev Cert.FinKernel.nD → PrngReg), Pre_FinKernel m →
    θ_run (Cert.FinKernel.defs (F := Bits)) (onTc (τ := Cert.FinKernel.τ) (Cert.FinKernel.main (F := Bits))) ⟨m, fun _ => 0, g⟩ (fun r => (∀ c : Dev Cert.FinKernel.nD,
      r.2.mem ((c.tc : Thread Cert.FinKernel.nD Cert.FinKernel.τ).loc Cert.FinKernel.main_arg0) = m ((c.tc : Thread Cert.FinKernel.nD Cert.FinKernel.τ).loc Cert.FinKernel.main_arg0)
      ∧ r.2.mem ((c.tc : Thread Cert.FinKernel.nD Cert.FinKernel.τ).loc Cert.FinKernel.main_arg1) = m ((c.tc : Thread Cert.FinKernel.nD Cert.FinKernel.τ).loc Cert.FinKernel.main_arg1)
      ∧ r.2.mem ((c.tc : Thread Cert.FinKernel.nD Cert.FinKernel.τ).loc Cert.FinKernel.main_arg2) = m ((c.tc : Thread Cert.FinKernel.nD Cert.FinKernel.τ).loc Cert.FinKernel.main_arg2)
      ∧ r.2.mem ((c.tc : Thread Cert.FinKernel.nD Cert.FinKernel.τ).loc Cert.FinKernel.main_arg3) = m ((c.tc : Thread Cert.FinKernel.nD Cert.FinKernel.τ).loc Cert.FinKernel.main_arg3)
      ∧ r.2.mem ((c.tc : Thread Cert.FinKernel.nD Cert.FinKernel.τ).loc Cert.FinKernel.main_arg4) = m ((c.tc : Thread Cert.FinKernel.nD Cert.FinKernel.τ).loc Cert.FinKernel.main_arg4)
      ∧ r.2.mem ((c.tc : Thread Cert.FinKernel.nD Cert.FinKernel.τ).loc Cert.FinKernel.main_arg5) = m ((c.tc : Thread Cert.FinKernel.nD Cert.FinKernel.τ).loc Cert.FinKernel.main_arg5)
      ∧ r.2.mem ((c.tc : Thread Cert.FinKernel.nD Cert.FinKernel.τ).loc Cert.FinKernel.main_arg6) = m ((c.tc : Thread Cert.FinKernel.nD Cert.FinKernel.τ).loc Cert.FinKernel.main_arg6))
      ∧ r.2.sem = fun _ => 0)

def quiescent_FinKernelIdeal [hFinKernelIdeal : Cert.FinKernelIdeal.Facts] : Prop :=
  ∀ (m : (ℓ : Loc Cert.FinKernelIdeal.nD Cert.FinKernelIdeal.τ Cert.FinKernelIdeal.sig) → Buf (Elt Ideal) ℓ) (g : Dev Cert.FinKernelIdeal.nD → PrngReg), Pre_FinKernelIdeal m →
    θ_run (Cert.FinKernelIdeal.defs (F := Ideal)) (onTc (τ := Cert.FinKernelIdeal.τ) (Cert.FinKernelIdeal.main (F := Ideal))) ⟨m, fun _ => 0, g⟩ (fun r => (∀ c : Dev Cert.FinKernelIdeal.nD,
      r.2.mem ((c.tc : Thread Cert.FinKernelIdeal.nD Cert.FinKernelIdeal.τ).loc Cert.FinKernelIdeal.main_arg0) = m ((c.tc : Thread Cert.FinKernelIdeal.nD Cert.FinKernelIdeal.τ).loc Cert.FinKernelIdeal.main_arg0)
      ∧ r.2.mem ((c.tc : Thread Cert.FinKernelIdeal.nD Cert.FinKernelIdeal.τ).loc Cert.FinKernelIdeal.main_arg1) = m ((c.tc : Thread Cert.FinKernelIdeal.nD Cert.FinKernelIdeal.τ).loc Cert.FinKernelIdeal.main_arg1)
      ∧ r.2.mem ((c.tc : Thread Cert.FinKernelIdeal.nD Cert.FinKernelIdeal.τ).loc Cert.FinKernelIdeal.main_arg2) = m ((c.tc : Thread Cert.FinKernelIdeal.nD Cert.FinKernelIdeal.τ).loc Cert.FinKernelIdeal.main_arg2)
      ∧ r.2.mem ((c.tc : Thread Cert.FinKernelIdeal.nD Cert.FinKernelIdeal.τ).loc Cert.FinKernelIdeal.main_arg3) = m ((c.tc : Thread Cert.FinKernelIdeal.nD Cert.FinKernelIdeal.τ).loc Cert.FinKernelIdeal.main_arg3)
      ∧ r.2.mem ((c.tc : Thread Cert.FinKernelIdeal.nD Cert.FinKernelIdeal.τ).loc Cert.FinKernelIdeal.main_arg4) = m ((c.tc : Thread Cert.FinKernelIdeal.nD Cert.FinKernelIdeal.τ).loc Cert.FinKernelIdeal.main_arg4)
      ∧ r.2.mem ((c.tc : Thread Cert.FinKernelIdeal.nD Cert.FinKernelIdeal.τ).loc Cert.FinKernelIdeal.main_arg5) = m ((c.tc : Thread Cert.FinKernelIdeal.nD Cert.FinKernelIdeal.τ).loc Cert.FinKernelIdeal.main_arg5)
      ∧ r.2.mem ((c.tc : Thread Cert.FinKernelIdeal.nD Cert.FinKernelIdeal.τ).loc Cert.FinKernelIdeal.main_arg6) = m ((c.tc : Thread Cert.FinKernelIdeal.nD Cert.FinKernelIdeal.τ).loc Cert.FinKernelIdeal.main_arg6))
      ∧ r.2.sem = fun _ => 0)

def quiescent_FinReferenceIdeal [hFinReferenceIdeal : Cert.FinReferenceIdeal.Facts] : Prop :=
  ∀ (m : (ℓ : Loc Cert.FinReferenceIdeal.nD Cert.FinReferenceIdeal.τ Cert.FinReferenceIdeal.sig) → Buf (Elt Ideal) ℓ) (g : Dev Cert.FinReferenceIdeal.nD → PrngReg), Pre_FinReferenceIdeal m →
    θ_run (Cert.FinReferenceIdeal.defs (F := Ideal)) (onTc (τ := Cert.FinReferenceIdeal.τ) (Cert.FinReferenceIdeal.main (F := Ideal))) ⟨m, fun _ => 0, g⟩ (fun r => (∀ c : Dev Cert.FinReferenceIdeal.nD,
      r.2.mem ((c.tc : Thread Cert.FinReferenceIdeal.nD Cert.FinReferenceIdeal.τ).loc Cert.FinReferenceIdeal.main_arg0) = m ((c.tc : Thread Cert.FinReferenceIdeal.nD Cert.FinReferenceIdeal.τ).loc Cert.FinReferenceIdeal.main_arg0)
      ∧ r.2.mem ((c.tc : Thread Cert.FinReferenceIdeal.nD Cert.FinReferenceIdeal.τ).loc Cert.FinReferenceIdeal.main_arg1) = m ((c.tc : Thread Cert.FinReferenceIdeal.nD Cert.FinReferenceIdeal.τ).loc Cert.FinReferenceIdeal.main_arg1)
      ∧ r.2.mem ((c.tc : Thread Cert.FinReferenceIdeal.nD Cert.FinReferenceIdeal.τ).loc Cert.FinReferenceIdeal.main_arg2) = m ((c.tc : Thread Cert.FinReferenceIdeal.nD Cert.FinReferenceIdeal.τ).loc Cert.FinReferenceIdeal.main_arg2)
      ∧ r.2.mem ((c.tc : Thread Cert.FinReferenceIdeal.nD Cert.FinReferenceIdeal.τ).loc Cert.FinReferenceIdeal.main_arg3) = m ((c.tc : Thread Cert.FinReferenceIdeal.nD Cert.FinReferenceIdeal.τ).loc Cert.FinReferenceIdeal.main_arg3)
      ∧ r.2.mem ((c.tc : Thread Cert.FinReferenceIdeal.nD Cert.FinReferenceIdeal.τ).loc Cert.FinReferenceIdeal.main_arg4) = m ((c.tc : Thread Cert.FinReferenceIdeal.nD Cert.FinReferenceIdeal.τ).loc Cert.FinReferenceIdeal.main_arg4)
      ∧ r.2.mem ((c.tc : Thread Cert.FinReferenceIdeal.nD Cert.FinReferenceIdeal.τ).loc Cert.FinReferenceIdeal.main_arg5) = m ((c.tc : Thread Cert.FinReferenceIdeal.nD Cert.FinReferenceIdeal.τ).loc Cert.FinReferenceIdeal.main_arg5)
      ∧ r.2.mem ((c.tc : Thread Cert.FinReferenceIdeal.nD Cert.FinReferenceIdeal.τ).loc Cert.FinReferenceIdeal.main_arg6) = m ((c.tc : Thread Cert.FinReferenceIdeal.nD Cert.FinReferenceIdeal.τ).loc Cert.FinReferenceIdeal.main_arg6))
      ∧ r.2.sem = fun _ => 0)

def quiescent_AdamwKernel [hAdamwKernel : Cert.AdamwKernel.Facts] : Prop :=
  ∀ (m : (ℓ : Loc Cert.AdamwKernel.nD Cert.AdamwKernel.τ Cert.AdamwKernel.sig) → Buf (Elt Bits) ℓ) (g : Dev Cert.AdamwKernel.nD → PrngReg), Pre_AdamwKernel m →
    θ_run (Cert.AdamwKernel.defs (F := Bits)) (onTc (τ := Cert.AdamwKernel.τ) (Cert.AdamwKernel.main (F := Bits))) ⟨m, fun _ => 0, g⟩ (fun r => (∀ c : Dev Cert.AdamwKernel.nD,
      r.2.mem ((c.tc : Thread Cert.AdamwKernel.nD Cert.AdamwKernel.τ).loc Cert.AdamwKernel.main_arg0) = m ((c.tc : Thread Cert.AdamwKernel.nD Cert.AdamwKernel.τ).loc Cert.AdamwKernel.main_arg0)
      ∧ r.2.mem ((c.tc : Thread Cert.AdamwKernel.nD Cert.AdamwKernel.τ).loc Cert.AdamwKernel.main_arg1) = m ((c.tc : Thread Cert.AdamwKernel.nD Cert.AdamwKernel.τ).loc Cert.AdamwKernel.main_arg1)
      ∧ r.2.mem ((c.tc : Thread Cert.AdamwKernel.nD Cert.AdamwKernel.τ).loc Cert.AdamwKernel.main_arg2) = m ((c.tc : Thread Cert.AdamwKernel.nD Cert.AdamwKernel.τ).loc Cert.AdamwKernel.main_arg2)
      ∧ r.2.mem ((c.tc : Thread Cert.AdamwKernel.nD Cert.AdamwKernel.τ).loc Cert.AdamwKernel.main_arg3) = m ((c.tc : Thread Cert.AdamwKernel.nD Cert.AdamwKernel.τ).loc Cert.AdamwKernel.main_arg3))
      ∧ r.2.sem = fun _ => 0)

def quiescent_AdamwKernelIdeal [hAdamwKernelIdeal : Cert.AdamwKernelIdeal.Facts] : Prop :=
  ∀ (m : (ℓ : Loc Cert.AdamwKernelIdeal.nD Cert.AdamwKernelIdeal.τ Cert.AdamwKernelIdeal.sig) → Buf (Elt Ideal) ℓ) (g : Dev Cert.AdamwKernelIdeal.nD → PrngReg), Pre_AdamwKernelIdeal m →
    θ_run (Cert.AdamwKernelIdeal.defs (F := Ideal)) (onTc (τ := Cert.AdamwKernelIdeal.τ) (Cert.AdamwKernelIdeal.main (F := Ideal))) ⟨m, fun _ => 0, g⟩ (fun r => (∀ c : Dev Cert.AdamwKernelIdeal.nD,
      r.2.mem ((c.tc : Thread Cert.AdamwKernelIdeal.nD Cert.AdamwKernelIdeal.τ).loc Cert.AdamwKernelIdeal.main_arg0) = m ((c.tc : Thread Cert.AdamwKernelIdeal.nD Cert.AdamwKernelIdeal.τ).loc Cert.AdamwKernelIdeal.main_arg0)
      ∧ r.2.mem ((c.tc : Thread Cert.AdamwKernelIdeal.nD Cert.AdamwKernelIdeal.τ).loc Cert.AdamwKernelIdeal.main_arg1) = m ((c.tc : Thread Cert.AdamwKernelIdeal.nD Cert.AdamwKernelIdeal.τ).loc Cert.AdamwKernelIdeal.main_arg1)
      ∧ r.2.mem ((c.tc : Thread Cert.AdamwKernelIdeal.nD Cert.AdamwKernelIdeal.τ).loc Cert.AdamwKernelIdeal.main_arg2) = m ((c.tc : Thread Cert.AdamwKernelIdeal.nD Cert.AdamwKernelIdeal.τ).loc Cert.AdamwKernelIdeal.main_arg2)
      ∧ r.2.mem ((c.tc : Thread Cert.AdamwKernelIdeal.nD Cert.AdamwKernelIdeal.τ).loc Cert.AdamwKernelIdeal.main_arg3) = m ((c.tc : Thread Cert.AdamwKernelIdeal.nD Cert.AdamwKernelIdeal.τ).loc Cert.AdamwKernelIdeal.main_arg3))
      ∧ r.2.sem = fun _ => 0)

def quiescent_AdamwReferenceIdeal [hAdamwReferenceIdeal : Cert.AdamwReferenceIdeal.Facts] : Prop :=
  ∀ (m : (ℓ : Loc Cert.AdamwReferenceIdeal.nD Cert.AdamwReferenceIdeal.τ Cert.AdamwReferenceIdeal.sig) → Buf (Elt Ideal) ℓ) (g : Dev Cert.AdamwReferenceIdeal.nD → PrngReg), Pre_AdamwReferenceIdeal m →
    θ_run (Cert.AdamwReferenceIdeal.defs (F := Ideal)) (onTc (τ := Cert.AdamwReferenceIdeal.τ) (Cert.AdamwReferenceIdeal.main (F := Ideal))) ⟨m, fun _ => 0, g⟩ (fun r => (∀ c : Dev Cert.AdamwReferenceIdeal.nD,
      r.2.mem ((c.tc : Thread Cert.AdamwReferenceIdeal.nD Cert.AdamwReferenceIdeal.τ).loc Cert.AdamwReferenceIdeal.main_arg0) = m ((c.tc : Thread Cert.AdamwReferenceIdeal.nD Cert.AdamwReferenceIdeal.τ).loc Cert.AdamwReferenceIdeal.main_arg0)
      ∧ r.2.mem ((c.tc : Thread Cert.AdamwReferenceIdeal.nD Cert.AdamwReferenceIdeal.τ).loc Cert.AdamwReferenceIdeal.main_arg1) = m ((c.tc : Thread Cert.AdamwReferenceIdeal.nD Cert.AdamwReferenceIdeal.τ).loc Cert.AdamwReferenceIdeal.main_arg1)
      ∧ r.2.mem ((c.tc : Thread Cert.AdamwReferenceIdeal.nD Cert.AdamwReferenceIdeal.τ).loc Cert.AdamwReferenceIdeal.main_arg2) = m ((c.tc : Thread Cert.AdamwReferenceIdeal.nD Cert.AdamwReferenceIdeal.τ).loc Cert.AdamwReferenceIdeal.main_arg2)
      ∧ r.2.mem ((c.tc : Thread Cert.AdamwReferenceIdeal.nD Cert.AdamwReferenceIdeal.τ).loc Cert.AdamwReferenceIdeal.main_arg3) = m ((c.tc : Thread Cert.AdamwReferenceIdeal.nD Cert.AdamwReferenceIdeal.τ).loc Cert.AdamwReferenceIdeal.main_arg3))
      ∧ r.2.sem = fun _ => 0)

def quiescent_DwKernel [hDwKernel : Cert.DwKernel.Facts] : Prop :=
  ∀ (m : (ℓ : Loc Cert.DwKernel.nD Cert.DwKernel.τ Cert.DwKernel.sig) → Buf (Elt Bits) ℓ) (g : Dev Cert.DwKernel.nD → PrngReg), Pre_DwKernel m →
    θ_run (Cert.DwKernel.defs (F := Bits)) (onTc (τ := Cert.DwKernel.τ) (Cert.DwKernel.main (F := Bits))) ⟨m, fun _ => 0, g⟩ (fun r => (∀ c : Dev Cert.DwKernel.nD,
      r.2.mem ((c.tc : Thread Cert.DwKernel.nD Cert.DwKernel.τ).loc Cert.DwKernel.main_arg0) = m ((c.tc : Thread Cert.DwKernel.nD Cert.DwKernel.τ).loc Cert.DwKernel.main_arg0)
      ∧ r.2.mem ((c.tc : Thread Cert.DwKernel.nD Cert.DwKernel.τ).loc Cert.DwKernel.main_arg1) = m ((c.tc : Thread Cert.DwKernel.nD Cert.DwKernel.τ).loc Cert.DwKernel.main_arg1))
      ∧ r.2.sem = fun _ => 0)

def quiescent_DwKernelIdeal [hDwKernelIdeal : Cert.DwKernelIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg), Pre_DwKernelIdeal m →
    θ_run (Cert.DwKernelIdeal.defs (F := Ideal)) (onTc (τ := Cert.DwKernelIdeal.τ) (Cert.DwKernelIdeal.main (F := Ideal))) ⟨m, fun _ => 0, g⟩ (fun r => (∀ c : Dev Cert.DwKernelIdeal.nD,
      r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
      ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1))
      ∧ r.2.sem = fun _ => 0)

def quiescent_DwReferenceIdeal [hDwReferenceIdeal : Cert.DwReferenceIdeal.Facts] : Prop :=
  ∀ (m : (ℓ : Loc Cert.DwReferenceIdeal.nD Cert.DwReferenceIdeal.τ Cert.DwReferenceIdeal.sig) → Buf (Elt Ideal) ℓ) (g : Dev Cert.DwReferenceIdeal.nD → PrngReg), Pre_DwReferenceIdeal m →
    θ_run (Cert.DwReferenceIdeal.defs (F := Ideal)) (onTc (τ := Cert.DwReferenceIdeal.τ) (Cert.DwReferenceIdeal.main (F := Ideal))) ⟨m, fun _ => 0, g⟩ (fun r => (∀ c : Dev Cert.DwReferenceIdeal.nD,
      r.2.mem ((c.tc : Thread Cert.DwReferenceIdeal.nD Cert.DwReferenceIdeal.τ).loc Cert.DwReferenceIdeal.main_arg0) = m ((c.tc : Thread Cert.DwReferenceIdeal.nD Cert.DwReferenceIdeal.τ).loc Cert.DwReferenceIdeal.main_arg0)
      ∧ r.2.mem ((c.tc : Thread Cert.DwReferenceIdeal.nD Cert.DwReferenceIdeal.τ).loc Cert.DwReferenceIdeal.main_arg1) = m ((c.tc : Thread Cert.DwReferenceIdeal.nD Cert.DwReferenceIdeal.τ).loc Cert.DwReferenceIdeal.main_arg1))
      ∧ r.2.sem = fun _ => 0)

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v3_0)) (v1 : (c : Dev Cert.LossKernelIdeal.nD) → Buf (Elt Ideal) ((c.tc : Thread Cert.LossKernelIdeal.nD Cert.LossKernelIdeal.τ).loc Cert.LossKernelIdeal.main_v3_1)) (v2 : (c : Dev Cert.LossKernelIdeal.nD) → Buf (Elt Ideal) ((c.tc : Thread Cert.LossKernelIdeal.nD Cert.LossKernelIdeal.τ).loc Cert.LossKernelIdeal.main_v3_2)) (v3 : (c : Dev Cert.LossKernelIdeal.nD) → Buf (Elt Ideal) ((c.tc : Thread Cert.LossKernelIdeal.nD Cert.LossKernelIdeal.τ).loc Cert.LossKernelIdeal.main_v3_3)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v3_0) = v0 c
          ∧ r.2.mem ((c.tc : Thread Cert.LossKernelIdeal.nD Cert.LossKernelIdeal.τ).loc Cert.LossKernelIdeal.main_v3_1) = v1 c
          ∧ r.2.mem ((c.tc : Thread Cert.LossKernelIdeal.nD Cert.LossKernelIdeal.τ).loc Cert.LossKernelIdeal.main_v3_2) = v2 c
          ∧ r.2.mem ((c.tc : Thread Cert.LossKernelIdeal.nD Cert.LossKernelIdeal.τ).loc Cert.LossKernelIdeal.main_v3_3) = v3 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v52) = v0 c
          ∧ r.2.mem ((c.tc : Thread Cert.LossReferenceIdeal.nD Cert.LossReferenceIdeal.τ).loc Cert.LossReferenceIdeal.main_v53) = v1 c
          ∧ r.2.mem ((c.tc : Thread Cert.LossReferenceIdeal.nD Cert.LossReferenceIdeal.τ).loc Cert.LossReferenceIdeal.main_v54) = v2 c
          ∧ r.2.mem ((c.tc : Thread Cert.LossReferenceIdeal.nD Cert.LossReferenceIdeal.τ).loc Cert.LossReferenceIdeal.main_v55) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)) →
    ∃ (v0 : (c : Dev Cert.InKernelIdeal.nD) → Buf (Elt Ideal) ((c.tc : Thread Cert.InKernelIdeal.nD Cert.InKernelIdeal.τ).loc Cert.InKernelIdeal.main_v6_0)) (v1 : (c : Dev Cert.InKernelIdeal.nD) → Buf (Elt Ideal) ((c.tc : Thread Cert.InKernelIdeal.nD Cert.InKernelIdeal.τ).loc Cert.InKernelIdeal.main_v6_1)) (v2 : (c : Dev Cert.InKernelIdeal.nD) → Buf (Elt Ideal) ((c.tc : Thread Cert.InKernelIdeal.nD Cert.InKernelIdeal.τ).loc Cert.InKernelIdeal.main_v6_2)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v6_0) = v0 c
          ∧ r.2.mem ((c.tc : Thread Cert.InKernelIdeal.nD Cert.InKernelIdeal.τ).loc Cert.InKernelIdeal.main_v6_1) = v1 c
          ∧ r.2.mem ((c.tc : Thread Cert.InKernelIdeal.nD Cert.InKernelIdeal.τ).loc Cert.InKernelIdeal.main_v6_2) = v2 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v42) = v0 c
          ∧ r.2.mem ((c.tc : Thread Cert.InReferenceIdeal.nD Cert.InReferenceIdeal.τ).loc Cert.InReferenceIdeal.main_v43) = v1 c
          ∧ r.2.mem ((c.tc : Thread Cert.InReferenceIdeal.nD Cert.InReferenceIdeal.τ).loc Cert.InReferenceIdeal.main_v44) = v2 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4))

def preserves_MlpKernel_MlpKernelIdeal : Prop :=
  True

def algebraic_MlpKernelIdeal_MlpReferenceIdeal_pre_mlp_finite [hMlpKernelIdeal : Cert.MlpKernelIdeal.Facts] [hMlpReferenceIdeal : Cert.MlpReferenceIdeal.Facts] [hPre_mlp_finite : Cert.Pre_mlp_finite.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpKernelIdeal_mlp_finite m →
    (∀ c : Dev Cert.MlpKernelIdeal.nD,
      m' ((c.tc : Thread Cert.MlpReferenceIdeal.nD Cert.MlpReferenceIdeal.τ).loc Cert.MlpReferenceIdeal.main_arg0) = m ((c.tc : Thread Cert.MlpKernelIdeal.nD Cert.MlpKernelIdeal.τ).loc Cert.MlpKernelIdeal.main_arg0)
      ∧ m' ((c.tc : Thread Cert.MlpReferenceIdeal.nD Cert.MlpReferenceIdeal.τ).loc Cert.MlpReferenceIdeal.main_arg1) = m ((c.tc : Thread Cert.MlpKernelIdeal.nD Cert.MlpKernelIdeal.τ).loc Cert.MlpKernelIdeal.main_arg1)
      ∧ m' ((c.tc : Thread Cert.MlpReferenceIdeal.nD Cert.MlpReferenceIdeal.τ).loc Cert.MlpReferenceIdeal.main_arg2) = m ((c.tc : Thread Cert.MlpKernelIdeal.nD Cert.MlpKernelIdeal.τ).loc Cert.MlpKernelIdeal.main_arg2)
      ∧ m' ((c.tc : Thread Cert.MlpReferenceIdeal.nD Cert.MlpReferenceIdeal.τ).loc Cert.MlpReferenceIdeal.main_arg3) = m ((c.tc : Thread Cert.MlpKernelIdeal.nD Cert.MlpKernelIdeal.τ).loc Cert.MlpKernelIdeal.main_arg3)
      ∧ m' ((c.tc : Thread Cert.MlpReferenceIdeal.nD Cert.MlpReferenceIdeal.τ).loc Cert.MlpReferenceIdeal.main_arg4) = m ((c.tc : Thread Cert.MlpKernelIdeal.nD Cert.MlpKernelIdeal.τ).loc Cert.MlpKernelIdeal.main_arg4)
      ∧ m' ((c.tc : Thread Cert.MlpReferenceIdeal.nD Cert.MlpReferenceIdeal.τ).loc Cert.MlpReferenceIdeal.main_arg5) = m ((c.tc : Thread Cert.MlpKernelIdeal.nD Cert.MlpKernelIdeal.τ).loc Cert.MlpKernelIdeal.main_arg5)
      ∧ m' ((c.tc : Thread Cert.MlpReferenceIdeal.nD Cert.MlpReferenceIdeal.τ).loc Cert.MlpReferenceIdeal.main_arg6) = m ((c.tc : Thread Cert.MlpKernelIdeal.nD Cert.MlpKernelIdeal.τ).loc Cert.MlpKernelIdeal.main_arg6)
      ∧ m' ((c.tc : Thread Cert.MlpReferenceIdeal.nD Cert.MlpReferenceIdeal.τ).loc Cert.MlpReferenceIdeal.main_arg7) = m ((c.tc : Thread Cert.MlpKernelIdeal.nD Cert.MlpKernelIdeal.τ).loc Cert.MlpKernelIdeal.main_arg7)) →
    ∃ (v0 : (c : Dev Cert.MlpKernelIdeal.nD) → Buf (Elt Ideal) ((c.tc : Thread Cert.MlpKernelIdeal.nD Cert.MlpKernelIdeal.τ).loc Cert.MlpKernelIdeal.main_v31_0)) (v1 : (c : Dev Cert.MlpKernelIdeal.nD) → Buf (Elt Ideal) ((c.tc : Thread Cert.MlpKernelIdeal.nD Cert.MlpKernelIdeal.τ).loc Cert.MlpKernelIdeal.main_v31_1)) (v2 : (c : Dev Cert.MlpKernelIdeal.nD) → Buf (Elt Ideal) ((c.tc : Thread Cert.MlpKernelIdeal.nD Cert.MlpKernelIdeal.τ).loc Cert.MlpKernelIdeal.main_v31_2)) (v3 : (c : Dev Cert.MlpKernelIdeal.nD) → Buf (Elt Ideal) ((c.tc : Thread Cert.MlpKernelIdeal.nD Cert.MlpKernelIdeal.τ).loc Cert.MlpKernelIdeal.main_v31_3)) (v4 : (c : Dev Cert.MlpKernelIdeal.nD) → Buf (Elt Ideal) ((c.tc : Thread Cert.MlpKernelIdeal.nD Cert.MlpKernelIdeal.τ).loc Cert.MlpKernelIdeal.main_v31_4)) (v5 : (c : Dev Cert.MlpKernelIdeal.nD) → Buf (Elt Ideal) ((c.tc : Thread Cert.MlpKernelIdeal.nD Cert.MlpKernelIdeal.τ).loc Cert.MlpKernelIdeal.main_v31_5)),
      θ_run (Cert.MlpKernelIdeal.defs (F := Ideal)) (onTc (τ := Cert.MlpKernelIdeal.τ) (Cert.MlpKernelIdeal.main (F := Ideal))) ⟨m, fun _ => 0, g⟩ (fun r => ∀ c : Dev Cert.MlpKernelIdeal.nD,
          r.2.mem ((c.tc : Thread Cert.MlpKernelIdeal.nD Cert.MlpKernelIdeal.τ).loc Cert.MlpKernelIdeal.main_v31_0) = v0 c
          ∧ r.2.mem ((c.tc : Thread Cert.MlpKernelIdeal.nD Cert.MlpKernelIdeal.τ).loc Cert.MlpKernelIdeal.main_v31_1) = v1 c
          ∧ r.2.mem ((c.tc : Thread Cert.MlpKernelIdeal.nD Cert.MlpKernelIdeal.τ).loc Cert.MlpKernelIdeal.main_v31_2) = v2 c
          ∧ r.2.mem ((c.tc : Thread Cert.MlpKernelIdeal.nD Cert.MlpKernelIdeal.τ).loc Cert.MlpKernelIdeal.main_v31_3) = v3 c
          ∧ r.2.mem ((c.tc : Thread Cert.MlpKernelIdeal.nD Cert.MlpKernelIdeal.τ).loc Cert.MlpKernelIdeal.main_v31_4) = v4 c
          ∧ r.2.mem ((c.tc : Thread Cert.MlpKernelIdeal.nD Cert.MlpKernelIdeal.τ).loc Cert.MlpKernelIdeal.main_v31_5) = v5 c
          ∧ r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
          ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
          ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
          ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
          ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4)
          ∧ r.2.mem ((c.tc : Thread Cert.MlpKernelIdeal.nD Cert.MlpKernelIdeal.τ).loc Cert.MlpKernelIdeal.main_arg5) = m ((c.tc : Thread Cert.MlpKernelIdeal.nD Cert.MlpKernelIdeal.τ).loc Cert.MlpKernelIdeal.main_arg5)
          ∧ r.2.mem ((c.tc : Thread Cert.MlpKernelIdeal.nD Cert.MlpKernelIdeal.τ).loc Cert.MlpKernelIdeal.main_arg6) = m ((c.tc : Thread Cert.MlpKernelIdeal.nD Cert.MlpKernelIdeal.τ).loc Cert.MlpKernelIdeal.main_arg6)
          ∧ r.2.mem ((c.tc : Thread Cert.MlpKernelIdeal.nD Cert.MlpKernelIdeal.τ).loc Cert.MlpKernelIdeal.main_arg7) = m ((c.tc : Thread Cert.MlpKernelIdeal.nD Cert.MlpKernelIdeal.τ).loc Cert.MlpKernelIdeal.main_arg7))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v58) = v0 c
          ∧ r.2.mem ((c.tc : Thread Cert.MlpReferenceIdeal.nD Cert.MlpReferenceIdeal.τ).loc Cert.MlpReferenceIdeal.main_v59) = v1 c
          ∧ r.2.mem ((c.tc : Thread Cert.MlpReferenceIdeal.nD Cert.MlpReferenceIdeal.τ).loc Cert.MlpReferenceIdeal.main_v56) = v2 c
          ∧ r.2.mem ((c.tc : Thread Cert.MlpReferenceIdeal.nD Cert.MlpReferenceIdeal.τ).loc Cert.MlpReferenceIdeal.main_v60) = v3 c
          ∧ r.2.mem ((c.tc : Thread Cert.MlpReferenceIdeal.nD Cert.MlpReferenceIdeal.τ).loc Cert.MlpReferenceIdeal.main_v57) = v4 c
          ∧ r.2.mem ((c.tc : Thread Cert.MlpReferenceIdeal.nD Cert.MlpReferenceIdeal.τ).loc Cert.MlpReferenceIdeal.main_v61) = v5 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6)
          ∧ r.2.mem ((c.tc : Thread Cert.MlpReferenceIdeal.nD Cert.MlpReferenceIdeal.τ).loc Cert.MlpReferenceIdeal.main_arg7) = m' ((c.tc : Thread Cert.MlpReferenceIdeal.nD Cert.MlpReferenceIdeal.τ).loc Cert.MlpReferenceIdeal.main_arg7))

def preserves_RetKernel_RetKernelIdeal : Prop :=
  True

def algebraic_RetKernelIdeal_RetReferenceIdeal_pre_ret_finite [hRetKernelIdeal : Cert.RetKernelIdeal.Facts] [hRetReferenceIdeal : Cert.RetReferenceIdeal.Facts] [hPre_ret_finite : Cert.Pre_ret_finite.Facts] : Prop :=
  ∀ (m : (ℓ : Loc Cert.RetKernelIdeal.nD Cert.RetKernelIdeal.τ Cert.RetKernelIdeal.sig) → Buf (Elt Ideal) ℓ) (g : Dev Cert.RetKernelIdeal.nD → PrngReg)
    (m' : (ℓ : Loc Cert.RetReferenceIdeal.nD Cert.RetReferenceIdeal.τ Cert.RetReferenceIdeal.sig) → Buf (Elt Ideal) ℓ) (g' : Dev Cert.RetReferenceIdeal.nD → PrngReg), Pre_RetKernelIdeal_ret_finite m →
    (∀ c : Dev Cert.RetKernelIdeal.nD,
      m' ((c.tc : Thread Cert.RetReferenceIdeal.nD Cert.RetReferenceIdeal.τ).loc Cert.RetReferenceIdeal.main_arg0) = m ((c.tc : Thread Cert.RetKernelIdeal.nD Cert.RetKernelIdeal.τ).loc Cert.RetKernelIdeal.main_arg0)
      ∧ m' ((c.tc : Thread Cert.RetReferenceIdeal.nD Cert.RetReferenceIdeal.τ).loc Cert.RetReferenceIdeal.main_arg1) = m ((c.tc : Thread Cert.RetKernelIdeal.nD Cert.RetKernelIdeal.τ).loc Cert.RetKernelIdeal.main_arg1)
      ∧ m' ((c.tc : Thread Cert.RetReferenceIdeal.nD Cert.RetReferenceIdeal.τ).loc Cert.RetReferenceIdeal.main_arg2) = m ((c.tc : Thread Cert.RetKernelIdeal.nD Cert.RetKernelIdeal.τ).loc Cert.RetKernelIdeal.main_arg2)
      ∧ m' ((c.tc : Thread Cert.RetReferenceIdeal.nD Cert.RetReferenceIdeal.τ).loc Cert.RetReferenceIdeal.main_arg3) = m ((c.tc : Thread Cert.RetKernelIdeal.nD Cert.RetKernelIdeal.τ).loc Cert.RetKernelIdeal.main_arg3)
      ∧ m' ((c.tc : Thread Cert.RetReferenceIdeal.nD Cert.RetReferenceIdeal.τ).loc Cert.RetReferenceIdeal.main_arg4) = m ((c.tc : Thread Cert.RetKernelIdeal.nD Cert.RetKernelIdeal.τ).loc Cert.RetKernelIdeal.main_arg4)
      ∧ m' ((c.tc : Thread Cert.RetReferenceIdeal.nD Cert.RetReferenceIdeal.τ).loc Cert.RetReferenceIdeal.main_arg5) = m ((c.tc : Thread Cert.RetKernelIdeal.nD Cert.RetKernelIdeal.τ).loc Cert.RetKernelIdeal.main_arg5)) →
    ∃ (v0 : (c : Dev Cert.RetKernelIdeal.nD) → Buf (Elt Ideal) ((c.tc : Thread Cert.RetKernelIdeal.nD Cert.RetKernelIdeal.τ).loc Cert.RetKernelIdeal.main_v237)) (v1 : (c : Dev Cert.RetKernelIdeal.nD) → Buf (Elt Ideal) ((c.tc : Thread Cert.RetKernelIdeal.nD Cert.RetKernelIdeal.τ).loc Cert.RetKernelIdeal.main_v238)) (v2 : (c : Dev Cert.RetKernelIdeal.nD) → Buf (Elt Ideal) ((c.tc : Thread Cert.RetKernelIdeal.nD Cert.RetKernelIdeal.τ).loc Cert.RetKernelIdeal.main_v236_1)),
      θ_run (Cert.RetKernelIdeal.defs (F := Ideal)) (onTc (τ := Cert.RetKernelIdeal.τ) (Cert.RetKernelIdeal.main (F := Ideal))) ⟨m, fun _ => 0, g⟩ (fun r => ∀ c : Dev Cert.RetKernelIdeal.nD,
          r.2.mem ((c.tc : Thread Cert.RetKernelIdeal.nD Cert.RetKernelIdeal.τ).loc Cert.RetKernelIdeal.main_v237) = v0 c
          ∧ r.2.mem ((c.tc : Thread Cert.RetKernelIdeal.nD Cert.RetKernelIdeal.τ).loc Cert.RetKernelIdeal.main_v238) = v1 c
          ∧ r.2.mem ((c.tc : Thread Cert.RetKernelIdeal.nD Cert.RetKernelIdeal.τ).loc Cert.RetKernelIdeal.main_v236_1) = v2 c
          ∧ r.2.mem ((c.tc : Thread Cert.RetKernelIdeal.nD Cert.RetKernelIdeal.τ).loc Cert.RetKernelIdeal.main_arg0) = m ((c.tc : Thread Cert.RetKernelIdeal.nD Cert.RetKernelIdeal.τ).loc Cert.RetKernelIdeal.main_arg0)
          ∧ r.2.mem ((c.tc : Thread Cert.RetKernelIdeal.nD Cert.RetKernelIdeal.τ).loc Cert.RetKernelIdeal.main_arg1) = m ((c.tc : Thread Cert.RetKernelIdeal.nD Cert.RetKernelIdeal.τ).loc Cert.RetKernelIdeal.main_arg1)
          ∧ r.2.mem ((c.tc : Thread Cert.RetKernelIdeal.nD Cert.RetKernelIdeal.τ).loc Cert.RetKernelIdeal.main_arg2) = m ((c.tc : Thread Cert.RetKernelIdeal.nD Cert.RetKernelIdeal.τ).loc Cert.RetKernelIdeal.main_arg2)
          ∧ r.2.mem ((c.tc : Thread Cert.RetKernelIdeal.nD Cert.RetKernelIdeal.τ).loc Cert.RetKernelIdeal.main_arg3) = m ((c.tc : Thread Cert.RetKernelIdeal.nD Cert.RetKernelIdeal.τ).loc Cert.RetKernelIdeal.main_arg3)
          ∧ r.2.mem ((c.tc : Thread Cert.RetKernelIdeal.nD Cert.RetKernelIdeal.τ).loc Cert.RetKernelIdeal.main_arg4) = m ((c.tc : Thread Cert.RetKernelIdeal.nD Cert.RetKernelIdeal.τ).loc Cert.RetKernelIdeal.main_arg4)
          ∧ r.2.mem ((c.tc : Thread Cert.RetKernelIdeal.nD Cert.RetKernelIdeal.τ).loc Cert.RetKernelIdeal.main_arg5) = m ((c.tc : Thread Cert.RetKernelIdeal.nD Cert.RetKernelIdeal.τ).loc Cert.RetKernelIdeal.main_arg5))
      ∧ θ_run (Cert.RetReferenceIdeal.defs (F := Ideal)) (onTc (τ := Cert.RetReferenceIdeal.τ) (Cert.RetReferenceIdeal.main (F := Ideal))) ⟨m', fun _ => 0, g'⟩ (fun r => ∀ c : Dev Cert.RetReferenceIdeal.nD,
          r.2.mem ((c.tc : Thread Cert.RetReferenceIdeal.nD Cert.RetReferenceIdeal.τ).loc Cert.RetReferenceIdeal.main_v229) = v0 c
          ∧ r.2.mem ((c.tc : Thread Cert.RetReferenceIdeal.nD Cert.RetReferenceIdeal.τ).loc Cert.RetReferenceIdeal.main_v230) = v1 c
          ∧ r.2.mem ((c.tc : Thread Cert.RetReferenceIdeal.nD Cert.RetReferenceIdeal.τ).loc Cert.RetReferenceIdeal.main_v231) = v2 c
          ∧ r.2.mem ((c.tc : Thread Cert.RetReferenceIdeal.nD Cert.RetReferenceIdeal.τ).loc Cert.RetReferenceIdeal.main_arg0) = m' ((c.tc : Thread Cert.RetReferenceIdeal.nD Cert.RetReferenceIdeal.τ).loc Cert.RetReferenceIdeal.main_arg0)
          ∧ r.2.mem ((c.tc : Thread Cert.RetReferenceIdeal.nD Cert.RetReferenceIdeal.τ).loc Cert.RetReferenceIdeal.main_arg1) = m' ((c.tc : Thread Cert.RetReferenceIdeal.nD Cert.RetReferenceIdeal.τ).loc Cert.RetReferenceIdeal.main_arg1)
          ∧ r.2.mem ((c.tc : Thread Cert.RetReferenceIdeal.nD Cert.RetReferenceIdeal.τ).loc Cert.RetReferenceIdeal.main_arg2) = m' ((c.tc : Thread Cert.RetReferenceIdeal.nD Cert.RetReferenceIdeal.τ).loc Cert.RetReferenceIdeal.main_arg2)
          ∧ r.2.mem ((c.tc : Thread Cert.RetReferenceIdeal.nD Cert.RetReferenceIdeal.τ).loc Cert.RetReferenceIdeal.main_arg3) = m' ((c.tc : Thread Cert.RetReferenceIdeal.nD Cert.RetReferenceIdeal.τ).loc Cert.RetReferenceIdeal.main_arg3)
          ∧ r.2.mem ((c.tc : Thread Cert.RetReferenceIdeal.nD Cert.RetReferenceIdeal.τ).loc Cert.RetReferenceIdeal.main_arg4) = m' ((c.tc : Thread Cert.RetReferenceIdeal.nD Cert.RetReferenceIdeal.τ).loc Cert.RetReferenceIdeal.main_arg4)
          ∧ r.2.mem ((c.tc : Thread Cert.RetReferenceIdeal.nD Cert.RetReferenceIdeal.τ).loc Cert.RetReferenceIdeal.main_arg5) = m' ((c.tc : Thread Cert.RetReferenceIdeal.nD Cert.RetReferenceIdeal.τ).loc Cert.RetReferenceIdeal.main_arg5))

def preserves_ConvKernel_ConvKernelIdeal : Prop :=
  True

def preserves_FmlpKernel_FmlpKernelIdeal : Prop :=
  True

def algebraic_FmlpKernelIdeal_FmlpReferenceIdeal [hFmlpKernelIdeal : Cert.FmlpKernelIdeal.Facts] [hFmlpReferenceIdeal : Cert.FmlpReferenceIdeal.Facts] : Prop :=
  ∀ (m : (ℓ : Loc Cert.FmlpKernelIdeal.nD Cert.FmlpKernelIdeal.τ Cert.FmlpKernelIdeal.sig) → Buf (Elt Ideal) ℓ) (g : Dev Cert.FmlpKernelIdeal.nD → PrngReg)
    (m' : (ℓ : Loc Cert.FmlpReferenceIdeal.nD Cert.FmlpReferenceIdeal.τ Cert.FmlpReferenceIdeal.sig) → Buf (Elt Ideal) ℓ) (g' : Dev Cert.FmlpReferenceIdeal.nD → PrngReg), Pre_FmlpKernelIdeal m →
    (∀ c : Dev Cert.FmlpKernelIdeal.nD,
      m' ((c.tc : Thread Cert.FmlpReferenceIdeal.nD Cert.FmlpReferenceIdeal.τ).loc Cert.FmlpReferenceIdeal.main_arg0) = m ((c.tc : Thread Cert.FmlpKernelIdeal.nD Cert.FmlpKernelIdeal.τ).loc Cert.FmlpKernelIdeal.main_arg0)
      ∧ m' ((c.tc : Thread Cert.FmlpReferenceIdeal.nD Cert.FmlpReferenceIdeal.τ).loc Cert.FmlpReferenceIdeal.main_arg1) = m ((c.tc : Thread Cert.FmlpKernelIdeal.nD Cert.FmlpKernelIdeal.τ).loc Cert.FmlpKernelIdeal.main_arg1)
      ∧ m' ((c.tc : Thread Cert.FmlpReferenceIdeal.nD Cert.FmlpReferenceIdeal.τ).loc Cert.FmlpReferenceIdeal.main_arg2) = m ((c.tc : Thread Cert.FmlpKernelIdeal.nD Cert.FmlpKernelIdeal.τ).loc Cert.FmlpKernelIdeal.main_arg2)
      ∧ m' ((c.tc : Thread Cert.FmlpReferenceIdeal.nD Cert.FmlpReferenceIdeal.τ).loc Cert.FmlpReferenceIdeal.main_arg3) = m ((c.tc : Thread Cert.FmlpKernelIdeal.nD Cert.FmlpKernelIdeal.τ).loc Cert.FmlpKernelIdeal.main_arg3)
      ∧ m' ((c.tc : Thread Cert.FmlpReferenceIdeal.nD Cert.FmlpReferenceIdeal.τ).loc Cert.FmlpReferenceIdeal.main_arg4) = m ((c.tc : Thread Cert.FmlpKernelIdeal.nD Cert.FmlpKernelIdeal.τ).loc Cert.FmlpKernelIdeal.main_arg4)
      ∧ m' ((c.tc : Thread Cert.FmlpReferenceIdeal.nD Cert.FmlpReferenceIdeal.τ).loc Cert.FmlpReferenceIdeal.main_arg5) = m ((c.tc : Thread Cert.FmlpKernelIdeal.nD Cert.FmlpKernelIdeal.τ).loc Cert.FmlpKernelIdeal.main_arg5)
      ∧ m' ((c.tc : Thread Cert.FmlpReferenceIdeal.nD Cert.FmlpReferenceIdeal.τ).loc Cert.FmlpReferenceIdeal.main_arg6) = m ((c.tc : Thread Cert.FmlpKernelIdeal.nD Cert.FmlpKernelIdeal.τ).loc Cert.FmlpKernelIdeal.main_arg6)) →
    ∃ (v0 : (c : Dev Cert.FmlpKernelIdeal.nD) → Buf (Elt Ideal) ((c.tc : Thread Cert.FmlpKernelIdeal.nD Cert.FmlpKernelIdeal.τ).loc Cert.FmlpKernelIdeal.main_v12_0)) (v1 : (c : Dev Cert.FmlpKernelIdeal.nD) → Buf (Elt Ideal) ((c.tc : Thread Cert.FmlpKernelIdeal.nD Cert.FmlpKernelIdeal.τ).loc Cert.FmlpKernelIdeal.main_v12_1)) (v2 : (c : Dev Cert.FmlpKernelIdeal.nD) → Buf (Elt Ideal) ((c.tc : Thread Cert.FmlpKernelIdeal.nD Cert.FmlpKernelIdeal.τ).loc Cert.FmlpKernelIdeal.main_v12_2)) (v3 : (c : Dev Cert.FmlpKernelIdeal.nD) → Buf (Elt Ideal) ((c.tc : Thread Cert.FmlpKernelIdeal.nD Cert.FmlpKernelIdeal.τ).loc Cert.FmlpKernelIdeal.main_v12_3)) (v4 : (c : Dev Cert.FmlpKernelIdeal.nD) → Buf (Elt Ideal) ((c.tc : Thread Cert.FmlpKernelIdeal.nD Cert.FmlpKernelIdeal.τ).loc Cert.FmlpKernelIdeal.main_v12_4)) (v5 : (c : Dev Cert.FmlpKernelIdeal.nD) → Buf (Elt Ideal) ((c.tc : Thread Cert.FmlpKernelIdeal.nD Cert.FmlpKernelIdeal.τ).loc Cert.FmlpKernelIdeal.main_v12_5)),
      θ_run (Cert.FmlpKernelIdeal.defs (F := Ideal)) (onTc (τ := Cert.FmlpKernelIdeal.τ) (Cert.FmlpKernelIdeal.main (F := Ideal))) ⟨m, fun _ => 0, g⟩ (fun r => ∀ c : Dev Cert.FmlpKernelIdeal.nD,
          r.2.mem ((c.tc : Thread Cert.FmlpKernelIdeal.nD Cert.FmlpKernelIdeal.τ).loc Cert.FmlpKernelIdeal.main_v12_0) = v0 c
          ∧ r.2.mem ((c.tc : Thread Cert.FmlpKernelIdeal.nD Cert.FmlpKernelIdeal.τ).loc Cert.FmlpKernelIdeal.main_v12_1) = v1 c
          ∧ r.2.mem ((c.tc : Thread Cert.FmlpKernelIdeal.nD Cert.FmlpKernelIdeal.τ).loc Cert.FmlpKernelIdeal.main_v12_2) = v2 c
          ∧ r.2.mem ((c.tc : Thread Cert.FmlpKernelIdeal.nD Cert.FmlpKernelIdeal.τ).loc Cert.FmlpKernelIdeal.main_v12_3) = v3 c
          ∧ r.2.mem ((c.tc : Thread Cert.FmlpKernelIdeal.nD Cert.FmlpKernelIdeal.τ).loc Cert.FmlpKernelIdeal.main_v12_4) = v4 c
          ∧ r.2.mem ((c.tc : Thread Cert.FmlpKernelIdeal.nD Cert.FmlpKernelIdeal.τ).loc Cert.FmlpKernelIdeal.main_v12_5) = v5 c
          ∧ r.2.mem ((c.tc : Thread Cert.FmlpKernelIdeal.nD Cert.FmlpKernelIdeal.τ).loc Cert.FmlpKernelIdeal.main_arg0) = m ((c.tc : Thread Cert.FmlpKernelIdeal.nD Cert.FmlpKernelIdeal.τ).loc Cert.FmlpKernelIdeal.main_arg0)
          ∧ r.2.mem ((c.tc : Thread Cert.FmlpKernelIdeal.nD Cert.FmlpKernelIdeal.τ).loc Cert.FmlpKernelIdeal.main_arg1) = m ((c.tc : Thread Cert.FmlpKernelIdeal.nD Cert.FmlpKernelIdeal.τ).loc Cert.FmlpKernelIdeal.main_arg1)
          ∧ r.2.mem ((c.tc : Thread Cert.FmlpKernelIdeal.nD Cert.FmlpKernelIdeal.τ).loc Cert.FmlpKernelIdeal.main_arg2) = m ((c.tc : Thread Cert.FmlpKernelIdeal.nD Cert.FmlpKernelIdeal.τ).loc Cert.FmlpKernelIdeal.main_arg2)
          ∧ r.2.mem ((c.tc : Thread Cert.FmlpKernelIdeal.nD Cert.FmlpKernelIdeal.τ).loc Cert.FmlpKernelIdeal.main_arg3) = m ((c.tc : Thread Cert.FmlpKernelIdeal.nD Cert.FmlpKernelIdeal.τ).loc Cert.FmlpKernelIdeal.main_arg3)
          ∧ r.2.mem ((c.tc : Thread Cert.FmlpKernelIdeal.nD Cert.FmlpKernelIdeal.τ).loc Cert.FmlpKernelIdeal.main_arg4) = m ((c.tc : Thread Cert.FmlpKernelIdeal.nD Cert.FmlpKernelIdeal.τ).loc Cert.FmlpKernelIdeal.main_arg4)
          ∧ r.2.mem ((c.tc : Thread Cert.FmlpKernelIdeal.nD Cert.FmlpKernelIdeal.τ).loc Cert.FmlpKernelIdeal.main_arg5) = m ((c.tc : Thread Cert.FmlpKernelIdeal.nD Cert.FmlpKernelIdeal.τ).loc Cert.FmlpKernelIdeal.main_arg5)
          ∧ r.2.mem ((c.tc : Thread Cert.FmlpKernelIdeal.nD Cert.FmlpKernelIdeal.τ).loc Cert.FmlpKernelIdeal.main_arg6) = m ((c.tc : Thread Cert.FmlpKernelIdeal.nD Cert.FmlpKernelIdeal.τ).loc Cert.FmlpKernelIdeal.main_arg6))
      ∧ θ_run (Cert.FmlpReferenceIdeal.defs (F := Ideal)) (onTc (τ := Cert.FmlpReferenceIdeal.τ) (Cert.FmlpReferenceIdeal.main (F := Ideal))) ⟨m', fun _ => 0, g'⟩ (fun r => ∀ c : Dev Cert.FmlpReferenceIdeal.nD,
          r.2.mem ((c.tc : Thread Cert.FmlpReferenceIdeal.nD Cert.FmlpReferenceIdeal.τ).loc Cert.FmlpReferenceIdeal.main_v1) = v0 c
          ∧ r.2.mem ((c.tc : Thread Cert.FmlpReferenceIdeal.nD Cert.FmlpReferenceIdeal.τ).loc Cert.FmlpReferenceIdeal.main_v19) = v1 c
          ∧ r.2.mem ((c.tc : Thread Cert.FmlpReferenceIdeal.nD Cert.FmlpReferenceIdeal.τ).loc Cert.FmlpReferenceIdeal.main_v20) = v2 c
          ∧ r.2.mem ((c.tc : Thread Cert.FmlpReferenceIdeal.nD Cert.FmlpReferenceIdeal.τ).loc Cert.FmlpReferenceIdeal.main_v21) = v3 c
          ∧ r.2.mem ((c.tc : Thread Cert.FmlpReferenceIdeal.nD Cert.FmlpReferenceIdeal.τ).loc Cert.FmlpReferenceIdeal.main_v22) = v4 c
          ∧ r.2.mem ((c.tc : Thread Cert.FmlpReferenceIdeal.nD Cert.FmlpReferenceIdeal.τ).loc Cert.FmlpReferenceIdeal.main_v24) = v5 c
          ∧ r.2.mem ((c.tc : Thread Cert.FmlpReferenceIdeal.nD Cert.FmlpReferenceIdeal.τ).loc Cert.FmlpReferenceIdeal.main_arg0) = m' ((c.tc : Thread Cert.FmlpReferenceIdeal.nD Cert.FmlpReferenceIdeal.τ).loc Cert.FmlpReferenceIdeal.main_arg0)
          ∧ r.2.mem ((c.tc : Thread Cert.FmlpReferenceIdeal.nD Cert.FmlpReferenceIdeal.τ).loc Cert.FmlpReferenceIdeal.main_arg1) = m' ((c.tc : Thread Cert.FmlpReferenceIdeal.nD Cert.FmlpReferenceIdeal.τ).loc Cert.FmlpReferenceIdeal.main_arg1)
          ∧ r.2.mem ((c.tc : Thread Cert.FmlpReferenceIdeal.nD Cert.FmlpReferenceIdeal.τ).loc Cert.FmlpReferenceIdeal.main_arg2) = m' ((c.tc : Thread Cert.FmlpReferenceIdeal.nD Cert.FmlpReferenceIdeal.τ).loc Cert.FmlpReferenceIdeal.main_arg2)
          ∧ r.2.mem ((c.tc : Thread Cert.FmlpReferenceIdeal.nD Cert.FmlpReferenceIdeal.τ).loc Cert.FmlpReferenceIdeal.main_arg3) = m' ((c.tc : Thread Cert.FmlpReferenceIdeal.nD Cert.FmlpReferenceIdeal.τ).loc Cert.FmlpReferenceIdeal.main_arg3)
          ∧ r.2.mem ((c.tc : Thread Cert.FmlpReferenceIdeal.nD Cert.FmlpReferenceIdeal.τ).loc Cert.FmlpReferenceIdeal.main_arg4) = m' ((c.tc : Thread Cert.FmlpReferenceIdeal.nD Cert.FmlpReferenceIdeal.τ).loc Cert.FmlpReferenceIdeal.main_arg4)
          ∧ r.2.mem ((c.tc : Thread Cert.FmlpReferenceIdeal.nD Cert.FmlpReferenceIdeal.τ).loc Cert.FmlpReferenceIdeal.main_arg5) = m' ((c.tc : Thread Cert.FmlpReferenceIdeal.nD Cert.FmlpReferenceIdeal.τ).loc Cert.FmlpReferenceIdeal.main_arg5)
          ∧ r.2.mem ((c.tc : Thread Cert.FmlpReferenceIdeal.nD Cert.FmlpReferenceIdeal.τ).loc Cert.FmlpReferenceIdeal.main_arg6) = m' ((c.tc : Thread Cert.FmlpReferenceIdeal.nD Cert.FmlpReferenceIdeal.τ).loc Cert.FmlpReferenceIdeal.main_arg6))

def preserves_FretKernel_FretKernelIdeal : Prop :=
  True

def preserves_FinKernel_FinKernelIdeal : Prop :=
  True

def preserves_AdamwKernel_AdamwKernelIdeal : Prop :=
  True

def algebraic_AdamwKernelIdeal_AdamwReferenceIdeal [hAdamwKernelIdeal : Cert.AdamwKernelIdeal.Facts] [hAdamwReferenceIdeal : Cert.AdamwReferenceIdeal.Facts] : Prop :=
  ∀ (m : (ℓ : Loc Cert.AdamwKernelIdeal.nD Cert.AdamwKernelIdeal.τ Cert.AdamwKernelIdeal.sig) → Buf (Elt Ideal) ℓ) (g : Dev Cert.AdamwKernelIdeal.nD → PrngReg)
    (m' : (ℓ : Loc Cert.AdamwReferenceIdeal.nD Cert.AdamwReferenceIdeal.τ Cert.AdamwReferenceIdeal.sig) → Buf (Elt Ideal) ℓ) (g' : Dev Cert.AdamwReferenceIdeal.nD → PrngReg), Pre_AdamwKernelIdeal m →
    (∀ c : Dev Cert.AdamwKernelIdeal.nD,
      m' ((c.tc : Thread Cert.AdamwReferenceIdeal.nD Cert.AdamwReferenceIdeal.τ).loc Cert.AdamwReferenceIdeal.main_arg0) = m ((c.tc : Thread Cert.AdamwKernelIdeal.nD Cert.AdamwKernelIdeal.τ).loc Cert.AdamwKernelIdeal.main_arg0)
      ∧ m' ((c.tc : Thread Cert.AdamwReferenceIdeal.nD Cert.AdamwReferenceIdeal.τ).loc Cert.AdamwReferenceIdeal.main_arg1) = m ((c.tc : Thread Cert.AdamwKernelIdeal.nD Cert.AdamwKernelIdeal.τ).loc Cert.AdamwKernelIdeal.main_arg1)
      ∧ m' ((c.tc : Thread Cert.AdamwReferenceIdeal.nD Cert.AdamwReferenceIdeal.τ).loc Cert.AdamwReferenceIdeal.main_arg2) = m ((c.tc : Thread Cert.AdamwKernelIdeal.nD Cert.AdamwKernelIdeal.τ).loc Cert.AdamwKernelIdeal.main_arg2)
      ∧ m' ((c.tc : Thread Cert.AdamwReferenceIdeal.nD Cert.AdamwReferenceIdeal.τ).loc Cert.AdamwReferenceIdeal.main_arg3) = m ((c.tc : Thread Cert.AdamwKernelIdeal.nD Cert.AdamwKernelIdeal.τ).loc Cert.AdamwKernelIdeal.main_arg3)) →
    ∃ (v0 : (c : Dev Cert.AdamwKernelIdeal.nD) → Buf (Elt Ideal) ((c.tc : Thread Cert.AdamwKernelIdeal.nD Cert.AdamwKernelIdeal.τ).loc Cert.AdamwKernelIdeal.main_v5_0)) (v1 : (c : Dev Cert.AdamwKernelIdeal.nD) → Buf (Elt Ideal) ((c.tc : Thread Cert.AdamwKernelIdeal.nD Cert.AdamwKernelIdeal.τ).loc Cert.AdamwKernelIdeal.main_v5_1)) (v2 : (c : Dev Cert.AdamwKernelIdeal.nD) → Buf (Elt Ideal) ((c.tc : Thread Cert.AdamwKernelIdeal.nD Cert.AdamwKernelIdeal.τ).loc Cert.AdamwKernelIdeal.main_v5_2)),
      θ_run (Cert.AdamwKernelIdeal.defs (F := Ideal)) (onTc (τ := Cert.AdamwKernelIdeal.τ) (Cert.AdamwKernelIdeal.main (F := Ideal))) ⟨m, fun _ => 0, g⟩ (fun r => ∀ c : Dev Cert.AdamwKernelIdeal.nD,
          r.2.mem ((c.tc : Thread Cert.AdamwKernelIdeal.nD Cert.AdamwKernelIdeal.τ).loc Cert.AdamwKernelIdeal.main_v5_0) = v0 c
          ∧ r.2.mem ((c.tc : Thread Cert.AdamwKernelIdeal.nD Cert.AdamwKernelIdeal.τ).loc Cert.AdamwKernelIdeal.main_v5_1) = v1 c
          ∧ r.2.mem ((c.tc : Thread Cert.AdamwKernelIdeal.nD Cert.AdamwKernelIdeal.τ).loc Cert.AdamwKernelIdeal.main_v5_2) = v2 c
          ∧ r.2.mem ((c.tc : Thread Cert.AdamwKernelIdeal.nD Cert.AdamwKernelIdeal.τ).loc Cert.AdamwKernelIdeal.main_arg0) = m ((c.tc : Thread Cert.AdamwKernelIdeal.nD Cert.AdamwKernelIdeal.τ).loc Cert.AdamwKernelIdeal.main_arg0)
          ∧ r.2.mem ((c.tc : Thread Cert.AdamwKernelIdeal.nD Cert.AdamwKernelIdeal.τ).loc Cert.AdamwKernelIdeal.main_arg1) = m ((c.tc : Thread Cert.AdamwKernelIdeal.nD Cert.AdamwKernelIdeal.τ).loc Cert.AdamwKernelIdeal.main_arg1)
          ∧ r.2.mem ((c.tc : Thread Cert.AdamwKernelIdeal.nD Cert.AdamwKernelIdeal.τ).loc Cert.AdamwKernelIdeal.main_arg2) = m ((c.tc : Thread Cert.AdamwKernelIdeal.nD Cert.AdamwKernelIdeal.τ).loc Cert.AdamwKernelIdeal.main_arg2)
          ∧ r.2.mem ((c.tc : Thread Cert.AdamwKernelIdeal.nD Cert.AdamwKernelIdeal.τ).loc Cert.AdamwKernelIdeal.main_arg3) = m ((c.tc : Thread Cert.AdamwKernelIdeal.nD Cert.AdamwKernelIdeal.τ).loc Cert.AdamwKernelIdeal.main_arg3))
      ∧ θ_run (Cert.AdamwReferenceIdeal.defs (F := Ideal)) (onTc (τ := Cert.AdamwReferenceIdeal.τ) (Cert.AdamwReferenceIdeal.main (F := Ideal))) ⟨m', fun _ => 0, g'⟩ (fun r => ∀ c : Dev Cert.AdamwReferenceIdeal.nD,
          r.2.mem ((c.tc : Thread Cert.AdamwReferenceIdeal.nD Cert.AdamwReferenceIdeal.τ).loc Cert.AdamwReferenceIdeal.main_v24) = v0 c
          ∧ r.2.mem ((c.tc : Thread Cert.AdamwReferenceIdeal.nD Cert.AdamwReferenceIdeal.τ).loc Cert.AdamwReferenceIdeal.main_v25) = v1 c
          ∧ r.2.mem ((c.tc : Thread Cert.AdamwReferenceIdeal.nD Cert.AdamwReferenceIdeal.τ).loc Cert.AdamwReferenceIdeal.main_v26) = v2 c
          ∧ r.2.mem ((c.tc : Thread Cert.AdamwReferenceIdeal.nD Cert.AdamwReferenceIdeal.τ).loc Cert.AdamwReferenceIdeal.main_arg0) = m' ((c.tc : Thread Cert.AdamwReferenceIdeal.nD Cert.AdamwReferenceIdeal.τ).loc Cert.AdamwReferenceIdeal.main_arg0)
          ∧ r.2.mem ((c.tc : Thread Cert.AdamwReferenceIdeal.nD Cert.AdamwReferenceIdeal.τ).loc Cert.AdamwReferenceIdeal.main_arg1) = m' ((c.tc : Thread Cert.AdamwReferenceIdeal.nD Cert.AdamwReferenceIdeal.τ).loc Cert.AdamwReferenceIdeal.main_arg1)
          ∧ r.2.mem ((c.tc : Thread Cert.AdamwReferenceIdeal.nD Cert.AdamwReferenceIdeal.τ).loc Cert.AdamwReferenceIdeal.main_arg2) = m' ((c.tc : Thread Cert.AdamwReferenceIdeal.nD Cert.AdamwReferenceIdeal.τ).loc Cert.AdamwReferenceIdeal.main_arg2)
          ∧ r.2.mem ((c.tc : Thread Cert.AdamwReferenceIdeal.nD Cert.AdamwReferenceIdeal.τ).loc Cert.AdamwReferenceIdeal.main_arg3) = m' ((c.tc : Thread Cert.AdamwReferenceIdeal.nD Cert.AdamwReferenceIdeal.τ).loc Cert.AdamwReferenceIdeal.main_arg3))

def preserves_DwKernel_DwKernelIdeal : Prop :=
  True

def algebraic_DwKernelIdeal_DwReferenceIdeal [hDwKernelIdeal : Cert.DwKernelIdeal.Facts] [hDwReferenceIdeal : Cert.DwReferenceIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg)
    (m' : (ℓ : Loc Cert.DwReferenceIdeal.nD Cert.DwReferenceIdeal.τ Cert.DwReferenceIdeal.sig) → Buf (Elt Ideal) ℓ) (g' : Dev Cert.DwReferenceIdeal.nD → PrngReg), Pre_DwKernelIdeal m →
    (∀ c : Dev Cert.DwKernelIdeal.nD,
      m' ((c.tc : Thread Cert.DwReferenceIdeal.nD Cert.DwReferenceIdeal.τ).loc Cert.DwReferenceIdeal.main_arg0) = m ((c.tc : Thread Cert.DwKernelIdeal.nD Cert.DwKernelIdeal.τ).loc Cert.DwKernelIdeal.main_arg0)
      ∧ m' ((c.tc : Thread Cert.DwReferenceIdeal.nD Cert.DwReferenceIdeal.τ).loc Cert.DwReferenceIdeal.main_arg1) = m ((c.tc : Thread Cert.DwKernelIdeal.nD Cert.DwKernelIdeal.τ).loc Cert.DwKernelIdeal.main_arg1)) →
    ∃ (v0 : (c : Dev Cert.DwKernelIdeal.nD) → Buf (Elt Ideal) ((c.tc : Thread Cert.DwKernelIdeal.nD Cert.DwKernelIdeal.τ).loc Cert.DwKernelIdeal.main_v0_0)) (v1 : (c : Dev Cert.DwKernelIdeal.nD) → Buf (Elt Ideal) ((c.tc : Thread Cert.DwKernelIdeal.nD Cert.DwKernelIdeal.τ).loc Cert.DwKernelIdeal.main_v0_1)),
      θ_run (Cert.DwKernelIdeal.defs (F := Ideal)) (onTc (τ := Cert.DwKernelIdeal.τ) (Cert.DwKernelIdeal.main (F := Ideal))) ⟨m, fun _ => 0, g⟩ (fun r => ∀ c : Dev Cert.DwKernelIdeal.nD,
          r.2.mem ((c.tc : Thread Cert.DwKernelIdeal.nD Cert.DwKernelIdeal.τ).loc Cert.DwKernelIdeal.main_v0_0) = v0 c
          ∧ r.2.mem ((c.tc : Thread Cert.DwKernelIdeal.nD Cert.DwKernelIdeal.τ).loc Cert.DwKernelIdeal.main_v0_1) = v1 c
          ∧ r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
          ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1))
      ∧ θ_run (Cert.DwReferenceIdeal.defs (F := Ideal)) (onTc (τ := Cert.DwReferenceIdeal.τ) (Cert.DwReferenceIdeal.main (F := Ideal))) ⟨m', fun _ => 0, g'⟩ (fun r => ∀ c : Dev Cert.DwReferenceIdeal.nD,
          r.2.mem ((c.tc : Thread Cert.DwReferenceIdeal.nD Cert.DwReferenceIdeal.τ).loc Cert.DwReferenceIdeal.main_v3) = v0 c
          ∧ r.2.mem ((c.tc : Thread Cert.DwReferenceIdeal.nD Cert.DwReferenceIdeal.τ).loc Cert.DwReferenceIdeal.main_v4) = v1 c
          ∧ r.2.mem ((c.tc : Thread Cert.DwReferenceIdeal.nD Cert.DwReferenceIdeal.τ).loc Cert.DwReferenceIdeal.main_arg0) = m' ((c.tc : Thread Cert.DwReferenceIdeal.nD Cert.DwReferenceIdeal.τ).loc Cert.DwReferenceIdeal.main_arg0)
          ∧ r.2.mem ((c.tc : Thread Cert.DwReferenceIdeal.nD Cert.DwReferenceIdeal.τ).loc Cert.DwReferenceIdeal.main_arg1) = m' ((c.tc : Thread Cert.DwReferenceIdeal.nD Cert.DwReferenceIdeal.τ).loc Cert.DwReferenceIdeal.main_arg1))

def Claim : Prop :=
  ∃ (hLossKernel : Cert.LossKernel.Facts) (hLossKernelIdeal : Cert.LossKernelIdeal.Facts) (hLossReferenceIdeal : Cert.LossReferenceIdeal.Facts) (hInKernel : Cert.InKernel.Facts) (hInKernelIdeal : Cert.InKernelIdeal.Facts) (hInReferenceIdeal : Cert.InReferenceIdeal.Facts) (hMlpKernel : Cert.MlpKernel.Facts) (hMlpKernelIdeal : Cert.MlpKernelIdeal.Facts) (hMlpReferenceIdeal : Cert.MlpReferenceIdeal.Facts) (hRetKernel : Cert.RetKernel.Facts) (hRetKernelIdeal : Cert.RetKernelIdeal.Facts) (hRetReferenceIdeal : Cert.RetReferenceIdeal.Facts) (hConvKernel : Cert.ConvKernel.Facts) (hConvKernelIdeal : Cert.ConvKernelIdeal.Facts) (hConvReferenceIdeal : Cert.ConvReferenceIdeal.Facts) (hFmlpKernel : Cert.FmlpKernel.Facts) (hFmlpKernelIdeal : Cert.FmlpKernelIdeal.Facts) (hFmlpReferenceIdeal : Cert.FmlpReferenceIdeal.Facts) (hFretKernel : Cert.FretKernel.Facts) (hFretKernelIdeal : Cert.FretKernelIdeal.Facts) (hFretReferenceIdeal : Cert.FretReferenceIdeal.Facts) (hFinKernel : Cert.FinKernel.Facts) (hFinKernelIdeal : Cert.FinKernelIdeal.Facts) (hFinReferenceIdeal : Cert.FinReferenceIdeal.Facts) (hAdamwKernel : Cert.AdamwKernel.Facts) (hAdamwKernelIdeal : Cert.AdamwKernelIdeal.Facts) (hAdamwReferenceIdeal : Cert.AdamwReferenceIdeal.Facts) (hDwKernel : Cert.DwKernel.Facts) (hDwKernelIdeal : Cert.DwKernelIdeal.Facts) (hDwReferenceIdeal : Cert.DwReferenceIdeal.Facts) (hPre_mlp_finite : Cert.Pre_mlp_finite.Facts) (hPre_ret_finite : Cert.Pre_ret_finite.Facts),
    quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_MlpKernel (hMlpKernel := hMlpKernel)
    ∧ quiescent_MlpKernelIdeal (hMlpKernelIdeal := hMlpKernelIdeal)
    ∧ quiescent_MlpKernelIdeal_pre_mlp_finite (hMlpKernelIdeal := hMlpKernelIdeal) (hPre_mlp_finite := hPre_mlp_finite)
    ∧ quiescent_MlpReferenceIdeal (hMlpReferenceIdeal := hMlpReferenceIdeal)
    ∧ quiescent_MlpReferenceIdeal_pre_mlp_finite (hMlpReferenceIdeal := hMlpReferenceIdeal) (hPre_mlp_finite := hPre_mlp_finite)
    ∧ quiescent_RetKernel (hRetKernel := hRetKernel)
    ∧ quiescent_RetKernelIdeal (hRetKernelIdeal := hRetKernelIdeal)
    ∧ quiescent_RetKernelIdeal_pre_ret_finite (hRetKernelIdeal := hRetKernelIdeal) (hPre_ret_finite := hPre_ret_finite)
    ∧ quiescent_RetReferenceIdeal (hRetReferenceIdeal := hRetReferenceIdeal)
    ∧ quiescent_RetReferenceIdeal_pre_ret_finite (hRetReferenceIdeal := hRetReferenceIdeal) (hPre_ret_finite := hPre_ret_finite)
    ∧ quiescent_ConvKernel (hConvKernel := hConvKernel)
    ∧ quiescent_ConvKernelIdeal (hConvKernelIdeal := hConvKernelIdeal)
    ∧ quiescent_ConvReferenceIdeal (hConvReferenceIdeal := hConvReferenceIdeal)
    ∧ quiescent_FmlpKernel (hFmlpKernel := hFmlpKernel)
    ∧ quiescent_FmlpKernelIdeal (hFmlpKernelIdeal := hFmlpKernelIdeal)
    ∧ quiescent_FmlpReferenceIdeal (hFmlpReferenceIdeal := hFmlpReferenceIdeal)
    ∧ quiescent_FretKernel (hFretKernel := hFretKernel)
    ∧ quiescent_FretKernelIdeal (hFretKernelIdeal := hFretKernelIdeal)
    ∧ quiescent_FretReferenceIdeal (hFretReferenceIdeal := hFretReferenceIdeal)
    ∧ quiescent_FinKernel (hFinKernel := hFinKernel)
    ∧ quiescent_FinKernelIdeal (hFinKernelIdeal := hFinKernelIdeal)
    ∧ quiescent_FinReferenceIdeal (hFinReferenceIdeal := hFinReferenceIdeal)
    ∧ quiescent_AdamwKernel (hAdamwKernel := hAdamwKernel)
    ∧ quiescent_AdamwKernelIdeal (hAdamwKernelIdeal := hAdamwKernelIdeal)
    ∧ quiescent_AdamwReferenceIdeal (hAdamwReferenceIdeal := hAdamwReferenceIdeal)
    ∧ quiescent_DwKernel (hDwKernel := hDwKernel)
    ∧ quiescent_DwKernelIdeal (hDwKernelIdeal := hDwKernelIdeal)
    ∧ quiescent_DwReferenceIdeal (hDwReferenceIdeal := hDwReferenceIdeal)
    ∧ preserves_LossKernel_LossKernelIdeal
    ∧ algebraic_LossKernelIdeal_LossReferenceIdeal (hLossKernelIdeal := hLossKernelIdeal) (hLossReferenceIdeal := hLossReferenceIdeal)
    ∧ preserves_InKernel_InKernelIdeal
    ∧ algebraic_InKernelIdeal_InReferenceIdeal (hInKernelIdeal := hInKernelIdeal) (hInReferenceIdeal := hInReferenceIdeal)
    ∧ preserves_MlpKernel_MlpKernelIdeal
    ∧ algebraic_MlpKernelIdeal_MlpReferenceIdeal_pre_mlp_finite (hMlpKernelIdeal := hMlpKernelIdeal) (hMlpReferenceIdeal := hMlpReferenceIdeal) (hPre_mlp_finite := hPre_mlp_finite)
    ∧ preserves_RetKernel_RetKernelIdeal
    ∧ algebraic_RetKernelIdeal_RetReferenceIdeal_pre_ret_finite (hRetKernelIdeal := hRetKernelIdeal) (hRetReferenceIdeal := hRetReferenceIdeal) (hPre_ret_finite := hPre_ret_finite)
    ∧ preserves_ConvKernel_ConvKernelIdeal
    ∧ preserves_FmlpKernel_FmlpKernelIdeal
    ∧ algebraic_FmlpKernelIdeal_FmlpReferenceIdeal (hFmlpKernelIdeal := hFmlpKernelIdeal) (hFmlpReferenceIdeal := hFmlpReferenceIdeal)
    ∧ preserves_FretKernel_FretKernelIdeal
    ∧ preserves_FinKernel_FinKernelIdeal
    ∧ preserves_AdamwKernel_AdamwKernelIdeal
    ∧ algebraic_AdamwKernelIdeal_AdamwReferenceIdeal (hAdamwKernelIdeal := hAdamwKernelIdeal) (hAdamwReferenceIdeal := hAdamwReferenceIdeal)
    ∧ preserves_DwKernel_DwKernelIdeal
    ∧ algebraic_DwKernelIdeal_DwReferenceIdeal (hDwKernelIdeal := hDwKernelIdeal) (hDwReferenceIdeal := hDwReferenceIdeal)
-- ==== Pre_mlp_finite.lean ====
abbrev S8192x1024 : Shape := ⟨2, ![8192, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)
  bcast_S_S8192x1024 : S_.BroadcastsInDim S8192x1024 (![] : Fin 0 → Fin S8192x1024.rank)

variable [Facts]

def fn {F : FTy → Type} [FloatOps F] (main_arg0 : FVec F S8192x1024 .f32) (main_arg1 : FVec F S8192x1024 .f32) (main_arg2 : FVec F S1024x1024 .f32) (main_arg3 : FVec F S1024 .f32) (main_arg4 : FVec F S1024x2816 .f32) (main_arg5 : FVec F S1024x2816 .f32) (main_arg6 : FVec F S2816x1024 .f32) (main_arg7 : FVec F S8192x1024 .f32) : IVec S1024 1 × IVec S1024x2816 1 × IVec S2816x1024 1 × IVec S8192x1024 1 :=
  let main_v0 : FVec F S1024 .f32 := Host.absf main_arg3
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x2816 .f32 := Host.absf main_arg5
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S2816x1024 .f32 := Host.absf main_arg6
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S8192x1024 .f32 := Host.absf main_arg7
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Pre_ret_finite.lean ====
abbrev S8192x512 : Shape := ⟨2, ![8192, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  bcast_S_S512 : S_.BroadcastsInDim S512 (![] : Fin 0 → Fin S512.rank)

variable [Facts]

def fn {F : FTy → Type} [FloatOps F] (main_arg0 : FVec F S8192x512 .f32) (main_arg1 : FVec F S8192x512 .f32) (main_arg2 : FVec F S8192x512 .f32) (main_arg3 : FVec F S8192x512 .f32) (main_arg4 : FVec F S512 .f32) (main_arg5 : FVec F S8192x512 .f32) : IVec S8192x512 1 × IVec S8192x512 1 × IVec S8192x512 1 × IVec S8192x512 1 × IVec S512 1 × IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_v12 : FVec F S512 .f32 := Host.absf main_arg4
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  let main_v15 : FVec F S8192x512 .f32 := Host.absf main_arg5
  let main_cst_4 : FVec F S_ .f32 := constant S_ .f32 0x7F800000#32
  let main_v16 : FVec F S8192x512 .f32 := broadcastInDim S8192x512 ![] bcast_S_S8192x512 main_cst_4
  let main_v17 : IVec S8192x512 1 := cmpf .olt main_v15 main_v16
  (main_v2, main_v5, main_v8, main_v11, main_v14, main_v17)
-- ==== LossKernel.lean ====
abbrev S1x8192x1024 : Shape := ⟨3, ![1, 8192, 1024]⟩
abbrev S1024 : Shape := ⟨1, ![1024]⟩
abbrev S8192x1024 : Shape := ⟨2, ![8192, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 10
  | .vmem => 11
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x128, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x128, .f32⟩
  | .local _ .vmem, ⟨10, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossReferenceIdeal.lean ====
abbrev S1x8192x1024 : Shape := ⟨3, ![1, 8192, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x1024 : Shape := ⟨2, ![1, 1024]⟩
abbrev S8192 : Shape := ⟨1, ![8192]⟩
abbrev S8192x1024 : Shape := ⟨2, ![8192, 1024]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x8192x1024, .f32⟩
  | .hbm, ⟨3, _⟩ => ⟨S1x8192x1024, .f32⟩
  | .hbm, ⟨4, _⟩ => ⟨S_, .f32⟩
  | .hbm, ⟨5, _⟩ => ⟨S1x8192, .f32⟩
  | .hbm, ⟨6, _⟩ => ⟨S1x8192x1, .f32⟩
  | .hbm, ⟨7, _⟩ => ⟨S_, .f32⟩
  | .hbm, ⟨8, _⟩ => ⟨S1x8192x1, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S1x8192x1024, .f32⟩
  | .hbm, ⟨19, _⟩ => ⟨S1x8192x1024, .f32⟩
  | .hbm, ⟨20, _⟩ => ⟨S1x1x1024, .f32⟩
  | .hbm, ⟨21, _⟩ => ⟨S1x8192x1024, .f32⟩
  | .hbm, ⟨22, _⟩ => ⟨S1x8192x1024, .f32⟩
  | .hbm, ⟨23, _⟩ => ⟨S1x8192x1024, .f32⟩
  | .hbm, ⟨24, _⟩ => ⟨S1x8192x1024, .f32⟩
  | .hbm, ⟨25, _⟩ => ⟨S_, .f32⟩
  | .hbm, ⟨26, _⟩ => ⟨S1x8192x1024, .f32⟩
  | .hbm, ⟨27, _⟩ => ⟨S1x8192x1024, .f32⟩
  | .hbm, ⟨28, _⟩ => ⟨S_, .f32⟩
  | .hbm, ⟨29, _⟩ => ⟨S1x8192, .f32⟩
  | .hbm, ⟨30, _⟩ => ⟨S_, .f32⟩
  | .hbm, ⟨31, _⟩ => ⟨S1x8192, .f32⟩
  | .hbm, ⟨32, _⟩ => ⟨S1x8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1x8192, .f32⟩
  | .hbm, ⟨41, _⟩ => ⟨S_, .f32⟩
  | .hbm, ⟨42, _⟩ => ⟨S1x8192, .f32⟩
  | .hbm, ⟨43, _⟩ => ⟨S1x8192, .f32⟩
  | .hbm, ⟨44, _⟩ => ⟨S1x8192x1024, .f32⟩
  | .hbm, ⟨45, _⟩ => ⟨S1x8192x1024, .f32⟩
  | .hbm, ⟨46, _⟩ => ⟨S1x8192x1024, .f32⟩
  | .hbm, ⟨47, _⟩ => ⟨S_, .f32⟩
  | .hbm, ⟨48, _⟩ => ⟨S1x1024, .f32⟩
  | .hbm, ⟨49, _⟩ => ⟨S1x1x1024, .f32⟩
  | .hbm, ⟨50, _⟩ => ⟨S1x8192x1024, .f32⟩
  | .hbm, ⟨51, _⟩ => ⟨S1x8192x1024, .f32⟩
  | .hbm, ⟨52, _⟩ => ⟨S_, .f32⟩
  | .hbm, ⟨53, _⟩ => ⟨S1024, .f32⟩
  | .hbm, ⟨54, _⟩ => ⟨S1x8192x1024, .f32⟩
  | .hbm, ⟨55, _⟩ => ⟨S_, .f32⟩
  | .hbm, ⟨56, _⟩ => ⟨S1x8192, .f32⟩
  | .hbm, ⟨57, _⟩ => ⟨S1x8192x1, .f32⟩
  | .hbm, ⟨58, _⟩ => ⟨S1x8192x1024, .f32⟩
  | .hbm, ⟨59, _⟩ => ⟨S1x8192x1024, .f32⟩
  | .hbm, ⟨60, _⟩ => ⟨S1x8192x1, .f32⟩
  | .hbm, ⟨61, _⟩ => ⟨S_, .f32⟩
  | .hbm, ⟨62, _⟩ => ⟨S1x8192x1, .f32⟩
  | .hbm, ⟨63, _⟩ => ⟨S1x8192x1, .f32⟩
  | .hbm, ⟨64, _⟩ => ⟨S_, .f32⟩
  | .hbm, ⟨65, _⟩ => ⟨S8192, .f32⟩
  | .hbm, ⟨66, _⟩ => ⟨S1x8192, .f32⟩
  | .hbm, ⟨67, _⟩ => ⟨S1x8192x1024, .f32⟩
  | .hbm, ⟨68, _⟩ => ⟨S1x8192x1024, .f32⟩
  | .hbm, ⟨69, _⟩ => ⟨S1x8192x1024, .f32⟩
  | .hbm, ⟨70, _⟩ => ⟨S1x8192x1024, .f32⟩
  | .hbm, ⟨71, _⟩ => ⟨S1x8192x1024, .f32⟩
  | .hbm, ⟨72, _⟩ => ⟨S8192x1024, .f32⟩
  | .hbm, ⟨73, _⟩ => ⟨S8192x1024, .bf16⟩
  | .hbm, ⟨74, _⟩ => ⟨S1x128, .f32⟩
  | .hbm, ⟨75, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== InKernel.lean ====
abbrev S1x8192x1024 : Shape := ⟨3, ![1, 8192, 1024]⟩
abbrev S1024 : Shape := ⟨1, ![1024]⟩
abbrev S1024x3072 : Shape := ⟨2, ![1024, 3072]⟩
abbrev S8192x3072 : Shape := ⟨2, ![8192, 3072]⟩
abbrev S8192x1024 : Shape := ⟨2, ![8192, 1024]⟩
abbrev S3072x1024 : Shape := ⟨2, ![3072, 1024]⟩
abbrev S8x384x1024 : Shape := ⟨3, ![8, 384, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 14
  | .vmem => 13
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x3072, .f32⟩
  | .hbm, ⟨3, _⟩ => ⟨S8192x3072, .f32⟩
  | .hbm, ⟨4, _⟩ => ⟨S8192x1024, .f32⟩
  | .hbm, ⟨5, _⟩ => ⟨S3072x1024, .f32⟩
  | .hbm, ⟨6, _⟩ => ⟨S3072x1024, .bf16⟩
  | .hbm, ⟨7, _⟩ => ⟨S8x384x1024, .bf16⟩
  | .hbm, ⟨8, _⟩ => ⟨S8192x3072, .bf16⟩
  | .hbm, ⟨9, _⟩ => ⟨S8192x1024, .f32⟩
  | .hbm, ⟨10, _⟩ => ⟨S1x1024, .f32⟩
  | .hbm, ⟨11, _⟩ => ⟨S8192x1024, .f32⟩
  | .hbm, ⟨12, _⟩ => ⟨S8192x1024, .bf16⟩
  | .hbm, ⟨13, _⟩ => ⟨S1x1024, .f32⟩
  | .local _ .vmem, ⟨0, _⟩ => ⟨S1024x3072, .bf16⟩
  | .local _ .vmem, ⟨1, _⟩ => ⟨S1024x3072, .bf16⟩
  | .local _ .vmem, ⟨2, _⟩ => ⟨S8x384x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InReferenceIdeal.lean ====
abbrev S1x8192x1024 : Shape := ⟨3, ![1, 8192, 1024]⟩
abbrev S1024 : Shape := ⟨1, ![1024]⟩
abbrev S1024x3072 : Shape := ⟨2, ![1024, 3072]⟩
abbrev S8192x3072 : Shape := ⟨2, ![8192, 3072]⟩
abbrev S8192x1024 : Shape := ⟨2, ![8192, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x3072 : Shape := ⟨3, ![1, 8192, 3072]⟩
abbrev S1x1024 : Shape := ⟨2, ![1, 1024]⟩
abbrev S8192 : Shape := ⟨1, ![8192]⟩

abbrev nBuf : Space → Nat
  | .hbm => 59
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x3072, .f32⟩
  | .hbm, ⟨3, _⟩ => ⟨S8192x3072, .f32⟩
  | .hbm, ⟨4, _⟩ => ⟨S8192x1024, .f32⟩
  | .hbm, ⟨5, _⟩ => ⟨S1x8192x1024, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S_, .f32⟩
  | .hbm, ⟨18, _⟩ => ⟨S1x8192x1, .f32⟩
  | .hbm, ⟨19, _⟩ => ⟨S1x8192x1, .f32⟩
  | .hbm, ⟨20, _⟩ => ⟨S1x8192x1024, .f32⟩
  | .hbm, ⟨21, _⟩ => ⟨S1x8192x1024, .f32⟩
  | .hbm, ⟨22, _⟩ => ⟨S1x1x1024, .f32⟩
  | .hbm, ⟨23, _⟩ => ⟨S1x8192x1024, .f32⟩
  | .hbm, ⟨24, _⟩ => ⟨S1x8192x1024, .f32⟩
  | .hbm, ⟨25, _⟩ => ⟨S1x8192x3072, .f32⟩
  | .hbm, ⟨26, _⟩ => ⟨S1x8192x3072, .f32⟩
  | .hbm, ⟨27, _⟩ => ⟨S1x8192x1024, .f32⟩
  | .hbm, ⟨28, _⟩ => ⟨S1x8192x1024, .f32⟩
  | .hbm, ⟨29, _⟩ => ⟨S1x8192x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x8192x1024, .f32⟩
  | .hbm, ⟨34, _⟩ => ⟨S1x8192x1024, .f32⟩
  | .hbm, ⟨35, _⟩ => ⟨S_, .f32⟩
  | .hbm, ⟨36, _⟩ => ⟨S1024, .f32⟩
  | .hbm, ⟨37, _⟩ => ⟨S1x8192x1024, .f32⟩
  | .hbm, ⟨38, _⟩ => ⟨S_, .f32⟩
  | .hbm, ⟨39, _⟩ => ⟨S1x8192, .f32⟩
  | .hbm, ⟨40, _⟩ => ⟨S1x8192x1, .f32⟩
  | .hbm, ⟨41, _⟩ => ⟨S1x8192x1024, .f32⟩
  | .hbm, ⟨42, _⟩ => ⟨S1x8192x1024, .f32⟩
  | .hbm, ⟨43, _⟩ => ⟨S1x8192x1024, .f32⟩
  | .hbm, ⟨44, _⟩ => ⟨S1x8192x1, .f32⟩
  | .hbm, ⟨45, _⟩ => ⟨S_, .f32⟩
  | .hbm, ⟨46, _⟩ => ⟨S1x8192x1, .f32⟩
  | .hbm, ⟨47, _⟩ => ⟨S1x8192x1, .f32⟩
  | .hbm, ⟨48, _⟩ => ⟨S_, .f32⟩
  | .hbm, ⟨49, _⟩ => ⟨S8192, .f32⟩
  | .hbm, ⟨50, _⟩ => ⟨S1x8192, .f32⟩
  | .hbm, ⟨51, _⟩ => ⟨S1x8192x1024, .f32⟩
  | .hbm, ⟨52, _⟩ => ⟨S1x8192x1024, .f32⟩
  | .hbm, ⟨53, _⟩ => ⟨S1x8192x1024, .f32⟩
  | .hbm, ⟨54, _⟩ => ⟨S1x8192x1024, .f32⟩
  | .hbm, ⟨55, _⟩ => ⟨S1x8192x1024, .f32⟩
  | .hbm, ⟨56, _⟩ => ⟨S8192x1024, .f32⟩
  | .hbm, ⟨57, _⟩ => ⟨S8192x1024, .bf16⟩
  | .hbm, ⟨58, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== MlpKernel.lean ====
abbrev S8192x1024 : Shape := ⟨2, ![8192, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S8x128x1024 : Shape := ⟨3, ![8, 128, 1024]⟩
abbrev S_ : Shape := ⟨0, ![]⟩
abbrev S8x352x1024 : Shape := ⟨3, ![8, 352, 1024]⟩
abbrev S8x1056x1024 : Shape := ⟨3, ![8, 1056, 1024]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 50
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S8192x1024, .f32⟩
  | .hbm, ⟨8, _⟩ => ⟨S8x128x1024, .f32⟩
  | .hbm, ⟨9, _⟩ => ⟨S_, .i32⟩
  | .hbm, ⟨10, _⟩ => ⟨S_, .f32⟩
  | .hbm, ⟨11, _⟩ => ⟨S8x352x1024, .f32⟩
  | .hbm, ⟨12, _⟩ => ⟨S2816x1024, .f32⟩
  | .hbm, ⟨13, _⟩ => ⟨S8x352x1024, .f32⟩
  | .hbm, ⟨14, _⟩ => ⟨S2816x1024, .f32⟩
  | .hbm, ⟨15, _⟩ => ⟨S8x352x1024, .f32⟩
  | .hbm, ⟨16, _⟩ => ⟨S8x1056x1024, .f32⟩
  | .hbm, ⟨17, _⟩ => ⟨S8x1056x1024, .bf16⟩
  | .hbm, ⟨18, _⟩ => ⟨S8x352x1024, .f32⟩
  | .hbm, ⟨19, _⟩ => ⟨S8x352x1024, .bf16⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x2816, .f32⟩
  | .hbm, ⟨39, _⟩ => ⟨S8192x2816, .bf16⟩
  | .hbm, ⟨40, _⟩ => ⟨S8192x2816, .f32⟩
  | .hbm, ⟨41, _⟩ => ⟨S8192x2816, .bf16⟩
  | .hbm, ⟨42, _⟩ => ⟨S8192x1024, .bf16⟩
  | .hbm, ⟨43, _⟩ => ⟨S1x1024, .f32⟩
  | .hbm, ⟨44, _⟩ => ⟨S8192x2816, .bf16⟩
  | .hbm, ⟨45, _⟩ => ⟨S8192x2816, .bf16⟩
  | .hbm, ⟨46, _⟩ => ⟨S8192x1024, .f32⟩
  | .hbm, ⟨47, _⟩ => ⟨S8192x1024, .bf16⟩
  | .hbm, ⟨48, _⟩ => ⟨S8192x1024, .f32⟩
  | .hbm, ⟨49, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S1x1024, .f32⟩
  | .local _ .vmem, ⟨11, _⟩ => ⟨S8x352x1024, .bf16⟩
  | .local _ .vmem, ⟨12, _⟩ => ⟨S8x352x1024, .bf16⟩
  | .local _ .vmem, ⟨13, _⟩ => ⟨S8x352x1024, .bf16⟩
  | .local _ .vmem, ⟨14, _⟩ => ⟨S8x128x1024, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | .local _ .vmem, ⟨23, _⟩ => ⟨S256x1024, .f32⟩
  | .local _ .vmem, ⟨24, _⟩ => ⟨S256x1024, .f32⟩
  | .local _ .vmem, ⟨25, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31_0 : Ref sig .tc := ⟨.hbm, 44, rfl⟩
abbrev main_v31_1 : Ref sig .tc := ⟨.hbm, 45, rfl⟩
abbrev main_v31_2 : Ref sig .tc := ⟨.hbm, 46, rfl⟩
abbrev main_v31_3 : Ref sig .tc := ⟨.hbm, 47, rfl⟩
abbrev main_v31_4 : Ref sig .tc := ⟨.hbm, 48, rfl⟩
abbrev main_v31_5 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_8 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x352x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x352x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x352x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== MlpReferenceIdeal.lean ====
abbrev S8192x1024 : Shape := ⟨2, ![8192, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192x2816 : Shape := ⟨2, ![8192, 2816]⟩
abbrev S8192 : Shape := ⟨1, ![8192]⟩
abbrev S8192x1 : Shape := ⟨2, ![8192, 1]⟩
abbrev S1x1024 : Shape := ⟨2, ![1, 1024]⟩

abbrev nBuf : Space → Nat
  | .hbm => 95
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S8192x1024, .f32⟩
  | .hbm, ⟨8, _⟩ => ⟨S_, .f32⟩
  | .hbm, ⟨9, _⟩ => ⟨S8192x2816, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S_, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x1024, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x2816, .bf16⟩
  | .hbm, ⟨92, _⟩ => ⟨S8192x2816, .bf16⟩
  | .hbm, ⟨93, _⟩ => ⟨S8192x1024, .bf16⟩
  | .hbm, ⟨94, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v21_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v21_1 : Ref sig .tc := ⟨.hbm, 45, rfl⟩
abbrev main_v21_0 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_4 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_5 : Ref sig .tc := ⟨.hbm, 70, rfl⟩
abbrev main_v41 : Ref sig .tc := ⟨.hbm, 71, rfl⟩
abbrev main_v42 : Ref sig .tc := ⟨.hbm, 72, rfl⟩
abbrev main_cst_6 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_7 : Ref sig .tc := ⟨.hbm, 80, rfl⟩
abbrev main_v49 : Ref sig .tc := ⟨.hbm, 81, rfl⟩
abbrev main_v50 : Ref sig .tc := ⟨.hbm, 82, rfl⟩
abbrev main_cst_8 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩

abbrev nD : Nat := 1
abbrev τ : Topo := Topo.v7x

variable {F : FTy → Type} [FloatOps F]
-- ==== RetKernel.lean ====
abbrev S8192x512 : Shape := ⟨2, ![8192, 512]⟩
abbrev S512 : Shape := ⟨1, ![512]⟩
abbrev S_ : Shape := ⟨0, ![]⟩
abbrev S8192x1024 : Shape := ⟨2, ![8192, 1024]⟩
abbrev S8192x3072 : Shape := ⟨2, ![8192, 3072]⟩
abbrev S8192 : Shape := ⟨1, ![8192]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S1x1x128 : Shape := ⟨3, ![1, 1, 128]⟩
abbrev S4x1 : Shape := ⟨2, ![4, 1]⟩
abbrev S4x256 : Shape := ⟨2, ![4, 256]⟩
abbrev S4x256x1 : Shape := ⟨3, ![4, 256, 1]⟩
abbrev S4x256x128 : Shape := ⟨3, ![4, 256, 128]⟩
abbrev S1x8x128 : Shape := ⟨3, ![1, 8, 128]⟩
abbrev S4x8x128 : Shape := ⟨3, ![4, 8, 128]⟩
abbrev S1x512 : Shape := ⟨2, ![1, 512]⟩
abbrev S32x1x256x128 : Shape := ⟨4, ![32, 1, 256, 128]⟩
abbrev S32x256x4x128 : Shape := ⟨4, ![32, 256, 4, 128]⟩
abbrev S32x4x256x128 : Shape := ⟨4, ![32, 4, 256, 128]⟩
abbrev S32x4x256x64 : Shape := ⟨4, ![32, 4, 256, 64]⟩
abbrev S32x4x256x256 : Shape := ⟨4, ![32, 4, 256, 256]⟩
abbrev S1x4x256x256 : Shape := ⟨4, ![1, 4, 256, 256]⟩
abbrev S1x4x256x128 : Shape := ⟨4, ![1, 4, 256, 128]⟩
abbrev S32x4x128x128 : Shape := ⟨4, ![32, 4, 128, 128]⟩
abbrev S4x1x128 : Shape := ⟨3, ![4, 1, 128]⟩
abbrev S1x4x1x128 : Shape := ⟨4, ![1, 4, 1, 128]⟩
abbrev S1x4x128x128 : Shape := ⟨4, ![1, 4, 128, 128]⟩
abbrev S16x4x128x128 : Shape := ⟨4, ![16, 4, 128, 128]⟩
abbrev S256x512 : Shape := ⟨2, ![256, 512]⟩
abbrev S256x1024 : Shape := ⟨2, ![256, 1024]⟩
abbrev S256x128 : Shape := ⟨2, ![256, 128]⟩
abbrev S256x3072 : Shape := ⟨2, ![256, 3072]⟩
abbrev S4x128x128 : Shape := ⟨3, ![4, 128, 128]⟩
abbrev S1x1x128x128 : Shape := ⟨4, ![1, 1, 128, 128]⟩
abbrev S128x128 : Shape := ⟨2, ![128, 128]⟩
abbrev S1x128 : Shape := ⟨2, ![1, 128]⟩
abbrev S128 : Shape := ⟨1, ![128]⟩
abbrev S1x256x128 : Shape := ⟨3, ![1, 256, 128]⟩
abbrev S1x128x128 : Shape := ⟨3, ![1, 128, 128]⟩

abbrev nBuf : Space → Nat
  | .hbm => 281
  | .vmem => 29
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S512, .f32⟩
  | 5 => ⟨S8192x512, .f32⟩
  | 6 => ⟨S_, .f32⟩
  | 7 => ⟨S8192x1024, .f32⟩
  | 8 => ⟨S8192x3072, .f32⟩
  | 9 => ⟨S_, .f32⟩
  | 10 => ⟨S8192x512, .f32⟩
  | 11 => ⟨S8192x1024, .f32⟩
  | 12 => ⟨S8192, .f32⟩
  | 13 => ⟨S64, .f32⟩
  | 14 => ⟨S64, .f32⟩
  | 15 => ⟨S_, .f32⟩
  | 16 => ⟨S64, .f32⟩
  | 17 => ⟨S64, .f32⟩
  | 18 => ⟨S_, .f32⟩
  | 19 => ⟨S64, .f32⟩
  | 20 => ⟨S64, .f32⟩
  | 21 => ⟨S8192x1, .f32⟩
  | 22 => ⟨S1x64, .f32⟩
  | 23 => ⟨S8192x64, .f32⟩
  | 24 => ⟨S8192x64, .f32⟩
  | 25 => ⟨S8192x64, .f32⟩
  | 26 => ⟨S8192x64, .f32⟩
  | 27 => ⟨S8192x64, .f32⟩
  | 28 => ⟨S8192x128, .f32⟩
  | 29 => ⟨S8192x64, .f32⟩
  | 30 => ⟨S8192x128, .f32⟩
  | 31 => ⟨S4, .f32⟩
  | 32 => ⟨S_, .f32⟩
  | 33 => ⟨S4, .f32⟩
  | 34 => ⟨S4, .f32⟩
  | 35 => ⟨S_, .f32⟩
  | 36 => ⟨S4, .f32⟩
  | 37 => ⟨S4, .f32⟩
  | 38 => ⟨S_, .f32⟩
  | 39 => ⟨S4, .f32⟩
  | 40 => ⟨S4, .f32⟩
  | 41 => ⟨S4, .f32⟩
  | 42 => ⟨S256, .f32⟩
  | 43 => ⟨S256, .i32⟩
  | 44 => ⟨S_, .i32⟩
  | 45 => ⟨S_, .i32⟩
  | 46 => ⟨S256, .i32⟩
  | 47 => ⟨S256, .i32⟩
  | 48 => ⟨S256, .i32⟩
  | 49 => ⟨S_, .i32⟩
  | 50 => ⟨S256, .i32⟩
  | 51 => ⟨S256, .i1⟩
  | 52 => ⟨S256, .i32⟩
  | 53 => ⟨S256, .i32⟩
  | 54 => ⟨S_, .i32⟩
  | 55 => ⟨S256, .i32⟩
  | 56 => ⟨S256, .i1⟩
  | 57 => ⟨S256, .i1⟩
  | 58 => ⟨S_, .i32⟩
  | 59 => ⟨S256, .i32⟩
  | 60 => ⟨S256, .i32⟩
  | 61 => ⟨S256, .i32⟩
  | 62 => ⟨S256x1, .f32⟩
  | 63 => ⟨S1x256, .f32⟩
  | 64 => ⟨S256x256, .f32⟩
  | 65 => ⟨S256x256, .f32⟩
  | 66 => ⟨S256x256, .f32⟩
  | 67 => ⟨S256x1, .i32⟩
  | 68 => ⟨S1x256, .i32⟩
  | 69 => ⟨S256x256, .i32⟩
  | 70 => ⟨S256x256, .i32⟩
  | 71 => ⟨S256x256, .i1⟩
  | 72 => ⟨S1x256, .i32⟩
  | 73 => ⟨S256x1, .i32⟩
  | 74 => ⟨S256x256, .i32⟩
  | 75 => ⟨S256x256, .i32⟩
  | 76 => ⟨S256x256, .i1⟩
  | 77 => ⟨S256x256, .f32⟩
  | 78 => ⟨S256x256, .f32⟩
  | 79 => ⟨S256x256, .i1⟩
  | 80 => ⟨S1x256x256, .i1⟩
  | 81 => ⟨S4x1x1, .f32⟩
  | 82 => ⟨S1x256x256, .f32⟩
  | 83 => ⟨S4x256x256, .f32⟩
  | 84 => ⟨S4x256x256, .f32⟩
  | 85 => ⟨S4x256x256, .f32⟩
  | 86 => ⟨S4x256x256, .f32⟩
  | 87 => ⟨S_, .f32⟩
  | 88 => ⟨S_, .f32⟩
  | 89 => ⟨S4x256x256, .i1⟩
  | 90 => ⟨S4x256x256, .f32⟩
  | 91 => ⟨S4x256x256, .f32⟩
  | 92 => ⟨S_, .f32⟩
  | 93 => ⟨S1x1x128, .f32⟩
  | 94 => ⟨S4x1, .f32⟩
  | 95 => ⟨S_, .f32⟩
  | 96 => ⟨S256, .f32⟩
  | 97 => ⟨S256, .f32⟩
  | 98 => ⟨S1x256, .f32⟩
  | 99 => ⟨S4x256, .f32⟩
  | 100 => ⟨S4x256, .f32⟩
  | 101 => ⟨S4x256, .f32⟩
  | 102 => ⟨S4x256, .f32⟩
  | 103 => ⟨S4x256x1, .f32⟩
  | 104 => ⟨S4x256x128, .f32⟩
  | 105 => ⟨S4x256x128, .f32⟩
  | 106 => ⟨S4x256x128, .f32⟩
  | 107 => ⟨S4x1, .f32⟩
  | 108 => ⟨S_, .f32⟩
  | 109 => ⟨S256, .f32⟩
  | 110 => ⟨S256, .f32⟩
  | 111 => ⟨S1x256, .f32⟩
  | 112 => ⟨S4x256, .f32⟩
  | 113 => ⟨S4x256, .f32⟩
  | 114 => ⟨S4x256, .f32⟩
  | 115 => ⟨S4x256, .f32⟩
  | 116 => ⟨S4x256x1, .f32⟩
  | 117 => ⟨S4x256x128, .f32⟩
  | 118 => ⟨S4x256x128, .f32⟩
  | 119 => ⟨S4x256x128, .f32⟩
  | 120 => ⟨S_, .f32⟩
  | 121 => ⟨S4, .f32⟩
  | 122 => ⟨S4, .f32⟩
  | 123 => ⟨S4, .f32⟩
  | 124 => ⟨S4x1x1, .f32⟩
  | 125 => ⟨S_, .f32⟩
  | 126 => ⟨S1x8x128, .f32⟩
  | 127 => ⟨S4x8x128, .f32⟩
  | _ => ⟨S8192x512, .f32⟩

abbrev hbmTy0_1 (i : Nat) : BufTy := match i % 128 with
  | 0 => ⟨S4x8x128, .f32⟩
  | 1 => ⟨S4x8x128, .f32⟩
  | 2 => ⟨S1x512, .f32⟩
  | 3 => ⟨S32x1x256x128, .f32⟩
  | 4 => ⟨S32x1x256x128, .f32⟩
  | 5 => ⟨S32x256x4x128, .f32⟩
  | 6 => ⟨S32x4x256x128, .f32⟩
  | 7 => ⟨S32x256x4x128, .f32⟩
  | 8 => ⟨S32x4x256x128, .f32⟩
  | 9 => ⟨S32x256x4x128, .f32⟩
  | 10 => ⟨S32x4x256x128, .f32⟩
  | 11 => ⟨S32x4x256x128, .f32⟩
  | 12 => ⟨S32x4x256x128, .f32⟩
  | 13 => ⟨S32x4x256x64, .f32⟩
  | 14 => ⟨S32x4x256x64, .f32⟩
  | 15 => ⟨S32x4x256x128, .f32⟩
  | 16 => ⟨S32x4x256x128, .f32⟩
  | 17 => ⟨S32x4x256x128, .f32⟩
  | 18 => ⟨S32x4x256x128, .f32⟩
  | 19 => ⟨S32x4x256x128, .f32⟩
  | 20 => ⟨S32x4x256x128, .f32⟩
  | 21 => ⟨S32x4x256x64, .f32⟩
  | 22 => ⟨S32x4x256x64, .f32⟩
  | 23 => ⟨S32x4x256x128, .f32⟩
  | 24 => ⟨S32x4x256x128, .f32⟩
  | 25 => ⟨S32x4x256x128, .f32⟩
  | 26 => ⟨S32x4x256x128, .f32⟩
  | 27 => ⟨S_, .f32⟩
  | 28 => ⟨S32x4x256x128, .f32⟩
  | 29 => ⟨S32x4x256x128, .f32⟩
  | 30 => ⟨S32x4x256x256, .f32⟩
  | 31 => ⟨S1x4x256x256, .f32⟩
  | 32 => ⟨S32x4x256x256, .f32⟩
  | 33 => ⟨S32x4x256x256, .f32⟩
  | 34 => ⟨S1x4x256x128, .f32⟩
  | 35 => ⟨S32x4x256x128, .f32⟩
  | 36 => ⟨S32x4x256x128, .f32⟩
  | 37 => ⟨S32x4x128x128, .f32⟩
  | 38 => ⟨S4x1x128, .f32⟩
  | 39 => ⟨S1x4x1x128, .f32⟩
  | 40 => ⟨S1x4x128x128, .f32⟩
  | 41 => ⟨S_, .f32⟩
  | 42 => ⟨S1x4x128x128, .f32⟩
  | 43 => ⟨S1x4x128x128, .f32⟩
  | 44 => ⟨S1x4x128x128, .f32⟩
  | 45 => ⟨S1x4x128x128, .f32⟩
  | 46 => ⟨S1x4x128x128, .f32⟩
  | 47 => ⟨S1x4x128x128, .f32⟩
  | 48 => ⟨S1x4x128x128, .f32⟩
  | 49 => ⟨S1x4x128x128, .f32⟩
  | 50 => ⟨S1x4x128x128, .f32⟩
  | 51 => ⟨S1x4x128x128, .f32⟩
  | 52 => ⟨S1x4x128x128, .f32⟩
  | 53 => ⟨S1x4x128x128, .f32⟩
  | 54 => ⟨S1x4x128x128, .f32⟩
  | 55 => ⟨S1x4x128x128, .f32⟩
  | 56 => ⟨S1x4x128x128, .f32⟩
  | 57 => ⟨S1x4x128x128, .f32⟩
  | 58 => ⟨S1x4x128x128, .f32⟩
  | 59 => ⟨S1x4x128x128, .f32⟩
  | 60 => ⟨S1x4x128x128, .f32⟩
  | 61 => ⟨S1x4x128x128, .f32⟩
  | 62 => ⟨S1x4x128x128, .f32⟩
  | 63 => ⟨S1x4x128x128, .f32⟩
  | 64 => ⟨S1x4x128x128, .f32⟩
  | 65 => ⟨S1x4x128x128, .f32⟩
  | 66 => ⟨S1x4x128x128, .f32⟩
  | 67 => ⟨S1x4x128x128, .f32⟩
  | 68 => ⟨S1x4x128x128, .f32⟩
  | 69 => ⟨S1x4x128x128, .f32⟩
  | 70 => ⟨S1x4x128x128, .f32⟩
  | 71 => ⟨S1x4x128x128, .f32⟩
  | 72 => ⟨S1x4x128x128, .f32⟩
  | 73 => ⟨S1x4x128x128, .f32⟩
  | 74 => ⟨S1x4x128x128, .f32⟩
  | 75 => ⟨S1x4x128x128, .f32⟩
  | 76 => ⟨S1x4x128x128, .f32⟩
  | 77 => ⟨S1x4x128x128, .f32⟩
  | 78 => ⟨S1x4x128x128, .f32⟩
  | 79 => ⟨S1x4x128x128, .f32⟩
  | 80 => ⟨S1x4x128x128, .f32⟩
  | 81 => ⟨S1x4x128x128, .f32⟩
  | 82 => ⟨S1x4x128x128, .f32⟩
  | 83 => ⟨S1x4x128x128, .f32⟩
  | 84 => ⟨S1x4x128x128, .f32⟩
  | 85 => ⟨S1x4x128x128, .f32⟩
  | 86 => ⟨S1x4x128x128, .f32⟩
  | 87 => ⟨S1x4x128x128, .f32⟩
  | 88 => ⟨S1x4x128x128, .f32⟩
  | 89 => ⟨S1x4x128x128, .f32⟩
  | 90 => ⟨S1x4x128x128, .f32⟩
  | 91 => ⟨S1x4x128x128, .f32⟩
  | 92 => ⟨S1x4x128x128, .f32⟩
  | 93 => ⟨S1x4x128x128, .f32⟩
  | 94 => ⟨S1x4x128x128, .f32⟩
  | 95 => ⟨S1x4x128x128, .f32⟩
  | 96 => ⟨S1x4x128x128, .f32⟩
  | 97 => ⟨S1x4x128x128, .f32⟩
  | 98 => ⟨S1x4x128x128, .f32⟩
  | 99 => ⟨S1x4x128x128, .f32⟩
  | 100 => ⟨S1x4x128x128, .f32⟩
  | 101 => ⟨S1x4x128x128, .f32⟩
  | 102 => ⟨S1x4x128x128, .f32⟩
  | 103 => ⟨S1x4x128x128, .f32⟩
  | 104 => ⟨S1x4x128x128, .f32⟩
  | 105 => ⟨S1x4x128x128, .f32⟩
  | 106 => ⟨S1x4x128x128, .f32⟩
  | 107 => ⟨S1x4x128x128, .f32⟩
  | 108 => ⟨S1x4x128x128, .f32⟩
  | 109 => ⟨S1x4x128x128, .f32⟩
  | 110 => ⟨S1x4x128x128, .f32⟩
  | 111 => ⟨S1x4x128x128, .f32⟩
  | 112 => ⟨S1x4x128x128, .f32⟩
  | 113 => ⟨S1x4x128x128, .f32⟩
  | 114 => ⟨S1x4x128x128, .f32⟩
  | 115 => ⟨S1x4x128x128, .f32⟩
  | 116 => ⟨S1x4x128x128, .f32⟩
  | 117 => ⟨S1x4x128x128, .f32⟩
  | 118 => ⟨S1x4x128x128, .f32⟩
  | 119 => ⟨S1x4x128x128, .f32⟩
  | 120 => ⟨S1x4x128x128, .f32⟩
  | 121 => ⟨S1x4x128x128, .f32⟩
  | 122 => ⟨S1x4x128x128, .f32⟩
  | 123 => ⟨S1x4x128x128, .f32⟩
  | 124 => ⟨S1x4x128x128, .f32⟩
  | 125 => ⟨S1x4x128x128, .f32⟩
  | 126 => ⟨S1x4x128x128, .f32⟩
  | 127 => ⟨S1x4x128x128, .f32⟩
  | _ => ⟨S8192x512, .f32⟩

abbrev hbmTy0_2 (i : Nat) : BufTy := match i % 128 with
  | 0 => ⟨S1x4x128x128, .f32⟩
  | 1 => ⟨S1x4x128x128, .f32⟩
  | 2 => ⟨S1x4x128x128, .f32⟩
  | 3 => ⟨S1x4x128x128, .f32⟩
  | 4 => ⟨S1x4x128x128, .f32⟩
  | 5 => ⟨S1x4x128x128, .f32⟩
  | 6 => ⟨S1x4x128x128, .f32⟩
  | 7 => ⟨S1x4x128x128, .f32⟩
  | 8 => ⟨S16x4x128x128, .f32⟩
  | 9 => ⟨S16x4x128x128, .f32⟩
  | 10 => ⟨S32x4x128x128, .f32⟩
  | 11 => ⟨S32x4x256x128, .f32⟩
  | 12 => ⟨S1x4x256x128, .f32⟩
  | 13 => ⟨S32x4x256x128, .f32⟩
  | 14 => ⟨S32x4x256x128, .f32⟩
  | 15 => ⟨S32x4x256x128, .f32⟩
  | 16 => ⟨S32x4x256x128, .f32⟩
  | 17 => ⟨S32x256x4x128, .f32⟩
  | 18 => ⟨S8192x512, .f32⟩
  | 19 => ⟨S32x4x128x128, .bf16⟩
  | 20 => ⟨S8192x1024, .bf16⟩
  | 21 => ⟨S8192x3072, .bf16⟩
  | 22 => ⟨S1x512, .f32⟩
  | 23 => ⟨S8192x512, .bf16⟩
  | 24 => ⟨S8192x512, .bf16⟩
  | _ => ⟨S8192x512, .f32⟩

abbrev hbmTy (i : Nat) : BufTy := match i / 128 with
  | 0 => hbmTy0_0 i
  | 1 => hbmTy0_1 i
  | 2 => hbmTy0_2 i
  | _ => ⟨S8192x512, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x1024, .bf16⟩
  | .local _ .vmem, ⟨3, _⟩ => ⟨S256x1024, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S1x4x128x128, .bf16⟩
  | .local _ .vmem, ⟨15, _⟩ => ⟨S1x4x128x128, .bf16⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S4x256x256, .f32⟩
  | .local _ .vmem, ⟨21, _⟩ => ⟨S4x256x128, .f32⟩
  | .local _ .vmem, ⟨22, _⟩ => ⟨S4x256x128, .f32⟩
  | .local _ .vmem, ⟨23, _⟩ => ⟨S4x8x128, .f32⟩
  | .local _ .vmem, ⟨24, _⟩ => ⟨S1x512, .f32⟩
  | .local _ .vmem, ⟨25, _⟩ => ⟨S256x3072, .bf16⟩
  | .local _ .vmem, ⟨26, _⟩ => ⟨S256x3072, .bf16⟩
  | .local _ .vmem, ⟨27, _⟩ => ⟨S1x512, .f32⟩
  | .local _ .vmem, ⟨28, _⟩ => ⟨S4x128x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_v8 : Ref sig .tc := ⟨.hbm, 53, rfl⟩
abbrev main_call0_c : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_0 : Ref sig .tc := ⟨.hbm, 58, rfl⟩
abbrev main_call0_v12 : Ref sig .tc := ⟨.hbm, 59, rfl⟩
abbrev main_call0_v13 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_6 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_v57 : Ref sig .tc := ⟨.hbm, 91, rfl⟩
abbrev main_cst_7 : Ref sig .tc := ⟨.hbm, 92, rfl⟩
abbrev main_v58 : Ref sig .tc := ⟨.hbm, 93, rfl⟩
abbrev main_v59 : Ref sig .tc := ⟨.hbm, 94, rfl⟩
abbrev main_cst_8 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_9 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_10 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_11 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_cst_12 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_cst_13 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_v223 : Ref sig .tc := ⟨.hbm, 264, rfl⟩
abbrev main_v224 : Ref sig .tc := ⟨.hbm, 265, rfl⟩
abbrev main_v225 : Ref sig .tc := ⟨.hbm, 266, rfl⟩
abbrev main_v226 : Ref sig .tc := ⟨.hbm, 267, rfl⟩
abbrev main_v227 : Ref sig .tc := ⟨.hbm, 268, rfl⟩
abbrev main_v228 : Ref sig .tc := ⟨.hbm, 269, rfl⟩
abbrev main_v229 : Ref sig .tc := ⟨.hbm, 270, rfl⟩
abbrev main_v230 : Ref sig .tc := ⟨.hbm, 271, rfl⟩
abbrev main_v231 : Ref sig .tc := ⟨.hbm, 272, rfl⟩
abbrev main_v232 : Ref sig .tc := ⟨.hbm, 273, rfl⟩
abbrev main_v233 : Ref sig .tc := ⟨.hbm, 274, rfl⟩
abbrev main_v234 : Ref sig .tc := ⟨.hbm, 275, rfl⟩
abbrev main_v235 : Ref sig .tc := ⟨.hbm, 276, rfl⟩
abbrev main_v236_0 : Ref sig .tc := ⟨.hbm, 277, rfl⟩
abbrev main_v236_1 : Ref sig .tc := ⟨.hbm, 278, rfl⟩
abbrev main_v237 : Ref sig .tc := ⟨.hbm, 279, rfl⟩
abbrev main_v238 : Ref sig .tc := ⟨.hbm, 280, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26
abbrev cc0_sem16_0 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c3_i32 : BitVec 32 := 3#32
  let c0_i32 : BitVec 32 := 0#32
  ![v0.toNat, c3_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c4_i32 : BitVec 32 := 4#32
  let c0_i32 : BitVec 32 := 0#32
  ![v0.toNat, c4_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c5_i32 : BitVec 32 := 5#32
  let c0_i32 : BitVec 32 := 0#32
  ![v0.toNat, c5_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x3072 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== RetReferenceIdeal.lean ====
abbrev S8192x512 : Shape := ⟨2, ![8192, 512]⟩
abbrev S512 : Shape := ⟨1, ![512]⟩
abbrev S1x8192x512 : Shape := ⟨3, ![1, 8192, 512]⟩
abbrev S8192 : Shape := ⟨1, ![8192]⟩
abbrev S1x8192x4x128 : Shape := ⟨4, ![1, 8192, 4, 128]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S1x8192x4x64 : Shape := ⟨4, ![1, 8192, 4, 64]⟩
abbrev S1x128x64x4x128 : Shape := ⟨5, ![1, 128, 64, 4, 128]⟩
abbrev S1x4x128x64x128 : Shape := ⟨5, ![1, 4, 128, 64, 128]⟩
abbrev S4 : Shape := ⟨1, ![4]⟩
abbrev S4x1x1 : Shape := ⟨3, ![4, 1, 1]⟩
abbrev S64x1 : Shape := ⟨2, ![64, 1]⟩
abbrev S64x64 : Shape := ⟨2, ![64, 64]⟩
abbrev S1x64x64 : Shape := ⟨3, ![1, 64, 64]⟩
abbrev S4x64x64 : Shape := ⟨3, ![4, 64, 64]⟩
abbrev S1x4x128x64x64 : Shape := ⟨5, ![1, 4, 128, 64, 64]⟩
abbrev S1x4x1x64x64 : Shape := ⟨5, ![1, 4, 1, 64, 64]⟩
abbrev S4x1 : Shape := ⟨2, ![4, 1]⟩
abbrev S4x64 : Shape := ⟨2, ![4, 64]⟩
abbrev S1x4x1x64x1 : Shape := ⟨5, ![1, 4, 1, 64, 1]⟩
abbrev S128x1x4x128x128 : Shape := ⟨5, ![128, 1, 4, 128, 128]⟩
abbrev S1x4x1x1 : Shape := ⟨4, ![1, 4, 1, 1]⟩
abbrev S1x4x128x128 : Shape := ⟨4, ![1, 4, 128, 128]⟩
abbrev S1x1x4x128x128 : Shape := ⟨5, ![1, 1, 4, 128, 128]⟩
abbrev S1x8192x4 : Shape := ⟨3, ![1, 8192, 4]⟩
abbrev S1x8192x4x1 : Shape := ⟨4, ![1, 8192, 4, 1]⟩
abbrev S1x1x512 : Shape := ⟨3, ![1, 1, 512]⟩
abbrev S1x512 : Shape := ⟨2, ![1, 512]⟩
abbrev S8192x4 : Shape := ⟨2, ![8192, 4]⟩

abbrev nBuf : Space → Nat
  | .hbm => 310
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S512, .f32⟩
  | 5 => ⟨S8192x512, .f32⟩
  | 6 => ⟨S1x8192x512, .f32⟩
  | 7 => ⟨S1x8192x512, .f32⟩
  | 8 => ⟨S1x8192x512, .f32⟩
  | 9 => ⟨S1x8192x512, .f32⟩
  | 10 => ⟨S8192, .f32⟩
  | 11 => ⟨S1x8192x4x128, .f32⟩
  | 12 => ⟨S64, .f32⟩
  | 13 => ⟨S64, .f32⟩
  | 14 => ⟨S_, .f32⟩
  | 15 => ⟨S64, .f32⟩
  | 16 => ⟨S64, .f32⟩
  | 17 => ⟨S_, .f32⟩
  | 18 => ⟨S64, .f32⟩
  | 19 => ⟨S64, .f32⟩
  | 20 => ⟨S8192x1, .f32⟩
  | 21 => ⟨S1x64, .f32⟩
  | 22 => ⟨S8192x64, .f32⟩
  | 23 => ⟨S8192x64, .f32⟩
  | 24 => ⟨S8192x64, .f32⟩
  | 25 => ⟨S8192x64, .f32⟩
  | 26 => ⟨S1x8192x1x64, .f32⟩
  | 27 => ⟨S8192x64, .f32⟩
  | 28 => ⟨S1x8192x1x64, .f32⟩
  | 29 => ⟨S1x8192x4x64, .f32⟩
  | 30 => ⟨S1x8192x4x64, .f32⟩
  | 31 => ⟨S1x8192x4x64, .f32⟩
  | 32 => ⟨S1x8192x4x64, .f32⟩
  | 33 => ⟨S1x8192x4x64, .f32⟩
  | 34 => ⟨S1x8192x4x64, .f32⟩
  | 35 => ⟨S1x8192x4x64, .f32⟩
  | 36 => ⟨S1x8192x4x64, .f32⟩
  | 37 => ⟨S1x8192x4x64, .f32⟩
  | 38 => ⟨S1x8192x4x64, .f32⟩
  | 39 => ⟨S1x8192x4x64, .f32⟩
  | 40 => ⟨S1x8192x4x64, .f32⟩
  | 41 => ⟨S1x8192x4x128, .f32⟩
  | 42 => ⟨S1x8192x4x128, .f32⟩
  | 43 => ⟨S64, .f32⟩
  | 44 => ⟨S64, .f32⟩
  | 45 => ⟨S_, .f32⟩
  | 46 => ⟨S64, .f32⟩
  | 47 => ⟨S64, .f32⟩
  | 48 => ⟨S_, .f32⟩
  | 49 => ⟨S64, .f32⟩
  | 50 => ⟨S64, .f32⟩
  | 51 => ⟨S8192x1, .f32⟩
  | 52 => ⟨S1x64, .f32⟩
  | 53 => ⟨S8192x64, .f32⟩
  | 54 => ⟨S8192x64, .f32⟩
  | 55 => ⟨S8192x64, .f32⟩
  | 56 => ⟨S8192x64, .f32⟩
  | 57 => ⟨S1x8192x1x64, .f32⟩
  | 58 => ⟨S8192x64, .f32⟩
  | 59 => ⟨S1x8192x1x64, .f32⟩
  | 60 => ⟨S1x8192x4x64, .f32⟩
  | 61 => ⟨S1x8192x4x64, .f32⟩
  | 62 => ⟨S1x8192x4x64, .f32⟩
  | 63 => ⟨S1x8192x4x64, .f32⟩
  | 64 => ⟨S1x8192x4x64, .f32⟩
  | 65 => ⟨S1x8192x4x64, .f32⟩
  | 66 => ⟨S1x8192x4x64, .f32⟩
  | 67 => ⟨S1x8192x4x64, .f32⟩
  | 68 => ⟨S1x8192x4x64, .f32⟩
  | 69 => ⟨S1x8192x4x64, .f32⟩
  | 70 => ⟨S1x8192x4x64, .f32⟩
  | 71 => ⟨S1x8192x4x64, .f32⟩
  | 72 => ⟨S1x8192x4x128, .f32⟩
  | 73 => ⟨S_, .f32⟩
  | 74 => ⟨S1x8192x4x128, .f32⟩
  | 75 => ⟨S1x8192x4x128, .f32⟩
  | 76 => ⟨S1x8192x4x128, .f32⟩
  | 77 => ⟨S1x128x64x4x128, .f32⟩
  | 78 => ⟨S1x4x128x64x128, .f32⟩
  | 79 => ⟨S1x128x64x4x128, .f32⟩
  | 80 => ⟨S1x4x128x64x128, .f32⟩
  | 81 => ⟨S1x128x64x4x128, .f32⟩
  | 82 => ⟨S1x4x128x64x128, .f32⟩
  | 83 => ⟨S4, .f32⟩
  | 84 => ⟨S_, .f32⟩
  | 85 => ⟨S4, .f32⟩
  | 86 => ⟨S4, .f32⟩
  | 87 => ⟨S_, .f32⟩
  | 88 => ⟨S4, .f32⟩
  | 89 => ⟨S4, .f32⟩
  | 90 => ⟨S_, .f32⟩
  | 91 => ⟨S4, .f32⟩
  | 92 => ⟨S4, .f32⟩
  | 93 => ⟨S4, .f32⟩
  | 94 => ⟨S64, .f32⟩
  | 95 => ⟨S4x1x1, .f32⟩
  | 96 => ⟨S64x1, .f32⟩
  | 97 => ⟨S1x64, .f32⟩
  | 98 => ⟨S64x64, .f32⟩
  | 99 => ⟨S64x64, .f32⟩
  | 100 => ⟨S64x64, .f32⟩
  | 101 => ⟨S64x64, .f32⟩
  | 102 => ⟨S1x64x64, .f32⟩
  | 103 => ⟨S4x64x64, .f32⟩
  | 104 => ⟨S4x64x64, .f32⟩
  | 105 => ⟨S4x64x64, .f32⟩
  | 106 => ⟨S4x64x64, .f32⟩
  | 107 => ⟨S1x4x128x64x64, .f32⟩
  | 108 => ⟨S1x4x1x64x64, .f32⟩
  | 109 => ⟨S1x4x128x64x64, .f32⟩
  | 110 => ⟨S1x4x128x64x64, .f32⟩
  | 111 => ⟨S1x4x128x64x128, .f32⟩
  | 112 => ⟨S4x1, .f32⟩
  | 113 => ⟨S_, .f32⟩
  | 114 => ⟨S64, .f32⟩
  | 115 => ⟨S64, .f32⟩
  | 116 => ⟨S1x64, .f32⟩
  | 117 => ⟨S4x64, .f32⟩
  | 118 => ⟨S4x64, .f32⟩
  | 119 => ⟨S4x64, .f32⟩
  | 120 => ⟨S4x64, .f32⟩
  | 121 => ⟨S1x4x1x64x1, .f32⟩
  | 122 => ⟨S1x4x128x64x128, .f32⟩
  | 123 => ⟨S1x4x128x64x128, .f32⟩
  | 124 => ⟨S128x1x4x128x128, .f32⟩
  | 125 => ⟨S_, .f32⟩
  | 126 => ⟨S4, .f32⟩
  | 127 => ⟨S4, .f32⟩
  | _ => ⟨S8192x512, .f32⟩

abbrev hbmTy0_1 (i : Nat) : BufTy := match i % 128 with
  | 0 => ⟨S4, .f32⟩
  | 1 => ⟨S1x4x1x1, .f32⟩
  | 2 => ⟨S_, .f32⟩
  | 3 => ⟨S1x4x128x128, .f32⟩
  | 4 => ⟨S_, .f32⟩
  | 5 => ⟨S128x1x4x128x128, .f32⟩
  | 6 => ⟨S_, .i32⟩
  | 7 => ⟨S128x1x4x128x128, .f32⟩
  | 8 => ⟨S1x4x1x1, .f32⟩
  | 9 => ⟨S_, .i32⟩
  | 10 => ⟨S1x4x128x128, .f32⟩
  | 11 => ⟨S128x1x4x128x128, .f32⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S1x1x4x128x128, .f32⟩
  | 19 => ⟨S1x4x128x128, .f32⟩
  | 20 => ⟨S1x4x128x128, .f32⟩
  | 21 => ⟨S1x4x128x128, .f32⟩
  | 22 => ⟨S1x4x128x128, .f32⟩
  | 23 => ⟨S1x1x4x128x128, .f32⟩
  | 24 => ⟨S_, .i32⟩
  | 25 => ⟨S_, .i32⟩
  | 26 => ⟨S_, .i32⟩
  | 27 => ⟨S_, .i32⟩
  | 28 => ⟨S128x1x4x128x128, .f32⟩
  | 29 => ⟨S_, .i32⟩
  | 30 => ⟨S_, .i32⟩
  | 31 => ⟨S4x1, .f32⟩
  | 32 => ⟨S_, .f32⟩
  | 33 => ⟨S64, .f32⟩
  | 34 => ⟨S64, .f32⟩
  | 35 => ⟨S1x64, .f32⟩
  | 36 => ⟨S4x64, .f32⟩
  | 37 => ⟨S4x64, .f32⟩
  | 38 => ⟨S4x64, .f32⟩
  | 39 => ⟨S4x64, .f32⟩
  | 40 => ⟨S1x4x1x64x1, .f32⟩
  | 41 => ⟨S1x4x128x64x128, .f32⟩
  | 42 => ⟨S1x4x128x64x128, .f32⟩
  | 43 => ⟨S1x4x128x64x128, .f32⟩
  | 44 => ⟨S1x4x128x64x128, .f32⟩
  | 45 => ⟨S1x128x64x4x128, .f32⟩
  | 46 => ⟨S1x8192x4x128, .f32⟩
  | 47 => ⟨S_, .f32⟩
  | 48 => ⟨S1x8192x4, .f32⟩
  | 49 => ⟨S1x8192x4x1, .f32⟩
  | 50 => ⟨S_, .f32⟩
  | 51 => ⟨S1x8192x4x1, .f32⟩
  | 52 => ⟨S1x8192x4x1, .f32⟩
  | 53 => ⟨S1x8192x4x128, .f32⟩
  | 54 => ⟨S1x8192x4x128, .f32⟩
  | 55 => ⟨S1x8192x4x128, .f32⟩
  | 56 => ⟨S_, .f32⟩
  | 57 => ⟨S1x8192x4x128, .f32⟩
  | 58 => ⟨S1x8192x4x128, .f32⟩
  | 59 => ⟨S_, .f32⟩
  | 60 => ⟨S1x8192x4, .f32⟩
  | 61 => ⟨S1x8192x4x1, .f32⟩
  | 62 => ⟨S_, .f32⟩
  | 63 => ⟨S1x8192x4x1, .f32⟩
  | 64 => ⟨S1x8192x4x1, .f32⟩
  | 65 => ⟨S1x8192x4x128, .f32⟩
  | 66 => ⟨S1x8192x4x128, .f32⟩
  | 67 => ⟨S_, .f32⟩
  | 68 => ⟨S1x8192x4x1, .f32⟩
  | 69 => ⟨S1x8192x4x1, .f32⟩
  | 70 => ⟨S1x8192x4x1, .f32⟩
  | 71 => ⟨S1x8192x4x1, .f32⟩
  | 72 => ⟨S_, .f32⟩
  | 73 => ⟨S1x8192x4x1, .f32⟩
  | 74 => ⟨S1x8192x4x1, .f32⟩
  | 75 => ⟨S1x8192x4x128, .f32⟩
  | 76 => ⟨S1x8192x4x128, .f32⟩
  | 77 => ⟨S1x8192x512, .f32⟩
  | 78 => ⟨S1x1x512, .f32⟩
  | 79 => ⟨S1x8192x512, .f32⟩
  | 80 => ⟨S1x8192x512, .f32⟩
  | 81 => ⟨S1x8192x512, .f32⟩
  | 82 => ⟨S1x8192x512, .f32⟩
  | 83 => ⟨S_, .f32⟩
  | 84 => ⟨S1x8192x512, .f32⟩
  | 85 => ⟨S1x8192x512, .f32⟩
  | 86 => ⟨S_, .f32⟩
  | 87 => ⟨S1x8192x512, .f32⟩
  | 88 => ⟨S1x8192x512, .f32⟩
  | 89 => ⟨S_, .f32⟩
  | 90 => ⟨S1x8192x512, .f32⟩
  | 91 => ⟨S1x8192x512, .f32⟩
  | 92 => ⟨S1x8192x512, .f32⟩
  | 93 => ⟨S1x8192x512, .f32⟩
  | 94 => ⟨S1x8192x512, .f32⟩
  | 95 => ⟨S1x8192x512, .f32⟩
  | 96 => ⟨S1x8192x512, .f32⟩
  | 97 => ⟨S1x8192x512, .f32⟩
  | 98 => ⟨S1x8192x512, .f32⟩
  | 99 => ⟨S1x8192x512, .f32⟩
  | 100 => ⟨S1x8192x512, .f32⟩
  | 101 => ⟨S1x8192x512, .f32⟩
  | 102 => ⟨S1x8192x512, .f32⟩
  | 103 => ⟨S_, .f32⟩
  | 104 => ⟨S1x512, .f32⟩
  | 105 => ⟨S1x1x512, .f32⟩
  | 106 => ⟨S1x8192x512, .f32⟩
  | 107 => ⟨S1x8192x512, .f32⟩
  | 108 => ⟨S_, .f32⟩
  | 109 => ⟨S512, .f32⟩
  | 110 => ⟨S1x8192x4x128, .f32⟩
  | 111 => ⟨S1x8192x4x128, .f32⟩
  | 112 => ⟨S_, .f32⟩
  | 113 => ⟨S1x8192x4, .f32⟩
  | 114 => ⟨S1x8192x4x1, .f32⟩
  | 115 => ⟨S1x8192x4x128, .f32⟩
  | 116 => ⟨S1x8192x4x128, .f32⟩
  | 117 => ⟨S1x8192x4x1, .f32⟩
  | 118 => ⟨S1x8192x4x128, .f32⟩
  | 119 => ⟨S_, .f32⟩
  | 120 => ⟨S1x8192x4, .f32⟩
  | 121 => ⟨S1x8192x4x1, .f32⟩
  | 122 => ⟨S_, .f32⟩
  | 123 => ⟨S1x8192x4x1, .f32⟩
  | 124 => ⟨S1x8192x4x1, .f32⟩
  | 125 => ⟨S_, .f32⟩
  | 126 => ⟨S8192x4, .f32⟩
  | 127 => ⟨S1x8192x4, .f32⟩
  | _ => ⟨S8192x512, .f32⟩

abbrev hbmTy0_2 (i : Nat) : BufTy := match i % 128 with
  | 0 => ⟨S1x8192x4x128, .f32⟩
  | 1 => ⟨S1x8192x4x128, .f32⟩
  | 2 => ⟨S1x8192x4x128, .f32⟩
  | 3 => ⟨S_, .f32⟩
  | 4 => ⟨S1x8192x4, .f32⟩
  | 5 => ⟨S1x8192x4x1, .f32⟩
  | 6 => ⟨S1x8192x4x128, .f32⟩
  | 7 => ⟨S1x8192x4x1, .f32⟩
  | 8 => ⟨S_, .f32⟩
  | 9 => ⟨S1x8192x4x1, .f32⟩
  | 10 => ⟨S1x8192x4x1, .f32⟩
  | 11 => ⟨S_, .f32⟩
  | 12 => ⟨S8192x4, .f32⟩
  | 13 => ⟨S1x8192x4, .f32⟩
  | 14 => ⟨S1x8192x4x128, .f32⟩
  | 15 => ⟨S1x8192x4x128, .f32⟩
  | 16 => ⟨S1x128x64x4x128, .f32⟩
  | 17 => ⟨S1x4x128x64x128, .f32⟩
  | 18 => ⟨S1x4x128x64x128, .f32⟩
  | 19 => ⟨S1x4x128x64x128, .f32⟩
  | 20 => ⟨S1x4x128x64x128, .f32⟩
  | 21 => ⟨S1x4x128x64x64, .f32⟩
  | 22 => ⟨S1x4x128x64x64, .f32⟩
  | 23 => ⟨S1x4x128x64x64, .f32⟩
  | 24 => ⟨S1x4x128x64x128, .f32⟩
  | 25 => ⟨S1x4x128x64x128, .f32⟩
  | 26 => ⟨S1x128x64x4x128, .f32⟩
  | 27 => ⟨S1x8192x4x128, .f32⟩
  | 28 => ⟨S1x8192x4x64, .f32⟩
  | 29 => ⟨S1x8192x4x64, .f32⟩
  | 30 => ⟨S1x8192x4x64, .f32⟩
  | 31 => ⟨S1x8192x4x64, .f32⟩
  | 32 => ⟨S1x8192x4x64, .f32⟩
  | 33 => ⟨S1x8192x4x64, .f32⟩
  | 34 => ⟨S1x8192x4x64, .f32⟩
  | 35 => ⟨S1x8192x4x64, .f32⟩
  | 36 => ⟨S1x8192x4x64, .f32⟩
  | 37 => ⟨S1x8192x4x64, .f32⟩
  | 38 => ⟨S1x8192x4x64, .f32⟩
  | 39 => ⟨S1x8192x4x64, .f32⟩
  | 40 => ⟨S1x8192x4x64, .f32⟩
  | 41 => ⟨S_, .f32⟩
  | 42 => ⟨S1x8192x4x128, .f32⟩
  | 43 => ⟨S_, .f32⟩
  | 44 => ⟨S1x8192x4x128, .f32⟩
  | 45 => ⟨S1x8192x4x128, .f32⟩
  | 46 => ⟨S1x8192x512, .f32⟩
  | 47 => ⟨S_, .f32⟩
  | 48 => ⟨S8192x512, .f32⟩
  | 49 => ⟨S_, .f32⟩
  | 50 => ⟨S8192x512, .f32⟩
  | 51 => ⟨S8192x512, .bf16⟩
  | 52 => ⟨S8192x512, .bf16⟩
  | 53 => ⟨S1x512, .f32⟩
  | _ => ⟨S8192x512, .f32⟩

abbrev hbmTy (i : Nat) : BufTy := match i / 128 with
  | 0 => hbmTy0_0 i
  | 1 => hbmTy0_1 i
  | 2 => hbmTy0_2 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_1 : Ref sig .tc := ⟨.hbm, 45, rfl⟩
abbrev main_v37 : Ref sig .tc := ⟨.hbm, 46, rfl⟩
abbrev main_v38 : Ref sig .tc := ⟨.hbm, 47, rfl⟩
abbrev main_cst_2 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_3 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_cst_4 : Ref sig .tc := ⟨.hbm, 84, rfl⟩
abbrev main_v73 : Ref sig .tc := ⟨.hbm, 85, rfl⟩
abbrev main_v74 : Ref sig .tc := ⟨.hbm, 86, rfl⟩
abbrev main_cst_5 : Ref sig .tc := ⟨.hbm, 87, rfl⟩
abbrev main_v75 : Ref sig .tc := ⟨.hbm, 88, rfl⟩
abbrev main_v76 : Ref sig .tc := ⟨.hbm, 89, rfl⟩
abbrev main_cst_6 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_cst_7 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_cst_8 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_cst_9 : Ref sig .tc := ⟨.hbm, 130, rfl⟩
abbrev main_v114 : Ref sig .tc := ⟨.hbm, 131, rfl⟩
abbrev main_cst_10 : Ref sig .tc := ⟨.hbm, 132, rfl⟩
abbrev main_v115 : Ref sig .tc := ⟨.hbm, 133, rfl⟩
abbrev main_c : Ref sig .tc := ⟨.hbm, 134, rfl⟩
abbrev main_v116_0 : Ref sig .tc := ⟨.hbm, 135, rfl⟩
abbrev main_v116_1 : Ref sig .tc := ⟨.hbm, 136, rfl⟩
abbrev main_v116_2 : Ref sig .tc := ⟨.hbm, 137, rfl⟩
abbrev main_v116_3 : Ref sig .tc := ⟨.hbm, 138, rfl⟩
abbrev main_v116_4 : Ref sig .tc := ⟨.hbm, 139, rfl⟩
abbrev main_while0c_c_36 : Ref sig .tc := ⟨.hbm, 140, rfl⟩
abbrev main_while0c_v232 : Ref sig .tc := ⟨.hbm, 141, rfl⟩
abbrev main_while0b_call0_c : Ref sig .tc := ⟨.hbm, 142, rfl⟩
abbrev main_while0b_call0_c_0 : Ref sig .tc := ⟨.hbm, 143, rfl⟩
abbrev main_while0b_call0_c_1 : Ref sig .tc := ⟨.hbm, 144, rfl⟩
abbrev main_while0b_call0_c_2 : Ref sig .tc := ⟨.hbm, 145, rfl⟩
abbrev main_while0b_call0_v0 : Ref sig .tc := ⟨.hbm, 146, rfl⟩
abbrev main_while0b_v232 : Ref sig .tc := ⟨.hbm, 147, rfl⟩
abbrev main_while0b_v233 : Ref sig .tc := ⟨.hbm, 148, rfl⟩
abbrev main_while0b_v234 : Ref sig .tc := ⟨.hbm, 149, rfl⟩
abbrev main_while0b_v235 : Ref sig .tc := ⟨.hbm, 150, rfl⟩
abbrev main_while0b_call1_v0 : Ref sig .tc := ⟨.hbm, 151, rfl⟩
abbrev main_while0b_call1_c : Ref sig .tc := ⟨.hbm, 152, rfl⟩
abbrev main_while0b_call1_c_0 : Ref sig .tc := ⟨.hbm, 153, rfl⟩
abbrev main_while0b_call1_c_1 : Ref sig .tc := ⟨.hbm, 154, rfl⟩
abbrev main_while0b_call1_c_2 : Ref sig .tc := ⟨.hbm, 155, rfl⟩
abbrev main_while0b_v236 : Ref sig .tc := ⟨.hbm, 156, rfl⟩
abbrev main_while0b_c_36 : Ref sig .tc := ⟨.hbm, 157, rfl⟩
abbrev main_while0b_v237 : Ref sig .tc := ⟨.hbm, 158, rfl⟩
abbrev main_v117 : Ref sig .tc := ⟨.hbm, 159, rfl⟩
abbrev main_cst_11 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_cst_12 : Ref sig .tc := ⟨.hbm, 175, rfl⟩
abbrev main_v132 : Ref sig .tc := ⟨.hbm, 176, rfl⟩
abbrev main_v133 : Ref sig .tc := ⟨.hbm, 177, rfl⟩
abbrev main_cst_13 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_cst_14 : Ref sig .tc := ⟨.hbm, 184, rfl⟩
abbrev main_v139 : Ref sig .tc := ⟨.hbm, 185, rfl⟩
abbrev main_v140 : Ref sig .tc := ⟨.hbm, 186, rfl⟩
abbrev main_cst_15 : Ref sig .tc := ⟨.hbm, 187, rfl⟩
abbrev main_v141 : Ref sig .tc := ⟨.hbm, 188, rfl⟩
abbrev main_v142 : Ref sig .tc := ⟨.hbm, 189, rfl⟩
abbrev main_cst_16 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_cst_17 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_cst_18 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_call2_v0 : Ref sig .tc := ⟨.hbm, 209, rfl⟩
abbrev main_call2_v1 : Ref sig .tc := ⟨.hbm, 210, rfl⟩
abbrev main_call2_cst : Ref sig .tc := ⟨.hbm, 211, rfl⟩
abbrev main_call2_v2 : Ref sig .tc := ⟨.hbm, 212, rfl⟩
abbrev main_call2_v3 : Ref sig .tc := ⟨.hbm, 213, rfl⟩
abbrev main_call2_cst_0 : Ref sig .tc := ⟨.hbm, 214, rfl⟩
abbrev main_call2_v4 : Ref sig .tc := ⟨.hbm, 215, rfl⟩
abbrev main_v159_2 : Ref sig .tc := ⟨.hbm, 216, rfl⟩
abbrev main_call2_cst_1 : Ref sig .tc := ⟨.hbm, 217, rfl⟩
abbrev main_call2_v6 : Ref sig .tc := ⟨.hbm, 218, rfl⟩
abbrev main_call2_v7 : Ref sig .tc := ⟨.hbm, 219, rfl⟩
abbrev main_v159_1 : Ref sig .tc := ⟨.hbm, 220, rfl⟩
abbrev main_v159_0 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_call3_v0 : Ref sig .tc := ⟨.hbm, 226, rfl⟩
abbrev main_call3_v1 : Ref sig .tc := ⟨.hbm, 227, rfl⟩
abbrev main_call3_v2 : Ref sig .tc := ⟨.hbm, 228, rfl⟩
abbrev main_v164 : Ref sig .tc := ⟨.hbm, 229, rfl⟩
abbrev main_v165 : Ref sig .tc := ⟨.hbm, 230, rfl⟩
abbrev main_cst_19 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_cst_20 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_cst_21 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_cst_22 : Ref sig .tc := ⟨.hbm, 247, rfl⟩
abbrev main_v179 : Ref sig .tc := ⟨.hbm, 248, rfl⟩
abbrev main_v180 : Ref sig .tc := ⟨.hbm, 249, rfl⟩
abbrev main_cst_23 : Ref sig .tc := ⟨.hbm, 250, rfl⟩
abbrev main_v181 : Ref sig .tc := ⟨.hbm, 251, rfl⟩
abbrev main_v182 : Ref sig .tc := ⟨.hbm, 252, rfl⟩
abbrev main_cst_24 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_cst_25 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩
abbrev main_cst_26 : Ref sig .tc := ⟨.hbm, 264, rfl⟩
abbrev main_v192 : Ref sig .tc := ⟨.hbm, 265, rfl⟩
abbrev main_v193 : Ref sig .tc := ⟨.hbm, 266, rfl⟩
abbrev main_cst_27 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_v208 : Ref sig .tc := ⟨.hbm, 282, rfl⟩
abbrev main_v209 : Ref sig .tc := ⟨.hbm, 283, rfl⟩
abbrev main_v210 : Ref sig .tc := ⟨.hbm, 284, rfl⟩
abbrev main_v211 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_v216 : Ref sig .tc := ⟨.hbm, 290, rfl⟩
abbrev main_v217 : Ref sig .tc := ⟨.hbm, 291, rfl⟩
abbrev main_v218 : Ref sig .tc := ⟨.hbm, 292, rfl⟩
abbrev main_v219 : Ref sig .tc := ⟨.hbm, 293, rfl⟩
abbrev main_v220 : Ref sig .tc := ⟨.hbm, 294, rfl⟩
abbrev main_v221 : Ref sig .tc := ⟨.hbm, 295, rfl⟩
abbrev main_v222 : Ref sig .tc := ⟨.hbm, 296, rfl⟩
abbrev main_cst_28 : Ref sig .tc := ⟨.hbm, 297, rfl⟩
abbrev main_v223 : Ref sig .tc := ⟨.hbm, 298, rfl⟩
abbrev main_cst_29 : Ref sig .tc := ⟨.hbm, 299, rfl⟩
abbrev main_v224 : Ref sig .tc := ⟨.hbm, 300, rfl⟩
abbrev main_v225 : Ref sig .tc := ⟨.hbm, 301, rfl⟩
abbrev main_v226 : Ref sig .tc := ⟨.hbm, 302, rfl⟩
abbrev main_cst_30 : Ref sig .tc := ⟨.hbm, 303, rfl⟩
abbrev main_v227 : Ref sig .tc := ⟨.hbm, 304, rfl⟩
abbrev main_cst_31 : Ref sig .tc := ⟨.hbm, 305, rfl⟩
abbrev main_v228 : Ref sig .tc := ⟨.hbm, 306, rfl⟩
abbrev main_v229 : Ref sig .tc := ⟨.hbm, 307, rfl⟩
abbrev main_v230 : Ref sig .tc := ⟨.hbm, 308, rfl⟩
abbrev main_v231 : Ref sig .tc := ⟨.hbm, 309, rfl⟩

abbrev nD : Nat := 1
abbrev τ : Topo := Topo.v7x

variable {F : FTy → Type} [FloatOps F]

abbrev main_while0_count : Scf.Loop 32 := ⟨0#32, 128#32, 1#32⟩
-- ==== ConvKernel.lean ====
abbrev S8192x512 : Shape := ⟨2, ![8192, 512]⟩
abbrev S31x512 : Shape := ⟨2, ![31, 512]⟩
abbrev S512 : Shape := ⟨1, ![512]⟩
abbrev S8192x1024 : Shape := ⟨2, ![8192, 1024]⟩
abbrev S_ : Shape := ⟨0, ![]⟩
abbrev S30x512 : Shape := ⟨2, ![30, 512]⟩
abbrev S8222x512 : Shape := ⟨2, ![8222, 512]⟩
abbrev S1x512 : Shape := ⟨2, ![1, 512]⟩
abbrev S32x512 : Shape := ⟨2, ![32, 512]⟩
abbrev S512x512 : Shape := ⟨2, ![512, 512]⟩
abbrev S512x1024 : Shape := ⟨2, ![512, 1024]⟩
abbrev S32x1024 : Shape := ⟨2, ![32, 1024]⟩
abbrev S552x512 : Shape := ⟨2, ![552, 512]⟩
abbrev S8x544x512 : Shape := ⟨3, ![8, 544, 512]⟩
abbrev S32x8x512 : Shape := ⟨3, ![32, 8, 512]⟩
abbrev S8x512 : Shape := ⟨2, ![8, 512]⟩
abbrev S32 : Shape := ⟨1, ![32]⟩
abbrev S32x1 : Shape := ⟨2, ![32, 1]⟩
abbrev S544x512 : Shape := ⟨2, ![544, 512]⟩
abbrev S1x544x512 : Shape := ⟨3, ![1, 544, 512]⟩
abbrev S1x56x512 : Shape := ⟨3, ![1, 56, 512]⟩
abbrev S56x512 : Shape := ⟨2, ![56, 512]⟩
abbrev S1x8x512 : Shape := ⟨3, ![1, 8, 512]⟩
abbrev S1x48x512 : Shape := ⟨3, ![1, 48, 512]⟩
abbrev S48x512 : Shape := ⟨2, ![48, 512]⟩

abbrev nBuf : Space → Nat
  | .hbm => 252
  | .vmem => 26
  | .smem => 0
  | _ => 0

abbrev hbmTy0_0 (i : Nat) : BufTy := match i % 128 with
  | 0 => ⟨S8192x512, .f32⟩
  | 1 => ⟨S8192x512, .f32⟩
  | 2 => ⟨S31x512, .f32⟩
  | 3 => ⟨S512, .f32⟩
  | 4 => ⟨S512, .f32⟩
  | 5 => ⟨S512, .f32⟩
  | 6 => ⟨S8192x512, .f32⟩
  | 7 => ⟨S8192x1024, .f32⟩
  | 8 => ⟨S8192x512, .f32⟩
  | 9 => ⟨S8192x512, .f32⟩
  | 10 => ⟨S_, .f32⟩
  | 11 => ⟨S8192x512, .f32⟩
  | 12 => ⟨S8192x512, .f32⟩
  | 13 => ⟨S_, .f32⟩
  | 14 => ⟨S8192x512, .f32⟩
  | 15 => ⟨S8192x512, .f32⟩
  | 16 => ⟨S8192x512, .f32⟩
  | 17 => ⟨S_, .f32⟩
  | 18 => ⟨S30x512, .f32⟩
  | 19 => ⟨S8222x512, .f32⟩
  | 20 => ⟨S_, .f32⟩
  | 21 => ⟨S8192x512, .f32⟩
  | 22 => ⟨S1x512, .f32⟩
  | 23 => ⟨S512, .f32⟩
  | 24 => ⟨S8192x512, .f32⟩
  | 25 => ⟨S1x512, .f32⟩
  | 26 => ⟨S8192x512, .f32⟩
  | 27 => ⟨S8192x512, .f32⟩
  | 28 => ⟨S8192x512, .f32⟩
  | 29 => ⟨S1x512, .f32⟩
  | 30 => ⟨S512, .f32⟩
  | 31 => ⟨S8192x512, .f32⟩
  | 32 => ⟨S1x512, .f32⟩
  | 33 => ⟨S8192x512, .f32⟩
  | 34 => ⟨S8192x512, .f32⟩
  | 35 => ⟨S8192x512, .f32⟩
  | 36 => ⟨S1x512, .f32⟩
  | 37 => ⟨S512, .f32⟩
  | 38 => ⟨S8192x512, .f32⟩
  | 39 => ⟨S1x512, .f32⟩
  | 40 => ⟨S8192x512, .f32⟩
  | 41 => ⟨S8192x512, .f32⟩
  | 42 => ⟨S8192x512, .f32⟩
  | 43 => ⟨S1x512, .f32⟩
  | 44 => ⟨S512, .f32⟩
  | 45 => ⟨S8192x512, .f32⟩
  | 46 => ⟨S1x512, .f32⟩
  | 47 => ⟨S8192x512, .f32⟩
  | 48 => ⟨S8192x512, .f32⟩
  | 49 => ⟨S8192x512, .f32⟩
  | 50 => ⟨S1x512, .f32⟩
  | 51 => ⟨S512, .f32⟩
  | 52 => ⟨S8192x512, .f32⟩
  | 53 => ⟨S1x512, .f32⟩
  | 54 => ⟨S8192x512, .f32⟩
  | 55 => ⟨S8192x512, .f32⟩
  | 56 => ⟨S8192x512, .f32⟩
  | 57 => ⟨S1x512, .f32⟩
  | 58 => ⟨S512, .f32⟩
  | 59 => ⟨S8192x512, .f32⟩
  | 60 => ⟨S1x512, .f32⟩
  | 61 => ⟨S8192x512, .f32⟩
  | 62 => ⟨S8192x512, .f32⟩
  | 63 => ⟨S8192x512, .f32⟩
  | 64 => ⟨S1x512, .f32⟩
  | 65 => ⟨S512, .f32⟩
  | 66 => ⟨S8192x512, .f32⟩
  | 67 => ⟨S1x512, .f32⟩
  | 68 => ⟨S8192x512, .f32⟩
  | 69 => ⟨S8192x512, .f32⟩
  | 70 => ⟨S8192x512, .f32⟩
  | 71 => ⟨S1x512, .f32⟩
  | 72 => ⟨S512, .f32⟩
  | 73 => ⟨S8192x512, .f32⟩
  | 74 => ⟨S1x512, .f32⟩
  | 75 => ⟨S8192x512, .f32⟩
  | 76 => ⟨S8192x512, .f32⟩
  | 77 => ⟨S8192x512, .f32⟩
  | 78 => ⟨S1x512, .f32⟩
  | 79 => ⟨S512, .f32⟩
  | 80 => ⟨S8192x512, .f32⟩
  | 81 => ⟨S1x512, .f32⟩
  | 82 => ⟨S8192x512, .f32⟩
  | 83 => ⟨S8192x512, .f32⟩
  | 84 => ⟨S8192x512, .f32⟩
  | 85 => ⟨S1x512, .f32⟩
  | 86 => ⟨S512, .f32⟩
  | 87 => ⟨S8192x512, .f32⟩
  | 88 => ⟨S1x512, .f32⟩
  | 89 => ⟨S8192x512, .f32⟩
  | 90 => ⟨S8192x512, .f32⟩
  | 91 => ⟨S8192x512, .f32⟩
  | 92 => ⟨S1x512, .f32⟩
  | 93 => ⟨S512, .f32⟩
  | 94 => ⟨S8192x512, .f32⟩
  | 95 => ⟨S1x512, .f32⟩
  | 96 => ⟨S8192x512, .f32⟩
  | 97 => ⟨S8192x512, .f32⟩
  | 98 => ⟨S8192x512, .f32⟩
  | 99 => ⟨S1x512, .f32⟩
  | 100 => ⟨S512, .f32⟩
  | 101 => ⟨S8192x512, .f32⟩
  | 102 => ⟨S1x512, .f32⟩
  | 103 => ⟨S8192x512, .f32⟩
  | 104 => ⟨S8192x512, .f32⟩
  | 105 => ⟨S8192x512, .f32⟩
  | 106 => ⟨S1x512, .f32⟩
  | 107 => ⟨S512, .f32⟩
  | 108 => ⟨S8192x512, .f32⟩
  | 109 => ⟨S1x512, .f32⟩
  | 110 => ⟨S8192x512, .f32⟩
  | 111 => ⟨S8192x512, .f32⟩
  | 112 => ⟨S8192x512, .f32⟩
  | 113 => ⟨S1x512, .f32⟩
  | 114 => ⟨S512, .f32⟩
  | 115 => ⟨S8192x512, .f32⟩
  | 116 => ⟨S1x512, .f32⟩
  | 117 => ⟨S8192x512, .f32⟩
  | 118 => ⟨S8192x512, .f32⟩
  | 119 => ⟨S8192x512, .f32⟩
  | 120 => ⟨S1x512, .f32⟩
  | 121 => ⟨S512, .f32⟩
  | 122 => ⟨S8192x512, .f32⟩
  | 123 => ⟨S1x512, .f32⟩
  | 124 => ⟨S8192x512, .f32⟩
  | 125 => ⟨S8192x512, .f32⟩
  | 126 => ⟨S8192x512, .f32⟩
  | 127 => ⟨S1x512, .f32⟩
  | _ => ⟨S8192x512, .f32⟩

abbrev hbmTy0_1 (i : Nat) : BufTy := match i % 128 with
  | 0 => ⟨S512, .f32⟩
  | 1 => ⟨S8192x512, .f32⟩
  | 2 => ⟨S1x512, .f32⟩
  | 3 => ⟨S8192x512, .f32⟩
  | 4 => ⟨S8192x512, .f32⟩
  | 5 => ⟨S8192x512, .f32⟩
  | 6 => ⟨S1x512, .f32⟩
  | 7 => ⟨S512, .f32⟩
  | 8 => ⟨S8192x512, .f32⟩
  | 9 => ⟨S1x512, .f32⟩
  | 10 => ⟨S8192x512, .f32⟩
  | 11 => ⟨S8192x512, .f32⟩
  | 12 => ⟨S8192x512, .f32⟩
  | 13 => ⟨S1x512, .f32⟩
  | 14 => ⟨S512, .f32⟩
  | 15 => ⟨S8192x512, .f32⟩
  | 16 => ⟨S1x512, .f32⟩
  | 17 => ⟨S8192x512, .f32⟩
  | 18 => ⟨S8192x512, .f32⟩
  | 19 => ⟨S8192x512, .f32⟩
  | 20 => ⟨S1x512, .f32⟩
  | 21 => ⟨S512, .f32⟩
  | 22 => ⟨S8192x512, .f32⟩
  | 23 => ⟨S1x512, .f32⟩
  | 24 => ⟨S8192x512, .f32⟩
  | 25 => ⟨S8192x512, .f32⟩
  | 26 => ⟨S8192x512, .f32⟩
  | 27 => ⟨S1x512, .f32⟩
  | 28 => ⟨S512, .f32⟩
  | 29 => ⟨S8192x512, .f32⟩
  | 30 => ⟨S1x512, .f32⟩
  | 31 => ⟨S8192x512, .f32⟩
  | 32 => ⟨S8192x512, .f32⟩
  | 33 => ⟨S8192x512, .f32⟩
  | 34 => ⟨S1x512, .f32⟩
  | 35 => ⟨S512, .f32⟩
  | 36 => ⟨S8192x512, .f32⟩
  | 37 => ⟨S1x512, .f32⟩
  | 38 => ⟨S8192x512, .f32⟩
  | 39 => ⟨S8192x512, .f32⟩
  | 40 => ⟨S8192x512, .f32⟩
  | 41 => ⟨S1x512, .f32⟩
  | 42 => ⟨S512, .f32⟩
  | 43 => ⟨S8192x512, .f32⟩
  | 44 => ⟨S1x512, .f32⟩
  | 45 => ⟨S8192x512, .f32⟩
  | 46 => ⟨S8192x512, .f32⟩
  | 47 => ⟨S8192x512, .f32⟩
  | 48 => ⟨S1x512, .f32⟩
  | 49 => ⟨S512, .f32⟩
  | 50 => ⟨S8192x512, .f32⟩
  | 51 => ⟨S1x512, .f32⟩
  | 52 => ⟨S8192x512, .f32⟩
  | 53 => ⟨S8192x512, .f32⟩
  | 54 => ⟨S8192x512, .f32⟩
  | 55 => ⟨S1x512, .f32⟩
  | 56 => ⟨S512, .f32⟩
  | 57 => ⟨S8192x512, .f32⟩
  | 58 => ⟨S1x512, .f32⟩
  | 59 => ⟨S8192x512, .f32⟩
  | 60 => ⟨S8192x512, .f32⟩
  | 61 => ⟨S8192x512, .f32⟩
  | 62 => ⟨S1x512, .f32⟩
  | 63 => ⟨S512, .f32⟩
  | 64 => ⟨S8192x512, .f32⟩
  | 65 => ⟨S1x512, .f32⟩
  | 66 => ⟨S8192x512, .f32⟩
  | 67 => ⟨S8192x512, .f32⟩
  | 68 => ⟨S8192x512, .f32⟩
  | 69 => ⟨S1x512, .f32⟩
  | 70 => ⟨S512, .f32⟩
  | 71 => ⟨S8192x512, .f32⟩
  | 72 => ⟨S1x512, .f32⟩
  | 73 => ⟨S8192x512, .f32⟩
  | 74 => ⟨S8192x512, .f32⟩
  | 75 => ⟨S8192x512, .f32⟩
  | 76 => ⟨S1x512, .f32⟩
  | 77 => ⟨S512, .f32⟩
  | 78 => ⟨S8192x512, .f32⟩
  | 79 => ⟨S1x512, .f32⟩
  | 80 => ⟨S8192x512, .f32⟩
  | 81 => ⟨S8192x512, .f32⟩
  | 82 => ⟨S8192x512, .f32⟩
  | 83 => ⟨S1x512, .f32⟩
  | 84 => ⟨S512, .f32⟩
  | 85 => ⟨S8192x512, .f32⟩
  | 86 => ⟨S1x512, .f32⟩
  | 87 => ⟨S8192x512, .f32⟩
  | 88 => ⟨S8192x512, .f32⟩
  | 89 => ⟨S8192x512, .f32⟩
  | 90 => ⟨S1x512, .f32⟩
  | 91 => ⟨S512, .f32⟩
  | 92 => ⟨S8192x512, .f32⟩
  | 93 => ⟨S1x512, .f32⟩
  | 94 => ⟨S8192x512, .f32⟩
  | 95 => ⟨S8192x512, .f32⟩
  | 96 => ⟨S8192x512, .f32⟩
  | 97 => ⟨S1x512, .f32⟩
  | 98 => ⟨S512, .f32⟩
  | 99 => ⟨S8192x512, .f32⟩
  | 100 => ⟨S1x512, .f32⟩
  | 101 => ⟨S8192x512, .f32⟩
  | 102 => ⟨S8192x512, .f32⟩
  | 103 => ⟨S8192x512, .f32⟩
  | 104 => ⟨S1x512, .f32⟩
  | 105 => ⟨S512, .f32⟩
  | 106 => ⟨S8192x512, .f32⟩
  | 107 => ⟨S1x512, .f32⟩
  | 108 => ⟨S8192x512, .f32⟩
  | 109 => ⟨S8192x512, .f32⟩
  | 110 => ⟨S8192x512, .f32⟩
  | 111 => ⟨S1x512, .f32⟩
  | 112 => ⟨S8192x512, .f32⟩
  | 113 => ⟨S8192x512, .f32⟩
  | 114 => ⟨S_, .i32⟩
  | 115 => ⟨S_, .f32⟩
  | 116 => ⟨S32x512, .f32⟩
  | 117 => ⟨S1x512, .f32⟩
  | 118 => ⟨S1x512, .f32⟩
  | 119 => ⟨S8192x1024, .bf16⟩
  | 120 => ⟨S32x512, .f32⟩
  | 121 => ⟨S1x512, .f32⟩
  | 122 => ⟨S1x512, .f32⟩
  | 123 => ⟨S1x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S32x512, .f32⟩
  | .local _ .vmem, ⟨3, _⟩ => ⟨S32x512, .f32⟩
  | .local _ .vmem, ⟨4, _⟩ => ⟨S512x512, .f32⟩
  | .local _ .vmem, ⟨5, _⟩ => ⟨S512x512, .f32⟩
  | .local _ .vmem, ⟨6, _⟩ => ⟨S32x512, .f32⟩
  | .local _ .vmem, ⟨7, _⟩ => ⟨S32x512, .f32⟩
  | .local _ .vmem, ⟨8, _⟩ => ⟨S512x1024, .f32⟩
  | .local _ .vmem, ⟨9, _⟩ => ⟨S512x1024, .f32⟩
  | .local _ .vmem, ⟨10, _⟩ => ⟨S32x1024, .f32⟩
  | .local _ .vmem, ⟨11, _⟩ => ⟨S32x1024, .f32⟩
  | .local _ .vmem, ⟨12, _⟩ => ⟨S32x512, .f32⟩
  | .local _ .vmem, ⟨13, _⟩ => ⟨S1x512, .f32⟩
  | .local _ .vmem, ⟨14, _⟩ => ⟨S1x512, .f32⟩
  | .local _ .vmem, ⟨15, _⟩ => ⟨S512x1024, .bf16⟩
  | .local _ .vmem, ⟨16, _⟩ => ⟨S512x1024, .bf16⟩
  | .local _ .vmem, ⟨17, _⟩ => ⟨S32x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S552x512, .f32⟩
  | .local _ .vmem, ⟨22, _⟩ => ⟨S552x512, .f32⟩
  | .local _ .vmem, ⟨23, _⟩ => ⟨S8x544x512, .f32⟩
  | .local _ .vmem, ⟨24, _⟩ => ⟨S8x544x512, .f32⟩
  | .local _ .vmem, ⟨25, _⟩ => ⟨S32x8x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_c : Ref sig .tc := ⟨.hbm, 242, rfl⟩
abbrev main_call0_v0 : Ref sig .tc := ⟨.hbm, 243, rfl⟩
abbrev main_v231 : Ref sig .tc := ⟨.hbm, 244, rfl⟩
abbrev main_v232 : Ref sig .tc := ⟨.hbm, 245, rfl⟩
abbrev main_v233 : Ref sig .tc := ⟨.hbm, 246, rfl⟩
abbrev main_v234_0 : Ref sig .tc := ⟨.hbm, 247, rfl⟩
abbrev main_v234_1 : Ref sig .tc := ⟨.hbm, 248, rfl⟩
abbrev main_v234_2 : Ref sig .tc := ⟨.hbm, 249, rfl⟩
abbrev main_v234_3 : Ref sig .tc := ⟨.hbm, 250, rfl⟩
abbrev main_v234_4 : Ref sig .tc := ⟨.hbm, 251, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_5519 : BitVec 32 := 15#32
  let v12702 : BitVec 1 := Scalar.cmpi .eq arg0 c15_i32_5519
  let v12703 : BitVec 32 := Scalar.extui v12702
  let c0_i32_5520 : BitVec 32 := 0#32
  let v12704 : BitVec 1 := Scalar.cmpi .ne v12703 c0_i32_5520
  v12704

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ConvReferenceIdeal.lean ====
abbrev S8192x512 : Shape := ⟨2, ![8192, 512]⟩
abbrev S31x512 : Shape := ⟨2, ![31, 512]⟩
abbrev S512 : Shape := ⟨1, ![512]⟩
abbrev S_ : Shape := ⟨0, ![]⟩
abbrev S30x512 : Shape := ⟨2, ![30, 512]⟩
abbrev S8222x512 : Shape := ⟨2, ![8222, 512]⟩
abbrev S1x512 : Shape := ⟨2, ![1, 512]⟩
abbrev S8192 : Shape := ⟨1, ![8192]⟩
abbrev S8192x1 : Shape := ⟨2, ![8192, 1]⟩
abbrev S8192x1024 : Shape := ⟨2, ![8192, 1024]⟩
abbrev S32x512 : Shape := ⟨2, ![32, 512]⟩

abbrev nBuf : Space → Nat
  | .hbm => 825
  | .vmem => 0
  | .smem => 0
  | _ => 0

abbrev hbmTy0_0 (i : Nat) : BufTy := match i % 128 with
  | 0 => ⟨S8192x512, .f32⟩
  | 1 => ⟨S8192x512, .f32⟩
  | 2 => ⟨S31x512, .f32⟩
  | 3 => ⟨S512, .f32⟩
  | 4 => ⟨S512, .f32⟩
  | 5 => ⟨S512, .f32⟩
  | 6 => ⟨S8192x512, .f32⟩
  | 7 => ⟨S8192x512, .f32⟩
  | 8 => ⟨S8192x512, .f32⟩
  | 9 => ⟨S_, .f32⟩
  | 10 => ⟨S8192x512, .f32⟩
  | 11 => ⟨S8192x512, .f32⟩
  | 12 => ⟨S_, .f32⟩
  | 13 => ⟨S8192x512, .f32⟩
  | 14 => ⟨S8192x512, .f32⟩
  | 15 => ⟨S_, .f32⟩
  | 16 => ⟨S8192x512, .f32⟩
  | 17 => ⟨S8192x512, .f32⟩
  | 18 => ⟨S8192x512, .f32⟩
  | 19 => ⟨S8192x512, .f32⟩
  | 20 => ⟨S_, .f32⟩
  | 21 => ⟨S30x512, .f32⟩
  | 22 => ⟨S8222x512, .f32⟩
  | 23 => ⟨S_, .f32⟩
  | 24 => ⟨S30x512, .f32⟩
  | 25 => ⟨S_, .f32⟩
  | 26 => ⟨S8192x512, .f32⟩
  | 27 => ⟨S1x512, .f32⟩
  | 28 => ⟨S512, .f32⟩
  | 29 => ⟨S8192x512, .f32⟩
  | 30 => ⟨S1x512, .f32⟩
  | 31 => ⟨S8192x512, .f32⟩
  | 32 => ⟨S8192x512, .f32⟩
  | 33 => ⟨S8192x512, .f32⟩
  | 34 => ⟨S1x512, .f32⟩
  | 35 => ⟨S512, .f32⟩
  | 36 => ⟨S8192x512, .f32⟩
  | 37 => ⟨S1x512, .f32⟩
  | 38 => ⟨S8192x512, .f32⟩
  | 39 => ⟨S8192x512, .f32⟩
  | 40 => ⟨S8192x512, .f32⟩
  | 41 => ⟨S1x512, .f32⟩
  | 42 => ⟨S512, .f32⟩
  | 43 => ⟨S8192x512, .f32⟩
  | 44 => ⟨S1x512, .f32⟩
  | 45 => ⟨S8192x512, .f32⟩
  | 46 => ⟨S8192x512, .f32⟩
  | 47 => ⟨S8192x512, .f32⟩
  | 48 => ⟨S1x512, .f32⟩
  | 49 => ⟨S512, .f32⟩
  | 50 => ⟨S8192x512, .f32⟩
  | 51 => ⟨S1x512, .f32⟩
  | 52 => ⟨S8192x512, .f32⟩
  | 53 => ⟨S8192x512, .f32⟩
  | 54 => ⟨S8192x512, .f32⟩
  | 55 => ⟨S1x512, .f32⟩
  | 56 => ⟨S512, .f32⟩
  | 57 => ⟨S8192x512, .f32⟩
  | 58 => ⟨S1x512, .f32⟩
  | 59 => ⟨S8192x512, .f32⟩
  | 60 => ⟨S8192x512, .f32⟩
  | 61 => ⟨S8192x512, .f32⟩
  | 62 => ⟨S1x512, .f32⟩
  | 63 => ⟨S512, .f32⟩
  | 64 => ⟨S8192x512, .f32⟩
  | 65 => ⟨S1x512, .f32⟩
  | 66 => ⟨S8192x512, .f32⟩
  | 67 => ⟨S8192x512, .f32⟩
  | 68 => ⟨S8192x512, .f32⟩
  | 69 => ⟨S1x512, .f32⟩
  | 70 => ⟨S512, .f32⟩
  | 71 => ⟨S8192x512, .f32⟩
  | 72 => ⟨S1x512, .f32⟩
  | 73 => ⟨S8192x512, .f32⟩
  | 74 => ⟨S8192x512, .f32⟩
  | 75 => ⟨S8192x512, .f32⟩
  | 76 => ⟨S1x512, .f32⟩
  | 77 => ⟨S512, .f32⟩
  | 78 => ⟨S8192x512, .f32⟩
  | 79 => ⟨S1x512, .f32⟩
  | 80 => ⟨S8192x512, .f32⟩
  | 81 => ⟨S8192x512, .f32⟩
  | 82 => ⟨S8192x512, .f32⟩
  | 83 => ⟨S1x512, .f32⟩
  | 84 => ⟨S512, .f32⟩
  | 85 => ⟨S8192x512, .f32⟩
  | 86 => ⟨S1x512, .f32⟩
  | 87 => ⟨S8192x512, .f32⟩
  | 88 => ⟨S8192x512, .f32⟩
  | 89 => ⟨S8192x512, .f32⟩
  | 90 => ⟨S1x512, .f32⟩
  | 91 => ⟨S512, .f32⟩
  | 92 => ⟨S8192x512, .f32⟩
  | 93 => ⟨S1x512, .f32⟩
  | 94 => ⟨S8192x512, .f32⟩
  | 95 => ⟨S8192x512, .f32⟩
  | 96 => ⟨S8192x512, .f32⟩
  | 97 => ⟨S1x512, .f32⟩
  | 98 => ⟨S512, .f32⟩
  | 99 => ⟨S8192x512, .f32⟩
  | 100 => ⟨S1x512, .f32⟩
  | 101 => ⟨S8192x512, .f32⟩
  | 102 => ⟨S8192x512, .f32⟩
  | 103 => ⟨S8192x512, .f32⟩
  | 104 => ⟨S1x512, .f32⟩
  | 105 => ⟨S512, .f32⟩
  | 106 => ⟨S8192x512, .f32⟩
  | 107 => ⟨S1x512, .f32⟩
  | 108 => ⟨S8192x512, .f32⟩
  | 109 => ⟨S8192x512, .f32⟩
  | 110 => ⟨S8192x512, .f32⟩
  | 111 => ⟨S1x512, .f32⟩
  | 112 => ⟨S512, .f32⟩
  | 113 => ⟨S8192x512, .f32⟩
  | 114 => ⟨S1x512, .f32⟩
  | 115 => ⟨S8192x512, .f32⟩
  | 116 => ⟨S8192x512, .f32⟩
  | 117 => ⟨S8192x512, .f32⟩
  | 118 => ⟨S1x512, .f32⟩
  | 119 => ⟨S512, .f32⟩
  | 120 => ⟨S8192x512, .f32⟩
  | 121 => ⟨S1x512, .f32⟩
  | 122 => ⟨S8192x512, .f32⟩
  | 123 => ⟨S8192x512, .f32⟩
  | 124 => ⟨S8192x512, .f32⟩
  | 125 => ⟨S1x512, .f32⟩
  | 126 => ⟨S512, .f32⟩
  | 127 => ⟨S8192x512, .f32⟩
  | _ => ⟨S8192x512, .f32⟩

abbrev hbmTy0_1 (i : Nat) : BufTy := match i % 128 with
  | 0 => ⟨S1x512, .f32⟩
  | 1 => ⟨S8192x512, .f32⟩
  | 2 => ⟨S8192x512, .f32⟩
  | 3 => ⟨S8192x512, .f32⟩
  | 4 => ⟨S1x512, .f32⟩
  | 5 => ⟨S512, .f32⟩
  | 6 => ⟨S8192x512, .f32⟩
  | 7 => ⟨S1x512, .f32⟩
  | 8 => ⟨S8192x512, .f32⟩
  | 9 => ⟨S8192x512, .f32⟩
  | 10 => ⟨S8192x512, .f32⟩
  | 11 => ⟨S1x512, .f32⟩
  | 12 => ⟨S512, .f32⟩
  | 13 => ⟨S8192x512, .f32⟩
  | 14 => ⟨S1x512, .f32⟩
  | 15 => ⟨S8192x512, .f32⟩
  | 16 => ⟨S8192x512, .f32⟩
  | 17 => ⟨S8192x512, .f32⟩
  | 18 => ⟨S1x512, .f32⟩
  | 19 => ⟨S512, .f32⟩
  | 20 => ⟨S8192x512, .f32⟩
  | 21 => ⟨S1x512, .f32⟩
  | 22 => ⟨S8192x512, .f32⟩
  | 23 => ⟨S8192x512, .f32⟩
  | 24 => ⟨S8192x512, .f32⟩
  | 25 => ⟨S1x512, .f32⟩
  | 26 => ⟨S512, .f32⟩
  | 27 => ⟨S8192x512, .f32⟩
  | 28 => ⟨S1x512, .f32⟩
  | 29 => ⟨S8192x512, .f32⟩
  | 30 => ⟨S8192x512, .f32⟩
  | 31 => ⟨S8192x512, .f32⟩
  | 32 => ⟨S1x512, .f32⟩
  | 33 => ⟨S512, .f32⟩
  | 34 => ⟨S8192x512, .f32⟩
  | 35 => ⟨S1x512, .f32⟩
  | 36 => ⟨S8192x512, .f32⟩
  | 37 => ⟨S8192x512, .f32⟩
  | 38 => ⟨S8192x512, .f32⟩
  | 39 => ⟨S1x512, .f32⟩
  | 40 => ⟨S512, .f32⟩
  | 41 => ⟨S8192x512, .f32⟩
  | 42 => ⟨S1x512, .f32⟩
  | 43 => ⟨S8192x512, .f32⟩
  | 44 => ⟨S8192x512, .f32⟩
  | 45 => ⟨S8192x512, .f32⟩
  | 46 => ⟨S1x512, .f32⟩
  | 47 => ⟨S512, .f32⟩
  | 48 => ⟨S8192x512, .f32⟩
  | 49 => ⟨S1x512, .f32⟩
  | 50 => ⟨S8192x512, .f32⟩
  | 51 => ⟨S8192x512, .f32⟩
  | 52 => ⟨S8192x512, .f32⟩
  | 53 => ⟨S1x512, .f32⟩
  | 54 => ⟨S512, .f32⟩
  | 55 => ⟨S8192x512, .f32⟩
  | 56 => ⟨S1x512, .f32⟩
  | 57 => ⟨S8192x512, .f32⟩
  | 58 => ⟨S8192x512, .f32⟩
  | 59 => ⟨S8192x512, .f32⟩
  | 60 => ⟨S1x512, .f32⟩
  | 61 => ⟨S512, .f32⟩
  | 62 => ⟨S8192x512, .f32⟩
  | 63 => ⟨S1x512, .f32⟩
  | 64 => ⟨S8192x512, .f32⟩
  | 65 => ⟨S8192x512, .f32⟩
  | 66 => ⟨S8192x512, .f32⟩
  | 67 => ⟨S1x512, .f32⟩
  | 68 => ⟨S512, .f32⟩
  | 69 => ⟨S8192x512, .f32⟩
  | 70 => ⟨S1x512, .f32⟩
  | 71 => ⟨S8192x512, .f32⟩
  | 72 => ⟨S8192x512, .f32⟩
  | 73 => ⟨S8192x512, .f32⟩
  | 74 => ⟨S1x512, .f32⟩
  | 75 => ⟨S512, .f32⟩
  | 76 => ⟨S8192x512, .f32⟩
  | 77 => ⟨S1x512, .f32⟩
  | 78 => ⟨S8192x512, .f32⟩
  | 79 => ⟨S8192x512, .f32⟩
  | 80 => ⟨S8192x512, .f32⟩
  | 81 => ⟨S1x512, .f32⟩
  | 82 => ⟨S512, .f32⟩
  | 83 => ⟨S8192x512, .f32⟩
  | 84 => ⟨S1x512, .f32⟩
  | 85 => ⟨S8192x512, .f32⟩
  | 86 => ⟨S8192x512, .f32⟩
  | 87 => ⟨S8192x512, .f32⟩
  | 88 => ⟨S1x512, .f32⟩
  | 89 => ⟨S512, .f32⟩
  | 90 => ⟨S8192x512, .f32⟩
  | 91 => ⟨S1x512, .f32⟩
  | 92 => ⟨S8192x512, .f32⟩
  | 93 => ⟨S8192x512, .f32⟩
  | 94 => ⟨S8192x512, .f32⟩
  | 95 => ⟨S1x512, .f32⟩
  | 96 => ⟨S512, .f32⟩
  | 97 => ⟨S8192x512, .f32⟩
  | 98 => ⟨S1x512, .f32⟩
  | 99 => ⟨S8192x512, .f32⟩
  | 100 => ⟨S8192x512, .f32⟩
  | 101 => ⟨S8192x512, .f32⟩
  | 102 => ⟨S1x512, .f32⟩
  | 103 => ⟨S512, .f32⟩
  | 104 => ⟨S8192x512, .f32⟩
  | 105 => ⟨S1x512, .f32⟩
  | 106 => ⟨S8192x512, .f32⟩
  | 107 => ⟨S8192x512, .f32⟩
  | 108 => ⟨S8192x512, .f32⟩
  | 109 => ⟨S1x512, .f32⟩
  | 110 => ⟨S512, .f32⟩
  | 111 => ⟨S8192x512, .f32⟩
  | 112 => ⟨S1x512, .f32⟩
  | 113 => ⟨S8192x512, .f32⟩
  | 114 => ⟨S8192x512, .f32⟩
  | 115 => ⟨S8192x512, .f32⟩
  | 116 => ⟨S1x512, .f32⟩
  | 117 => ⟨S8192x512, .f32⟩
  | 118 => ⟨S8192x512, .f32⟩
  | 119 => ⟨S_, .f32⟩
  | 120 => ⟨S8192, .f32⟩
  | 121 => ⟨S8192x1, .f32⟩
  | 122 => ⟨S_, .f32⟩
  | 123 => ⟨S8192x1, .f32⟩
  | 124 => ⟨S8192x1, .f32⟩
  | 125 => ⟨S8192x512, .f32⟩
  | 126 => ⟨S8192x512, .f32⟩
  | 127 => ⟨S8192x512, .f32⟩
  | _ => ⟨S8192x512, .f32⟩

abbrev hbmTy0_2 (i : Nat) : BufTy := match i % 128 with
  | 0 => ⟨S_, .f32⟩
  | 1 => ⟨S8192x512, .f32⟩
  | 2 => ⟨S8192x512, .f32⟩
  | 3 => ⟨S_, .f32⟩
  | 4 => ⟨S8192, .f32⟩
  | 5 => ⟨S8192x1, .f32⟩
  | 6 => ⟨S_, .f32⟩
  | 7 => ⟨S8192x1, .f32⟩
  | 8 => ⟨S8192x1, .f32⟩
  | 9 => ⟨S8192x512, .f32⟩
  | 10 => ⟨S8192x512, .f32⟩
  | 11 => ⟨S_, .f32⟩
  | 12 => ⟨S8192x1, .f32⟩
  | 13 => ⟨S8192x1, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x512, .f32⟩
  | 20 => ⟨S8192x512, .f32⟩
  | 21 => ⟨S1x512, .f32⟩
  | 22 => ⟨S8192x512, .f32⟩
  | 23 => ⟨S8192x512, .f32⟩
  | 24 => ⟨S1x512, .f32⟩
  | 25 => ⟨S8192x512, .f32⟩
  | 26 => ⟨S8192x512, .f32⟩
  | 27 => ⟨S8192x512, .f32⟩
  | 28 => ⟨S8192x512, .f32⟩
  | 29 => ⟨S_, .f32⟩
  | 30 => ⟨S8192x512, .f32⟩
  | 31 => ⟨S8192x512, .f32⟩
  | 32 => ⟨S_, .f32⟩
  | 33 => ⟨S8192x512, .f32⟩
  | 34 => ⟨S8192x512, .f32⟩
  | 35 => ⟨S_, .f32⟩
  | 36 => ⟨S8192x512, .f32⟩
  | 37 => ⟨S8192x512, .f32⟩
  | 38 => ⟨S8192x512, .f32⟩
  | 39 => ⟨S8192x512, .f32⟩
  | 40 => ⟨S8192x512, .f32⟩
  | 41 => ⟨S8192x512, .f32⟩
  | 42 => ⟨S8192x512, .f32⟩
  | 43 => ⟨S8192x512, .f32⟩
  | 44 => ⟨S_, .f32⟩
  | 45 => ⟨S512, .f32⟩
  | 46 => ⟨S1x512, .f32⟩
  | 47 => ⟨S_, .f32⟩
  | 48 => ⟨S512, .f32⟩
  | 49 => ⟨S8192x512, .f32⟩
  | 50 => ⟨S_, .f32⟩
  | 51 => ⟨S512, .f32⟩
  | 52 => ⟨S1x512, .f32⟩
  | 53 => ⟨S8192x512, .f32⟩
  | 54 => ⟨S8192x512, .f32⟩
  | 55 => ⟨S_, .f32⟩
  | 56 => ⟨S512, .f32⟩
  | 57 => ⟨S8192x512, .f32⟩
  | 58 => ⟨S_, .f32⟩
  | 59 => ⟨S8192, .f32⟩
  | 60 => ⟨S8192x1, .f32⟩
  | 61 => ⟨S8192x512, .f32⟩
  | 62 => ⟨S8192x512, .f32⟩
  | 63 => ⟨S8192x1, .f32⟩
  | 64 => ⟨S8192x512, .f32⟩
  | 65 => ⟨S_, .f32⟩
  | 66 => ⟨S8192, .f32⟩
  | 67 => ⟨S8192x1, .f32⟩
  | 68 => ⟨S_, .f32⟩
  | 69 => ⟨S8192x1, .f32⟩
  | 70 => ⟨S8192x1, .f32⟩
  | 71 => ⟨S_, .f32⟩
  | 72 => ⟨S8192, .f32⟩
  | 73 => ⟨S8192x512, .f32⟩
  | 74 => ⟨S8192x512, .f32⟩
  | 75 => ⟨S8192x512, .f32⟩
  | 76 => ⟨S_, .f32⟩
  | 77 => ⟨S8192, .f32⟩
  | 78 => ⟨S8192x1, .f32⟩
  | 79 => ⟨S8192x512, .f32⟩
  | 80 => ⟨S8192x1, .f32⟩
  | 81 => ⟨S_, .f32⟩
  | 82 => ⟨S8192x1, .f32⟩
  | 83 => ⟨S8192x1, .f32⟩
  | 84 => ⟨S_, .f32⟩
  | 85 => ⟨S8192, .f32⟩
  | 86 => ⟨S8192x512, .f32⟩
  | 87 => ⟨S8192x512, .f32⟩
  | 88 => ⟨S_, .f32⟩
  | 89 => ⟨S512, .f32⟩
  | 90 => ⟨S1x512, .f32⟩
  | 91 => ⟨S_, .f32⟩
  | 92 => ⟨S512, .f32⟩
  | 93 => ⟨S8192x512, .f32⟩
  | 94 => ⟨S8192x512, .f32⟩
  | 95 => ⟨S8192x512, .f32⟩
  | 96 => ⟨S_, .f32⟩
  | 97 => ⟨S512, .f32⟩
  | 98 => ⟨S1x512, .f32⟩
  | 99 => ⟨S_, .f32⟩
  | 100 => ⟨S512, .f32⟩
  | 101 => ⟨S_, .f32⟩
  | 102 => ⟨S8222x512, .f32⟩
  | 103 => ⟨S1x512, .f32⟩
  | 104 => ⟨S_, .f32⟩
  | 105 => ⟨S31x512, .f32⟩
  | 106 => ⟨S8192x512, .f32⟩
  | 107 => ⟨S8192x512, .f32⟩
  | 108 => ⟨S8192x512, .f32⟩
  | 109 => ⟨S_, .f32⟩
  | 110 => ⟨S512, .f32⟩
  | 111 => ⟨S1x512, .f32⟩
  | 112 => ⟨S_, .f32⟩
  | 113 => ⟨S512, .f32⟩
  | 114 => ⟨S_, .f32⟩
  | 115 => ⟨S8222x512, .f32⟩
  | 116 => ⟨S8222x512, .f32⟩
  | 117 => ⟨S1x512, .f32⟩
  | 118 => ⟨S_, .f32⟩
  | 119 => ⟨S31x512, .f32⟩
  | 120 => ⟨S31x512, .f32⟩
  | 121 => ⟨S8192x512, .f32⟩
  | 122 => ⟨S8192x512, .f32⟩
  | 123 => ⟨S8192x512, .f32⟩
  | 124 => ⟨S_, .f32⟩
  | 125 => ⟨S512, .f32⟩
  | 126 => ⟨S1x512, .f32⟩
  | 127 => ⟨S_, .f32⟩
  | _ => ⟨S8192x512, .f32⟩

abbrev hbmTy0_3 (i : Nat) : BufTy := match i % 128 with
  | 0 => ⟨S512, .f32⟩
  | 1 => ⟨S_, .f32⟩
  | 2 => ⟨S8222x512, .f32⟩
  | 3 => ⟨S8222x512, .f32⟩
  | 4 => ⟨S1x512, .f32⟩
  | 5 => ⟨S_, .f32⟩
  | 6 => ⟨S31x512, .f32⟩
  | 7 => ⟨S31x512, .f32⟩
  | 8 => ⟨S8192x512, .f32⟩
  | 9 => ⟨S8192x512, .f32⟩
  | 10 => ⟨S8192x512, .f32⟩
  | 11 => ⟨S_, .f32⟩
  | 12 => ⟨S512, .f32⟩
  | 13 => ⟨S1x512, .f32⟩
  | 14 => ⟨S_, .f32⟩
  | 15 => ⟨S512, .f32⟩
  | 16 => ⟨S_, .f32⟩
  | 17 => ⟨S8222x512, .f32⟩
  | 18 => ⟨S8222x512, .f32⟩
  | 19 => ⟨S1x512, .f32⟩
  | 20 => ⟨S_, .f32⟩
  | 21 => ⟨S31x512, .f32⟩
  | 22 => ⟨S31x512, .f32⟩
  | 23 => ⟨S8192x512, .f32⟩
  | 24 => ⟨S8192x512, .f32⟩
  | 25 => ⟨S8192x512, .f32⟩
  | 26 => ⟨S_, .f32⟩
  | 27 => ⟨S512, .f32⟩
  | 28 => ⟨S1x512, .f32⟩
  | 29 => ⟨S_, .f32⟩
  | 30 => ⟨S512, .f32⟩
  | 31 => ⟨S_, .f32⟩
  | 32 => ⟨S8222x512, .f32⟩
  | 33 => ⟨S8222x512, .f32⟩
  | 34 => ⟨S1x512, .f32⟩
  | 35 => ⟨S_, .f32⟩
  | 36 => ⟨S31x512, .f32⟩
  | 37 => ⟨S31x512, .f32⟩
  | 38 => ⟨S8192x512, .f32⟩
  | 39 => ⟨S8192x512, .f32⟩
  | 40 => ⟨S8192x512, .f32⟩
  | 41 => ⟨S_, .f32⟩
  | 42 => ⟨S512, .f32⟩
  | 43 => ⟨S1x512, .f32⟩
  | 44 => ⟨S_, .f32⟩
  | 45 => ⟨S512, .f32⟩
  | 46 => ⟨S_, .f32⟩
  | 47 => ⟨S8222x512, .f32⟩
  | 48 => ⟨S8222x512, .f32⟩
  | 49 => ⟨S1x512, .f32⟩
  | 50 => ⟨S_, .f32⟩
  | 51 => ⟨S31x512, .f32⟩
  | 52 => ⟨S31x512, .f32⟩
  | 53 => ⟨S8192x512, .f32⟩
  | 54 => ⟨S8192x512, .f32⟩
  | 55 => ⟨S8192x512, .f32⟩
  | 56 => ⟨S_, .f32⟩
  | 57 => ⟨S512, .f32⟩
  | 58 => ⟨S1x512, .f32⟩
  | 59 => ⟨S_, .f32⟩
  | 60 => ⟨S512, .f32⟩
  | 61 => ⟨S_, .f32⟩
  | 62 => ⟨S8222x512, .f32⟩
  | 63 => ⟨S8222x512, .f32⟩
  | 64 => ⟨S1x512, .f32⟩
  | 65 => ⟨S_, .f32⟩
  | 66 => ⟨S31x512, .f32⟩
  | 67 => ⟨S31x512, .f32⟩
  | 68 => ⟨S8192x512, .f32⟩
  | 69 => ⟨S8192x512, .f32⟩
  | 70 => ⟨S8192x512, .f32⟩
  | 71 => ⟨S_, .f32⟩
  | 72 => ⟨S512, .f32⟩
  | 73 => ⟨S1x512, .f32⟩
  | 74 => ⟨S_, .f32⟩
  | 75 => ⟨S512, .f32⟩
  | 76 => ⟨S_, .f32⟩
  | 77 => ⟨S8222x512, .f32⟩
  | 78 => ⟨S8222x512, .f32⟩
  | 79 => ⟨S1x512, .f32⟩
  | 80 => ⟨S_, .f32⟩
  | 81 => ⟨S31x512, .f32⟩
  | 82 => ⟨S31x512, .f32⟩
  | 83 => ⟨S8192x512, .f32⟩
  | 84 => ⟨S8192x512, .f32⟩
  | 85 => ⟨S8192x512, .f32⟩
  | 86 => ⟨S_, .f32⟩
  | 87 => ⟨S512, .f32⟩
  | 88 => ⟨S1x512, .f32⟩
  | 89 => ⟨S_, .f32⟩
  | 90 => ⟨S512, .f32⟩
  | 91 => ⟨S_, .f32⟩
  | 92 => ⟨S8222x512, .f32⟩
  | 93 => ⟨S8222x512, .f32⟩
  | 94 => ⟨S1x512, .f32⟩
  | 95 => ⟨S_, .f32⟩
  | 96 => ⟨S31x512, .f32⟩
  | 97 => ⟨S31x512, .f32⟩
  | 98 => ⟨S8192x512, .f32⟩
  | 99 => ⟨S8192x512, .f32⟩
  | 100 => ⟨S8192x512, .f32⟩
  | 101 => ⟨S_, .f32⟩
  | 102 => ⟨S512, .f32⟩
  | 103 => ⟨S1x512, .f32⟩
  | 104 => ⟨S_, .f32⟩
  | 105 => ⟨S512, .f32⟩
  | 106 => ⟨S_, .f32⟩
  | 107 => ⟨S8222x512, .f32⟩
  | 108 => ⟨S8222x512, .f32⟩
  | 109 => ⟨S1x512, .f32⟩
  | 110 => ⟨S_, .f32⟩
  | 111 => ⟨S31x512, .f32⟩
  | 112 => ⟨S31x512, .f32⟩
  | 113 => ⟨S8192x512, .f32⟩
  | 114 => ⟨S8192x512, .f32⟩
  | 115 => ⟨S8192x512, .f32⟩
  | 116 => ⟨S_, .f32⟩
  | 117 => ⟨S512, .f32⟩
  | 118 => ⟨S1x512, .f32⟩
  | 119 => ⟨S_, .f32⟩
  | 120 => ⟨S512, .f32⟩
  | 121 => ⟨S_, .f32⟩
  | 122 => ⟨S8222x512, .f32⟩
  | 123 => ⟨S8222x512, .f32⟩
  | 124 => ⟨S1x512, .f32⟩
  | 125 => ⟨S_, .f32⟩
  | 126 => ⟨S31x512, .f32⟩
  | 127 => ⟨S31x512, .f32⟩
  | _ => ⟨S8192x512, .f32⟩

abbrev hbmTy0_4 (i : Nat) : BufTy := match i % 128 with
  | 0 => ⟨S8192x512, .f32⟩
  | 1 => ⟨S8192x512, .f32⟩
  | 2 => ⟨S8192x512, .f32⟩
  | 3 => ⟨S_, .f32⟩
  | 4 => ⟨S512, .f32⟩
  | 5 => ⟨S1x512, .f32⟩
  | 6 => ⟨S_, .f32⟩
  | 7 => ⟨S512, .f32⟩
  | 8 => ⟨S_, .f32⟩
  | 9 => ⟨S8222x512, .f32⟩
  | 10 => ⟨S8222x512, .f32⟩
  | 11 => ⟨S1x512, .f32⟩
  | 12 => ⟨S_, .f32⟩
  | 13 => ⟨S31x512, .f32⟩
  | 14 => ⟨S31x512, .f32⟩
  | 15 => ⟨S8192x512, .f32⟩
  | 16 => ⟨S8192x512, .f32⟩
  | 17 => ⟨S8192x512, .f32⟩
  | 18 => ⟨S_, .f32⟩
  | 19 => ⟨S512, .f32⟩
  | 20 => ⟨S1x512, .f32⟩
  | 21 => ⟨S_, .f32⟩
  | 22 => ⟨S512, .f32⟩
  | 23 => ⟨S_, .f32⟩
  | 24 => ⟨S8222x512, .f32⟩
  | 25 => ⟨S8222x512, .f32⟩
  | 26 => ⟨S1x512, .f32⟩
  | 27 => ⟨S_, .f32⟩
  | 28 => ⟨S31x512, .f32⟩
  | 29 => ⟨S31x512, .f32⟩
  | 30 => ⟨S8192x512, .f32⟩
  | 31 => ⟨S8192x512, .f32⟩
  | 32 => ⟨S8192x512, .f32⟩
  | 33 => ⟨S_, .f32⟩
  | 34 => ⟨S512, .f32⟩
  | 35 => ⟨S1x512, .f32⟩
  | 36 => ⟨S_, .f32⟩
  | 37 => ⟨S512, .f32⟩
  | 38 => ⟨S_, .f32⟩
  | 39 => ⟨S8222x512, .f32⟩
  | 40 => ⟨S8222x512, .f32⟩
  | 41 => ⟨S1x512, .f32⟩
  | 42 => ⟨S_, .f32⟩
  | 43 => ⟨S31x512, .f32⟩
  | 44 => ⟨S31x512, .f32⟩
  | 45 => ⟨S8192x512, .f32⟩
  | 46 => ⟨S8192x512, .f32⟩
  | 47 => ⟨S8192x512, .f32⟩
  | 48 => ⟨S_, .f32⟩
  | 49 => ⟨S512, .f32⟩
  | 50 => ⟨S1x512, .f32⟩
  | 51 => ⟨S_, .f32⟩
  | 52 => ⟨S512, .f32⟩
  | 53 => ⟨S_, .f32⟩
  | 54 => ⟨S8222x512, .f32⟩
  | 55 => ⟨S8222x512, .f32⟩
  | 56 => ⟨S1x512, .f32⟩
  | 57 => ⟨S_, .f32⟩
  | 58 => ⟨S31x512, .f32⟩
  | 59 => ⟨S31x512, .f32⟩
  | 60 => ⟨S8192x512, .f32⟩
  | 61 => ⟨S8192x512, .f32⟩
  | 62 => ⟨S8192x512, .f32⟩
  | 63 => ⟨S_, .f32⟩
  | 64 => ⟨S512, .f32⟩
  | 65 => ⟨S1x512, .f32⟩
  | 66 => ⟨S_, .f32⟩
  | 67 => ⟨S512, .f32⟩
  | 68 => ⟨S_, .f32⟩
  | 69 => ⟨S8222x512, .f32⟩
  | 70 => ⟨S8222x512, .f32⟩
  | 71 => ⟨S1x512, .f32⟩
  | 72 => ⟨S_, .f32⟩
  | 73 => ⟨S31x512, .f32⟩
  | 74 => ⟨S31x512, .f32⟩
  | 75 => ⟨S8192x512, .f32⟩
  | 76 => ⟨S8192x512, .f32⟩
  | 77 => ⟨S8192x512, .f32⟩
  | 78 => ⟨S_, .f32⟩
  | 79 => ⟨S512, .f32⟩
  | 80 => ⟨S1x512, .f32⟩
  | 81 => ⟨S_, .f32⟩
  | 82 => ⟨S512, .f32⟩
  | 83 => ⟨S_, .f32⟩
  | 84 => ⟨S8222x512, .f32⟩
  | 85 => ⟨S8222x512, .f32⟩
  | 86 => ⟨S1x512, .f32⟩
  | 87 => ⟨S_, .f32⟩
  | 88 => ⟨S31x512, .f32⟩
  | 89 => ⟨S31x512, .f32⟩
  | 90 => ⟨S8192x512, .f32⟩
  | 91 => ⟨S8192x512, .f32⟩
  | 92 => ⟨S8192x512, .f32⟩
  | 93 => ⟨S_, .f32⟩
  | 94 => ⟨S512, .f32⟩
  | 95 => ⟨S1x512, .f32⟩
  | 96 => ⟨S_, .f32⟩
  | 97 => ⟨S512, .f32⟩
  | 98 => ⟨S_, .f32⟩
  | 99 => ⟨S8222x512, .f32⟩
  | 100 => ⟨S8222x512, .f32⟩
  | 101 => ⟨S1x512, .f32⟩
  | 102 => ⟨S_, .f32⟩
  | 103 => ⟨S31x512, .f32⟩
  | 104 => ⟨S31x512, .f32⟩
  | 105 => ⟨S8192x512, .f32⟩
  | 106 => ⟨S8192x512, .f32⟩
  | 107 => ⟨S8192x512, .f32⟩
  | 108 => ⟨S_, .f32⟩
  | 109 => ⟨S512, .f32⟩
  | 110 => ⟨S1x512, .f32⟩
  | 111 => ⟨S_, .f32⟩
  | 112 => ⟨S512, .f32⟩
  | 113 => ⟨S_, .f32⟩
  | 114 => ⟨S8222x512, .f32⟩
  | 115 => ⟨S8222x512, .f32⟩
  | 116 => ⟨S1x512, .f32⟩
  | 117 => ⟨S_, .f32⟩
  | 118 => ⟨S31x512, .f32⟩
  | 119 => ⟨S31x512, .f32⟩
  | 120 => ⟨S8192x512, .f32⟩
  | 121 => ⟨S8192x512, .f32⟩
  | 122 => ⟨S8192x512, .f32⟩
  | 123 => ⟨S_, .f32⟩
  | 124 => ⟨S512, .f32⟩
  | 125 => ⟨S1x512, .f32⟩
  | 126 => ⟨S_, .f32⟩
  | 127 => ⟨S512, .f32⟩
  | _ => ⟨S8192x512, .f32⟩

abbrev hbmTy0_5 (i : Nat) : BufTy := match i % 128 with
  | 0 => ⟨S_, .f32⟩
  | 1 => ⟨S8222x512, .f32⟩
  | 2 => ⟨S8222x512, .f32⟩
  | 3 => ⟨S1x512, .f32⟩
  | 4 => ⟨S_, .f32⟩
  | 5 => ⟨S31x512, .f32⟩
  | 6 => ⟨S31x512, .f32⟩
  | 7 => ⟨S8192x512, .f32⟩
  | 8 => ⟨S8192x512, .f32⟩
  | 9 => ⟨S8192x512, .f32⟩
  | 10 => ⟨S_, .f32⟩
  | 11 => ⟨S512, .f32⟩
  | 12 => ⟨S1x512, .f32⟩
  | 13 => ⟨S_, .f32⟩
  | 14 => ⟨S512, .f32⟩
  | 15 => ⟨S_, .f32⟩
  | 16 => ⟨S8222x512, .f32⟩
  | 17 => ⟨S8222x512, .f32⟩
  | 18 => ⟨S1x512, .f32⟩
  | 19 => ⟨S_, .f32⟩
  | 20 => ⟨S31x512, .f32⟩
  | 21 => ⟨S31x512, .f32⟩
  | 22 => ⟨S8192x512, .f32⟩
  | 23 => ⟨S8192x512, .f32⟩
  | 24 => ⟨S8192x512, .f32⟩
  | 25 => ⟨S_, .f32⟩
  | 26 => ⟨S512, .f32⟩
  | 27 => ⟨S1x512, .f32⟩
  | 28 => ⟨S_, .f32⟩
  | 29 => ⟨S512, .f32⟩
  | 30 => ⟨S_, .f32⟩
  | 31 => ⟨S8222x512, .f32⟩
  | 32 => ⟨S8222x512, .f32⟩
  | 33 => ⟨S1x512, .f32⟩
  | 34 => ⟨S_, .f32⟩
  | 35 => ⟨S31x512, .f32⟩
  | 36 => ⟨S31x512, .f32⟩
  | 37 => ⟨S8192x512, .f32⟩
  | 38 => ⟨S8192x512, .f32⟩
  | 39 => ⟨S8192x512, .f32⟩
  | 40 => ⟨S_, .f32⟩
  | 41 => ⟨S512, .f32⟩
  | 42 => ⟨S1x512, .f32⟩
  | 43 => ⟨S_, .f32⟩
  | 44 => ⟨S512, .f32⟩
  | 45 => ⟨S_, .f32⟩
  | 46 => ⟨S8222x512, .f32⟩
  | 47 => ⟨S8222x512, .f32⟩
  | 48 => ⟨S1x512, .f32⟩
  | 49 => ⟨S_, .f32⟩
  | 50 => ⟨S31x512, .f32⟩
  | 51 => ⟨S31x512, .f32⟩
  | 52 => ⟨S8192x512, .f32⟩
  | 53 => ⟨S8192x512, .f32⟩
  | 54 => ⟨S8192x512, .f32⟩
  | 55 => ⟨S_, .f32⟩
  | 56 => ⟨S512, .f32⟩
  | 57 => ⟨S1x512, .f32⟩
  | 58 => ⟨S_, .f32⟩
  | 59 => ⟨S512, .f32⟩
  | 60 => ⟨S_, .f32⟩
  | 61 => ⟨S8222x512, .f32⟩
  | 62 => ⟨S8222x512, .f32⟩
  | 63 => ⟨S1x512, .f32⟩
  | 64 => ⟨S_, .f32⟩
  | 65 => ⟨S31x512, .f32⟩
  | 66 => ⟨S31x512, .f32⟩
  | 67 => ⟨S8192x512, .f32⟩
  | 68 => ⟨S8192x512, .f32⟩
  | 69 => ⟨S8192x512, .f32⟩
  | 70 => ⟨S_, .f32⟩
  | 71 => ⟨S512, .f32⟩
  | 72 => ⟨S1x512, .f32⟩
  | 73 => ⟨S_, .f32⟩
  | 74 => ⟨S512, .f32⟩
  | 75 => ⟨S_, .f32⟩
  | 76 => ⟨S8222x512, .f32⟩
  | 77 => ⟨S8222x512, .f32⟩
  | 78 => ⟨S1x512, .f32⟩
  | 79 => ⟨S_, .f32⟩
  | 80 => ⟨S31x512, .f32⟩
  | 81 => ⟨S31x512, .f32⟩
  | 82 => ⟨S8192x512, .f32⟩
  | 83 => ⟨S8192x512, .f32⟩
  | 84 => ⟨S8192x512, .f32⟩
  | 85 => ⟨S_, .f32⟩
  | 86 => ⟨S512, .f32⟩
  | 87 => ⟨S1x512, .f32⟩
  | 88 => ⟨S_, .f32⟩
  | 89 => ⟨S512, .f32⟩
  | 90 => ⟨S_, .f32⟩
  | 91 => ⟨S8222x512, .f32⟩
  | 92 => ⟨S8222x512, .f32⟩
  | 93 => ⟨S1x512, .f32⟩
  | 94 => ⟨S_, .f32⟩
  | 95 => ⟨S31x512, .f32⟩
  | 96 => ⟨S31x512, .f32⟩
  | 97 => ⟨S8192x512, .f32⟩
  | 98 => ⟨S8192x512, .f32⟩
  | 99 => ⟨S8192x512, .f32⟩
  | 100 => ⟨S_, .f32⟩
  | 101 => ⟨S512, .f32⟩
  | 102 => ⟨S1x512, .f32⟩
  | 103 => ⟨S_, .f32⟩
  | 104 => ⟨S512, .f32⟩
  | 105 => ⟨S_, .f32⟩
  | 106 => ⟨S8222x512, .f32⟩
  | 107 => ⟨S8222x512, .f32⟩
  | 108 => ⟨S1x512, .f32⟩
  | 109 => ⟨S_, .f32⟩
  | 110 => ⟨S31x512, .f32⟩
  | 111 => ⟨S31x512, .f32⟩
  | 112 => ⟨S8192x512, .f32⟩
  | 113 => ⟨S8192x512, .f32⟩
  | 114 => ⟨S8192x512, .f32⟩
  | 115 => ⟨S_, .f32⟩
  | 116 => ⟨S512, .f32⟩
  | 117 => ⟨S1x512, .f32⟩
  | 118 => ⟨S_, .f32⟩
  | 119 => ⟨S512, .f32⟩
  | 120 => ⟨S_, .f32⟩
  | 121 => ⟨S8222x512, .f32⟩
  | 122 => ⟨S8222x512, .f32⟩
  | 123 => ⟨S1x512, .f32⟩
  | 124 => ⟨S_, .f32⟩
  | 125 => ⟨S31x512, .f32⟩
  | 126 => ⟨S31x512, .f32⟩
  | 127 => ⟨S8192x512, .f32⟩
  | _ => ⟨S8192x512, .f32⟩

abbrev hbmTy0_6 (i : Nat) : BufTy := match i % 128 with
  | 0 => ⟨S8192x512, .f32⟩
  | 1 => ⟨S8192x512, .f32⟩
  | 2 => ⟨S_, .f32⟩
  | 3 => ⟨S512, .f32⟩
  | 4 => ⟨S1x512, .f32⟩
  | 5 => ⟨S_, .f32⟩
  | 6 => ⟨S512, .f32⟩
  | 7 => ⟨S_, .f32⟩
  | 8 => ⟨S8222x512, .f32⟩
  | 9 => ⟨S8222x512, .f32⟩
  | 10 => ⟨S1x512, .f32⟩
  | 11 => ⟨S_, .f32⟩
  | 12 => ⟨S31x512, .f32⟩
  | 13 => ⟨S31x512, .f32⟩
  | 14 => ⟨S8192x512, .f32⟩
  | 15 => ⟨S8192x512, .f32⟩
  | 16 => ⟨S8192x512, .f32⟩
  | 17 => ⟨S_, .f32⟩
  | 18 => ⟨S512, .f32⟩
  | 19 => ⟨S1x512, .f32⟩
  | 20 => ⟨S_, .f32⟩
  | 21 => ⟨S512, .f32⟩
  | 22 => ⟨S_, .f32⟩
  | 23 => ⟨S8222x512, .f32⟩
  | 24 => ⟨S8222x512, .f32⟩
  | 25 => ⟨S1x512, .f32⟩
  | 26 => ⟨S_, .f32⟩
  | 27 => ⟨S31x512, .f32⟩
  | 28 => ⟨S31x512, .f32⟩
  | 29 => ⟨S8192x512, .f32⟩
  | 30 => ⟨S8192x512, .f32⟩
  | 31 => ⟨S8192x512, .f32⟩
  | 32 => ⟨S_, .f32⟩
  | 33 => ⟨S512, .f32⟩
  | 34 => ⟨S1x512, .f32⟩
  | 35 => ⟨S_, .f32⟩
  | 36 => ⟨S512, .f32⟩
  | 37 => ⟨S_, .f32⟩
  | 38 => ⟨S8222x512, .f32⟩
  | 39 => ⟨S8222x512, .f32⟩
  | 40 => ⟨S1x512, .f32⟩
  | 41 => ⟨S_, .f32⟩
  | 42 => ⟨S31x512, .f32⟩
  | 43 => ⟨S31x512, .f32⟩
  | 44 => ⟨S30x512, .f32⟩
  | 45 => ⟨S8192x512, .f32⟩
  | 46 => ⟨S8192x512, .f32⟩
  | 47 => ⟨S8192x512, .f32⟩
  | 48 => ⟨S8192x512, .f32⟩
  | 49 => ⟨S8192x1024, .f32⟩
  | 50 => ⟨S8192x1024, .bf16⟩
  | 51 => ⟨S_, .i32⟩
  | 52 => ⟨S_, .f32⟩
  | 53 => ⟨S32x512, .f32⟩
  | 54 => ⟨S1x512, .f32⟩
  | 55 => ⟨S1x512, .f32⟩
  | 56 => ⟨S1x512, .f32⟩
  | _ => ⟨S8192x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_v186 : Ref sig .tc := ⟨.hbm, 199, rfl⟩
abbrev main_v187 : Ref sig .tc := ⟨.hbm, 200, rfl⟩
abbrev main_v188 : Ref sig .tc := ⟨.hbm, 201, rfl⟩
abbrev main_v189 : Ref sig .tc := ⟨.hbm, 202, rfl⟩
abbrev main_v190 : Ref sig .tc := ⟨.hbm, 203, rfl⟩
abbrev main_v191 : Ref sig .tc := ⟨.hbm, 204, rfl⟩
abbrev main_v192 : Ref sig .tc := ⟨.hbm, 205, rfl⟩
abbrev main_v193 : Ref sig .tc := ⟨.hbm, 206, rfl⟩
abbrev main_v194 : Ref sig .tc := ⟨.hbm, 207, rfl⟩
abbrev main_v195 : Ref sig .tc := ⟨.hbm, 208, rfl⟩
abbrev main_v196 : Ref sig .tc := ⟨.hbm, 209, rfl⟩
abbrev main_v197 : Ref sig .tc := ⟨.hbm, 210, rfl⟩
abbrev main_v198 : Ref sig .tc := ⟨.hbm, 211, rfl⟩
abbrev main_v199 : Ref sig .tc := ⟨.hbm, 212, rfl⟩
abbrev main_v200 : Ref sig .tc := ⟨.hbm, 213, rfl⟩
abbrev main_v201 : Ref sig .tc := ⟨.hbm, 214, rfl⟩
abbrev main_v202 : Ref sig .tc := ⟨.hbm, 215, rfl⟩
abbrev main_v203 : Ref sig .tc := ⟨.hbm, 216, rfl⟩
abbrev main_v204 : Ref sig .tc := ⟨.hbm, 217, rfl⟩
abbrev main_v205 : Ref sig .tc := ⟨.hbm, 218, rfl⟩
abbrev main_v206 : Ref sig .tc := ⟨.hbm, 219, rfl⟩
abbrev main_v207 : Ref sig .tc := ⟨.hbm, 220, rfl⟩
abbrev main_v208 : Ref sig .tc := ⟨.hbm, 221, rfl⟩
abbrev main_v209 : Ref sig .tc := ⟨.hbm, 222, rfl⟩
abbrev main_v210 : Ref sig .tc := ⟨.hbm, 223, rfl⟩
abbrev main_v211 : Ref sig .tc := ⟨.hbm, 224, rfl⟩
abbrev main_v212 : Ref sig .tc := ⟨.hbm, 225, rfl⟩
abbrev main_v213 : Ref sig .tc := ⟨.hbm, 226, rfl⟩
abbrev main_v214 : Ref sig .tc := ⟨.hbm, 227, rfl⟩
abbrev main_v215 : Ref sig .tc := ⟨.hbm, 228, rfl⟩
abbrev main_v216 : Ref sig .tc := ⟨.hbm, 229, rfl⟩
abbrev main_v217 : Ref sig .tc := ⟨.hbm, 230, rfl⟩
abbrev main_v218 : Ref sig .tc := ⟨.hbm, 231, rfl⟩
abbrev main_v219 : Ref sig .tc := ⟨.hbm, 232, rfl⟩
abbrev main_v220 : Ref sig .tc := ⟨.hbm, 233, rfl⟩
abbrev main_v221 : Ref sig .tc := ⟨.hbm, 234, rfl⟩
abbrev main_v222 : Ref sig .tc := ⟨.hbm, 235, rfl⟩
abbrev main_v223 : Ref sig .tc := ⟨.hbm, 236, rfl⟩
abbrev main_v224 : Ref sig .tc := ⟨.hbm, 237, rfl⟩
abbrev main_v225 : Ref sig .tc := ⟨.hbm, 238, rfl⟩
abbrev main_v226 : Ref sig .tc := ⟨.hbm, 239, rfl⟩
abbrev main_v227 : Ref sig .tc := ⟨.hbm, 240, rfl⟩
abbrev main_v228 : Ref sig .tc := ⟨.hbm, 241, rfl⟩
abbrev main_v229 : Ref sig .tc := ⟨.hbm, 242, rfl⟩
abbrev main_v230 : Ref sig .tc := ⟨.hbm, 243, rfl⟩
abbrev main_v231 : Ref sig .tc := ⟨.hbm, 244, rfl⟩
abbrev main_v232 : Ref sig .tc := ⟨.hbm, 245, rfl⟩
abbrev main_v233 : Ref sig .tc := ⟨.hbm, 246, rfl⟩
abbrev main_cst_5 : Ref sig .tc := ⟨.hbm, 247, rfl⟩
abbrev main_v234 : Ref sig .tc := ⟨.hbm, 248, rfl⟩
abbrev main_v235 : Ref sig .tc := ⟨.hbm, 249, rfl⟩
abbrev main_cst_6 : Ref sig .tc := ⟨.hbm, 250, rfl⟩
abbrev main_v236 : Ref sig .tc := ⟨.hbm, 251, rfl⟩
abbrev main_v237 : Ref sig .tc := ⟨.hbm, 252, rfl⟩
abbrev main_v238 : Ref sig .tc := ⟨.hbm, 253, rfl⟩
abbrev main_v239 : Ref sig .tc := ⟨.hbm, 254, rfl⟩
abbrev main_v240 : Ref sig .tc := ⟨.hbm, 255, rfl⟩
abbrev main_cst_7 : Ref sig .tc := ⟨.hbm, 256, rfl⟩
abbrev main_v241 : Ref sig .tc := ⟨.hbm, 257, rfl⟩
abbrev main_v242 : Ref sig .tc := ⟨.hbm, 258, rfl⟩
abbrev main_cst_8 : Ref sig .tc := ⟨.hbm, 259, rfl⟩
abbrev main_v243 : Ref sig .tc := ⟨.hbm, 260, rfl⟩
abbrev main_v244 : Ref sig .tc := ⟨.hbm, 261, rfl⟩
abbrev main_cst_9 : Ref sig .tc := ⟨.hbm, 262, rfl⟩
abbrev main_v245 : Ref sig .tc := ⟨.hbm, 263, rfl⟩
abbrev main_v246 : Ref sig .tc := ⟨.hbm, 264, rfl⟩
abbrev main_v247 : Ref sig .tc := ⟨.hbm, 265, rfl⟩
abbrev main_v248 : Ref sig .tc := ⟨.hbm, 266, rfl⟩
abbrev main_cst_10 : Ref sig .tc := ⟨.hbm, 267, rfl⟩
abbrev main_v249 : Ref sig .tc := ⟨.hbm, 268, rfl⟩
abbrev main_v250 : Ref sig .tc := ⟨.hbm, 269, rfl⟩
abbrev main_v251 : Ref sig .tc := ⟨.hbm, 270, rfl⟩
abbrev main_v252 : Ref sig .tc := ⟨.hbm, 271, rfl⟩
abbrev main_cst_11 : Ref sig .tc := ⟨.hbm, 272, rfl⟩
abbrev main_v253 : Ref sig .tc := ⟨.hbm, 273, rfl⟩
abbrev main_v254 : Ref sig .tc := ⟨.hbm, 274, rfl⟩
abbrev main_v255 : Ref sig .tc := ⟨.hbm, 275, rfl⟩
abbrev main_v256 : Ref sig .tc := ⟨.hbm, 276, rfl⟩
abbrev main_v257 : Ref sig .tc := ⟨.hbm, 277, rfl⟩
abbrev main_v258 : Ref sig .tc := ⟨.hbm, 278, rfl⟩
abbrev main_v259 : Ref sig .tc := ⟨.hbm, 279, rfl⟩
abbrev main_v260 : Ref sig .tc := ⟨.hbm, 280, rfl⟩
abbrev main_v261 : Ref sig .tc := ⟨.hbm, 281, rfl⟩
abbrev main_v262 : Ref sig .tc := ⟨.hbm, 282, rfl⟩
abbrev main_call0_v0 : Ref sig .tc := ⟨.hbm, 283, rfl⟩
abbrev main_call0_v1 : Ref sig .tc := ⟨.hbm, 284, rfl⟩
abbrev main_call0_cst : Ref sig .tc := ⟨.hbm, 285, rfl⟩
abbrev main_call0_v2 : Ref sig .tc := ⟨.hbm, 286, rfl⟩
abbrev main_call0_v3 : Ref sig .tc := ⟨.hbm, 287, rfl⟩
abbrev main_call0_cst_0 : Ref sig .tc := ⟨.hbm, 288, rfl⟩
abbrev main_call0_v4 : Ref sig .tc := ⟨.hbm, 289, rfl⟩
abbrev main_v263_2 : Ref sig .tc := ⟨.hbm, 290, rfl⟩
abbrev main_call0_cst_1 : Ref sig .tc := ⟨.hbm, 291, rfl⟩
abbrev main_call0_v6 : Ref sig .tc := ⟨.hbm, 292, rfl⟩
abbrev main_call0_v7 : Ref sig .tc := ⟨.hbm, 293, rfl⟩
abbrev main_v263_1 : Ref sig .tc := ⟨.hbm, 294, rfl⟩
abbrev main_v263_0 : Ref sig .tc := ⟨.hbm, 295, rfl⟩
abbrev main_call1_v0 : Ref sig .tc := ⟨.hbm, 296, rfl⟩
abbrev main_call1_v1 : Ref sig .tc := ⟨.hbm, 297, rfl⟩
abbrev main_call1_v2 : Ref sig .tc := ⟨.hbm, 298, rfl⟩
abbrev main_v264 : Ref sig .tc := ⟨.hbm, 299, rfl⟩
abbrev main_cst_12 : Ref sig .tc := ⟨.hbm, 300, rfl⟩
abbrev main_v265 : Ref sig .tc := ⟨.hbm, 301, rfl⟩
abbrev main_v266 : Ref sig .tc := ⟨.hbm, 302, rfl⟩
abbrev main_cst_13 : Ref sig .tc := ⟨.hbm, 303, rfl⟩
abbrev main_v267 : Ref sig .tc := ⟨.hbm, 304, rfl⟩
abbrev main_v268 : Ref sig .tc := ⟨.hbm, 305, rfl⟩
abbrev main_cst_14 : Ref sig .tc := ⟨.hbm, 306, rfl⟩
abbrev main_v269 : Ref sig .tc := ⟨.hbm, 307, rfl⟩
abbrev main_v270 : Ref sig .tc := ⟨.hbm, 308, rfl⟩
abbrev main_v271 : Ref sig .tc := ⟨.hbm, 309, rfl⟩
abbrev main_v272 : Ref sig .tc := ⟨.hbm, 310, rfl⟩
abbrev main_cst_15 : Ref sig .tc := ⟨.hbm, 311, rfl⟩
abbrev main_v273 : Ref sig .tc := ⟨.hbm, 312, rfl⟩
abbrev main_v274 : Ref sig .tc := ⟨.hbm, 313, rfl⟩
abbrev main_cst_16 : Ref sig .tc := ⟨.hbm, 314, rfl⟩
abbrev main_v275 : Ref sig .tc := ⟨.hbm, 315, rfl⟩
abbrev main_v276 : Ref sig .tc := ⟨.hbm, 316, rfl⟩
abbrev main_v277 : Ref sig .tc := ⟨.hbm, 317, rfl⟩
abbrev main_v278 : Ref sig .tc := ⟨.hbm, 318, rfl⟩
abbrev main_v279 : Ref sig .tc := ⟨.hbm, 319, rfl⟩
abbrev main_v280 : Ref sig .tc := ⟨.hbm, 320, rfl⟩
abbrev main_cst_17 : Ref sig .tc := ⟨.hbm, 321, rfl⟩
abbrev main_v281 : Ref sig .tc := ⟨.hbm, 322, rfl⟩
abbrev main_v282 : Ref sig .tc := ⟨.hbm, 323, rfl⟩
abbrev main_cst_18 : Ref sig .tc := ⟨.hbm, 324, rfl⟩
abbrev main_v283 : Ref sig .tc := ⟨.hbm, 325, rfl⟩
abbrev main_v284 : Ref sig .tc := ⟨.hbm, 326, rfl⟩
abbrev main_cst_19 : Ref sig .tc := ⟨.hbm, 327, rfl⟩
abbrev main_v285 : Ref sig .tc := ⟨.hbm, 328, rfl⟩
abbrev main_v286 : Ref sig .tc := ⟨.hbm, 329, rfl⟩
abbrev main_v287 : Ref sig .tc := ⟨.hbm, 330, rfl⟩
abbrev main_v288 : Ref sig .tc := ⟨.hbm, 331, rfl⟩
abbrev main_cst_20 : Ref sig .tc := ⟨.hbm, 332, rfl⟩
abbrev main_v289 : Ref sig .tc := ⟨.hbm, 333, rfl⟩
abbrev main_v290 : Ref sig .tc := ⟨.hbm, 334, rfl⟩
abbrev main_v291 : Ref sig .tc := ⟨.hbm, 335, rfl⟩
abbrev main_v292 : Ref sig .tc := ⟨.hbm, 336, rfl⟩
abbrev main_cst_21 : Ref sig .tc := ⟨.hbm, 337, rfl⟩
abbrev main_v293 : Ref sig .tc := ⟨.hbm, 338, rfl⟩
abbrev main_v294 : Ref sig .tc := ⟨.hbm, 339, rfl⟩
abbrev main_cst_22 : Ref sig .tc := ⟨.hbm, 340, rfl⟩
abbrev main_v295 : Ref sig .tc := ⟨.hbm, 341, rfl⟩
abbrev main_v296 : Ref sig .tc := ⟨.hbm, 342, rfl⟩
abbrev main_v297 : Ref sig .tc := ⟨.hbm, 343, rfl⟩
abbrev main_cst_23 : Ref sig .tc := ⟨.hbm, 344, rfl⟩
abbrev main_v298 : Ref sig .tc := ⟨.hbm, 345, rfl⟩
abbrev main_v299 : Ref sig .tc := ⟨.hbm, 346, rfl⟩
abbrev main_cst_24 : Ref sig .tc := ⟨.hbm, 347, rfl⟩
abbrev main_v300 : Ref sig .tc := ⟨.hbm, 348, rfl⟩
abbrev main_v301 : Ref sig .tc := ⟨.hbm, 349, rfl⟩
abbrev main_v302 : Ref sig .tc := ⟨.hbm, 350, rfl⟩
abbrev main_v303 : Ref sig .tc := ⟨.hbm, 351, rfl⟩
abbrev main_cst_25 : Ref sig .tc := ⟨.hbm, 352, rfl⟩
abbrev main_v304 : Ref sig .tc := ⟨.hbm, 353, rfl⟩
abbrev main_v305 : Ref sig .tc := ⟨.hbm, 354, rfl⟩
abbrev main_cst_26 : Ref sig .tc := ⟨.hbm, 355, rfl⟩
abbrev main_v306 : Ref sig .tc := ⟨.hbm, 356, rfl⟩
abbrev main_cst_27 : Ref sig .tc := ⟨.hbm, 357, rfl⟩
abbrev main_v307 : Ref sig .tc := ⟨.hbm, 358, rfl⟩
abbrev main_v308 : Ref sig .tc := ⟨.hbm, 359, rfl⟩
abbrev main_cst_28 : Ref sig .tc := ⟨.hbm, 360, rfl⟩
abbrev main_v309 : Ref sig .tc := ⟨.hbm, 361, rfl⟩
abbrev main_v310 : Ref sig .tc := ⟨.hbm, 362, rfl⟩
abbrev main_v311 : Ref sig .tc := ⟨.hbm, 363, rfl⟩
abbrev main_v312 : Ref sig .tc := ⟨.hbm, 364, rfl⟩
abbrev main_cst_29 : Ref sig .tc := ⟨.hbm, 365, rfl⟩
abbrev main_v313 : Ref sig .tc := ⟨.hbm, 366, rfl⟩
abbrev main_v314 : Ref sig .tc := ⟨.hbm, 367, rfl⟩
abbrev main_cst_30 : Ref sig .tc := ⟨.hbm, 368, rfl⟩
abbrev main_v315 : Ref sig .tc := ⟨.hbm, 369, rfl⟩
abbrev main_cst_31 : Ref sig .tc := ⟨.hbm, 370, rfl⟩
abbrev main_v316 : Ref sig .tc := ⟨.hbm, 371, rfl⟩
abbrev main_v317 : Ref sig .tc := ⟨.hbm, 372, rfl⟩
abbrev main_v318 : Ref sig .tc := ⟨.hbm, 373, rfl⟩
abbrev main_cst_32 : Ref sig .tc := ⟨.hbm, 374, rfl⟩
abbrev main_v319 : Ref sig .tc := ⟨.hbm, 375, rfl⟩
abbrev main_v320 : Ref sig .tc := ⟨.hbm, 376, rfl⟩
abbrev main_v321 : Ref sig .tc := ⟨.hbm, 377, rfl⟩
abbrev main_v322 : Ref sig .tc := ⟨.hbm, 378, rfl⟩
abbrev main_v323 : Ref sig .tc := ⟨.hbm, 379, rfl⟩
abbrev main_cst_33 : Ref sig .tc := ⟨.hbm, 380, rfl⟩
abbrev main_v324 : Ref sig .tc := ⟨.hbm, 381, rfl⟩
abbrev main_v325 : Ref sig .tc := ⟨.hbm, 382, rfl⟩
abbrev main_cst_34 : Ref sig .tc := ⟨.hbm, 383, rfl⟩
abbrev main_v326 : Ref sig .tc := ⟨.hbm, 384, rfl⟩
abbrev main_cst_35 : Ref sig .tc := ⟨.hbm, 385, rfl⟩
abbrev main_v327 : Ref sig .tc := ⟨.hbm, 386, rfl⟩
abbrev main_v328 : Ref sig .tc := ⟨.hbm, 387, rfl⟩
abbrev main_v329 : Ref sig .tc := ⟨.hbm, 388, rfl⟩
abbrev main_cst_36 : Ref sig .tc := ⟨.hbm, 389, rfl⟩
abbrev main_v330 : Ref sig .tc := ⟨.hbm, 390, rfl⟩
abbrev main_v331 : Ref sig .tc := ⟨.hbm, 391, rfl⟩
abbrev main_v332 : Ref sig .tc := ⟨.hbm, 392, rfl⟩
abbrev main_v333 : Ref sig .tc := ⟨.hbm, 393, rfl⟩
abbrev main_v334 : Ref sig .tc := ⟨.hbm, 394, rfl⟩
abbrev main_cst_37 : Ref sig .tc := ⟨.hbm, 395, rfl⟩
abbrev main_v335 : Ref sig .tc := ⟨.hbm, 396, rfl⟩
abbrev main_v336 : Ref sig .tc := ⟨.hbm, 397, rfl⟩
abbrev main_cst_38 : Ref sig .tc := ⟨.hbm, 398, rfl⟩
abbrev main_v337 : Ref sig .tc := ⟨.hbm, 399, rfl⟩
abbrev main_cst_39 : Ref sig .tc := ⟨.hbm, 400, rfl⟩
abbrev main_v338 : Ref sig .tc := ⟨.hbm, 401, rfl⟩
abbrev main_v339 : Ref sig .tc := ⟨.hbm, 402, rfl⟩
abbrev main_v340 : Ref sig .tc := ⟨.hbm, 403, rfl⟩
abbrev main_cst_40 : Ref sig .tc := ⟨.hbm, 404, rfl⟩
abbrev main_v341 : Ref sig .tc := ⟨.hbm, 405, rfl⟩
abbrev main_v342 : Ref sig .tc := ⟨.hbm, 406, rfl⟩
abbrev main_v343 : Ref sig .tc := ⟨.hbm, 407, rfl⟩
abbrev main_v344 : Ref sig .tc := ⟨.hbm, 408, rfl⟩
abbrev main_v345 : Ref sig .tc := ⟨.hbm, 409, rfl⟩
abbrev main_cst_41 : Ref sig .tc := ⟨.hbm, 410, rfl⟩
abbrev main_v346 : Ref sig .tc := ⟨.hbm, 411, rfl⟩
abbrev main_v347 : Ref sig .tc := ⟨.hbm, 412, rfl⟩
abbrev main_cst_42 : Ref sig .tc := ⟨.hbm, 413, rfl⟩
abbrev main_v348 : Ref sig .tc := ⟨.hbm, 414, rfl⟩
abbrev main_cst_43 : Ref sig .tc := ⟨.hbm, 415, rfl⟩
abbrev main_v349 : Ref sig .tc := ⟨.hbm, 416, rfl⟩
abbrev main_v350 : Ref sig .tc := ⟨.hbm, 417, rfl⟩
abbrev main_v351 : Ref sig .tc := ⟨.hbm, 418, rfl⟩
abbrev main_cst_44 : Ref sig .tc := ⟨.hbm, 419, rfl⟩
abbrev main_v352 : Ref sig .tc := ⟨.hbm, 420, rfl⟩
abbrev main_v353 : Ref sig .tc := ⟨.hbm, 421, rfl⟩
abbrev main_v354 : Ref sig .tc := ⟨.hbm, 422, rfl⟩
abbrev main_v355 : Ref sig .tc := ⟨.hbm, 423, rfl⟩
abbrev main_v356 : Ref sig .tc := ⟨.hbm, 424, rfl⟩
abbrev main_cst_45 : Ref sig .tc := ⟨.hbm, 425, rfl⟩
abbrev main_v357 : Ref sig .tc := ⟨.hbm, 426, rfl⟩
abbrev main_v358 : Ref sig .tc := ⟨.hbm, 427, rfl⟩
abbrev main_cst_46 : Ref sig .tc := ⟨.hbm, 428, rfl⟩
abbrev main_v359 : Ref sig .tc := ⟨.hbm, 429, rfl⟩
abbrev main_cst_47 : Ref sig .tc := ⟨.hbm, 430, rfl⟩
abbrev main_v360 : Ref sig .tc := ⟨.hbm, 431, rfl⟩
abbrev main_v361 : Ref sig .tc := ⟨.hbm, 432, rfl⟩
abbrev main_v362 : Ref sig .tc := ⟨.hbm, 433, rfl⟩
abbrev main_cst_48 : Ref sig .tc := ⟨.hbm, 434, rfl⟩
abbrev main_v363 : Ref sig .tc := ⟨.hbm, 435, rfl⟩
abbrev main_v364 : Ref sig .tc := ⟨.hbm, 436, rfl⟩
abbrev main_v365 : Ref sig .tc := ⟨.hbm, 437, rfl⟩
abbrev main_v366 : Ref sig .tc := ⟨.hbm, 438, rfl⟩
abbrev main_v367 : Ref sig .tc := ⟨.hbm, 439, rfl⟩
abbrev main_cst_49 : Ref sig .tc := ⟨.hbm, 440, rfl⟩
abbrev main_v368 : Ref sig .tc := ⟨.hbm, 441, rfl⟩
abbrev main_v369 : Ref sig .tc := ⟨.hbm, 442, rfl⟩
abbrev main_cst_50 : Ref sig .tc := ⟨.hbm, 443, rfl⟩
abbrev main_v370 : Ref sig .tc := ⟨.hbm, 444, rfl⟩
abbrev main_cst_51 : Ref sig .tc := ⟨.hbm, 445, rfl⟩
abbrev main_v371 : Ref sig .tc := ⟨.hbm, 446, rfl⟩
abbrev main_v372 : Ref sig .tc := ⟨.hbm, 447, rfl⟩
abbrev main_v373 : Ref sig .tc := ⟨.hbm, 448, rfl⟩
abbrev main_cst_52 : Ref sig .tc := ⟨.hbm, 449, rfl⟩
abbrev main_v374 : Ref sig .tc := ⟨.hbm, 450, rfl⟩
abbrev main_v375 : Ref sig .tc := ⟨.hbm, 451, rfl⟩
abbrev main_v376 : Ref sig .tc := ⟨.hbm, 452, rfl⟩
abbrev main_v377 : Ref sig .tc := ⟨.hbm, 453, rfl⟩
abbrev main_v378 : Ref sig .tc := ⟨.hbm, 454, rfl⟩
abbrev main_cst_53 : Ref sig .tc := ⟨.hbm, 455, rfl⟩
abbrev main_v379 : Ref sig .tc := ⟨.hbm, 456, rfl⟩
abbrev main_v380 : Ref sig .tc := ⟨.hbm, 457, rfl⟩
abbrev main_cst_54 : Ref sig .tc := ⟨.hbm, 458, rfl⟩
abbrev main_v381 : Ref sig .tc := ⟨.hbm, 459, rfl⟩
abbrev main_cst_55 : Ref sig .tc := ⟨.hbm, 460, rfl⟩
abbrev main_v382 : Ref sig .tc := ⟨.hbm, 461, rfl⟩
abbrev main_v383 : Ref sig .tc := ⟨.hbm, 462, rfl⟩
abbrev main_v384 : Ref sig .tc := ⟨.hbm, 463, rfl⟩
abbrev main_cst_56 : Ref sig .tc := ⟨.hbm, 464, rfl⟩
abbrev main_v385 : Ref sig .tc := ⟨.hbm, 465, rfl⟩
abbrev main_v386 : Ref sig .tc := ⟨.hbm, 466, rfl⟩
abbrev main_v387 : Ref sig .tc := ⟨.hbm, 467, rfl⟩
abbrev main_v388 : Ref sig .tc := ⟨.hbm, 468, rfl⟩
abbrev main_v389 : Ref sig .tc := ⟨.hbm, 469, rfl⟩
abbrev main_cst_57 : Ref sig .tc := ⟨.hbm, 470, rfl⟩
abbrev main_v390 : Ref sig .tc := ⟨.hbm, 471, rfl⟩
abbrev main_v391 : Ref sig .tc := ⟨.hbm, 472, rfl⟩
abbrev main_cst_58 : Ref sig .tc := ⟨.hbm, 473, rfl⟩
abbrev main_v392 : Ref sig .tc := ⟨.hbm, 474, rfl⟩
abbrev main_cst_59 : Ref sig .tc := ⟨.hbm, 475, rfl⟩
abbrev main_v393 : Ref sig .tc := ⟨.hbm, 476, rfl⟩
abbrev main_v394 : Ref sig .tc := ⟨.hbm, 477, rfl⟩
abbrev main_v395 : Ref sig .tc := ⟨.hbm, 478, rfl⟩
abbrev main_cst_60 : Ref sig .tc := ⟨.hbm, 479, rfl⟩
abbrev main_v396 : Ref sig .tc := ⟨.hbm, 480, rfl⟩
abbrev main_v397 : Ref sig .tc := ⟨.hbm, 481, rfl⟩
abbrev main_v398 : Ref sig .tc := ⟨.hbm, 482, rfl⟩
abbrev main_v399 : Ref sig .tc := ⟨.hbm, 483, rfl⟩
abbrev main_v400 : Ref sig .tc := ⟨.hbm, 484, rfl⟩
abbrev main_cst_61 : Ref sig .tc := ⟨.hbm, 485, rfl⟩
abbrev main_v401 : Ref sig .tc := ⟨.hbm, 486, rfl⟩
abbrev main_v402 : Ref sig .tc := ⟨.hbm, 487, rfl⟩
abbrev main_cst_62 : Ref sig .tc := ⟨.hbm, 488, rfl⟩
abbrev main_v403 : Ref sig .tc := ⟨.hbm, 489, rfl⟩
abbrev main_cst_63 : Ref sig .tc := ⟨.hbm, 490, rfl⟩
abbrev main_v404 : Ref sig .tc := ⟨.hbm, 491, rfl⟩
abbrev main_v405 : Ref sig .tc := ⟨.hbm, 492, rfl⟩
abbrev main_v406 : Ref sig .tc := ⟨.hbm, 493, rfl⟩
abbrev main_cst_64 : Ref sig .tc := ⟨.hbm, 494, rfl⟩
abbrev main_v407 : Ref sig .tc := ⟨.hbm, 495, rfl⟩
abbrev main_v408 : Ref sig .tc := ⟨.hbm, 496, rfl⟩
abbrev main_v409 : Ref sig .tc := ⟨.hbm, 497, rfl⟩
abbrev main_v410 : Ref sig .tc := ⟨.hbm, 498, rfl⟩
abbrev main_v411 : Ref sig .tc := ⟨.hbm, 499, rfl⟩
abbrev main_cst_65 : Ref sig .tc := ⟨.hbm, 500, rfl⟩
abbrev main_v412 : Ref sig .tc := ⟨.hbm, 501, rfl⟩
abbrev main_v413 : Ref sig .tc := ⟨.hbm, 502, rfl⟩
abbrev main_cst_66 : Ref sig .tc := ⟨.hbm, 503, rfl⟩
abbrev main_v414 : Ref sig .tc := ⟨.hbm, 504, rfl⟩
abbrev main_cst_67 : Ref sig .tc := ⟨.hbm, 505, rfl⟩
abbrev main_v415 : Ref sig .tc := ⟨.hbm, 506, rfl⟩
abbrev main_v416 : Ref sig .tc := ⟨.hbm, 507, rfl⟩
abbrev main_v417 : Ref sig .tc := ⟨.hbm, 508, rfl⟩
abbrev main_cst_68 : Ref sig .tc := ⟨.hbm, 509, rfl⟩
abbrev main_v418 : Ref sig .tc := ⟨.hbm, 510, rfl⟩
abbrev main_v419 : Ref sig .tc := ⟨.hbm, 511, rfl⟩
abbrev main_v420 : Ref sig .tc := ⟨.hbm, 512, rfl⟩
abbrev main_v421 : Ref sig .tc := ⟨.hbm, 513, rfl⟩
abbrev main_v422 : Ref sig .tc := ⟨.hbm, 514, rfl⟩
abbrev main_cst_69 : Ref sig .tc := ⟨.hbm, 515, rfl⟩
abbrev main_v423 : Ref sig .tc := ⟨.hbm, 516, rfl⟩
abbrev main_v424 : Ref sig .tc := ⟨.hbm, 517, rfl⟩
abbrev main_cst_70 : Ref sig .tc := ⟨.hbm, 518, rfl⟩
abbrev main_v425 : Ref sig .tc := ⟨.hbm, 519, rfl⟩
abbrev main_cst_71 : Ref sig .tc := ⟨.hbm, 520, rfl⟩
abbrev main_v426 : Ref sig .tc := ⟨.hbm, 521, rfl⟩
abbrev main_v427 : Ref sig .tc := ⟨.hbm, 522, rfl⟩
abbrev main_v428 : Ref sig .tc := ⟨.hbm, 523, rfl⟩
abbrev main_cst_72 : Ref sig .tc := ⟨.hbm, 524, rfl⟩
abbrev main_v429 : Ref sig .tc := ⟨.hbm, 525, rfl⟩
abbrev main_v430 : Ref sig .tc := ⟨.hbm, 526, rfl⟩
abbrev main_v431 : Ref sig .tc := ⟨.hbm, 527, rfl⟩
abbrev main_v432 : Ref sig .tc := ⟨.hbm, 528, rfl⟩
abbrev main_v433 : Ref sig .tc := ⟨.hbm, 529, rfl⟩
abbrev main_cst_73 : Ref sig .tc := ⟨.hbm, 530, rfl⟩
abbrev main_v434 : Ref sig .tc := ⟨.hbm, 531, rfl⟩
abbrev main_v435 : Ref sig .tc := ⟨.hbm, 532, rfl⟩
abbrev main_cst_74 : Ref sig .tc := ⟨.hbm, 533, rfl⟩
abbrev main_v436 : Ref sig .tc := ⟨.hbm, 534, rfl⟩
abbrev main_cst_75 : Ref sig .tc := ⟨.hbm, 535, rfl⟩
abbrev main_v437 : Ref sig .tc := ⟨.hbm, 536, rfl⟩
abbrev main_v438 : Ref sig .tc := ⟨.hbm, 537, rfl⟩
abbrev main_v439 : Ref sig .tc := ⟨.hbm, 538, rfl⟩
abbrev main_cst_76 : Ref sig .tc := ⟨.hbm, 539, rfl⟩
abbrev main_v440 : Ref sig .tc := ⟨.hbm, 540, rfl⟩
abbrev main_v441 : Ref sig .tc := ⟨.hbm, 541, rfl⟩
abbrev main_v442 : Ref sig .tc := ⟨.hbm, 542, rfl⟩
abbrev main_v443 : Ref sig .tc := ⟨.hbm, 543, rfl⟩
abbrev main_v444 : Ref sig .tc := ⟨.hbm, 544, rfl⟩
abbrev main_cst_77 : Ref sig .tc := ⟨.hbm, 545, rfl⟩
abbrev main_v445 : Ref sig .tc := ⟨.hbm, 546, rfl⟩
abbrev main_v446 : Ref sig .tc := ⟨.hbm, 547, rfl⟩
abbrev main_cst_78 : Ref sig .tc := ⟨.hbm, 548, rfl⟩
abbrev main_v447 : Ref sig .tc := ⟨.hbm, 549, rfl⟩
abbrev main_cst_79 : Ref sig .tc := ⟨.hbm, 550, rfl⟩
abbrev main_v448 : Ref sig .tc := ⟨.hbm, 551, rfl⟩
abbrev main_v449 : Ref sig .tc := ⟨.hbm, 552, rfl⟩
abbrev main_v450 : Ref sig .tc := ⟨.hbm, 553, rfl⟩
abbrev main_cst_80 : Ref sig .tc := ⟨.hbm, 554, rfl⟩
abbrev main_v451 : Ref sig .tc := ⟨.hbm, 555, rfl⟩
abbrev main_v452 : Ref sig .tc := ⟨.hbm, 556, rfl⟩
abbrev main_v453 : Ref sig .tc := ⟨.hbm, 557, rfl⟩
abbrev main_v454 : Ref sig .tc := ⟨.hbm, 558, rfl⟩
abbrev main_v455 : Ref sig .tc := ⟨.hbm, 559, rfl⟩
abbrev main_cst_81 : Ref sig .tc := ⟨.hbm, 560, rfl⟩
abbrev main_v456 : Ref sig .tc := ⟨.hbm, 561, rfl⟩
abbrev main_v457 : Ref sig .tc := ⟨.hbm, 562, rfl⟩
abbrev main_cst_82 : Ref sig .tc := ⟨.hbm, 563, rfl⟩
abbrev main_v458 : Ref sig .tc := ⟨.hbm, 564, rfl⟩
abbrev main_cst_83 : Ref sig .tc := ⟨.hbm, 565, rfl⟩
abbrev main_v459 : Ref sig .tc := ⟨.hbm, 566, rfl⟩
abbrev main_v460 : Ref sig .tc := ⟨.hbm, 567, rfl⟩
abbrev main_v461 : Ref sig .tc := ⟨.hbm, 568, rfl⟩
abbrev main_cst_84 : Ref sig .tc := ⟨.hbm, 569, rfl⟩
abbrev main_v462 : Ref sig .tc := ⟨.hbm, 570, rfl⟩
abbrev main_v463 : Ref sig .tc := ⟨.hbm, 571, rfl⟩
abbrev main_v464 : Ref sig .tc := ⟨.hbm, 572, rfl⟩
abbrev main_v465 : Ref sig .tc := ⟨.hbm, 573, rfl⟩
abbrev main_v466 : Ref sig .tc := ⟨.hbm, 574, rfl⟩
abbrev main_cst_85 : Ref sig .tc := ⟨.hbm, 575, rfl⟩
abbrev main_v467 : Ref sig .tc := ⟨.hbm, 576, rfl⟩
abbrev main_v468 : Ref sig .tc := ⟨.hbm, 577, rfl⟩
abbrev main_cst_86 : Ref sig .tc := ⟨.hbm, 578, rfl⟩
abbrev main_v469 : Ref sig .tc := ⟨.hbm, 579, rfl⟩
abbrev main_cst_87 : Ref sig .tc := ⟨.hbm, 580, rfl⟩
abbrev main_v470 : Ref sig .tc := ⟨.hbm, 581, rfl⟩
abbrev main_v471 : Ref sig .tc := ⟨.hbm, 582, rfl⟩
abbrev main_v472 : Ref sig .tc := ⟨.hbm, 583, rfl⟩
abbrev main_cst_88 : Ref sig .tc := ⟨.hbm, 584, rfl⟩
abbrev main_v473 : Ref sig .tc := ⟨.hbm, 585, rfl⟩
abbrev main_v474 : Ref sig .tc := ⟨.hbm, 586, rfl⟩
abbrev main_v475 : Ref sig .tc := ⟨.hbm, 587, rfl⟩
abbrev main_v476 : Ref sig .tc := ⟨.hbm, 588, rfl⟩
abbrev main_v477 : Ref sig .tc := ⟨.hbm, 589, rfl⟩
abbrev main_cst_89 : Ref sig .tc := ⟨.hbm, 590, rfl⟩
abbrev main_v478 : Ref sig .tc := ⟨.hbm, 591, rfl⟩
abbrev main_v479 : Ref sig .tc := ⟨.hbm, 592, rfl⟩
abbrev main_cst_90 : Ref sig .tc := ⟨.hbm, 593, rfl⟩
abbrev main_v480 : Ref sig .tc := ⟨.hbm, 594, rfl⟩
abbrev main_cst_91 : Ref sig .tc := ⟨.hbm, 595, rfl⟩
abbrev main_v481 : Ref sig .tc := ⟨.hbm, 596, rfl⟩
abbrev main_v482 : Ref sig .tc := ⟨.hbm, 597, rfl⟩
abbrev main_v483 : Ref sig .tc := ⟨.hbm, 598, rfl⟩
abbrev main_cst_92 : Ref sig .tc := ⟨.hbm, 599, rfl⟩
abbrev main_v484 : Ref sig .tc := ⟨.hbm, 600, rfl⟩
abbrev main_v485 : Ref sig .tc := ⟨.hbm, 601, rfl⟩
abbrev main_v486 : Ref sig .tc := ⟨.hbm, 602, rfl⟩
abbrev main_v487 : Ref sig .tc := ⟨.hbm, 603, rfl⟩
abbrev main_v488 : Ref sig .tc := ⟨.hbm, 604, rfl⟩
abbrev main_cst_93 : Ref sig .tc := ⟨.hbm, 605, rfl⟩
abbrev main_v489 : Ref sig .tc := ⟨.hbm, 606, rfl⟩
abbrev main_v490 : Ref sig .tc := ⟨.hbm, 607, rfl⟩
abbrev main_cst_94 : Ref sig .tc := ⟨.hbm, 608, rfl⟩
abbrev main_v491 : Ref sig .tc := ⟨.hbm, 609, rfl⟩
abbrev main_cst_95 : Ref sig .tc := ⟨.hbm, 610, rfl⟩
abbrev main_v492 : Ref sig .tc := ⟨.hbm, 611, rfl⟩
abbrev main_v493 : Ref sig .tc := ⟨.hbm, 612, rfl⟩
abbrev main_v494 : Ref sig .tc := ⟨.hbm, 613, rfl⟩
abbrev main_cst_96 : Ref sig .tc := ⟨.hbm, 614, rfl⟩
abbrev main_v495 : Ref sig .tc := ⟨.hbm, 615, rfl⟩
abbrev main_v496 : Ref sig .tc := ⟨.hbm, 616, rfl⟩
abbrev main_v497 : Ref sig .tc := ⟨.hbm, 617, rfl⟩
abbrev main_v498 : Ref sig .tc := ⟨.hbm, 618, rfl⟩
abbrev main_v499 : Ref sig .tc := ⟨.hbm, 619, rfl⟩
abbrev main_cst_97 : Ref sig .tc := ⟨.hbm, 620, rfl⟩
abbrev main_v500 : Ref sig .tc := ⟨.hbm, 621, rfl⟩
abbrev main_v501 : Ref sig .tc := ⟨.hbm, 622, rfl⟩
abbrev main_cst_98 : Ref sig .tc := ⟨.hbm, 623, rfl⟩
abbrev main_v502 : Ref sig .tc := ⟨.hbm, 624, rfl⟩
abbrev main_cst_99 : Ref sig .tc := ⟨.hbm, 625, rfl⟩
abbrev main_v503 : Ref sig .tc := ⟨.hbm, 626, rfl⟩
abbrev main_v504 : Ref sig .tc := ⟨.hbm, 627, rfl⟩
abbrev main_v505 : Ref sig .tc := ⟨.hbm, 628, rfl⟩
abbrev main_cst_100 : Ref sig .tc := ⟨.hbm, 629, rfl⟩
abbrev main_v506 : Ref sig .tc := ⟨.hbm, 630, rfl⟩
abbrev main_v507 : Ref sig .tc := ⟨.hbm, 631, rfl⟩
abbrev main_v508 : Ref sig .tc := ⟨.hbm, 632, rfl⟩
abbrev main_v509 : Ref sig .tc := ⟨.hbm, 633, rfl⟩
abbrev main_v510 : Ref sig .tc := ⟨.hbm, 634, rfl⟩
abbrev main_cst_101 : Ref sig .tc := ⟨.hbm, 635, rfl⟩
abbrev main_v511 : Ref sig .tc := ⟨.hbm, 636, rfl⟩
abbrev main_v512 : Ref sig .tc := ⟨.hbm, 637, rfl⟩
abbrev main_cst_102 : Ref sig .tc := ⟨.hbm, 638, rfl⟩
abbrev main_v513 : Ref sig .tc := ⟨.hbm, 639, rfl⟩
abbrev main_cst_103 : Ref sig .tc := ⟨.hbm, 640, rfl⟩
abbrev main_v514 : Ref sig .tc := ⟨.hbm, 641, rfl⟩
abbrev main_v515 : Ref sig .tc := ⟨.hbm, 642, rfl⟩
abbrev main_v516 : Ref sig .tc := ⟨.hbm, 643, rfl⟩
abbrev main_cst_104 : Ref sig .tc := ⟨.hbm, 644, rfl⟩
abbrev main_v517 : Ref sig .tc := ⟨.hbm, 645, rfl⟩
abbrev main_v518 : Ref sig .tc := ⟨.hbm, 646, rfl⟩
abbrev main_v519 : Ref sig .tc := ⟨.hbm, 647, rfl⟩
abbrev main_v520 : Ref sig .tc := ⟨.hbm, 648, rfl⟩
abbrev main_v521 : Ref sig .tc := ⟨.hbm, 649, rfl⟩
abbrev main_cst_105 : Ref sig .tc := ⟨.hbm, 650, rfl⟩
abbrev main_v522 : Ref sig .tc := ⟨.hbm, 651, rfl⟩
abbrev main_v523 : Ref sig .tc := ⟨.hbm, 652, rfl⟩
abbrev main_cst_106 : Ref sig .tc := ⟨.hbm, 653, rfl⟩
abbrev main_v524 : Ref sig .tc := ⟨.hbm, 654, rfl⟩
abbrev main_cst_107 : Ref sig .tc := ⟨.hbm, 655, rfl⟩
abbrev main_v525 : Ref sig .tc := ⟨.hbm, 656, rfl⟩
abbrev main_v526 : Ref sig .tc := ⟨.hbm, 657, rfl⟩
abbrev main_v527 : Ref sig .tc := ⟨.hbm, 658, rfl⟩
abbrev main_cst_108 : Ref sig .tc := ⟨.hbm, 659, rfl⟩
abbrev main_v528 : Ref sig .tc := ⟨.hbm, 660, rfl⟩
abbrev main_v529 : Ref sig .tc := ⟨.hbm, 661, rfl⟩
abbrev main_v530 : Ref sig .tc := ⟨.hbm, 662, rfl⟩
abbrev main_v531 : Ref sig .tc := ⟨.hbm, 663, rfl⟩
abbrev main_v532 : Ref sig .tc := ⟨.hbm, 664, rfl⟩
abbrev main_cst_109 : Ref sig .tc := ⟨.hbm, 665, rfl⟩
abbrev main_v533 : Ref sig .tc := ⟨.hbm, 666, rfl⟩
abbrev main_v534 : Ref sig .tc := ⟨.hbm, 667, rfl⟩
abbrev main_cst_110 : Ref sig .tc := ⟨.hbm, 668, rfl⟩
abbrev main_v535 : Ref sig .tc := ⟨.hbm, 669, rfl⟩
abbrev main_cst_111 : Ref sig .tc := ⟨.hbm, 670, rfl⟩
abbrev main_v536 : Ref sig .tc := ⟨.hbm, 671, rfl⟩
abbrev main_v537 : Ref sig .tc := ⟨.hbm, 672, rfl⟩
abbrev main_v538 : Ref sig .tc := ⟨.hbm, 673, rfl⟩
abbrev main_cst_112 : Ref sig .tc := ⟨.hbm, 674, rfl⟩
abbrev main_v539 : Ref sig .tc := ⟨.hbm, 675, rfl⟩
abbrev main_v540 : Ref sig .tc := ⟨.hbm, 676, rfl⟩
abbrev main_v541 : Ref sig .tc := ⟨.hbm, 677, rfl⟩
abbrev main_v542 : Ref sig .tc := ⟨.hbm, 678, rfl⟩
abbrev main_v543 : Ref sig .tc := ⟨.hbm, 679, rfl⟩
abbrev main_cst_113 : Ref sig .tc := ⟨.hbm, 680, rfl⟩
abbrev main_v544 : Ref sig .tc := ⟨.hbm, 681, rfl⟩
abbrev main_v545 : Ref sig .tc := ⟨.hbm, 682, rfl⟩
abbrev main_cst_114 : Ref sig .tc := ⟨.hbm, 683, rfl⟩
abbrev main_v546 : Ref sig .tc := ⟨.hbm, 684, rfl⟩
abbrev main_cst_115 : Ref sig .tc := ⟨.hbm, 685, rfl⟩
abbrev main_v547 : Ref sig .tc := ⟨.hbm, 686, rfl⟩
abbrev main_v548 : Ref sig .tc := ⟨.hbm, 687, rfl⟩
abbrev main_v549 : Ref sig .tc := ⟨.hbm, 688, rfl⟩
abbrev main_cst_116 : Ref sig .tc := ⟨.hbm, 689, rfl⟩
abbrev main_v550 : Ref sig .tc := ⟨.hbm, 690, rfl⟩
abbrev main_v551 : Ref sig .tc := ⟨.hbm, 691, rfl⟩
abbrev main_v552 : Ref sig .tc := ⟨.hbm, 692, rfl⟩
abbrev main_v553 : Ref sig .tc := ⟨.hbm, 693, rfl⟩
abbrev main_v554 : Ref sig .tc := ⟨.hbm, 694, rfl⟩
abbrev main_cst_117 : Ref sig .tc := ⟨.hbm, 695, rfl⟩
abbrev main_v555 : Ref sig .tc := ⟨.hbm, 696, rfl⟩
abbrev main_v556 : Ref sig .tc := ⟨.hbm, 697, rfl⟩
abbrev main_cst_118 : Ref sig .tc := ⟨.hbm, 698, rfl⟩
abbrev main_v557 : Ref sig .tc := ⟨.hbm, 699, rfl⟩
abbrev main_cst_119 : Ref sig .tc := ⟨.hbm, 700, rfl⟩
abbrev main_v558 : Ref sig .tc := ⟨.hbm, 701, rfl⟩
abbrev main_v559 : Ref sig .tc := ⟨.hbm, 702, rfl⟩
abbrev main_v560 : Ref sig .tc := ⟨.hbm, 703, rfl⟩
abbrev main_cst_120 : Ref sig .tc := ⟨.hbm, 704, rfl⟩
abbrev main_v561 : Ref sig .tc := ⟨.hbm, 705, rfl⟩
abbrev main_v562 : Ref sig .tc := ⟨.hbm, 706, rfl⟩
abbrev main_v563 : Ref sig .tc := ⟨.hbm, 707, rfl⟩
abbrev main_v564 : Ref sig .tc := ⟨.hbm, 708, rfl⟩
abbrev main_v565 : Ref sig .tc := ⟨.hbm, 709, rfl⟩
abbrev main_cst_121 : Ref sig .tc := ⟨.hbm, 710, rfl⟩
abbrev main_v566 : Ref sig .tc := ⟨.hbm, 711, rfl⟩
abbrev main_v567 : Ref sig .tc := ⟨.hbm, 712, rfl⟩
abbrev main_cst_122 : Ref sig .tc := ⟨.hbm, 713, rfl⟩
abbrev main_v568 : Ref sig .tc := ⟨.hbm, 714, rfl⟩
abbrev main_cst_123 : Ref sig .tc := ⟨.hbm, 715, rfl⟩
abbrev main_v569 : Ref sig .tc := ⟨.hbm, 716, rfl⟩
abbrev main_v570 : Ref sig .tc := ⟨.hbm, 717, rfl⟩
abbrev main_v571 : Ref sig .tc := ⟨.hbm, 718, rfl⟩
abbrev main_cst_124 : Ref sig .tc := ⟨.hbm, 719, rfl⟩
abbrev main_v572 : Ref sig .tc := ⟨.hbm, 720, rfl⟩
abbrev main_v573 : Ref sig .tc := ⟨.hbm, 721, rfl⟩
abbrev main_v574 : Ref sig .tc := ⟨.hbm, 722, rfl⟩
abbrev main_v575 : Ref sig .tc := ⟨.hbm, 723, rfl⟩
abbrev main_v576 : Ref sig .tc := ⟨.hbm, 724, rfl⟩
abbrev main_cst_125 : Ref sig .tc := ⟨.hbm, 725, rfl⟩
abbrev main_v577 : Ref sig .tc := ⟨.hbm, 726, rfl⟩
abbrev main_v578 : Ref sig .tc := ⟨.hbm, 727, rfl⟩
abbrev main_cst_126 : Ref sig .tc := ⟨.hbm, 728, rfl⟩
abbrev main_v579 : Ref sig .tc := ⟨.hbm, 729, rfl⟩
abbrev main_cst_127 : Ref sig .tc := ⟨.hbm, 730, rfl⟩
abbrev main_v580 : Ref sig .tc := ⟨.hbm, 731, rfl⟩
abbrev main_v581 : Ref sig .tc := ⟨.hbm, 732, rfl⟩
abbrev main_v582 : Ref sig .tc := ⟨.hbm, 733, rfl⟩
abbrev main_cst_128 : Ref sig .tc := ⟨.hbm, 734, rfl⟩
abbrev main_v583 : Ref sig .tc := ⟨.hbm, 735, rfl⟩
abbrev main_v584 : Ref sig .tc := ⟨.hbm, 736, rfl⟩
abbrev main_v585 : Ref sig .tc := ⟨.hbm, 737, rfl⟩
abbrev main_v586 : Ref sig .tc := ⟨.hbm, 738, rfl⟩
abbrev main_v587 : Ref sig .tc := ⟨.hbm, 739, rfl⟩
abbrev main_cst_129 : Ref sig .tc := ⟨.hbm, 740, rfl⟩
abbrev main_v588 : Ref sig .tc := ⟨.hbm, 741, rfl⟩
abbrev main_v589 : Ref sig .tc := ⟨.hbm, 742, rfl⟩
abbrev main_cst_130 : Ref sig .tc := ⟨.hbm, 743, rfl⟩
abbrev main_v590 : Ref sig .tc := ⟨.hbm, 744, rfl⟩
abbrev main_cst_131 : Ref sig .tc := ⟨.hbm, 745, rfl⟩
abbrev main_v591 : Ref sig .tc := ⟨.hbm, 746, rfl⟩
abbrev main_v592 : Ref sig .tc := ⟨.hbm, 747, rfl⟩
abbrev main_v593 : Ref sig .tc := ⟨.hbm, 748, rfl⟩
abbrev main_cst_132 : Ref sig .tc := ⟨.hbm, 749, rfl⟩
abbrev main_v594 : Ref sig .tc := ⟨.hbm, 750, rfl⟩
abbrev main_v595 : Ref sig .tc := ⟨.hbm, 751, rfl⟩
abbrev main_v596 : Ref sig .tc := ⟨.hbm, 752, rfl⟩
abbrev main_v597 : Ref sig .tc := ⟨.hbm, 753, rfl⟩
abbrev main_v598 : Ref sig .tc := ⟨.hbm, 754, rfl⟩
abbrev main_cst_133 : Ref sig .tc := ⟨.hbm, 755, rfl⟩
abbrev main_v599 : Ref sig .tc := ⟨.hbm, 756, rfl⟩
abbrev main_v600 : Ref sig .tc := ⟨.hbm, 757, rfl⟩
abbrev main_cst_134 : Ref sig .tc := ⟨.hbm, 758, rfl⟩
abbrev main_v601 : Ref sig .tc := ⟨.hbm, 759, rfl⟩
abbrev main_cst_135 : Ref sig .tc := ⟨.hbm, 760, rfl⟩
abbrev main_v602 : Ref sig .tc := ⟨.hbm, 761, rfl⟩
abbrev main_v603 : Ref sig .tc := ⟨.hbm, 762, rfl⟩
abbrev main_v604 : Ref sig .tc := ⟨.hbm, 763, rfl⟩
abbrev main_cst_136 : Ref sig .tc := ⟨.hbm, 764, rfl⟩
abbrev main_v605 : Ref sig .tc := ⟨.hbm, 765, rfl⟩
abbrev main_v606 : Ref sig .tc := ⟨.hbm, 766, rfl⟩
abbrev main_v607 : Ref sig .tc := ⟨.hbm, 767, rfl⟩
abbrev main_v608 : Ref sig .tc := ⟨.hbm, 768, rfl⟩
abbrev main_v609 : Ref sig .tc := ⟨.hbm, 769, rfl⟩
abbrev main_cst_137 : Ref sig .tc := ⟨.hbm, 770, rfl⟩
abbrev main_v610 : Ref sig .tc := ⟨.hbm, 771, rfl⟩
abbrev main_v611 : Ref sig .tc := ⟨.hbm, 772, rfl⟩
abbrev main_cst_138 : Ref sig .tc := ⟨.hbm, 773, rfl⟩
abbrev main_v612 : Ref sig .tc := ⟨.hbm, 774, rfl⟩
abbrev main_cst_139 : Ref sig .tc := ⟨.hbm, 775, rfl⟩
abbrev main_v613 : Ref sig .tc := ⟨.hbm, 776, rfl⟩
abbrev main_v614 : Ref sig .tc := ⟨.hbm, 777, rfl⟩
abbrev main_v615 : Ref sig .tc := ⟨.hbm, 778, rfl⟩
abbrev main_cst_140 : Ref sig .tc := ⟨.hbm, 779, rfl⟩
abbrev main_v616 : Ref sig .tc := ⟨.hbm, 780, rfl⟩
abbrev main_v617 : Ref sig .tc := ⟨.hbm, 781, rfl⟩
abbrev main_v618 : Ref sig .tc := ⟨.hbm, 782, rfl⟩
abbrev main_v619 : Ref sig .tc := ⟨.hbm, 783, rfl⟩
abbrev main_v620 : Ref sig .tc := ⟨.hbm, 784, rfl⟩
abbrev main_cst_141 : Ref sig .tc := ⟨.hbm, 785, rfl⟩
abbrev main_v621 : Ref sig .tc := ⟨.hbm, 786, rfl⟩
abbrev main_v622 : Ref sig .tc := ⟨.hbm, 787, rfl⟩
abbrev main_cst_142 : Ref sig .tc := ⟨.hbm, 788, rfl⟩
abbrev main_v623 : Ref sig .tc := ⟨.hbm, 789, rfl⟩
abbrev main_cst_143 : Ref sig .tc := ⟨.hbm, 790, rfl⟩
abbrev main_v624 : Ref sig .tc := ⟨.hbm, 791, rfl⟩
abbrev main_v625 : Ref sig .tc := ⟨.hbm, 792, rfl⟩
abbrev main_v626 : Ref sig .tc := ⟨.hbm, 793, rfl⟩
abbrev main_cst_144 : Ref sig .tc := ⟨.hbm, 794, rfl⟩
abbrev main_v627 : Ref sig .tc := ⟨.hbm, 795, rfl⟩
abbrev main_v628 : Ref sig .tc := ⟨.hbm, 796, rfl⟩
abbrev main_v629 : Ref sig .tc := ⟨.hbm, 797, rfl⟩
abbrev main_v630 : Ref sig .tc := ⟨.hbm, 798, rfl⟩
abbrev main_v631 : Ref sig .tc := ⟨.hbm, 799, rfl⟩
abbrev main_cst_145 : Ref sig .tc := ⟨.hbm, 800, rfl⟩
abbrev main_v632 : Ref sig .tc := ⟨.hbm, 801, rfl⟩
abbrev main_v633 : Ref sig .tc := ⟨.hbm, 802, rfl⟩
abbrev main_cst_146 : Ref sig .tc := ⟨.hbm, 803, rfl⟩
abbrev main_v634 : Ref sig .tc := ⟨.hbm, 804, rfl⟩
abbrev main_cst_147 : Ref sig .tc := ⟨.hbm, 805, rfl⟩
abbrev main_v635 : Ref sig .tc := ⟨.hbm, 806, rfl⟩
abbrev main_v636 : Ref sig .tc := ⟨.hbm, 807, rfl⟩
abbrev main_v637 : Ref sig .tc := ⟨.hbm, 808, rfl⟩
abbrev main_cst_148 : Ref sig .tc := ⟨.hbm, 809, rfl⟩
abbrev main_v638 : Ref sig .tc := ⟨.hbm, 810, rfl⟩
abbrev main_v639 : Ref sig .tc := ⟨.hbm, 811, rfl⟩
abbrev main_v640 : Ref sig .tc := ⟨.hbm, 812, rfl⟩
abbrev main_v641 : Ref sig .tc := ⟨.hbm, 813, rfl⟩
abbrev main_v642 : Ref sig .tc := ⟨.hbm, 814, rfl⟩
abbrev main_v643 : Ref sig .tc := ⟨.hbm, 815, rfl⟩
abbrev main_v644 : Ref sig .tc := ⟨.hbm, 816, rfl⟩
abbrev main_v645 : Ref sig .tc := ⟨.hbm, 817, rfl⟩
abbrev main_v646 : Ref sig .tc := ⟨.hbm, 818, rfl⟩
abbrev main_c : Ref sig .tc := ⟨.hbm, 819, rfl⟩
abbrev main_call2_v0 : Ref sig .tc := ⟨.hbm, 820, rfl⟩
abbrev main_v647 : Ref sig .tc := ⟨.hbm, 821, rfl⟩
abbrev main_v648 : Ref sig .tc := ⟨.hbm, 822, rfl⟩
abbrev main_v649 : Ref sig .tc := ⟨.hbm, 823, rfl⟩
abbrev main_v650 : Ref sig .tc := ⟨.hbm, 824, rfl⟩

abbrev nD : Nat := 1
abbrev τ : Topo := Topo.v7x

variable {F : FTy → Type} [FloatOps F]
-- ==== FmlpKernel.lean ====
abbrev S8192x1024 : Shape := ⟨2, ![8192, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S8x128x1024 : Shape := ⟨3, ![8, 128, 1024]⟩
abbrev S_ : Shape := ⟨0, ![]⟩
abbrev S8x352x1024 : Shape := ⟨3, ![8, 352, 1024]⟩
abbrev S8x1056x1024 : Shape := ⟨3, ![8, 1056, 1024]⟩
abbrev S1x1024 : Shape := ⟨2, ![1, 1024]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 27
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S8x128x1024, .f32⟩
  | .hbm, ⟨8, _⟩ => ⟨S_, .i32⟩
  | .hbm, ⟨9, _⟩ => ⟨S_, .f32⟩
  | .hbm, ⟨10, _⟩ => ⟨S8x352x1024, .f32⟩
  | .hbm, ⟨11, _⟩ => ⟨S2816x1024, .f32⟩
  | .hbm, ⟨12, _⟩ => ⟨S8x352x1024, .f32⟩
  | .hbm, ⟨13, _⟩ => ⟨S2816x1024, .f32⟩
  | .hbm, ⟨14, _⟩ => ⟨S8x352x1024, .f32⟩
  | .hbm, ⟨15, _⟩ => ⟨S8x1056x1024, .f32⟩
  | .hbm, ⟨16, _⟩ => ⟨S8x1056x1024, .bf16⟩
  | .hbm, ⟨17, _⟩ => ⟨S8x352x1024, .f32⟩
  | .hbm, ⟨18, _⟩ => ⟨S8x352x1024, .bf16⟩
  | .hbm, ⟨19, _⟩ => ⟨S8192x1024, .bf16⟩
  | .hbm, ⟨20, _⟩ => ⟨S1x1024, .f32⟩
  | .hbm, ⟨21, _⟩ => ⟨S8192x1024, .f32⟩
  | .hbm, ⟨22, _⟩ => ⟨S8192x1024, .bf16⟩
  | .hbm, ⟨23, _⟩ => ⟨S8192x2816, .bf16⟩
  | .hbm, ⟨24, _⟩ => ⟨S8192x2816, .bf16⟩
  | .hbm, ⟨25, _⟩ => ⟨S8192x2816, .bf16⟩
  | .hbm, ⟨26, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S8x128x1024, .bf16⟩
  | .local _ .vmem, ⟨5, _⟩ => ⟨S1x1024, .f32⟩
  | .local _ .vmem, ⟨6, _⟩ => ⟨S8x352x1024, .bf16⟩
  | .local _ .vmem, ⟨7, _⟩ => ⟨S8x352x1024, .bf16⟩
  | .local _ .vmem, ⟨8, _⟩ => ⟨S8x352x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x2816, .bf16⟩
  | .local _ .vmem, ⟨17, _⟩ => ⟨S512x2816, .bf16⟩
  | .local _ .vmem, ⟨18, _⟩ => ⟨S512x2816, .bf16⟩
  | .local _ .vmem, ⟨19, _⟩ => ⟨S512x1024, .f32⟩
  | .local _ .vmem, ⟨20, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev main_v12_4 : Ref sig .tc := ⟨.hbm, 25, rfl⟩
abbrev main_v12_5 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_5 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x352x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x352x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x352x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FmlpReferenceIdeal.lean ====
abbrev S8192x1024 : Shape := ⟨2, ![8192, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x1024, .bf16⟩
  | .hbm, ⟨38, _⟩ => ⟨S8192x2816, .bf16⟩
  | .hbm, ⟨39, _⟩ => ⟨S8192x2816, .bf16⟩
  | .hbm, ⟨40, _⟩ => ⟨S8192x2816, .bf16⟩
  | .hbm, ⟨41, _⟩ => ⟨S8192x1024, .f32⟩
  | .hbm, ⟨42, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩

abbrev nD : Nat := 1
abbrev τ : Topo := Topo.v7x

variable {F : FTy → Type} [FloatOps F]
-- ==== FretKernel.lean ====
abbrev S8192x512 : Shape := ⟨2, ![8192, 512]⟩
abbrev S512 : Shape := ⟨1, ![512]⟩
abbrev S_ : Shape := ⟨0, ![]⟩
abbrev S8192x1024 : Shape := ⟨2, ![8192, 1024]⟩
abbrev S8192x3072 : Shape := ⟨2, ![8192, 3072]⟩
abbrev S8192 : Shape := ⟨1, ![8192]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S1x1x128 : Shape := ⟨3, ![1, 1, 128]⟩
abbrev S4x1 : Shape := ⟨2, ![4, 1]⟩
abbrev S4x256 : Shape := ⟨2, ![4, 256]⟩
abbrev S4x256x1 : Shape := ⟨3, ![4, 256, 1]⟩
abbrev S4x256x128 : Shape := ⟨3, ![4, 256, 128]⟩
abbrev S1x8x128 : Shape := ⟨3, ![1, 8, 128]⟩
abbrev S4x8x128 : Shape := ⟨3, ![4, 8, 128]⟩
abbrev S1x512 : Shape := ⟨2, ![1, 512]⟩
abbrev S32x4x128x128 : Shape := ⟨4, ![32, 4, 128, 128]⟩
abbrev S256x512 : Shape := ⟨2, ![256, 512]⟩
abbrev S256x128 : Shape := ⟨2, ![256, 128]⟩
abbrev S1x4x128x128 : Shape := ⟨4, ![1, 4, 128, 128]⟩
abbrev S256x1024 : Shape := ⟨2, ![256, 1024]⟩
abbrev S4x128x128 : Shape := ⟨3, ![4, 128, 128]⟩
abbrev S1x128x128 : Shape := ⟨3, ![1, 128, 128]⟩
abbrev S128x128 : Shape := ⟨2, ![128, 128]⟩
abbrev S1x1x128x128 : Shape := ⟨4, ![1, 1, 128, 128]⟩
abbrev S1x256x128 : Shape := ⟨3, ![1, 256, 128]⟩
abbrev S1x128 : Shape := ⟨2, ![1, 128]⟩

abbrev nBuf : Space → Nat
  | .hbm => 131
  | .vmem => 26
  | .smem => 0
  | _ => 0

abbrev hbmTy0_0 (i : Nat) : BufTy := match i % 128 with
  | 0 => ⟨S8192x512, .bf16⟩
  | 1 => ⟨S8192x512, .f32⟩
  | 2 => ⟨S8192x512, .f32⟩
  | 3 => ⟨S8192x512, .f32⟩
  | 4 => ⟨S8192x512, .f32⟩
  | 5 => ⟨S512, .f32⟩
  | 6 => ⟨S_, .f32⟩
  | 7 => ⟨S8192x1024, .f32⟩
  | 8 => ⟨S8192x3072, .f32⟩
  | 9 => ⟨S8192, .f32⟩
  | 10 => ⟨S64, .f32⟩
  | 11 => ⟨S64, .f32⟩
  | 12 => ⟨S_, .f32⟩
  | 13 => ⟨S64, .f32⟩
  | 14 => ⟨S64, .f32⟩
  | 15 => ⟨S_, .f32⟩
  | 16 => ⟨S64, .f32⟩
  | 17 => ⟨S64, .f32⟩
  | 18 => ⟨S8192x1, .f32⟩
  | 19 => ⟨S1x64, .f32⟩
  | 20 => ⟨S8192x64, .f32⟩
  | 21 => ⟨S8192x64, .f32⟩
  | 22 => ⟨S8192x64, .f32⟩
  | 23 => ⟨S8192x64, .f32⟩
  | 24 => ⟨S8192x64, .f32⟩
  | 25 => ⟨S8192x128, .f32⟩
  | 26 => ⟨S8192x64, .f32⟩
  | 27 => ⟨S8192x128, .f32⟩
  | 28 => ⟨S4, .f32⟩
  | 29 => ⟨S_, .f32⟩
  | 30 => ⟨S4, .f32⟩
  | 31 => ⟨S4, .f32⟩
  | 32 => ⟨S_, .f32⟩
  | 33 => ⟨S4, .f32⟩
  | 34 => ⟨S4, .f32⟩
  | 35 => ⟨S_, .f32⟩
  | 36 => ⟨S4, .f32⟩
  | 37 => ⟨S4, .f32⟩
  | 38 => ⟨S4, .f32⟩
  | 39 => ⟨S256, .f32⟩
  | 40 => ⟨S256, .i32⟩
  | 41 => ⟨S_, .i32⟩
  | 42 => ⟨S_, .i32⟩
  | 43 => ⟨S256, .i32⟩
  | 44 => ⟨S256, .i32⟩
  | 45 => ⟨S256, .i32⟩
  | 46 => ⟨S_, .i32⟩
  | 47 => ⟨S256, .i32⟩
  | 48 => ⟨S256, .i1⟩
  | 49 => ⟨S256, .i32⟩
  | 50 => ⟨S256, .i32⟩
  | 51 => ⟨S_, .i32⟩
  | 52 => ⟨S256, .i32⟩
  | 53 => ⟨S256, .i1⟩
  | 54 => ⟨S256, .i1⟩
  | 55 => ⟨S_, .i32⟩
  | 56 => ⟨S256, .i32⟩
  | 57 => ⟨S256, .i32⟩
  | 58 => ⟨S256, .i32⟩
  | 59 => ⟨S256x1, .f32⟩
  | 60 => ⟨S1x256, .f32⟩
  | 61 => ⟨S256x256, .f32⟩
  | 62 => ⟨S256x256, .f32⟩
  | 63 => ⟨S256x256, .f32⟩
  | 64 => ⟨S256x1, .i32⟩
  | 65 => ⟨S1x256, .i32⟩
  | 66 => ⟨S256x256, .i32⟩
  | 67 => ⟨S256x256, .i32⟩
  | 68 => ⟨S256x256, .i1⟩
  | 69 => ⟨S1x256, .i32⟩
  | 70 => ⟨S256x1, .i32⟩
  | 71 => ⟨S256x256, .i32⟩
  | 72 => ⟨S256x256, .i32⟩
  | 73 => ⟨S256x256, .i1⟩
  | 74 => ⟨S256x256, .f32⟩
  | 75 => ⟨S256x256, .f32⟩
  | 76 => ⟨S256x256, .i1⟩
  | 77 => ⟨S1x256x256, .i1⟩
  | 78 => ⟨S4x1x1, .f32⟩
  | 79 => ⟨S1x256x256, .f32⟩
  | 80 => ⟨S4x256x256, .f32⟩
  | 81 => ⟨S4x256x256, .f32⟩
  | 82 => ⟨S4x256x256, .f32⟩
  | 83 => ⟨S4x256x256, .f32⟩
  | 84 => ⟨S_, .f32⟩
  | 85 => ⟨S_, .f32⟩
  | 86 => ⟨S4x256x256, .i1⟩
  | 87 => ⟨S4x256x256, .f32⟩
  | 88 => ⟨S4x256x256, .f32⟩
  | 89 => ⟨S_, .f32⟩
  | 90 => ⟨S1x1x128, .f32⟩
  | 91 => ⟨S4x1, .f32⟩
  | 92 => ⟨S_, .f32⟩
  | 93 => ⟨S256, .f32⟩
  | 94 => ⟨S256, .f32⟩
  | 95 => ⟨S1x256, .f32⟩
  | 96 => ⟨S4x256, .f32⟩
  | 97 => ⟨S4x256, .f32⟩
  | 98 => ⟨S4x256, .f32⟩
  | 99 => ⟨S4x256, .f32⟩
  | 100 => ⟨S4x256x1, .f32⟩
  | 101 => ⟨S4x256x128, .f32⟩
  | 102 => ⟨S4x256x128, .f32⟩
  | 103 => ⟨S4x256x128, .f32⟩
  | 104 => ⟨S4x1, .f32⟩
  | 105 => ⟨S_, .f32⟩
  | 106 => ⟨S256, .f32⟩
  | 107 => ⟨S256, .f32⟩
  | 108 => ⟨S1x256, .f32⟩
  | 109 => ⟨S4x256, .f32⟩
  | 110 => ⟨S4x256, .f32⟩
  | 111 => ⟨S4x256, .f32⟩
  | 112 => ⟨S4x256, .f32⟩
  | 113 => ⟨S4x256x1, .f32⟩
  | 114 => ⟨S4x256x128, .f32⟩
  | 115 => ⟨S4x256x128, .f32⟩
  | 116 => ⟨S4x256x128, .f32⟩
  | 117 => ⟨S_, .f32⟩
  | 118 => ⟨S4, .f32⟩
  | 119 => ⟨S4, .f32⟩
  | 120 => ⟨S4, .f32⟩
  | 121 => ⟨S4x1x1, .f32⟩
  | 122 => ⟨S_, .f32⟩
  | 123 => ⟨S1x8x128, .f32⟩
  | 124 => ⟨S4x8x128, .f32⟩
  | 125 => ⟨S4x8x128, .f32⟩
  | 126 => ⟨S4x8x128, .f32⟩
  | 127 => ⟨S1x512, .f32⟩
  | _ => ⟨S8192x512, .bf16⟩

abbrev hbmTy0_1 (i : Nat) : BufTy := match i % 128 with
  | 0 => ⟨S8192x512, .f32⟩
  | 1 => ⟨S32x4x128x128, .bf16⟩
  | 2 => ⟨S8192x1024, .bf16⟩
  | _ => ⟨S8192x512, .bf16⟩

abbrev hbmTy (i : Nat) : BufTy := match i / 128 with
  | 0 => hbmTy0_0 i
  | 1 => hbmTy0_1 i
  | _ => ⟨S8192x512, .bf16⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .bf16⟩
  | .local _ .vmem, ⟨9, _⟩ => ⟨S256x512, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S4x256x256, .f32⟩
  | .local _ .vmem, ⟨15, _⟩ => ⟨S4x256x128, .f32⟩
  | .local _ .vmem, ⟨16, _⟩ => ⟨S4x256x128, .f32⟩
  | .local _ .vmem, ⟨17, _⟩ => ⟨S4x8x128, .f32⟩
  | .local _ .vmem, ⟨18, _⟩ => ⟨S1x512, .f32⟩
  | .local _ .vmem, ⟨19, _⟩ => ⟨S256x512, .f32⟩
  | .local _ .vmem, ⟨20, _⟩ => ⟨S256x512, .f32⟩
  | .local _ .vmem, ⟨21, _⟩ => ⟨S1x4x128x128, .bf16⟩
  | .local _ .vmem, ⟨22, _⟩ => ⟨S1x4x128x128, .bf16⟩
  | .local _ .vmem, ⟨23, _⟩ => ⟨S256x1024, .bf16⟩
  | .local _ .vmem, ⟨24, _⟩ => ⟨S256x1024, .bf16⟩
  | .local _ .vmem, ⟨25, _⟩ => ⟨S4x128x128, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_c : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_0 : Ref sig .tc := ⟨.hbm, 55, rfl⟩
abbrev main_call0_v12 : Ref sig .tc := ⟨.hbm, 56, rfl⟩
abbrev main_call0_v13 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_5 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_v55 : Ref sig .tc := ⟨.hbm, 88, rfl⟩
abbrev main_cst_6 : Ref sig .tc := ⟨.hbm, 89, rfl⟩
abbrev main_v56 : Ref sig .tc := ⟨.hbm, 90, rfl⟩
abbrev main_v57 : Ref sig .tc := ⟨.hbm, 91, rfl⟩
abbrev main_cst_7 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_8 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_9 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_10 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90_0 : Ref sig .tc := ⟨.hbm, 128, rfl⟩
abbrev main_v90_1 : Ref sig .tc := ⟨.hbm, 129, rfl⟩
abbrev main_v90_2 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x128x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== FretReferenceIdeal.lean ====
abbrev S8192x512 : Shape := ⟨2, ![8192, 512]⟩
abbrev S512 : Shape := ⟨1, ![512]⟩
abbrev S1x8192x512 : Shape := ⟨3, ![1, 8192, 512]⟩
abbrev S8192 : Shape := ⟨1, ![8192]⟩
abbrev S1x8192x4x128 : Shape := ⟨4, ![1, 8192, 4, 128]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S1x8192x4x64 : Shape := ⟨4, ![1, 8192, 4, 64]⟩
abbrev S1x128x64x4x128 : Shape := ⟨5, ![1, 128, 64, 4, 128]⟩
abbrev S1x4x128x64x128 : Shape := ⟨5, ![1, 4, 128, 64, 128]⟩
abbrev S4 : Shape := ⟨1, ![4]⟩
abbrev S4x1x1 : Shape := ⟨3, ![4, 1, 1]⟩
abbrev S64x1 : Shape := ⟨2, ![64, 1]⟩
abbrev S64x64 : Shape := ⟨2, ![64, 64]⟩
abbrev S1x64x64 : Shape := ⟨3, ![1, 64, 64]⟩
abbrev S4x64x64 : Shape := ⟨3, ![4, 64, 64]⟩
abbrev S1x4x128x64x64 : Shape := ⟨5, ![1, 4, 128, 64, 64]⟩
abbrev S1x4x1x64x64 : Shape := ⟨5, ![1, 4, 1, 64, 64]⟩
abbrev S4x1 : Shape := ⟨2, ![4, 1]⟩
abbrev S4x64 : Shape := ⟨2, ![4, 64]⟩
abbrev S1x4x1x64x1 : Shape := ⟨5, ![1, 4, 1, 64, 1]⟩
abbrev S128x1x4x128x128 : Shape := ⟨5, ![128, 1, 4, 128, 128]⟩
abbrev S1x4x1x1 : Shape := ⟨4, ![1, 4, 1, 1]⟩
abbrev S1x4x128x128 : Shape := ⟨4, ![1, 4, 128, 128]⟩
abbrev S1x1x4x128x128 : Shape := ⟨5, ![1, 1, 4, 128, 128]⟩
abbrev S1x8192x4 : Shape := ⟨3, ![1, 8192, 4]⟩
abbrev S1x8192x4x1 : Shape := ⟨4, ![1, 8192, 4, 1]⟩
abbrev S1x1x512 : Shape := ⟨3, ![1, 1, 512]⟩
abbrev S8192x1024 : Shape := ⟨2, ![8192, 1024]⟩

abbrev nBuf : Space → Nat
  | .hbm => 215
  | .vmem => 0
  | .smem => 0
  | _ => 0

abbrev hbmTy0_0 (i : Nat) : BufTy := match i % 128 with
  | 0 => ⟨S8192x512, .bf16⟩
  | 1 => ⟨S8192x512, .f32⟩
  | 2 => ⟨S8192x512, .f32⟩
  | 3 => ⟨S8192x512, .f32⟩
  | 4 => ⟨S8192x512, .f32⟩
  | 5 => ⟨S512, .f32⟩
  | 6 => ⟨S1x8192x512, .f32⟩
  | 7 => ⟨S1x8192x512, .f32⟩
  | 8 => ⟨S1x8192x512, .f32⟩
  | 9 => ⟨S1x8192x512, .f32⟩
  | 10 => ⟨S8192, .f32⟩
  | 11 => ⟨S1x8192x4x128, .f32⟩
  | 12 => ⟨S64, .f32⟩
  | 13 => ⟨S64, .f32⟩
  | 14 => ⟨S_, .f32⟩
  | 15 => ⟨S64, .f32⟩
  | 16 => ⟨S64, .f32⟩
  | 17 => ⟨S_, .f32⟩
  | 18 => ⟨S64, .f32⟩
  | 19 => ⟨S64, .f32⟩
  | 20 => ⟨S8192x1, .f32⟩
  | 21 => ⟨S1x64, .f32⟩
  | 22 => ⟨S8192x64, .f32⟩
  | 23 => ⟨S8192x64, .f32⟩
  | 24 => ⟨S8192x64, .f32⟩
  | 25 => ⟨S8192x64, .f32⟩
  | 26 => ⟨S1x8192x1x64, .f32⟩
  | 27 => ⟨S8192x64, .f32⟩
  | 28 => ⟨S1x8192x1x64, .f32⟩
  | 29 => ⟨S1x8192x4x64, .f32⟩
  | 30 => ⟨S1x8192x4x64, .f32⟩
  | 31 => ⟨S1x8192x4x64, .f32⟩
  | 32 => ⟨S1x8192x4x64, .f32⟩
  | 33 => ⟨S1x8192x4x64, .f32⟩
  | 34 => ⟨S1x8192x4x64, .f32⟩
  | 35 => ⟨S1x8192x4x64, .f32⟩
  | 36 => ⟨S1x8192x4x64, .f32⟩
  | 37 => ⟨S1x8192x4x64, .f32⟩
  | 38 => ⟨S1x8192x4x64, .f32⟩
  | 39 => ⟨S1x8192x4x64, .f32⟩
  | 40 => ⟨S1x8192x4x64, .f32⟩
  | 41 => ⟨S1x8192x4x128, .f32⟩
  | 42 => ⟨S1x8192x4x128, .f32⟩
  | 43 => ⟨S64, .f32⟩
  | 44 => ⟨S64, .f32⟩
  | 45 => ⟨S_, .f32⟩
  | 46 => ⟨S64, .f32⟩
  | 47 => ⟨S64, .f32⟩
  | 48 => ⟨S_, .f32⟩
  | 49 => ⟨S64, .f32⟩
  | 50 => ⟨S64, .f32⟩
  | 51 => ⟨S8192x1, .f32⟩
  | 52 => ⟨S1x64, .f32⟩
  | 53 => ⟨S8192x64, .f32⟩
  | 54 => ⟨S8192x64, .f32⟩
  | 55 => ⟨S8192x64, .f32⟩
  | 56 => ⟨S8192x64, .f32⟩
  | 57 => ⟨S1x8192x1x64, .f32⟩
  | 58 => ⟨S8192x64, .f32⟩
  | 59 => ⟨S1x8192x1x64, .f32⟩
  | 60 => ⟨S1x8192x4x64, .f32⟩
  | 61 => ⟨S1x8192x4x64, .f32⟩
  | 62 => ⟨S1x8192x4x64, .f32⟩
  | 63 => ⟨S1x8192x4x64, .f32⟩
  | 64 => ⟨S1x8192x4x64, .f32⟩
  | 65 => ⟨S1x8192x4x64, .f32⟩
  | 66 => ⟨S1x8192x4x64, .f32⟩
  | 67 => ⟨S1x8192x4x64, .f32⟩
  | 68 => ⟨S1x8192x4x64, .f32⟩
  | 69 => ⟨S1x8192x4x64, .f32⟩
  | 70 => ⟨S1x8192x4x64, .f32⟩
  | 71 => ⟨S1x8192x4x64, .f32⟩
  | 72 => ⟨S1x8192x4x128, .f32⟩
  | 73 => ⟨S_, .f32⟩
  | 74 => ⟨S1x8192x4x128, .f32⟩
  | 75 => ⟨S1x8192x4x128, .f32⟩
  | 76 => ⟨S1x8192x4x128, .f32⟩
  | 77 => ⟨S1x128x64x4x128, .f32⟩
  | 78 => ⟨S1x4x128x64x128, .f32⟩
  | 79 => ⟨S1x128x64x4x128, .f32⟩
  | 80 => ⟨S1x4x128x64x128, .f32⟩
  | 81 => ⟨S1x128x64x4x128, .f32⟩
  | 82 => ⟨S1x4x128x64x128, .f32⟩
  | 83 => ⟨S4, .f32⟩
  | 84 => ⟨S_, .f32⟩
  | 85 => ⟨S4, .f32⟩
  | 86 => ⟨S4, .f32⟩
  | 87 => ⟨S_, .f32⟩
  | 88 => ⟨S4, .f32⟩
  | 89 => ⟨S4, .f32⟩
  | 90 => ⟨S_, .f32⟩
  | 91 => ⟨S4, .f32⟩
  | 92 => ⟨S4, .f32⟩
  | 93 => ⟨S4, .f32⟩
  | 94 => ⟨S64, .f32⟩
  | 95 => ⟨S4x1x1, .f32⟩
  | 96 => ⟨S64x1, .f32⟩
  | 97 => ⟨S1x64, .f32⟩
  | 98 => ⟨S64x64, .f32⟩
  | 99 => ⟨S64x64, .f32⟩
  | 100 => ⟨S64x64, .f32⟩
  | 101 => ⟨S64x64, .f32⟩
  | 102 => ⟨S1x64x64, .f32⟩
  | 103 => ⟨S4x64x64, .f32⟩
  | 104 => ⟨S4x64x64, .f32⟩
  | 105 => ⟨S4x64x64, .f32⟩
  | 106 => ⟨S4x64x64, .f32⟩
  | 107 => ⟨S1x4x128x64x64, .f32⟩
  | 108 => ⟨S1x4x1x64x64, .f32⟩
  | 109 => ⟨S1x4x128x64x64, .f32⟩
  | 110 => ⟨S1x4x128x64x64, .f32⟩
  | 111 => ⟨S1x4x128x64x128, .f32⟩
  | 112 => ⟨S4x1, .f32⟩
  | 113 => ⟨S_, .f32⟩
  | 114 => ⟨S64, .f32⟩
  | 115 => ⟨S64, .f32⟩
  | 116 => ⟨S1x64, .f32⟩
  | 117 => ⟨S4x64, .f32⟩
  | 118 => ⟨S4x64, .f32⟩
  | 119 => ⟨S4x64, .f32⟩
  | 120 => ⟨S4x64, .f32⟩
  | 121 => ⟨S1x4x1x64x1, .f32⟩
  | 122 => ⟨S1x4x128x64x128, .f32⟩
  | 123 => ⟨S1x4x128x64x128, .f32⟩
  | 124 => ⟨S128x1x4x128x128, .f32⟩
  | 125 => ⟨S_, .f32⟩
  | 126 => ⟨S4, .f32⟩
  | 127 => ⟨S4, .f32⟩
  | _ => ⟨S8192x512, .bf16⟩

abbrev hbmTy0_1 (i : Nat) : BufTy := match i % 128 with
  | 0 => ⟨S4, .f32⟩
  | 1 => ⟨S1x4x1x1, .f32⟩
  | 2 => ⟨S_, .f32⟩
  | 3 => ⟨S1x4x128x128, .f32⟩
  | 4 => ⟨S_, .f32⟩
  | 5 => ⟨S128x1x4x128x128, .f32⟩
  | 6 => ⟨S_, .i32⟩
  | 7 => ⟨S128x1x4x128x128, .f32⟩
  | 8 => ⟨S1x4x1x1, .f32⟩
  | 9 => ⟨S_, .i32⟩
  | 10 => ⟨S1x4x128x128, .f32⟩
  | 11 => ⟨S128x1x4x128x128, .f32⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S1x1x4x128x128, .f32⟩
  | 19 => ⟨S1x4x128x128, .f32⟩
  | 20 => ⟨S1x4x128x128, .f32⟩
  | 21 => ⟨S1x4x128x128, .f32⟩
  | 22 => ⟨S1x4x128x128, .f32⟩
  | 23 => ⟨S1x1x4x128x128, .f32⟩
  | 24 => ⟨S_, .i32⟩
  | 25 => ⟨S_, .i32⟩
  | 26 => ⟨S_, .i32⟩
  | 27 => ⟨S_, .i32⟩
  | 28 => ⟨S128x1x4x128x128, .f32⟩
  | 29 => ⟨S_, .i32⟩
  | 30 => ⟨S_, .i32⟩
  | 31 => ⟨S4x1, .f32⟩
  | 32 => ⟨S_, .f32⟩
  | 33 => ⟨S64, .f32⟩
  | 34 => ⟨S64, .f32⟩
  | 35 => ⟨S1x64, .f32⟩
  | 36 => ⟨S4x64, .f32⟩
  | 37 => ⟨S4x64, .f32⟩
  | 38 => ⟨S4x64, .f32⟩
  | 39 => ⟨S4x64, .f32⟩
  | 40 => ⟨S1x4x1x64x1, .f32⟩
  | 41 => ⟨S1x4x128x64x128, .f32⟩
  | 42 => ⟨S1x4x128x64x128, .f32⟩
  | 43 => ⟨S1x4x128x64x128, .f32⟩
  | 44 => ⟨S1x4x128x64x128, .f32⟩
  | 45 => ⟨S1x128x64x4x128, .f32⟩
  | 46 => ⟨S1x8192x4x128, .f32⟩
  | 47 => ⟨S_, .f32⟩
  | 48 => ⟨S1x8192x4, .f32⟩
  | 49 => ⟨S1x8192x4x1, .f32⟩
  | 50 => ⟨S_, .f32⟩
  | 51 => ⟨S1x8192x4x1, .f32⟩
  | 52 => ⟨S1x8192x4x1, .f32⟩
  | 53 => ⟨S1x8192x4x128, .f32⟩
  | 54 => ⟨S1x8192x4x128, .f32⟩
  | 55 => ⟨S1x8192x4x128, .f32⟩
  | 56 => ⟨S_, .f32⟩
  | 57 => ⟨S1x8192x4, .f32⟩
  | 58 => ⟨S1x8192x4x1, .f32⟩
  | 59 => ⟨S_, .f32⟩
  | 60 => ⟨S1x8192x4x1, .f32⟩
  | 61 => ⟨S1x8192x4x1, .f32⟩
  | 62 => ⟨S1x8192x4x128, .f32⟩
  | 63 => ⟨S1x8192x4x128, .f32⟩
  | 64 => ⟨S_, .f32⟩
  | 65 => ⟨S1x8192x4x1, .f32⟩
  | 66 => ⟨S1x8192x4x1, .f32⟩
  | 67 => ⟨S1x8192x4x1, .f32⟩
  | 68 => ⟨S1x8192x4x128, .f32⟩
  | 69 => ⟨S1x8192x4x128, .f32⟩
  | 70 => ⟨S1x8192x512, .f32⟩
  | 71 => ⟨S1x1x512, .f32⟩
  | 72 => ⟨S1x8192x512, .f32⟩
  | 73 => ⟨S1x8192x512, .f32⟩
  | 74 => ⟨S1x8192x512, .f32⟩
  | 75 => ⟨S1x8192x512, .f32⟩
  | 76 => ⟨S_, .f32⟩
  | 77 => ⟨S1x8192x512, .f32⟩
  | 78 => ⟨S1x8192x512, .f32⟩
  | 79 => ⟨S_, .f32⟩
  | 80 => ⟨S1x8192x512, .f32⟩
  | 81 => ⟨S1x8192x512, .f32⟩
  | 82 => ⟨S1x8192x512, .f32⟩
  | 83 => ⟨S1x8192x512, .f32⟩
  | 84 => ⟨S8192x512, .f32⟩
  | 85 => ⟨S8192x512, .bf16⟩
  | 86 => ⟨S8192x1024, .bf16⟩
  | _ => ⟨S8192x512, .bf16⟩

abbrev hbmTy (i : Nat) : BufTy := match i / 128 with
  | 0 => hbmTy0_0 i
  | 1 => hbmTy0_1 i
  | _ => ⟨S8192x512, .bf16⟩

abbrev bufTy : (tb : Table) → Fin (tcTables nBuf tb) → BufTy
  | .hbm, ⟨i, _⟩ => hbmTy i
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_1 : Ref sig .tc := ⟨.hbm, 45, rfl⟩
abbrev main_v37 : Ref sig .tc := ⟨.hbm, 46, rfl⟩
abbrev main_v38 : Ref sig .tc := ⟨.hbm, 47, rfl⟩
abbrev main_cst_2 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_3 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_cst_4 : Ref sig .tc := ⟨.hbm, 84, rfl⟩
abbrev main_v73 : Ref sig .tc := ⟨.hbm, 85, rfl⟩
abbrev main_v74 : Ref sig .tc := ⟨.hbm, 86, rfl⟩
abbrev main_cst_5 : Ref sig .tc := ⟨.hbm, 87, rfl⟩
abbrev main_v75 : Ref sig .tc := ⟨.hbm, 88, rfl⟩
abbrev main_v76 : Ref sig .tc := ⟨.hbm, 89, rfl⟩
abbrev main_cst_6 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_cst_7 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_cst_8 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_cst_9 : Ref sig .tc := ⟨.hbm, 130, rfl⟩
abbrev main_v114 : Ref sig .tc := ⟨.hbm, 131, rfl⟩
abbrev main_cst_10 : Ref sig .tc := ⟨.hbm, 132, rfl⟩
abbrev main_v115 : Ref sig .tc := ⟨.hbm, 133, rfl⟩
abbrev main_c : Ref sig .tc := ⟨.hbm, 134, rfl⟩
abbrev main_v116_0 : Ref sig .tc := ⟨.hbm, 135, rfl⟩
abbrev main_v116_1 : Ref sig .tc := ⟨.hbm, 136, rfl⟩
abbrev main_v116_2 : Ref sig .tc := ⟨.hbm, 137, rfl⟩
abbrev main_v116_3 : Ref sig .tc := ⟨.hbm, 138, rfl⟩
abbrev main_v116_4 : Ref sig .tc := ⟨.hbm, 139, rfl⟩
abbrev main_while0c_c_21 : Ref sig .tc := ⟨.hbm, 140, rfl⟩
abbrev main_while0c_v159 : Ref sig .tc := ⟨.hbm, 141, rfl⟩
abbrev main_while0b_call0_c : Ref sig .tc := ⟨.hbm, 142, rfl⟩
abbrev main_while0b_call0_c_0 : Ref sig .tc := ⟨.hbm, 143, rfl⟩
abbrev main_while0b_call0_c_1 : Ref sig .tc := ⟨.hbm, 144, rfl⟩
abbrev main_while0b_call0_c_2 : Ref sig .tc := ⟨.hbm, 145, rfl⟩
abbrev main_while0b_call0_v0 : Ref sig .tc := ⟨.hbm, 146, rfl⟩
abbrev main_while0b_v159 : Ref sig .tc := ⟨.hbm, 147, rfl⟩
abbrev main_while0b_v160 : Ref sig .tc := ⟨.hbm, 148, rfl⟩
abbrev main_while0b_v161 : Ref sig .tc := ⟨.hbm, 149, rfl⟩
abbrev main_while0b_v162 : Ref sig .tc := ⟨.hbm, 150, rfl⟩
abbrev main_while0b_call1_v0 : Ref sig .tc := ⟨.hbm, 151, rfl⟩
abbrev main_while0b_call1_c : Ref sig .tc := ⟨.hbm, 152, rfl⟩
abbrev main_while0b_call1_c_0 : Ref sig .tc := ⟨.hbm, 153, rfl⟩
abbrev main_while0b_call1_c_1 : Ref sig .tc := ⟨.hbm, 154, rfl⟩
abbrev main_while0b_call1_c_2 : Ref sig .tc := ⟨.hbm, 155, rfl⟩
abbrev main_while0b_v163 : Ref sig .tc := ⟨.hbm, 156, rfl⟩
abbrev main_while0b_c_21 : Ref sig .tc := ⟨.hbm, 157, rfl⟩
abbrev main_while0b_v164 : Ref sig .tc := ⟨.hbm, 158, rfl⟩
abbrev main_v117 : Ref sig .tc := ⟨.hbm, 159, rfl⟩
abbrev main_cst_11 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_cst_12 : Ref sig .tc := ⟨.hbm, 175, rfl⟩
abbrev main_v132 : Ref sig .tc := ⟨.hbm, 176, rfl⟩
abbrev main_v133 : Ref sig .tc := ⟨.hbm, 177, rfl⟩
abbrev main_cst_13 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_cst_14 : Ref sig .tc := ⟨.hbm, 184, rfl⟩
abbrev main_v139 : Ref sig .tc := ⟨.hbm, 185, rfl⟩
abbrev main_v140 : Ref sig .tc := ⟨.hbm, 186, rfl⟩
abbrev main_cst_15 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_cst_16 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_call2_v0 : Ref sig .tc := ⟨.hbm, 202, rfl⟩
abbrev main_call2_v1 : Ref sig .tc := ⟨.hbm, 203, rfl⟩
abbrev main_call2_cst : Ref sig .tc := ⟨.hbm, 204, rfl⟩
abbrev main_call2_v2 : Ref sig .tc := ⟨.hbm, 205, rfl⟩
abbrev main_call2_v3 : Ref sig .tc := ⟨.hbm, 206, rfl⟩
abbrev main_call2_cst_0 : Ref sig .tc := ⟨.hbm, 207, rfl⟩
abbrev main_call2_v4 : Ref sig .tc := ⟨.hbm, 208, rfl⟩
abbrev main_call2_v5 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩

abbrev nD : Nat := 1
abbrev τ : Topo := Topo.v7x

variable {F : FTy → Type} [FloatOps F]

abbrev main_while0_count : Scf.Loop 32 := ⟨0#32, 128#32, 1#32⟩
-- ==== FinKernel.lean ====
abbrev S8192x1024 : Shape := ⟨2, ![8192, 1024]⟩
abbrev S1024 : Shape := ⟨1, ![1024]⟩
abbrev S1024x3072 : Shape := ⟨2, ![1024, 3072]⟩
abbrev S31x512 : Shape := ⟨2, ![31, 512]⟩
abbrev S512 : Shape := ⟨1, ![512]⟩
abbrev S3072x1024 : Shape := ⟨2, ![3072, 1024]⟩
abbrev S8x384x1024 : Shape := ⟨3, ![8, 384, 1024]⟩
abbrev S_ : Shape := ⟨0, ![]⟩
abbrev S32x512 : Shape := ⟨2, ![32, 512]⟩
abbrev S1x1024 : Shape := ⟨2, ![1, 1024]⟩
abbrev S1x512 : Shape := ⟨2, ![1, 512]⟩
abbrev S8192x3072 : Shape := ⟨2, ![8192, 3072]⟩
abbrev S8192x512 : Shape := ⟨2, ![8192, 512]⟩
abbrev S512x1024 : Shape := ⟨2, ![512, 1024]⟩
abbrev S512x3072 : Shape := ⟨2, ![512, 3072]⟩
abbrev S512x512 : Shape := ⟨2, ![512, 512]⟩
abbrev S552x512 : Shape := ⟨2, ![552, 512]⟩
abbrev S8x544x512 : Shape := ⟨3, ![8, 544, 512]⟩
abbrev S8x512 : Shape := ⟨2, ![8, 512]⟩
abbrev S512x1 : Shape := ⟨2, ![512, 1]⟩
abbrev S1024x1024 : Shape := ⟨2, ![1024, 1024]⟩
abbrev S2048x1024 : Shape := ⟨2, ![2048, 1024]⟩
abbrev S512x2048 : Shape := ⟨2, ![512, 2048]⟩
abbrev S544x512 : Shape := ⟨2, ![544, 512]⟩
abbrev S1x544x512 : Shape := ⟨3, ![1, 544, 512]⟩
abbrev S64x512 : Shape := ⟨2, ![64, 512]⟩
abbrev S1x64x512 : Shape := ⟨3, ![1, 64, 512]⟩
abbrev S64 : Shape := ⟨1, ![64]⟩
abbrev S64x1 : Shape := ⟨2, ![64, 1]⟩

abbrev nBuf : Space → Nat
  | .hbm => 21
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S31x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S3072x1024, .f32⟩
  | .hbm, ⟨8, _⟩ => ⟨S3072x1024, .bf16⟩
  | .hbm, ⟨9, _⟩ => ⟨S8x384x1024, .bf16⟩
  | .hbm, ⟨10, _⟩ => ⟨S_, .i32⟩
  | .hbm, ⟨11, _⟩ => ⟨S_, .f32⟩
  | .hbm, ⟨12, _⟩ => ⟨S32x512, .f32⟩
  | .hbm, ⟨13, _⟩ => ⟨S1x1024, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S8192x1024, .bf16⟩
  | .hbm, ⟨18, _⟩ => ⟨S8192x3072, .f32⟩
  | .hbm, ⟨19, _⟩ => ⟨S8192x512, .f32⟩
  | .hbm, ⟨20, _⟩ => ⟨S8192x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x384x1024, .bf16⟩
  | .local _ .vmem, ⟨4, _⟩ => ⟨S32x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x1024, .bf16⟩
  | .local _ .vmem, ⟨9, _⟩ => ⟨S512x1024, .bf16⟩
  | .local _ .vmem, ⟨10, _⟩ => ⟨S512x3072, .f32⟩
  | .local _ .vmem, ⟨11, _⟩ => ⟨S512x3072, .f32⟩
  | .local _ .vmem, ⟨12, _⟩ => ⟨S512x512, .f32⟩
  | .local _ .vmem, ⟨13, _⟩ => ⟨S512x512, .f32⟩
  | .local _ .vmem, ⟨14, _⟩ => ⟨S512x512, .bf16⟩
  | .local _ .vmem, ⟨15, _⟩ => ⟨S512x512, .bf16⟩
  | .local _ .vmem, ⟨16, _⟩ => ⟨S552x512, .f32⟩
  | .local _ .vmem, ⟨17, _⟩ => ⟨S8x544x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FinReferenceIdeal.lean ====
abbrev S8192x1024 : Shape := ⟨2, ![8192, 1024]⟩
abbrev S1024 : Shape := ⟨1, ![1024]⟩
abbrev S1024x3072 : Shape := ⟨2, ![1024, 3072]⟩
abbrev S31x512 : Shape := ⟨2, ![31, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩
abbrev S8192x512 : Shape := ⟨2, ![8192, 512]⟩
abbrev S30x512 : Shape := ⟨2, ![30, 512]⟩
abbrev S8222x512 : Shape := ⟨2, ![8222, 512]⟩
abbrev S1x512 : Shape := ⟨2, ![1, 512]⟩

abbrev nBuf : Space → Nat
  | .hbm => 300
  | .vmem => 0
  | .smem => 0
  | _ => 0

abbrev hbmTy0_0 (i : Nat) : BufTy := match i % 128 with
  | 0 => ⟨S8192x1024, .f32⟩
  | 1 => ⟨S1024, .f32⟩
  | 2 => ⟨S1024x3072, .f32⟩
  | 3 => ⟨S31x512, .f32⟩
  | 4 => ⟨S512, .f32⟩
  | 5 => ⟨S512, .f32⟩
  | 6 => ⟨S512, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1024, .f32⟩
  | 19 => ⟨S8192x1024, .f32⟩
  | 20 => ⟨S1x1024, .f32⟩
  | 21 => ⟨S8192x1024, .f32⟩
  | 22 => ⟨S8192x1024, .f32⟩
  | 23 => ⟨S8192x3072, .f32⟩
  | 24 => ⟨S8192x512, .f32⟩
  | 25 => ⟨S8192x512, .f32⟩
  | 26 => ⟨S8192x512, .f32⟩
  | 27 => ⟨S8192x512, .f32⟩
  | 28 => ⟨S_, .f32⟩
  | 29 => ⟨S8192x512, .f32⟩
  | 30 => ⟨S8192x512, .f32⟩
  | 31 => ⟨S_, .f32⟩
  | 32 => ⟨S8192x512, .f32⟩
  | 33 => ⟨S8192x512, .f32⟩
  | 34 => ⟨S8192x512, .f32⟩
  | 35 => ⟨S_, .f32⟩
  | 36 => ⟨S30x512, .f32⟩
  | 37 => ⟨S8222x512, .f32⟩
  | 38 => ⟨S_, .f32⟩
  | 39 => ⟨S8192x512, .f32⟩
  | 40 => ⟨S1x512, .f32⟩
  | 41 => ⟨S512, .f32⟩
  | 42 => ⟨S8192x512, .f32⟩
  | 43 => ⟨S1x512, .f32⟩
  | 44 => ⟨S8192x512, .f32⟩
  | 45 => ⟨S8192x512, .f32⟩
  | 46 => ⟨S8192x512, .f32⟩
  | 47 => ⟨S1x512, .f32⟩
  | 48 => ⟨S512, .f32⟩
  | 49 => ⟨S8192x512, .f32⟩
  | 50 => ⟨S1x512, .f32⟩
  | 51 => ⟨S8192x512, .f32⟩
  | 52 => ⟨S8192x512, .f32⟩
  | 53 => ⟨S8192x512, .f32⟩
  | 54 => ⟨S1x512, .f32⟩
  | 55 => ⟨S512, .f32⟩
  | 56 => ⟨S8192x512, .f32⟩
  | 57 => ⟨S1x512, .f32⟩
  | 58 => ⟨S8192x512, .f32⟩
  | 59 => ⟨S8192x512, .f32⟩
  | 60 => ⟨S8192x512, .f32⟩
  | 61 => ⟨S1x512, .f32⟩
  | 62 => ⟨S512, .f32⟩
  | 63 => ⟨S8192x512, .f32⟩
  | 64 => ⟨S1x512, .f32⟩
  | 65 => ⟨S8192x512, .f32⟩
  | 66 => ⟨S8192x512, .f32⟩
  | 67 => ⟨S8192x512, .f32⟩
  | 68 => ⟨S1x512, .f32⟩
  | 69 => ⟨S512, .f32⟩
  | 70 => ⟨S8192x512, .f32⟩
  | 71 => ⟨S1x512, .f32⟩
  | 72 => ⟨S8192x512, .f32⟩
  | 73 => ⟨S8192x512, .f32⟩
  | 74 => ⟨S8192x512, .f32⟩
  | 75 => ⟨S1x512, .f32⟩
  | 76 => ⟨S512, .f32⟩
  | 77 => ⟨S8192x512, .f32⟩
  | 78 => ⟨S1x512, .f32⟩
  | 79 => ⟨S8192x512, .f32⟩
  | 80 => ⟨S8192x512, .f32⟩
  | 81 => ⟨S8192x512, .f32⟩
  | 82 => ⟨S1x512, .f32⟩
  | 83 => ⟨S512, .f32⟩
  | 84 => ⟨S8192x512, .f32⟩
  | 85 => ⟨S1x512, .f32⟩
  | 86 => ⟨S8192x512, .f32⟩
  | 87 => ⟨S8192x512, .f32⟩
  | 88 => ⟨S8192x512, .f32⟩
  | 89 => ⟨S1x512, .f32⟩
  | 90 => ⟨S512, .f32⟩
  | 91 => ⟨S8192x512, .f32⟩
  | 92 => ⟨S1x512, .f32⟩
  | 93 => ⟨S8192x512, .f32⟩
  | 94 => ⟨S8192x512, .f32⟩
  | 95 => ⟨S8192x512, .f32⟩
  | 96 => ⟨S1x512, .f32⟩
  | 97 => ⟨S512, .f32⟩
  | 98 => ⟨S8192x512, .f32⟩
  | 99 => ⟨S1x512, .f32⟩
  | 100 => ⟨S8192x512, .f32⟩
  | 101 => ⟨S8192x512, .f32⟩
  | 102 => ⟨S8192x512, .f32⟩
  | 103 => ⟨S1x512, .f32⟩
  | 104 => ⟨S512, .f32⟩
  | 105 => ⟨S8192x512, .f32⟩
  | 106 => ⟨S1x512, .f32⟩
  | 107 => ⟨S8192x512, .f32⟩
  | 108 => ⟨S8192x512, .f32⟩
  | 109 => ⟨S8192x512, .f32⟩
  | 110 => ⟨S1x512, .f32⟩
  | 111 => ⟨S512, .f32⟩
  | 112 => ⟨S8192x512, .f32⟩
  | 113 => ⟨S1x512, .f32⟩
  | 114 => ⟨S8192x512, .f32⟩
  | 115 => ⟨S8192x512, .f32⟩
  | 116 => ⟨S8192x512, .f32⟩
  | 117 => ⟨S1x512, .f32⟩
  | 118 => ⟨S512, .f32⟩
  | 119 => ⟨S8192x512, .f32⟩
  | 120 => ⟨S1x512, .f32⟩
  | 121 => ⟨S8192x512, .f32⟩
  | 122 => ⟨S8192x512, .f32⟩
  | 123 => ⟨S8192x512, .f32⟩
  | 124 => ⟨S1x512, .f32⟩
  | 125 => ⟨S512, .f32⟩
  | 126 => ⟨S8192x512, .f32⟩
  | 127 => ⟨S1x512, .f32⟩
  | _ => ⟨S8192x1024, .f32⟩

abbrev hbmTy0_1 (i : Nat) : BufTy := match i % 128 with
  | 0 => ⟨S8192x512, .f32⟩
  | 1 => ⟨S8192x512, .f32⟩
  | 2 => ⟨S8192x512, .f32⟩
  | 3 => ⟨S1x512, .f32⟩
  | 4 => ⟨S512, .f32⟩
  | 5 => ⟨S8192x512, .f32⟩
  | 6 => ⟨S1x512, .f32⟩
  | 7 => ⟨S8192x512, .f32⟩
  | 8 => ⟨S8192x512, .f32⟩
  | 9 => ⟨S8192x512, .f32⟩
  | 10 => ⟨S1x512, .f32⟩
  | 11 => ⟨S512, .f32⟩
  | 12 => ⟨S8192x512, .f32⟩
  | 13 => ⟨S1x512, .f32⟩
  | 14 => ⟨S8192x512, .f32⟩
  | 15 => ⟨S8192x512, .f32⟩
  | 16 => ⟨S8192x512, .f32⟩
  | 17 => ⟨S1x512, .f32⟩
  | 18 => ⟨S512, .f32⟩
  | 19 => ⟨S8192x512, .f32⟩
  | 20 => ⟨S1x512, .f32⟩
  | 21 => ⟨S8192x512, .f32⟩
  | 22 => ⟨S8192x512, .f32⟩
  | 23 => ⟨S8192x512, .f32⟩
  | 24 => ⟨S1x512, .f32⟩
  | 25 => ⟨S512, .f32⟩
  | 26 => ⟨S8192x512, .f32⟩
  | 27 => ⟨S1x512, .f32⟩
  | 28 => ⟨S8192x512, .f32⟩
  | 29 => ⟨S8192x512, .f32⟩
  | 30 => ⟨S8192x512, .f32⟩
  | 31 => ⟨S1x512, .f32⟩
  | 32 => ⟨S512, .f32⟩
  | 33 => ⟨S8192x512, .f32⟩
  | 34 => ⟨S1x512, .f32⟩
  | 35 => ⟨S8192x512, .f32⟩
  | 36 => ⟨S8192x512, .f32⟩
  | 37 => ⟨S8192x512, .f32⟩
  | 38 => ⟨S1x512, .f32⟩
  | 39 => ⟨S512, .f32⟩
  | 40 => ⟨S8192x512, .f32⟩
  | 41 => ⟨S1x512, .f32⟩
  | 42 => ⟨S8192x512, .f32⟩
  | 43 => ⟨S8192x512, .f32⟩
  | 44 => ⟨S8192x512, .f32⟩
  | 45 => ⟨S1x512, .f32⟩
  | 46 => ⟨S512, .f32⟩
  | 47 => ⟨S8192x512, .f32⟩
  | 48 => ⟨S1x512, .f32⟩
  | 49 => ⟨S8192x512, .f32⟩
  | 50 => ⟨S8192x512, .f32⟩
  | 51 => ⟨S8192x512, .f32⟩
  | 52 => ⟨S1x512, .f32⟩
  | 53 => ⟨S512, .f32⟩
  | 54 => ⟨S8192x512, .f32⟩
  | 55 => ⟨S1x512, .f32⟩
  | 56 => ⟨S8192x512, .f32⟩
  | 57 => ⟨S8192x512, .f32⟩
  | 58 => ⟨S8192x512, .f32⟩
  | 59 => ⟨S1x512, .f32⟩
  | 60 => ⟨S512, .f32⟩
  | 61 => ⟨S8192x512, .f32⟩
  | 62 => ⟨S1x512, .f32⟩
  | 63 => ⟨S8192x512, .f32⟩
  | 64 => ⟨S8192x512, .f32⟩
  | 65 => ⟨S8192x512, .f32⟩
  | 66 => ⟨S1x512, .f32⟩
  | 67 => ⟨S512, .f32⟩
  | 68 => ⟨S8192x512, .f32⟩
  | 69 => ⟨S1x512, .f32⟩
  | 70 => ⟨S8192x512, .f32⟩
  | 71 => ⟨S8192x512, .f32⟩
  | 72 => ⟨S8192x512, .f32⟩
  | 73 => ⟨S1x512, .f32⟩
  | 74 => ⟨S512, .f32⟩
  | 75 => ⟨S8192x512, .f32⟩
  | 76 => ⟨S1x512, .f32⟩
  | 77 => ⟨S8192x512, .f32⟩
  | 78 => ⟨S8192x512, .f32⟩
  | 79 => ⟨S8192x512, .f32⟩
  | 80 => ⟨S1x512, .f32⟩
  | 81 => ⟨S512, .f32⟩
  | 82 => ⟨S8192x512, .f32⟩
  | 83 => ⟨S1x512, .f32⟩
  | 84 => ⟨S8192x512, .f32⟩
  | 85 => ⟨S8192x512, .f32⟩
  | 86 => ⟨S8192x512, .f32⟩
  | 87 => ⟨S1x512, .f32⟩
  | 88 => ⟨S512, .f32⟩
  | 89 => ⟨S8192x512, .f32⟩
  | 90 => ⟨S1x512, .f32⟩
  | 91 => ⟨S8192x512, .f32⟩
  | 92 => ⟨S8192x512, .f32⟩
  | 93 => ⟨S8192x512, .f32⟩
  | 94 => ⟨S1x512, .f32⟩
  | 95 => ⟨S512, .f32⟩
  | 96 => ⟨S8192x512, .f32⟩
  | 97 => ⟨S1x512, .f32⟩
  | 98 => ⟨S8192x512, .f32⟩
  | 99 => ⟨S8192x512, .f32⟩
  | 100 => ⟨S8192x512, .f32⟩
  | 101 => ⟨S1x512, .f32⟩
  | 102 => ⟨S512, .f32⟩
  | 103 => ⟨S8192x512, .f32⟩
  | 104 => ⟨S1x512, .f32⟩
  | 105 => ⟨S8192x512, .f32⟩
  | 106 => ⟨S8192x512, .f32⟩
  | 107 => ⟨S8192x512, .f32⟩
  | 108 => ⟨S1x512, .f32⟩
  | 109 => ⟨S512, .f32⟩
  | 110 => ⟨S8192x512, .f32⟩
  | 111 => ⟨S1x512, .f32⟩
  | 112 => ⟨S8192x512, .f32⟩
  | 113 => ⟨S8192x512, .f32⟩
  | 114 => ⟨S8192x512, .f32⟩
  | 115 => ⟨S1x512, .f32⟩
  | 116 => ⟨S512, .f32⟩
  | 117 => ⟨S8192x512, .f32⟩
  | 118 => ⟨S1x512, .f32⟩
  | 119 => ⟨S8192x512, .f32⟩
  | 120 => ⟨S8192x512, .f32⟩
  | 121 => ⟨S8192x512, .f32⟩
  | 122 => ⟨S1x512, .f32⟩
  | 123 => ⟨S512, .f32⟩
  | 124 => ⟨S8192x512, .f32⟩
  | 125 => ⟨S1x512, .f32⟩
  | 126 => ⟨S8192x512, .f32⟩
  | 127 => ⟨S8192x512, .f32⟩
  | _ => ⟨S8192x1024, .f32⟩

abbrev hbmTy0_2 (i : Nat) : BufTy := match i % 128 with
  | 0 => ⟨S8192x512, .f32⟩
  | 1 => ⟨S1x512, .f32⟩
  | 2 => ⟨S8192x512, .f32⟩
  | 3 => ⟨S8192x512, .f32⟩
  | 4 => ⟨S_, .f32⟩
  | 5 => ⟨S8192, .f32⟩
  | 6 => ⟨S8192x1, .f32⟩
  | 7 => ⟨S_, .f32⟩
  | 8 => ⟨S8192x1, .f32⟩
  | 9 => ⟨S8192x1, .f32⟩
  | 10 => ⟨S8192x512, .f32⟩
  | 11 => ⟨S8192x512, .f32⟩
  | 12 => ⟨S8192x512, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S8192x512, .f32⟩
  | 20 => ⟨S8192x512, .f32⟩
  | 21 => ⟨S_, .f32⟩
  | 22 => ⟨S8192x1, .f32⟩
  | 23 => ⟨S8192x1, .f32⟩
  | 24 => ⟨S8192x1, .f32⟩
  | 25 => ⟨S8192x512, .f32⟩
  | 26 => ⟨S8192x512, .f32⟩
  | 27 => ⟨S1x512, .f32⟩
  | 28 => ⟨S8192x512, .f32⟩
  | 29 => ⟨S8192x512, .f32⟩
  | 30 => ⟨S1x512, .f32⟩
  | 31 => ⟨S8192x512, .f32⟩
  | 32 => ⟨S8192x512, .f32⟩
  | 33 => ⟨S8192x512, .f32⟩
  | 34 => ⟨S8192x512, .f32⟩
  | 35 => ⟨S_, .f32⟩
  | 36 => ⟨S8192x512, .f32⟩
  | 37 => ⟨S8192x512, .f32⟩
  | 38 => ⟨S_, .f32⟩
  | 39 => ⟨S8192x512, .f32⟩
  | 40 => ⟨S8192x512, .f32⟩
  | 41 => ⟨S8192x512, .f32⟩
  | 42 => ⟨S8192x1024, .bf16⟩
  | 43 => ⟨S8192x512, .bf16⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_v200 : Ref sig .tc := ⟨.hbm, 214, rfl⟩
abbrev main_v201 : Ref sig .tc := ⟨.hbm, 215, rfl⟩
abbrev main_v202 : Ref sig .tc := ⟨.hbm, 216, rfl⟩
abbrev main_v203 : Ref sig .tc := ⟨.hbm, 217, rfl⟩
abbrev main_v204 : Ref sig .tc := ⟨.hbm, 218, rfl⟩
abbrev main_v205 : Ref sig .tc := ⟨.hbm, 219, rfl⟩
abbrev main_v206 : Ref sig .tc := ⟨.hbm, 220, rfl⟩
abbrev main_v207 : Ref sig .tc := ⟨.hbm, 221, rfl⟩
abbrev main_v208 : Ref sig .tc := ⟨.hbm, 222, rfl⟩
abbrev main_v209 : Ref sig .tc := ⟨.hbm, 223, rfl⟩
abbrev main_v210 : Ref sig .tc := ⟨.hbm, 224, rfl⟩
abbrev main_v211 : Ref sig .tc := ⟨.hbm, 225, rfl⟩
abbrev main_v212 : Ref sig .tc := ⟨.hbm, 226, rfl⟩
abbrev main_v213 : Ref sig .tc := ⟨.hbm, 227, rfl⟩
abbrev main_v214 : Ref sig .tc := ⟨.hbm, 228, rfl⟩
abbrev main_v215 : Ref sig .tc := ⟨.hbm, 229, rfl⟩
abbrev main_v216 : Ref sig .tc := ⟨.hbm, 230, rfl⟩
abbrev main_v217 : Ref sig .tc := ⟨.hbm, 231, rfl⟩
abbrev main_v218 : Ref sig .tc := ⟨.hbm, 232, rfl⟩
abbrev main_v219 : Ref sig .tc := ⟨.hbm, 233, rfl⟩
abbrev main_v220 : Ref sig .tc := ⟨.hbm, 234, rfl⟩
abbrev main_v221 : Ref sig .tc := ⟨.hbm, 235, rfl⟩
abbrev main_v222 : Ref sig .tc := ⟨.hbm, 236, rfl⟩
abbrev main_v223 : Ref sig .tc := ⟨.hbm, 237, rfl⟩
abbrev main_v224 : Ref sig .tc := ⟨.hbm, 238, rfl⟩
abbrev main_v225 : Ref sig .tc := ⟨.hbm, 239, rfl⟩
abbrev main_v226 : Ref sig .tc := ⟨.hbm, 240, rfl⟩
abbrev main_v227 : Ref sig .tc := ⟨.hbm, 241, rfl⟩
abbrev main_v228 : Ref sig .tc := ⟨.hbm, 242, rfl⟩
abbrev main_v229 : Ref sig .tc := ⟨.hbm, 243, rfl⟩
abbrev main_v230 : Ref sig .tc := ⟨.hbm, 244, rfl⟩
abbrev main_v231 : Ref sig .tc := ⟨.hbm, 245, rfl⟩
abbrev main_v232 : Ref sig .tc := ⟨.hbm, 246, rfl⟩
abbrev main_v233 : Ref sig .tc := ⟨.hbm, 247, rfl⟩
abbrev main_v234 : Ref sig .tc := ⟨.hbm, 248, rfl⟩
abbrev main_v235 : Ref sig .tc := ⟨.hbm, 249, rfl⟩
abbrev main_v236 : Ref sig .tc := ⟨.hbm, 250, rfl⟩
abbrev main_v237 : Ref sig .tc := ⟨.hbm, 251, rfl⟩
abbrev main_v238 : Ref sig .tc := ⟨.hbm, 252, rfl⟩
abbrev main_v239 : Ref sig .tc := ⟨.hbm, 253, rfl⟩
abbrev main_v240 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_cst_6 : Ref sig .tc := ⟨.hbm, 260, rfl⟩
abbrev main_v246 : Ref sig .tc := ⟨.hbm, 261, rfl⟩
abbrev main_v247 : Ref sig .tc := ⟨.hbm, 262, rfl⟩
abbrev main_cst_7 : Ref sig .tc := ⟨.hbm, 263, rfl⟩
abbrev main_v248 : Ref sig .tc := ⟨.hbm, 264, rfl⟩
abbrev main_v249 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_cst_8 : Ref sig .tc := ⟨.hbm, 269, rfl⟩
abbrev main_v253 : Ref sig .tc := ⟨.hbm, 270, rfl⟩
abbrev main_v254 : Ref sig .tc := ⟨.hbm, 271, rfl⟩
abbrev main_cst_9 : Ref sig .tc := ⟨.hbm, 272, rfl⟩
abbrev main_v255 : Ref sig .tc := ⟨.hbm, 273, rfl⟩
abbrev main_v256 : Ref sig .tc := ⟨.hbm, 274, rfl⟩
abbrev main_v257 : Ref sig .tc := ⟨.hbm, 275, rfl⟩
abbrev main_v258 : Ref sig .tc := ⟨.hbm, 276, rfl⟩
abbrev main_cst_10 : Ref sig .tc := ⟨.hbm, 277, rfl⟩
abbrev main_v259 : Ref sig .tc := ⟨.hbm, 278, rfl⟩
abbrev main_v260 : Ref sig .tc := ⟨.hbm, 279, rfl⟩
abbrev main_v261 : Ref sig .tc := ⟨.hbm, 280, rfl⟩
abbrev main_v262 : Ref sig .tc := ⟨.hbm, 281, rfl⟩
abbrev main_v263 : Ref sig .tc := ⟨.hbm, 282, rfl⟩
abbrev main_v264 : Ref sig .tc := ⟨.hbm, 283, rfl⟩
abbrev main_v265 : Ref sig .tc := ⟨.hbm, 284, rfl⟩
abbrev main_v266 : Ref sig .tc := ⟨.hbm, 285, rfl⟩
abbrev main_v267 : Ref sig .tc := ⟨.hbm, 286, rfl⟩
abbrev main_v268 : Ref sig .tc := ⟨.hbm, 287, rfl⟩
abbrev main_v269 : Ref sig .tc := ⟨.hbm, 288, rfl⟩
abbrev main_call0_v0 : Ref sig .tc := ⟨.hbm, 289, rfl⟩
abbrev main_call0_v1 : Ref sig .tc := ⟨.hbm, 290, rfl⟩
abbrev main_call0_cst : Ref sig .tc := ⟨.hbm, 291, rfl⟩
abbrev main_call0_v2 : Ref sig .tc := ⟨.hbm, 292, rfl⟩
abbrev main_call0_v3 : Ref sig .tc := ⟨.hbm, 293, rfl⟩
abbrev main_call0_cst_0 : Ref sig .tc := ⟨.hbm, 294, rfl⟩
abbrev main_call0_v4 : Ref sig .tc := ⟨.hbm, 295, rfl⟩
abbrev main_call0_v5 : Ref sig .tc := ⟨.hbm, 296, rfl⟩
abbrev main_v270 : Ref sig .tc := ⟨.hbm, 297, rfl⟩
abbrev main_v271 : Ref sig .tc := ⟨.hbm, 298, rfl⟩
abbrev main_v272 : Ref sig .tc := ⟨.hbm, 299, rfl⟩

abbrev nD : Nat := 1
abbrev τ : Topo := Topo.v7x

variable {F : FTy → Type} [FloatOps F]
-- ==== AdamwKernel.lean ====
abbrev S4x1024x384 : Shape := ⟨3, ![4, 1024, 384]⟩
abbrev S4096x384 : Shape := ⟨2, ![4096, 384]⟩
abbrev S512x384 : Shape := ⟨2, ![512, 384]⟩

abbrev nBuf : Space → Nat
  | .hbm => 12
  | .vmem => 14
  | .smem => 0
  | _ => 0

abbrev bufTy : (tb : Table) → Fin (tcTables nBuf tb) → BufTy
  | .hbm, ⟨0, _⟩ => ⟨S4x1024x384, .f32⟩
  | .hbm, ⟨1, _⟩ => ⟨S4x1024x384, .f32⟩
  | .hbm, ⟨2, _⟩ => ⟨S4x1024x384, .f32⟩
  | .hbm, ⟨3, _⟩ => ⟨S4x1024x384, .f32⟩
  | .hbm, ⟨4, _⟩ => ⟨S4096x384, .f32⟩
  | .hbm, ⟨5, _⟩ => ⟨S4096x384, .f32⟩
  | .hbm, ⟨6, _⟩ => ⟨S4096x384, .f32⟩
  | .hbm, ⟨7, _⟩ => ⟨S4096x384, .f32⟩
  | .hbm, ⟨8, _⟩ => ⟨S4096x384, .f32⟩
  | .hbm, ⟨9, _⟩ => ⟨S4096x384, .f32⟩
  | .hbm, ⟨10, _⟩ => ⟨S4096x384, .f32⟩
  | .hbm, ⟨11, _⟩ => ⟨S4096x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | _, _ => ⟨S4x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwReferenceIdeal.lean ====
abbrev S4x1024x384 : Shape := ⟨3, ![4, 1024, 384]⟩
abbrev S_ : Shape := ⟨0, ![]⟩
abbrev S4096x384 : Shape := ⟨2, ![4096, 384]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x384, .f32⟩
  | .hbm, ⟨1, _⟩ => ⟨S4x1024x384, .f32⟩
  | .hbm, ⟨2, _⟩ => ⟨S4x1024x384, .f32⟩
  | .hbm, ⟨3, _⟩ => ⟨S4x1024x384, .f32⟩
  | .hbm, ⟨4, _⟩ => ⟨S_, .f32⟩
  | .hbm, ⟨5, _⟩ => ⟨S4x1024x384, .f32⟩
  | .hbm, ⟨6, _⟩ => ⟨S4x1024x384, .f32⟩
  | .hbm, ⟨7, _⟩ => ⟨S_, .f32⟩
  | .hbm, ⟨8, _⟩ => ⟨S4x1024x384, .f32⟩
  | .hbm, ⟨9, _⟩ => ⟨S4x1024x384, .f32⟩
  | .hbm, ⟨10, _⟩ => ⟨S4x1024x384, .f32⟩
  | .hbm, ⟨11, _⟩ => ⟨S_, .f32⟩
  | .hbm, ⟨12, _⟩ => ⟨S4x1024x384, .f32⟩
  | .hbm, ⟨13, _⟩ => ⟨S4x1024x384, .f32⟩
  | .hbm, ⟨14, _⟩ => ⟨S4x1024x384, .f32⟩
  | .hbm, ⟨15, _⟩ => ⟨S_, .f32⟩
  | .hbm, ⟨16, _⟩ => ⟨S4x1024x384, .f32⟩
  | .hbm, ⟨17, _⟩ => ⟨S4x1024x384, .f32⟩
  | .hbm, ⟨18, _⟩ => ⟨S4x1024x384, .f32⟩
  | .hbm, ⟨19, _⟩ => ⟨S_, .f32⟩
  | .hbm, ⟨20, _⟩ => ⟨S4x1024x384, .f32⟩
  | .hbm, ⟨21, _⟩ => ⟨S4x1024x384, .f32⟩
  | .hbm, ⟨22, _⟩ => ⟨S_, .f32⟩
  | .hbm, ⟨23, _⟩ => ⟨S4x1024x384, .f32⟩
  | .hbm, ⟨24, _⟩ => ⟨S4x1024x384, .f32⟩
  | .hbm, ⟨25, _⟩ => ⟨S4x1024x384, .f32⟩
  | .hbm, ⟨26, _⟩ => ⟨S_, .f32⟩
  | .hbm, ⟨27, _⟩ => ⟨S4x1024x384, .f32⟩
  | .hbm, ⟨28, _⟩ => ⟨S4x1024x384, .f32⟩
  | .hbm, ⟨29, _⟩ => ⟨S4x1024x384, .f32⟩
  | .hbm, ⟨30, _⟩ => ⟨S_, .f32⟩
  | .hbm, ⟨31, _⟩ => ⟨S4x1024x384, .f32⟩
  | .hbm, ⟨32, _⟩ => ⟨S4x1024x384, .f32⟩
  | .hbm, ⟨33, _⟩ => ⟨S4x1024x384, .f32⟩
  | .hbm, ⟨34, _⟩ => ⟨S_, .f32⟩
  | .hbm, ⟨35, _⟩ => ⟨S4x1024x384, .f32⟩
  | .hbm, ⟨36, _⟩ => ⟨S4x1024x384, .f32⟩
  | .hbm, ⟨37, _⟩ => ⟨S4096x384, .f32⟩
  | .hbm, ⟨38, _⟩ => ⟨S4096x384, .f32⟩
  | .hbm, ⟨39, _⟩ => ⟨S4096x384, .f32⟩
  | _, _ => ⟨S4x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== DwKernel.lean ====
abbrev S8192x3072 : Shape := ⟨2, ![8192, 3072]⟩
abbrev S8192x1024 : Shape := ⟨2, ![8192, 1024]⟩
abbrev S3072x1024 : Shape := ⟨2, ![3072, 1024]⟩
abbrev S2048x1536 : Shape := ⟨2, ![2048, 1536]⟩
abbrev S2048x1024 : Shape := ⟨2, ![2048, 1024]⟩
abbrev S1536x1024 : Shape := ⟨2, ![1536, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3072x1024, .f32⟩
  | .hbm, ⟨3, _⟩ => ⟨S3072x1024, .bf16⟩
  | .local _ .vmem, ⟨0, _⟩ => ⟨S2048x1536, .bf16⟩
  | .local _ .vmem, ⟨1, _⟩ => ⟨S2048x1536, .bf16⟩
  | .local _ .vmem, ⟨2, _⟩ => ⟨S2048x1024, .bf16⟩
  | .local _ .vmem, ⟨3, _⟩ => ⟨S2048x1024, .bf16⟩
  | .local _ .vmem, ⟨4, _⟩ => ⟨S1536x1024, .f32⟩
  | .local _ .vmem, ⟨5, _⟩ => ⟨S1536x1024, .f32⟩
  | .local _ .vmem, ⟨6, _⟩ => ⟨S1536x1024, .bf16⟩
  | .local _ .vmem, ⟨7, _⟩ => ⟨S1536x1024, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1536x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== DwReferenceIdeal.lean ====
abbrev S8192x3072 : Shape := ⟨2, ![8192, 3072]⟩
abbrev S8192x1024 : Shape := ⟨2, ![8192, 1024]⟩
abbrev S3072x8192 : Shape := ⟨2, ![3072, 8192]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x3072, .f32⟩
  | .hbm, ⟨3, _⟩ => ⟨S3072x8192, .f32⟩
  | .hbm, ⟨4, _⟩ => ⟨S8192x1024, .f32⟩
  | .hbm, ⟨5, _⟩ => ⟨S3072x1024, .f32⟩
  | .hbm, ⟨6, _⟩ => ⟨S3072x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.RmsNorm.lean ====
/- The gradient of the RMS norm over the extended reals: the kernels' hand-written formula and the one that
   differentiating the norm line by line gives are the same function of the row and of its cotangent, for every
   extended real input. A row whose squares sum to `⊤` has scale `0`, and then both sides are `0`. -/
module

public import Idealize.ShloMosaic.PureOps.Ideal
public import Idealize.ShloMosaic.PureOps.Ideal.Laws
public import Idealize.ShloMosaic.Lib.Pointwise

@[expose] public section

noncomputable section

open Idealize.ShloMosaic
open scoped BigOperators

namespace Cert.Rms

/-- The word of `1024.0`. -/
theorem c1024 : Ideal.ofBits .f32 0x44800000#32 = ((1024 : ℝ) : EReal) := by
  simp [Ideal.ofBits, Ideal.ieee, -EReal.coe_mul]; norm_num

/-- The word of `1/1024`. -/
theorem cInv1024 : Ideal.ofBits .f32 0x3A800000#32 = ((1 / 1024 : ℝ) : EReal) := by
  simp [Ideal.ofBits, Ideal.ieee, -EReal.coe_mul]; norm_num

/-- The word of `0.5`. -/
theorem cHalf : Ideal.ofBits .f32 0x3F000000#32 = ((1 / 2 : ℝ) : EReal) := by
  simp [Ideal.ofBits, Ideal.ieee, -EReal.coe_mul]; norm_num

/-- The word of `-0.5`. -/
theorem cNegHalf : Ideal.ofBits .f32 0xBF000000#32 = ((-(1 / 2) : ℝ) : EReal) := by
  simp [Ideal.ofBits, Ideal.ieee, -EReal.coe_mul]; norm_num

/-- The word of `2.0`. -/
theorem cTwo : Ideal.ofBits .f32 0x40000000#32 = ((2 : ℝ) : EReal) := by
  simp [Ideal.ofBits, Ideal.ieee, -EReal.coe_mul]; norm_num

/-- The norm's small constant is a positive real. -/
theorem cEps : ∃ e : ℝ, 0 < e ∧ Ideal.ofBits .f32 0x358637BD#32 = (e : EReal) :=
  ⟨8796093 / 8796093022208, by norm_num, by simp [Ideal.ofBits, Ideal.ieee, -EReal.coe_mul]; norm_num⟩

/-- A sum of reals, read as extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A nonnegative real factor goes through a sum of extended reals. -/
theorem coe_mul_sum {ι : Type} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, ← ih]
    exact EReal.left_distrib_of_nonneg_of_ne_top (EReal.coe_nonneg.2 ha) (EReal.coe_ne_top a) _ _

/-- A square is nonnegative. -/
theorem sq_nonneg' (x : EReal) : 0 ≤ x * x := by
  induction x with
  | bot => simp
  | top => simp
  | coe r => rw [← EReal.coe_mul]; exact EReal.coe_nonneg.2 (mul_self_nonneg r)

/-- Either the squares of a row sum to `⊤`, or every entry is a real. -/
theorem row_cases {n : ℕ} (x : Fin n → EReal) :
    (∑ k, x k * x k = ⊤) ∨ ∃ y : Fin n → ℝ, x = fun k => (y k : EReal) := by
  by_cases h : ∀ k, x k ≠ ⊤ ∧ x k ≠ ⊥
  · right
    exact ⟨fun k => (x k).toReal, funext fun k => (EReal.coe_toReal (h k).1 (h k).2).symm⟩
  · left
    push Not at h
    obtain ⟨k, hk⟩ := h
    have h1 : x k * x k = ⊤ := by
      by_cases hx : x k = ⊤
      · rw [hx]; rfl
      · rw [hk hx]; rfl
    refine top_le_iff.1 (le_trans (le_of_eq h1.symm) ?_)
    exact Finset.single_le_sum (f := fun k => x k * x k) (fun i _ => sq_nonneg' (x i)) (Finset.mem_univ k)

/-- The mean of the squares of a row plus the small constant. -/
def u (x : Fin 1024 → EReal) : EReal :=
  Ideal.div (∑ l, x l * x l) (Ideal.ofBits .f32 0x44800000#32) + Ideal.ofBits .f32 0x358637BD#32

/-- The row's scale. -/
def r (x : Fin 1024 → EReal) : EReal := Ideal.rsqrt (u x)

/-- Either the scale is `0` under the infinite mean, or the row is real and the scale is a positive real `R` with
    `R² U = 1`. -/
theorem scale_cases (x : Fin 1024 → EReal) :
    (u x = ⊤ ∧ r x = 0) ∨ ∃ (y : Fin 1024 → ℝ) (U R : ℝ), x = (fun k => (y k : EReal)) ∧ 0 < U ∧ 0 < R
      ∧ R * R * U = 1 ∧ u x = (U : EReal) ∧ r x = (R : EReal) := by
  obtain ⟨e, he, hw⟩ := cEps
  rcases row_cases x with h | ⟨y, rfl⟩
  · left
    have hu : u x = ⊤ := by
      unfold u
      rw [h, c1024, hw, Ideal.div_coe (by norm_num), EReal.top_mul_coe_of_pos (by norm_num)]
      exact EReal.top_add_coe e
    exact ⟨hu, by unfold r; rw [hu]; rfl⟩
  · right
    have hs : (∑ l, (y l : EReal) * (y l : EReal)) = ((∑ l, y l * y l : ℝ) : EReal) := by
      rw [coe_sum]; exact Finset.sum_congr rfl fun l _ => (EReal.coe_mul _ _).symm
    have hu : u (fun k => (y k : EReal)) = (((∑ l, y l * y l) * (1 / 1024) + e : ℝ) : EReal) := by
      unfold u
      rw [hs, c1024, hw, Ideal.div_coe (by norm_num), ← EReal.coe_mul, ← EReal.coe_add]
    have hU : 0 < (∑ l, y l * y l) * (1 / 1024) + e := by
      have : 0 ≤ ∑ l, y l * y l := Finset.sum_nonneg fun l _ => mul_self_nonneg (y l)
      positivity
    refine ⟨y, _, (Real.sqrt ((∑ l, y l * y l) * (1 / 1024) + e))⁻¹, rfl, hU,
      inv_pos.2 (Real.sqrt_pos.2 hU), ?_, hu, ?_⟩
    · have := Real.mul_self_sqrt hU.le
      have h0 := (Real.sqrt_pos.2 hU).ne'
      rw [← mul_inv, this, inv_mul_cancel₀ hU.ne']
    · unfold r
      rw [hu]
      show (if _ then _ else _) = _
      rw [if_neg (not_lt.2 hU.le), if_neg hU.ne']

/-- Twice the same real multiple of an extended real. -/
theorem twice (a : ℝ) (s : EReal) : (a : EReal) * s + (a : EReal) * s = ((2 * a : ℝ) : EReal) * s := by
  induction s with
  | coe s => rw [← EReal.coe_mul, ← EReal.coe_add, ← EReal.coe_mul]; congr 1; ring
  | top =>
    rcases lt_trichotomy a 0 with h | h | h
    · rw [EReal.coe_mul_top_of_neg h, EReal.coe_mul_top_of_neg (by linarith)]; rfl
    · subst h; simp
    · rw [EReal.coe_mul_top_of_pos h, EReal.coe_mul_top_of_pos (by linarith)]; rfl
  | bot =>
    rcases lt_trichotomy a 0 with h | h | h
    · rw [EReal.coe_mul_bot_of_neg h, EReal.coe_mul_bot_of_neg (by linarith)]; rfl
    · subst h; simp
    · rw [EReal.coe_mul_bot_of_pos h, EReal.coe_mul_bot_of_pos (by linarith)]; rfl

/-- The gradient of a norm's row as the kernels write it, from the row and its cotangent times the gain. -/
def dxK (x d : Fin 1024 → EReal) (k : Fin 1024) : EReal :=
  r x * (d k - x k * r x * Ideal.div (∑ l, d l * (x l * r x)) (Ideal.ofBits .f32 0x44800000#32))

/-- The cotangent of the square of one entry, as differentiating the norm line by line gives it. -/
def vR (x d : Fin 1024 → EReal) : EReal :=
  Ideal.div ((∑ l, x l * d l) * (Ideal.ofBits .f32 0xBF000000#32 * Ideal.div (r x) (u x)))
    (Ideal.ofBits .f32 0x44800000#32)

/-- The same gradient line by line. -/
def dxR (x d : Fin 1024 → EReal) (k : Fin 1024) : EReal :=
  d k * r x + x k * vR x d + vR x d * x k

theorem dx_eq (x d : Fin 1024 → EReal) (k : Fin 1024) : dxK x d k = dxR x d k := by
  unfold dxK dxR vR
  rcases scale_cases x with ⟨hu, hr⟩ | ⟨y, U, R, rfl, hU, hR, hRU, hu, hr⟩
  · rw [hr, hu, c1024, Ideal.div_coe (by norm_num)]
    have : Ideal.div 0 ⊤ = 0 := by unfold Ideal.div; simp
    rw [this, Ideal.div_coe (by norm_num)]
    simp
  · rw [hr, hu, c1024, cNegHalf, Ideal.div_coe (by norm_num), Ideal.div_coe (by norm_num), Ideal.div_coe hU.ne']
    have hS : (∑ l, d l * ((y l : EReal) * (R : EReal))) = (R : EReal) * ∑ l, (y l : EReal) * d l := by
      rw [coe_mul_sum _ R hR.le]
      exact Finset.sum_congr rfl fun l _ => by ac_rfl
    rw [hS]
    generalize (∑ l, (y l : EReal) * d l) = S
    generalize d k = z
    have hUR : R * (1 / U) = R * R * R := by
      field_simp
      nlinarith [hRU]
    have hA : (y k : EReal) * (S * (((-(1 / 2) : ℝ) : EReal) * ((R : EReal) * ((1 / U : ℝ) : EReal)))
        * ((1 / 1024 : ℝ) : EReal)) = ((y k * (-(1 / 2)) * (R * R * R) * (1 / 1024) : ℝ) : EReal) * S := by
      rw [← hUR]; simp only [EReal.coe_mul]; ac_rfl
    rw [mul_comm (S * _ * _) (y k : EReal), hA, add_assoc, twice]
    rw [sub_eq_add_neg, EReal.left_distrib_of_nonneg_of_ne_top (EReal.coe_nonneg.2 hR.le) (EReal.coe_ne_top R)]
    congr 1
    · exact mul_comm _ _
    · have hB : (y k : EReal) * (R : EReal) * ((R : EReal) * S * ((1 / 1024 : ℝ) : EReal))
          = ((y k * R * R * (1 / 1024) : ℝ) : EReal) * S := by
        simp only [EReal.coe_mul]; ac_rfl
      rw [hB, ← EReal.neg_mul, ← EReal.coe_neg, ← mul_assoc, ← EReal.coe_mul]
      congr 2
      ring

/-- A host sum over the two unit axes around the rows is the initial value plus the one entry. -/
theorem reduce_outer {n : ℕ} (h : (⟨3, ![1, n, 1]⟩ : Shape).ReducesTo [0, 2] ⟨1, ![n]⟩)
    (v : (⟨3, ![1, n, 1]⟩ : Shape).Idx → EReal) (z : EReal) (a : Fin n) :
    Ideal.hostReduceAdd h v z (ix1 a) = z + v (ix3 0 a 0) := by
  unfold Ideal.hostReduceAdd
  have hf : Finset.univ.filter (fun i => h.drop i = ix1 a) = {(ix3 0 a 0 : (⟨3, ![1, n, 1]⟩ : Shape).Idx)} := by
    ext i
    simp only [Finset.mem_filter, Finset.mem_univ, true_and, Finset.mem_singleton]
    constructor
    · intro hi
      have h1 : (i 1 : ℕ) = a := by rw [← h.drop_apply_val_of_eq i 0 1 Nat.zero_lt_one rfl, hi]; rfl
      rw [eq_ix3 i]
      exact (ix3_inj ..).2 ⟨Subsingleton.elim (α := Fin 1) _ _, Fin.ext h1, Subsingleton.elim (α := Fin 1) _ _⟩
    · rintro rfl
      funext b
      have hb : b = 0 := Subsingleton.elim (α := Fin 1) _ _
      subst hb
      exact Fin.ext (h.drop_apply_val_of_eq _ 0 1 Nat.zero_lt_one rfl)
  rw [hf, Finset.sum_singleton]

/-- A host sum over two leading unit axes is the initial value plus the one entry. -/
theorem reduce_lead {n : ℕ} (h : (⟨3, ![1, 1, n]⟩ : Shape).ReducesTo [0, 1] ⟨1, ![n]⟩)
    (v : (⟨3, ![1, 1, n]⟩ : Shape).Idx → EReal) (z : EReal) (a : Fin n) :
    Ideal.hostReduceAdd h v z (ix1 a) = z + v (ix3 0 0 a) := by
  unfold Ideal.hostReduceAdd
  have hf : Finset.univ.filter (fun i => h.drop i = ix1 a) = {(ix3 0 0 a : (⟨3, ![1, 1, n]⟩ : Shape).Idx)} := by
    ext i
    simp only [Finset.mem_filter, Finset.mem_univ, true_and, Finset.mem_singleton]
    constructor
    · intro hi
      have h1 : (i 2 : ℕ) = a := by rw [← h.drop_apply_val_of_eq i 0 2 Nat.zero_lt_one rfl, hi]; rfl
      rw [eq_ix3 i]
      exact (ix3_inj ..).2 ⟨Subsingleton.elim (α := Fin 1) _ _, Subsingleton.elim (α := Fin 1) _ _, Fin.ext h1⟩
    · rintro rfl
      funext b
      have hb : b = 0 := Subsingleton.elim (α := Fin 1) _ _
      subst hb
      exact Fin.ext (h.drop_apply_val_of_eq _ 0 2 Nat.zero_lt_one rfl)
  rw [hf, Finset.sum_singleton]

end Cert.Rms

namespace Cert.NormRow
open Cert.Rms

/-- The gradient of the norm's input: what reaches it past the norm, and the norm's own part. -/
def dx (x g dh c : Fin 1024 → EReal) (l : Fin 1024) : EReal := c l + dxK x (fun l => dh l * g l) l

/-- The row's part of the gain's gradient. -/
def dg (x dh : Fin 1024 → EReal) (l : Fin 1024) : EReal := dh l * (x l * r x)

end Cert.NormRow

end

end
-- ==== Proof.LossPure.lean ====
/- The loss and the final norm's gradient, one row at a time: what the kernel's body stores in a tile and what the
   reference's operations compute, read at an index, as functions of the rows of the arguments; and that the two agree. -/
module

public import proofs.«01_k».proof.Proof.RmsNorm
public import proofs.«01_k».proof.Proof.Gen.LossKernelIdeal.Skeleton
public import proofs.«01_k».proof.Proof.Gen.LossReferenceIdeal.Read
public import Idealize.ShloMosaic.Lib.Pointwise

@[expose] public section

set_option maxRecDepth 16384

noncomputable section

open Idealize.ShloMosaic Idealize.ShloMosaic.TcCoe Idealize.SL.Sem
open scoped BigOperators

/-! ## The rows' functions -/

namespace Cert.LossRow
open Cert.Rms

/-- The error of a row: the norm's output less the target. -/
def e (x g t : Fin 1024 → EReal) (l : Fin 1024) : EReal := x l * r x * g l - t l

/-- The row's mean squared error. -/
def sqErr (x g t : Fin 1024 → EReal) : EReal :=
  Ideal.div (∑ l, e x g t l * e x g t l) (Ideal.ofBits .f32 0x44800000#32)

/-- The cotangent of the norm's output: the error over the row's length. -/
def dy (x g t : Fin 1024 → EReal) (l : Fin 1024) : EReal := e x g t l * Ideal.ofBits .f32 0x3A800000#32

/-- The gradient of the norm's input. -/
def dx (x g t : Fin 1024 → EReal) (l : Fin 1024) : EReal := dxK x (fun l => dy x g t l * g l) l

/-- The row's part of the gain's gradient. -/
def dg (x g t : Fin 1024 → EReal) (l : Fin 1024) : EReal := dy x g t l * (x l * r x)

/-- The reference's spelling of the cotangent: half over the length, times twice the error. -/
theorem dy_eq (x g t : Fin 1024 → EReal) (l : Fin 1024) :
    Ideal.div (Ideal.ofBits .f32 0x3F000000#32 * 1) (Ideal.ofBits .f32 0x44800000#32)
      * (Ideal.ofBits .f32 0x40000000#32 * e x g t l) = dy x g t l := by
  unfold dy
  rw [cHalf, c1024, cTwo, cInv1024, Ideal.div_coe (by norm_num), mul_one, ← EReal.coe_mul, ← mul_assoc, ← EReal.coe_mul,
    mul_comm]
  congr 2
  norm_num

end Cert.LossRow

/-! ## The kernel's tile -/

namespace Cert.LossKernelIdeal.Pure
open Cert.LossKernelIdeal Cert.LossKernelIdeal.Gen Cert.LossRow

variable (x t : FVec Ideal S512x1024 .f32) (g : FVec Ideal S1x1024 .f32)

theorem pay11 (o : FVec Ideal S1x128 .f32) (l : Fin 128) :
    k0_pay11 (F := Ideal) x g t o (ix2 0 l) = o (ix2 0 l) + Ideal.ofBits .f32 0x3F000000#32
      * ∑ a : Fin 512, sqErr (fun k => x (ix2 a k)) (fun k => g (ix2 0 k)) (fun k => t (ix2 a k)) := by
  pointwise [k0_pay11, k0_pay10, k0_pay9, k0_pay8]
  simp only [Fin.sum_univ_one, Finset.univ_unique, Finset.sum_singleton]
  rfl

theorem pay4 (o : FVec Ideal S1x1024 .f32) (l : Fin 1024) :
    k0_pay4 (F := Ideal) (k0_pay8 x) (k0_pay9 x) (k0_pay10 x g t) (Scalar.ofBits .f32 0x3A800000#32) o (ix2 0 l)
      = o (ix2 0 l) + ∑ a : Fin 512, dg (fun k => x (ix2 a k)) (fun k => g (ix2 0 k)) (fun k => t (ix2 a k)) l := by
  pointwise [k0_pay4, k0_pay1, k0_pay2, k0_pay11, k0_pay10, k0_pay9, k0_pay8]
  rfl

theorem pay3 (a : Fin 512) (l : Fin 1024) :
    k0_pay3 (F := Ideal) (k0_pay8 x) (k0_pay9 x) (k0_pay10 x g t) (Scalar.ofBits .f32 0x3A800000#32) g (ix2 a l)
      = dx (fun k => x (ix2 a k)) (fun k => g (ix2 0 k)) (fun k => t (ix2 a k)) l := by
  pointwise [k0_pay3, k0_pay1, k0_pay2, k0_pay11, k0_pay10, k0_pay9, k0_pay8]
  rfl

theorem pay5 (a : Fin 512) (l : Fin 1024) :
    k0_pay5 (F := Ideal) (k0_pay8 x) (k0_pay9 x) (k0_pay10 x g t) (Scalar.ofBits .f32 0x3A800000#32) g (ix2 a l)
      = dx (fun k => x (ix2 a k)) (fun k => g (ix2 0 k)) (fun k => t (ix2 a k)) l :=
  pay3 x t g a l

end Cert.LossKernelIdeal.Pure

/-! ## The reference -/

namespace Cert.LossReferenceIdeal.Pure
open Cert.LossReferenceIdeal Cert.LossReferenceIdeal.Gen Cert.LossReferenceIdeal.Read Cert.LossRow Cert.Rms

variable (x t : FVec Ideal S1x8192x1024 .f32) (g : FVec Ideal S1024 .f32)

/-- The reference's row of the norm's input, of the gain and of the target. -/
abbrev xr (a : Fin 8192) (k : Fin 1024) : EReal := x (ix3 0 a k)
abbrev gr (k : Fin 1024) : EReal := g (ix1 k)

theorem v30 (a : Fin 8192) (l : Fin 1024) : val_main_v30 (F := Ideal) x g t (ix3 0 a l) = dy (xr x a) (gr g) (xr t a) l := by
  rw [← dy_eq]
  pointwise [val_main_v30, val_main_v29, val_main_v28, val_main_v27, val_main_v26, val_main_v25, val_main_cst_8, val_main_cst_9,
    val_main_cst_10, val_main_v19, val_main_v18, val_main_cst_3, val_main_v16, val_main_v15, val_main_v14, val_main_v13,
    val_main_v12, val_main_v11, val_main_v7, val_main_v6, val_main_v5, val_main_v4, val_main_v3, val_main_v2, val_main_v1,
    val_main_v0, val_main_cst, val_main_cst_0, val_main_cst_1]
  rfl

theorem v45 (a : Fin 8192) : val_main_v45 (F := Ideal) x g t (ix1 a)
    = vR (xr x a) (fun l => dy (xr x a) (gr g) (xr t a) l * gr g l) := by
  pointwise [val_main_v45]
  rw [reduce_outer]
  pointwise [val_main_v44, val_main_v43, val_main_v42, val_main_v39, val_main_v38, val_main_v37, val_main_v35, val_main_v34, val_main_v13,
    val_main_cst_13, val_main_cst_14, val_main_cst_15, val_main_v10, val_main_v9, val_main_cst_2, val_main_v8,
    val_main_v7, val_main_v6, val_main_v5, val_main_v4, val_main_v3, val_main_v2, val_main_v1,
    val_main_v0, val_main_cst, val_main_cst_0, val_main_cst_1]
  simp only [zero_add, v30]
  rfl

theorem v52 (a : Fin 8192) (l : Fin 1024) : val_main_v52 (F := Ideal) x g t (ix2 a l) = dx (xr x a) (gr g) (xr t a) l := by
  unfold dx
  rw [dx_eq]
  pointwise [val_main_v52, val_main_v51, val_main_v50, val_main_v49, val_main_v48, val_main_v47, val_main_v46, val_main_v41, val_main_v40,
    val_main_v35, val_main_v34, val_main_v13,
    val_main_v7, val_main_v6, val_main_v5, val_main_v4, val_main_v3, val_main_v2, val_main_v1,
    val_main_v0, val_main_cst, val_main_cst_0, val_main_cst_1]
  simp only [zero_add, v30, v45]
  rfl

theorem v55 (l : Fin 1024) : val_main_v55 (F := Ideal) x g t (ix2 0 l) = ∑ a : Fin 8192, dg (xr x a) (gr g) (xr t a) l := by
  pointwise [val_main_v55, val_main_v36]
  rw [reduce_lead]
  pointwise [val_main_v33, val_main_v32, val_main_v31, val_main_cst_11, val_main_cst_12, val_main_v12, val_main_v11,
    val_main_v7, val_main_v6, val_main_v5, val_main_v4, val_main_v3, val_main_v2, val_main_v1,
    val_main_v0, val_main_cst, val_main_cst_0, val_main_cst_1]
  simp only [zero_add, v30]
  exact Finset.sum_congr rfl fun a _ => mul_comm _ _

theorem v54 (l : Fin 128) : val_main_v54 (F := Ideal) x g t (ix2 0 l) = Ideal.ofBits .f32 0x3F000000#32
    * ∑ a : Fin 8192, sqErr (xr x a) (gr g) (xr t a) := by
  pointwise [val_main_v54, val_main_v24, val_main_v23, val_main_v22, val_main_v21, val_main_v20, val_main_v17, val_main_cst_4,
    val_main_cst_5, val_main_cst_6, val_main_cst_7, val_main_v16, val_main_v15, val_main_v14, val_main_v13,
    val_main_v12, val_main_v11, val_main_v7, val_main_v6, val_main_v5, val_main_v4, val_main_v3, val_main_v2, val_main_v1,
    val_main_v0, val_main_cst, val_main_cst_0, val_main_cst_1]
  simp only [zero_add, Finset.univ_unique, Finset.sum_singleton]
  rfl

end Cert.LossReferenceIdeal.Pure

end

end
-- ==== Proof.LossValue.lean ====
/- The loss kernel's four output arrays after the run, as the reference's terms over the arguments. -/
module

public import proofs.«01_k».proof.Proof.LossPure
public import proofs.«01_k».proof.Proof.Gen.LossKernelIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.LossKernelIdeal.Value

open Cert.LossKernelIdeal Cert.LossKernelIdeal.Gen

variable (m : (ℓ : Loc nD τ sig) → Buf (Elt Ideal) ℓ)

theorem idx_val : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![0, 0]
    ∧ win0_6.index t = ![0, 0] :=
  (by decide +kernel : ∀ t : Fin grid0.N, _)

theorem xblk (c : Dev nD) (t : Fin cfg0.N) (a : Fin 512) (k : Fin 1024) (h : t.val * 512 + a.val < 8192) :
    iblk m c 0 t (ix2 a k) = m ((c : Thread nD τ).loc main_arg0) (ix3 0 ⟨t.val * 512 + a.val, h⟩ k) := by
  blk_simp [iblk, idx_val t]; entry_read
  pointwise
  blk_ext [idx_val t]

theorem gblk (c : Dev nD) (t : Fin cfg0.N) (k : Fin 1024) :
    iblk m c 1 t (ix2 0 k) = m ((c : Thread nD τ).loc main_arg1) (ix1 k) := by
  blk_simp [iblk, idx_val t]; entry_read
  pointwise
  blk_ext [idx_val t]

theorem tblk (c : Dev nD) (t : Fin cfg0.N) (a : Fin 512) (k : Fin 1024) (h : t.val * 512 + a.val < 8192) :
    iblk m c 2 t (ix2 a k) = m ((c : Thread nD τ).loc main_arg2) (ix3 0 ⟨t.val * 512 + a.val, h⟩ k) := by
  blk_simp [iblk, idx_val t]; entry_read
  pointwise
  blk_ext [idx_val t]

/-- The rows of a point's tile are the argument's rows. -/
theorem rows (c : Dev nD) (t : Fin cfg0.N) (a : Fin 512) (h : t.val * 512 + a.val < 8192) :
    (fun k => iblk m c 0 t (ix2 a k)) = (fun k => m ((c : Thread nD τ).loc main_arg0) (ix3 0 ⟨t.val * 512 + a.val, h⟩ k))
    ∧ (fun k => iblk m c 1 t (ix2 0 k)) = (fun k => m ((c : Thread nD τ).loc main_arg1) (ix1 k))
    ∧ (fun k => iblk m c 2 t (ix2 a k)) = (fun k => m ((c : Thread nD τ).loc main_arg2) (ix3 0 ⟨t.val * 512 + a.val, h⟩ k)) :=
  ⟨funext fun k => xblk m c t a k h, funext fun k => gblk m c t k, funext fun k => tblk m c t a k h⟩

theorem row_lt (t : Fin cfg0.N) (a : Fin 512) : t.val * 512 + a.val < 8192 := by
  have := t.isLt; have := a.isLt; have : cfg0.N = 16 := N_0; omega

/-- The gradient's tile at a point is the reference's rows there. -/
theorem tile (c : Dev nD) (t : Fin cfg0.N) (a : Fin 512) (k : Fin 1024) :
    LossRow.dx (fun k => iblk m c 0 t (ix2 a k)) (fun k => iblk m c 1 t (ix2 0 k)) (fun k => iblk m c 2 t (ix2 a k)) k
      = Cert.LossReferenceIdeal.Read.val_main_v52 (F := Ideal) (m ((c : Thread nD τ).loc main_arg0)) (m ((c : Thread nD τ).loc main_arg1)) (m ((c : Thread nD τ).loc main_arg2)) (ix2 ⟨t.val * 512 + a.val, row_lt t a⟩ k) := by
  obtain ⟨e0, e1, e2⟩ := rows m c t a (row_lt t a)
  rw [e0, e1, e2, Cert.LossReferenceIdeal.Pure.v52]

theorem final_3 (c : Dev nD) : (dats m 0 c).arrAt 3 (cfgs 0).N
    = Cert.LossReferenceIdeal.Read.val_main_v52 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]
  obtain ⟨a, k, rfl⟩ : ∃ a k, y = ix2 a k := ⟨y 0, y 1, eq_ix2 y⟩
  have hv : (Cert.LossKernelIdeal.Gen.outsAt0 m c t.val t.isLt).1 (ix2 a k) = LossRow.dx (fun k => iblk m c 0 t (ix2 a k))
      (fun k => iblk m c 1 t (ix2 0 k)) (fun k => iblk m c 2 t (ix2 a k)) k := by
    by_cases h : t.val % 16 = 0
    · rw [outsAt0_A m c t h]; frame_out; exact Pure.pay3 ..
    · rw [outsAt0_B m c t h]; frame_out; exact Pure.pay3 ..
  rw [hv, tile]
  congr 1
  blk_ext [idx_val t]

theorem final_4 (c : Dev nD) : (dats m 0 c).arrAt 4 (cfgs 0).N
    = Cert.LossReferenceIdeal.Read.val_main_v53 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp; rw [after0_4]
  obtain ⟨a, k, rfl⟩ : ∃ a k, y = ix2 a k := ⟨y 0, y 1, eq_ix2 y⟩
  have hv : (Cert.LossKernelIdeal.Gen.outsAt0 m c t.val t.isLt).2.1 (ix2 a k) = LossRow.dx (fun k => iblk m c 0 t (ix2 a k))
      (fun k => iblk m c 1 t (ix2 0 k)) (fun k => iblk m c 2 t (ix2 a k)) k := by
    by_cases h : t.val % 16 = 0
    · rw [outsAt0_A m c t h]; frame_out; exact Pure.pay5 ..
    · rw [outsAt0_B m c t h]; frame_out; exact Pure.pay5 ..
  rw [hv, tile]
  pointwise [Cert.LossReferenceIdeal.Read.val_main_v53]
  congr 1
  blk_ext [idx_val t]

/-- A sum over the points and a tile's rows is the sum over all the rows. -/
theorem sum_points (f : Fin 8192 → EReal) :
    ∑ t : Fin cfg0.N, ∑ a : Fin 512, f ⟨t.val * 512 + a.val, row_lt t a⟩ = ∑ r, f r :=
  (Fin.sum_univ_tiles 16 512 rfl f).symm

/-- The loss's accumulator at the last point. -/
theorem last_5 (c : Dev nD) (l : Fin 128) : ((outsAt0 m c t0_15.val t0_15.isLt).2.2.1 (ix2 0 l) : EReal)
    = Cert.LossReferenceIdeal.Read.val_main_v54 (F := Ideal) (m ((c : Thread nD τ).loc main_arg0)) (m ((c : Thread nD τ).loc main_arg1)) (m ((c : Thread nD τ).loc main_arg2)) (ix2 0 l) := by
  have hz : ∀ l, k0_pay6 (F := Ideal) (ix2 0 l) = 0 := fun j => by pointwise! [k0_pay6]
  rw [Pipeline.eq_sum_fin_of_reset_step_apply_last (fun n h => fun l : Fin 128 => (outsAt0 m c n h).2.2.1 (ix2 0 l)) 16 (fun _ => 0)
    (fun t _ => Ideal.ofBits .f32 0x3F000000#32 * ∑ a : Fin 512, LossRow.sqErr (fun k => iblk m c 0 t (ix2 a k)) (fun k => iblk m c 1 t (ix2 0 k)) (fun k => iblk m c 2 t (ix2 a k)))
    (fun t h l => by rw [outsAt0_A m c t h]; frame_out; rw [Pure.pay11, hz])
    (fun t h l => by rw [outsAt0_B m c t h]; frame_out; rw [Pure.pay11])
    (le_of_eq N_0) t0_15 rfl l, zero_add]
  rw [Cert.LossReferenceIdeal.Pure.v54, Rms.cHalf, Rms.coe_mul_sum _ _ (by norm_num), ← sum_points]
  refine Finset.sum_congr rfl fun t _ => ?_
  rw [Rms.coe_mul_sum _ _ (by norm_num)]
  refine Finset.sum_congr rfl fun a _ => ?_
  obtain ⟨e0, e1, e2⟩ := rows m c t a (row_lt t a)
  rw [e0, e1, e2]

theorem final_5 (c : Dev nD) : (dats m 0 c).arrAt 5 (cfgs 0).N
    = Cert.LossReferenceIdeal.Read.val_main_v54 (F := Ideal) (m ((c : Thread nD τ).loc main_arg0)) (m ((c : Thread nD τ).loc main_arg1)) (m ((c : Thread nD τ).loc main_arg2)) := by
  refine (dats m 0 c).arrAt_eq_of_after_last 5 t0_15 (by decide +kernel) _ fun j => ?_
  blk_simp
  obtain ⟨l, rfl⟩ : ∃ l, j = ix2 0 l := ⟨j 1, by rw [eq_ix2 j]; congr 1; exact Subsingleton.elim (α := Fin 1) _ _⟩
  rw [after0_5]
  exact last_5 m c l

/-- The gain's gradient's accumulator at the last point. -/
theorem last_6 (c : Dev nD) (l : Fin 1024) : ((outsAt0 m c t0_15.val t0_15.isLt).2.2.2 (ix2 0 l) : EReal)
    = Cert.LossReferenceIdeal.Read.val_main_v55 (F := Ideal) (m ((c : Thread nD τ).loc main_arg0)) (m ((c : Thread nD τ).loc main_arg1)) (m ((c : Thread nD τ).loc main_arg2)) (ix2 0 l) := by
  have hz : ∀ l, k0_pay7 (F := Ideal) (ix2 0 l) = 0 := fun j => by pointwise! [k0_pay7]
  rw [Pipeline.eq_sum_fin_of_reset_step_apply_last (fun n h => fun l : Fin 1024 => (outsAt0 m c n h).2.2.2 (ix2 0 l)) 16 (fun _ => 0)
    (fun t l => ∑ a : Fin 512, LossRow.dg (fun k => iblk m c 0 t (ix2 a k)) (fun k => iblk m c 1 t (ix2 0 k)) (fun k => iblk m c 2 t (ix2 a k)) l)
    (fun t h l => by rw [outsAt0_A m c t h]; frame_out; rw [Pure.pay4, hz])
    (fun t h l => by rw [outsAt0_B m c t h]; frame_out; rw [Pure.pay4])
    (le_of_eq N_0) t0_15 rfl l, zero_add]
  rw [Cert.LossReferenceIdeal.Pure.v55, ← sum_points]
  refine Finset.sum_congr rfl fun t _ => Finset.sum_congr rfl fun a _ => ?_
  obtain ⟨e0, e1, e2⟩ := rows m c t a (row_lt t a)
  rw [e0, e1, e2]

theorem final_6 (c : Dev nD) : (dats m 0 c).arrAt 6 (cfgs 0).N
    = Cert.LossReferenceIdeal.Read.val_main_v55 (F := Ideal) (m ((c : Thread nD τ).loc main_arg0)) (m ((c : Thread nD τ).loc main_arg1)) (m ((c : Thread nD τ).loc main_arg2)) := by
  refine (dats m 0 c).arrAt_eq_of_after_last 6 t0_15 (by decide +kernel) _ fun j => ?_
  blk_simp
  obtain ⟨l, rfl⟩ : ∃ l, j = ix2 0 l := ⟨j 1, by rw [eq_ix2 j]; congr 1; exact Subsingleton.elim (α := Fin 1) _ _⟩
  rw [after0_6]
  exact last_6 m c l

end Cert.LossKernelIdeal.Value

end

end
-- ==== Proof.LossClaim.lean ====
/- The value claim of the loss call: the kernel's four results are the reference's. -/
module

public import proofs.«01_k».proof.Defs
public import proofs.«01_k».proof.Proof.LossValue
public import proofs.«01_k».proof.Proof.Gen.LossReferenceIdeal.Run
public import Idealize.ShloMosaic.Lib.Claim

@[expose] public section

set_option maxRecDepth 16384

noncomputable section

namespace Cert.LossClaim

open Idealize.ShloMosaic Idealize.ShloMosaic.TcCoe Idealize.SL.Sem Cert.LossReferenceIdeal.Read

theorem algebraic : Cert.algebraic_LossKernelIdeal_LossReferenceIdeal
    (hLossKernelIdeal := Cert.LossKernelIdeal.Gen.facts) (hLossReferenceIdeal := Cert.LossReferenceIdeal.Gen.facts) := by
  intro m g m' g' _ hm
  refine ⟨fun c => (Cert.LossKernelIdeal.Gen.dats m 0 c).arrAt 3 Cert.LossKernelIdeal.cfg0.N,
    fun c => (Cert.LossKernelIdeal.Gen.dats m 0 c).arrAt 4 Cert.LossKernelIdeal.cfg0.N,
    fun c => (Cert.LossKernelIdeal.Gen.dats m 0 c).arrAt 5 Cert.LossKernelIdeal.cfg0.N,
    fun c => (Cert.LossKernelIdeal.Gen.dats m 0 c).arrAt 6 Cert.LossKernelIdeal.cfg0.N,
    Cert.LossKernelIdeal.Value.run_blocks m g, ?_⟩
  refine (θ_run Cert.LossReferenceIdeal.defs _ _).mono (fun r h c => ?_) (Cert.LossReferenceIdeal.Value.run (F := Ideal) m' g')
  obtain ⟨h3, h4, h5, h6, k0, k1, k2⟩ := h c
  obtain ⟨e0, e1, e2⟩ := hm c
  refine ⟨?_, ?_, ?_, ?_, k0, k1, k2⟩
  · refine (h3.trans (val_main_v52_eq m' c)).trans ?_
    rw [e0, e1, e2]
    exact (Cert.LossKernelIdeal.Value.final_3 m c).symm
  · refine (h4.trans (val_main_v53_eq m' c)).trans ?_
    rw [e0, e1, e2]
    exact (Cert.LossKernelIdeal.Value.final_4 m c).symm
  · refine (h5.trans (val_main_v54_eq _ _ _).symm).trans ?_
    rw [e0, e1, e2]
    exact (Cert.LossKernelIdeal.Value.final_5 m c).symm
  · refine (h6.trans (val_main_v55_eq _ _ _).symm).trans ?_
    rw [e0, e1, e2]
    exact (Cert.LossKernelIdeal.Value.final_6 m c).symm

end Cert.LossClaim

end

end
-- ==== Proof.InPure.lean ====
/- The input projection's and the first norm's gradient, one row at a time: what the kernel's body stores in a tile and what
   the reference's operations compute, read at an index, as functions of the rows of the arguments. -/
module

public import proofs.«01_k».proof.Proof.RmsNorm
public import proofs.«01_k».proof.Proof.Gen.InKernelIdeal.Skeleton
public import proofs.«01_k».proof.Proof.Gen.InReferenceIdeal.Read
public import Idealize.ShloMosaic.Lib.Pointwise

@[expose] public section

set_option maxRecDepth 16384

noncomputable section

open Idealize.ShloMosaic Idealize.ShloMosaic.TcCoe Idealize.SL.Sem
open scoped BigOperators

namespace Cert.InKernelIdeal.Pure
open Cert.InKernelIdeal Cert.InKernelIdeal.Gen Cert.NormRow

variable (dp : Vec Ideal S1024x3072 .bf16) (w : Vec Ideal S8x384x1024 .bf16) (x c : Vec Ideal S1024x1024 .f32) (g : Vec Ideal S1x1024 .f32)

/-- The product of a row of the cotangent with the projection's columns, in the tile's layout. -/
def dh (a : Fin 1024) (l : Fin 1024) : EReal :=
  ∑ n : Fin 3072, dp (ix2 a n) * w (ix3 ⟨n.val / 384, by omega⟩ ⟨n.val % 384, by omega⟩ l)

theorem pay5 (a : Fin 1024) (l : Fin 1024) : k0_pay5 (F := Ideal) dp w (ix2 a l) = dh dp w a l := by
  pointwise [k0_pay5]
  rfl

theorem pay2 (a : Fin 1024) (l : Fin 1024) : k0_pay2 (F := Ideal) (k0_pay9 dp w x g) c (ix2 a l)
      = dx (fun k => x (ix2 a k)) (fun k => g (ix2 0 k)) (dh dp w a) (fun k => c (ix2 a k)) l := by
  pointwise [k0_pay2, k0_pay9, k0_pay8, k0_pay7, k0_pay6]
  simp only [pay5]
  rfl

theorem pay3 (a : Fin 1024) (l : Fin 1024) : k0_pay3 (F := Ideal) (k0_pay9 dp w x g) c (ix2 a l)
      = dx (fun k => x (ix2 a k)) (fun k => g (ix2 0 k)) (dh dp w a) (fun k => c (ix2 a k)) l := pay2 dp w x c g a l

theorem pay1 (o : Vec Ideal S1x1024 .f32) (l : Fin 1024) : k0_pay1 (F := Ideal) (k0_pay10 dp w x) (k0_pay11 o) (ix2 0 l)
      = o (ix2 0 l) + ∑ a : Fin 1024, dg (fun k => x (ix2 a k)) (dh dp w a) l := by
  pointwise [k0_pay1, k0_pay10, k0_pay11, k0_pay8, k0_pay7, k0_pay6]
  simp only [pay5]
  rfl

end Cert.InKernelIdeal.Pure

namespace Cert.InReferenceIdeal.Pure
open Cert.InReferenceIdeal Cert.InReferenceIdeal.Gen Cert.InReferenceIdeal.Read Cert.NormRow Cert.Rms

variable (x : FVec Ideal S1x8192x1024 .f32) (g : FVec Ideal S1024 .f32) (w : FVec Ideal S1024x3072 .f32)
  (dp : FVec Ideal S8192x3072 .f32) (c : FVec Ideal S8192x1024 .f32)

/-- The product of a row of the cotangent with the projection's columns. -/
def dh (a : Fin 8192) (l : Fin 1024) : EReal := ∑ n : Fin 3072, dp (ix2 a n) * w (ix2 l n)

abbrev xr (a : Fin 8192) (k : Fin 1024) : EReal := x (ix3 0 a k)
abbrev gr (k : Fin 1024) : EReal := g (ix1 k)

theorem v19 (a : Fin 8192) (l : Fin 1024) : val_main_v19 (F := Ideal) w dp (ix3 0 a l) = dh w dp a l := by
  pointwise [val_main_v19, val_main_v17]
  rfl

theorem v35 (a : Fin 8192) : val_main_v35 (F := Ideal) x g w dp (ix1 a)
    = vR (xr x a) (fun l => dh w dp a l * gr g l) := by
  pointwise [val_main_v35]
  rw [reduce_outer]
  pointwise [val_main_v34, val_main_v33, val_main_v32, val_main_v28, val_main_v27, val_main_v26, val_main_v24, val_main_v23, val_main_v13,
    val_main_cst_5, val_main_cst_6, val_main_cst_7, val_main_v10, val_main_v9, val_main_cst_2, val_main_v8,
    val_main_v7, val_main_v6, val_main_v5, val_main_v4, val_main_v3, val_main_v2, val_main_v1,
    val_main_v0, val_main_cst, val_main_cst_0, val_main_cst_1]
  simp only [zero_add, v19]
  rfl

theorem v42 (a : Fin 8192) (l : Fin 1024) : val_main_v42 (F := Ideal) x g w dp c (ix2 a l)
    = dx (xr x a) (gr g) (dh w dp a) (fun k => c (ix2 a k)) l := by
  unfold dx
  rw [dx_eq]
  pointwise [val_main_v42, val_main_v41, val_main_v40, val_main_v39, val_main_v38, val_main_v37, val_main_v36, val_main_v31, val_main_v30,
    val_main_v29, val_main_v24, val_main_v23, val_main_v18, val_main_v13,
    val_main_v7, val_main_v6, val_main_v5, val_main_v4, val_main_v3, val_main_v2, val_main_v1,
    val_main_v0, val_main_cst, val_main_cst_0, val_main_cst_1]
  simp only [zero_add, v19, v35, add_assoc]
  unfold dxR
  rw [add_assoc]
  rfl

theorem v44 (l : Fin 1024) : val_main_v44 (F := Ideal) x w dp (ix2 0 l) = ∑ a : Fin 8192, dg (xr x a) (dh w dp a) l := by
  pointwise [val_main_v44, val_main_v25]
  rw [reduce_lead]
  pointwise [val_main_v22, val_main_v21, val_main_v20, val_main_cst_3, val_main_cst_4, val_main_v12, val_main_v11,
    val_main_v7, val_main_v6, val_main_v5, val_main_v4, val_main_v3, val_main_v2, val_main_v1,
    val_main_v0, val_main_cst, val_main_cst_0, val_main_cst_1]
  simp only [zero_add, v19]
  exact Finset.sum_congr rfl fun a _ => mul_comm _ _

end Cert.InReferenceIdeal.Pure

end

end
-- ==== Proof.InValue.lean ====
/- The input projection's gradient call: its three output arrays after the run, as the reference's terms over the arguments. -/
module

public import proofs.«01_k».proof.Proof.InPure
public import proofs.«01_k».proof.Proof.Gen.InKernelIdeal.Value
public import Idealize.ShloMosaic.Lib.Pipeline.ValueKit

@[expose] public section

set_option maxRecDepth 16384

noncomputable section

open Idealize.ShloMosaic Idealize.ShloMosaic.TcCoe Idealize.SL.Sem
open scoped BigOperators

namespace Cert.InKernelIdeal.Value

open Cert.InKernelIdeal Cert.InKernelIdeal.Gen

variable (m : (ℓ : Loc nD τ sig) → Buf (Elt Ideal) ℓ)

theorem idx_val : ∀ t : Fin cfg0.N, win0_0.index t = ![t.val, 0]
    ∧ win0_1.index t = ![0, 0, 0]
    ∧ win0_2.index t = ![t.val, 0]
    ∧ win0_3.index t = ![0, 0]
    ∧ win0_4.index t = ![t.val, 0]
    ∧ win0_5.index t = ![t.val, 0]
    ∧ win0_6.index t = ![t.val, 0]
    ∧ win0_7.index t = ![0, 0] :=
  (by decide +kernel : ∀ t : Fin grid0.N, _)

theorem row_lt (t : Fin cfg0.N) (a : Fin 1024) : t.val * 1024 + a.val < 8192 := by
  have := t.isLt; have := a.isLt; have : cfg0.N = 8 := N_0; omega

/-- The row of the arrays that a tile's row holds. -/
abbrev row (t : Fin cfg0.N) (a : Fin 1024) : Fin 8192 := ⟨t.val * 1024 + a.val, row_lt t a⟩

theorem dblk (c : Dev nD) (t : Fin cfg0.N) (a : Fin 1024) (k : Fin 3072) :
    iblk m c 0 t (ix2 a k) = m ((c : Thread nD τ).loc main_arg3) (ix2 (row t a) k) := by
  blk_simp [iblk, idx_val t]; entry_read
  pointwise
  blk_ext [idx_val t]

theorem wblk (c : Dev nD) (t : Fin cfg0.N) (n : Fin 3072) (l : Fin 1024) :
    iblk m c 1 t (ix3 ⟨n.val / 384, by omega⟩ ⟨n.val % 384, by omega⟩ l) = m ((c : Thread nD τ).loc main_arg2) (ix2 l n) := by
  blk_simp [iblk, idx_val t]; entry_read
  pointwise
  blk_ext [idx_val t]

theorem xblk (c : Dev nD) (t : Fin cfg0.N) (a : Fin 1024) (k : Fin 1024) :
    iblk m c 2 t (ix2 a k) = m ((c : Thread nD τ).loc main_arg0) (ix3 0 (row t a) k) := by
  blk_simp [iblk, idx_val t]; entry_read
  pointwise
  blk_ext [idx_val t]

theorem gblk (c : Dev nD) (t : Fin cfg0.N) (k : Fin 1024) :
    iblk m c 3 t (ix2 0 k) = m ((c : Thread nD τ).loc main_arg1) (ix1 k) := by
  blk_simp [iblk, idx_val t]; entry_read
  pointwise
  blk_ext [idx_val t]

theorem cblk (c : Dev nD) (t : Fin cfg0.N) (a : Fin 1024) (k : Fin 1024) :
    iblk m c 4 t (ix2 a k) = m ((c : Thread nD τ).loc main_arg4) (ix2 (row t a) k) := by
  blk_simp [iblk, idx_val t]; entry_read
  pointwise
  blk_ext [idx_val t]

/-- The rows of a point's tile are the arguments' rows. -/
theorem rows (c : Dev nD) (t : Fin cfg0.N) (a : Fin 1024) :
    (fun k => iblk m c 2 t (ix2 a k)) = (fun k => m ((c : Thread nD τ).loc main_arg0) (ix3 0 (row t a) k))
    ∧ (fun k => iblk m c 3 t (ix2 0 k)) = (fun k => m ((c : Thread nD τ).loc main_arg1) (ix1 k))
    ∧ (fun k => iblk m c 4 t (ix2 a k)) = (fun k => m ((c : Thread nD τ).loc main_arg4) (ix2 (row t a) k)) :=
  ⟨funext fun k => xblk m c t a k, funext fun k => gblk m c t k, funext fun k => cblk m c t a k⟩

/-- The product's rows of a point's tile are the reference's. -/
theorem dh_rows (c : Dev nD) (t : Fin cfg0.N) (a : Fin 1024) : Pure.dh (iblk m c 0 t) (iblk m c 1 t) a
    = Cert.InReferenceIdeal.Pure.dh (m ((c : Thread nD τ).loc main_arg2)) (m ((c : Thread nD τ).loc main_arg3)) (row t a) := by
  funext l
  exact Finset.sum_congr rfl fun n _ => congrArg₂ (· * ·) (dblk m c t a n) (wblk m c t n l)

/-- The gradient's tile at a point is the reference's rows there. -/
theorem tile (c : Dev nD) (t : Fin cfg0.N) (a : Fin 1024) (k : Fin 1024) :
    NormRow.dx (fun k => iblk m c 2 t (ix2 a k)) (fun k => iblk m c 3 t (ix2 0 k)) (Pure.dh (iblk m c 0 t) (iblk m c 1 t) a)
      (fun k => iblk m c 4 t (ix2 a k)) k
      = Cert.InReferenceIdeal.Read.val_main_v42 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (ix2 (row t a) k) := by
  obtain ⟨e0, e1, e2⟩ := rows m c t a
  rw [e0, e1, e2, dh_rows, Cert.InReferenceIdeal.Pure.v42]

theorem final_5 (c : Dev nD) : (dats m 0 c).arrAt 5 (cfgs 0).N
    = Cert.InReferenceIdeal.Read.val_main_v42 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]
  obtain ⟨a, k, rfl⟩ : ∃ a k, y = ix2 a k := ⟨y 0, y 1, eq_ix2 y⟩
  have hv : (outsAt0 m c t.val t.isLt).1 (ix2 a k) = NormRow.dx (fun k => iblk m c 2 t (ix2 a k)) (fun k => iblk m c 3 t (ix2 0 k))
      (Pure.dh (iblk m c 0 t) (iblk m c 1 t) a) (fun k => iblk m c 4 t (ix2 a k)) k := by
    by_cases h : t.val % 8 = 0
    · rw [outsAt0_A m c t h]; frame_out; exact Pure.pay2 ..
    · rw [outsAt0_B m c t h]; frame_out; exact Pure.pay2 ..
  rw [hv, tile]
  congr 1
  blk_ext [idx_val t]

theorem final_6 (c : Dev nD) : (dats m 0 c).arrAt 6 (cfgs 0).N
    = Cert.InReferenceIdeal.Read.val_main_v43 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]
  obtain ⟨a, k, rfl⟩ : ∃ a k, y = ix2 a k := ⟨y 0, y 1, eq_ix2 y⟩
  have hv : (outsAt0 m c t.val t.isLt).2.1 (ix2 a k) = NormRow.dx (fun k => iblk m c 2 t (ix2 a k)) (fun k => iblk m c 3 t (ix2 0 k))
      (Pure.dh (iblk m c 0 t) (iblk m c 1 t) a) (fun k => iblk m c 4 t (ix2 a k)) k := by
    by_cases h : t.val % 8 = 0
    · rw [outsAt0_A m c t h]; frame_out; exact Pure.pay3 ..
    · rw [outsAt0_B m c t h]; frame_out; exact Pure.pay3 ..
  rw [hv, tile]
  pointwise [Cert.InReferenceIdeal.Read.val_main_v43]
  congr 1
  blk_ext [idx_val t]

/-- A sum over the points and a tile's rows is the sum over all the rows. -/
theorem sum_points (f : Fin 8192 → EReal) : ∑ t : Fin cfg0.N, ∑ a : Fin 1024, f (row t a) = ∑ r, f r :=
  (Fin.sum_univ_tiles 8 1024 rfl f).symm

/-- The gain's gradient's accumulator at the last point. -/
theorem last_7 (c : Dev nD) (l : Fin 1024) : ((outsAt0 m c t0_7.val t0_7.isLt).2.2 (ix2 0 l) : EReal)
    = Cert.InReferenceIdeal.Read.val_main_v44 (F := Ideal) (m ((c : Thread nD τ).loc main_arg0))
        (m ((c : Thread nD τ).loc main_arg2)) (m ((c : Thread nD τ).loc main_arg3)) (ix2 0 l) := by
  have hz : ∀ l, k0_pay4 (F := Ideal) (ix2 0 l) = 0 := fun j => by pointwise! [k0_pay4]
  rw [Pipeline.eq_sum_fin_of_reset_step_apply_last (fun n h => fun l : Fin 1024 => (outsAt0 m c n h).2.2 (ix2 0 l)) 8 (fun _ => 0)
    (fun t l => ∑ a : Fin 1024, NormRow.dg (fun k => iblk m c 2 t (ix2 a k)) (Pure.dh (iblk m c 0 t) (iblk m c 1 t) a) l)
    (fun t h l => by rw [outsAt0_A m c t h]; frame_out; rw [Pure.pay1, hz])
    (fun t h l => by rw [outsAt0_B m c t h]; frame_out; rw [Pure.pay1])
    (le_of_eq N_0) t0_7 rfl l, zero_add]
  rw [Cert.InReferenceIdeal.Pure.v44, ← sum_points]
  refine Finset.sum_congr rfl fun t _ => Finset.sum_congr rfl fun a _ => ?_
  rw [(rows m c t a).1, dh_rows]

theorem final_7 (c : Dev nD) : (dats m 0 c).arrAt 7 (cfgs 0).N
    = Cert.InReferenceIdeal.Read.val_main_v44 (F := Ideal) (m ((c : Thread nD τ).loc main_arg0))
        (m ((c : Thread nD τ).loc main_arg2)) (m ((c : Thread nD τ).loc main_arg3)) := by
  refine (dats m 0 c).arrAt_eq_of_after_last 7 t0_7 (by decide +kernel) _ fun j => ?_
  blk_simp
  obtain ⟨l, rfl⟩ : ∃ l, j = ix2 0 l := ⟨j 1, by rw [eq_ix2 j]; congr 1; exact Subsingleton.elim (α := Fin 1) _ _⟩
  rw [after0_7]
  exact last_7 m c l

end Cert.InKernelIdeal.Value

end

end
-- ==== Proof.InClaim.lean ====
/- The value claim of the input projection's gradient call: the kernel's three results are the reference's. -/
module

public import proofs.«01_k».proof.Defs
public import proofs.«01_k».proof.Proof.InValue
public import proofs.«01_k».proof.Proof.Gen.InReferenceIdeal.Run
public import Idealize.ShloMosaic.Lib.Claim

@[expose] public section

set_option maxRecDepth 16384

noncomputable section

namespace Cert.InClaim

open Idealize.ShloMosaic Idealize.ShloMosaic.TcCoe Idealize.SL.Sem Cert.InReferenceIdeal.Read

theorem algebraic : Cert.algebraic_InKernelIdeal_InReferenceIdeal
    (hInKernelIdeal := Cert.InKernelIdeal.Gen.facts) (hInReferenceIdeal := Cert.InReferenceIdeal.Gen.facts) := by
  intro m g m' g' _ hm
  refine ⟨fun c => (Cert.InKernelIdeal.Gen.dats m 0 c).arrAt 5 Cert.InKernelIdeal.cfg0.N,
    fun c => (Cert.InKernelIdeal.Gen.dats m 0 c).arrAt 6 Cert.InKernelIdeal.cfg0.N,
    fun c => (Cert.InKernelIdeal.Gen.dats m 0 c).arrAt 7 Cert.InKernelIdeal.cfg0.N,
    Cert.InKernelIdeal.Value.run_blocks m g, ?_⟩
  refine (θ_run Cert.InReferenceIdeal.defs _ _).mono (fun r h c => ?_) (Cert.InReferenceIdeal.Value.run (F := Ideal) m' g')
  obtain ⟨h5, h6, h7, k⟩ := h c
  obtain ⟨e0, e1, e2, e3, e4⟩ := hm c
  refine ⟨?_, ?_, ?_, k⟩
  · refine (h5.trans (val_main_v42_eq m' c)).trans ?_
    rw [e0, e1, e2, e3, e4]
    exact (Cert.InKernelIdeal.Value.final_5 m c).symm
  · refine (h6.trans (val_main_v43_eq m' c)).trans ?_
    rw [e0, e1, e2, e3, e4]
    exact (Cert.InKernelIdeal.Value.final_6 m c).symm
  · refine (h7.trans (val_main_v44_eq _ _ _).symm).trans ?_
    rw [e0, e2, e3]
    exact (Cert.InKernelIdeal.Value.final_7 m c).symm

end Cert.InClaim

end

end
-- ==== Proof.Swish.lean ====
/- The gated unit's derivative over the extended reals: the kernel's hand-written form and the one that differentiating
   the unit line by line gives are the same, wherever the cotangent is a real. -/
module

public import proofs.«01_k».proof.Proof.RmsNorm

@[expose] public section

set_option maxRecDepth 16384

noncomputable section

open Idealize.ShloMosaic Idealize.ShloMosaic.TcCoe Idealize.SL.Sem
open scoped BigOperators

namespace Cert.Swish

/-- Being a real. -/
def Real' (e : EReal) : Prop := ∃ r : ℝ, e = (r : EReal)

theorem Real'.mul {a b : EReal} (ha : Real' a) (hb : Real' b) : Real' (a * b) := by
  obtain ⟨r, rfl⟩ := ha; obtain ⟨s, rfl⟩ := hb
  exact ⟨r * s, (EReal.coe_mul r s).symm⟩

theorem Real'.sum {n : ℕ} {f : Fin n → EReal} (h : ∀ i, Real' (f i)) : Real' (∑ i, f i) := by
  choose r hr using h
  exact ⟨∑ i, r i, by rw [Rms.coe_sum]; exact Finset.sum_congr rfl fun i _ => hr i⟩

/-- An extended real whose absolute value is below `⊤` is a real. -/
theorem real_of_abs {e : EReal} (h : max e (-e) < ⊤) : Real' e := by
  induction e with
  | bot => simp at h
  | top => simp at h
  | coe r => exact ⟨r, rfl⟩

/-- The logistic function as the kernel writes it. -/
def sg (e : EReal) : EReal := Ideal.div 1 (1 + Ideal.exp (0 - e))

/-- The gate's gradient as the kernel writes it, of the cotangent `t`. -/
def gK (t e : EReal) : EReal := t * (sg e * (1 + e * (1 - sg e)))

/-- The gate's gradient line by line. -/
def gR (t e : EReal) : EReal := t * sg e + e * t * (sg e * (1 - sg e))

theorem sg_neg (e : EReal) : Ideal.div 1 (1 + Ideal.exp (-e)) = sg e := by unfold sg; rw [zero_sub]

theorem sg_top : sg ⊤ = 1 := by
  have h : (0 : EReal) - ⊤ = ⊥ := rfl
  unfold sg
  rw [h]
  have h2 : Ideal.exp ⊥ = 0 := rfl
  rw [h2, add_zero]
  have : (1 : EReal) = ((1 : ℝ) : EReal) := rfl
  rw [this, Ideal.div_coe (by norm_num), ← EReal.coe_mul]; norm_num

theorem sg_bot : sg ⊥ = 0 := by
  have h : (0 : EReal) - ⊥ = ⊤ := rfl
  unfold sg
  rw [h]
  have h2 : Ideal.exp ⊤ = ⊤ := rfl
  rw [h2]
  have h3 : (1 : EReal) + ⊤ = ⊤ := EReal.coe_add_top 1
  rw [h3]
  unfold Ideal.div; simp

theorem sg_coe (x : ℝ) : ∃ s : ℝ, sg (x : EReal) = (s : EReal) := by
  refine ⟨1 / (1 + Real.exp (-x)), ?_⟩
  unfold sg
  rw [zero_sub, ← EReal.coe_neg]
  have h2 : Ideal.exp ((-x : ℝ) : EReal) = ((Real.exp (-x) : ℝ) : EReal) := rfl
  have h1 : (1 : EReal) = ((1 : ℝ) : EReal) := rfl
  have h3 : (0 : ℝ) < 1 + Real.exp (-x) := by positivity
  rw [h2, h1, ← EReal.coe_add, Ideal.div_coe h3.ne', ← EReal.coe_mul, one_mul]

theorem gK_eq (t e : EReal) (ht : Real' t) : gK t e = gR t e := by
  obtain ⟨t, rfl⟩ := ht
  unfold gK gR
  have h1 : (1 : EReal) = ((1 : ℝ) : EReal) := rfl
  have h0 : (1 : EReal) - 1 = 0 := by rw [h1, ← EReal.coe_sub]; norm_num
  induction e with
  | bot => rw [sg_bot]; simp
  | top => rw [sg_top, h0]; simp
  | coe x =>
    obtain ⟨s, hs⟩ := sg_coe x
    rw [hs, h1]
    simp only [← EReal.coe_mul, ← EReal.coe_add, ← EReal.coe_sub]
    congr 1
    ring

/-- The gate's gradient of a row: the cotangent of the product, the gate and the other factor. -/
def dgate (da gate up : Fin 2816 → EReal) (j : Fin 2816) : EReal := gK (da j * up j) (gate j)

/-- The other factor's gradient of a row. -/
def dup (da gate : Fin 2816 → EReal) (j : Fin 2816) : EReal := da j * (gate j * sg (gate j))

/-- What reaches the norm's output from the two projections. -/
def dh (p q : Fin 2816 → EReal) (wg wu : Fin 2816 → Fin 1024 → EReal) (l : Fin 1024) : EReal := ∑ j, p j * wg j l + ∑ j, q j * wu j l

end Cert.Swish

end

end
-- ==== Proof.MlpPure.lean ====
/- The feed-forward block's and the second norm's gradient, one row at a time: what the kernel's body stores in a tile and
   what the reference's operations compute, read at an index, as functions of the rows of the arguments. -/
module

public import proofs.«01_k».proof.Proof.Swish
public import proofs.«01_k».proof.Proof.Gen.MlpKernelIdeal.Skeleton
public import proofs.«01_k».proof.Proof.Gen.MlpReferenceIdeal.Read
public import Idealize.ShloMosaic.Lib.Pointwise

@[expose] public section

set_option maxRecDepth 16384

noncomputable section

open Idealize.ShloMosaic Idealize.ShloMosaic.TcCoe Idealize.SL.Sem
open scoped BigOperators

namespace Cert.MlpKernelIdeal.Pure
open Cert.MlpKernelIdeal Cert.MlpKernelIdeal.Gen Cert.NormRow Cert.Swish

variable (x0 : Vec Ideal S256x1024 .bf16) (x1 x2 : Vec Ideal S256x1024 .f32) (x3 x4 : Vec Ideal S256x2816 .bf16) (x5 : Vec Ideal S1x1024 .f32)
  (x6 x7 x8 : Vec Ideal S8x352x1024 .bf16) (x9 : Vec Ideal S8x128x1024 .bf16)

/-- The cotangent of the gated product, in the tile's layout of the weights. -/
def da (a : Fin 256) (j : Fin 2816) : EReal := ∑ k : Fin 1024, x0 (ix2 a k) * x6 (ix3 ⟨j.val / 352, by omega⟩ ⟨j.val % 352, by omega⟩ k)

/-- A weight's rows in the tile's layout. -/
def wt (x : Vec Ideal S8x352x1024 .bf16) (j : Fin 2816) (l : Fin 1024) : EReal := x (ix3 ⟨j.val / 352, by omega⟩ ⟨j.val % 352, by omega⟩ l)

abbrev rg (a : Fin 256) (j : Fin 2816) : EReal := dgate (da x0 x6 a) (fun j => x3 (ix2 a j)) (fun j => x4 (ix2 a j)) j
abbrev ru (a : Fin 256) (j : Fin 2816) : EReal := dup (da x0 x6 a) (fun j => x3 (ix2 a j)) j

/-- What reaches the norm's output. -/
abbrev rh (a : Fin 256) (l : Fin 1024) : EReal := dh (rg x0 x3 x4 x6 a) (ru x0 x3 x6 a) (wt x7) (wt x8) l

/-- The gradient of the block's input. -/
abbrev rx (a : Fin 256) (l : Fin 1024) : EReal :=
  dx (fun k => x2 (ix2 a k)) (fun k => x5 (ix2 0 k)) (rh x0 x3 x4 x6 x7 x8 a) (fun k => x1 (ix2 a k)) l

theorem pay6 (a : Fin 256) (j : Fin 2816) : k0_pay6 (F := Ideal) x0 x6 (ix2 a j) = da x0 x6 a j := by
  pointwise [k0_pay6]
  rfl

theorem pay9 (a : Fin 256) (j : Fin 2816) : k0_pay9 (F := Ideal) x0 x6 x3 x4 (ix2 a j) = rg x0 x3 x4 x6 a j := by
  pointwise [k0_pay9, k0_pay7, k0_pay8]
  rw [pay6]
  rfl

theorem pay10 (a : Fin 256) (j : Fin 2816) : k0_pay10 (F := Ideal) x0 x6 x3 (ix2 a j) = ru x0 x3 x6 a j := by
  pointwise [k0_pay10, k0_pay7, k0_pay8]
  rw [pay6]
  rfl

theorem pay11 (a : Fin 256) (l : Fin 1024) :
    k0_pay11 (F := Ideal) (k0_pay9 x0 x6 x3 x4) (k0_pay10 x0 x6 x3) x7 x8 (ix2 a l) = rh x0 x3 x4 x6 x7 x8 a l := by
  pointwise [k0_pay11]
  simp only [pay9, pay10]
  rfl

theorem pay2 (a : Fin 256) (l : Fin 1024) :
    k0_pay2 (F := Ideal) (k0_pay15 (k0_pay9 x0 x6 x3 x4) (k0_pay10 x0 x6 x3) x7 x8 x2 x5) x1 (ix2 a l) = rx x0 x1 x2 x3 x4 x5 x6 x7 x8 a l := by
  pointwise [k0_pay2, k0_pay15, k0_pay14, k0_pay13, k0_pay12]
  simp only [pay11]
  rfl

theorem pay3 (a : Fin 256) (l : Fin 1024) :
    k0_pay3 (F := Ideal) (k0_pay15 (k0_pay9 x0 x6 x3 x4) (k0_pay10 x0 x6 x3) x7 x8 x2 x5) x1 (ix2 a l) = rx x0 x1 x2 x3 x4 x5 x6 x7 x8 a l :=
  pay2 x0 x1 x2 x3 x4 x5 x6 x7 x8 a l

theorem pay4 (a : Fin 256) (p : Fin 1024) :
    k0_pay4 (F := Ideal) (k0_pay15 (k0_pay9 x0 x6 x3 x4) (k0_pay10 x0 x6 x3) x7 x8 x2 x5) x1 x9 (ix2 a p)
      = ∑ l, rx x0 x1 x2 x3 x4 x5 x6 x7 x8 a l * x9 (ix3 ⟨p.val / 128, by omega⟩ ⟨p.val % 128, by omega⟩ l) := by
  pointwise [k0_pay4]
  simp only [pay3]

theorem pay1 (o : Vec Ideal S1x1024 .f32) (l : Fin 1024) :
    k0_pay1 (F := Ideal) (k0_pay16 o) (k0_pay17 (k0_pay9 x0 x6 x3 x4) (k0_pay10 x0 x6 x3) x7 x8 x2) (ix2 0 l)
      = o (ix2 0 l) + ∑ a : Fin 256, dg (fun k => x2 (ix2 a k)) (rh x0 x3 x4 x6 x7 x8 a) l := by
  pointwise [k0_pay1, k0_pay16, k0_pay17, k0_pay14, k0_pay13, k0_pay12]
  simp only [pay11]
  rfl

end Cert.MlpKernelIdeal.Pure

namespace Cert.MlpReferenceIdeal.Pure
open Cert.MlpReferenceIdeal Cert.MlpReferenceIdeal.Gen Cert.MlpReferenceIdeal.Read Cert.Rms Cert.NormRow Cert.Swish

variable (x0 x1 : FVec Ideal S8192x1024 .f32) (x2 : FVec Ideal S1024x1024 .f32) (x3 : FVec Ideal S1024 .f32) (x4 x5 : FVec Ideal S1024x2816 .f32)
  (x6 : FVec Ideal S2816x1024 .f32) (x7 : FVec Ideal S8192x1024 .f32)

/-- The rows of the norm's input. -/
def xm (a : Fin 8192) (k : Fin 1024) : EReal := x0 (ix2 a k) + ∑ p : Fin 1024, x1 (ix2 a p) * x2 (ix2 p k)

/-- The rows of the norm's output. -/
def h2 (a : Fin 8192) (k : Fin 1024) : EReal := xm x0 x1 x2 a k * r (xm x0 x1 x2 a) * x3 (ix1 k)

/-- The rows of a projection of the norm's output. -/
def proj (w : FVec Ideal S1024x2816 .f32) (a : Fin 8192) (j : Fin 2816) : EReal := ∑ k : Fin 1024, h2 x0 x1 x2 x3 a k * w (ix2 k j)

/-- The cotangent of the gated product. -/
def da (a : Fin 8192) (j : Fin 2816) : EReal := ∑ k : Fin 1024, x7 (ix2 a k) * x6 (ix2 j k)

abbrev rg (a : Fin 8192) (j : Fin 2816) : EReal := dgate (da x6 x7 a) (proj x0 x1 x2 x3 x4 a) (proj x0 x1 x2 x3 x5 a) j
abbrev ru (a : Fin 8192) (j : Fin 2816) : EReal := dup (da x6 x7 a) (proj x0 x1 x2 x3 x4 a) j

/-- What reaches the norm's output. -/
abbrev rh (a : Fin 8192) (l : Fin 1024) : EReal :=
  dh (rg x0 x1 x2 x3 x4 x5 x6 x7 a) (ru x0 x1 x2 x3 x4 x6 x7 a) (fun j l => x4 (ix2 l j)) (fun j l => x5 (ix2 l j)) l

/-- The gradient of the block's input. -/
abbrev rx (a : Fin 8192) (l : Fin 1024) : EReal :=
  dx (xm x0 x1 x2 a) (fun k => x3 (ix1 k)) (rh x0 x1 x2 x3 x4 x5 x6 x7 a) (fun k => x7 (ix2 a k)) l

/-- The arguments that are reals. -/
structure Fin' : Prop where
  g : ∀ k, Real' (x3 (ix1 k))
  u : ∀ k j, Real' (x5 (ix2 k j))
  d : ∀ j k, Real' (x6 (ix2 j k))
  c : ∀ a k, Real' (x7 (ix2 a k))

variable (hf : Fin' x3 x5 x6 x7)

theorem real_h2 {x3 x5 x6 x7} (hf : Fin' x3 x5 x6 x7) (a : Fin 8192) (k : Fin 1024) : Real' (h2 x0 x1 x2 x3 a k) := by
  unfold h2
  rcases scale_cases (xm x0 x1 x2 a) with ⟨_, hr⟩ | ⟨y, U, R, hx, _, _, _, _, hr⟩
  · rw [hr, mul_zero, zero_mul]; exact ⟨0, rfl⟩
  · rw [hr, hx]
    exact (Real'.mul ⟨y k, rfl⟩ ⟨R, rfl⟩).mul (hf.g k)

include hf in
theorem real_t (a : Fin 8192) (j : Fin 2816) : Real' (da x6 x7 a j * proj x0 x1 x2 x3 x5 a j) :=
  (Real'.sum fun k => (hf.c a k).mul (hf.d j k)).mul (Real'.sum fun k => (real_h2 x0 x1 x2 hf a k).mul (hf.u k j))

theorem v2 (a : Fin 8192) (k : Fin 1024) : val_main_v2 (F := Ideal) x0 x1 x2 (ix2 a k) = xm x0 x1 x2 a k := by
  pointwise [val_main_v2, val_main_v1]
  rfl

theorem v10 (a : Fin 8192) : val_main_v10 (F := Ideal) x0 x1 x2 (ix2 a 0) = r (xm x0 x1 x2 a) := by
  pointwise [val_main_v10, val_main_v9, val_main_v8, val_main_v7, val_main_v6, val_main_v5, val_main_v4, val_main_v3, val_main_cst_0,
    val_main_cst_1, val_main_cst_2]
  simp only [v2, zero_add]
  rfl

theorem v18 (a : Fin 8192) (k : Fin 1024) : val_main_v18 (F := Ideal) x0 x1 x2 x3 (ix2 a k) = h2 x0 x1 x2 x3 a k := by
  pointwise [val_main_v18, val_main_v17, val_main_v16, val_main_v15, val_main_v14]
  simp only [v2, v10]
  rfl

theorem v20 (a : Fin 8192) (j : Fin 2816) : val_main_v20 (F := Ideal) x0 x1 x2 x3 x4 (ix2 a j) = proj x0 x1 x2 x3 x4 a j := by
  pointwise [val_main_v20, val_main_v19, val_main_v0, val_main_cst]
  simp only [v18]
  rfl

theorem v23 (a : Fin 8192) (j : Fin 2816) : val_main_v23 (F := Ideal) x0 x1 x2 x3 x5 (ix2 a j) = proj x0 x1 x2 x3 x5 a j := by
  pointwise [val_main_v23, val_main_v22, val_main_v0, val_main_cst]
  simp only [v18]
  rfl

theorem v29 (a : Fin 8192) (j : Fin 2816) : val_main_v29 (F := Ideal) x6 x7 (ix2 a j) = da x6 x7 a j := by
  pointwise [val_main_v29, val_main_v28]
  rfl

theorem v30 (a : Fin 8192) (j : Fin 2816) : val_main_v30 (F := Ideal) x0 x1 x2 x3 x4 x6 x7 (ix2 a j) = ru x0 x1 x2 x3 x4 x6 x7 a j := by
  pointwise [val_main_v30, val_main_v21_0, val_main_v21_2, val_main_call0_v4, val_main_call0_cst_0, val_main_call0_v3, val_main_call0_v2,
    val_main_call0_cst, val_main_call0_v1, val_main_call0_v0]
  simp only [v20, v29, sg_neg]
  exact mul_comm _ _

include hf in
theorem v33 (a : Fin 8192) (j : Fin 2816) : val_main_v33 (F := Ideal) x0 x1 x2 x3 x4 x5 x6 x7 (ix2 a j) = rg x0 x1 x2 x3 x4 x5 x6 x7 a j := by
  pointwise [val_main_v33, val_main_call1_v2, val_main_call1_v1, val_main_call1_v0, val_main_v21_1, val_main_call0_v7, val_main_call0_v6,
   val_main_call0_cst_1, val_main_v21_2, val_main_call0_v4, val_main_call0_cst_0, val_main_call0_v3, val_main_call0_v2, val_main_call0_cst,
   val_main_call0_v1, val_main_call0_v0, val_main_v31]
  simp only [v20, v23, v29, sg_neg]
  exact (gK_eq _ _ (real_t x0 x1 x2 x3 x5 x6 x7 hf a j)).symm

include hf in
theorem v35 (a : Fin 8192) (l : Fin 1024) : val_main_v35 (F := Ideal) x0 x1 x2 x3 x4 x5 x6 x7 (ix2 a l) = rh x0 x1 x2 x3 x4 x5 x6 x7 a l := by
  pointwise [val_main_v35, val_main_v34, val_main_v32]
  simp only [v30, v33 (hf := hf)]
  exact add_comm _ _

include hf in
theorem v51 (a : Fin 8192) : val_main_v51 (F := Ideal) x0 x1 x2 x3 x4 x5 x6 x7 (ix1 a)
    = vR (xm x0 x1 x2 a) (fun l => rh x0 x1 x2 x3 x4 x5 x6 x7 a l * x3 (ix1 l)) := by
  pointwise [val_main_v51, val_main_v50, val_main_v49, val_main_v48, val_main_v44, val_main_v43, val_main_v42, val_main_v40, val_main_v39,
    val_main_v16, val_main_cst_6, val_main_cst_7, val_main_cst_8, val_main_v13, val_main_v12, val_main_v11, val_main_cst_3,
    val_main_v9, val_main_v8, val_main_v7, val_main_v6, val_main_v5, val_main_v4, val_main_v3, val_main_cst_0,
    val_main_cst_1, val_main_cst_2]
  simp only [zero_add, Fin.sum_univ_one, v35 (hf := hf), v2, v10]
  rfl

include hf in
theorem v56 (a : Fin 8192) (l : Fin 1024) : val_main_v56 (F := Ideal) x0 x1 x2 x3 x4 x5 x6 x7 (ix2 a l) = rx x0 x1 x2 x3 x4 x5 x6 x7 a l := by
  unfold rx dx
  rw [dx_eq]
  pointwise [val_main_v56, val_main_v55, val_main_v54, val_main_v53, val_main_v52, val_main_v47, val_main_v46, val_main_v45, val_main_v40,
    val_main_v39, val_main_v27, val_main_v16]
  simp only [v51 (hf := hf), v35 (hf := hf), v2, v10, add_assoc]
  unfold dxR
  rw [add_assoc]

include hf in
theorem v57 (a : Fin 8192) (p : Fin 1024) : val_main_v57 (F := Ideal) x0 x1 x2 x3 x4 x5 x6 x7 (ix2 a p)
    = ∑ l, rx x0 x1 x2 x3 x4 x5 x6 x7 a l * x2 (ix2 p l) := by
  pointwise [val_main_v57]
  simp only [v56 (hf := hf)]

include hf in
theorem v61 (l : Fin 1024) : val_main_v61 (F := Ideal) x0 x1 x2 x3 x4 x5 x6 x7 (ix2 0 l)
    = ∑ a : Fin 8192, dg (xm x0 x1 x2 a) (rh x0 x1 x2 x3 x4 x5 x6 x7 a) l := by
  pointwise [val_main_v61, val_main_v41, val_main_v38, val_main_v37, val_main_v36, val_main_v15, val_main_v14, val_main_cst_4, val_main_cst_5]
  simp only [zero_add, Fin.sum_univ_one, v35 (hf := hf), v2, v10]
  exact Finset.sum_congr rfl fun a _ => mul_comm _ _

end Cert.MlpReferenceIdeal.Pure

end

end
-- ==== Proof.MlpValue.lean ====
/- The feed-forward gradient call: its six output arrays after the run, as the reference's terms over the arguments. -/
module

public import proofs.«01_k».proof.Proof.MlpPure
public import proofs.«01_k».proof.Proof.Gen.MlpKernelIdeal.Value
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open scoped BigOperators

namespace Cert.MlpKernelIdeal.Value

open Cert.MlpKernelIdeal Cert.MlpKernelIdeal.Gen

variable (m : (ℓ : Loc nD τ sig) → Buf (Elt Ideal) ℓ)

theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![0, 0]
    ∧ win0_6.index t = ![0, 0, 0]
    ∧ win0_7.index t = ![0, 1, 0]
    ∧ win0_8.index t = ![0, 2, 0]
    ∧ win0_9.index t = ![0, 0, 0]
    ∧ win0_10.index t = ![t.val, 0]
    ∧ win0_11.index t = ![t.val, 0]
    ∧ win0_12.index t = ![t.val, 0]
    ∧ win0_13.index t = ![t.val, 0]
    ∧ win0_14.index t = ![t.val, 0]
    ∧ win0_15.index t = ![0, 0] :=
  (by decide +kernel : ∀ t : Fin grid0.N, _)

theorem row_lt (t : Fin cfg0.N) (a : Fin 256) : t.val * 256 + a.val < 8192 := by
  have := t.isLt; have := a.isLt; have : cfg0.N = 32 := N_0; omega

/-- The row of the arrays that a tile's row holds. -/
abbrev row (t : Fin cfg0.N) (a : Fin 256) : Fin 8192 := ⟨t.val * 256 + a.val, row_lt t a⟩

abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)
abbrev A7 (c : Dev nD) := m ((c : Thread nD τ).loc main_arg7)

theorem blk0 (c : Dev nD) (t : Fin cfg0.N) (a : Fin 256) (k : Fin 1024) : iblk m c 0 t (ix2 a k) = A7 m c (ix2 (row t a) k) := by
  blk_simp [iblk, idx_val t]; entry_read
  pointwise
  blk_ext [idx_val t]

theorem blk1 (c : Dev nD) (t : Fin cfg0.N) (a : Fin 256) (k : Fin 1024) : iblk m c 1 t (ix2 a k) = A7 m c (ix2 (row t a) k) := by
  blk_simp [iblk, idx_val t]; entry_read
  pointwise
  blk_ext [idx_val t]

theorem V11 (c : Dev nD) (r : Fin 8192) (k : Fin 1024) :
    V m c main_v11 (ix2 r k) = Cert.MlpReferenceIdeal.Pure.xm (A0 m c) (A1 m c) (A2 m c) r k := by
  unfold V; simp only [hostOps0, hostOps0_1, hostOps0_2, List.flatten_cons, List.flatten_nil, List.append_nil, List.cons_append, List.nil_append]
  after_reads_at
  rfl

theorem V26 (c : Dev nD) (r : Fin 8192) (j : Fin 2816) : V m c main_v26 (ix2 r j)
    = Cert.MlpReferenceIdeal.Pure.proj (A0 m c) (A1 m c) (A2 m c) (A3 m c) (A4 m c) r j := by
  unfold V; simp only [hostOps0, hostOps0_1, hostOps0_2, List.flatten_cons, List.flatten_nil, List.append_nil, List.cons_append, List.nil_append]
  after_reads_at
  rfl

theorem V28 (c : Dev nD) (r : Fin 8192) (j : Fin 2816) : V m c main_v28 (ix2 r j)
    = Cert.MlpReferenceIdeal.Pure.proj (A0 m c) (A1 m c) (A2 m c) (A3 m c) (A5 m c) r j := by
  unfold V; simp only [hostOps0, hostOps0_1, hostOps0_2, List.flatten_cons, List.flatten_nil, List.append_nil, List.cons_append, List.nil_append]
  after_reads_at
  rfl

theorem V9 (c : Dev nD) (p : Fin 8) (b : Fin 352) (k : Fin 1024) :
    V m c main_v9 (ix3 p b k) = A6 m c (ix2 ⟨p.val * 352 + b.val, by omega⟩ k) := by
  unfold V; simp only [hostOps0, hostOps0_1, hostOps0_2, List.flatten_cons, List.flatten_nil, List.append_nil, List.cons_append, List.nil_append]
  after_reads_at

theorem V7_0 (c : Dev nD) (p : Fin 8) (b : Fin 128) (k : Fin 1024) :
    V m c main_v7 (ix3 p ⟨b.val, by omega⟩ k) = A2 m c (ix2 ⟨p.val * 128 + b.val, by omega⟩ k) := by
  unfold V; simp only [hostOps0, hostOps0_1, hostOps0_2, List.flatten_cons, List.flatten_nil, List.append_nil, List.cons_append, List.nil_append]
  after_reads_at
  after_reads_at
  rw [dif_pos (by omega)]

theorem V7_1 (c : Dev nD) (p : Fin 8) (b : Fin 352) (k : Fin 1024) :
    V m c main_v7 (ix3 p ⟨352 + b.val, by omega⟩ k) = A4 m c (ix2 k ⟨p.val * 352 + b.val, by omega⟩) := by
  unfold V; simp only [hostOps0, hostOps0_1, hostOps0_2, List.flatten_cons, List.flatten_nil, List.append_nil, List.cons_append, List.nil_append]
  after_reads_at
  after_reads_at

theorem V7_2 (c : Dev nD) (p : Fin 8) (b : Fin 352) (k : Fin 1024) :
    V m c main_v7 (ix3 p ⟨704 + b.val, by omega⟩ k) = A5 m c (ix2 k ⟨p.val * 352 + b.val, by omega⟩) := by
  unfold V; simp only [hostOps0, hostOps0_1, hostOps0_2, List.flatten_cons, List.flatten_nil, List.append_nil, List.cons_append, List.nil_append]
  after_reads_at
  after_reads_at
  rw [dif_neg (by omega), dif_neg (by omega)]
  congr 2
  exact Fin.ext (by dsimp only; omega)

theorem V30 (c : Dev nD) (k : Fin 1024) : V m c main_v30 (ix2 0 k) = A3 m c (ix1 k) := by
  unfold V; simp only [hostOps0, hostOps0_1, hostOps0_2, List.flatten_cons, List.flatten_nil, List.append_nil, List.cons_append, List.nil_append]
  after_reads_at

theorem blk2 (c : Dev nD) (t : Fin cfg0.N) (a : Fin 256) (k : Fin 1024) :
    iblk m c 2 t (ix2 a k) = Cert.MlpReferenceIdeal.Pure.xm (A0 m c) (A1 m c) (A2 m c) (row t a) k := by
  refine Eq.trans ?_ (V11 m c _ _)
  blk_simp [iblk, idx_val t]
  blk_ext [idx_val t]

theorem blk3 (c : Dev nD) (t : Fin cfg0.N) (a : Fin 256) (j : Fin 2816) :
    iblk m c 3 t (ix2 a j) = Cert.MlpReferenceIdeal.Pure.proj (A0 m c) (A1 m c) (A2 m c) (A3 m c) (A4 m c) (row t a) j := by
  refine Eq.trans ?_ (V26 m c _ _)
  blk_simp [iblk, idx_val t]
  blk_ext [idx_val t]

theorem blk4 (c : Dev nD) (t : Fin cfg0.N) (a : Fin 256) (j : Fin 2816) :
    iblk m c 4 t (ix2 a j) = Cert.MlpReferenceIdeal.Pure.proj (A0 m c) (A1 m c) (A2 m c) (A3 m c) (A5 m c) (row t a) j := by
  refine Eq.trans ?_ (V28 m c _ _)
  blk_simp [iblk, idx_val t]
  blk_ext [idx_val t]

theorem blk5 (c : Dev nD) (t : Fin cfg0.N) (k : Fin 1024) : iblk m c 5 t (ix2 0 k) = A3 m c (ix1 k) := by
  refine Eq.trans ?_ (V30 m c k)
  blk_simp [iblk, idx_val t]
  blk_ext [idx_val t]

theorem blk6 (c : Dev nD) (t : Fin cfg0.N) (j : Fin 2816) (k : Fin 1024) :
    iblk m c 6 t (ix3 ⟨j.val / 352, by omega⟩ ⟨j.val % 352, by omega⟩ k) = A6 m c (ix2 j k) := by
  refine Eq.trans ?_ ((V9 m c ⟨j.val / 352, by omega⟩ ⟨j.val % 352, by omega⟩ k).trans ?_)
  · blk_simp [iblk, idx_val t]
    blk_ext [idx_val t]
  · congr 2; exact Fin.ext (Nat.div_add_mod' ..)

theorem blk7 (c : Dev nD) (t : Fin cfg0.N) (j : Fin 2816) (k : Fin 1024) :
    iblk m c 7 t (ix3 ⟨j.val / 352, by omega⟩ ⟨j.val % 352, by omega⟩ k) = A4 m c (ix2 k j) := by
  refine Eq.trans ?_ ((V7_1 m c ⟨j.val / 352, by omega⟩ ⟨j.val % 352, by omega⟩ k).trans ?_)
  · blk_simp [iblk, idx_val t]
    blk_ext [idx_val t]
  · congr 2; exact Fin.ext (Nat.div_add_mod' ..)

theorem blk8 (c : Dev nD) (t : Fin cfg0.N) (j : Fin 2816) (k : Fin 1024) :
    iblk m c 8 t (ix3 ⟨j.val / 352, by omega⟩ ⟨j.val % 352, by omega⟩ k) = A5 m c (ix2 k j) := by
  refine Eq.trans ?_ ((V7_2 m c ⟨j.val / 352, by omega⟩ ⟨j.val % 352, by omega⟩ k).trans ?_)
  · blk_simp [iblk, idx_val t]
    blk_ext [idx_val t]
  · congr 2; exact Fin.ext (Nat.div_add_mod' ..)

theorem blk9 (c : Dev nD) (t : Fin cfg0.N) (j : Fin 1024) (k : Fin 1024) :
    X0_9 m c t (ix3 ⟨j.val / 128, by omega⟩ ⟨j.val % 128, by omega⟩ k) = A2 m c (ix2 j k) := by
  refine Eq.trans ?_ ((V7_0 m c ⟨j.val / 128, by omega⟩ ⟨j.val % 128, by omega⟩ k).trans ?_)
  · unfold X0_9
    rw [Pipeline.Window.fill, dif_pos (moved0_9 _ _)]
    blk_simp [iblk, idx_val t]
    blk_ext [idx_val t]
  · congr 2; exact Fin.ext (Nat.div_add_mod' ..)

/-- The rows of a point's tile are the arguments' rows. -/
theorem rows (c : Dev nD) (t : Fin cfg0.N) (a : Fin 256) :
    (fun k => iblk m c 1 t (ix2 a k)) = (fun k => A7 m c (ix2 (row t a) k))
    ∧ (fun k => iblk m c 2 t (ix2 a k)) = Cert.MlpReferenceIdeal.Pure.xm (A0 m c) (A1 m c) (A2 m c) (row t a)
    ∧ (fun j => iblk m c 3 t (ix2 a j)) = Cert.MlpReferenceIdeal.Pure.proj (A0 m c) (A1 m c) (A2 m c) (A3 m c) (A4 m c) (row t a)
    ∧ (fun j => iblk m c 4 t (ix2 a j)) = Cert.MlpReferenceIdeal.Pure.proj (A0 m c) (A1 m c) (A2 m c) (A3 m c) (A5 m c) (row t a)
    ∧ (fun k => iblk m c 5 t (ix2 0 k)) = (fun k => A3 m c (ix1 k)) :=
  ⟨funext fun k => blk1 m c t a k, funext fun k => blk2 m c t a k, funext fun k => blk3 m c t a k, funext fun k => blk4 m c t a k,
    funext fun k => blk5 m c t k⟩

/-- The two weights of a point's tile are the arguments. -/
theorem wts (c : Dev nD) (t : Fin cfg0.N) : Pure.wt (iblk m c 7 t) = (fun j l => A4 m c (ix2 l j))
    ∧ Pure.wt (iblk m c 8 t) = (fun j l => A5 m c (ix2 l j)) :=
  ⟨funext fun j => funext fun l => blk7 m c t j l, funext fun j => funext fun l => blk8 m c t j l⟩

theorem da_rows (c : Dev nD) (t : Fin cfg0.N) (a : Fin 256) : Pure.da (iblk m c 0 t) (iblk m c 6 t) a
    = Cert.MlpReferenceIdeal.Pure.da (A6 m c) (A7 m c) (row t a) := by
  funext j
  exact Finset.sum_congr rfl fun k _ => congrArg₂ (· * ·) (blk0 m c t a k) (blk6 m c t j k)

theorem rg_rows (c : Dev nD) (t : Fin cfg0.N) (a : Fin 256) : Pure.rg (iblk m c 0 t) (iblk m c 3 t) (iblk m c 4 t) (iblk m c 6 t) a
    = Cert.MlpReferenceIdeal.Pure.rg (A0 m c) (A1 m c) (A2 m c) (A3 m c) (A4 m c) (A5 m c) (A6 m c) (A7 m c) (row t a) := by
  obtain ⟨_, _, e3, e4, _⟩ := rows m c t a
  funext j
  unfold Pure.rg
  rw [e3, e4, da_rows]

theorem ru_rows (c : Dev nD) (t : Fin cfg0.N) (a : Fin 256) : Pure.ru (iblk m c 0 t) (iblk m c 3 t) (iblk m c 6 t) a
    = Cert.MlpReferenceIdeal.Pure.ru (A0 m c) (A1 m c) (A2 m c) (A3 m c) (A4 m c) (A6 m c) (A7 m c) (row t a) := by
  obtain ⟨_, _, e3, _, _⟩ := rows m c t a
  funext j
  unfold Pure.ru
  rw [e3, da_rows]

theorem rh_rows (c : Dev nD) (t : Fin cfg0.N) (a : Fin 256) :
    Pure.rh (iblk m c 0 t) (iblk m c 3 t) (iblk m c 4 t) (iblk m c 6 t) (iblk m c 7 t) (iblk m c 8 t) a
    = Cert.MlpReferenceIdeal.Pure.rh (A0 m c) (A1 m c) (A2 m c) (A3 m c) (A4 m c) (A5 m c) (A6 m c) (A7 m c) (row t a) := by
  funext l
  unfold Pure.rh
  rw [rg_rows, ru_rows, (wts m c t).1, (wts m c t).2]

theorem rx_rows (c : Dev nD) (t : Fin cfg0.N) (a : Fin 256) :
    Pure.rx (iblk m c 0 t) (iblk m c 1 t) (iblk m c 2 t) (iblk m c 3 t) (iblk m c 4 t) (iblk m c 5 t) (iblk m c 6 t) (iblk m c 7 t)
      (iblk m c 8 t) a = Cert.MlpReferenceIdeal.Pure.rx (A0 m c) (A1 m c) (A2 m c) (A3 m c) (A4 m c) (A5 m c) (A6 m c) (A7 m c) (row t a) := by
  obtain ⟨e1, e2, _, _, e5⟩ := rows m c t a
  funext l
  unfold Pure.rx
  rw [rh_rows, e1, e2, e5]

/-- The arguments that are reals. -/
abbrev Hyp (c : Dev nD) : Prop := Cert.MlpReferenceIdeal.Pure.Fin' (A3 m c) (A5 m c) (A6 m c) (A7 m c)

theorem final_10 (c : Dev nD) (hf : Hyp m c) : (dats m 0 c).arrAt 10 (cfgs 0).N
    = Cert.MlpReferenceIdeal.Read.val_main_v58 (F := Ideal) (A0 m c) (A1 m c) (A2 m c) (A3 m c) (A4 m c) (A5 m c) (A6 m c) (A7 m c) := by
  refine (dats m 0 c).arrAt_eq_of_covers 10 _ (by decide +kernel) fun t hc y => ?_
  blk_simp; rw [after0_10]
  obtain ⟨a, k, rfl⟩ : ∃ a k, y = ix2 a k := ⟨y 0, y 1, eq_ix2 y⟩
  have hv : (outsAt0 m c t.val t.isLt).1 (ix2 a k) = Pure.rg (iblk m c 0 t) (iblk m c 3 t) (iblk m c 4 t) (iblk m c 6 t) a k := by
    by_cases h : t.val % 32 = 0
    · rw [outsAt0_A m c t h]; frame_out; exact Pure.pay9 ..
    · rw [outsAt0_B m c t h]; frame_out; exact Pure.pay9 ..
  rw [hv, rg_rows]
  refine (Cert.MlpReferenceIdeal.Pure.v33 (A0 m c) (A1 m c) (A2 m c) (A3 m c) (A4 m c) (A5 m c) (A6 m c) (A7 m c) hf (row t a) k).symm.trans ?_
  pointwise [Cert.MlpReferenceIdeal.Read.val_main_v58]
  congr 1
  blk_ext [idx_val t]

theorem final_11 (c : Dev nD) : (dats m 0 c).arrAt 11 (cfgs 0).N
    = Cert.MlpReferenceIdeal.Read.val_main_v59 (F := Ideal) (A0 m c) (A1 m c) (A2 m c) (A3 m c) (A4 m c) (A6 m c) (A7 m c) := by
  refine (dats m 0 c).arrAt_eq_of_covers 11 _ (by decide +kernel) fun t hc y => ?_
  blk_simp; rw [after0_11]
  obtain ⟨a, k, rfl⟩ : ∃ a k, y = ix2 a k := ⟨y 0, y 1, eq_ix2 y⟩
  have hv : (outsAt0 m c t.val t.isLt).2.1 (ix2 a k) = Pure.ru (iblk m c 0 t) (iblk m c 3 t) (iblk m c 6 t) a k := by
    by_cases h : t.val % 32 = 0
    · rw [outsAt0_A m c t h]; frame_out; exact Pure.pay10 ..
    · rw [outsAt0_B m c t h]; frame_out; exact Pure.pay10 ..
  rw [hv, ru_rows]
  refine (Cert.MlpReferenceIdeal.Pure.v30 (A0 m c) (A1 m c) (A2 m c) (A3 m c) (A4 m c) (A6 m c) (A7 m c) (row t a) k).symm.trans ?_
  pointwise [Cert.MlpReferenceIdeal.Read.val_main_v59]
  congr 1
  blk_ext [idx_val t]

theorem final_12 (c : Dev nD) (hf : Hyp m c) : (dats m 0 c).arrAt 12 (cfgs 0).N
    = Cert.MlpReferenceIdeal.Read.val_main_v56 (F := Ideal) (A0 m c) (A1 m c) (A2 m c) (A3 m c) (A4 m c) (A5 m c) (A6 m c) (A7 m c) := by
  refine (dats m 0 c).arrAt_eq_of_covers 12 _ (by decide +kernel) fun t hc y => ?_
  blk_simp; rw [after0_12]
  obtain ⟨a, k, rfl⟩ : ∃ a k, y = ix2 a k := ⟨y 0, y 1, eq_ix2 y⟩
  have hv : (outsAt0 m c t.val t.isLt).2.2.1 (ix2 a k) = Pure.rx (iblk m c 0 t) (iblk m c 1 t) (iblk m c 2 t) (iblk m c 3 t) (iblk m c 4 t) (iblk m c 5 t) (iblk m c 6 t) (iblk m c 7 t) (iblk m c 8 t) a k := by
    by_cases h : t.val % 32 = 0
    · rw [outsAt0_A m c t h]; frame_out; exact Pure.pay2 ..
    · rw [outsAt0_B m c t h]; frame_out; exact Pure.pay2 ..
  rw [hv, rx_rows]
  refine (Cert.MlpReferenceIdeal.Pure.v56 (A0 m c) (A1 m c) (A2 m c) (A3 m c) (A4 m c) (A5 m c) (A6 m c) (A7 m c) hf (row t a) k).symm.trans ?_
  congr 1
  blk_ext [idx_val t]

theorem final_13 (c : Dev nD) (hf : Hyp m c) : (dats m 0 c).arrAt 13 (cfgs 0).N
    = Cert.MlpReferenceIdeal.Read.val_main_v60 (F := Ideal) (A0 m c) (A1 m c) (A2 m c) (A3 m c) (A4 m c) (A5 m c) (A6 m c) (A7 m c) := by
  refine (dats m 0 c).arrAt_eq_of_covers 13 _ (by decide +kernel) fun t hc y => ?_
  blk_simp; rw [after0_13]
  obtain ⟨a, k, rfl⟩ : ∃ a k, y = ix2 a k := ⟨y 0, y 1, eq_ix2 y⟩
  have hv : (outsAt0 m c t.val t.isLt).2.2.2.1 (ix2 a k) = Pure.rx (iblk m c 0 t) (iblk m c 1 t) (iblk m c 2 t) (iblk m c 3 t) (iblk m c 4 t) (iblk m c 5 t) (iblk m c 6 t) (iblk m c 7 t) (iblk m c 8 t) a k := by
    by_cases h : t.val % 32 = 0
    · rw [outsAt0_A m c t h]; frame_out; exact Pure.pay3 ..
    · rw [outsAt0_B m c t h]; frame_out; exact Pure.pay3 ..
  rw [hv, rx_rows]
  refine (Cert.MlpReferenceIdeal.Pure.v56 (A0 m c) (A1 m c) (A2 m c) (A3 m c) (A4 m c) (A5 m c) (A6 m c) (A7 m c) hf (row t a) k).symm.trans ?_
  pointwise [Cert.MlpReferenceIdeal.Read.val_main_v60]
  congr 1
  blk_ext [idx_val t]

/-- The tile of the output projection's cotangent at a point is the reference's rows there. -/
theorem tile_14 (c : Dev nD) (hf : Hyp m c) (t : Fin cfg0.N) (a : Fin 256) (p : Fin 1024) :
    ∑ l, Pure.rx (iblk m c 0 t) (iblk m c 1 t) (iblk m c 2 t) (iblk m c 3 t) (iblk m c 4 t) (iblk m c 5 t) (iblk m c 6 t) (iblk m c 7 t) (iblk m c 8 t) a l * X0_9 m c t (ix3 ⟨p.val / 128, by omega⟩ ⟨p.val % 128, by omega⟩ l)
      = Cert.MlpReferenceIdeal.Read.val_main_v57 (F := Ideal) (A0 m c) (A1 m c) (A2 m c) (A3 m c) (A4 m c) (A5 m c) (A6 m c) (A7 m c) (ix2 (row t a) p) := by
  rw [Cert.MlpReferenceIdeal.Pure.v57 (hf := hf), rx_rows]
  exact Finset.sum_congr rfl fun l _ => congrArg _ (blk9 m c t p l)

theorem final_14 (c : Dev nD) (hf : Hyp m c) : (dats m 0 c).arrAt 14 (cfgs 0).N
    = Cert.MlpReferenceIdeal.Read.val_main_v57 (F := Ideal) (A0 m c) (A1 m c) (A2 m c) (A3 m c) (A4 m c) (A5 m c) (A6 m c) (A7 m c) := by
  refine (dats m 0 c).arrAt_eq_of_covers 14 _ (by decide +kernel) fun t hc y => ?_
  blk_simp; rw [after0_14]
  obtain ⟨a, k, rfl⟩ : ∃ a k, y = ix2 a k := ⟨y 0, y 1, eq_ix2 y⟩
  have hv : (outsAt0 m c t.val t.isLt).2.2.2.2.1 (ix2 a k) = ∑ l, Pure.rx (iblk m c 0 t) (iblk m c 1 t) (iblk m c 2 t) (iblk m c 3 t) (iblk m c 4 t) (iblk m c 5 t) (iblk m c 6 t) (iblk m c 7 t) (iblk m c 8 t) a l * X0_9 m c t (ix3 ⟨k.val / 128, by omega⟩ ⟨k.val % 128, by omega⟩ l) := by
    by_cases h : t.val % 32 = 0
    · rw [outsAt0_A m c t h]; frame_out; exact Pure.pay4 ..
    · rw [outsAt0_B m c t h]; frame_out; exact Pure.pay4 ..
  rw [hv, tile_14 m c hf]
  congr 1
  blk_ext [idx_val t]

/-- The last point. -/
def t0_31 : Fin grid0.N := ⟨31, by rw [N_0]; decide⟩

/-- A sum over the points and a tile's rows is the sum over all the rows. -/
theorem sum_points (f : Fin 8192 → EReal) : ∑ t : Fin cfg0.N, ∑ a : Fin 256, f (row t a) = ∑ r, f r :=
  (Fin.sum_univ_tiles 32 256 rfl f).symm

/-- The gain's gradient's accumulator at the last point. -/
theorem last_15 (c : Dev nD) (hf : Hyp m c) (l : Fin 1024) : ((outsAt0 m c t0_31.val t0_31.isLt).2.2.2.2.2 (ix2 0 l) : EReal)
    = Cert.MlpReferenceIdeal.Read.val_main_v61 (F := Ideal) (A0 m c) (A1 m c) (A2 m c) (A3 m c) (A4 m c) (A5 m c) (A6 m c) (A7 m c) (ix2 0 l) := by
  have hz : ∀ l, k0_pay5 (F := Ideal) (ix2 0 l) = 0 := fun j => by pointwise! [k0_pay5]
  rw [Pipeline.eq_sum_fin_of_reset_step_apply_last (fun n h => fun l : Fin 1024 => (outsAt0 m c n h).2.2.2.2.2 (ix2 0 l)) 32 (fun _ => 0)
    (fun t l => ∑ a : Fin 256, NormRow.dg (fun k => iblk m c 2 t (ix2 a k)) (Pure.rh (iblk m c 0 t) (iblk m c 3 t) (iblk m c 4 t) (iblk m c 6 t) (iblk m c 7 t) (iblk m c 8 t) a) l)
    (fun t h l => by rw [outsAt0_A m c t h]; frame_out; rw [Pure.pay1, hz])
    (fun t h l => by rw [outsAt0_B m c t h]; frame_out; rw [Pure.pay1])
    (le_of_eq N_0) t0_31 rfl l, zero_add]
  rw [Cert.MlpReferenceIdeal.Pure.v61 (hf := hf), ← sum_points]
  refine Finset.sum_congr rfl fun t _ => Finset.sum_congr rfl fun a _ => ?_
  rw [(rows m c t a).2.1, rh_rows]

set_option maxHeartbeats 2000000 in
theorem final_15 (c : Dev nD) (hf : Hyp m c) : (dats m 0 c).arrAt 15 (cfgs 0).N
    = Cert.MlpReferenceIdeal.Read.val_main_v61 (F := Ideal) (A0 m c) (A1 m c) (A2 m c) (A3 m c) (A4 m c) (A5 m c) (A6 m c) (A7 m c) := by
  refine (dats m 0 c).arrAt_eq_of_after_last 15 t0_31 (by decide +kernel) _ fun j => ?_
  blk_simp
  obtain ⟨l, rfl⟩ : ∃ l, j = ix2 0 l := ⟨j 1, by rw [eq_ix2 j]; congr 1; exact Subsingleton.elim (α := Fin 1) _ _⟩
  rw [after0_15]
  exact last_15 m c hf l

end Cert.MlpKernelIdeal.Value

end

end
-- ==== Proof.MlpClaim.lean ====
/- The value claim of the feed-forward gradient call: the kernel's six results are the reference's, where the gain, the up and
   down weights and the cotangent are reals. -/
module

public import proofs.«01_k».proof.Defs
public import proofs.«01_k».proof.Proof.MlpValue
public import proofs.«01_k».proof.Proof.Gen.MlpReferenceIdeal.Run
public import Idealize.ShloMosaic.Lib.Claim

@[expose] public section

set_option maxRecDepth 16384

noncomputable section

namespace Cert.MlpClaim

open Idealize.ShloMosaic Idealize.ShloMosaic.TcCoe Idealize.SL.Sem Cert.MlpReferenceIdeal.Read Cert.Swish

/-- The predicate's shape relations hold. -/
theorem facts : Cert.Pre_mlp_finite.Facts := ⟨by decide, by decide, by decide, by decide⟩

/-- The word of infinity, as an extended real. -/
theorem top_word : Ideal.ofBits .f32 0x7F800000#32 = ⊤ := by simp [Ideal.ofBits, Ideal.ieee]

/-- An array whose absolute values compare below infinity everywhere is one of reals. -/
theorem real_of_lt {S : Shape} (x v : FVec Ideal S .f32) (hv : ∀ i, (v i : EReal) = ⊤)
    (h : cmpf .olt (Host.absf x) v = fun _ => 1#1) (i : S.Idx) : Real' (x i) := by
  refine real_of_abs ?_
  by_contra hn
  have e : Ideal.cmp .olt (max (x i : EReal) (-(x i : EReal))) (v i) = 1#1 := congrFun h i
  rw [hv, Ideal.cmp] at e
  simp [hn] at e

/-- What the predicate says of the arguments. -/
theorem hyp (m : (ℓ : Loc Cert.MlpKernelIdeal.nD Cert.MlpKernelIdeal.τ Cert.MlpKernelIdeal.sig) → Buf (Elt Ideal) ℓ)
    (h : Cert.Pre_MlpKernelIdeal_mlp_finite (hPre_mlp_finite := facts) m) (c : Dev Cert.MlpKernelIdeal.nD) :
    Cert.MlpKernelIdeal.Value.Hyp m c := by
  obtain ⟨h0, h1, h2, h3⟩ := h c
  exact ⟨fun k => real_of_lt _ _ (fun _ => top_word) h0 _, fun k j => real_of_lt _ _ (fun _ => top_word) h1 _,
    fun j k => real_of_lt _ _ (fun _ => top_word) h2 _, fun a k => real_of_lt _ _ (fun _ => top_word) h3 _⟩

set_option maxHeartbeats 2000000 in
theorem algebraic : Cert.algebraic_MlpKernelIdeal_MlpReferenceIdeal_pre_mlp_finite
    (hMlpKernelIdeal := Cert.MlpKernelIdeal.Gen.facts) (hMlpReferenceIdeal := Cert.MlpReferenceIdeal.Gen.facts)
    (hPre_mlp_finite := facts) := by
  intro m g m' g' hp hm
  refine ⟨fun c => (Cert.MlpKernelIdeal.Gen.dats m 0 c).arrAt 10 Cert.MlpKernelIdeal.cfg0.N,
    fun c => (Cert.MlpKernelIdeal.Gen.dats m 0 c).arrAt 11 Cert.MlpKernelIdeal.cfg0.N,
    fun c => (Cert.MlpKernelIdeal.Gen.dats m 0 c).arrAt 12 Cert.MlpKernelIdeal.cfg0.N,
    fun c => (Cert.MlpKernelIdeal.Gen.dats m 0 c).arrAt 13 Cert.MlpKernelIdeal.cfg0.N,
    fun c => (Cert.MlpKernelIdeal.Gen.dats m 0 c).arrAt 14 Cert.MlpKernelIdeal.cfg0.N,
    fun c => (Cert.MlpKernelIdeal.Gen.dats m 0 c).arrAt 15 Cert.MlpKernelIdeal.cfg0.N,
    Cert.MlpKernelIdeal.Value.run_blocks m g, ?_⟩
  refine (θ_run Cert.MlpReferenceIdeal.defs _ _).mono (fun r h c => ?_) (Cert.MlpReferenceIdeal.Value.run (F := Ideal) m' g')
  obtain ⟨h10, h11, h12, h13, h14, h15, k⟩ := h c
  obtain ⟨e0, e1, e2, e3, e4, e5, e6, e7⟩ := hm c
  have hf := hyp m hp c
  refine ⟨?_, ?_, ?_, ?_, ?_, ?_, k⟩
  · refine (h10.trans (val_main_v58_eq m' c)).trans ?_
    simp only [e0, e1, e2, e3, e4, e5, e6, e7]
    exact (Cert.MlpKernelIdeal.Value.final_10 m c hf).symm
  · refine (h11.trans (val_main_v59_eq _ _ _ _ _ _ _).symm).trans ?_
    simp only [e0, e1, e2, e3, e4, e6, e7]
    exact (Cert.MlpKernelIdeal.Value.final_11 m c).symm
  · refine (h12.trans (val_main_v56_eq m' c)).trans ?_
    simp only [e0, e1, e2, e3, e4, e5, e6, e7]
    exact (Cert.MlpKernelIdeal.Value.final_12 m c hf).symm
  · refine (h13.trans (val_main_v60_eq m' c)).trans ?_
    simp only [e0, e1, e2, e3, e4, e5, e6, e7]
    exact (Cert.MlpKernelIdeal.Value.final_13 m c hf).symm
  · refine (h14.trans (val_main_v57_eq m' c)).trans ?_
    simp only [e0, e1, e2, e3, e4, e5, e6, e7]
    exact (Cert.MlpKernelIdeal.Value.final_14 m c hf).symm
  · refine (h15.trans (val_main_v61_eq m' c)).trans ?_
    simp only [e0, e1, e2, e3, e4, e5, e6, e7]
    exact (Cert.MlpKernelIdeal.Value.final_15 m c hf).symm

end Cert.MlpClaim

end

end
-- ==== Proof.RetShare.lean ====
/- What a row of the retention adds to the gradient of the group norm's gain. -/
module

public import Idealize.ShloMosaic.Lib.Pointwise

@[expose] public section

noncomputable section

open Idealize.ShloMosaic Idealize.ShloMosaic.TcCoe Idealize.SL.Sem
open scoped BigOperators

namespace Cert.Retention

/-- Entry `e` of a head's row after its mean is taken off and it is divided by its deviation. -/
def normed (r : Fin 128 → EReal) (e : Fin 128) : EReal :=
  (r e - Ideal.div (∑ x, r x) (Ideal.ofBits .f32 0x43000000#32)) *
    Ideal.rsqrt (Ideal.div (∑ x, (r x - Ideal.div (∑ y, r y) (Ideal.ofBits .f32 0x43000000#32)) *
        (r x - Ideal.div (∑ y, r y) (Ideal.ofBits .f32 0x43000000#32))) (Ideal.ofBits .f32 0x43000000#32)
      + Ideal.ofBits .f32 0x358637BD#32)

/-- A row's share of the gain's gradient: the normalised entry, the cotangent and the gate's swish. -/
def share (r ct g : EReal) : EReal := r * (ct * (g * Ideal.div 1 (1 + Ideal.exp (-g))))

end Cert.Retention

end

end
-- ==== Proof.RetPure.lean ====
/- The retention gradient call's share of the gain's gradient: what its body adds to the running row of a head, read at an
   index, as the sum over the tile's rows of the reference's own terms. -/
module

public import proofs.«01_k».proof.Proof.RetShare
public import proofs.«01_k».proof.Proof.Gen.RetKernelIdeal.Skeleton
public import Idealize.ShloMosaic.Lib.Pointwise

@[expose] public section

set_option maxRecDepth 16384

noncomputable section

open Idealize.ShloMosaic Idealize.ShloMosaic.TcCoe Idealize.SL.Sem
open scoped BigOperators

namespace Cert.RetKernelIdeal.Pure
open Cert.RetKernelIdeal Cert.RetKernelIdeal.Gen Cert.Retention

variable (R G C : Vec Ideal S256x128 .f32) (P : Vec Ideal S1x128 .f32)

theorem mean (a : Fin 256) : k0_pay18 R (ix2 a 0) = Ideal.div (∑ x, R (ix2 a x)) (Ideal.ofBits .f32 0x43000000#32) := by
  pointwise [k0_pay18, k0_pay17]

theorem dev (a : Fin 256) : k0_pay19 R (ix2 a 0) = Ideal.rsqrt (Ideal.div (∑ x, (R (ix2 a x) - Ideal.div (∑ y, R (ix2 a y)) (Ideal.ofBits .f32 0x43000000#32)) *
        (R (ix2 a x) - Ideal.div (∑ y, R (ix2 a y)) (Ideal.ofBits .f32 0x43000000#32))) (Ideal.ofBits .f32 0x43000000#32)
      + Ideal.ofBits .f32 0x358637BD#32) := by
  pointwise [k0_pay19, k0_pay17]
  simp only [zero_add, mean]

theorem norm (a : Fin 256) (e : Fin 128) : k0_pay20 R (ix2 a e) = normed (fun x => R (ix2 a x)) e := by
  pointwise [k0_pay20, k0_pay17]
  rw [mean, dev]
  rfl

theorem swish (a : Fin 256) (e : Fin 128) : k0_pay23 G (ix2 a e)
    = G (ix2 a e) * Ideal.div 1 (1 + Ideal.exp (-G (ix2 a e))) := by
  pointwise [k0_pay23, k0_pay22, k0_pay21]
  simp only [zero_sub]

/-- The first head's row after the tile. -/
theorem row0 (e : Fin 128) : k0_pay26 R G C P (ix2 0 e)
    = P (ix2 0 e) + ∑ a : Fin 256, share (normed (fun x => R (ix2 a x)) e) (C (ix2 a e)) (G (ix2 a e)) := by
  pointwise [k0_pay26, k0_pay24]
  simp only [zero_add, norm, swish]
  refine congrArg (_ + ·) (Finset.sum_congr rfl fun a _ => ?_)
  rw [share, mul_comm (C (ix2 a e)), mul_assoc]

theorem row1 (e : Fin 128) : k0_pay62 (k0_pay60 P) (k0_pay61 R G C) (ix2 0 e)
    = P (ix2 0 e) + ∑ a : Fin 256, share (normed (fun x => R (ix2 a x)) e) (C (ix2 a e)) (G (ix2 a e)) := row0 R G C P e

theorem row2 (e : Fin 128) : k0_pay97 (k0_pay92 G) (k0_pay95 P) (k0_pay96 R C) (ix2 0 e)
    = P (ix2 0 e) + ∑ a : Fin 256, share (normed (fun x => R (ix2 a x)) e) (C (ix2 a e)) (G (ix2 a e)) := row0 R G C P e

theorem row3 (e : Fin 128) : k0_pay129 (k0_pay123 R) (k0_pay126 G) (k0_pay127 C) P (ix2 0 e)
    = P (ix2 0 e) + ∑ a : Fin 256, share (normed (fun x => R (ix2 a x)) e) (C (ix2 a e)) (G (ix2 a e)) := row0 R G C P e

theorem start (j : Fin 512) : (k0_pay7 (F := Ideal)) (ix2 0 j) = 0 := by
  pointwise [k0_pay7]

end Cert.RetKernelIdeal.Pure

end

end
-- ==== Proof.RetMath.lean ====
/- The retention over the reals: blocks of any width with a state carried between them. A block of 256 rows, whose weights
   see chunks of 64, gives what the chunks of 64 give one after another. -/
module

public import Mathlib.Analysis.SpecialFunctions.Exp
public import Mathlib.Algebra.BigOperators.Intervals
public import Mathlib.Algebra.BigOperators.Fin
public import Mathlib.Tactic.Ring
public import Mathlib.Tactic.NormNum

@[expose] public section

noncomputable section

open scoped BigOperators
open Real Finset

namespace Cert.Retention

variable {ι : Type} [Fintype ι]

/-- The state before block `n` of `B` rows: the rows before it, each decayed to the block's start. -/
def state (L : ℝ) (B : ℕ) (k : ℕ → ι → ℝ) (v : ℕ → ℝ) : ℕ → ι → ℝ
  | 0, _ => 0
  | n + 1, d => exp (L * B) * state L B k v n d + ∑ j : Fin B, k (n * B + j) d * exp (L * (B - 1 - (j : ℕ))) * v (n * B + j)

/-- Row `i` of block `n`: the block's own rows at the weights `M`, and the state. -/
def out (L : ℝ) (B : ℕ) (M : ℕ → ℕ → ℝ) (q k : ℕ → ι → ℝ) (v : ℕ → ℝ) (n i : ℕ) : ℝ :=
  ∑ j : Fin B, (∑ d, q (n * B + i) d * k (n * B + j) d) * M i j * v (n * B + j)
    + ∑ d, q (n * B + i) d * exp (L * (i + 1)) * state L B k v n d

/-- The weights inside a chunk. -/
def near (L : ℝ) (i j : ℕ) : ℝ := exp (L * |(i : ℝ) - j|)

/-- The weights inside a block of several chunks of 64. -/
def wide (L : ℝ) (i j : ℕ) : ℝ :=
  if i / 64 = j / 64 then exp (L * |(i : ℝ) - j|) else if j / 64 < i / 64 then exp (L * ((i : ℝ) - j)) else 0

/-- A value carried from step to step: each step multiplies it by `a` and adds the step's own. -/
def carry (a : ℝ) (f : ℕ → ℝ) : ℕ → ℝ
  | 0 => 0
  | n + 1 => a * carry a f n + f n

theorem state_carry (L : ℝ) (B : ℕ) (k : ℕ → ι → ℝ) (v : ℕ → ℝ) (d : ι) : ∀ n, state L B k v n d
    = carry (exp (L * B)) (fun n => ∑ j : Fin B, k (n * B + j) d * exp (L * (B - 1 - (j : ℕ))) * v (n * B + j)) n
  | 0 => rfl
  | n + 1 => by rw [state, carry, state_carry L B k v d n]

theorem state_eq (L : ℝ) (B : ℕ) (k : ℕ → ι → ℝ) (v : ℕ → ℝ) (d : ι) : ∀ n,
    state L B k v n d = ∑ t ∈ range (n * B), k t d * exp (L * ((n * B : ℕ) - 1 - (t : ℕ))) * v t
  | 0 => by simp [state]
  | n + 1 => by
    rw [state, state_eq L B k v d n, Nat.succ_mul, sum_range_add, mul_sum,
      ← sum_range (fun j => k (n * B + j) d * exp (L * (B - 1 - (j : ℕ))) * v (n * B + j))]
    congr 1
    · refine sum_congr rfl fun t _ => ?_
      have : exp (L * (((n * B + B : ℕ) : ℝ) - 1 - t)) = exp (L * B) * exp (L * ((n * B : ℕ) - 1 - (t : ℕ))) := by
        rw [← exp_add]; congr 1; push_cast; ring
      rw [this]; ring
    · refine sum_congr rfl fun t _ => ?_
      congr 3
      push_cast; ring

/-- The weight of row `s` in row `t`. -/
def weight (L : ℝ) (t s : ℕ) : ℝ := if t / 64 = s / 64 then exp (L * |(t : ℝ) - s|) else exp (L * ((t : ℝ) - s))

/-- The retention of row `t` in one sum. -/
def closed (L : ℝ) (q k : ℕ → ι → ℝ) (v : ℕ → ℝ) (t : ℕ) : ℝ :=
  ∑ s ∈ range (64 * (t / 64 + 1)), (∑ d, q t d * k s d) * weight L t s * v s

theorem cross (L : ℝ) (B : ℕ) (q k : ℕ → ι → ℝ) (v : ℕ → ℝ) (n i : ℕ) :
    ∑ d, q (n * B + i) d * exp (L * (i + 1)) * state L B k v n d
      = ∑ s ∈ range (n * B), (∑ d, q (n * B + i) d * k s d) * exp (L * (((n * B + i : ℕ) : ℝ) - s)) * v s := by
  simp only [state_eq, mul_sum, sum_mul]
  rw [sum_comm]
  refine sum_congr rfl fun s _ => sum_congr rfl fun d _ => ?_
  have : exp (L * (((n * B + i : ℕ) : ℝ) - s)) = exp (L * (i + 1)) * exp (L * ((n * B : ℕ) - 1 - (s : ℕ))) := by
    rw [← exp_add]; congr 1; push_cast; ring
  rw [this]; ring

theorem out_near (L : ℝ) (q k : ℕ → ι → ℝ) (v : ℕ → ℝ) (n i : ℕ) (hi : i < 64) :
    out L 64 (near L) q k v n i = closed L q k v (n * 64 + i) := by
  have h1 : (n * 64 + i) / 64 = n := by omega
  rw [out, closed, cross, h1, show 64 * (n + 1) = n * 64 + 64 by ring, sum_range_add, add_comm,
    ← sum_range (fun j => (∑ d, q (n * 64 + i) d * k (n * 64 + j) d) * near L i j * v (n * 64 + j))]
  congr 1
  · refine sum_congr rfl fun s hs => ?_
    have := mem_range.mp hs
    rw [weight, if_neg (by omega)]
  · refine sum_congr rfl fun j hj => ?_
    have := mem_range.mp hj
    rw [weight, if_pos (by omega), near]
    congr 4
    push_cast
    ring_nf

theorem out_wide (L : ℝ) (q k : ℕ → ι → ℝ) (v : ℕ → ℝ) (n i : ℕ) (hi : i < 256) :
    out L 256 (wide L) q k v n i = closed L q k v (n * 256 + i) := by
  obtain ⟨e, he⟩ : ∃ e, 256 = 64 * (i / 64 + 1) + e := ⟨256 - 64 * (i / 64 + 1), by omega⟩
  have h1 : (n * 256 + i) / 64 = 4 * n + i / 64 := by omega
  have h2 : ∑ j ∈ range 256, (∑ d, q (n * 256 + i) d * k (n * 256 + j) d) * wide L i j * v (n * 256 + j)
      = ∑ j ∈ range (64 * (i / 64 + 1)), (∑ d, q (n * 256 + i) d * k (n * 256 + j) d) * wide L i j * v (n * 256 + j) := by
    refine (sum_subset (fun j hj => mem_range.mpr (lt_of_lt_of_le (mem_range.mp hj) (by omega))) fun j _ hj => ?_).symm
    have := mt mem_range.mpr hj
    rw [wide, if_neg (by omega), if_neg (by omega), mul_zero, zero_mul]
  rw [out, closed, cross, h1, show 64 * (4 * n + i / 64 + 1) = n * 256 + 64 * (i / 64 + 1) by ring, sum_range_add, add_comm,
    ← sum_range (fun j => (∑ d, q (n * 256 + i) d * k (n * 256 + j) d) * wide L i j * v (n * 256 + j)), h2]
  congr 1
  · refine sum_congr rfl fun s hs => ?_
    have := mem_range.mp hs
    rw [weight, if_neg (by omega)]
  · refine sum_congr rfl fun j hj => ?_
    have := mem_range.mp hj
    have e : ((n * 256 + i : ℕ) : ℝ) - (n * 256 + j : ℕ) = (i : ℝ) - j := by push_cast; ring
    rw [weight, wide, e]
    by_cases h : i / 64 = j / 64
    · rw [if_pos h, if_pos (by omega)]
    · rw [if_neg h, if_pos (by omega), if_neg (by omega)]

/-- Blocks of 256 give what chunks of 64 give. -/
theorem wide_eq_near (L : ℝ) (q k : ℕ → ι → ℝ) (v : ℕ → ℝ) (n i : ℕ) (hi : i < 256) :
    out L 256 (wide L) q k v n i = out L 64 (near L) q k v (4 * n + i / 64) (i % 64) := by
  rw [out_wide L q k v n i hi, out_near L q k v _ _ (Nat.mod_lt _ (by norm_num))]
  congr 1
  omega

end Cert.Retention

end

end
-- ==== Proof.RetReal.lean ====
/- The rotary embedding and the decays of the retention as real numbers, and the ideal operations on reals that
   produce them. -/
module

public import proofs.«01_k».proof.Proof.RmsNorm
public import proofs.«01_k».proof.Proof.RetMath
public import Mathlib.Analysis.SpecialFunctions.Trigonometric.Basic
public import Mathlib.Analysis.SpecialFunctions.Pow.Real

@[expose] public section

set_option maxRecDepth 16384

noncomputable section

open Idealize.ShloMosaic
open scoped BigOperators

namespace Cert.Retention

/-- The angle of row `t` at frequency `f` of 64. -/
def angle (t f : ℕ) : ℝ := t * (10000 : ℝ) ^ (-(f : ℝ) / 64)

/-- The rotated row `t` of head `h`. -/
def rot (x : ℕ → ℕ → ℝ) (h t : ℕ) (d : Fin 128) : ℝ :=
  if d.val < 64 then x t (h * 128 + d) * Real.cos (angle t d) - x t (h * 128 + (64 + d)) * Real.sin (angle t d)
  else x t (h * 128 + (d - 64)) * Real.sin (angle t (d - 64)) + x t (h * 128 + d) * Real.cos (angle t (d - 64))

/-- The keys' scale, the word nearest to `128 ^ (-1/2)`. -/
def scale : ℝ := 11863283 / 134217728

/-- The rotated and scaled key. -/
def key (x : ℕ → ℕ → ℝ) (h t : ℕ) (d : Fin 128) : ℝ := rot x h t d * scale

/-- The logarithm of a head's decay. -/
def lg (h : ℕ) : ℝ := Real.log (1 - (2 : ℝ) ^ (-5 - (h : ℝ)))

theorem c2 : Ideal.ofBits .f32 0x40000000#32 = ((2 : ℝ) : EReal) := Rms.cTwo

theorem c5 : Ideal.ofBits .f32 0xC0A00000#32 = ((-5 : ℝ) : EReal) := by
  simp [Ideal.ofBits, Ideal.ieee, -EReal.coe_mul]; norm_num

theorem c63 : Ideal.ofBits .f32 0x427C0000#32 = ((63 : ℝ) : EReal) := by
  simp [Ideal.ofBits, Ideal.ieee, -EReal.coe_mul]; norm_num

theorem c64 : Ideal.ofBits .f32 0x42800000#32 = ((64 : ℝ) : EReal) := by
  simp [Ideal.ofBits, Ideal.ieee, -EReal.coe_mul]; norm_num

theorem c255 : Ideal.ofBits .f32 0x437F0000#32 = ((255 : ℝ) : EReal) := by
  simp [Ideal.ofBits, Ideal.ieee, -EReal.coe_mul]; norm_num

theorem c256 : Ideal.ofBits .f32 0x43800000#32 = ((256 : ℝ) : EReal) := by
  simp [Ideal.ofBits, Ideal.ieee, -EReal.coe_mul]; norm_num

theorem c1e4 : Ideal.ofBits .f32 0x461C4000#32 = ((10000 : ℝ) : EReal) := by
  simp [Ideal.ofBits, Ideal.ieee, -EReal.coe_mul]; norm_num

theorem cScale : Ideal.ofBits .f32 0x3DB504F3#32 = ((scale : ℝ) : EReal) := by
  unfold scale; simp [Ideal.ofBits, Ideal.ieee, -EReal.coe_mul]; norm_num

/-- A row number below `2 ^ 31`, read as a real. -/
theorem sitofp_nat (n : ℕ) (hn : n < 2 ^ 31) :
    (FloatOps.sitofp .f32 (BitVec.ofNat 32 n) : Ideal .f32) = ((n : ℝ) : EReal) := by
  have h : (BitVec.ofNat 32 n).toInt = (n : ℤ) := by
    have hm : (BitVec.ofNat 32 n).toNat = n := by rw [BitVec.toNat_ofNat]; exact Nat.mod_eq_of_lt (by omega)
    rw [BitVec.toInt_eq_toNat_of_lt (by omega), hm]
  show (((BitVec.ofNat 32 n).toInt : ℝ) : EReal) = _
  rw [h]; simp

theorem exp_coe (r : ℝ) : Ideal.exp (r : EReal) = ((Real.exp r : ℝ) : EReal) := rfl

theorem cos_coe (r : ℝ) : Ideal.cos (r : EReal) = ((Real.cos r : ℝ) : EReal) := rfl

theorem sin_coe (r : ℝ) : Ideal.sin (r : EReal) = ((Real.sin r : ℝ) : EReal) := rfl

theorem pow_coe (a b : ℝ) : Ideal.pow (a : EReal) (b : EReal) = ((a ^ b : ℝ) : EReal) := rfl

theorem log_coe {r : ℝ} (hr : 0 < r) : Ideal.log (r : EReal) = ((Real.log r : ℝ) : EReal) :=
  if_neg (not_le.2 hr)

/-- The angle as both programs compute it. -/
theorem angle_eq (t f : ℕ) (ht : t < 2 ^ 31) (hf : f < 2 ^ 31) :
    (FloatOps.sitofp .f32 (BitVec.ofNat 32 t) : Ideal .f32) *
      Ideal.pow (Ideal.ofBits .f32 0x461C4000#32)
        (Ideal.div (-(FloatOps.sitofp .f32 (BitVec.ofNat 32 f) : Ideal .f32)) (Ideal.ofBits .f32 0x42800000#32))
      = ((angle t f : ℝ) : EReal) := by
  rw [sitofp_nat t ht, sitofp_nat f hf, c1e4, c64, ← EReal.coe_neg, Ideal.div_coe (by norm_num), ← EReal.coe_mul,
    pow_coe, ← EReal.coe_mul]
  unfold angle; rw [mul_one_div]

/-- The decay's logarithm as both programs compute it. -/
theorem lg_eq (h : Fin 4) :
    Ideal.log (1 - Ideal.pow (Ideal.ofBits .f32 0x40000000#32)
      (Ideal.ofBits .f32 0xC0A00000#32 - (FloatOps.sitofp .f32 (BitVec.ofNat 32 h.val) : Ideal .f32)))
      = ((lg h : ℝ) : EReal) := by
  have hp : (0 : ℝ) < 1 - (2 : ℝ) ^ (-5 - (h.val : ℝ)) := by
    rw [sub_pos]
    refine Real.rpow_lt_one_of_one_lt_of_neg (by norm_num) ?_
    have : (0 : ℝ) ≤ (h.val : ℝ) := Nat.cast_nonneg _
    linarith
  rw [sitofp_nat _ (by omega), c2, c5, ← EReal.coe_sub, pow_coe, ← EReal.coe_one, ← EReal.coe_sub, log_coe hp]
  rfl

end Cert.Retention

end

end
-- ==== Proof.RetGrad.lean ====
/- The gradients of the retention, of its group norm, of its gate and of the rotary embedding at one row, over the reals: what the
   ideal operations of both programs give there. -/
module

public import proofs.«01_k».proof.Proof.RetReal
public import proofs.«01_k».proof.Proof.RetShare
public import proofs.«01_k».proof.Proof.Swish

@[expose] public section

set_option maxRecDepth 16384

noncomputable section

open Idealize.ShloMosaic
open scoped BigOperators
open Finset

namespace Cert.Retention

/-! The queries. -/

/-- Entry `d` of the gradient of row `i` of block `n`, the retention's own gradient being `dr`: the block's own rows at the
    weights `M`, and the state. -/
def dq (L : ℝ) (B : ℕ) (M : ℕ → ℕ → ℝ) (k v : ℕ → Fin 128 → ℝ) (dr : Fin 128 → ℝ) (n i : ℕ) (d : Fin 128) : ℝ :=
  ∑ j : Fin B, (∑ e, dr e * v (n * B + j) e) * M i j * k (n * B + j) d
    + (∑ e, dr e * state L B k (fun t => v t e) n d) * Real.exp (L * (i + 1))

/-- The retention is linear in the query, so its gradient is the retention of a unit query, weighed by `dr`. -/
theorem dq_eq_out (L : ℝ) (B : ℕ) (M : ℕ → ℕ → ℝ) (k v : ℕ → Fin 128 → ℝ) (dr : Fin 128 → ℝ) (n i : ℕ) (d : Fin 128) :
    dq L B M k v dr n i d = ∑ e, dr e * out L B M (fun _ x => if x = d then 1 else 0) k (fun t => v t e) n i := by
  simp only [dq, out, ite_mul, one_mul, zero_mul, sum_ite_eq', mem_univ, if_true, mul_add, sum_add_distrib, sum_mul, mul_sum]
  congr 1
  · rw [sum_comm]
    refine sum_congr rfl fun e _ => sum_congr rfl fun j _ => ?_
    ring
  · refine sum_congr rfl fun e _ => ?_
    ring

/-- Blocks of 256 give the gradient that chunks of 64 give. -/
theorem dq_wide_eq_near (L : ℝ) (k v : ℕ → Fin 128 → ℝ) (dr : Fin 128 → ℝ) (n i : ℕ) (d : Fin 128) (hi : i < 256) :
    dq L 256 (wide L) k v dr n i d = dq L 64 (near L) k v dr (4 * n + i / 64) (i % 64) d := by
  rw [dq_eq_out, dq_eq_out]
  refine sum_congr rfl fun e _ => ?_
  rw [wide_eq_near _ _ _ _ _ _ hi]

/-- The same gradient as the ideal operations give it. -/
def dqE {B : ℕ} (dr : Fin 128 → EReal) (V K : Fin B → Fin 128 → EReal) (M : Fin B → EReal) (S : Fin 128 → Fin 128 → EReal) (E : EReal)
    (d : Fin 128) : EReal :=
  ∑ j, (∑ e, dr e * V j e) * M j * K j d + (∑ e, dr e * S d e) * E

theorem dqE_coe {B : ℕ} (dr : Fin 128 → ℝ) (V K : Fin B → Fin 128 → ℝ) (M : Fin B → ℝ) (S : Fin 128 → Fin 128 → ℝ) (E : ℝ) (d : Fin 128) :
    dqE (fun e => ((dr e : ℝ) : EReal)) (fun j e => ((V j e : ℝ) : EReal)) (fun j e => ((K j e : ℝ) : EReal)) (fun j => ((M j : ℝ) : EReal))
      (fun x e => ((S x e : ℝ) : EReal)) (E : EReal) d
      = ((∑ j, (∑ e, dr e * V j e) * M j * K j d + (∑ e, dr e * S d e) * E : ℝ) : EReal) := by
  simp only [dqE, EReal.coe_add, EReal.coe_mul, Rms.coe_sum]

/-! The group norm. -/

theorem c128 : Ideal.ofBits .f32 0x43000000#32 = ((128 : ℝ) : EReal) := by
  simp [Ideal.ofBits, Ideal.ieee, -EReal.coe_mul]; norm_num

/-- A head's row, its mean taken off. -/
def centred (y : Fin 128 → ℝ) (e : Fin 128) : ℝ := y e - (∑ x, y x) * (1 / 128)

theorem sum_centred (y : Fin 128 → ℝ) : ∑ e, centred y e = 0 := by
  simp only [centred, sum_sub_distrib, sum_const, card_univ, Fintype.card_fin, nsmul_eq_mul]
  push_cast
  ring

/-- The norm's small constant. -/
def eps : ℝ := Classical.choose Rms.cEps

/-- The row's mean square and the small constant. -/
def spread (y : Fin 128 → ℝ) : ℝ := (∑ e, centred y e * centred y e) * (1 / 128) + eps

theorem spread_pos (y : Fin 128 → ℝ) : 0 < spread y := by
  have h1 : 0 ≤ ∑ e, centred y e * centred y e := sum_nonneg fun e _ => mul_self_nonneg _
  have h2 : 0 < eps := (Classical.choose_spec Rms.cEps).1
  unfold spread
  positivity

/-- The row's scale. -/
def rho (y : Fin 128 → ℝ) : ℝ := (Real.sqrt (spread y))⁻¹

theorem rho_sq (y : Fin 128 → ℝ) : rho y * rho y * spread y = 1 := by
  have h := Real.mul_self_sqrt (spread_pos y).le
  rw [rho, ← mul_inv, h, inv_mul_cancel₀ (spread_pos y).ne']

/-- Entry `e` of a row with its mean taken off. -/
def centredE (r : Fin 128 → EReal) (e : Fin 128) : EReal := r e - Ideal.div (∑ x, r x) (Ideal.ofBits .f32 0x43000000#32)

/-- The row's mean square and the small constant. -/
def spreadE (r : Fin 128 → EReal) : EReal :=
  Ideal.div (∑ x, centredE r x * centredE r x) (Ideal.ofBits .f32 0x43000000#32) + Ideal.ofBits .f32 0x358637BD#32

theorem normed_eq (r : Fin 128 → EReal) (e : Fin 128) : normed r e = centredE r e * Ideal.rsqrt (spreadE r) := rfl

theorem centredE_coe (y : Fin 128 → ℝ) (e : Fin 128) : centredE (fun x => ((y x : ℝ) : EReal)) e = ((centred y e : ℝ) : EReal) := by
  rw [centredE, c128, Ideal.div_coe (by norm_num), ← Rms.coe_sum, ← EReal.coe_mul, ← EReal.coe_sub, centred]

theorem spreadE_coe (y : Fin 128 → ℝ) : spreadE (fun x => ((y x : ℝ) : EReal)) = ((spread y : ℝ) : EReal) := by
  have h : Ideal.ofBits .f32 0x358637BD#32 = ((eps : ℝ) : EReal) := (Classical.choose_spec Rms.cEps).2
  simp only [spreadE, centredE_coe, ← EReal.coe_mul, ← Rms.coe_sum]
  rw [c128, h, Ideal.div_coe (by norm_num), ← EReal.coe_mul, ← EReal.coe_add, spread]

theorem rsqrt_spread (y : Fin 128 → ℝ) : Ideal.rsqrt ((spread y : ℝ) : EReal) = ((rho y : ℝ) : EReal) := by
  show (if _ then _ else _) = _
  rw [if_neg (not_lt.2 (spread_pos y).le), if_neg (spread_pos y).ne']
  rfl

theorem rhoE_coe (y : Fin 128 → ℝ) : Ideal.rsqrt (spreadE (fun x => ((y x : ℝ) : EReal))) = ((rho y : ℝ) : EReal) := by
  rw [spreadE_coe, rsqrt_spread]

theorem normed_coe (y : Fin 128 → ℝ) (e : Fin 128) : normed (fun x => ((y x : ℝ) : EReal)) e = ((centred y e * rho y : ℝ) : EReal) := by
  rw [normed_eq, centredE_coe, rhoE_coe, ← EReal.coe_mul]

/-- The gradient of the group norm's row `y`, that of the normalised row being `z`. -/
def norm_grad (y z : Fin 128 → ℝ) (e : Fin 128) : ℝ :=
  rho y * (z e - (∑ x, z x) * (1 / 128) - centred y e * rho y * ((∑ x, z x * (centred y x * rho y)) * (1 / 128)))

/-- The gradient as the kernel writes it. -/
def normK (r z : Fin 128 → EReal) (e : Fin 128) : EReal :=
  Ideal.rsqrt (spreadE r) * (z e - Ideal.div (∑ x, z x) (Ideal.ofBits .f32 0x43000000#32)
    - normed r e * Ideal.div (∑ x, z x * normed r x) (Ideal.ofBits .f32 0x43000000#32))

theorem normK_coe (y z : Fin 128 → ℝ) (e : Fin 128) :
    normK (fun x => ((y x : ℝ) : EReal)) (fun x => ((z x : ℝ) : EReal)) e = ((norm_grad y z e : ℝ) : EReal) := by
  simp only [normK, rhoE_coe, normed_coe, c128, ← EReal.coe_mul, ← Rms.coe_sum]
  rw [Ideal.div_coe (by norm_num), Ideal.div_coe (by norm_num)]
  simp only [← EReal.coe_mul, ← EReal.coe_sub]
  rfl

/-- What the spread's gradient adds to an entry of the row. -/
def spreadGrad (r z : Fin 128 → EReal) : EReal :=
  Ideal.div ((∑ x, centredE r x * z x) * (Ideal.ofBits .f32 0xBF000000#32 * Ideal.div (Ideal.rsqrt (spreadE r)) (spreadE r)))
    (Ideal.ofBits .f32 0x43000000#32)

/-- The gradient line by line, but for the mean's part. -/
def normDirect (r z : Fin 128 → EReal) (e : Fin 128) : EReal :=
  z e * Ideal.rsqrt (spreadE r) + spreadGrad r z * (Ideal.ofBits .f32 0x40000000#32 * centredE r e)

/-- The gradient line by line. -/
def normR (r z : Fin 128 → EReal) (e : Fin 128) : EReal :=
  normDirect r z e + Ideal.div (∑ x, -(z x * Ideal.rsqrt (spreadE r)) + ∑ x, -(spreadGrad r z * (Ideal.ofBits .f32 0x40000000#32 * centredE r x)))
    (Ideal.ofBits .f32 0x43000000#32)

theorem normR_coe (y z : Fin 128 → ℝ) (e : Fin 128) :
    normR (fun x => ((y x : ℝ) : EReal)) (fun x => ((z x : ℝ) : EReal)) e = ((norm_grad y z e : ℝ) : EReal) := by
  have hu := (spread_pos y).ne'
  simp only [normR, normDirect, spreadGrad, spreadE_coe, rsqrt_spread, centredE_coe, c128, Rms.cNegHalf, Rms.cTwo]
  simp only [Ideal.div_coe hu, Ideal.div_coe (show (128 : ℝ) ≠ 0 by norm_num), ← EReal.coe_mul, ← Rms.coe_sum, ← EReal.coe_neg, ← EReal.coe_add]
  congr 1
  have h1 : 1 / spread y = rho y * rho y := by
    rw [eq_comm, eq_div_iff hu]
    exact rho_sq y
  have h2 : ∑ x, z x * (centred y x * rho y) = (∑ x, centred y x * z x) * rho y := by
    rw [sum_mul]
    exact sum_congr rfl fun x _ => by ring
  rw [norm_grad, h1, h2]
  generalize (∑ x, centred y x * z x) = S
  simp only [sum_neg_distrib, ← sum_mul, ← mul_sum, sum_centred]
  ring

/-! The gate. -/

/-- The logistic function. -/
def sig (x : ℝ) : ℝ := (Swish.sg (x : EReal)).toReal

theorem sg_eq (x : ℝ) : Swish.sg (x : EReal) = ((sig x : ℝ) : EReal) := by
  obtain ⟨s, hs⟩ := Swish.sg_coe x
  rw [sig, hs, EReal.toReal_coe]

/-! The rotary embedding. -/

/-- The gradient of a row under the rotation of row `t`. -/
def back (t : ℕ) (f : Fin 128 → ℝ) (d : Fin 128) : ℝ :=
  if h : d.val < 64 then f d * Real.cos (angle t d) + f ⟨64 + d.val, by omega⟩ * Real.sin (angle t d)
  else f d * Real.cos (angle t (d - 64)) - f ⟨d.val - 64, by omega⟩ * Real.sin (angle t (d - 64))

/-! Both programs' gradients, of finite arguments. -/

variable (q k v g ct : ℕ → ℕ → ℝ) (n : ℕ → ℝ)

/-- Head `h` of row `t` of the retention. -/
def kept_row (h t : ℕ) (e : Fin 128) : ℝ :=
  out (lg h) 64 (near (lg h)) (rot q h) (key k h) (fun t => v t (h * 128 + e.val)) (t / 64) (t % 64)

/-- The gradient of the normalised row. -/
def upper (h t : ℕ) (x : Fin 128) : ℝ := ct t (h * 128 + x) * n (h * 128 + x) * (g t (h * 128 + x) * sig (g t (h * 128 + x)))

/-- The retention's own gradient. -/
def own (h t : ℕ) (e : Fin 128) : ℝ := norm_grad (kept_row q k v h t) (upper g ct n h t) e

/-- The gradient of the queries. -/
def grad_q (h t : ℕ) (d : Fin 128) : ℝ :=
  back t (dq (lg h) 64 (near (lg h)) (key k h) (fun t e => v t (h * 128 + e.val)) (own q k v g ct n h t) (t / 64) (t % 64)) d

end Cert.Retention

end

end
-- ==== Proof.RetRows.lean ====
/- The gradients of the queries and of the gate in one tile of the retention's gradient call: what its body stores for a head,
   read at an index, for finite arguments. -/
module

public import proofs.«01_k».proof.Proof.RetPure
public import proofs.«01_k».proof.Proof.RetGrad

@[expose] public section

set_option maxRecDepth 16384

noncomputable section

open Idealize.ShloMosaic Idealize.ShloMosaic.TcCoe Idealize.SL.Sem
open scoped BigOperators

namespace Cert.RetKernelIdeal.Pure
open Cert.RetKernelIdeal Cert.RetKernelIdeal.Gen Cert.Retention

variable (cv sv K V R G C : Vec Ideal S256x128 .f32) (N : Vec Ideal S1x128 .f32) (S : Vec Ideal S1x1x128x128 .bf16)
  (M : Vec Ideal S1x256x256 .f32) (E : Vec Ideal S1x256x128 .f32)

/-! What the body stores for each head: the four heads run the same operations. -/

/-- The retention's own gradient. -/
def grad : FVec Ideal S256x128 .bf16 := k0_pay28 (k0_pay19 R) (k0_pay20 R) (k0_pay23 G) (k0_pay24 C) (k0_pay25 N)

/-- The gradient of the rotated queries. -/
def turned : FVec Ideal S256x128 .f32 :=
  k0_pay35 (k0_pay14 cv sv K) (k0_pay16 S) (grad R G C N) (k0_pay31 (k0_pay15 V) (k0_pay19 R) (k0_pay20 R) (k0_pay23 G) (k0_pay24 C) (k0_pay25 N) M) E

/-- The gradient of the queries. -/
def queries : FVec Ideal S256x128 .bf16 := k0_pay2 (k0_pay9 cv) (k0_pay10 sv) (turned cv sv K V R G C N S M E)

/-- The gradient of the gate. -/
def gates : FVec Ideal S256x128 .bf16 := k0_pay44 (k0_pay27 (k0_pay20 R) (k0_pay21 G) (k0_pay22 G) (k0_pay24 C) (k0_pay25 N))

theorem queries0 : k0_pay41
      (k0_pay39 (k0_pay9 cv) (k0_pay14 cv sv K) (k0_pay16 S) (k0_pay28 (k0_pay19 R) (k0_pay20 R) (k0_pay23 G) (k0_pay24 C) (k0_pay25 N))
        (k0_pay31 (k0_pay15 V) (k0_pay19 R) (k0_pay20 R) (k0_pay23 G) (k0_pay24 C) (k0_pay25 N) M) E)
      (k0_pay40 (k0_pay10 sv) (k0_pay14 cv sv K) (k0_pay16 S) (k0_pay28 (k0_pay19 R) (k0_pay20 R) (k0_pay23 G) (k0_pay24 C) (k0_pay25 N))
        (k0_pay31 (k0_pay15 V) (k0_pay19 R) (k0_pay20 R) (k0_pay23 G) (k0_pay24 C) (k0_pay25 N) M) E) 64#32
    = queries cv sv K V R G C N S M E := rfl

theorem queries1 : k0_pay76 (k0_pay9 cv) (k0_pay10 sv)
      (k0_pay71 (k0_pay48 (k0_pay9 cv) (k0_pay10 sv) K) (k0_pay50 S) (k0_pay64 (k0_pay53 R) (k0_pay54 R) (k0_pay57 G) (k0_pay58 C) (k0_pay59 N))
        (k0_pay67 (k0_pay49 V) (k0_pay53 R) (k0_pay54 R) (k0_pay57 G) (k0_pay58 C) (k0_pay59 N) M) E)
    = queries cv sv K V R G C N S M E := rfl

theorem queries2 : k0_pay110 (k0_pay9 cv) (k0_pay10 sv)
      (k0_pay105 (k0_pay83 (k0_pay9 cv) (k0_pay10 sv) K) (k0_pay85 S) (k0_pay99 (k0_pay88 R) (k0_pay89 R) (k0_pay92 G) (k0_pay93 C) (k0_pay94 N))
        (k0_pay102 (k0_pay84 V) (k0_pay88 R) (k0_pay89 R) (k0_pay92 G) (k0_pay93 C) (k0_pay94 N) M) E)
    = queries cv sv K V R G C N S M E := rfl

theorem queries3 : k0_pay2 (k0_pay9 cv) (k0_pay10 sv)
      (k0_pay138 (k0_pay117 (k0_pay9 cv) (k0_pay10 sv) K) (k0_pay119 S) (k0_pay131 (k0_pay122 R) (k0_pay123 R) (k0_pay126 G) (k0_pay127 C) (k0_pay128 N))
        (k0_pay132 M) (k0_pay134 (k0_pay118 V) (k0_pay122 R) (k0_pay123 R) (k0_pay126 G) (k0_pay127 C) (k0_pay128 N)) E)
    = queries cv sv K V R G C N S M E := rfl

theorem gates1 : k0_pay79 (k0_pay63 (k0_pay54 R) (k0_pay55 G) (k0_pay56 G) (k0_pay58 C) (k0_pay59 N)) = gates R G C N := rfl

theorem gates2 : k0_pay113 (k0_pay98 (k0_pay89 R) (k0_pay90 G) (k0_pay91 G) (k0_pay93 C) (k0_pay94 N)) = gates R G C N := rfl

theorem gates3 : k0_pay5 (k0_pay130 (k0_pay123 R) (k0_pay124 G) (k0_pay125 G) (k0_pay127 C) (k0_pay128 N)) = gates R G C N := rfl

/-! The same at an index. -/

theorem grad_at (a : Fin 256) (e : Fin 128) : (grad R G C N (ix2 a e) : EReal)
    = normK (fun x => R (ix2 a x)) (fun x => C (ix2 a x) * N (ix2 0 x) * (G (ix2 a x) * Ideal.div 1 (1 + Ideal.exp (-G (ix2 a x))))) e := by
  pointwise [grad, k0_pay28, k0_pay24, k0_pay25]
  simp only [zero_add, norm, swish, dev]
  rfl

theorem turned_at (a : Fin 256) (d : Fin 128) : (turned cv sv K V R G C N S M E (ix2 a d) : EReal)
    = dqE (fun e => grad R G C N (ix2 a e)) (fun j e => V (ix2 j e)) (fun j e => k0_pay14 cv sv K (ix2 j e)) (fun j => M (ix3 0 a j))
        (fun x e => S (ix4 0 0 x e)) (E (ix3 0 a d)) d := by
  pointwise [turned, k0_pay35, k0_pay31, k0_pay29, k0_pay16, k0_pay15]
  rfl

theorem queries_at (a : Fin 256) (d : Fin 128) : (queries cv sv K V R G C N S M E (ix2 a d) : EReal)
    = turned cv sv K V R G C N S M E (ix2 a d) * cv (ix2 a d) + turned cv sv K V R G C N S M E (ix2 a ⟨(d.val + 128 - 64) % 128, by omega⟩) * sv (ix2 a ⟨(d.val + 128 - 64) % 128, by omega⟩) := by
  pointwise [queries, k0_pay2, k0_pay9, k0_pay10]

theorem keys_at (j : Fin 256) (d : Fin 128) : (k0_pay14 cv sv K (ix2 j d) : EReal)
    = (K (ix2 j d) * cv (ix2 j d) + K (ix2 j ⟨(d.val + 128 - 64) % 128, by omega⟩) * sv (ix2 j d)) * Ideal.ofBits .f32 0x3DB504F3#32 := by
  pointwise [k0_pay14, k0_pay12, k0_pay9, k0_pay10]

theorem gates_at (a : Fin 256) (e : Fin 128) : (gates R G C N (ix2 a e) : EReal)
    = Swish.gK (C (ix2 a e) * (normed (fun x => R (ix2 a x)) e * N (ix2 0 e))) (G (ix2 a e)) := by
  pointwise [gates, k0_pay44, k0_pay27, k0_pay21, k0_pay22, k0_pay24, k0_pay25]
  simp only [norm]
  rfl

/-! The same of finite blocks. -/

theorem key_real (x : ℕ → ℕ → ℝ) (h t : ℕ) (j : Fin 256) (d : Fin 128)
    (hK : ∀ e : Fin 128, (K (ix2 j e) : EReal) = ((x t (h * 128 + e) : ℝ) : EReal))
    (hc : (cv (ix2 j d) : EReal) = ((Real.cos (angle t (if d.val < 64 then d.val else d.val - 64)) : ℝ) : EReal))
    (hs : (sv (ix2 j d) : EReal) = ((if d.val < 64 then -Real.sin (angle t d) else Real.sin (angle t (d - 64)) : ℝ) : EReal)) :
    (k0_pay14 cv sv K (ix2 j d) : EReal) = ((key x h t d : ℝ) : EReal) := by
  rw [keys_at, hK, hK, hc, hs, cScale, ← EReal.coe_mul, ← EReal.coe_mul, ← EReal.coe_add, ← EReal.coe_mul]
  unfold key rot
  by_cases hd : d.val < 64
  · simp only [if_pos hd, show (d.val + 128 - 64) % 128 = 64 + d.val by omega, mul_neg, sub_eq_add_neg]
  · simp only [if_neg hd, show (d.val + 128 - 64) % 128 = d.val - 64 by omega]
    rw [add_comm]

theorem grad_real (a : Fin 256) (y c n g : Fin 128 → ℝ)
    (hR : ∀ x, (R (ix2 a x) : EReal) = ((y x : ℝ) : EReal)) (hC : ∀ x, (C (ix2 a x) : EReal) = ((c x : ℝ) : EReal))
    (hN : ∀ x, (N (ix2 0 x) : EReal) = ((n x : ℝ) : EReal)) (hG : ∀ x, (G (ix2 a x) : EReal) = ((g x : ℝ) : EReal)) (e : Fin 128) :
    (grad R G C N (ix2 a e) : EReal) = ((norm_grad y (fun x => c x * n x * (g x * Retention.sig (g x))) e : ℝ) : EReal) := by
  rw [grad_at, ← normK_coe]
  simp only [hR, hC, hN, hG, Swish.sg_neg, sg_eq, EReal.coe_mul]

theorem turned_real (a : Fin 256) (r : Fin 128 → ℝ) (κ v : Fin 256 → Fin 128 → ℝ) (μ : Fin 256 → ℝ) (σ : Fin 128 → Fin 128 → ℝ) (ε : ℝ)
    (hr : ∀ x, (grad R G C N (ix2 a x) : EReal) = ((r x : ℝ) : EReal)) (hV : ∀ j x, (V (ix2 j x) : EReal) = ((v j x : ℝ) : EReal))
    (hK : ∀ j x, (k0_pay14 cv sv K (ix2 j x) : EReal) = ((κ j x : ℝ) : EReal)) (hM : ∀ j, (M (ix3 0 a j) : EReal) = ((μ j : ℝ) : EReal))
    (hS : ∀ x e, (S (ix4 0 0 x e) : EReal) = ((σ x e : ℝ) : EReal)) (hE : ∀ d, (E (ix3 0 a d) : EReal) = ((ε : ℝ) : EReal)) (d : Fin 128) :
    (turned cv sv K V R G C N S M E (ix2 a d) : EReal) = ((∑ j, (∑ e, r e * v j e) * μ j * κ j d + (∑ e, r e * σ d e) * ε : ℝ) : EReal) := by
  rw [turned_at, ← dqE_coe]
  simp only [hr, hV, hK, hM, hS, hE]

theorem queries_real (t : ℕ) (a : Fin 256) (f : Fin 128 → ℝ) (hf : ∀ d, (turned cv sv K V R G C N S M E (ix2 a d) : EReal) = ((f d : ℝ) : EReal))
    (hc : ∀ d : Fin 128, (cv (ix2 a d) : EReal) = ((Real.cos (angle t (if d.val < 64 then d.val else d.val - 64)) : ℝ) : EReal))
    (hs : ∀ d : Fin 128, (sv (ix2 a d) : EReal) = ((if d.val < 64 then -Real.sin (angle t d) else Real.sin (angle t (d - 64)) : ℝ) : EReal))
    (d : Fin 128) : (queries cv sv K V R G C N S M E (ix2 a d) : EReal) = ((back t f d : ℝ) : EReal) := by
  rw [queries_at, hf, hf, hc, hs, ← EReal.coe_mul, ← EReal.coe_mul, ← EReal.coe_add]
  unfold back
  by_cases hd : d.val < 64
  · simp only [dif_pos hd, if_pos hd, show (d.val + 128 - 64) % 128 = 64 + d.val by omega, if_neg (show ¬ 64 + d.val < 64 by omega),
      show 64 + d.val - 64 = d.val by omega]
  · simp only [dif_neg hd, if_neg hd, show (d.val + 128 - 64) % 128 = d.val - 64 by omega, if_pos (show d.val - 64 < 64 by omega), mul_neg,
      sub_eq_add_neg]

end Cert.RetKernelIdeal.Pure

end

end
-- ==== Proof.RetHost.lean ====
/- What the kernel's host code prepares for the retention's gradient, in reals: the tables, the rotated blocks, the
   states before each block and the retention itself. The host code is read in five stretches, each from any contents
   the stretches before it may leave. -/
module

public import proofs.«01_k».proof.Proof.Gen.RetKernelIdeal.Launch
public import proofs.«01_k».proof.Proof.RetReal
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open scoped BigOperators

namespace Cert.RetKernelIdeal.Host

open Cert.RetKernelIdeal Cert.RetKernelIdeal.Gen Cert.Retention

abbrev Ops := List (HloOp τ sig (Elt Ideal))

/-- The tables. -/
def opsA : Ops :=
  List.flatten [hostOps0, hostOps0_1, hostOps0_2, hostOps0_3, hostOps0_4, hostOps0_5, hostOps0_6.take 38]

/-- The rotation, by heads and blocks. -/
def opsB : Ops := (hostOps0_6.take 66).drop 38

/-- The scores and each block's update of the state. -/
def opsC : Ops := (hostOps0_6.take 79).drop 66

/-- The states one after another, and their stacking. -/
def opsD : Ops := (hostOps0_6.take 175).drop 79

/-- The retention. -/
def opsE : Ops := hostOps0_6.drop 175

variable (W : Valuation τ sig (Elt Ideal))

/-! The tables. -/

theorem cos_tab (t : Fin 8192) (d : Fin 128) :
    (StableHlo.after opsA W (Proc.devRef .tc main_v18) (ix2 t d) : Ideal .f32)
      = ((Real.cos (angle t (if d.val < 64 then d.val else d.val - 64)) : ℝ) : EReal) := by
  after_reads_at
  rw [angle_eq t d (by omega) (by omega), angle_eq t (d - 64) (by omega) (by omega)]
  split <;> rfl

theorem sin_tab (t : Fin 8192) (d : Fin 128) :
    (StableHlo.after opsA W (Proc.devRef .tc main_v20) (ix2 t d) : Ideal .f32)
      = ((if d.val < 64 then -Real.sin (angle t d) else Real.sin (angle t (d - 64)) : ℝ) : EReal) := by
  after_reads_at
  rw [angle_eq t d (by omega) (by omega), angle_eq t (d - 64) (by omega) (by omega), sin_coe, sin_coe, ← EReal.coe_neg]
  split <;> rfl

/-- A word's chunk, as the host divides it. -/
def chunkWord (x : BitVec 32) : BitVec 32 :=
  Scalar.select
    (IntOp.andi
      (IntOp.cmpi CmpIPredicate.ne (if x = 0 then (0 : BitVec 32) else if x.msb = true then -1 else 1)
        (if (64#32 : BitVec 32) = 0 then (0 : BitVec 32) else if BitVec.msb 64#32 = true then -1 else 1))
      (IntOp.cmpi CmpIPredicate.ne (IntOp.remsi ArithUnit.host x 64#32) 0#32))
    (IntOp.subi (IntOp.divsi ArithUnit.host x 64#32) 1#32) (IntOp.divsi ArithUnit.host x 64#32)

theorem chunkWord_eq : ∀ i : Fin 256, chunkWord (BitVec.ofNat 32 i) = BitVec.ofNat 32 (i.val / 64) := by decide +kernel

theorem same_eq : ∀ a b : Fin 4, IntOp.cmpi CmpIPredicate.eq (BitVec.ofNat 32 a.val) (BitVec.ofNat 32 b.val)
    = if a.val = b.val then 1#1 else 0#1 := by decide

theorem before_eq : ∀ a b : Fin 4, IntOp.cmpi CmpIPredicate.slt (BitVec.ofNat 32 a.val) (BitVec.ofNat 32 b.val)
    = if a.val < b.val then 1#1 else 0#1 := by decide

theorem wide_word (h : Fin 4) (i j : Fin 256) :
    (Scalar.select
      (IntOp.ori (IntOp.cmpi CmpIPredicate.eq (chunkWord (BitVec.ofNat 32 i)) (chunkWord (BitVec.ofNat 32 j)))
        (IntOp.cmpi CmpIPredicate.slt (chunkWord (BitVec.ofNat 32 j)) (chunkWord (BitVec.ofNat 32 i))))
      (Ideal.exp
        (Ideal.log (1 - Ideal.pow (Ideal.ofBits .f32 0x40000000#32)
            (Ideal.ofBits .f32 0xC0A00000#32 - (FloatOps.sitofp .f32 (BitVec.ofNat 32 h.val) : Ideal .f32))) *
          Scalar.select (IntOp.cmpi CmpIPredicate.eq (chunkWord (BitVec.ofNat 32 i)) (chunkWord (BitVec.ofNat 32 j)))
            (FloatOps.absf ((FloatOps.sitofp .f32 (BitVec.ofNat 32 i) : Ideal .f32)
              - (FloatOps.sitofp .f32 (BitVec.ofNat 32 j) : Ideal .f32)))
            ((FloatOps.sitofp .f32 (BitVec.ofNat 32 i) : Ideal .f32) - (FloatOps.sitofp .f32 (BitVec.ofNat 32 j) : Ideal .f32))))
      (Ideal.ofBits .f32 0#32) : EReal) = ((wide (lg h) i j : ℝ) : EReal) := by
  have hs := same_eq ⟨i.val / 64, by omega⟩ ⟨j.val / 64, by omega⟩
  have hb := before_eq ⟨j.val / 64, by omega⟩ ⟨i.val / 64, by omega⟩
  have ha : (FloatOps.absf ((((i.val : ℝ) : EReal) - ((j.val : ℝ) : EReal) : EReal) : Ideal .f32) : Ideal .f32)
      = ((|(i.val : ℝ) - (j.val : ℝ)| : ℝ) : EReal) := by
    rw [← EReal.coe_sub]
    show max ((((i.val : ℝ) - (j.val : ℝ) : ℝ)) : EReal) (-(((i.val : ℝ) - (j.val : ℝ) : ℝ) : EReal)) = _
    rw [← EReal.coe_neg, abs_eq_max_neg]; exact (EReal.coe_strictMono.monotone.map_max ..).symm
  rw [lg_eq, chunkWord_eq, chunkWord_eq, hs, hb, sitofp_nat _ (by omega), sitofp_nat _ (by omega), ha, ← EReal.coe_sub,
    Ideal.ofBits_zero_f32]
  unfold wide
  have h10 : IntOp.ori 1#1 0#1 = 1#1 := by decide
  have h01 : IntOp.ori 0#1 1#1 = 1#1 := by decide
  have h00 : IntOp.ori 0#1 0#1 = 0#1 := by decide
  by_cases h1 : i.val / 64 = j.val / 64
  · rw [if_pos h1, if_pos h1, if_neg (show ¬ j.val / 64 < i.val / 64 by omega), h10, ValueIdx.select_one,
      ValueIdx.select_one, ← EReal.coe_mul, exp_coe]
  · rw [if_neg h1, if_neg h1]
    by_cases h2 : j.val / 64 < i.val / 64
    · rw [if_pos h2, if_pos h2, h01, ValueIdx.select_one, ValueIdx.select_zero, ← EReal.coe_mul, exp_coe]
    · rw [if_neg h2, if_neg h2, h00, ValueIdx.select_zero]; rfl

theorem wide_tab (h : Fin 4) (i j : Fin 256) :
    (StableHlo.after opsA W (Proc.devRef .tc main_v57) (ix3 h i j) : Ideal .f32) = ((wide (lg h) i j : ℝ) : EReal) := by
  after_reads_at
  have hc : (id (constantI S_ 32 64#32) ix0 : BitVec 32) = 64#32 := rfl
  simp only [hc]
  have hw := wide_word h i j
  unfold chunkWord at hw
  exact hw

theorem rise_tab (h : Fin 4) (i : Fin 256) (j : Fin 128) :
    (StableHlo.after opsA W (Proc.devRef .tc main_v70) (ix3 h i j) : Ideal .f32)
      = ((Real.exp (lg h * ((i.val : ℝ) + 1)) : ℝ) : EReal) := by
  after_reads_at
  rw [lg_eq, sitofp_nat _ (by omega), ← EReal.coe_one, ← EReal.coe_add, ← EReal.coe_mul, exp_coe]

theorem fall_tab (h : Fin 4) (i : Fin 256) (j : Fin 128) :
    (StableHlo.after opsA W (Proc.devRef .tc main_v82) (ix3 h i j) : Ideal .f32)
      = ((Real.exp (lg h * (255 - (i.val : ℝ))) : ℝ) : EReal) := by
  after_reads_at
  rw [lg_eq, sitofp_nat _ (by omega), c255, ← EReal.coe_sub, ← EReal.coe_mul, exp_coe]

theorem decay_tab (h : Fin 4) (i : Fin 8) (j : Fin 128) :
    (StableHlo.after opsA W (Proc.devRef .tc main_v90) (ix3 h i j) : Ideal .f32)
      = ((Real.exp (lg h * 256) : ℝ) : EReal) := by
  after_reads_at
  rw [lg_eq, c256, ← EReal.coe_mul, exp_coe]

/-! The rotation. -/

/-- The rotated row from its two halves, for the queries. -/
theorem q_rot (q : ℕ → ℕ → ℝ)
    (hq : ∀ (t : Fin 8192) (c : Fin 512), (W (Proc.devRef .tc main_arg0) (ix2 t c) : Ideal .f32) = ((q t c : ℝ) : EReal))
    (hc : ∀ (t : Fin 8192) (d : Fin 128), (W (Proc.devRef .tc main_v18) (ix2 t d) : Ideal .f32)
      = ((Real.cos (angle t (if d.val < 64 then d.val else d.val - 64)) : ℝ) : EReal))
    (hs : ∀ (t : Fin 8192) (d : Fin 128), (W (Proc.devRef .tc main_v20) (ix2 t d) : Ideal .f32)
      = ((if d.val < 64 then -Real.sin (angle t d) else Real.sin (angle t (d - 64)) : ℝ) : EReal))
    (n : Fin 32) (h : Fin 4) (i : Fin 256) (d : Fin 128) :
    (StableHlo.after opsB W (Proc.devRef .tc main_v107) (ix4 n h i d) : Ideal .f32)
      = ((rot q h (n.val * 256 + i.val) d : ℝ) : EReal) := by
  after_reads_at
  by_cases hd : d.val < 64
  · rw [dif_pos hd]
    after_reads_at
    have ht : n.val * 256 + i.val < 8192 := by omega
    rw [hq ⟨_, ht⟩ ⟨h.val * 128 + d.val, by omega⟩, hq ⟨_, ht⟩ ⟨h.val * 128 + (64 + d.val), by omega⟩, hc ⟨_, ht⟩ d, hs ⟨_, ht⟩ d, if_pos hd, if_pos hd, ← EReal.coe_mul, ← EReal.coe_mul, ← EReal.coe_add]
    unfold rot
    rw [if_pos hd, mul_neg, ← sub_eq_add_neg]
  · rw [dif_neg hd]
    after_reads_at
    have ht : n.val * 256 + i.val < 8192 := by omega
    rw [hq ⟨_, ht⟩ ⟨h.val * 128 + d.val, by omega⟩, hq ⟨_, ht⟩ ⟨h.val * 128 + (d.val - 64), by omega⟩, hc ⟨_, ht⟩ d, hs ⟨_, ht⟩ d, if_neg hd, if_neg hd, ← EReal.coe_mul, ← EReal.coe_mul, ← EReal.coe_add]
    unfold rot
    rw [if_neg hd, add_comm]

/-- The rotated row from its two halves, for the keys, scaled. -/
theorem k_rot (k : ℕ → ℕ → ℝ)
    (hk : ∀ (t : Fin 8192) (c : Fin 512), (W (Proc.devRef .tc main_arg1) (ix2 t c) : Ideal .f32) = ((k t c : ℝ) : EReal))
    (hc : ∀ (t : Fin 8192) (d : Fin 128), (W (Proc.devRef .tc main_v18) (ix2 t d) : Ideal .f32)
      = ((Real.cos (angle t (if d.val < 64 then d.val else d.val - 64)) : ℝ) : EReal))
    (hs : ∀ (t : Fin 8192) (d : Fin 128), (W (Proc.devRef .tc main_v20) (ix2 t d) : Ideal .f32)
      = ((if d.val < 64 then -Real.sin (angle t d) else Real.sin (angle t (d - 64)) : ℝ) : EReal))
    (n : Fin 32) (h : Fin 4) (i : Fin 256) (d : Fin 128) :
    (StableHlo.after opsB W (Proc.devRef .tc main_v117) (ix4 n h i d) : Ideal .f32)
      = ((key k h (n.val * 256 + i.val) d : ℝ) : EReal) := by
  after_reads_at
  by_cases hd : d.val < 64
  · rw [dif_pos hd]
    after_reads_at
    have ht : n.val * 256 + i.val < 8192 := by omega
    rw [hk ⟨_, ht⟩ ⟨h.val * 128 + d.val, by omega⟩, hk ⟨_, ht⟩ ⟨h.val * 128 + (64 + d.val), by omega⟩, hc ⟨_, ht⟩ d, hs ⟨_, ht⟩ d, if_pos hd, if_pos hd, ← EReal.coe_mul, ← EReal.coe_mul, ← EReal.coe_add, cScale, ← EReal.coe_mul]
    unfold key rot
    rw [if_pos hd, mul_neg, ← sub_eq_add_neg]
  · rw [dif_neg hd]
    after_reads_at
    have ht : n.val * 256 + i.val < 8192 := by omega
    rw [hk ⟨_, ht⟩ ⟨h.val * 128 + d.val, by omega⟩, hk ⟨_, ht⟩ ⟨h.val * 128 + (d.val - 64), by omega⟩, hc ⟨_, ht⟩ d, hs ⟨_, ht⟩ d, if_neg hd, if_neg hd, ← EReal.coe_mul, ← EReal.coe_mul, ← EReal.coe_add, cScale, ← EReal.coe_mul]
    unfold key rot
    rw [if_neg hd, add_comm]

theorem v_blk (v : ℕ → ℕ → ℝ)
    (hv : ∀ (t : Fin 8192) (c : Fin 512), (W (Proc.devRef .tc main_arg2) (ix2 t c) : Ideal .f32) = ((v t c : ℝ) : EReal))
    (n : Fin 32) (h : Fin 4) (i : Fin 256) (e : Fin 128) :
    (StableHlo.after opsB W (Proc.devRef .tc main_v99) (ix4 n h i e) : Ideal .f32)
      = ((v (n.val * 256 + i.val) (h.val * 128 + e.val) : ℝ) : EReal) := by
  after_reads_at
  exact hv ⟨_, by omega⟩ ⟨_, by omega⟩

/-! The scores, the updates of the state, the states and the retention, from real blocks. -/

theorem scores (q k : ℕ → ℕ → Fin 128 → ℝ) (M : ℕ → ℕ → ℕ → ℝ)
    (hq : ∀ (n : Fin 32) (h : Fin 4) (i : Fin 256) (d : Fin 128),
      (W (Proc.devRef .tc main_v107) (ix4 n h i d) : Ideal .f32) = ((q h (n.val * 256 + i.val) d : ℝ) : EReal))
    (hk : ∀ (n : Fin 32) (h : Fin 4) (i : Fin 256) (d : Fin 128),
      (W (Proc.devRef .tc main_v117) (ix4 n h i d) : Ideal .f32) = ((k h (n.val * 256 + i.val) d : ℝ) : EReal))
    (hM : ∀ (h : Fin 4) (i j : Fin 256), (W (Proc.devRef .tc main_v57) (ix3 h i j) : Ideal .f32) = ((M h i j : ℝ) : EReal))
    (n : Fin 32) (h : Fin 4) (i j : Fin 256) :
    (StableHlo.after opsC W (Proc.devRef .tc main_v121) (ix4 n h i j) : Ideal .f32)
      = (((∑ d, q h (n.val * 256 + i.val) d * k h (n.val * 256 + j.val) d) * M h i j : ℝ) : EReal) := by
  after_reads_at
  rw [hM h i j, EReal.coe_mul, Rms.coe_sum]
  refine congrArg (· * _) (Finset.sum_congr rfl fun x _ => ?_)
  rw [hq n h i x, hk n h j x, EReal.coe_mul]

theorem update (k : ℕ → ℕ → Fin 128 → ℝ) (v : ℕ → ℕ → ℝ) (f : ℕ → ℕ → ℝ)
    (hk : ∀ (n : Fin 32) (h : Fin 4) (i : Fin 256) (d : Fin 128),
      (W (Proc.devRef .tc main_v117) (ix4 n h i d) : Ideal .f32) = ((k h (n.val * 256 + i.val) d : ℝ) : EReal))
    (hv : ∀ (n : Fin 32) (h : Fin 4) (i : Fin 256) (e : Fin 128), (W (Proc.devRef .tc main_v99) (ix4 n h i e) : Ideal .f32)
      = ((v (n.val * 256 + i.val) (h.val * 128 + e.val) : ℝ) : EReal))
    (hf : ∀ (h : Fin 4) (i : Fin 256) (j : Fin 128), (W (Proc.devRef .tc main_v82) (ix3 h i j) : Ideal .f32) = ((f h i : ℝ) : EReal))
    (n : Fin 32) (h : Fin 4) (d e : Fin 128) :
    (StableHlo.after opsC W (Proc.devRef .tc main_v125) (ix4 n h d e) : Ideal .f32)
      = ((∑ x : Fin 256, k h (n.val * 256 + x.val) d * f h x * v (n.val * 256 + x.val) (h.val * 128 + e.val) : ℝ) : EReal) := by
  after_reads_at
  rw [Rms.coe_sum]
  refine Finset.sum_congr rfl fun x _ => ?_
  rw [hk n h x d, hf h x d, hv n h x e, EReal.coe_mul, EReal.coe_mul]

theorem decay_blk (a : ℕ → ℝ)
    (ha : ∀ (h : Fin 4) (i : Fin 8) (j : Fin 128), (W (Proc.devRef .tc main_v90) (ix3 h i j) : Ideal .f32) = ((a h : ℝ) : EReal))
    (h : Fin 4) (d e : Fin 128) :
    (StableHlo.after opsC W (Proc.devRef .tc main_v128) (ix4 0 h d e) : Ideal .f32) = ((a h : ℝ) : EReal) := by
  after_reads_at
  exact ha h 0 e

theorem zero_blk (h : Fin 4) (d e : Fin 128) :
    (StableHlo.after opsC W (Proc.devRef .tc main_v129) (ix4 0 h d e) : Ideal .f32) = ((0 : ℝ) : EReal) := by
  after_reads_at
  rfl

set_option maxHeartbeats 2000000 in
theorem retention (s : ℕ → ℕ → ℕ → ℝ) (v : ℕ → ℕ → ℝ) (q : ℕ → ℕ → Fin 128 → ℝ) (r : ℕ → ℕ → ℝ) (S : ℕ → ℕ → Fin 128 → Fin 128 → ℝ)
    (hs : ∀ (n : Fin 32) (h : Fin 4) (i j : Fin 256),
      (W (Proc.devRef .tc main_v121) (ix4 n h i j) : Ideal .f32) = ((s h (n.val * 256 + i.val) j : ℝ) : EReal))
    (hv : ∀ (n : Fin 32) (h : Fin 4) (i : Fin 256) (e : Fin 128), (W (Proc.devRef .tc main_v99) (ix4 n h i e) : Ideal .f32)
      = ((v (n.val * 256 + i.val) (h.val * 128 + e.val) : ℝ) : EReal))
    (hq : ∀ (n : Fin 32) (h : Fin 4) (i : Fin 256) (d : Fin 128),
      (W (Proc.devRef .tc main_v107) (ix4 n h i d) : Ideal .f32) = ((q h (n.val * 256 + i.val) d : ℝ) : EReal))
    (hr : ∀ (h : Fin 4) (i : Fin 256) (j : Fin 128), (W (Proc.devRef .tc main_v70) (ix3 h i j) : Ideal .f32) = ((r h i : ℝ) : EReal))
    (hS : ∀ (n : Fin 32) (h : Fin 4) (d e : Fin 128),
      (W (Proc.devRef .tc main_v225) (ix4 n h d e) : Ideal .f32) = ((S h n d e : ℝ) : EReal))
    (n : Fin 32) (h : Fin 4) (i : Fin 256) (e : Fin 128) :
    (StableHlo.after opsE W (Proc.devRef .tc main_v233)
        (ix2 ⟨n.val * 256 + i.val, by omega⟩ ⟨h.val * 128 + e.val, by omega⟩) : Ideal .f32)
      = ((∑ j : Fin 256, s h (n.val * 256 + i.val) j * v (n.val * 256 + j.val) (h.val * 128 + e.val)
          + ∑ d : Fin 128, q h (n.val * 256 + i.val) d * r h i * S h n d e : ℝ) : EReal) := by
  after_reads_at
  rw [EReal.coe_add, Rms.coe_sum, Rms.coe_sum]
  refine congrArg₂ (· + ·) (Finset.sum_congr rfl fun x _ => ?_) (Finset.sum_congr rfl fun x _ => ?_)
  · rw [hs n h i x, hv n h x e, EReal.coe_mul]
  · rw [hq n h i x, hr h i x, hS n h x e, EReal.coe_mul, EReal.coe_mul]

end Cert.RetKernelIdeal.Host

end

end
-- ==== Proof.RetStates.lean ====
/- The states the kernel's host code carries from block to block, stacked. -/
module

public import proofs.«01_k».proof.Proof.RetHost
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open scoped BigOperators

namespace Cert.RetKernelIdeal.Host

open Cert.RetKernelIdeal Cert.RetKernelIdeal.Gen Cert.Retention

variable (W : Valuation τ sig (Elt Ideal))

set_option maxHeartbeats 2000000 in
theorem states (a : ℕ → ℝ) (u : ℕ → ℕ → ℕ → ℕ → ℝ)
    (ha : ∀ (h : Fin 4) (d e : Fin 128), (W (Proc.devRef .tc main_v128) (ix4 0 h d e) : Ideal .f32) = ((a h : ℝ) : EReal))
    (hz : ∀ (h : Fin 4) (d e : Fin 128), (W (Proc.devRef .tc main_v129) (ix4 0 h d e) : Ideal .f32) = ((0 : ℝ) : EReal))
    (hu : ∀ (n : Fin 32) (h : Fin 4) (d e : Fin 128),
      (W (Proc.devRef .tc main_v125) (ix4 n h d e) : Ideal .f32) = ((u h d e n : ℝ) : EReal))
    (n : Fin 32) (h : Fin 4) (d e : Fin 128) :
    (StableHlo.after opsD W (Proc.devRef .tc main_v225) (ix4 n h d e) : Ideal .f32)
      = ((carry (a h) (u h d e) n : ℝ) : EReal) := by
  fin_cases n <;> (after_reads_at; after_reads_at; simp only [ha, hz, hu, ← EReal.coe_mul, ← EReal.coe_add]; rfl)

end Cert.RetKernelIdeal.Host

end

end
-- ==== Proof.RetRaw.lean ====
/- The retention that the gradient call takes as an argument: what the host operations before the call leave in its buffer, as the
   retention over chunks of 64 rows. -/
module

public import proofs.«01_k».proof.Proof.RetHost
public import proofs.«01_k».proof.Proof.RetStates
public import proofs.«01_k».proof.Proof.Gen.RetKernelIdeal.Launch
public import Idealize.ShloMosaic.Lib.StableHlo.ReadAt

@[expose] public section

set_option maxRecDepth 16384

noncomputable section

open Idealize.ShloMosaic Idealize.ShloMosaic.TcCoe Idealize.SL.Sem
open scoped BigOperators

namespace Cert.RetKernelIdeal.Host

open Cert.RetKernelIdeal Cert.RetKernelIdeal.Gen Cert.Retention

variable (W : Valuation τ sig (Elt Ideal))

theorem all_ops : (List.flatten [hostOps0, hostOps0_1, hostOps0_2, hostOps0_3, hostOps0_4, hostOps0_5, hostOps0_6] : Ops)
    = opsA ++ (opsB ++ (opsC ++ (opsD ++ opsE))) := by
  have e1 : (opsD ++ opsE : Ops) = hostOps0_6.drop 79 := by
    rw [opsD, opsE, show hostOps0_6.drop 175 = (hostOps0_6.drop 79).drop 96 by rw [List.drop_drop], List.drop_take, List.take_append_drop]
  have e2 : (opsC ++ (opsD ++ opsE) : Ops) = hostOps0_6.drop 66 := by
    rw [e1, opsC, show hostOps0_6.drop 79 = (hostOps0_6.drop 66).drop 13 by rw [List.drop_drop], List.drop_take, List.take_append_drop]
  have e3 : (opsB ++ (opsC ++ (opsD ++ opsE)) : Ops) = hostOps0_6.drop 38 := by
    rw [e2, opsB, show hostOps0_6.drop 66 = (hostOps0_6.drop 38).drop 28 by rw [List.drop_drop], List.drop_take, List.take_append_drop]
  rw [e3, opsA]
  simp only [List.flatten_cons, List.flatten_nil, List.append_nil, List.append_assoc, List.take_append_drop]

theorem keepA (t : Fin 8192) (j : Fin 512) :
    StableHlo.after opsA W (Proc.devRef .tc main_arg0) (ix2 t j) = W (Proc.devRef .tc main_arg0) (ix2 t j)
    ∧ StableHlo.after opsA W (Proc.devRef .tc main_arg1) (ix2 t j) = W (Proc.devRef .tc main_arg1) (ix2 t j)
    ∧ StableHlo.after opsA W (Proc.devRef .tc main_arg2) (ix2 t j) = W (Proc.devRef .tc main_arg2) (ix2 t j) := by
  refine ⟨?_, ?_, ?_⟩ <;> after_reads_at

theorem keepB (h : Fin 4) : (∀ i j : Fin 256, StableHlo.after opsB W (Proc.devRef .tc main_v57) (ix3 h i j) = W (Proc.devRef .tc main_v57) (ix3 h i j))
    ∧ (∀ (i : Fin 256) (j : Fin 128), StableHlo.after opsB W (Proc.devRef .tc main_v70) (ix3 h i j) = W (Proc.devRef .tc main_v70) (ix3 h i j))
    ∧ (∀ (i : Fin 256) (j : Fin 128), StableHlo.after opsB W (Proc.devRef .tc main_v82) (ix3 h i j) = W (Proc.devRef .tc main_v82) (ix3 h i j))
    ∧ (∀ (i : Fin 8) (j : Fin 128), StableHlo.after opsB W (Proc.devRef .tc main_v90) (ix3 h i j) = W (Proc.devRef .tc main_v90) (ix3 h i j)) := by
  refine ⟨fun i j => ?_, fun i j => ?_, fun i j => ?_, fun i j => ?_⟩ <;> after_reads_at

theorem keepC (n : Fin 32) (h : Fin 4) (i : Fin 256) (d : Fin 128) :
    StableHlo.after opsC W (Proc.devRef .tc main_v99) (ix4 n h i d) = W (Proc.devRef .tc main_v99) (ix4 n h i d)
    ∧ StableHlo.after opsC W (Proc.devRef .tc main_v107) (ix4 n h i d) = W (Proc.devRef .tc main_v107) (ix4 n h i d)
    ∧ StableHlo.after opsC W (Proc.devRef .tc main_v70) (ix3 h i d) = W (Proc.devRef .tc main_v70) (ix3 h i d) := by
  refine ⟨?_, ?_, ?_⟩ <;> after_reads_at

theorem keepD (n : Fin 32) (h : Fin 4) (i : Fin 256) (d : Fin 128) :
    StableHlo.after opsD W (Proc.devRef .tc main_v99) (ix4 n h i d) = W (Proc.devRef .tc main_v99) (ix4 n h i d)
    ∧ StableHlo.after opsD W (Proc.devRef .tc main_v107) (ix4 n h i d) = W (Proc.devRef .tc main_v107) (ix4 n h i d)
    ∧ StableHlo.after opsD W (Proc.devRef .tc main_v70) (ix3 h i d) = W (Proc.devRef .tc main_v70) (ix3 h i d)
    ∧ (∀ j : Fin 256, StableHlo.after opsD W (Proc.devRef .tc main_v121) (ix4 n h i j) = W (Proc.devRef .tc main_v121) (ix4 n h i j)) := by
  refine ⟨?_, ?_, ?_, fun j => ?_⟩ <;> after_reads_at

variable (q k v : ℕ → ℕ → ℝ)
    (hq : ∀ (t : Fin 8192) (j : Fin 512), (W (Proc.devRef .tc main_arg0) (ix2 t j) : Ideal .f32) = ((q t j : ℝ) : EReal))
    (hk : ∀ (t : Fin 8192) (j : Fin 512), (W (Proc.devRef .tc main_arg1) (ix2 t j) : Ideal .f32) = ((k t j : ℝ) : EReal))
    (hv : ∀ (t : Fin 8192) (j : Fin 512), (W (Proc.devRef .tc main_arg2) (ix2 t j) : Ideal .f32) = ((v t j : ℝ) : EReal))
include hq hk hv

theorem raw (n : Fin 32) (h : Fin 4) (i : Fin 256) (e : Fin 128) :
    (StableHlo.after (List.flatten [hostOps0, hostOps0_1, hostOps0_2, hostOps0_3, hostOps0_4, hostOps0_5, hostOps0_6]) W (Proc.devRef .tc main_v233)
        (ix2 ⟨n.val * 256 + i.val, by omega⟩ ⟨h.val * 128 + e.val, by omega⟩) : Ideal .f32)
      = ((out (lg h) 64 (near (lg h)) (rot q h) (key k h) (fun t => v t (h.val * 128 + e.val))
          ((n.val * 256 + i.val) / 64) ((n.val * 256 + i.val) % 64) : ℝ) : EReal) := by
  rw [all_ops, StableHlo.after_append, StableHlo.after_append, StableHlo.after_append, StableHlo.after_append]
  set A := StableHlo.after opsA W with hA
  set B := StableHlo.after opsB A with hB
  set C := StableHlo.after opsC B with hC
  have q1 := q_rot A q (fun t j => (keepA W t j).1.trans (hq t j)) (cos_tab W) (sin_tab W)
  have k1 := k_rot A k (fun t j => (keepA W t j).2.1.trans (hk t j)) (cos_tab W) (sin_tab W)
  have v1 := v_blk A v (fun t j => (keepA W t j).2.2.trans (hv t j))
  have s1 := scores B (fun h => rot q h) (fun h => key k h) (fun h => wide (lg h)) q1 k1
    (fun h i j => ((keepB A h).1 i j).trans (wide_tab W h i j))
  have u1 := update B (fun h => key k h) v (fun h i => Real.exp (lg h * (255 - (i : ℝ)))) k1 v1
    (fun h i j => ((keepB A h).2.2.1 i j).trans (fall_tab W h i j))
  have a1 := decay_blk B (fun h => Real.exp (lg h * 256)) (fun h i j => ((keepB A h).2.2.2 i j).trans (decay_tab W h i j))
  have hd : ∀ d : Fin 128, (⟨d.val % 128, Nat.mod_lt _ (by decide)⟩ : Fin 128) = d := fun d => Fin.ext (Nat.mod_eq_of_lt d.isLt)
  have S1 := states C (fun h => Real.exp (lg h * 256)) (fun h d e n => ∑ x : Fin 256, key k h (n * 256 + x.val) ⟨d % 128, Nat.mod_lt _ (by decide)⟩
    * Real.exp (lg h * (255 - (x.val : ℝ))) * v (n * 256 + x.val) (h * 128 + e)) a1 (zero_blk B) (fun n h d e => by rw [hd]; exact u1 n h d e)
  simp only [hd] at S1
  refine (retention (StableHlo.after opsD C) (fun h t j => (∑ d, rot q h t d * key k h (t / 256 * 256 + j) d) * wide (lg h) (t % 256) j) v (fun h => rot q h)
    (fun h i => Real.exp (lg h * ((i : ℝ) + 1))) (fun h n d e => carry (Real.exp (lg h * 256)) (fun n => ∑ x : Fin 256, key k h (n * 256 + x.val) d
      * Real.exp (lg h * (255 - (x.val : ℝ))) * v (n * 256 + x.val) (h * 128 + e)) n)
    (fun n h i j => ((keepD C n h i 0).2.2.2 j).trans ((s1 n h i j).trans ?_))
    (fun n h i e => (keepD C n h i e).1.trans ((keepC B n h i e).1.trans (v1 n h i e)))
    (fun n h i e => (keepD C n h i e).2.1.trans ((keepC B n h i e).2.1.trans (q1 n h i e)))
    (fun h i j => (keepD C 0 h i j).2.2.1.trans ((keepC B 0 h i j).2.2.trans (((keepB A h).2.1 i j).trans (rise_tab W h i j))))
    S1 n h i e).trans ?_
  · rw [show (n.val * 256 + i.val) / 256 = n.val by omega, show (n.val * 256 + i.val) % 256 = i.val by omega]
  · have h1 : (n.val * 256 + i.val) / 64 = 4 * n.val + i.val / 64 := by omega
    have h2 : (n.val * 256 + i.val) % 64 = i.val % 64 := by omega
    rw [h1, h2, ← wide_eq_near _ _ _ _ _ _ i.isLt, out, show (n.val * 256 + i.val) / 256 = n.val by omega, show (n.val * 256 + i.val) % 256 = i.val by omega]
    simp only [state_carry]
    norm_num

end Cert.RetKernelIdeal.Host

end

end
-- ==== Proof.RetTables.lean ====
/- What the retention's gradient call is launched on: the tables, the states and the arguments, read at an index, for finite
   queries, keys and values. -/
module

public import proofs.«01_k».proof.Proof.RetRaw

@[expose] public section

set_option maxRecDepth 16384

noncomputable section

open Idealize.ShloMosaic Idealize.ShloMosaic.TcCoe Idealize.SL.Sem
open scoped BigOperators

namespace Cert.RetKernelIdeal.Host

open Cert.RetKernelIdeal Cert.RetKernelIdeal.Gen Cert.Retention

variable (W : Valuation τ sig (Elt Ideal))

/-- The lines before the call. -/
abbrev allOps : Ops := List.flatten [hostOps0, hostOps0_1, hostOps0_2, hostOps0_3, hostOps0_4, hostOps0_5, hostOps0_6]

theorem all_after (b : DevRef τ sig) : StableHlo.after allOps W b
    = StableHlo.after opsE (StableHlo.after opsD (StableHlo.after opsC (StableHlo.after opsB (StableHlo.after opsA W)))) b := by
  rw [show (allOps : Ops) = _ from all_ops, StableHlo.after_append, StableHlo.after_append, StableHlo.after_append, StableHlo.after_append]

/-- What the rotation writes. -/
def rotBufs : List (Ref sig .tc) :=
  [main_v91, main_v92, main_v93, main_v94, main_v95, main_v96, main_v97, main_v98, main_v99, main_v100, main_v101,
    main_v102, main_v103, main_v104, main_v105, main_v106, main_v107, main_v108, main_v109, main_v110, main_v111,
    main_v112, main_v113, main_v114, main_v115, main_cst_12, main_v116, main_v117]

/-- What the scores and the updates write. -/
def scoreBufs : List (Ref sig .tc) :=
  [main_v118, main_v119, main_v120, main_v121, main_v122, main_v123, main_v124, main_v125, main_v126, main_v127,
    main_v128, main_cst_13, main_v129]

/-- What the states write. -/
def stateBufs : List (Ref sig .tc) :=
  [main_v130, main_v131, main_v132, main_v133, main_v134, main_v135, main_v136, main_v137, main_v138, main_v139,
    main_v140, main_v141, main_v142, main_v143, main_v144, main_v145, main_v146, main_v147, main_v148, main_v149,
    main_v150, main_v151, main_v152, main_v153, main_v154, main_v155, main_v156, main_v157, main_v158, main_v159,
    main_v160, main_v161, main_v162, main_v163, main_v164, main_v165, main_v166, main_v167, main_v168, main_v169,
    main_v170, main_v171, main_v172, main_v173, main_v174, main_v175, main_v176, main_v177, main_v178, main_v179,
    main_v180, main_v181, main_v182, main_v183, main_v184, main_v185, main_v186, main_v187, main_v188, main_v189,
    main_v190, main_v191, main_v192, main_v193, main_v194, main_v195, main_v196, main_v197, main_v198, main_v199,
    main_v200, main_v201, main_v202, main_v203, main_v204, main_v205, main_v206, main_v207, main_v208, main_v209,
    main_v210, main_v211, main_v212, main_v213, main_v214, main_v215, main_v216, main_v217, main_v218, main_v219,
    main_v220, main_v221, main_v222, main_v223, main_v224, main_v225]

/-- What the retention writes. -/
def outBufs : List (Ref sig .tc) :=
  [main_v226, main_v227, main_v228, main_v229, main_v230, main_v231, main_v232, main_v233, main_v234, main_v235]

theorem last_keeps (b : Ref sig .tc) (h : b ∉ scoreBufs ∧ b ∉ stateBufs ∧ b ∉ outBufs) :
    StableHlo.after allOps W (Proc.devRef .tc b) = StableHlo.after opsB (StableHlo.after opsA W) (Proc.devRef .tc b) :=
  (all_after W _).trans ((StableHlo.after_of_writes_sub (W := outBufs) opsE _ (StableHlo.forall_writes_sub_of_map rfl) h.2.2).trans
    ((StableHlo.after_of_writes_sub (W := stateBufs) opsD _ (StableHlo.forall_writes_sub_of_map rfl) h.2.1).trans
      (StableHlo.after_of_writes_sub (W := scoreBufs) opsC _ (StableHlo.forall_writes_sub_of_map rfl) h.1)))

theorem late_keeps (b : Ref sig .tc) (h : b ∉ rotBufs ∧ b ∉ scoreBufs ∧ b ∉ stateBufs ∧ b ∉ outBufs) :
    StableHlo.after allOps W (Proc.devRef .tc b) = StableHlo.after opsA W (Proc.devRef .tc b) :=
  (last_keeps W b h.2).trans (StableHlo.after_of_writes_sub (W := rotBufs) opsB _ (StableHlo.forall_writes_sub_of_map rfl) h.1)

theorem gain_row (j : Fin 512) : StableHlo.after opsB W (Proc.devRef .tc main_v91) (ix2 0 j) = W (Proc.devRef .tc main_arg4) (ix1 j) := by
  after_reads_at

theorem gain_arg (j : Fin 512) : StableHlo.after opsA W (Proc.devRef .tc main_arg4) (ix1 j) = W (Proc.devRef .tc main_arg4) (ix1 j) := by
  after_reads_at

theorem ct_arg (i : Fin 8192) (j : Fin 512) : StableHlo.after opsA W (Proc.devRef .tc main_v3) (ix2 i ⟨512 + j.val, by omega⟩)
    = W (Proc.devRef .tc main_arg5) (ix2 i j) := by
  after_reads_at

theorem key_arg (i : Fin 8192) (j : Fin 512) : StableHlo.after opsA W (Proc.devRef .tc main_v1) (ix2 i ⟨1536 + j.val, by omega⟩)
    = W (Proc.devRef .tc main_arg1) (ix2 i j) := by
  after_reads_at
  rw [dif_neg (by omega), dif_neg (by omega), dif_pos (by omega)]
  refine congrArg _ (congrArg (ix2 i) (Fin.ext ?_))
  show 1536 + j.val - 1024 - 512 = j.val
  omega

theorem val_arg (i : Fin 8192) (j : Fin 512) : StableHlo.after opsA W (Proc.devRef .tc main_v1) (ix2 i ⟨2048 + j.val, by omega⟩)
    = W (Proc.devRef .tc main_arg2) (ix2 i j) := by
  after_reads_at
  rw [dif_neg (by omega), dif_neg (by omega), dif_neg (by omega), dif_pos (by omega)]
  refine congrArg _ (congrArg (ix2 i) (Fin.ext ?_))
  show 2048 + j.val - 1024 - 512 - 512 = j.val
  omega

theorem gate_arg (i : Fin 8192) (j : Fin 512) : StableHlo.after opsA W (Proc.devRef .tc main_v1) (ix2 i ⟨2560 + j.val, by omega⟩)
    = W (Proc.devRef .tc main_arg3) (ix2 i j) := by
  after_reads_at
  rw [dif_neg (by omega), dif_neg (by omega), dif_neg (by omega), dif_neg (by omega)]
  refine congrArg _ (congrArg (ix2 i) (Fin.ext ?_))
  show 2560 + j.val - 1024 - 512 - 512 - 512 = j.val
  omega

theorem states_cast (n : Fin 32) (h : Fin 4) (d e : Fin 128) :
    (StableHlo.after opsE W (Proc.devRef .tc main_v234) (ix4 n h d e) : EReal) = W (Proc.devRef .tc main_v225) (ix4 n h d e) := by
  after_reads_at

variable (k v : ℕ → ℕ → ℝ)
    (hk : ∀ (t : Fin 8192) (j : Fin 512), (W (Proc.devRef .tc main_arg1) (ix2 t j) : Ideal .f32) = ((k t j : ℝ) : EReal))
    (hv : ∀ (t : Fin 8192) (j : Fin 512), (W (Proc.devRef .tc main_arg2) (ix2 t j) : Ideal .f32) = ((v t j : ℝ) : EReal))

include hk hv in
/-- The state that each block starts from. -/
theorem state_at (n : Fin 32) (h : Fin 4) (d e : Fin 128) : (StableHlo.after allOps W (Proc.devRef .tc main_v234) (ix4 n h d e) : EReal)
    = ((state (lg h) 256 (key k h) (fun t => v t (h.val * 128 + e.val)) n d : ℝ) : EReal) := by
  refine (congrFun (all_after W _) _).trans ((states_cast _ n h d e).trans ?_)
  set A := StableHlo.after opsA W with hA
  set B := StableHlo.after opsB A with hB
  have k1 := k_rot A k (fun t j => (keepA W t j).2.1.trans (hk t j)) (cos_tab W) (sin_tab W)
  have v1 := v_blk A v (fun t j => (keepA W t j).2.2.trans (hv t j))
  have hd : ∀ d : Fin 128, (⟨d.val % 128, Nat.mod_lt _ (by decide)⟩ : Fin 128) = d := fun d => Fin.ext (Nat.mod_eq_of_lt d.isLt)
  have s1 := states (StableHlo.after opsC B) (fun h => Real.exp (lg h * 256)) (fun h d e n => ∑ x : Fin 256, key k h (n * 256 + x.val)
      ⟨d % 128, Nat.mod_lt _ (by decide)⟩ * Real.exp (lg h * (255 - (x.val : ℝ))) * v (n * 256 + x.val) (h * 128 + e))
    (decay_blk B (fun h => Real.exp (lg h * 256)) fun h i j => ((keepB A h).2.2.2 i j).trans (decay_tab W h i j)) (zero_blk B)
    (fun n h d e => by
      rw [hd]
      exact update B (fun h => key k h) v (fun h i => Real.exp (lg h * (255 - (i : ℝ)))) k1 v1
        (fun h i j => ((keepB A h).2.2.1 i j).trans (fall_tab W h i j)) n h d e) n h d e
  simp only [hd] at s1
  refine s1.trans ?_
  rw [state_carry]
  norm_num

end Cert.RetKernelIdeal.Host

end

end
-- ==== Proof.RetValue.lean ====
module

public import proofs.«01_k».proof.Proof.RetPure
public import proofs.«01_k».proof.Proof.RetRows
public import proofs.«01_k».proof.Proof.RetTables
public import proofs.«01_k».proof.Proof.Gen.RetKernelIdeal.Frame
public import Idealize.ShloMosaic.Lib.Pipeline.ValueKit
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem
open scoped BigOperators

namespace Cert.RetKernelIdeal.Value

open Cert.RetKernelIdeal Cert.RetKernelIdeal.Gen Cert.Retention

variable (m : (ℓ : Loc nD τ sig) → Buf (Elt Ideal) ℓ)

/-- Column `e` of head `h`. -/
abbrev col (h : Fin 4) (e : Fin 128) : Fin 512 := ⟨h.val * 128 + e.val, by omega⟩

/-- What grid point `t` adds to entry `e` of head `h`'s row. -/
def added (c : Dev nD) (t : Fin cfg0.N) (h : Fin 4) (e : Fin 128) : EReal :=
  ∑ a : Fin 256, share (normed (fun x => (iblk m c 6 t (ix2 a (col h x)) : Ideal .f32)) e) (iblk m c 0 t (ix2 a (col h e)) : Ideal .f32) (iblk m c 5 t (ix2 a (col h e)) : Ideal .f32)

/-- The row after grid point `t`, the row before being `p`. -/
def after' (c : Dev nD) (t : Fin cfg0.N) (p : Vec Ideal S1x512 .f32) : Vec Ideal S1x512 .f32 := fun y =>
  p y + added m c t ⟨(y 1).val / 128, by have := (y 1).isLt; have : S1x512.size 1 = 512 := rfl; omega⟩ ⟨(y 1).val % 128, by omega⟩

theorem after'_at (c : Dev nD) (t : Fin cfg0.N) (p : Vec Ideal S1x512 .f32) (h : Fin 4) (e : Fin 128) :
    after' m c t p (ix2 0 (col h e)) = p (ix2 0 (col h e)) + added m c t h e := by
  have h1 : (⟨(h.val * 128 + e.val) / 128, by omega⟩ : Fin 4) = h := Fin.ext (by show (h.val * 128 + e.val) / 128 = h.val; omega)
  have h2 : (⟨(h.val * 128 + e.val) % 128, by omega⟩ : Fin 128) = e := Fin.ext (by show (h.val * 128 + e.val) % 128 = e.val; omega)
  show _ + added m c t ⟨(h.val * 128 + e.val) / 128, _⟩ ⟨(h.val * 128 + e.val) % 128, _⟩ = _
  rw [h1, h2]

theorem ld_block (X : Vec Ideal S256x512 .f32) (h : Fin 4) (inb) (a : Fin 256) (e : Fin 128) :
    View.ld X (Rect.unit (s := S256x512) ![0, h.val * 128] ![256, 128] inb) (ix2 a e) = X (ix2 a (col h e)) := by
  rw [View.ld_apply]
  congr 1
  funext b
  fin_cases b
  · exact Fin.ext (by simp [LoadRect.idx, Rect.emb, Rect.unit, ix2])
  · exact Fin.ext (by simp [LoadRect.idx, Rect.emb, Rect.unit, ix2])

theorem ld_row (X : Vec Ideal S1x512 .f32) (h : Fin 4) (inb) (e : Fin 128) :
    View.ld X (Rect.unit (s := S1x512) ![0, h.val * 128] ![1, 128] inb) (ix2 0 e) = X (ix2 0 (col h e)) := by
  rw [View.ld_apply]
  congr 1
  funext b
  fin_cases b
  · exact Fin.ext (by simp [LoadRect.idx, Rect.emb, Rect.unit, ix2])
  · exact Fin.ext (by simp [LoadRect.idx, Rect.emb, Rect.unit, ix2])

theorem emb_row (h : Fin 4) (inb) (e : Fin 128) :
    (Rect.unit (s := S1x512) ![0, h.val * 128] ![1, 128] inb).emb (ix2 0 e) = ix2 0 (col h e) := by
  funext b
  fin_cases b
  · exact Fin.ext (by simp [LoadRect.idx, Rect.emb, Rect.unit, ix2])
  · exact Fin.ext (by simp [LoadRect.idx, Rect.emb, Rect.unit, ix2])

theorem mem_row (h : Fin 4) (inb) (e : Fin 128) : (ix2 0 (col h e) : S1x512.Idx) ∈ (Rect.unit (s := S1x512) ![0, h.val * 128] ![1, 128] inb).set := by
  rw [Rect.mem_set_unit]
  intro b
  fin_cases b
  · exact ⟨Nat.zero_le _, by simp [ix2]⟩
  · exact ⟨by simp [ix2], by simp [ix2]⟩

theorem piece (c : Dev nD) (t : Fin cfg0.N) (p : Vec Ideal S1x512 .f32) (h : Fin 4) (R G C : Vec Ideal S256x128 .f32) (P w : Vec Ideal S1x128 .f32)
    (hw : ∀ e, w (ix2 0 e) = P (ix2 0 e) + ∑ a : Fin 256, share (normed (fun x => R (ix2 a x)) e) (C (ix2 a e)) (G (ix2 a e)))
    (hR : ∀ a x, R (ix2 a x) = iblk m c 6 t (ix2 a (col h x))) (hG : ∀ a x, G (ix2 a x) = iblk m c 5 t (ix2 a (col h x)))
    (hC : ∀ a x, C (ix2 a x) = iblk m c 0 t (ix2 a (col h x))) (hP : ∀ e, P (ix2 0 e) = p (ix2 0 (col h e))) (inb) (x : S1x128.Idx) :
    w x = after' m c t p ((Rect.unit (s := S1x512) ![0, h.val * 128] ![1, 128] inb).emb x) := by
  obtain ⟨e, rfl⟩ : ∃ e, x = ix2 0 e := ⟨x 1, by rw [eq_ix2 x]; congr 1; exact Subsingleton.elim (α := Fin 1) _ _⟩
  rw [emb_row h inb e, after'_at, hw, hP]
  refine congrArg (_ + ·) (Finset.sum_congr rfl fun a _ => ?_)
  rw [hC, hG]
  simp only [hR]

set_option maxHeartbeats 2000000 in
theorem stepB (c : Dev nD) (t : Fin cfg0.N) (h : ¬ t.val % 32 = 0) (h' : Fin 4) (e : Fin 128) :
    (outsAt0 m c t.val t.isLt).2.1 (ix2 0 (col h' e)) = (outsAt0 m c (t.val - 1) (by omega)).2.1 (ix2 0 (col h' e)) + added m c t h' e := by
  rw [← after'_at, outsAt0_B m c t h]; frame_out
  refine View.canon_append_of_piecesOf (after' m c t (outsAt0 m c (t.val - 1) (by omega)).2.1) [] [_, _, _, _] ⟨?_, ?_, ?_, ?_, trivial⟩ _ ?_
  · exact piece m c t _ 3 _ _ _ _ _ (Pure.row3 _ _ _ _) (ld_block _ 3 _) (ld_block _ 3 _) (ld_block _ 3 _) (ld_row _ 3 _) (by decide)
  · exact piece m c t _ 2 _ _ _ _ _ (Pure.row2 _ _ _ _) (ld_block _ 2 _) (ld_block _ 2 _) (ld_block _ 2 _) (ld_row _ 2 _) (by decide)
  · exact piece m c t _ 1 _ _ _ _ _ (Pure.row1 _ _ _ _) (ld_block _ 1 _) (ld_block _ 1 _) (ld_block _ 1 _) (ld_row _ 1 _) (by decide)
  · exact piece m c t _ 0 _ _ _ _ _ (Pure.row0 _ _ _ _) (ld_block _ 0 _) (ld_block _ 0 _) (ld_block _ 0 _) (ld_row _ 0 _) (by decide)
  ·
    fin_cases h'
    · exact ⟨_, .tail _ (.tail _ (.tail _ (.head _))), mem_row 0 (by decide) e⟩
    · exact ⟨_, .tail _ (.tail _ (.head _)), mem_row 1 (by decide) e⟩
    · exact ⟨_, .tail _ (.head _), mem_row 2 (by decide) e⟩
    · exact ⟨_, .head _, mem_row 3 (by decide) e⟩

set_option maxHeartbeats 2000000 in
theorem stepA (c : Dev nD) (t : Fin cfg0.N) (h : t.val % 32 = 0) (h' : Fin 4) (e : Fin 128) :
    (outsAt0 m c t.val t.isLt).2.1 (ix2 0 (col h' e)) = (fun _ => 0 : Vec Ideal S1x512 .f32) (ix2 0 (col h' e)) + added m c t h' e := by
  refine Eq.trans ?_ (after'_at m c t (fun _ => 0) h' e)
  rw [outsAt0_A m c t h]; frame_out
  refine View.canon_append_of_piecesOf (after' m c t (fun _ => 0)) [_] [_, _, _, _] ⟨?_, ?_, ?_, ?_, trivial⟩ _ ?_
  · refine piece m c t _ 3 _ _ _ _ _ (Pure.row3 _ _ _ _) (ld_block _ 3 _) (ld_block _ 3 _) (ld_block _ 3 _) (fun e => ?_) (by decide)
    rw [View.readCov_skip _ _ _ _ _ (by decide), View.readCov_skip _ _ _ _ _ (by decide), View.readCov_skip _ _ _ _ _ (by decide), View.readCov_fill]
    exact (ld_row _ 3 _ e).trans (Pure.start _)
    decide
  · refine piece m c t _ 2 _ _ _ _ _ (Pure.row2 _ _ _ _) (ld_block _ 2 _) (ld_block _ 2 _) (ld_block _ 2 _) (fun e => ?_) (by decide)
    rw [View.readCov_skip _ _ _ _ _ (by decide), View.readCov_skip _ _ _ _ _ (by decide), View.readCov_fill]
    exact (ld_row _ 2 _ e).trans (Pure.start _)
    decide
  · refine piece m c t _ 1 _ _ _ _ _ (Pure.row1 _ _ _ _) (ld_block _ 1 _) (ld_block _ 1 _) (ld_block _ 1 _) (fun e => ?_) (by decide)
    rw [View.readCov_skip _ _ _ _ _ (by decide), View.readCov_fill]
    exact (ld_row _ 1 _ e).trans (Pure.start _)
    decide
  · refine piece m c t _ 0 _ _ _ _ _ (Pure.row0 _ _ _ _) (ld_block _ 0 _) (ld_block _ 0 _) (ld_block _ 0 _) (fun e => ?_) (by decide)
    rw [View.readCov_fill]
    exact (ld_row _ 0 _ e).trans (Pure.start _)
    decide
  ·
    fin_cases h'
    · exact ⟨_, .tail _ (.tail _ (.tail _ (.head _))), mem_row 0 (by decide) e⟩
    · exact ⟨_, .tail _ (.tail _ (.head _)), mem_row 1 (by decide) e⟩
    · exact ⟨_, .tail _ (.head _), mem_row 2 (by decide) e⟩
    · exact ⟨_, .head _, mem_row 3 (by decide) e⟩

theorem idx_val : ∀ t : Fin cfg0.N, win0_0.index t = ![31 - t.val, 1] ∧ win0_3.index t = ![31 - t.val, 3] ∧ win0_4.index t = ![31 - t.val, 4]
    ∧ win0_5.index t = ![31 - t.val, 5] ∧ win0_6.index t = ![31 - t.val, 0] ∧ win0_7.index t = ![31 - t.val, 0, 0, 0]
    ∧ win0_8.index t = ![31 - t.val, 0] ∧ win0_9.index t = ![31 - t.val, 0] ∧ win0_10.index t = ![0, 0, 0] ∧ win0_11.index t = ![0, 0, 0]
    ∧ win0_14.index t = ![0, 0] ∧ win0_15.index t = ![31 - t.val, 0] ∧ win0_16.index t = ![0, 0] :=
  (by decide +kernel : ∀ t : Fin grid0.N, _)

/-- The array's row that row `a` of grid point `t`'s tile holds. -/
abbrev row (t : Fin cfg0.N) (a : Fin 256) : Fin 8192 := ⟨(31 - t.val) * 256 + a.val, by omega⟩

theorem blk0 (c : Dev nD) (t : Fin cfg0.N) (a : Fin 256) (j : Fin 512) : iblk m c 0 t (ix2 a j) = V m c main_v3 (ix2 (row t a) ⟨512 + j.val, by omega⟩) := by
  blk_simp [iblk, idx_val t]
  blk_ext [idx_val t]

theorem blk3 (c : Dev nD) (t : Fin cfg0.N) (a : Fin 256) (j : Fin 512) : iblk m c 3 t (ix2 a j) = V m c main_v1 (ix2 (row t a) ⟨1536 + j.val, by omega⟩) := by
  blk_simp [iblk, idx_val t]
  blk_ext [idx_val t]

theorem blk4 (c : Dev nD) (t : Fin cfg0.N) (a : Fin 256) (j : Fin 512) : iblk m c 4 t (ix2 a j) = V m c main_v1 (ix2 (row t a) ⟨2048 + j.val, by omega⟩) := by
  blk_simp [iblk, idx_val t]
  blk_ext [idx_val t]

theorem blk5 (c : Dev nD) (t : Fin cfg0.N) (a : Fin 256) (j : Fin 512) : iblk m c 5 t (ix2 a j) = V m c main_v1 (ix2 (row t a) ⟨2560 + j.val, by omega⟩) := by
  blk_simp [iblk, idx_val t]
  blk_ext [idx_val t]

theorem blk6 (c : Dev nD) (t : Fin cfg0.N) (a : Fin 256) (j : Fin 512) : iblk m c 6 t (ix2 a j) = V m c main_v233 (ix2 (row t a) j) := by
  blk_simp [iblk, idx_val t]
  blk_ext [idx_val t]

theorem blk7 (c : Dev nD) (t : Fin cfg0.N) (h : Fin 4) (d e : Fin 128) : iblk m c 7 t (ix4 0 h d e) = V m c main_v234 (ix4 ⟨31 - t.val, by omega⟩ h d e) := by
  blk_simp [iblk, idx_val t]
  blk_ext [idx_val t]

theorem blk8 (c : Dev nD) (t : Fin cfg0.N) (a : Fin 256) (d : Fin 128) : iblk m c 8 t (ix2 a d) = V m c main_v18 (ix2 (row t a) d) := by
  blk_simp [iblk, idx_val t]
  blk_ext [idx_val t]

theorem blk9 (c : Dev nD) (t : Fin cfg0.N) (a : Fin 256) (d : Fin 128) : iblk m c 9 t (ix2 a d) = V m c main_v20 (ix2 (row t a) d) := by
  blk_simp [iblk, idx_val t]
  blk_ext [idx_val t]

theorem blk10 (c : Dev nD) (t : Fin cfg0.N) (h : Fin 4) (i j : Fin 256) : iblk m c 10 t (ix3 h i j) = V m c main_v57 (ix3 h i j) := by
  blk_simp [iblk, idx_val t]
  blk_ext [idx_val t]

theorem blk11 (c : Dev nD) (t : Fin cfg0.N) (h : Fin 4) (i : Fin 256) (j : Fin 128) : iblk m c 11 t (ix3 h i j) = V m c main_v70 (ix3 h i j) := by
  blk_simp [iblk, idx_val t]
  blk_ext [idx_val t]

theorem blk14 (c : Dev nD) (t : Fin cfg0.N) (j : Fin 512) : iblk m c 14 t (ix2 0 j) = V m c main_v91 (ix2 0 j) := by
  blk_simp [iblk, idx_val t]
  blk_ext [idx_val t]

def t0_31 : Fin grid0.N := ⟨31, by rw [N_0]; decide⟩

theorem last (c : Dev nD) (h : Fin 4) (e : Fin 128) : (outsAt0 m c t0_31.val t0_31.isLt).2.1 (ix2 0 (col h e)) = ∑ t : Fin cfg0.N, added m c t h e := by
  rw [Pipeline.eq_sum_fin_of_reset_step_apply_last (fun n hn => fun i : Fin 4 × Fin 128 => (outsAt0 m c n hn).2.1 (ix2 0 (col i.1 i.2))) 32
    (fun _ => (0 : EReal)) (fun t i => added m c t i.1 i.2) (fun t ht i => stepA m c t ht i.1 i.2) (fun t ht i => stepB m c t ht i.1 i.2)
    (le_of_eq N_0) t0_31 rfl (h, e), zero_add]

theorem final_16 (c : Dev nD) (h : Fin 4) (e : Fin 128) :
    (dats m 0 c).arrAt 16 cfg0.N (ix2 0 (col h e)) = ∑ t : Fin cfg0.N, added m c t h e := by
  refine Eq.trans ?_ (last m c h e)
  refine congrFun ((dats m 0 c).arrAt_eq_of_after_last 16 t0_31 (by decide +kernel) (outsAt0 m c t0_31.val t0_31.isLt).2.1 fun j => ?_) _
  blk_simp
  rw [after0_16]
  blk_ext [idx_val t0_31]

/-! The last output's columns. -/

theorem emb_col (o : ℕ) (inb) (a : Fin 256) (d : Fin 128) (ho : o + 128 ≤ 3072) :
    (Rect.unit (s := S256x3072) ![0, o] ![256, 128] inb).emb (ix2 a d) = ix2 a ⟨o + d.val, by omega⟩ := by
  funext b
  fin_cases b
  · exact Fin.ext (by simp [Rect.emb, Rect.unit, ix2])
  · exact Fin.ext (by simp [Rect.emb, Rect.unit, ix2])

/-- The piece that holds the column. -/
theorem hit (o : ℕ) (inb) (w : Vec Ideal S256x128 .bf16) (L : List (View.Piece (Elt Ideal) S256x3072 .bf16)) (a : Fin 256) (d : Fin 128)
    (j : Fin 3072) (hj : j.val = o + d.val) (ho : o + 128 ≤ 3072) :
    View.canon (⟨Rect.unit (s := S256x3072) ![0, o] ![256, 128] inb, w⟩ :: L) (ix2 a j) = w (ix2 a d) := by
  rw [show ix2 a j = (Rect.unit (s := S256x3072) ![0, o] ![256, 128] inb).emb (ix2 a d) from
    (congrArg (ix2 a) (Fin.ext hj)).trans (emb_col o inb a d ho).symm, View.canon_cons_emb]

/-- A piece that does not. -/
theorem miss (o : ℕ) (inb) (w : Vec Ideal S256x128 .bf16) (L : List (View.Piece (Elt Ideal) S256x3072 .bf16)) (a : Fin 256)
    (j : Fin 3072) (hj : j.val < o ∨ o + 128 ≤ j.val) :
    View.canon (⟨Rect.unit (s := S256x3072) ![0, o] ![256, 128] inb, w⟩ :: L) (ix2 a j) = View.canon L (ix2 a j) := by
  refine View.canon_cons_of_not_mem _ _ fun hm => ?_
  rw [Rect.mem_set_unit] at hm
  have h1 := hm 1
  simp [ix2] at h1
  omega

/-- A head's four pieces, none of which does. -/
theorem miss4 (o p q r : ℕ) (io ip iq ir) (wo wp wq wr : Vec Ideal S256x128 .bf16) (L : List (View.Piece (Elt Ideal) S256x3072 .bf16)) (a : Fin 256)
    (j : Fin 3072) (hj : (j.val < o ∨ o + 128 ≤ j.val) ∧ (j.val < p ∨ p + 128 ≤ j.val) ∧ (j.val < q ∨ q + 128 ≤ j.val) ∧ (j.val < r ∨ r + 128 ≤ j.val)) :
    View.canon (⟨Rect.unit (s := S256x3072) ![0, o] ![256, 128] io, wo⟩ :: ⟨Rect.unit (s := S256x3072) ![0, p] ![256, 128] ip, wp⟩
      :: ⟨Rect.unit (s := S256x3072) ![0, q] ![256, 128] iq, wq⟩ :: ⟨Rect.unit (s := S256x3072) ![0, r] ![256, 128] ir, wr⟩ :: L) (ix2 a j)
      = View.canon L (ix2 a j) := by
  rw [miss o io wo _ a j hj.1, miss p ip wp _ a j hj.2.1, miss q iq wq _ a j hj.2.2.1, miss r ir wr _ a j hj.2.2.2]

theorem ld_state (X : Vec Ideal S1x4x128x128 .bf16) (h : Fin 4) (inb) (d e : Fin 128) :
    View.ld X (Rect.unit (s := S1x4x128x128) ![0, h.val, 0, 0] ![1, 1, 128, 128] inb) (ix4 0 0 d e) = X (ix4 0 h d e) := by
  rw [View.ld_apply]
  congr 1
  funext b
  fin_cases b <;> exact Fin.ext (by simp [LoadRect.idx, Rect.emb, Rect.unit, ix4])

theorem ld_near (X : Vec Ideal S4x256x256 .f32) (h : Fin 4) (inb) (i j : Fin 256) :
    View.ld X (Rect.unit (s := S4x256x256) ![h.val, 0, 0] ![1, 256, 256] inb) (ix3 0 i j) = X (ix3 h i j) := by
  rw [View.ld_apply]
  congr 1
  funext b
  fin_cases b <;> exact Fin.ext (by simp [LoadRect.idx, Rect.emb, Rect.unit, ix3])

theorem ld_rise (X : Vec Ideal S4x256x128 .f32) (h : Fin 4) (inb) (i : Fin 256) (j : Fin 128) :
    View.ld X (Rect.unit (s := S4x256x128) ![h.val, 0, 0] ![1, 256, 128] inb) (ix3 0 i j) = X (ix3 h i j) := by
  rw [View.ld_apply]
  congr 1
  funext b
  fin_cases b <;> exact Fin.ext (by simp [LoadRect.idx, Rect.emb, Rect.unit, ix3])

end Cert.RetKernelIdeal.Value

end

end
-- ==== Proof.RetHeads.lean ====
/- The gradients of the queries and of the gate as the retention's gradient call leaves them, for finite arguments. -/
module

public import proofs.«01_k».proof.Proof.RetValue
public import proofs.«01_k».proof.Proof.Swish

@[expose] public section

set_option maxRecDepth 16384

noncomputable section

open Idealize.ShloMosaic Idealize.ShloMosaic.TcCoe Idealize.SL.Sem
open scoped BigOperators

namespace Cert.RetKernelIdeal.Value

open Cert.RetKernelIdeal Cert.RetKernelIdeal.Gen Cert.Retention

variable (m : (ℓ : Loc nD τ sig) → Buf (Elt Ideal) ℓ) (c : Dev nD)

/-- The arguments are reals. -/
structure Args (q k v g ct : ℕ → ℕ → ℝ) (n : ℕ → ℝ) : Prop where
  q : ∀ (t : Fin 8192) (j : Fin 512), (m ((c : Thread nD τ).loc main_arg0) (ix2 t j) : Ideal .f32) = ((q t j : ℝ) : EReal)
  k : ∀ (t : Fin 8192) (j : Fin 512), (m ((c : Thread nD τ).loc main_arg1) (ix2 t j) : Ideal .f32) = ((k t j : ℝ) : EReal)
  v : ∀ (t : Fin 8192) (j : Fin 512), (m ((c : Thread nD τ).loc main_arg2) (ix2 t j) : Ideal .f32) = ((v t j : ℝ) : EReal)
  g : ∀ (t : Fin 8192) (j : Fin 512), (m ((c : Thread nD τ).loc main_arg3) (ix2 t j) : Ideal .f32) = ((g t j : ℝ) : EReal)
  n : ∀ j : Fin 512, (m ((c : Thread nD τ).loc main_arg4) (ix1 j) : Ideal .f32) = ((n j : ℝ) : EReal)
  ct : ∀ (t : Fin 8192) (j : Fin 512), (m ((c : Thread nD τ).loc main_arg5) (ix2 t j) : Ideal .f32) = ((ct t j : ℝ) : EReal)

variable {m c} {q k v g ct : ℕ → ℕ → ℝ} {n : ℕ → ℝ} (A : Args m c q k v g ct n) (t : Fin cfg0.N) (h : Fin 4)

include A

/-! The blocks. -/

theorem raw_blk (a : Fin 256) (x : Fin 128) : (iblk m c 6 t (ix2 a (col h x)) : EReal) = ((kept_row q k v h (row t a) x : ℝ) : EReal) :=
  (blk6 m c t a (col h x)).trans (Host.raw (fun b => m (c, b)) q k v A.q A.k A.v ⟨31 - t.val, by omega⟩ h a x)

theorem ct_blk (a : Fin 256) (x : Fin 128) : (iblk m c 0 t (ix2 a (col h x)) : EReal) = ((ct (row t a) (h.val * 128 + x.val) : ℝ) : EReal) :=
  (blk0 m c t a (col h x)).trans ((congrFun (Host.late_keeps (fun b => m (c, b)) main_v3 (by decide)) _).trans
    ((Host.ct_arg _ (row t a) (col h x)).trans (A.ct (row t a) (col h x))))

theorem key_blk (a : Fin 256) (x : Fin 128) : (iblk m c 3 t (ix2 a (col h x)) : EReal) = ((k (row t a) (h.val * 128 + x.val) : ℝ) : EReal) :=
  (blk3 m c t a (col h x)).trans ((congrFun (Host.late_keeps (fun b => m (c, b)) main_v1 (by decide)) _).trans
    ((Host.key_arg _ (row t a) (col h x)).trans (A.k (row t a) (col h x))))

theorem val_blk (a : Fin 256) (x : Fin 128) : (iblk m c 4 t (ix2 a (col h x)) : EReal) = ((v (row t a) (h.val * 128 + x.val) : ℝ) : EReal) :=
  (blk4 m c t a (col h x)).trans ((congrFun (Host.late_keeps (fun b => m (c, b)) main_v1 (by decide)) _).trans
    ((Host.val_arg _ (row t a) (col h x)).trans (A.v (row t a) (col h x))))

theorem gate_blk (a : Fin 256) (x : Fin 128) : (iblk m c 5 t (ix2 a (col h x)) : EReal) = ((g (row t a) (h.val * 128 + x.val) : ℝ) : EReal) :=
  (blk5 m c t a (col h x)).trans ((congrFun (Host.late_keeps (fun b => m (c, b)) main_v1 (by decide)) _).trans
    ((Host.gate_arg _ (row t a) (col h x)).trans (A.g (row t a) (col h x))))

theorem state_blk (d e : Fin 128) : (iblk m c 7 t (ix4 0 h d e) : EReal)
    = ((state (lg h) 256 (key k h) (fun t => v t (h.val * 128 + e.val)) (31 - t.val) d : ℝ) : EReal) :=
  (blk7 m c t h d e).trans (Host.state_at (fun b => m (c, b)) k v A.k A.v ⟨31 - t.val, by omega⟩ h d e)

theorem gain_blk (x : Fin 128) : (iblk m c 14 t (ix2 0 (col h x)) : EReal) = ((n (h.val * 128 + x.val) : ℝ) : EReal) :=
  (blk14 m c t (col h x)).trans ((congrFun (Host.last_keeps (fun b => m (c, b)) main_v91 (by decide)) _).trans
    ((Host.gain_row _ (col h x)).trans ((Host.gain_arg _ (col h x)).trans (A.n (col h x)))))

omit A

theorem cos_blk (a : Fin 256) (d : Fin 128) : (iblk m c 8 t (ix2 a d) : EReal)
    = ((Real.cos (angle (row t a) (if d.val < 64 then d.val else d.val - 64)) : ℝ) : EReal) :=
  (blk8 m c t a d).trans ((congrFun (Host.late_keeps (fun b => m (c, b)) main_v18 (by decide)) _).trans (Host.cos_tab _ (row t a) d))

theorem sin_blk (a : Fin 256) (d : Fin 128) : (iblk m c 9 t (ix2 a d) : EReal)
    = ((if d.val < 64 then -Real.sin (angle (row t a) d) else Real.sin (angle (row t a) (d - 64)) : ℝ) : EReal) :=
  (blk9 m c t a d).trans ((congrFun (Host.late_keeps (fun b => m (c, b)) main_v20 (by decide)) _).trans (Host.sin_tab _ (row t a) d))

theorem near_blk (i j : Fin 256) : (iblk m c 10 t (ix3 h i j) : EReal) = ((wide (lg h) i j : ℝ) : EReal) :=
  (blk10 m c t h i j).trans ((congrFun (Host.late_keeps (fun b => m (c, b)) main_v57 (by decide)) _).trans (Host.wide_tab _ h i j))

theorem rise_blk (i : Fin 256) (j : Fin 128) : (iblk m c 11 t (ix3 h i j) : EReal) = ((Real.exp (lg h * ((i.val : ℝ) + 1)) : ℝ) : EReal) :=
  (blk11 m c t h i j).trans ((congrFun (Host.late_keeps (fun b => m (c, b)) main_v70 (by decide)) _).trans (Host.rise_tab _ h i j))

include A

/-! A head's pieces. -/

variable (K V R G C : Vec Ideal S256x128 .f32) (N : Vec Ideal S1x128 .f32) (S : Vec Ideal S1x1x128x128 .bf16)
  (M : Vec Ideal S1x256x256 .f32) (E : Vec Ideal S1x256x128 .f32)
  (hR : ∀ a x, R (ix2 a x) = iblk m c 6 t (ix2 a (col h x))) (hG : ∀ a x, G (ix2 a x) = iblk m c 5 t (ix2 a (col h x)))
  (hC : ∀ a x, C (ix2 a x) = iblk m c 0 t (ix2 a (col h x))) (hN : ∀ x, N (ix2 0 x) = iblk m c 14 t (ix2 0 (col h x)))
  (hK : ∀ a x, K (ix2 a x) = iblk m c 3 t (ix2 a (col h x))) (hV : ∀ a x, V (ix2 a x) = iblk m c 4 t (ix2 a (col h x)))
  (hS : ∀ d e, S (ix4 0 0 d e) = iblk m c 7 t (ix4 0 h d e)) (hM : ∀ i j, M (ix3 0 i j) = iblk m c 10 t (ix3 h i j))
  (hE : ∀ i j, E (ix3 0 i j) = iblk m c 11 t (ix3 h i j))

include hR hG hC hN in
/-- The gradient of the gate. -/
theorem gate_piece (a : Fin 256) (e : Fin 128) : (Pure.gates R G C N (ix2 a e) : EReal)
    = Swish.gR (normed (fun x => ((kept_row q k v h (row t a) x : ℝ) : EReal)) e * ((n (h.val * 128 + e.val) : ℝ) : EReal)
        * ((ct (row t a) (h.val * 128 + e.val) : ℝ) : EReal)) ((g (row t a) (h.val * 128 + e.val) : ℝ) : EReal) := by
  rw [Pure.gates_at, (hC a e).trans (ct_blk A t h a e), (hG a e).trans (gate_blk A t h a e), (hN e).trans (gain_blk A t h e),
    show (fun x => (R (ix2 a x) : EReal)) = fun x => ((kept_row q k v h (row t a) x : ℝ) : EReal) from
      funext fun x => (hR a x).trans (raw_blk A t h a x), normed_coe, ← EReal.coe_mul, ← EReal.coe_mul, ← EReal.coe_mul]
  refine (Swish.gK_eq _ _ ⟨_, rfl⟩).trans (congrArg (fun z : ℝ => Swish.gR ((z : ℝ) : EReal) _) ?_)
  ring

include hR hG hC hN hK hV hS hM hE in
/-- The gradient of the queries. -/
theorem query_piece (a : Fin 256) (d : Fin 128) : (Pure.queries (iblk m c 8 t) (iblk m c 9 t) K V R G C N S M E (ix2 a d) : EReal)
    = ((grad_q q k v g ct n h (row t a) d : ℝ) : EReal) := by
  have h1 : (row t a).val / 64 = 4 * (31 - t.val) + a.val / 64 := by
    show ((31 - t.val) * 256 + a.val) / 64 = _
    omega
  have h2 : (row t a).val % 64 = a.val % 64 := by
    show ((31 - t.val) * 256 + a.val) % 64 = _
    omega
  refine Pure.queries_real _ _ K V R G C N S M E (row t a) a (fun d => dq (lg h) 64 (near (lg h)) (key k h)
    (fun t e => v t (h.val * 128 + e.val)) (own q k v g ct n h (row t a)) ((row t a).val / 64) ((row t a).val % 64) d) (fun d => ?_)
    (fun d => cos_blk t a d) (fun d => sin_blk t a d) d
  refine (Pure.turned_real _ _ K V R G C N S M E a (own q k v g ct n h (row t a)) (fun j e => key k h (row t j) e)
    (fun j e => v (row t j) (h.val * 128 + e.val)) (fun j => wide (lg h) a j)
    (fun x e => state (lg h) 256 (key k h) (fun t => v t (h.val * 128 + e.val)) (31 - t.val) x) (Real.exp (lg h * ((a.val : ℝ) + 1)))
    (fun e => ?_) (fun j e => (hV j e).trans (val_blk A t h j e)) (fun j e => ?_) (fun j => (hM a j).trans (near_blk t h a j))
    (fun x e => (hS x e).trans (state_blk A t h x e)) (fun d => (hE a d).trans (rise_blk t h a d)) d).trans ?_
  · exact Pure.grad_real R G C N a (kept_row q k v h (row t a)) (fun x => ct (row t a) (h.val * 128 + x.val)) (fun x => n (h.val * 128 + x.val))
      (fun x => g (row t a) (h.val * 128 + x.val)) (fun x => (hR a x).trans (raw_blk A t h a x)) (fun x => (hC a x).trans (ct_blk A t h a x))
      (fun x => (hN x).trans (gain_blk A t h x)) (fun x => (hG a x).trans (gate_blk A t h a x)) e
  · exact Pure.key_real _ _ K k h (row t j) j e (fun x => (hK j x).trans (key_blk A t h j x)) (cos_blk t j e) (sin_blk t j e)
  · refine congrArg (fun z : ℝ => ((z : ℝ) : EReal)) ?_
    rw [h1, h2]
    exact dq_wide_eq_near (lg h) (key k h) (fun t e => v t (h.val * 128 + e.val)) (own q k v g ct n h (row t a)) (31 - t.val) a.val d a.isLt

omit hR hG hC hN hK hV hS hM hE

/-! The last output's tile. -/
set_option maxHeartbeats 4000000 in
theorem gateA (hp : t.val % 32 = 0) (a : Fin 256) (e : Fin 128) : ((outsAt0 m c t.val t.isLt).1 (ix2 a ⟨2560 + (h.val * 128 + e.val), by omega⟩) : EReal)
    = Swish.gR (normed (fun x => ((kept_row q k v h (row t a) x : ℝ) : EReal)) e * ((n (h.val * 128 + e.val) : ℝ) : EReal)
        * ((ct (row t a) (h.val * 128 + e.val) : ℝ) : EReal)) ((g (row t a) (h.val * 128 + e.val) : ℝ) : EReal) := by
  rw [outsAt0_A m c t hp]; frame_out
  fin_cases h
  · refine (miss4 _ _ _ _ _ _ _ _ _ _ _ _ _ a _ (by dsimp only; omega)).trans ?_
    refine (miss4 _ _ _ _ _ _ _ _ _ _ _ _ _ a _ (by dsimp only; omega)).trans ?_
    refine (miss4 _ _ _ _ _ _ _ _ _ _ _ _ _ a _ (by dsimp only; omega)).trans ?_
    refine (hit _ _ _ _ a e _ (by dsimp only; omega) (by omega)).trans ?_
    exact (gate_piece A t 0 _ _ _ _ (ld_block _ 0 _) (ld_block _ 0 _) (ld_block _ 0 _) (ld_row _ 0 _) a e)
  · refine (miss4 _ _ _ _ _ _ _ _ _ _ _ _ _ a _ (by dsimp only; omega)).trans ?_
    refine (miss4 _ _ _ _ _ _ _ _ _ _ _ _ _ a _ (by dsimp only; omega)).trans ?_
    refine (hit _ _ _ _ a e _ (by dsimp only; omega) (by omega)).trans ?_
    exact (congrFun (Pure.gates1 _ _ _ _) _).trans (gate_piece A t 1 _ _ _ _ (ld_block _ 1 _) (ld_block _ 1 _) (ld_block _ 1 _) (ld_row _ 1 _) a e)
  · refine (miss4 _ _ _ _ _ _ _ _ _ _ _ _ _ a _ (by dsimp only; omega)).trans ?_
    refine (hit _ _ _ _ a e _ (by dsimp only; omega) (by omega)).trans ?_
    exact (congrFun (Pure.gates2 _ _ _ _) _).trans (gate_piece A t 2 _ _ _ _ (ld_block _ 2 _) (ld_block _ 2 _) (ld_block _ 2 _) (ld_row _ 2 _) a e)
  · refine (hit _ _ _ _ a e _ (by dsimp only; omega) (by omega)).trans ?_
    exact (congrFun (Pure.gates3 _ _ _ _) _).trans (gate_piece A t 3 _ _ _ _ (ld_block _ 3 _) (ld_block _ 3 _) (ld_block _ 3 _) (ld_row _ 3 _) a e)

set_option maxHeartbeats 4000000 in
theorem gateB (hp : ¬ t.val % 32 = 0) (a : Fin 256) (e : Fin 128) : ((outsAt0 m c t.val t.isLt).1 (ix2 a ⟨2560 + (h.val * 128 + e.val), by omega⟩) : EReal)
    = Swish.gR (normed (fun x => ((kept_row q k v h (row t a) x : ℝ) : EReal)) e * ((n (h.val * 128 + e.val) : ℝ) : EReal)
        * ((ct (row t a) (h.val * 128 + e.val) : ℝ) : EReal)) ((g (row t a) (h.val * 128 + e.val) : ℝ) : EReal) := by
  rw [outsAt0_B m c t hp]; frame_out
  fin_cases h
  · refine (miss4 _ _ _ _ _ _ _ _ _ _ _ _ _ a _ (by dsimp only; omega)).trans ?_
    refine (miss4 _ _ _ _ _ _ _ _ _ _ _ _ _ a _ (by dsimp only; omega)).trans ?_
    refine (miss4 _ _ _ _ _ _ _ _ _ _ _ _ _ a _ (by dsimp only; omega)).trans ?_
    refine (hit _ _ _ _ a e _ (by dsimp only; omega) (by omega)).trans ?_
    exact (gate_piece A t 0 _ _ _ _ (ld_block _ 0 _) (ld_block _ 0 _) (ld_block _ 0 _) (ld_row _ 0 _) a e)
  · refine (miss4 _ _ _ _ _ _ _ _ _ _ _ _ _ a _ (by dsimp only; omega)).trans ?_
    refine (miss4 _ _ _ _ _ _ _ _ _ _ _ _ _ a _ (by dsimp only; omega)).trans ?_
    refine (hit _ _ _ _ a e _ (by dsimp only; omega) (by omega)).trans ?_
    exact (congrFun (Pure.gates1 _ _ _ _) _).trans (gate_piece A t 1 _ _ _ _ (ld_block _ 1 _) (ld_block _ 1 _) (ld_block _ 1 _) (ld_row _ 1 _) a e)
  · refine (miss4 _ _ _ _ _ _ _ _ _ _ _ _ _ a _ (by dsimp only; omega)).trans ?_
    refine (hit _ _ _ _ a e _ (by dsimp only; omega) (by omega)).trans ?_
    exact (congrFun (Pure.gates2 _ _ _ _) _).trans (gate_piece A t 2 _ _ _ _ (ld_block _ 2 _) (ld_block _ 2 _) (ld_block _ 2 _) (ld_row _ 2 _) a e)
  · refine (hit _ _ _ _ a e _ (by dsimp only; omega) (by omega)).trans ?_
    exact (congrFun (Pure.gates3 _ _ _ _) _).trans (gate_piece A t 3 _ _ _ _ (ld_block _ 3 _) (ld_block _ 3 _) (ld_block _ 3 _) (ld_row _ 3 _) a e)

set_option maxHeartbeats 4000000 in
theorem queryA (hp : t.val % 32 = 0) (a : Fin 256) (e : Fin 128) : ((outsAt0 m c t.val t.isLt).1 (ix2 a ⟨1024 + (h.val * 128 + e.val), by omega⟩) : EReal)
    = ((grad_q q k v g ct n h (row t a) e : ℝ) : EReal) := by
  rw [outsAt0_A m c t hp]; frame_out
  fin_cases h
  · refine (miss4 _ _ _ _ _ _ _ _ _ _ _ _ _ a _ (by dsimp only; omega)).trans ?_
    refine (miss4 _ _ _ _ _ _ _ _ _ _ _ _ _ a _ (by dsimp only; omega)).trans ?_
    refine (miss4 _ _ _ _ _ _ _ _ _ _ _ _ _ a _ (by dsimp only; omega)).trans ?_
    refine (miss _ _ _ _ a _ (by dsimp only; omega)).trans ?_
    refine (miss _ _ _ _ a _ (by dsimp only; omega)).trans ?_
    refine (miss _ _ _ _ a _ (by dsimp only; omega)).trans ?_
    refine (hit _ _ _ _ a e _ (by dsimp only; omega) (by omega)).trans ?_
    exact (congrFun (Pure.queries0 _ _ _ _ _ _ _ _ _ _ _) _).trans (query_piece A t 0 _ _ _ _ _ _ _ _ _ (ld_block _ 0 _) (ld_block _ 0 _) (ld_block _ 0 _) (ld_row _ 0 _) (ld_block _ 0 _) (ld_block _ 0 _)
      (ld_state _ 0 _) (ld_near _ 0 _) (ld_rise _ 0 _) a e)
  · refine (miss4 _ _ _ _ _ _ _ _ _ _ _ _ _ a _ (by dsimp only; omega)).trans ?_
    refine (miss4 _ _ _ _ _ _ _ _ _ _ _ _ _ a _ (by dsimp only; omega)).trans ?_
    refine (miss _ _ _ _ a _ (by dsimp only; omega)).trans ?_
    refine (miss _ _ _ _ a _ (by dsimp only; omega)).trans ?_
    refine (miss _ _ _ _ a _ (by dsimp only; omega)).trans ?_
    refine (hit _ _ _ _ a e _ (by dsimp only; omega) (by omega)).trans ?_
    exact (congrFun (Pure.queries1 _ _ _ _ _ _ _ _ _ _ _) _).trans (query_piece A t 1 _ _ _ _ _ _ _ _ _ (ld_block _ 1 _) (ld_block _ 1 _) (ld_block _ 1 _) (ld_row _ 1 _) (ld_block _ 1 _) (ld_block _ 1 _)
      (ld_state _ 1 _) (ld_near _ 1 _) (ld_rise _ 1 _) a e)
  · refine (miss4 _ _ _ _ _ _ _ _ _ _ _ _ _ a _ (by dsimp only; omega)).trans ?_
    refine (miss _ _ _ _ a _ (by dsimp only; omega)).trans ?_
    refine (miss _ _ _ _ a _ (by dsimp only; omega)).trans ?_
    refine (miss _ _ _ _ a _ (by dsimp only; omega)).trans ?_
    refine (hit _ _ _ _ a e _ (by dsimp only; omega) (by omega)).trans ?_
    exact (congrFun (Pure.queries2 _ _ _ _ _ _ _ _ _ _ _) _).trans (query_piece A t 2 _ _ _ _ _ _ _ _ _ (ld_block _ 2 _) (ld_block _ 2 _) (ld_block _ 2 _) (ld_row _ 2 _) (ld_block _ 2 _) (ld_block _ 2 _)
      (ld_state _ 2 _) (ld_near _ 2 _) (ld_rise _ 2 _) a e)
  · refine (miss _ _ _ _ a _ (by dsimp only; omega)).trans ?_
    refine (miss _ _ _ _ a _ (by dsimp only; omega)).trans ?_
    refine (miss _ _ _ _ a _ (by dsimp only; omega)).trans ?_
    refine (hit _ _ _ _ a e _ (by dsimp only; omega) (by omega)).trans ?_
    exact (congrFun (Pure.queries3 _ _ _ _ _ _ _ _ _ _ _) _).trans (query_piece A t 3 _ _ _ _ _ _ _ _ _ (ld_block _ 3 _) (ld_block _ 3 _) (ld_block _ 3 _) (ld_row _ 3 _) (ld_block _ 3 _) (ld_block _ 3 _)
      (ld_state _ 3 _) (ld_near _ 3 _) (ld_rise _ 3 _) a e)

set_option maxHeartbeats 4000000 in
theorem queryB (hp : ¬ t.val % 32 = 0) (a : Fin 256) (e : Fin 128) : ((outsAt0 m c t.val t.isLt).1 (ix2 a ⟨1024 + (h.val * 128 + e.val), by omega⟩) : EReal)
    = ((grad_q q k v g ct n h (row t a) e : ℝ) : EReal) := by
  rw [outsAt0_B m c t hp]; frame_out
  fin_cases h
  · refine (miss4 _ _ _ _ _ _ _ _ _ _ _ _ _ a _ (by dsimp only; omega)).trans ?_
    refine (miss4 _ _ _ _ _ _ _ _ _ _ _ _ _ a _ (by dsimp only; omega)).trans ?_
    refine (miss4 _ _ _ _ _ _ _ _ _ _ _ _ _ a _ (by dsimp only; omega)).trans ?_
    refine (miss _ _ _ _ a _ (by dsimp only; omega)).trans ?_
    refine (miss _ _ _ _ a _ (by dsimp only; omega)).trans ?_
    refine (miss _ _ _ _ a _ (by dsimp only; omega)).trans ?_
    refine (hit _ _ _ _ a e _ (by dsimp only; omega) (by omega)).trans ?_
    exact (congrFun (Pure.queries0 _ _ _ _ _ _ _ _ _ _ _) _).trans (query_piece A t 0 _ _ _ _ _ _ _ _ _ (ld_block _ 0 _) (ld_block _ 0 _) (ld_block _ 0 _) (ld_row _ 0 _) (ld_block _ 0 _) (ld_block _ 0 _)
      (ld_state _ 0 _) (ld_near _ 0 _) (ld_rise _ 0 _) a e)
  · refine (miss4 _ _ _ _ _ _ _ _ _ _ _ _ _ a _ (by dsimp only; omega)).trans ?_
    refine (miss4 _ _ _ _ _ _ _ _ _ _ _ _ _ a _ (by dsimp only; omega)).trans ?_
    refine (miss _ _ _ _ a _ (by dsimp only; omega)).trans ?_
    refine (miss _ _ _ _ a _ (by dsimp only; omega)).trans ?_
    refine (miss _ _ _ _ a _ (by dsimp only; omega)).trans ?_
    refine (hit _ _ _ _ a e _ (by dsimp only; omega) (by omega)).trans ?_
    exact (congrFun (Pure.queries1 _ _ _ _ _ _ _ _ _ _ _) _).trans (query_piece A t 1 _ _ _ _ _ _ _ _ _ (ld_block _ 1 _) (ld_block _ 1 _) (ld_block _ 1 _) (ld_row _ 1 _) (ld_block _ 1 _) (ld_block _ 1 _)
      (ld_state _ 1 _) (ld_near _ 1 _) (ld_rise _ 1 _) a e)
  · refine (miss4 _ _ _ _ _ _ _ _ _ _ _ _ _ a _ (by dsimp only; omega)).trans ?_
    refine (miss _ _ _ _ a _ (by dsimp only; omega)).trans ?_
    refine (miss _ _ _ _ a _ (by dsimp only; omega)).trans ?_
    refine (miss _ _ _ _ a _ (by dsimp only; omega)).trans ?_
    refine (hit _ _ _ _ a e _ (by dsimp only; omega) (by omega)).trans ?_
    exact (congrFun (Pure.queries2 _ _ _ _ _ _ _ _ _ _ _) _).trans (query_piece A t 2 _ _ _ _ _ _ _ _ _ (ld_block _ 2 _) (ld_block _ 2 _) (ld_block _ 2 _) (ld_row _ 2 _) (ld_block _ 2 _) (ld_block _ 2 _)
      (ld_state _ 2 _) (ld_near _ 2 _) (ld_rise _ 2 _) a e)
  · refine (miss _ _ _ _ a _ (by dsimp only; omega)).trans ?_
    refine (miss _ _ _ _ a _ (by dsimp only; omega)).trans ?_
    refine (miss _ _ _ _ a _ (by dsimp only; omega)).trans ?_
    refine (hit _ _ _ _ a e _ (by dsimp only; omega) (by omega)).trans ?_
    exact (congrFun (Pure.queries3 _ _ _ _ _ _ _ _ _ _ _) _).trans (query_piece A t 3 _ _ _ _ _ _ _ _ _ (ld_block _ 3 _) (ld_block _ 3 _) (ld_block _ 3 _) (ld_row _ 3 _) (ld_block _ 3 _) (ld_block _ 3 _)
      (ld_state _ 3 _) (ld_near _ 3 _) (ld_rise _ 3 _) a e)

omit A

/-! The whole array. -/

theorem disjoint_tiles : ∀ t t' : Fin cfg0.N, (cfg0.win 15).flush t = true → (cfg0.win 15).flush t' = true → t ≠ t' →
    Disjoint ((cfg0.win 15).blk t).view.set ((cfg0.win 15).blk t').view.set := fun t t' _ _ ht =>
  (cfg0.win 15).disjoint_blk fun h => ht ((by decide +kernel : ∀ t t' : Fin grid0.N, win0_15.index t = win0_15.index t' → t = t') t t' h)

theorem tile (a : Fin 256) (j : Fin 3072) :
    (dats m 0 c).arrAt 15 cfg0.N (ix2 (row t a) j) = (outsAt0 m c t.val t.isLt).1 (ix2 a j) := by
  have hf : (cfg0.win 15).flush t = true := (by decide +kernel : ∀ t : Fin grid0.N, win0_15.flush t = true) t
  refine Eq.trans ?_ ((congrFun ((dats m 0 c).read_blk_arrAt_eq_flushed 15 disjoint_tiles cfg0.N t t.isLt hf) (ix2 a j)).trans ?_)
  · blk_simp
    blk_ext [idx_val t]
  · show (cfg0.win 15).cut (grid0.coords t) ((dats m 0 c).after 15 t) (ix2 a j) = _
    rw [after0_15]
    rfl

end Cert.RetKernelIdeal.Value

end

end
-- ==== Proof.RetRef.lean ====
/- The reference's retention in reals: the rotated chunks, the scores inside a chunk, each chunk's update of the state
   and the loop that carries the state over the chunks. -/
module

public import proofs.«01_k».proof.Proof.Gen.RetReferenceIdeal.Run
public import proofs.«01_k».proof.Proof.RetReal
public import Idealize.ShloMosaic.Lib.StableHlo.ReadAt
public import Idealize.ShloMosaic.Lib.Pointwise
public import Idealize.ShloMosaic.Lib.WordArith.Masks
public import Idealize.ShloMosaic.Lib.DynamicIndex

@[expose] public section

set_option maxRecDepth 16384

noncomputable section

open Idealize.ShloMosaic Idealize.ShloMosaic.TcCoe Idealize.SL.Sem
open scoped BigOperators

namespace Cert.RetReferenceIdeal.Host

open Cert.RetReferenceIdeal Cert.RetReferenceIdeal.Gen Cert.RetReferenceIdeal.Value Cert.Retention

abbrev Ops := List (HloOp τ sig (Elt Ideal))

/-- The rotation, by heads and chunks. -/
def opsR : Ops := hostOps0.take 77

/-- The decays, the scores inside a chunk, and the loop's entry. -/
def opsS : Ops := hostOps0.drop 77

variable (W : Valuation τ sig (Elt Ideal))

/-- A pair of entries turned, the first one. -/
theorem turn_lo {x y : Ideal .f32} {a b : ℝ} (hx : x = ((a : ℝ) : EReal)) (hy : y = ((b : ℝ) : EReal)) (t f : ℕ)
    (ht : t < 2 ^ 31) (hf : f < 2 ^ 31) :
    (x * Ideal.cos ((FloatOps.sitofp .f32 (BitVec.ofNat 32 t) : Ideal .f32) * Ideal.pow (Ideal.ofBits .f32 0x461C4000#32)
        (Ideal.div (-(FloatOps.sitofp .f32 (BitVec.ofNat 32 f) : Ideal .f32)) (Ideal.ofBits .f32 0x42800000#32)))
      - y * Ideal.sin ((FloatOps.sitofp .f32 (BitVec.ofNat 32 t) : Ideal .f32) * Ideal.pow (Ideal.ofBits .f32 0x461C4000#32)
        (Ideal.div (-(FloatOps.sitofp .f32 (BitVec.ofNat 32 f) : Ideal .f32)) (Ideal.ofBits .f32 0x42800000#32))) : Ideal .f32)
      = ((a * Real.cos (angle t f) - b * Real.sin (angle t f) : ℝ) : EReal) := by
  rw [hx, hy, angle_eq t f ht hf, cos_coe, sin_coe, ← EReal.coe_mul, ← EReal.coe_mul, ← EReal.coe_sub]

/-- A pair of entries turned, the second one. -/
theorem turn_hi {x y : Ideal .f32} {a b : ℝ} (hx : x = ((a : ℝ) : EReal)) (hy : y = ((b : ℝ) : EReal)) (t f : ℕ)
    (ht : t < 2 ^ 31) (hf : f < 2 ^ 31) :
    (x * Ideal.sin ((FloatOps.sitofp .f32 (BitVec.ofNat 32 t) : Ideal .f32) * Ideal.pow (Ideal.ofBits .f32 0x461C4000#32)
        (Ideal.div (-(FloatOps.sitofp .f32 (BitVec.ofNat 32 f) : Ideal .f32)) (Ideal.ofBits .f32 0x42800000#32)))
      + y * Ideal.cos ((FloatOps.sitofp .f32 (BitVec.ofNat 32 t) : Ideal .f32) * Ideal.pow (Ideal.ofBits .f32 0x461C4000#32)
        (Ideal.div (-(FloatOps.sitofp .f32 (BitVec.ofNat 32 f) : Ideal .f32)) (Ideal.ofBits .f32 0x42800000#32))) : Ideal .f32)
      = ((a * Real.sin (angle t f) + b * Real.cos (angle t f) : ℝ) : EReal) := by
  rw [hx, hy, angle_eq t f ht hf, cos_coe, sin_coe, ← EReal.coe_mul, ← EReal.coe_mul, ← EReal.coe_add]

/-- A real entry times the keys' scale. -/
theorem scaled {x : Ideal .f32} {a : ℝ} (hx : x = ((a : ℝ) : EReal)) :
    (x * (Ideal.ofBits .f32 0x3DB504F3#32 : Ideal .f32) : Ideal .f32) = ((a * scale : ℝ) : EReal) := by
  rw [hx, cScale, ← EReal.coe_mul]

/-- The rotated queries. -/
theorem q_rot (q : ℕ → ℕ → ℝ)
    (hq : ∀ (t : Fin 8192) (c : Fin 512), (W (Proc.devRef .tc main_arg0) (ix2 t c) : Ideal .f32) = ((q t c : ℝ) : EReal))
    (h : Fin 4) (n : Fin 128) (i : Fin 64) (d : Fin 128) :
    (StableHlo.after opsR W (Proc.devRef .tc main_v67) (ix5 0 h n i d) : Ideal .f32)
      = ((rot q h (n.val * 64 + i.val) d : ℝ) : EReal) := by
  after_reads_at
  have ht : n.val * 64 + i.val < 8192 := by omega
  unfold rot
  by_cases hd : d.val < 64
  · rw [dif_pos hd, if_pos hd]
    after_reads_at
    exact turn_lo (hq ⟨n.val * 64 + i.val, ht⟩ ⟨h.val * 128 + d.val, by omega⟩)
      (hq ⟨n.val * 64 + i.val, ht⟩ ⟨h.val * 128 + (64 + d.val), by omega⟩) _ _ (by omega) (by omega)
  · obtain ⟨f, hf⟩ := Nat.exists_eq_add_of_le (Nat.not_lt.1 hd)
    obtain ⟨d, hlt⟩ := d
    obtain rfl : d = 64 + f := hf
    rw [dif_neg hd, if_neg hd]
    after_reads_at
    exact turn_hi (hq ⟨n.val * 64 + i.val, ht⟩ ⟨h.val * 128 + f, by omega⟩)
      (hq ⟨n.val * 64 + i.val, ht⟩ ⟨h.val * 128 + (64 + f), by omega⟩) _ _ (by omega) (by omega)

/-- The rotated keys, scaled. -/
theorem k_rot (k : ℕ → ℕ → ℝ)
    (hk : ∀ (t : Fin 8192) (c : Fin 512), (W (Proc.devRef .tc main_arg1) (ix2 t c) : Ideal .f32) = ((k t c : ℝ) : EReal))
    (h : Fin 4) (n : Fin 128) (i : Fin 64) (d : Fin 128) :
    (StableHlo.after opsR W (Proc.devRef .tc main_v69) (ix5 0 h n i d) : Ideal .f32)
      = ((key k h (n.val * 64 + i.val) d : ℝ) : EReal) := by
  after_reads_at
  have ht : n.val * 64 + i.val < 8192 := by omega
  unfold key rot
  by_cases hd : d.val < 64
  · rw [dif_pos hd, if_pos hd]
    after_reads_at
    exact scaled (turn_lo (hk ⟨n.val * 64 + i.val, ht⟩ ⟨h.val * 128 + d.val, by omega⟩)
      (hk ⟨n.val * 64 + i.val, ht⟩ ⟨h.val * 128 + (64 + d.val), by omega⟩) _ _ (by omega) (by omega))
  · obtain ⟨f, hf⟩ := Nat.exists_eq_add_of_le (Nat.not_lt.1 hd)
    obtain ⟨d, hlt⟩ := d
    obtain rfl : d = 64 + f := hf
    rw [dif_neg hd, if_neg hd]
    after_reads_at
    exact scaled (turn_hi (hk ⟨n.val * 64 + i.val, ht⟩ ⟨h.val * 128 + f, by omega⟩)
      (hk ⟨n.val * 64 + i.val, ht⟩ ⟨h.val * 128 + (64 + f), by omega⟩) _ _ (by omega) (by omega))

theorem v_chunk (v : ℕ → ℕ → ℝ)
    (hv : ∀ (t : Fin 8192) (c : Fin 512), (W (Proc.devRef .tc main_arg2) (ix2 t c) : Ideal .f32) = ((v t c : ℝ) : EReal))
    (h : Fin 4) (n : Fin 128) (i : Fin 64) (e : Fin 128) :
    (StableHlo.after opsR W (Proc.devRef .tc main_v71) (ix5 0 h n i e) : Ideal .f32)
      = ((v (n.val * 64 + i.val) (h.val * 128 + e.val) : ℝ) : EReal) := by
  after_reads_at
  exact hv ⟨_, by omega⟩ ⟨_, by omega⟩

theorem log_tab (h : Fin 4) :
    (StableHlo.after opsS W (Proc.devRef .tc main_v79) (ix1 h) : Ideal .f32) = ((lg h : ℝ) : EReal) := by
  after_reads_at
  rw [lg_eq]

theorem row_tab (i : Fin 64) :
    (StableHlo.after opsS W (Proc.devRef .tc main_v80) (ix1 i) : Ideal .f32) = ((i.val : ℝ) : EReal) := by
  after_reads_at
  rw [sitofp_nat _ (by omega)]

theorem abs_coe (a b : ℝ) : (FloatOps.absf (((a : EReal) - (b : EReal) : EReal) : Ideal .f32) : Ideal .f32)
    = ((|a - b| : ℝ) : EReal) := by
  rw [← EReal.coe_sub]
  show max (((a - b : ℝ)) : EReal) (-((a - b : ℝ) : EReal)) = _
  rw [← EReal.coe_neg, abs_eq_max_neg]; exact (EReal.coe_strictMono.monotone.map_max ..).symm

/-- The chunk's own rows. -/
theorem intra (q k : ℕ → ℕ → Fin 128 → ℝ) (v : ℕ → ℕ → ℝ)
    (hq : ∀ (h : Fin 4) (n : Fin 128) (i : Fin 64) (d : Fin 128),
      (W (Proc.devRef .tc main_v67) (ix5 0 h n i d) : Ideal .f32) = ((q h (n.val * 64 + i.val) d : ℝ) : EReal))
    (hk : ∀ (h : Fin 4) (n : Fin 128) (i : Fin 64) (d : Fin 128),
      (W (Proc.devRef .tc main_v69) (ix5 0 h n i d) : Ideal .f32) = ((k h (n.val * 64 + i.val) d : ℝ) : EReal))
    (hv : ∀ (h : Fin 4) (n : Fin 128) (i : Fin 64) (e : Fin 128), (W (Proc.devRef .tc main_v71) (ix5 0 h n i e) : Ideal .f32)
      = ((v (n.val * 64 + i.val) (h.val * 128 + e.val) : ℝ) : EReal))
    (h : Fin 4) (n : Fin 128) (i : Fin 64) (e : Fin 128) :
    (StableHlo.after opsS W (Proc.devRef .tc main_v97) (ix5 0 h n i e) : Ideal .f32)
      = ((∑ j : Fin 64, (∑ d, q h (n.val * 64 + i.val) d * k h (n.val * 64 + j.val) d) * near (lg h) i j
          * v (n.val * 64 + j.val) (h.val * 128 + e.val) : ℝ) : EReal) := by
  after_reads_at
  rw [Rms.coe_sum]
  refine Finset.sum_congr rfl fun j _ => ?_
  rw [hv h n j e, lg_eq, sitofp_nat _ (by omega), sitofp_nat _ (by omega), abs_coe, ← EReal.coe_mul, exp_coe, EReal.coe_mul,
    EReal.coe_mul, Rms.coe_sum]
  refine congrArg (· * _ * _) (Finset.sum_congr rfl fun x _ => ?_)
  rw [hq h n i x, hk h n j x, EReal.coe_mul]

/-- A chunk's update of the state. -/
theorem entry_u (k : ℕ → ℕ → Fin 128 → ℝ) (v : ℕ → ℕ → ℝ)
    (hk : ∀ (h : Fin 4) (n : Fin 128) (i : Fin 64) (d : Fin 128),
      (W (Proc.devRef .tc main_v69) (ix5 0 h n i d) : Ideal .f32) = ((k h (n.val * 64 + i.val) d : ℝ) : EReal))
    (hv : ∀ (h : Fin 4) (n : Fin 128) (i : Fin 64) (e : Fin 128), (W (Proc.devRef .tc main_v71) (ix5 0 h n i e) : Ideal .f32)
      = ((v (n.val * 64 + i.val) (h.val * 128 + e.val) : ℝ) : EReal))
    (h : Fin 4) (n : Fin 128) (d e : Fin 128) :
    (StableHlo.after opsS W (Proc.devRef .tc main_v116_0) (ix5 n 0 h d e) : Ideal .f32)
      = ((∑ j : Fin 64, k h (n.val * 64 + j.val) d * Real.exp (lg h * (63 - (j.val : ℝ)))
          * v (n.val * 64 + j.val) (h.val * 128 + e.val) : ℝ) : EReal) := by
  after_reads_at
  rw [id_eq]
  pointwise
  rw [Rms.coe_sum]
  refine Finset.sum_congr rfl fun j _ => ?_
  rw [hv h n j e, lg_eq, sitofp_nat _ (by omega), c63, ← EReal.coe_sub, ← EReal.coe_mul, exp_coe, hk h n j d, EReal.coe_mul,
    EReal.coe_mul]

theorem entry_a (h : Fin 4) :
    (StableHlo.after opsS W (Proc.devRef .tc main_v116_1) (ix4 0 h 0 0) : Ideal .f32) = ((Real.exp (lg h * 64) : ℝ) : EReal) := by
  after_reads_at
  rw [id_eq]
  pointwise
  rw [lg_eq, c64, ← EReal.coe_mul, exp_coe]

theorem entry_s (h : Fin 4) (d e : Fin 128) :
    (StableHlo.after opsS W (Proc.devRef .tc main_v116_3) (ix4 0 h d e) : Ideal .f32) = ((0 : ℝ) : EReal) := by
  after_reads_at
  rw [id_eq]
  pointwise
  rfl

/-- The loop's counter at trip `k`, read signed. -/
theorem ctr_int {k : ℕ} (hk : k < 128) : (Scf.iv 0#32 1#32 k).toInt = (k : ℤ) := by
  have h := WordArith.toNat_iv_zero_one k (by omega)
  rw [BitVec.toInt_eq_toNat_of_lt (by omega), h]

/-- A slice of one chunk lies inside the stack. -/
theorem one_fits (k : ℕ) (hk : k < 128) (a : Fin 5) :
    ![k, 0, 0, 0, 0] a + ![1, 1, 4, 128, 128] a ≤ ![128, 1, 4, 128, 128] a := by
  fin_cases a
  · show k + 1 ≤ 128; omega
  · show 0 + 1 ≤ 1; omega
  · show 0 + 4 ≤ 4; omega
  · show 0 + 128 ≤ 128; omega
  · show 0 + 128 ≤ 128; omega

/-- The slice at a chunk number. -/
theorem slice_at (x : S128x1x4x128x128.Idx → EReal) (start : Fin 5 → ℤ) (k : ℕ) (hk : k < 128)
    (h0 : start 0 = (k : ℤ)) (h1 : start 1 = 0) (h2 : start 2 = 0) (h3 : start 3 = 0) (h4 : start 4 = 0)
    (h : Fin 4) (d e : Fin 128) :
    Host.dynamicSlice S1x1x4x128x128 x start sliceFits_S128x1x4x128x128_S1x1x4x128x128 (ix5 0 0 h d e)
      = x (ix5 ⟨k, hk⟩ 0 h d e) := by
  rw [Host.dynamicSlice_eq_extractStridedSlice S1x1x4x128x128 x start ![k, 0, 0, 0, 0]
    sliceFits_S128x1x4x128x128_S1x1x4x128x128
      ⟨rfl, fun a => by
        fin_cases a
        · exact one_fits k hk 0
        · exact one_fits k hk 1
        · exact one_fits k hk 2
        · exact one_fits k hk 3
        · exact one_fits k hk 4⟩
      (fun a => by
        fin_cases a
        · exact h0
        · exact h1
        · exact h2
        · exact h3
        · exact h4)]
  pointwise

/-- The stack with a state written at a chunk number. -/
theorem update_at (x : S128x1x4x128x128.Idx → EReal) (y : S1x1x4x128x128.Idx → EReal) (start : Fin 5 → ℤ) (k : ℕ) (hk : k < 128)
    (h0 : start 0 = (k : ℤ)) (h1 : start 1 = 0) (h2 : start 2 = 0) (h3 : start 3 = 0) (h4 : start 4 = 0)
    (n : Fin 128) (h : Fin 4) (d e : Fin 128) :
    Host.dynamicUpdateSlice x y start updateFits_S128x1x4x128x128_S1x1x4x128x128 (ix5 n 0 h d e)
      = if n.val = k then y (ix5 0 0 h d e) else x (ix5 n 0 h d e) := by
  rw [Host.dynamicUpdateSlice_eq_updateSlice x y start updateFits_S128x1x4x128x128_S1x1x4x128x128 ![k, 0, 0, 0, 0]
      (fun a => by
        fin_cases a
        · show (min (max (start 0) 0) ((128 - 1 : ℕ) : ℤ)).toNat = k
          rw [h0]; omega
        · show (min (max (start 1) 0) ((1 - 1 : ℕ) : ℤ)).toNat = 0
          rw [h1]; rfl
        · show (min (max (start 2) 0) ((4 - 4 : ℕ) : ℤ)).toNat = 0
          rw [h2]; rfl
        · show (min (max (start 3) 0) ((128 - 128 : ℕ) : ℤ)).toNat = 0
          rw [h3]; rfl
        · show (min (max (start 4) 0) ((128 - 128 : ℕ) : ℤ)).toNat = 0
          rw [h4]; rfl)
      ⟨rfl, fun a => by
        fin_cases a
        · exact one_fits k hk 0
        · exact one_fits k hk 1
        · exact one_fits k hk 2
        · exact one_fits k hk 3
        · exact one_fits k hk 4⟩]
  pointwise
  by_cases hn : n.val = k
  · rw [if_pos hn, dif_pos ⟨hn.ge, by omega⟩]
    refine congrArg y (congrArg (fun j => ix5 j 0 h d e) (Fin.ext ?_))
    show n.val - k = 0
    omega
  · rw [if_neg hn, dif_neg (fun hh => hn (by omega))]

/-- Where the slice of a trip starts. -/
def startsAt (c : S_.Idx → BitVec 32) : Fin 5 → ℤ := fun j => BitVec.toInt
  (![c, constantI S_ 32 0#32, constantI S_ 32 0#32, constantI S_ 32 0#32, constantI S_ 32 0#32] j (Shape.Idx.first h_S_))

theorem starts_0 {c : S_.Idx → BitVec 32} {k : ℕ} (hk : k < 128) (hc : c = fun _ => Scf.iv 0#32 1#32 k) : startsAt c 0 = (k : ℤ) := by
  subst hc
  exact ctr_int hk

theorem starts_1 (c : S_.Idx → BitVec 32) : startsAt c 1 = 0 := rfl
theorem starts_2 (c : S_.Idx → BitVec 32) : startsAt c 2 = 0 := rfl
theorem starts_3 (c : S_.Idx → BitVec 32) : startsAt c 3 = 0 := rfl
theorem starts_4 (c : S_.Idx → BitVec 32) : startsAt c 4 = 0 := rfl

/-- One step of the carried state. -/
theorem step_state (a : S1x4x1x1.Idx → EReal) (s : S1x4x128x128.Idx → EReal) (u : S128x1x4x128x128.Idx → EReal)
    (c : S_.Idx → BitVec 32) (k : ℕ) (hk : k < 128) (hc : c = fun _ => Scf.iv 0#32 1#32 k) (h : Fin 4) (d e : Fin 128) :
    (addf (φ := .f32) (mulf (φ := .f32) (broadcastInDim S1x4x128x128 ![0, 1, 2, 3] bcast_S1x4x1x1_S1x4x128x128_0_1_2_3 a) s)
      (shapeCast S1x4x128x128 (Host.dynamicSlice S1x1x4x128x128 u (startsAt c) sliceFits_S128x1x4x128x128_S1x1x4x128x128)
        shapeCasts_S1x1x4x128x128_S1x4x128x128) (ix4 0 h d e) : Ideal .f32)
      = a (ix4 0 h 0 0) * s (ix4 0 h d e) + u (ix5 ⟨k, hk⟩ 0 h d e) := by
  rw [← slice_at u (startsAt c) k hk (starts_0 hk hc) (starts_1 c) (starts_2 c) (starts_3 c) (starts_4 c) h d e]
  generalize Host.dynamicSlice S1x1x4x128x128 u (startsAt c) sliceFits_S128x1x4x128x128_S1x1x4x128x128 = w
  pointwise

/-- One step of the stack of states. -/
theorem step_stack (x : S128x1x4x128x128.Idx → EReal) (s : S1x4x128x128.Idx → EReal)
    (c : S_.Idx → BitVec 32) (k : ℕ) (hk : k < 128) (hc : c = fun _ => Scf.iv 0#32 1#32 k) (n : Fin 128) (h : Fin 4) (d e : Fin 128) :
    Host.dynamicUpdateSlice x (broadcastInDim S1x1x4x128x128 ![1, 2, 3, 4] bcast_S1x4x128x128_S1x1x4x128x128_1_2_3_4 s)
      (startsAt c) updateFits_S128x1x4x128x128_S1x1x4x128x128 (ix5 n 0 h d e)
      = if n.val = k then s (ix4 0 h d e) else x (ix5 n 0 h d e) := by
  rw [update_at x _ (startsAt c) k hk (starts_0 hk hc) (starts_1 c) (starts_2 c) (starts_3 c) (starts_4 c) n h d e]
  pointwise

theorem trip3 (h : Fin 4) (d e : Fin 128) (k : ℕ) (hk : k < 128) (a s u : ℝ)
    (hW : W (Proc.devRef .tc main_v116_2) = fun _ => Scf.iv 0#32 1#32 k)
    (ha : (W (Proc.devRef .tc main_v116_1) (ix4 0 h 0 0) : Ideal .f32) = (a : EReal))
    (hs : (W (Proc.devRef .tc main_v116_3) (ix4 0 h d e) : Ideal .f32) = (s : EReal))
    (hu : (W (Proc.devRef .tc main_v116_0) (ix5 ⟨k, hk⟩ 0 h d e) : Ideal .f32) = (u : EReal)) :
    (StableHlo.afterL bodyI W (Proc.devRef .tc main_v116_3) (ix4 0 h d e) : Ideal .f32) = ((a * s + u : ℝ) : EReal) := by
  rw [trip_main_v116_3, id_eq]
  refine (step_state (W (Proc.devRef .tc main_v116_1)) (W (Proc.devRef .tc main_v116_3)) (W (Proc.devRef .tc main_v116_0))
    (W (Proc.devRef .tc main_v116_2)) k hk hW h d e).trans ?_
  rw [ha, hs, hu, ← EReal.coe_mul, ← EReal.coe_add]

theorem trip4 (h : Fin 4) (d e : Fin 128) (n : Fin 128) (k : ℕ) (hk : k < 128)
    (hW : W (Proc.devRef .tc main_v116_2) = fun _ => Scf.iv 0#32 1#32 k) :
    (StableHlo.afterL bodyI W (Proc.devRef .tc main_v116_4) (ix5 n 0 h d e) : Ideal .f32)
      = if n.val = k then (W (Proc.devRef .tc main_v116_3) (ix4 0 h d e) : Ideal .f32)
        else (W (Proc.devRef .tc main_v116_4) (ix5 n 0 h d e) : Ideal .f32) := by
  rw [trip_main_v116_4, id_eq]
  exact step_stack (W (Proc.devRef .tc main_v116_4)) (W (Proc.devRef .tc main_v116_3))
    (W (Proc.devRef .tc main_v116_2)) k hk hW n h d e

end Cert.RetReferenceIdeal.Host

end

end
-- ==== Proof.RetCarry.lean ====
/- The reference's loop as a recursion over its trips. -/
module

public import proofs.«01_k».proof.Proof.RetRef
public import proofs.«01_k».proof.Proof.RmsNorm
public import proofs.«01_k».proof.Proof.RetShare
public import proofs.«01_k».proof.Proof.Swish

@[expose] public section

set_option maxRecDepth 16384

noncomputable section

open Idealize.ShloMosaic Idealize.ShloMosaic.TcCoe Idealize.SL.Sem
open scoped BigOperators

namespace Cert.Retention

/-- Entry `e` of a row: the chunk's own part and what the state brings. -/
def rowOf (A q : Fin 128 → EReal) (L i : EReal) (S : Fin 128 → Fin 128 → EReal) (e : Fin 128) : EReal :=
  A e + ∑ x, q x * Ideal.exp (L * (i + 1)) * S x e

theorem rowOf_coe (A q : Fin 128 → ℝ) (L i : ℝ) (S : Fin 128 → Fin 128 → ℝ) :
    rowOf (fun e => ((A e : ℝ) : EReal)) (fun x => ((q x : ℝ) : EReal)) (L : EReal) (i : EReal) (fun x e => ((S x e : ℝ) : EReal))
      = fun e => ((A e + ∑ x, q x * Real.exp (L * (i + 1)) * S x e : ℝ) : EReal) := by
  funext e
  rw [rowOf, EReal.coe_add, Rms.coe_sum]
  refine congrArg (_ + ·) (Finset.sum_congr rfl fun x _ => ?_)
  rw [show (i : EReal) + 1 = ((i + 1 : ℝ) : EReal) from (EReal.coe_add i 1).symm, ← EReal.coe_mul, exp_coe, EReal.coe_mul, EReal.coe_mul]

end Cert.Retention

namespace Cert.RetReferenceIdeal.Host

open Cert.RetReferenceIdeal Cert.RetReferenceIdeal.Gen Cert.RetReferenceIdeal.Value Cert.Retention

variable (W : Valuation τ sig (Elt Ideal))

/-- A buffer that neither the condition nor the body writes keeps its contents in a trip. -/
theorem trip_keeps (b : Ref sig .tc) (h : b ∉ condOps_W ∧ b ∉ while0Ops0_W ∧ b ∉ while0Ops0_1_W ∧ b ∉ while0Ops0_2_W ∧ b ∉ while0Ops0_3_W) :
    StableHlo.afterL bodyI (StableHlo.after condOps W) (Proc.devRef .tc b) = W (Proc.devRef .tc b) := by
  simp only [StableHlo.afterL_cons, StableHlo.afterL_nil]
  rw [StableHlo.after_of_writes_sub while0Ops0_3 _ while0Ops0_3_writes h.2.2.2.2,
    StableHlo.after_of_writes_sub while0Ops0_2 _ while0Ops0_2_writes h.2.2.2.1,
    StableHlo.after_of_writes_sub while0Ops0_1 _ while0Ops0_1_writes h.2.2.1,
    StableHlo.after_of_writes_sub while0Ops0 _ while0Ops0_writes h.2.1,
    StableHlo.after_of_writes_sub condOps _ condOps_writes h.1]

variable (m : (ℓ : Loc nD τ sig) → Buf (Elt Ideal) ℓ) (c : Dev nD)

theorem kept (b : Ref sig .tc) (h : b ∉ condOps_W ∧ b ∉ while0Ops0_W ∧ b ∉ while0Ops0_1_W ∧ b ∉ while0Ops0_2_W ∧ b ∉ while0Ops0_3_W) :
    ∀ k, atK m k c (Proc.devRef .tc b) = StableHlo.entryContents preI m c (Proc.devRef .tc b)
  | 0 => rfl
  | k + 1 => (trip_keeps (atK m k c) b h).trans (kept b h k)

/-- What the loop carries before trip `k`: the state, and below `k` the stack of states. -/
theorem carried (a : ℕ → ℝ) (u : ℕ → ℕ → Fin 128 → Fin 128 → ℝ)
    (ha : ∀ h : Fin 4, (StableHlo.entryContents preI m c (Proc.devRef .tc main_v116_1) (ix4 0 h 0 0) : Ideal .f32) = ((a h : ℝ) : EReal))
    (hu : ∀ (h : Fin 4) (n : Fin 128) (d e : Fin 128),
      (StableHlo.entryContents preI m c (Proc.devRef .tc main_v116_0) (ix5 n 0 h d e) : Ideal .f32) = ((u h n d e : ℝ) : EReal))
    (hz : ∀ (h : Fin 4) (d e : Fin 128),
      (StableHlo.entryContents preI m c (Proc.devRef .tc main_v116_3) (ix4 0 h d e) : Ideal .f32) = ((0 : ℝ) : EReal)) :
    ∀ k, k ≤ 128 → (∀ h : Fin 4, (atK m k c (Proc.devRef .tc main_v116_1) (ix4 0 h 0 0) : Ideal .f32) = ((a h : ℝ) : EReal)) ∧
      (∀ (h : Fin 4) (n : Fin 128) (d e : Fin 128),
        (atK m k c (Proc.devRef .tc main_v116_0) (ix5 n 0 h d e) : Ideal .f32) = ((u h n d e : ℝ) : EReal)) ∧
      (∀ (h : Fin 4) (d e : Fin 128), (atK m k c (Proc.devRef .tc main_v116_3) (ix4 0 h d e) : Ideal .f32)
        = ((carry (a h) (fun n => u h n d e) k : ℝ) : EReal)) ∧
      (∀ (h : Fin 4) (n : Fin 128) (d e : Fin 128), n.val < k → (atK m k c (Proc.devRef .tc main_v116_4) (ix5 n 0 h d e) : Ideal .f32)
        = ((carry (a h) (fun n => u h n d e) n : ℝ) : EReal))
  | 0, _ => ⟨ha, hu, hz, fun _ _ _ _ hn => absurd hn (Nat.not_lt_zero _)⟩
  | k + 1, hk => by
    obtain ⟨h1, h2, h3, h4⟩ := carried a u ha hu hz k (by omega)
    have hlt : k < 128 := by omega
    have k0 : ∀ b : Ref sig .tc, b ∉ condOps_W → StableHlo.after condOps (atK m k c) (Proc.devRef .tc b) = atK m k c (Proc.devRef .tc b) :=
      fun b hb => StableHlo.after_of_writes_sub condOps _ condOps_writes hb
    have hctr := (k0 main_v116_2 (by decide)).trans (atK_ctr m c k)
    have e3 := k0 main_v116_3 (by decide)
    have e4 := k0 main_v116_4 (by decide)
    have hs : atK m (k + 1) c = StableHlo.afterL bodyI (StableHlo.after condOps (atK m k c)) := rfl
    refine ⟨fun h => ?_, fun h n d e => ?_, fun h d e => ?_, fun h n d e hn => ?_⟩
    · rw [hs, trip_main_v116_1, k0 main_v116_1 (by decide)]
      exact h1 h
    · rw [hs, trip_main_v116_0, k0 main_v116_0 (by decide)]
      exact h2 h n d e
    · rw [hs]
      exact trip3 _ h d e k hlt (a h) _ (u h k d e) hctr ((congrFun (k0 main_v116_1 (by decide)) _).trans (h1 h))
        ((congrFun e3 _).trans (h3 h d e)) ((congrFun (k0 main_v116_0 (by decide)) _).trans (h2 h ⟨k, hlt⟩ d e))
    · rw [hs]
      refine (trip4 _ h d e n k hlt hctr).trans ?_
      by_cases hnk : n.val = k
      · rw [if_pos hnk, hnk]
        exact (congrFun e3 _).trans (h3 h d e)
      · rw [if_neg hnk]
        exact (congrFun e4 _).trans (h4 h n d e (by omega))

theorem two_parts (b : DevRef τ sig) : StableHlo.after hostOps0 W b = StableHlo.after opsS (StableHlo.after opsR W) b := by
  rw [← StableHlo.after_append, opsR, opsS, List.take_append_drop]

theorem q_kept (h : Fin 4) (n : Fin 128) (i : Fin 64) (d : Fin 128) : StableHlo.after opsS W (Proc.devRef .tc main_v67) (ix5 0 h n i d)
    = W (Proc.devRef .tc main_v67) (ix5 0 h n i d) := by
  after_reads_at

theorem gate_kept (t : Fin 8192) (j : Fin 512) : StableHlo.after hostOps0 W (Proc.devRef .tc main_v3) (ix3 0 t j)
    = W (Proc.devRef .tc main_arg3) (ix2 t j) := by
  after_reads_at

theorem ct_kept (t : Fin 8192) (j : Fin 512) : StableHlo.after hostOps0 W (Proc.devRef .tc main_arg5) (ix2 t j)
    = W (Proc.devRef .tc main_arg5) (ix2 t j) := by
  after_reads_at

end Cert.RetReferenceIdeal.Host

end

end
-- ==== Proof.RetPost.lean ====
/- The reference's lines after its loop: the group norm, the gate and their gradients, and the gradient of the queries, read at
   an index. -/
module

public import proofs.«01_k».proof.Proof.RetCarry
public import proofs.«01_k».proof.Proof.RetGrad

@[expose] public section

set_option maxRecDepth 16384

noncomputable section

open Idealize.ShloMosaic Idealize.ShloMosaic.TcCoe Idealize.SL.Sem
open scoped BigOperators

namespace Cert.Retention

/-- A host sum over a leading and a last unit axis is the initial value plus the one entry. -/
theorem reduce_ends {n k : ℕ} (h : (⟨4, ![1, n, k, 1]⟩ : Shape).ReducesTo [0, 3] ⟨2, ![n, k]⟩)
    (v : (⟨4, ![1, n, k, 1]⟩ : Shape).Idx → EReal) (z : EReal) (a : Fin n) (b : Fin k) :
    Ideal.hostReduceAdd h v z (ix2 a b) = z + v (ix4 0 a b 0) := by
  unfold Ideal.hostReduceAdd
  have hf : Finset.univ.filter (fun i => h.drop i = ix2 a b) = {(ix4 0 a b 0 : (⟨4, ![1, n, k, 1]⟩ : Shape).Idx)} := by
    ext i
    simp only [Finset.mem_filter, Finset.mem_univ, true_and, Finset.mem_singleton]
    constructor
    · intro hi
      have h1 : (i 1 : ℕ) = a := by rw [← h.drop_apply_val_of_eq i 0 1 Nat.zero_lt_two rfl, hi]; rfl
      have h2 : (i 2 : ℕ) = b := by rw [← h.drop_apply_val_of_eq i 1 2 Nat.one_lt_two rfl, hi]; rfl
      rw [eq_ix4 i]
      exact (ix4_inj ..).2 ⟨Subsingleton.elim (α := Fin 1) _ _, Fin.ext h1, Fin.ext h2, Subsingleton.elim (α := Fin 1) _ _⟩
    · rintro rfl
      funext c
      fin_cases c
      · exact Fin.ext (h.drop_apply_val_of_eq _ 0 1 Nat.zero_lt_two rfl)
      · exact Fin.ext (h.drop_apply_val_of_eq _ 1 2 Nat.one_lt_two rfl)
  rw [hf, Finset.sum_singleton]

/-- A host sum over a leading unit axis is the initial value plus the one entry. -/
theorem reduce_first {n k : ℕ} (h : (⟨3, ![1, n, k]⟩ : Shape).ReducesTo [0] ⟨2, ![n, k]⟩)
    (v : (⟨3, ![1, n, k]⟩ : Shape).Idx → EReal) (z : EReal) (a : Fin n) (b : Fin k) :
    Ideal.hostReduceAdd h v z (ix2 a b) = z + v (ix3 0 a b) := by
  unfold Ideal.hostReduceAdd
  have hf : Finset.univ.filter (fun i => h.drop i = ix2 a b) = {(ix3 0 a b : (⟨3, ![1, n, k]⟩ : Shape).Idx)} := by
    ext i
    simp only [Finset.mem_filter, Finset.mem_univ, true_and, Finset.mem_singleton]
    constructor
    · intro hi
      have h1 : (i 1 : ℕ) = a := by rw [← h.drop_apply_val_of_eq i 0 1 Nat.zero_lt_two rfl, hi]; rfl
      have h2 : (i 2 : ℕ) = b := by rw [← h.drop_apply_val_of_eq i 1 2 Nat.one_lt_two rfl, hi]; rfl
      rw [eq_ix3 i]
      exact (ix3_inj ..).2 ⟨Subsingleton.elim (α := Fin 1) _ _, Fin.ext h1, Fin.ext h2⟩
    · rintro rfl
      funext c
      fin_cases c
      · exact Fin.ext (h.drop_apply_val_of_eq _ 0 1 Nat.zero_lt_two rfl)
      · exact Fin.ext (h.drop_apply_val_of_eq _ 1 2 Nat.one_lt_two rfl)
  rw [hf, Finset.sum_singleton]

end Cert.Retention

namespace Cert.RetReferenceIdeal.Host

open Cert.RetReferenceIdeal Cert.RetReferenceIdeal.Gen Cert.RetReferenceIdeal.Value Cert.Retention

variable (W : Valuation τ sig (Elt Ideal))

/-- A head's row after the loop. -/
def rowAt (h : Fin 4) (t : Fin 8192) : Fin 128 → EReal :=
  rowOf (fun e => W (Proc.devRef .tc main_v97) (ix5 0 h ⟨t.val / 64, by omega⟩ ⟨t.val % 64, by omega⟩ e))
    (fun x => W (Proc.devRef .tc main_v67) (ix5 0 h ⟨t.val / 64, by omega⟩ ⟨t.val % 64, by omega⟩ x))
    (W (Proc.devRef .tc main_v79) (ix1 h)) (W (Proc.devRef .tc main_v80) (ix1 ⟨t.val % 64, by omega⟩))
    (fun x e => W (Proc.devRef .tc main_v116_4) (ix5 ⟨t.val / 64, by omega⟩ 0 h x e))

theorem row_normed (h : Fin 4) (t : Fin 8192) (e : Fin 128) :
    (StableHlo.after hostOps0_1 W (Proc.devRef .tc main_v155) (ix3 0 t ⟨h.val * 128 + e.val, by omega⟩) : Ideal .f32) = normed (rowAt W h t) e := by
  after_reads_at
  rfl

theorem row_centred (h : Fin 4) (t : Fin 8192) (e : Fin 128) :
    (StableHlo.after hostOps0_1 W (Proc.devRef .tc main_v146) (ix4 0 t h e) : Ideal .f32) = centredE (rowAt W h t) e := by
  after_reads_at
  rfl

theorem row_twice (h : Fin 4) (t : Fin 8192) (e : Fin 128) :
    (StableHlo.after hostOps0_1 W (Proc.devRef .tc main_v140) (ix4 0 t h e) : Ideal .f32)
      = Ideal.ofBits .f32 0x40000000#32 * centredE (rowAt W h t) e := by
  after_reads_at
  rfl

theorem row_dev (h : Fin 4) (t : Fin 8192) :
    (StableHlo.after hostOps0_1 W (Proc.devRef .tc main_v149) (ix4 0 t h 0) : Ideal .f32) = Ideal.rsqrt (spreadE (rowAt W h t)) := by
  after_reads_at
  rfl

theorem row_half (h : Fin 4) (t : Fin 8192) :
    (StableHlo.after hostOps0_1 W (Proc.devRef .tc main_v152) (ix4 0 t h 0) : Ideal .f32)
      = Ideal.ofBits .f32 0xBF000000#32 * Ideal.div (Ideal.rsqrt (spreadE (rowAt W h t))) (spreadE (rowAt W h t)) := by
  after_reads_at
  rfl

theorem gain_row (t : Fin 8192) (j : Fin 512) :
    StableHlo.after hostOps0_1 W (Proc.devRef .tc main_v156) (ix3 0 0 j) = W (Proc.devRef .tc main_arg4) (ix1 j) := by
  after_reads_at

theorem row_gained (h : Fin 4) (t : Fin 8192) (e : Fin 128) (n : EReal)
    (hn : (W (Proc.devRef .tc main_arg4) (ix1 ⟨h.val * 128 + e.val, by omega⟩) : Ideal .f32) = n) :
    (StableHlo.after hostOps0_1 W (Proc.devRef .tc main_v158) (ix3 0 t ⟨h.val * 128 + e.val, by omega⟩) : Ideal .f32) = normed (rowAt W h t) e * n := by
  rw [← hn]
  after_reads_at
  simp only [show (h.val * 128 + e.val) / 128 = h.val by omega, show (h.val * 128 + e.val) % 128 = e.val by omega, Fin.eta]
  rfl

/-- The gate's lines. -/
def opsG : Ops := List.flatten [hostOps0_2, hostOps0_3, hostOps0_4]

theorem gated (t : Fin 8192) (j : Fin 512) (c g : EReal) (hc : (W (Proc.devRef .tc main_arg5) (ix2 t j) : Ideal .f32) = c)
    (hg : (W (Proc.devRef .tc main_v3) (ix3 0 t j) : Ideal .f32) = g) :
    (StableHlo.after opsG W (Proc.devRef .tc main_v163) (ix3 0 t j) : Ideal .f32) = c * (g * Swish.sg g) := by
  rw [← Swish.sg_neg, ← hc, ← hg]
  after_reads_at

theorem gate_grad (t : Fin 8192) (j : Fin 512) (n c g : EReal) (hn : (W (Proc.devRef .tc main_v158) (ix3 0 t j) : Ideal .f32) = n)
    (hc : (W (Proc.devRef .tc main_arg5) (ix2 t j) : Ideal .f32) = c) (hg : (W (Proc.devRef .tc main_v3) (ix3 0 t j) : Ideal .f32) = g) :
    (StableHlo.after opsG W (Proc.devRef .tc main_v164) (ix3 0 t j) : Ideal .f32) = Swish.gR (n * c) g := by
  unfold Swish.gR
  rw [← Swish.sg_neg, ← hn, ← hc, ← hg]
  after_reads_at

/-- The group norm's gradient. -/
def opsA : Ops := hostOps0_5.take 42

/-- The gradient of the turned queries. -/
def opsB : Ops := (hostOps0_5.drop 42).take 12

/-- Turning it back, and the results. -/
def opsC : Ops := (hostOps0_5.drop 42).drop 12

theorem last_parts (b : DevRef τ sig) : StableHlo.after hostOps0_5 W b = StableHlo.after opsC (StableHlo.after opsB (StableHlo.after opsA W)) b := by
  rw [← StableHlo.after_append, ← StableHlo.after_append, opsA, opsB, opsC, List.take_append_drop, List.take_append_drop]

theorem norm_back (y a b : Fin 128 → EReal) (h : Fin 4) (t : Fin 8192)
    (h146 : ∀ e, (W (Proc.devRef .tc main_v146) (ix4 0 t h e) : Ideal .f32) = centredE y e)
    (h149 : (W (Proc.devRef .tc main_v149) (ix4 0 t h 0) : Ideal .f32) = Ideal.rsqrt (spreadE y))
    (h152 : (W (Proc.devRef .tc main_v152) (ix4 0 t h 0) : Ideal .f32)
      = Ideal.ofBits .f32 0xBF000000#32 * Ideal.div (Ideal.rsqrt (spreadE y)) (spreadE y))
    (h140 : ∀ e, (W (Proc.devRef .tc main_v140) (ix4 0 t h e) : Ideal .f32) = Ideal.ofBits .f32 0x40000000#32 * centredE y e)
    (ha : ∀ e : Fin 128, (W (Proc.devRef .tc main_v163) (ix3 0 t ⟨h.val * 128 + e.val, by omega⟩) : Ideal .f32) = a e)
    (hb : ∀ e : Fin 128, (W (Proc.devRef .tc main_v156) (ix3 0 0 ⟨h.val * 128 + e.val, by omega⟩) : Ideal .f32) = b e) (e : Fin 128) :
    (StableHlo.after opsA W (Proc.devRef .tc main_v197) (ix4 0 t h e) : Ideal .f32) = normR y (fun x => a x * b x) e := by
  after_reads_at
  simp only [reduce_ends]
  pointwise
  simp only [reduce_ends]
  pointwise
  simp only [zero_add, h146, h149, h152, h140, ha, hb]
  rfl

theorem turned_back (h : Fin 4) (t : Fin 8192) (r : Fin 128 → ℝ) (v κ : Fin 64 → Fin 128 → ℝ) (μ : Fin 64 → ℝ) (σ : Fin 128 → Fin 128 → ℝ) (ε : ℝ)
    (hr : ∀ e, (W (Proc.devRef .tc main_v197) (ix4 0 t h e) : Ideal .f32) = ((r e : ℝ) : EReal))
    (hv : ∀ j e, (W (Proc.devRef .tc main_v71) (ix5 0 h ⟨t.val / 64, by omega⟩ j e) : Ideal .f32) = ((v j e : ℝ) : EReal))
    (hk : ∀ j e, (W (Proc.devRef .tc main_v69) (ix5 0 h ⟨t.val / 64, by omega⟩ j e) : Ideal .f32) = ((κ j e : ℝ) : EReal))
    (hm : ∀ j, (W (Proc.devRef .tc main_v94) (ix5 0 h 0 ⟨t.val % 64, by omega⟩ j) : Ideal .f32) = ((μ j : ℝ) : EReal))
    (hs : ∀ x e, (W (Proc.devRef .tc main_v116_4) (ix5 ⟨t.val / 64, by omega⟩ 0 h x e) : Ideal .f32) = ((σ x e : ℝ) : EReal))
    (he : (W (Proc.devRef .tc main_v125) (ix5 0 h 0 ⟨t.val % 64, by omega⟩ 0) : Ideal .f32) = ((ε : ℝ) : EReal)) (d : Fin 128) :
    (StableHlo.after opsB W (Proc.devRef .tc main_v209) (ix4 0 t h d) : Ideal .f32)
      = ((∑ j, (∑ e, r e * v j e) * μ j * κ j d + (∑ e, r e * σ d e) * ε : ℝ) : EReal) := by
  rw [← dqE_coe, dqE]
  after_reads_at
  have e : (⟨t.val / 64 * 64 + t.val % 64, by omega⟩ : Fin 8192) = t := Fin.ext (by show t.val / 64 * 64 + t.val % 64 = t.val; omega)
  simp only [e, hr, hv, hk, hm, hs, he]
  exact add_comm _ _

theorem back_pads (t : ℕ) (h : Fin 4) (d : Fin 128) (u : Fin 4 → Fin 128 → EReal) (c s : Fin 64 → EReal) (f : Fin 128 → ℝ)
    (hf : ∀ d, u h d = ((f d : ℝ) : EReal)) (hc : ∀ x : Fin 64, c x = ((Real.cos (angle t x) : ℝ) : EReal))
    (hs : ∀ x : Fin 64, s x = ((Real.sin (angle t x) : ℝ) : EReal)) :
    ((if h' : (h.val * 128 + d.val) / 128 < 4 ∧ 64 ≤ (h.val * 128 + d.val) % 128 ∧ (h.val * 128 + d.val) % 128 - 64 < 64 then
          u ⟨(h.val * 128 + d.val) / 128, h'.1⟩ ⟨64 + ((h.val * 128 + d.val) % 128 - 64), by omega⟩ * c ⟨(h.val * 128 + d.val) % 128 - 64, h'.2.2⟩
            + -u ⟨(h.val * 128 + d.val) / 128, h'.1⟩ ⟨(h.val * 128 + d.val) % 128 - 64, by omega⟩ * s ⟨(h.val * 128 + d.val) % 128 - 64, h'.2.2⟩
        else 0) +
      (if h' : (h.val * 128 + d.val) / 128 < 4 ∧ (h.val * 128 + d.val) % 128 < 64 then
          u ⟨(h.val * 128 + d.val) / 128, h'.1⟩ ⟨64 + (h.val * 128 + d.val) % 128, by omega⟩ * s ⟨(h.val * 128 + d.val) % 128, h'.2⟩
            + u ⟨(h.val * 128 + d.val) / 128, h'.1⟩ ⟨(h.val * 128 + d.val) % 128, by omega⟩ * c ⟨(h.val * 128 + d.val) % 128, h'.2⟩
        else 0) : EReal) = ((back t f d : ℝ) : EReal) := by
  have h1 : (h.val * 128 + d.val) / 128 = h.val := by omega
  have h2 : (h.val * 128 + d.val) % 128 = d.val := by omega
  simp only [h1, h2, Fin.eta, hf, hc, hs]
  unfold back
  by_cases hd : d.val < 64
  · rw [dif_neg (by omega), dif_pos ⟨h.isLt, hd⟩, dif_pos hd, zero_add, add_comm, ← EReal.coe_mul, ← EReal.coe_mul, ← EReal.coe_add]
  · have e : (⟨64 + (d.val - 64), by omega⟩ : Fin 128) = d := Fin.ext (by show 64 + (d.val - 64) = d.val; omega)
    rw [dif_pos ⟨h.isLt, by omega, by omega⟩, dif_neg (by omega), dif_neg hd, e, add_zero, ← EReal.coe_neg, ← EReal.coe_mul, ← EReal.coe_mul,
      ← EReal.coe_add, neg_mul, sub_eq_add_neg]

theorem queries_back (t : Fin 8192) (h : Fin 4) (d : Fin 128) (f : Fin 128 → ℝ)
    (hf : ∀ d, (W (Proc.devRef .tc main_v209) (ix4 0 t h d) : Ideal .f32) = ((f d : ℝ) : EReal))
    (hc : ∀ x : Fin 64, (W (Proc.devRef .tc main_v18) (ix4 0 t 0 x) : Ideal .f32) = ((Real.cos (angle t x) : ℝ) : EReal))
    (hs : ∀ x : Fin 64, (W (Proc.devRef .tc main_v20) (ix4 0 t 0 x) : Ideal .f32) = ((Real.sin (angle t x) : ℝ) : EReal)) :
    (StableHlo.after opsC W (Proc.devRef .tc main_v229) (ix2 t ⟨h.val * 128 + d.val, by omega⟩) : EReal) = ((back t f d : ℝ) : EReal) := by
  after_reads_at
  refine (Fin.sum_univ_one (M := EReal) _).trans ?_
  exact back_pads t h d (fun h d => W (Proc.devRef .tc main_v209) (ix4 0 t h d)) (fun x => W (Proc.devRef .tc main_v18) (ix4 0 t 0 x))
    (fun x => W (Proc.devRef .tc main_v20) (ix4 0 t 0 x)) f hf hc hs

theorem gate_out (t : Fin 8192) (j : Fin 512) : (StableHlo.after hostOps0_5 W (Proc.devRef .tc main_v230) (ix2 t j) : EReal)
    = W (Proc.devRef .tc main_v164) (ix3 0 t j) := by
  after_reads_at
  exact Fin.sum_univ_one (M := EReal) _

/-- The lines after the norm's. -/
def opsT : Ops := List.flatten [hostOps0_2, hostOps0_3, hostOps0_4, hostOps0_5]

theorem gain_grad (j : Fin 512) :
    (StableHlo.after opsT W (Proc.devRef .tc main_v231) (ix2 0 j) : Ideal .f32)
      = (∑ t : Fin 8192, share (W (Proc.devRef .tc main_v155) (ix3 0 t j)) (W (Proc.devRef .tc main_arg5) (ix2 t j))
            (W (Proc.devRef .tc main_v3) (ix3 0 t j)) : EReal) := by
  after_reads_at
  rw [Rms.reduce_lead, zero_add]
  rfl

end Cert.RetReferenceIdeal.Host

end

end
-- ==== Proof.RetResult.lean ====
/- The reference's three results, for finite arguments. -/
module

public import proofs.«01_k».proof.Proof.RetPost

@[expose] public section

set_option maxRecDepth 16384

noncomputable section

open Idealize.ShloMosaic Idealize.ShloMosaic.TcCoe Idealize.SL.Sem
open scoped BigOperators

namespace Cert.RetReferenceIdeal.Host

open Cert.RetReferenceIdeal Cert.RetReferenceIdeal.Gen Cert.RetReferenceIdeal.Value Cert.Retention

variable (W : Valuation τ sig (Elt Ideal))

theorem cos_tab (t : Fin 8192) (x : Fin 64) :
    (StableHlo.after opsR W (Proc.devRef .tc main_v18) (ix4 0 t 0 x) : Ideal .f32) = ((Real.cos (angle t x) : ℝ) : EReal) := by
  after_reads_at
  rw [angle_eq t x (by omega) (by omega), cos_coe]

theorem sin_tab (t : Fin 8192) (x : Fin 64) :
    (StableHlo.after opsR W (Proc.devRef .tc main_v20) (ix4 0 t 0 x) : Ideal .f32) = ((Real.sin (angle t x) : ℝ) : EReal) := by
  after_reads_at
  rw [angle_eq t x (by omega) (by omega), sin_coe]

theorem near_tab (h : Fin 4) (i j : Fin 64) :
    (StableHlo.after opsS W (Proc.devRef .tc main_v94) (ix5 0 h 0 i j) : Ideal .f32) = ((near (lg h) i j : ℝ) : EReal) := by
  after_reads_at
  rw [lg_eq, sitofp_nat _ (by omega), sitofp_nat _ (by omega), abs_coe, ← EReal.coe_mul, exp_coe, near]

theorem rise_at (h : Fin 4) (i : Fin 64) (L r : ℝ) (hL : (W (Proc.devRef .tc main_v79) (ix1 h) : Ideal .f32) = ((L : ℝ) : EReal))
    (hr : (W (Proc.devRef .tc main_v80) (ix1 i) : Ideal .f32) = ((r : ℝ) : EReal)) :
    (StableHlo.after hostOps0_1 W (Proc.devRef .tc main_v125) (ix5 0 h 0 i 0) : Ideal .f32) = ((Real.exp (L * (r + 1)) : ℝ) : EReal) := by
  rw [← exp_coe, EReal.coe_mul, EReal.coe_add, EReal.coe_one, ← hL, ← hr]
  after_reads_at

theorem k_kept (h : Fin 4) (n : Fin 128) (i : Fin 64) (d : Fin 128) : StableHlo.after opsS W (Proc.devRef .tc main_v69) (ix5 0 h n i d)
    = W (Proc.devRef .tc main_v69) (ix5 0 h n i d) := by
  after_reads_at

theorem v_kept (h : Fin 4) (n : Fin 128) (i : Fin 64) (d : Fin 128) : StableHlo.after opsS W (Proc.devRef .tc main_v71) (ix5 0 h n i d)
    = W (Proc.devRef .tc main_v71) (ix5 0 h n i d) := by
  after_reads_at

theorem cos_kept (t : Fin 8192) (x : Fin 64) : StableHlo.after opsS W (Proc.devRef .tc main_v18) (ix4 0 t 0 x)
    = W (Proc.devRef .tc main_v18) (ix4 0 t 0 x) := by
  after_reads_at

theorem sin_kept (t : Fin 8192) (x : Fin 64) : StableHlo.after opsS W (Proc.devRef .tc main_v20) (ix4 0 t 0 x)
    = W (Proc.devRef .tc main_v20) (ix4 0 t 0 x) := by
  after_reads_at

theorem gain_kept (j : Fin 512) : StableHlo.after hostOps0 W (Proc.devRef .tc main_arg4) (ix1 j)
    = W (Proc.devRef .tc main_arg4) (ix1 j) := by
  after_reads_at

/-- What the group norm writes. -/
def normBufs : List (Ref sig .tc) :=
  [main_v117, main_cst_11, main_v118, main_v119, main_v120, main_v121, main_v122, main_v123, main_v124, main_v125,
    main_v126, main_v127, main_v128, main_v129, main_v130, main_v131, main_cst_12, main_v132, main_v133, main_cst_13,
    main_v134, main_v135, main_v136, main_v137, main_v138, main_cst_14, main_v139, main_v140, main_cst_15, main_v141,
    main_v142, main_cst_16, main_v143, main_v144, main_v145, main_v146, main_cst_17, main_v147, main_v148, main_v149,
    main_v150, main_cst_18, main_v151, main_v152, main_v153, main_v154, main_v155, main_v156, main_v157, main_v158]

/-- What the gate writes. -/
def gateBufs : List (Ref sig .tc) :=
  [main_call2_v0, main_call2_v1, main_call2_cst, main_call2_v2, main_call2_v3, main_call2_cst_0, main_call2_v4,
    main_v159_2, main_call2_cst_1, main_call2_v6, main_call2_v7, main_v159_1, main_v159_0, main_v160, main_v161,
    main_v162, main_v163, main_call3_v0, main_call3_v1, main_call3_v2, main_v164]

/-- What the group norm's gradient writes. -/
def backBufs : List (Ref sig .tc) :=
  [main_v165, main_cst_19, main_v166, main_v167, main_v168, main_v169, main_cst_20, main_v170, main_v171, main_v172,
    main_cst_21, main_v173, main_v174, main_v175, main_v176, main_v177, main_v178, main_cst_22, main_v179, main_v180,
    main_cst_23, main_v181, main_v182, main_cst_24, main_v183, main_v184, main_v185, main_v186, main_v187,
    main_cst_25, main_v188, main_v189, main_v190, main_v191, main_cst_26, main_v192, main_v193, main_cst_27,
    main_v194, main_v195, main_v196, main_v197]

/-- What the gradient of the turned queries writes. -/
def turnBufs : List (Ref sig .tc) :=
  [main_v198, main_v199, main_v200, main_v201, main_v202, main_v203, main_v204, main_v205, main_v206, main_v207,
    main_v208, main_v209]

theorem norm_keeps (b : Ref sig .tc) (h : b ∉ normBufs) : StableHlo.after hostOps0_1 W (Proc.devRef .tc b) = W (Proc.devRef .tc b) :=
  StableHlo.after_of_writes_sub (W := normBufs) hostOps0_1 W (StableHlo.forall_writes_sub_of_map rfl) h

theorem gate_keeps (b : Ref sig .tc) (h : b ∉ gateBufs) : StableHlo.after opsG W (Proc.devRef .tc b) = W (Proc.devRef .tc b) :=
  StableHlo.after_of_writes_sub (W := gateBufs) opsG W (StableHlo.forall_writes_sub_of_map rfl) h

theorem back_keeps (b : Ref sig .tc) (h : b ∉ backBufs) : StableHlo.after opsA W (Proc.devRef .tc b) = W (Proc.devRef .tc b) :=
  StableHlo.after_of_writes_sub (W := backBufs) opsA W (StableHlo.forall_writes_sub_of_map rfl) h

theorem turn_keeps (b : Ref sig .tc) (h : b ∉ turnBufs) : StableHlo.after opsB W (Proc.devRef .tc b) = W (Proc.devRef .tc b) :=
  StableHlo.after_of_writes_sub (W := turnBufs) opsB W (StableHlo.forall_writes_sub_of_map rfl) h

/-- What the lines after the loop read. -/
structure Ready (q k v g ct : ℕ → ℕ → ℝ) (n : ℕ → ℝ) : Prop where
  row : ∀ (h : Fin 4) (t : Fin 8192), rowAt W h t = fun e => ((kept_row q k v h t e : ℝ) : EReal)
  key : ∀ (h : Fin 4) (c : Fin 128) (i : Fin 64) (d : Fin 128),
    (W (Proc.devRef .tc main_v69) (ix5 0 h c i d) : Ideal .f32) = ((key k h (c.val * 64 + i.val) d : ℝ) : EReal)
  val : ∀ (h : Fin 4) (c : Fin 128) (i : Fin 64) (e : Fin 128),
    (W (Proc.devRef .tc main_v71) (ix5 0 h c i e) : Ideal .f32) = ((v (c.val * 64 + i.val) (h.val * 128 + e.val) : ℝ) : EReal)
  near : ∀ (h : Fin 4) (i j : Fin 64), (W (Proc.devRef .tc main_v94) (ix5 0 h 0 i j) : Ideal .f32) = ((near (lg h) i j : ℝ) : EReal)
  state : ∀ (h : Fin 4) (c : Fin 128) (d e : Fin 128), (W (Proc.devRef .tc main_v116_4) (ix5 c 0 h d e) : Ideal .f32)
    = ((state (lg h) 64 (Retention.key k h) (fun t => v t (h.val * 128 + e.val)) c d : ℝ) : EReal)
  log : ∀ h : Fin 4, (W (Proc.devRef .tc main_v79) (ix1 h) : Ideal .f32) = ((lg h : ℝ) : EReal)
  pos : ∀ i : Fin 64, (W (Proc.devRef .tc main_v80) (ix1 i) : Ideal .f32) = ((i.val : ℝ) : EReal)
  cos : ∀ (t : Fin 8192) (x : Fin 64), (W (Proc.devRef .tc main_v18) (ix4 0 t 0 x) : Ideal .f32) = ((Real.cos (angle t x) : ℝ) : EReal)
  sin : ∀ (t : Fin 8192) (x : Fin 64), (W (Proc.devRef .tc main_v20) (ix4 0 t 0 x) : Ideal .f32) = ((Real.sin (angle t x) : ℝ) : EReal)
  gate : ∀ (t : Fin 8192) (j : Fin 512), (W (Proc.devRef .tc main_v3) (ix3 0 t j) : Ideal .f32) = ((g t j : ℝ) : EReal)
  gain : ∀ j : Fin 512, (W (Proc.devRef .tc main_arg4) (ix1 j) : Ideal .f32) = ((n j : ℝ) : EReal)
  cot : ∀ (t : Fin 8192) (j : Fin 512), (W (Proc.devRef .tc main_arg5) (ix2 t j) : Ideal .f32) = ((ct t j : ℝ) : EReal)

variable (m : (ℓ : Loc nD τ sig) → Buf (Elt Ideal) ℓ) (c : Dev nD) (q k v g ct : ℕ → ℕ → ℝ) (n : ℕ → ℝ)

theorem ready
    (hq : ∀ (t : Fin 8192) (j : Fin 512), (StableHlo.launchContents m c (Proc.devRef .tc main_arg0) (ix2 t j) : Ideal .f32) = ((q t j : ℝ) : EReal))
    (hk : ∀ (t : Fin 8192) (j : Fin 512), (StableHlo.launchContents m c (Proc.devRef .tc main_arg1) (ix2 t j) : Ideal .f32) = ((k t j : ℝ) : EReal))
    (hv : ∀ (t : Fin 8192) (j : Fin 512), (StableHlo.launchContents m c (Proc.devRef .tc main_arg2) (ix2 t j) : Ideal .f32) = ((v t j : ℝ) : EReal))
    (hg : ∀ (t : Fin 8192) (j : Fin 512), (StableHlo.launchContents m c (Proc.devRef .tc main_arg3) (ix2 t j) : Ideal .f32) = ((g t j : ℝ) : EReal))
    (hn : ∀ j : Fin 512, (StableHlo.launchContents m c (Proc.devRef .tc main_arg4) (ix1 j) : Ideal .f32) = ((n j : ℝ) : EReal))
    (hc : ∀ (t : Fin 8192) (j : Fin 512), (StableHlo.launchContents m c (Proc.devRef .tc main_arg5) (ix2 t j) : Ideal .f32) = ((ct t j : ℝ) : EReal)) :
    Ready (StableHlo.after condOps (atK m 128 c)) q k v g ct n := by
  set V₀ := StableHlo.launchContents m c with hV₀
  have hen : ∀ b, StableHlo.entryContents preI m c b = StableHlo.after opsS (StableHlo.after opsR V₀) b := two_parts V₀
  have q1 := q_rot V₀ q hq
  have k1 := k_rot V₀ k hk
  have v1 := v_chunk V₀ v hv
  have ha : ∀ h : Fin 4, (StableHlo.entryContents preI m c (Proc.devRef .tc main_v116_1) (ix4 0 h 0 0) : Ideal .f32)
      = ((Real.exp (lg h * 64) : ℝ) : EReal) := fun h => (congrFun (hen _) _).trans (entry_a _ h)
  have hz : ∀ (h : Fin 4) (d e : Fin 128), (StableHlo.entryContents preI m c (Proc.devRef .tc main_v116_3) (ix4 0 h d e) : Ideal .f32)
      = ((0 : ℝ) : EReal) := fun h d e => (congrFun (hen _) _).trans (entry_s _ h d e)
  have hu : ∀ (h : Fin 4) (n : Fin 128) (d e : Fin 128),
      (StableHlo.entryContents preI m c (Proc.devRef .tc main_v116_0) (ix5 n 0 h d e) : Ideal .f32)
        = ((∑ j : Fin 64, key k h (n.val * 64 + j.val) d * Real.exp (lg h * (63 - (j.val : ℝ)))
          * v (n.val * 64 + j.val) (h.val * 128 + e.val) : ℝ) : EReal) :=
    fun h n d e => (congrFun (hen _) _).trans (entry_u _ (fun h => key k h) v k1 v1 h n d e)
  obtain ⟨-, -, -, h4⟩ := carried m c (fun h => Real.exp (lg h * 64)) (fun h n d e => ∑ j : Fin 64, key k h (n * 64 + j.val) d
    * Real.exp (lg h * (63 - (j.val : ℝ))) * v (n * 64 + j.val) (h * 128 + e.val)) ha hu hz 128 le_rfl
  have kp : ∀ b : Ref sig .tc, (b ∉ condOps_W ∧ b ∉ while0Ops0_W ∧ b ∉ while0Ops0_1_W ∧ b ∉ while0Ops0_2_W ∧ b ∉ while0Ops0_3_W) →
      StableHlo.after condOps (atK m 128 c) (Proc.devRef .tc b) = StableHlo.after hostOps0 V₀ (Proc.devRef .tc b) := fun b hb =>
    (StableHlo.after_of_writes_sub condOps _ condOps_writes hb.1).trans (kept m c b hb 128)
  have h5 : ∀ (h : Fin 4) (n : Fin 128) (d e : Fin 128),
      (StableHlo.after condOps (atK m 128 c) (Proc.devRef .tc main_v116_4) (ix5 n 0 h d e) : Ideal .f32)
        = ((state (lg h) 64 (key k h) (fun t => v t (h.val * 128 + e.val)) n d : ℝ) : EReal) := fun h n d e =>
    (congrFun (StableHlo.after_of_writes_sub condOps _ condOps_writes (by decide)) _).trans ((h4 h n d e n.isLt).trans (by
      rw [state_carry]
      norm_num))
  set X := StableHlo.after condOps (atK m 128 c) with hX
  have two : ∀ b : Ref sig .tc, (b ∉ condOps_W ∧ b ∉ while0Ops0_W ∧ b ∉ while0Ops0_1_W ∧ b ∉ while0Ops0_2_W ∧ b ∉ while0Ops0_3_W) →
      X (Proc.devRef .tc b) = StableHlo.after opsS (StableHlo.after opsR V₀) (Proc.devRef .tc b) := fun b hb =>
    (kp b hb).trans (two_parts V₀ _)
  have hl : ∀ h : Fin 4, (X (Proc.devRef .tc main_v79) (ix1 h) : Ideal .f32) = ((lg h : ℝ) : EReal) := fun h =>
    (congrFun (two main_v79 (by decide)) _).trans (log_tab _ h)
  have hp : ∀ i : Fin 64, (X (Proc.devRef .tc main_v80) (ix1 i) : Ideal .f32) = ((i.val : ℝ) : EReal) := fun i =>
    (congrFun (two main_v80 (by decide)) _).trans (row_tab _ i)
  refine ⟨fun h t => ?_, fun h c i d => (congrFun (two main_v69 (by decide)) _).trans ((k_kept _ h c i d).trans (k1 h c i d)),
    fun h c i e => (congrFun (two main_v71 (by decide)) _).trans ((v_kept _ h c i e).trans (v1 h c i e)),
    fun h i j => (congrFun (two main_v94 (by decide)) _).trans (near_tab _ h i j), h5, hl, hp,
    fun t x => (congrFun (two main_v18 (by decide)) _).trans ((cos_kept _ t x).trans (cos_tab _ t x)),
    fun t x => (congrFun (two main_v20 (by decide)) _).trans ((sin_kept _ t x).trans (sin_tab _ t x)),
    fun t j => (congrFun (kp main_v3 (by decide)) _).trans ((gate_kept V₀ t j).trans (hg t j)),
    fun j => (congrFun (kp main_arg4 (by decide)) _).trans ((gain_kept V₀ j).trans (hn j)),
    fun t j => (congrFun (kp main_arg5 (by decide)) _).trans ((ct_kept V₀ t j).trans (hc t j))⟩
  have a1 : (fun e : Fin 128 => (X (Proc.devRef .tc main_v97) (ix5 0 h ⟨t.val / 64, by omega⟩ ⟨t.val % 64, by omega⟩ e) : Ideal .f32))
      = fun e => ((∑ j : Fin 64, (∑ d, rot q h (t.val / 64 * 64 + t.val % 64) d * key k h (t.val / 64 * 64 + j.val) d)
          * near (lg h) (t.val % 64) j * v (t.val / 64 * 64 + j.val) (h.val * 128 + e.val) : ℝ) : EReal) := funext fun e =>
    (congrFun (two main_v97 (by decide)) _).trans
      (intra _ (fun h => rot q h) (fun h => key k h) v q1 k1 v1 h ⟨t.val / 64, by omega⟩ ⟨t.val % 64, by omega⟩ e)
  have a2 : (fun x : Fin 128 => (X (Proc.devRef .tc main_v67) (ix5 0 h ⟨t.val / 64, by omega⟩ ⟨t.val % 64, by omega⟩ x) : Ideal .f32))
      = fun x => ((rot q h (t.val / 64 * 64 + t.val % 64) x : ℝ) : EReal) := funext fun x =>
    (congrFun (two main_v67 (by decide)) _).trans ((q_kept _ h _ _ x).trans (q1 h _ _ x))
  have a5 : (fun x e : Fin 128 => (X (Proc.devRef .tc main_v116_4) (ix5 ⟨t.val / 64, by omega⟩ 0 h x e) : Ideal .f32))
      = fun x e => ((state (lg h) 64 (key k h) (fun t => v t (h.val * 128 + e.val)) (t.val / 64) x : ℝ) : EReal) :=
    funext fun x => funext fun e => h5 h _ x e
  refine (congr (congr (congr (congr (congrArg rowOf a1) a2) (hl h)) (hp _)) a5).trans ?_
  exact rowOf_coe _ _ _ _ _

variable {W} {q k v g ct n}

/-- The gradient of the gain. -/
theorem gain_of (R : Ready W q k v g ct n) (h : Fin 4) (e : Fin 128) :
    (StableHlo.afterL postI W (Proc.devRef .tc main_v231) (ix2 0 ⟨h.val * 128 + e.val, by omega⟩) : Ideal .f32)
      = (∑ t : Fin 8192, share (normed (fun x => ((kept_row q k v h t x : ℝ) : EReal)) e) ((ct t (h.val * 128 + e.val) : ℝ) : EReal)
          ((g t (h.val * 128 + e.val) : ℝ) : EReal) : EReal) := by
  refine Eq.trans (gain_grad (StableHlo.after hostOps0_1 W) ⟨h.val * 128 + e.val, by omega⟩) ?_
  refine Finset.sum_congr (M := EReal) rfl fun t _ => ?_
  rw [row_normed, R.row, norm_keeps _ main_arg5 (by decide),
    norm_keeps _ main_v3 (by decide), R.cot, R.gate]

/-- The gradient of the gate. -/
theorem gate_of (R : Ready W q k v g ct n) (h : Fin 4) (t : Fin 8192) (e : Fin 128) :
    (StableHlo.afterL postI W (Proc.devRef .tc main_v230) (ix2 t ⟨h.val * 128 + e.val, by omega⟩) : EReal)
      = Swish.gR (normed (fun x => ((kept_row q k v h t x : ℝ) : EReal)) e * ((n (h.val * 128 + e.val) : ℝ) : EReal)
          * ((ct t (h.val * 128 + e.val) : ℝ) : EReal)) ((g t (h.val * 128 + e.val) : ℝ) : EReal) := by
  refine Eq.trans (gate_out (StableHlo.after opsG (StableHlo.after hostOps0_1 W)) t _) ?_
  refine gate_grad _ t _ _ _ _ ?_ ?_ ?_
  · rw [row_gained W h t e _ (R.gain _), R.row]
  · rw [norm_keeps _ main_arg5 (by decide), R.cot]
  · rw [norm_keeps _ main_v3 (by decide), R.gate]

/-- The gradient of the queries. -/
theorem queries_of (R : Ready W q k v g ct n) (h : Fin 4) (t : Fin 8192) (d : Fin 128) :
    (StableHlo.afterL postI W (Proc.devRef .tc main_v229) (ix2 t ⟨h.val * 128 + d.val, by omega⟩) : EReal)
      = ((grad_q q k v g ct n h t d : ℝ) : EReal) := by
  have hy := R.row h t
  have keep : ∀ b : Ref sig .tc, b ∉ normBufs ∧ b ∉ gateBufs →
      StableHlo.after opsG (StableHlo.after hostOps0_1 W) (Proc.devRef .tc b) = W (Proc.devRef .tc b) := fun b hb =>
    (gate_keeps _ b hb.2).trans (norm_keeps _ b hb.1)
  have keep₂ : ∀ b : Ref sig .tc, b ∉ normBufs ∧ b ∉ gateBufs ∧ b ∉ backBufs →
      StableHlo.after opsA (StableHlo.after opsG (StableHlo.after hostOps0_1 W)) (Proc.devRef .tc b) = W (Proc.devRef .tc b) := fun b hb =>
    (back_keeps _ b hb.2.2).trans (keep b ⟨hb.1, hb.2.1⟩)
  have keep₃ : ∀ b : Ref sig .tc, b ∉ normBufs ∧ b ∉ gateBufs ∧ b ∉ backBufs ∧ b ∉ turnBufs →
      StableHlo.after opsB (StableHlo.after opsA (StableHlo.after opsG (StableHlo.after hostOps0_1 W))) (Proc.devRef .tc b)
        = W (Proc.devRef .tc b) := fun b hb =>
    (turn_keeps _ b hb.2.2.2).trans (keep₂ b ⟨hb.1, hb.2.1, hb.2.2.1⟩)
  have hN : ∀ e : Fin 128, (StableHlo.after opsA (StableHlo.after opsG (StableHlo.after hostOps0_1 W)) (Proc.devRef .tc main_v197) (ix4 0 t h e) : Ideal .f32)
      = ((own q k v g ct n h t e : ℝ) : EReal) := fun e => by
    refine (norm_back _ (fun e => ((kept_row q k v h t e : ℝ) : EReal))
      (fun x => ((ct t (h.val * 128 + x.val) : ℝ) : EReal) * (((g t (h.val * 128 + x.val) : ℝ) : EReal) * Swish.sg ((g t (h.val * 128 + x.val) : ℝ) : EReal)))
      (fun x => ((n (h.val * 128 + x.val) : ℝ) : EReal)) h t (fun e => ?_) ?_ ?_ (fun e => ?_) (fun e => ?_) (fun e => ?_) e).trans ?_
    · exact (congrFun (gate_keeps _ main_v146 (by decide)) _).trans ((row_centred W h t e).trans (by rw [hy]))
    · exact (congrFun (gate_keeps _ main_v149 (by decide)) _).trans ((row_dev W h t).trans (by rw [hy]))
    · exact (congrFun (gate_keeps _ main_v152 (by decide)) _).trans ((row_half W h t).trans (by rw [hy]))
    · exact (congrFun (gate_keeps _ main_v140 (by decide)) _).trans ((row_twice W h t e).trans (by rw [hy]))
    · exact gated _ t _ _ _ ((congrFun (norm_keeps _ main_arg5 (by decide)) _).trans (R.cot t ⟨h.val * 128 + e.val, by omega⟩))
        ((congrFun (norm_keeps _ main_v3 (by decide)) _).trans (R.gate t ⟨h.val * 128 + e.val, by omega⟩))
    · exact (congrFun (gate_keeps _ main_v156 (by decide)) _).trans
        ((gain_row W t ⟨h.val * 128 + e.val, by omega⟩).trans (R.gain ⟨h.val * 128 + e.val, by omega⟩))
    · refine Eq.trans (congrArg (fun z => normR _ z e) (funext fun x => ?_)) (normR_coe (kept_row q k v h t) (upper g ct n h t) e)
      rw [sg_eq, ← EReal.coe_mul, ← EReal.coe_mul, ← EReal.coe_mul]
      refine congrArg _ ?_
      unfold upper
      ring
  refine Eq.trans (congrFun (last_parts (StableHlo.after opsG (StableHlo.after hostOps0_1 W)) (Proc.devRef .tc main_v229)) _) ?_
  refine queries_back _ t h d (fun d => dq (lg h) 64 (near (lg h)) (Retention.key k h) (fun t e => v t (h.val * 128 + e.val))
    (own q k v g ct n h t) (t.val / 64) (t.val % 64) d) (fun d => ?_) (fun x => ?_) (fun x => ?_)
  · refine turned_back _ h t _ (fun j e => v (t.val / 64 * 64 + j.val) (h.val * 128 + e.val)) (fun j e => Retention.key k h (t.val / 64 * 64 + j.val) e)
      (fun j => Retention.near (lg h) (t.val % 64) j)
      (fun x e => Retention.state (lg h) 64 (Retention.key k h) (fun t => v t (h.val * 128 + e.val)) (t.val / 64) x)
      (Real.exp (lg h * (((t.val % 64 : ℕ) : ℝ) + 1))) hN (fun j e => ?_) (fun j e => ?_) (fun j => ?_) (fun x e => ?_) ?_ d
    · exact (congrFun (keep₂ main_v71 (by decide)) _).trans (R.val h ⟨t.val / 64, by omega⟩ j e)
    · exact (congrFun (keep₂ main_v69 (by decide)) _).trans (R.key h ⟨t.val / 64, by omega⟩ j e)
    · exact (congrFun (keep₂ main_v94 (by decide)) _).trans (R.near h ⟨t.val % 64, by omega⟩ j)
    · exact (congrFun (keep₂ main_v116_4 (by decide)) _).trans (R.state h ⟨t.val / 64, by omega⟩ x e)
    · exact (congrFun ((back_keeps _ main_v125 (by decide)).trans (gate_keeps _ main_v125 (by decide))) _).trans
        (rise_at W h ⟨t.val % 64, by omega⟩ _ _ (R.log h) (R.pos _))
  · exact (congrFun (keep₃ main_v18 (by decide)) _).trans (R.cos t x)
  · exact (congrFun (keep₃ main_v20 (by decide)) _).trans (R.sin t x)

end Cert.RetReferenceIdeal.Host

end

end
-- ==== Proof.RetClaim.lean ====
/- The value claim of the retention gradient call: the gradients of the queries, of the gate and of the group norm's gain, where the
   arguments are finite; and what a run of either program leaves. -/
module

public import proofs.«01_k».proof.Defs
public import proofs.«01_k».proof.Proof.RetHeads
public import proofs.«01_k».proof.Proof.RetResult
public import Idealize.ShloMosaic.Lib.Claim

@[expose] public section

set_option maxRecDepth 16384

noncomputable section

open Idealize.ShloMosaic Idealize.ShloMosaic.TcCoe Idealize.SL.Sem
open scoped BigOperators

namespace Cert.RetKernelIdeal.Value

open Cert.RetKernelIdeal Cert.RetKernelIdeal.Gen Cert.Retention

variable (m : (ℓ : Loc nD τ sig) → Buf (Elt Ideal) ℓ)

/-- A sum over the points, last rows first, and a tile's rows is the sum over all the rows. -/
theorem sum_points (f : Fin 8192 → EReal) : ∑ t : Fin cfg0.N, ∑ a : Fin 256, f (row t a) = ∑ r, f r := by
  rw [Fin.sum_univ_tiles 32 256 rfl f]
  refine Eq.trans ?_ (Equiv.sum_comp (Fin.revPerm (n := 32)) (fun n : Fin 32 => ∑ a : Fin 256, f ⟨n.val * 256 + a.val, by omega⟩))
  refine Finset.sum_congr rfl fun t _ => Finset.sum_congr rfl fun a _ => congrArg f (Fin.ext ?_)
  show (31 - t.val) * 256 + a.val = (32 - (t.val + 1)) * 256 + a.val
  congr 2
  omega

/-- The gradient of the gain as the call leaves it. -/
theorem gain {m} {c : Dev nD} {q k v g ct : ℕ → ℕ → ℝ} {n : ℕ → ℝ} (A : Args m c q k v g ct n) (h : Fin 4) (e : Fin 128) :
    ((dats m 0 c).arrAt 16 cfg0.N (ix2 0 (col h e)) : EReal)
      = ∑ t : Fin 8192, share (normed (fun x : Fin 128 => ((kept_row q k v h t x : ℝ) : EReal)) e)
            ((ct t (h.val * 128 + e.val) : ℝ) : EReal) ((g t (h.val * 128 + e.val) : ℝ) : EReal) := by
  refine (final_16 m c h e).trans (Eq.trans (Finset.sum_congr (M := EReal) rfl fun t _ => ?_) (sum_points (fun t : Fin 8192 =>
    share (normed (fun x : Fin 128 => ((kept_row q k v h t x : ℝ) : EReal)) e)
      ((ct t (h.val * 128 + e.val) : ℝ) : EReal) ((g t (h.val * 128 + e.val) : ℝ) : EReal))))
  rw [added]
  refine Finset.sum_congr (M := EReal) rfl fun a _ => ?_
  rw [ct_blk A t h a e, gate_blk A t h a e]
  exact congrArg (fun r => share (normed r e) _ _) (funext fun x => raw_blk A t h a x)

/-- The returned slices of the wide result. -/
theorem tail_q (W : Valuation τ sig (Elt Ideal)) (t : Fin 8192) (j : Fin 512) :
    StableHlo.after (List.flatten [hostOps1]) W (Proc.devRef .tc main_v237) (ix2 t j)
      = W (Proc.devRef .tc main_v236_0) (ix2 t ⟨1024 + j.val, by omega⟩) := by
  show StableHlo.after hostOps1 W (Proc.devRef .tc main_v237) (ix2 t j) = _
  after_reads_at

theorem tail_g (W : Valuation τ sig (Elt Ideal)) (t : Fin 8192) (j : Fin 512) :
    StableHlo.after (List.flatten [hostOps1]) W (Proc.devRef .tc main_v238) (ix2 t j)
      = W (Proc.devRef .tc main_v236_0) (ix2 t ⟨2560 + j.val, by omega⟩) := by
  show StableHlo.after hostOps1 W (Proc.devRef .tc main_v238) (ix2 t j) = _
  after_reads_at

/-- What the launch leaves of a buffer outside it. -/
abbrev left (c : Dev nD) (b : Ref sig .tc) : Buf (Elt Ideal) ((c : Thread nD τ).loc b) :=
  Pipeline.afterTail₀ cfgs (dats m) 0 (V0 m) [hostOps1] c b

variable {m}

theorem left_q {c : Dev nD} {q k v g ct : ℕ → ℕ → ℝ} {n : ℕ → ℝ} (A : Args m c q k v g ct n) (t : Fin cfg0.N) (h : Fin 4) (a : Fin 256) (d : Fin 128) :
    (left m c main_v237 (ix2 (row t a) (col h d)) : Ideal .bf16) = ((grad_q q k v g ct n h (row t a) d : ℝ) : EReal) := by
  unfold left Pipeline.afterTail₀
  refine (tail_q _ (row t a) (col h d)).trans ((congrFun ((dats m 0 c).withArrays_arrAt sharedIn0 (V0 m c) (A_eq m c) 15) _).trans ((tile t a _).trans ?_))
  by_cases hp : t.val % 32 = 0
  · exact queryA A t h hp a d
  · exact queryB A t h hp a d

theorem left_g {c : Dev nD} {q k v g ct : ℕ → ℕ → ℝ} {n : ℕ → ℝ} (A : Args m c q k v g ct n) (t : Fin cfg0.N) (h : Fin 4) (a : Fin 256) (e : Fin 128) :
    (left m c main_v238 (ix2 (row t a) (col h e)) : Ideal .bf16)
      = Swish.gR (normed (fun x => ((kept_row q k v h (row t a) x : ℝ) : EReal)) e * ((n (h.val * 128 + e.val) : ℝ) : EReal)
        * ((ct (row t a) (h.val * 128 + e.val) : ℝ) : EReal)) ((g (row t a) (h.val * 128 + e.val) : ℝ) : EReal) := by
  unfold left Pipeline.afterTail₀
  refine (tail_g _ (row t a) (col h e)).trans ((congrFun ((dats m 0 c).withArrays_arrAt sharedIn0 (V0 m c) (A_eq m c) 15) _).trans ((tile t a _).trans ?_))
  by_cases hp : t.val % 32 = 0
  · exact gateA A t h hp a e
  · exact gateB A t h hp a e

/-- Every row belongs to a tile. -/
theorem row_of (r : Fin 8192) : ∃ (t : Fin cfg0.N) (a : Fin 256), r = row t a := by
  refine ⟨⟨31 - r.val / 256, show _ < 32 by omega⟩, ⟨r.val % 256, by omega⟩, Fin.ext ?_⟩
  show r.val = (31 - (31 - r.val / 256)) * 256 + r.val % 256
  omega

variable (m)

/-- What a run leaves: the three gradients, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v237) = left m c main_v237
      ∧ r.2.mem ((c : Thread nD τ).loc main_v238) = left m c main_v238
      ∧ r.2.mem ((c : Thread nD τ).loc main_v236_1) = (dats m 0 c).arrAt 16 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
    ⟨(h c).2 main_v237 (Pipeline.mem_restRefs_of main_v237 (by decide) (by decide)), (h c).2 main_v238 (Pipeline.mem_restRefs_of main_v238 (by decide) (by decide)), (h c).1 16,
      ((h c).2 main_arg0 (Pipeline.mem_restRefs_of main_arg0 (by decide) (by decide))).trans (W_main_arg0 m (dats m) c), ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c), ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c), ((h c).2 main_arg5 (Pipeline.mem_restRefs_of main_arg5 (by decide) (by decide))).trans (W_main_arg5 m (dats m) c)⟩)
    (run_main m ρ)

end Cert.RetKernelIdeal.Value

namespace Cert.RetReferenceIdeal.Host

open Cert.RetReferenceIdeal Cert.RetReferenceIdeal.Gen Cert.RetReferenceIdeal.Value

variable (W : Valuation τ sig (Elt Ideal)) (m : (ℓ : Loc nD τ sig) → Buf (Elt Ideal) ℓ) (ρ : Dev nD → PrngReg)

theorem post_keeps : StableHlo.afterL postI W (Proc.devRef .tc main_arg0) = W (Proc.devRef .tc main_arg0)
    ∧ StableHlo.afterL postI W (Proc.devRef .tc main_arg1) = W (Proc.devRef .tc main_arg1)
    ∧ StableHlo.afterL postI W (Proc.devRef .tc main_arg2) = W (Proc.devRef .tc main_arg2)
    ∧ StableHlo.afterL postI W (Proc.devRef .tc main_arg3) = W (Proc.devRef .tc main_arg3)
    ∧ StableHlo.afterL postI W (Proc.devRef .tc main_arg4) = W (Proc.devRef .tc main_arg4)
    ∧ StableHlo.afterL postI W (Proc.devRef .tc main_arg5) = W (Proc.devRef .tc main_arg5) := by
  simp only [StableHlo.afterL_cons, StableHlo.afterL_nil]
  refine ⟨?_, ?_, ?_, ?_, ?_, ?_⟩ <;> (funext i; after_reads_at)

theorem arg_kept (c : Dev nD) (b : Ref sig .tc) (hp : ∀ W : Valuation τ sig (Elt Ideal), StableHlo.afterL postI W (Proc.devRef .tc b) = W (Proc.devRef .tc b))
    (h : b ∉ condOps_W ∧ b ∉ while0Ops0_W ∧ b ∉ while0Ops0_1_W ∧ b ∉ while0Ops0_2_W ∧ b ∉ while0Ops0_3_W) (h0 : b ∉ hostOps0_W) :
    StableHlo.finalContents condOps preI bodyI postI 128 m c (Proc.devRef .tc b) = m ((c : Thread nD τ).loc b) :=
  (hp _).trans ((StableHlo.after_of_writes_sub condOps _ condOps_writes h.1).trans ((kept m c b h 128).trans
    (StableHlo.after_of_writes_sub hostOps0 _ hostOps0_writes h0)))

/-- What a run leaves: the three gradients, and the arguments as they were. -/
theorem run : θ_run defs (onTc (τ := τ) (main (F := Ideal))) ⟨m, fun _ => 0, ρ⟩ fun r => ∀ c : Dev nD,
      r.2.mem ((c : Thread nD τ).loc main_v229) = StableHlo.finalContents condOps preI bodyI postI 128 m c (Proc.devRef .tc main_v229)
      ∧ r.2.mem ((c : Thread nD τ).loc main_v230) = StableHlo.finalContents condOps preI bodyI postI 128 m c (Proc.devRef .tc main_v230)
      ∧ r.2.mem ((c : Thread nD τ).loc main_v231) = StableHlo.finalContents condOps preI bodyI postI 128 m c (Proc.devRef .tc main_v231)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨h c main_v229 (by decide), h c main_v230 (by decide), h c main_v231 (by decide),
      (h c main_arg0 (by decide)).trans (arg_kept m c _ (fun W => (post_keeps W).1) (by decide) (by decide)),
      (h c main_arg1 (by decide)).trans (arg_kept m c _ (fun W => (post_keeps W).2.1) (by decide) (by decide)),
      (h c main_arg2 (by decide)).trans (arg_kept m c _ (fun W => (post_keeps W).2.2.1) (by decide) (by decide)),
      (h c main_arg3 (by decide)).trans (arg_kept m c _ (fun W => (post_keeps W).2.2.2.1) (by decide) (by decide)),
      (h c main_arg4 (by decide)).trans (arg_kept m c _ (fun W => (post_keeps W).2.2.2.2.1) (by decide) (by decide)),
      (h c main_arg5 (by decide)).trans (arg_kept m c _ (fun W => (post_keeps W).2.2.2.2.2) (by decide) (by decide))⟩)
    (run_fold m ρ)

end Cert.RetReferenceIdeal.Host

namespace Cert.RetClaim

open Cert.Swish Cert.Retention

/-- The predicate's shape relations hold. -/
theorem facts : Cert.Pre_ret_finite.Facts := ⟨by decide, by decide⟩

/-- The word of infinity, as an extended real. -/
theorem top_word : Ideal.ofBits .f32 0x7F800000#32 = ⊤ := by simp [Ideal.ofBits, Ideal.ieee]

/-- An array whose absolute values compare below infinity everywhere is one of reals. -/
theorem reals_of_lt (x v : FVec Ideal Cert.RetKernelIdeal.S8192x512 .f32) (hv : ∀ i, (v i : EReal) = ⊤)
    (h : cmpf .olt (Host.absf x) v = fun _ => 1#1) : ∃ f : ℕ → ℕ → ℝ, ∀ (t : Fin 8192) (j : Fin 512), (x (ix2 t j) : EReal) = ((f t j : ℝ) : EReal) := by
  have hr : ∀ i, Real' (x i) := fun i => by
    refine real_of_abs ?_
    by_contra hn
    have e : Ideal.cmp .olt (max (x i : EReal) (-(x i : EReal))) (v i) = 1#1 := congrFun h i
    rw [hv, Ideal.cmp] at e
    simp [hn] at e
  choose f hf using hr
  refine ⟨fun t j => f (ix2 (Fin.ofNat 8192 t) (Fin.ofNat 512 j)), fun t j => ?_⟩
  have h1 : Fin.ofNat 8192 t.val = t := Fin.ext (Nat.mod_eq_of_lt t.isLt)
  have h2 : Fin.ofNat 512 j.val = j := Fin.ext (Nat.mod_eq_of_lt j.isLt)
  show _ = ((f (ix2 (Fin.ofNat 8192 t.val) (Fin.ofNat 512 j.val)) : ℝ) : EReal)
  rw [h1, h2]
  exact hf _

/-- The same of a row. -/
theorem reals_of_lt' (x v : FVec Ideal Cert.RetKernelIdeal.S512 .f32) (hv : ∀ i, (v i : EReal) = ⊤)
    (h : cmpf .olt (Host.absf x) v = fun _ => 1#1) : ∃ f : ℕ → ℝ, ∀ j : Fin 512, (x (ix1 j) : EReal) = ((f j : ℝ) : EReal) := by
  have hr : ∀ i, Real' (x i) := fun i => by
    refine real_of_abs ?_
    by_contra hn
    have e : Ideal.cmp .olt (max (x i : EReal) (-(x i : EReal))) (v i) = 1#1 := congrFun h i
    rw [hv, Ideal.cmp] at e
    simp [hn] at e
  choose f hf using hr
  refine ⟨fun j => f (ix1 (Fin.ofNat 512 j)), fun j => ?_⟩
  have h2 : Fin.ofNat 512 j.val = j := Fin.ext (Nat.mod_eq_of_lt j.isLt)
  show _ = ((f (ix1 (Fin.ofNat 512 j.val)) : ℝ) : EReal)
  rw [h2]
  exact hf _

/-- A column is a head's. -/
theorem col_of (j : Fin 512) : ∃ (h : Fin 4) (e : Fin 128), j = Cert.RetKernelIdeal.Value.col h e := by
  refine ⟨⟨j.val / 128, by omega⟩, ⟨j.val % 128, by omega⟩, Fin.ext ?_⟩
  show j.val = j.val / 128 * 128 + j.val % 128
  omega

/-- An entry of an array of rows, by tile, row in the tile, head and column of the head. -/
theorem entry_of (i : Cert.RetKernelIdeal.S8192x512.Idx) : ∃ (t : Fin Cert.RetKernelIdeal.cfg0.N) (a : Fin 256) (h : Fin 4) (e : Fin 128),
    i = ix2 (Cert.RetKernelIdeal.Value.row t a) (Cert.RetKernelIdeal.Value.col h e) := by
  obtain ⟨t, a, ht⟩ := Cert.RetKernelIdeal.Value.row_of (i 0)
  obtain ⟨h, e, hj⟩ := col_of (i 1)
  exact ⟨t, a, h, e, (eq_ix2 i).trans (congrArg₂ ix2 ht hj)⟩

set_option maxHeartbeats 4000000 in
theorem algebraic : Cert.algebraic_RetKernelIdeal_RetReferenceIdeal_pre_ret_finite
    (hRetKernelIdeal := Cert.RetKernelIdeal.Gen.facts) (hRetReferenceIdeal := Cert.RetReferenceIdeal.Gen.facts)
    (hPre_ret_finite := facts) := by
  intro m g m' g' hp hm
  refine ⟨fun c => Cert.RetKernelIdeal.Value.left m c Cert.RetKernelIdeal.main_v237, fun c => Cert.RetKernelIdeal.Value.left m c Cert.RetKernelIdeal.main_v238,
    fun c => (Cert.RetKernelIdeal.Gen.dats m 0 c).arrAt 16 Cert.RetKernelIdeal.cfg0.N, Cert.RetKernelIdeal.Value.run m g, ?_⟩
  refine (θ_run Cert.RetReferenceIdeal.defs _ _).mono (fun r h c => ?_) (Cert.RetReferenceIdeal.Host.run m' g')
  obtain ⟨r0, r1, r2, ha⟩ := h c
  obtain ⟨e0, e1, e2, e3, e4, e5⟩ := hm c
  obtain ⟨p0, p1, p2, p3, p4, p5⟩ := hp c
  obtain ⟨q, hq⟩ := reals_of_lt _ _ (fun _ => top_word) p0
  obtain ⟨k, hk⟩ := reals_of_lt _ _ (fun _ => top_word) p1
  obtain ⟨v, hv⟩ := reals_of_lt _ _ (fun _ => top_word) p2
  obtain ⟨z, hz⟩ := reals_of_lt _ _ (fun _ => top_word) p3
  obtain ⟨n, hn⟩ := reals_of_lt' _ _ (fun _ => top_word) p4
  obtain ⟨ct, hc⟩ := reals_of_lt _ _ (fun _ => top_word) p5
  have A : Cert.RetKernelIdeal.Value.Args m c q k v z ct n := ⟨hq, hk, hv, hz, hn, hc⟩
  have R := Cert.RetReferenceIdeal.Host.ready m' c q k v z ct n (fun t j => (congrFun e0 _).trans (hq t j)) (fun t j => (congrFun e1 _).trans (hk t j))
    (fun t j => (congrFun e2 _).trans (hv t j)) (fun t j => (congrFun e3 _).trans (hz t j)) (fun j => (congrFun e4 _).trans (hn j))
    (fun t j => (congrFun e5 _).trans (hc t j))
  refine ⟨r0.trans ?_, r1.trans ?_, r2.trans ?_, ha⟩
  · funext i
    obtain ⟨t, a, h, e, rfl⟩ := entry_of i
    exact (Cert.RetReferenceIdeal.Host.queries_of R h (Cert.RetKernelIdeal.Value.row t a) e).trans (Cert.RetKernelIdeal.Value.left_q A t h a e).symm
  · funext i
    obtain ⟨t, a, h, e, rfl⟩ := entry_of i
    exact (Cert.RetReferenceIdeal.Host.gate_of R h (Cert.RetKernelIdeal.Value.row t a) e).trans (Cert.RetKernelIdeal.Value.left_g A t h a e).symm
  · funext i
    obtain ⟨h, e, hj⟩ := col_of (i 1)
    obtain rfl : i = ix2 0 (Cert.RetKernelIdeal.Value.col h e) :=
      (eq_ix2 i).trans (congrArg₂ ix2 (Subsingleton.elim (α := Fin 1) _ _) hj)
    exact (Cert.RetReferenceIdeal.Host.gain_of R h e).trans (Cert.RetKernelIdeal.Value.gain A h e).symm

end Cert.RetClaim

end

end
-- ==== Proof.FmlpPure.lean ====
/- The forward feed-forward block with its norm, one row at a time: what the kernel's body stores in a tile and what the
   reference's operations compute, read at an index, as functions of the rows of the arguments. -/
module

public import proofs.«01_k».proof.Proof.Swish
public import proofs.«01_k».proof.Proof.Gen.FmlpKernelIdeal.Skeleton
public import proofs.«01_k».proof.Proof.Gen.FmlpReferenceIdeal.Read
public import Idealize.ShloMosaic.Lib.Pointwise

@[expose] public section

set_option maxRecDepth 16384

noncomputable section

open Idealize.ShloMosaic Idealize.ShloMosaic.TcCoe Idealize.SL.Sem
open scoped BigOperators

namespace Cert.FmlpRow
open Cert.Rms Cert.Swish

/-- A row of the norm's output: the row of its input under the row's scale and the gain. -/
def normed (xm gain : Fin 1024 → EReal) (k : Fin 1024) : EReal := xm k * r xm * gain k

/-- A row of a projection of the norm's output. -/
def proj (h : Fin 1024 → EReal) (w : Fin 2816 → Fin 1024 → EReal) (j : Fin 2816) : EReal := ∑ k, h k * w j k

/-- The gated product of two projections' rows. -/
def gated (gate up : Fin 2816 → EReal) (j : Fin 2816) : EReal := gate j * sg (gate j) * up j

/-- A row of the block's output: its input and what the down projection adds. -/
def out (xm : Fin 1024 → EReal) (act : Fin 2816 → EReal) (w : Fin 2816 → Fin 1024 → EReal) (l : Fin 1024) : EReal := xm l + ∑ j, act j * w j l

end Cert.FmlpRow

namespace Cert.FmlpKernelIdeal.Pure
open Cert.FmlpKernelIdeal Cert.FmlpKernelIdeal.Gen Cert.FmlpRow Cert.Swish

variable (x0 : Vec Ideal S512x1024 .f32) (x1 : Vec Ideal S512x1024 .bf16) (x2 : Vec Ideal S8x128x1024 .bf16) (x3 : Vec Ideal S1x1024 .f32)
  (x4 x5 x6 : Vec Ideal S8x352x1024 .bf16)

/-- The norm's input in the tile's layout of the output projection. -/
def xm (a : Fin 512) (l : Fin 1024) : EReal := x0 (ix2 a l) + ∑ p : Fin 1024, x1 (ix2 a p) * x2 (ix3 ⟨p.val / 128, by omega⟩ ⟨p.val % 128, by omega⟩ l)

/-- A weight's rows in the tile's layout. -/
def wt (x : Vec Ideal S8x352x1024 .bf16) (j : Fin 2816) (l : Fin 1024) : EReal := x (ix3 ⟨j.val / 352, by omega⟩ ⟨j.val % 352, by omega⟩ l)

abbrev h2 (a : Fin 512) : Fin 1024 → EReal := normed (xm x0 x1 x2 a) fun k => x3 (ix2 0 k)
abbrev gate (a : Fin 512) : Fin 2816 → EReal := proj (h2 x0 x1 x2 x3 a) (wt x4)
abbrev up (a : Fin 512) : Fin 2816 → EReal := proj (h2 x0 x1 x2 x3 a) (wt x5)
abbrev act (a : Fin 512) : Fin 2816 → EReal := gated (gate x0 x1 x2 x3 x4 a) (up x0 x1 x2 x3 x5 a)

theorem pay6 (a : Fin 512) (l : Fin 1024) : k0_pay6 (F := Ideal) x0 x1 x2 (ix2 a l) = xm x0 x1 x2 a l := by
  pointwise [k0_pay6]
  rfl

theorem pay7 (a : Fin 512) (l : Fin 1024) : k0_pay7 (F := Ideal) x0 x1 x2 x3 (ix2 a l) = h2 x0 x1 x2 x3 a l := by
  pointwise [k0_pay7]
  simp only [pay6]
  rfl

theorem pay8 (a : Fin 512) (j : Fin 2816) : k0_pay8 (F := Ideal) x0 x1 x2 x3 x4 (ix2 a j) = gate x0 x1 x2 x3 x4 a j := by
  pointwise [k0_pay8]
  simp only [pay7]
  rfl

theorem pay2 (a : Fin 512) (j : Fin 2816) : k0_pay2 (F := Ideal) (k0_pay8 x0 x1 x2 x3 x4) (ix2 a j) = gate x0 x1 x2 x3 x4 a j := by
  pointwise [k0_pay2]
  exact pay8 ..

theorem pay1 (a : Fin 512) (j : Fin 2816) :
    k0_pay1 (F := Ideal) (k0_pay7 x0 x1 x2 x3) (k0_pay9 x5) (constant S512x2816 .f32 0x00000000#32) (ix2 a j) = up x0 x1 x2 x3 x5 a j := by
  pointwise [k0_pay1, k0_pay9]
  simp only [pay7]
  rfl

theorem pay3 (a : Fin 512) (j : Fin 2816) :
    k0_pay3 (F := Ideal) (k0_pay7 x0 x1 x2 x3) (k0_pay9 x5) (constant S512x2816 .f32 0x00000000#32) (ix2 a j) = up x0 x1 x2 x3 x5 a j := by
  pointwise [k0_pay3]
  exact pay1 ..

theorem pay4 (a : Fin 512) (j : Fin 2816) :
    k0_pay4 (F := Ideal) (k0_pay7 x0 x1 x2 x3) (k0_pay8 x0 x1 x2 x3 x4) (k0_pay9 x5) (constant S512x2816 .f32 0x00000000#32) (ix2 a j)
      = act x0 x1 x2 x3 x4 x5 a j := by
  pointwise [k0_pay4]
  simp only [pay8, pay1]
  rfl

theorem pay5 (a : Fin 512) (l : Fin 1024) :
    k0_pay5 (F := Ideal) (k0_pay6 x0 x1 x2) (k0_pay7 x0 x1 x2 x3) (k0_pay8 x0 x1 x2 x3 x4) (k0_pay9 x5)
      (constant S512x2816 .f32 0x00000000#32) x6 (ix2 a l)
      = out (xm x0 x1 x2 a) (act x0 x1 x2 x3 x4 x5 a) (wt x6) l := by
  pointwise [k0_pay5]
  simp only [pay6, pay4]
  rfl

end Cert.FmlpKernelIdeal.Pure

namespace Cert.FmlpReferenceIdeal.Pure
open Cert.FmlpReferenceIdeal Cert.FmlpReferenceIdeal.Gen Cert.FmlpReferenceIdeal.Read Cert.Rms Cert.FmlpRow Cert.Swish

variable (x0 x1 : FVec Ideal S8192x1024 .f32) (x2 : FVec Ideal S1024x1024 .f32) (x3 : FVec Ideal S1024 .f32) (x4 x5 : FVec Ideal S1024x2816 .f32)
  (x6 : FVec Ideal S2816x1024 .f32)

/-- The rows of the norm's input. -/
def xm (a : Fin 8192) (k : Fin 1024) : EReal := x0 (ix2 a k) + ∑ p : Fin 1024, x1 (ix2 a p) * x2 (ix2 p k)

abbrev h2 (a : Fin 8192) : Fin 1024 → EReal := normed (xm x0 x1 x2 a) fun k => x3 (ix1 k)
abbrev gate (a : Fin 8192) : Fin 2816 → EReal := proj (h2 x0 x1 x2 x3 a) fun j l => x4 (ix2 l j)
abbrev act (a : Fin 8192) : Fin 2816 → EReal := gated (gate x0 x1 x2 x3 x4 a) (gate x0 x1 x2 x3 x5 a)

theorem v1 (a : Fin 8192) (k : Fin 1024) : val_main_v1 (F := Ideal) x0 x1 x2 (ix2 a k) = xm x0 x1 x2 a k := by
  pointwise [val_main_v1, val_main_v0]
  rfl

theorem v9 (a : Fin 8192) : val_main_v9 (F := Ideal) x0 x1 x2 (ix2 a 0) = r (xm x0 x1 x2 a) := by
  pointwise [val_main_v9, val_main_v8, val_main_v7, val_main_v6, val_main_v5, val_main_v4, val_main_v3, val_main_v2, val_main_cst,
    val_main_cst_0, val_main_cst_1]
  simp only [v1, zero_add]
  rfl

theorem v14 (a : Fin 8192) (k : Fin 1024) : val_main_v14 (F := Ideal) x0 x1 x2 x3 (ix2 a k) = h2 x0 x1 x2 x3 a k := by
  pointwise [val_main_v14, val_main_v13, val_main_v12, val_main_v11, val_main_v10]
  simp only [v1, v9]
  rfl

theorem v15 (a : Fin 8192) (j : Fin 2816) : val_main_v15 (F := Ideal) x0 x1 x2 x3 x4 (ix2 a j) = gate x0 x1 x2 x3 x4 a j := by
  pointwise [val_main_v15]
  simp only [v14]
  rfl

theorem v16 (a : Fin 8192) (j : Fin 2816) : val_main_v16 (F := Ideal) x0 x1 x2 x3 x5 (ix2 a j) = gate x0 x1 x2 x3 x5 a j := by
  pointwise [val_main_v16]
  simp only [v14]
  rfl

theorem v18 (a : Fin 8192) (j : Fin 2816) : val_main_v18 (F := Ideal) x0 x1 x2 x3 x4 x5 (ix2 a j) = act x0 x1 x2 x3 x4 x5 a j := by
  pointwise [val_main_v18, val_main_v17, val_main_call0_v5, val_main_call0_v4, val_main_call0_v3, val_main_call0_v2, val_main_call0_v1,
    val_main_call0_v0, val_main_call0_cst, val_main_call0_cst_0]
  simp only [v15, v16, sg_neg]
  rfl

theorem v24 (a : Fin 8192) (l : Fin 1024) : val_main_v24 (F := Ideal) x0 x1 x2 x3 x4 x5 x6 (ix2 a l)
    = out (xm x0 x1 x2 a) (act x0 x1 x2 x3 x4 x5 a) (fun j l => x6 (ix2 j l)) l := by
  pointwise [val_main_v24, val_main_v23]
  simp only [v1, v18]
  rfl

end Cert.FmlpReferenceIdeal.Pure

end

end
-- ==== Proof.FmlpValue.lean ====
/- The forward feed-forward call: its six output arrays after the run, as the reference's terms over the arguments. -/
module

public import proofs.«01_k».proof.Proof.FmlpPure
public import proofs.«01_k».proof.Proof.Gen.FmlpKernelIdeal.Value
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open scoped BigOperators

namespace Cert.FmlpKernelIdeal.Value

open Cert.FmlpKernelIdeal Cert.FmlpKernelIdeal.Gen Cert.FmlpRow

variable (m : (ℓ : Loc nD τ sig) → Buf (Elt Ideal) ℓ)

theorem idx_val : ∀ t : Fin cfg0.N, win0_0.index t = ![t.val, 0]
    ∧ win0_1.index t = ![t.val, 0]
    ∧ win0_2.index t = ![0, 0, 0]
    ∧ win0_3.index t = ![0, 0]
    ∧ win0_4.index t = ![0, 1, 0]
    ∧ win0_5.index t = ![0, 2, 0]
    ∧ win0_6.index t = ![0, 0, 0]
    ∧ win0_7.index t = ![t.val, 0]
    ∧ win0_8.index t = ![t.val, 0]
    ∧ win0_9.index t = ![t.val, 0]
    ∧ win0_10.index t = ![t.val, 0]
    ∧ win0_11.index t = ![t.val, 0]
    ∧ win0_12.index t = ![t.val, 0] :=
  (by decide +kernel : ∀ t : Fin grid0.N, _)

theorem row_lt (t : Fin cfg0.N) (a : Fin 512) : t.val * 512 + a.val < 8192 := by
  have := t.isLt; have := a.isLt; have : cfg0.N = 16 := N_0; omega

/-- The row of the arrays that a tile's row holds. -/
abbrev row (t : Fin cfg0.N) (a : Fin 512) : Fin 8192 := ⟨t.val * 512 + a.val, row_lt t a⟩

abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)

theorem blk0 (c : Dev nD) (t : Fin cfg0.N) (a : Fin 512) (k : Fin 1024) : iblk m c 0 t (ix2 a k) = A0 m c (ix2 (row t a) k) := by
  blk_simp [iblk, idx_val t]; entry_read
  pointwise
  blk_ext [idx_val t]

theorem V10 (c : Dev nD) (r : Fin 8192) (k : Fin 1024) : V m c main_v10 (ix2 r k) = A1 m c (ix2 r k) := by
  unfold V; simp only [hostOps0, hostOps0_1, hostOps0_2, List.flatten_cons, List.flatten_nil, List.append_nil, List.cons_append, List.nil_append]
  after_reads_at

theorem V9 (c : Dev nD) (p : Fin 8) (b : Fin 352) (k : Fin 1024) :
    V m c main_v9 (ix3 p b k) = A6 m c (ix2 ⟨p.val * 352 + b.val, by omega⟩ k) := by
  unfold V; simp only [hostOps0, hostOps0_1, hostOps0_2, List.flatten_cons, List.flatten_nil, List.append_nil, List.cons_append, List.nil_append]
  after_reads_at

theorem V7_0 (c : Dev nD) (p : Fin 8) (b : Fin 128) (k : Fin 1024) :
    V m c main_v7 (ix3 p ⟨b.val, by omega⟩ k) = A2 m c (ix2 ⟨p.val * 128 + b.val, by omega⟩ k) := by
  unfold V; simp only [hostOps0, hostOps0_1, hostOps0_2, List.flatten_cons, List.flatten_nil, List.append_nil, List.cons_append, List.nil_append]
  after_reads_at
  after_reads_at
  rw [dif_pos (by omega)]

theorem V7_1 (c : Dev nD) (p : Fin 8) (b : Fin 352) (k : Fin 1024) :
    V m c main_v7 (ix3 p ⟨352 + b.val, by omega⟩ k) = A4 m c (ix2 k ⟨p.val * 352 + b.val, by omega⟩) := by
  unfold V; simp only [hostOps0, hostOps0_1, hostOps0_2, List.flatten_cons, List.flatten_nil, List.append_nil, List.cons_append, List.nil_append]
  after_reads_at
  after_reads_at

theorem V7_2 (c : Dev nD) (p : Fin 8) (b : Fin 352) (k : Fin 1024) :
    V m c main_v7 (ix3 p ⟨704 + b.val, by omega⟩ k) = A5 m c (ix2 k ⟨p.val * 352 + b.val, by omega⟩) := by
  unfold V; simp only [hostOps0, hostOps0_1, hostOps0_2, List.flatten_cons, List.flatten_nil, List.append_nil, List.cons_append, List.nil_append]
  after_reads_at
  after_reads_at
  rw [dif_neg (by omega), dif_neg (by omega)]
  congr 2
  exact Fin.ext (by dsimp only; omega)

theorem V11 (c : Dev nD) (k : Fin 1024) : V m c main_v11 (ix2 0 k) = A3 m c (ix1 k) := by
  unfold V; simp only [hostOps0, hostOps0_1, hostOps0_2, List.flatten_cons, List.flatten_nil, List.append_nil, List.cons_append, List.nil_append]
  after_reads_at

theorem blk1 (c : Dev nD) (t : Fin cfg0.N) (a : Fin 512) (k : Fin 1024) : iblk m c 1 t (ix2 a k) = A1 m c (ix2 (row t a) k) := by
  refine Eq.trans ?_ (V10 m c _ _)
  blk_simp [iblk, idx_val t]
  blk_ext [idx_val t]

theorem blk3 (c : Dev nD) (t : Fin cfg0.N) (k : Fin 1024) : iblk m c 3 t (ix2 0 k) = A3 m c (ix1 k) := by
  refine Eq.trans ?_ (V11 m c k)
  blk_simp [iblk, idx_val t]
  blk_ext [idx_val t]

theorem blk4 (c : Dev nD) (t : Fin cfg0.N) (j : Fin 2816) (k : Fin 1024) :
    iblk m c 4 t (ix3 ⟨j.val / 352, by omega⟩ ⟨j.val % 352, by omega⟩ k) = A4 m c (ix2 k j) := by
  refine Eq.trans ?_ ((V7_1 m c ⟨j.val / 352, by omega⟩ ⟨j.val % 352, by omega⟩ k).trans ?_)
  · blk_simp [iblk, idx_val t]
    blk_ext [idx_val t]
  · congr 2; exact Fin.ext (Nat.div_add_mod' ..)

theorem blk5 (c : Dev nD) (t : Fin cfg0.N) (j : Fin 2816) (k : Fin 1024) :
    iblk m c 5 t (ix3 ⟨j.val / 352, by omega⟩ ⟨j.val % 352, by omega⟩ k) = A5 m c (ix2 k j) := by
  refine Eq.trans ?_ ((V7_2 m c ⟨j.val / 352, by omega⟩ ⟨j.val % 352, by omega⟩ k).trans ?_)
  · blk_simp [iblk, idx_val t]
    blk_ext [idx_val t]
  · congr 2; exact Fin.ext (Nat.div_add_mod' ..)

theorem blk6 (c : Dev nD) (t : Fin cfg0.N) (j : Fin 2816) (k : Fin 1024) :
    iblk m c 6 t (ix3 ⟨j.val / 352, by omega⟩ ⟨j.val % 352, by omega⟩ k) = A6 m c (ix2 j k) := by
  refine Eq.trans ?_ ((V9 m c ⟨j.val / 352, by omega⟩ ⟨j.val % 352, by omega⟩ k).trans ?_)
  · blk_simp [iblk, idx_val t]
    blk_ext [idx_val t]
  · congr 2; exact Fin.ext (Nat.div_add_mod' ..)

theorem blk2 (c : Dev nD) (t : Fin cfg0.N) (j : Fin 1024) (k : Fin 1024) :
    X0_2 m c t (ix3 ⟨j.val / 128, by omega⟩ ⟨j.val % 128, by omega⟩ k) = A2 m c (ix2 j k) := by
  refine Eq.trans ?_ ((V7_0 m c ⟨j.val / 128, by omega⟩ ⟨j.val % 128, by omega⟩ k).trans ?_)
  · unfold X0_2
    rw [Pipeline.Window.fill, dif_pos (moved0_2 _ _)]
    blk_simp [iblk, idx_val t]
    blk_ext [idx_val t]
  · congr 2; exact Fin.ext (Nat.div_add_mod' ..)

/-- The three weights of a point's tile are the arguments. -/
theorem wts (c : Dev nD) (t : Fin cfg0.N) : Pure.wt (iblk m c 4 t) = (fun j l => A4 m c (ix2 l j))
    ∧ Pure.wt (iblk m c 5 t) = (fun j l => A5 m c (ix2 l j)) ∧ Pure.wt (iblk m c 6 t) = (fun j l => A6 m c (ix2 j l)) :=
  ⟨funext fun j => funext fun l => blk4 m c t j l, funext fun j => funext fun l => blk5 m c t j l,
    funext fun j => funext fun l => blk6 m c t j l⟩

/-- The rows of a point's tile of the norm's input are the reference's. -/
theorem xm_rows (c : Dev nD) (t : Fin cfg0.N) (a : Fin 512) : Pure.xm (iblk m c 0 t) (iblk m c 1 t) (X0_2 m c t) a
    = Cert.FmlpReferenceIdeal.Pure.xm (A0 m c) (A1 m c) (A2 m c) (row t a) := by
  funext l
  exact congrArg₂ (· + ·) (blk0 m c t a l) (Finset.sum_congr rfl fun p _ => congrArg₂ (· * ·) (blk1 m c t a p) (blk2 m c t p l))

theorem h2_rows (c : Dev nD) (t : Fin cfg0.N) (a : Fin 512) : Pure.h2 (iblk m c 0 t) (iblk m c 1 t) (X0_2 m c t) (iblk m c 3 t) a
    = Cert.FmlpReferenceIdeal.Pure.h2 (A0 m c) (A1 m c) (A2 m c) (A3 m c) (row t a) := by
  unfold Pure.h2
  rw [xm_rows, funext fun k => blk3 m c t k]

theorem gate_rows (c : Dev nD) (t : Fin cfg0.N) (a : Fin 512) :
    Pure.gate (iblk m c 0 t) (iblk m c 1 t) (X0_2 m c t) (iblk m c 3 t) (iblk m c 4 t) a
    = Cert.FmlpReferenceIdeal.Pure.gate (A0 m c) (A1 m c) (A2 m c) (A3 m c) (A4 m c) (row t a) := by
  unfold Pure.gate
  rw [h2_rows, (wts m c t).1]

theorem up_rows (c : Dev nD) (t : Fin cfg0.N) (a : Fin 512) :
    Pure.up (iblk m c 0 t) (iblk m c 1 t) (X0_2 m c t) (iblk m c 3 t) (iblk m c 5 t) a
    = Cert.FmlpReferenceIdeal.Pure.gate (A0 m c) (A1 m c) (A2 m c) (A3 m c) (A5 m c) (row t a) := by
  unfold Pure.up
  rw [h2_rows, (wts m c t).2.1]

theorem act_rows (c : Dev nD) (t : Fin cfg0.N) (a : Fin 512) :
    Pure.act (iblk m c 0 t) (iblk m c 1 t) (X0_2 m c t) (iblk m c 3 t) (iblk m c 4 t) (iblk m c 5 t) a
    = Cert.FmlpReferenceIdeal.Pure.act (A0 m c) (A1 m c) (A2 m c) (A3 m c) (A4 m c) (A5 m c) (row t a) := by
  unfold Pure.act
  rw [gate_rows, up_rows]

theorem final_7 (c : Dev nD) : (dats m 0 c).arrAt 7 (cfgs 0).N
    = Cert.FmlpReferenceIdeal.Read.val_main_v1 (F := Ideal) (A0 m c) (A1 m c) (A2 m c) := by
  refine (dats m 0 c).arrAt_eq_of_covers 7 _ (by decide +kernel) fun t hc y => ?_
  blk_simp; rw [after0_7]
  obtain ⟨a, k, rfl⟩ : ∃ a k, y = ix2 a k := ⟨y 0, y 1, eq_ix2 y⟩
  have hv : (outsAt0 m c t).1 (ix2 a k) = Pure.xm (iblk m c 0 t) (iblk m c 1 t) (X0_2 m c t) a k := by
    unfold outsAt0; frame_out; exact Pure.pay6 ..
  rw [hv, xm_rows]
  refine (Cert.FmlpReferenceIdeal.Pure.v1 (A0 m c) (A1 m c) (A2 m c) (row t a) k).symm.trans ?_
  congr 1
  blk_ext [idx_val t]

theorem final_8 (c : Dev nD) : (dats m 0 c).arrAt 8 (cfgs 0).N
    = Cert.FmlpReferenceIdeal.Read.val_main_v19 (F := Ideal) (A0 m c) (A1 m c) (A2 m c) (A3 m c) := by
  refine (dats m 0 c).arrAt_eq_of_covers 8 _ (by decide +kernel) fun t hc y => ?_
  blk_simp; rw [after0_8]
  obtain ⟨a, k, rfl⟩ : ∃ a k, y = ix2 a k := ⟨y 0, y 1, eq_ix2 y⟩
  have hv : (outsAt0 m c t).2.1 (ix2 a k) = Pure.h2 (iblk m c 0 t) (iblk m c 1 t) (X0_2 m c t) (iblk m c 3 t) a k := by
    unfold outsAt0; frame_out; exact Pure.pay7 ..
  rw [hv, h2_rows]
  refine (Cert.FmlpReferenceIdeal.Pure.v14 (A0 m c) (A1 m c) (A2 m c) (A3 m c) (row t a) k).symm.trans ?_
  pointwise [Cert.FmlpReferenceIdeal.Read.val_main_v19]
  congr 1
  blk_ext [idx_val t]

set_option maxHeartbeats 2000000 in
theorem final_9 (c : Dev nD) : (dats m 0 c).arrAt 9 (cfgs 0).N
    = Cert.FmlpReferenceIdeal.Read.val_main_v20 (F := Ideal) (A0 m c) (A1 m c) (A2 m c) (A3 m c) (A4 m c) := by
  refine (dats m 0 c).arrAt_eq_of_covers 9 _ (by decide +kernel) fun t hc y => ?_
  blk_simp; rw [after0_9]
  obtain ⟨a, k, rfl⟩ : ∃ a k, y = ix2 a k := ⟨y 0, y 1, eq_ix2 y⟩
  have hv : (outsAt0 m c t).2.2.1 (ix2 a k) = Pure.gate (iblk m c 0 t) (iblk m c 1 t) (X0_2 m c t) (iblk m c 3 t) (iblk m c 4 t) a k := by
    unfold outsAt0; frame_out; exact Pure.pay2 ..
  rw [hv, gate_rows]
  refine (Cert.FmlpReferenceIdeal.Pure.v15 (A0 m c) (A1 m c) (A2 m c) (A3 m c) (A4 m c) (row t a) k).symm.trans ?_
  pointwise [Cert.FmlpReferenceIdeal.Read.val_main_v20]
  congr 1
  blk_ext [idx_val t]

set_option maxHeartbeats 2000000 in
theorem final_10 (c : Dev nD) : (dats m 0 c).arrAt 10 (cfgs 0).N
    = Cert.FmlpReferenceIdeal.Read.val_main_v21 (F := Ideal) (A0 m c) (A1 m c) (A2 m c) (A3 m c) (A5 m c) := by
  refine (dats m 0 c).arrAt_eq_of_covers 10 _ (by decide +kernel) fun t hc y => ?_
  blk_simp; rw [after0_10]
  obtain ⟨a, k, rfl⟩ : ∃ a k, y = ix2 a k := ⟨y 0, y 1, eq_ix2 y⟩
  have hv : (outsAt0 m c t).2.2.2.1 (ix2 a k) = Pure.up (iblk m c 0 t) (iblk m c 1 t) (X0_2 m c t) (iblk m c 3 t) (iblk m c 5 t) a k := by
    unfold outsAt0; frame_out; exact Pure.pay3 ..
  rw [hv, up_rows]
  refine (Cert.FmlpReferenceIdeal.Pure.v16 (A0 m c) (A1 m c) (A2 m c) (A3 m c) (A5 m c) (row t a) k).symm.trans ?_
  pointwise [Cert.FmlpReferenceIdeal.Read.val_main_v21]
  congr 1
  blk_ext [idx_val t]

set_option maxHeartbeats 2000000 in
theorem final_11 (c : Dev nD) : (dats m 0 c).arrAt 11 (cfgs 0).N
    = Cert.FmlpReferenceIdeal.Read.val_main_v22 (F := Ideal) (A0 m c) (A1 m c) (A2 m c) (A3 m c) (A4 m c) (A5 m c) := by
  refine (dats m 0 c).arrAt_eq_of_covers 11 _ (by decide +kernel) fun t hc y => ?_
  blk_simp; rw [after0_11]
  obtain ⟨a, k, rfl⟩ : ∃ a k, y = ix2 a k := ⟨y 0, y 1, eq_ix2 y⟩
  have hv : (outsAt0 m c t).2.2.2.2.1 (ix2 a k) = Pure.act (iblk m c 0 t) (iblk m c 1 t) (X0_2 m c t) (iblk m c 3 t) (iblk m c 4 t) (iblk m c 5 t) a k := by
    unfold outsAt0; frame_out; exact Pure.pay4 ..
  rw [hv, act_rows]
  refine (Cert.FmlpReferenceIdeal.Pure.v18 (A0 m c) (A1 m c) (A2 m c) (A3 m c) (A4 m c) (A5 m c) (row t a) k).symm.trans ?_
  pointwise [Cert.FmlpReferenceIdeal.Read.val_main_v22]
  congr 1
  blk_ext [idx_val t]

set_option maxHeartbeats 2000000 in
theorem final_12 (c : Dev nD) : (dats m 0 c).arrAt 12 (cfgs 0).N
    = Cert.FmlpReferenceIdeal.Read.val_main_v24 (F := Ideal) (A0 m c) (A1 m c) (A2 m c) (A3 m c) (A4 m c) (A5 m c) (A6 m c) := by
  refine (dats m 0 c).arrAt_eq_of_covers 12 _ (by decide +kernel) fun t hc y => ?_
  blk_simp; rw [after0_12]
  obtain ⟨a, k, rfl⟩ : ∃ a k, y = ix2 a k := ⟨y 0, y 1, eq_ix2 y⟩
  have hv : (outsAt0 m c t).2.2.2.2.2 (ix2 a k) = out (Pure.xm (iblk m c 0 t) (iblk m c 1 t) (X0_2 m c t) a) (Pure.act (iblk m c 0 t) (iblk m c 1 t) (X0_2 m c t) (iblk m c 3 t) (iblk m c 4 t) (iblk m c 5 t) a) (Pure.wt (iblk m c 6 t)) k := by
    unfold outsAt0; frame_out; exact Pure.pay5 ..
  rw [hv, xm_rows, act_rows, (wts m c t).2.2]
  refine (Cert.FmlpReferenceIdeal.Pure.v24 (A0 m c) (A1 m c) (A2 m c) (A3 m c) (A4 m c) (A5 m c) (A6 m c) (row t a) k).symm.trans ?_
  congr 1
  blk_ext [idx_val t]

end Cert.FmlpKernelIdeal.Value

end

end
-- ==== Proof.FmlpClaim.lean ====
/- The value claim of the forward feed-forward call: the kernel's six results are the reference's, whatever the arguments. -/
module

public import proofs.«01_k».proof.Defs
public import proofs.«01_k».proof.Proof.FmlpValue
public import proofs.«01_k».proof.Proof.Gen.FmlpReferenceIdeal.Run
public import Idealize.ShloMosaic.Lib.Claim

@[expose] public section

set_option maxRecDepth 16384

noncomputable section

namespace Cert.FmlpClaim

open Idealize.ShloMosaic Idealize.ShloMosaic.TcCoe Idealize.SL.Sem Cert.FmlpReferenceIdeal.Read

set_option maxHeartbeats 2000000 in
theorem algebraic : Cert.algebraic_FmlpKernelIdeal_FmlpReferenceIdeal
    (hFmlpKernelIdeal := Cert.FmlpKernelIdeal.Gen.facts) (hFmlpReferenceIdeal := Cert.FmlpReferenceIdeal.Gen.facts) := by
  intro m g m' g' _ hm
  refine ⟨fun c => (Cert.FmlpKernelIdeal.Gen.dats m 0 c).arrAt 7 Cert.FmlpKernelIdeal.cfg0.N,
    fun c => (Cert.FmlpKernelIdeal.Gen.dats m 0 c).arrAt 8 Cert.FmlpKernelIdeal.cfg0.N,
    fun c => (Cert.FmlpKernelIdeal.Gen.dats m 0 c).arrAt 9 Cert.FmlpKernelIdeal.cfg0.N,
    fun c => (Cert.FmlpKernelIdeal.Gen.dats m 0 c).arrAt 10 Cert.FmlpKernelIdeal.cfg0.N,
    fun c => (Cert.FmlpKernelIdeal.Gen.dats m 0 c).arrAt 11 Cert.FmlpKernelIdeal.cfg0.N,
    fun c => (Cert.FmlpKernelIdeal.Gen.dats m 0 c).arrAt 12 Cert.FmlpKernelIdeal.cfg0.N,
    Cert.FmlpKernelIdeal.Value.run_blocks m g, ?_⟩
  refine (θ_run Cert.FmlpReferenceIdeal.defs _ _).mono (fun r h c => ?_) (Cert.FmlpReferenceIdeal.Value.run (F := Ideal) m' g')
  obtain ⟨h7, h8, h9, h10, h11, h12, k⟩ := h c
  obtain ⟨e0, e1, e2, e3, e4, e5, e6⟩ := hm c
  refine ⟨?_, ?_, ?_, ?_, ?_, ?_, k⟩
  · refine h7.trans ((val_main_v1_eq _ _ _).trans ?_)
    simp only [e0, e1, e2]
    exact (Cert.FmlpKernelIdeal.Value.final_7 m c).symm
  · refine h8.trans ((val_main_v19_eq _ _ _ _).trans ?_)
    simp only [e0, e1, e2, e3]
    exact (Cert.FmlpKernelIdeal.Value.final_8 m c).symm
  · refine h9.trans ((val_main_v20_eq _ _ _ _ _).trans ?_)
    simp only [e0, e1, e2, e3, e4]
    exact (Cert.FmlpKernelIdeal.Value.final_9 m c).symm
  · refine h10.trans ((val_main_v21_eq _ _ _ _ _).trans ?_)
    simp only [e0, e1, e2, e3, e5]
    exact (Cert.FmlpKernelIdeal.Value.final_10 m c).symm
  · refine (h11.trans (val_main_v22_eq m' c)).trans ?_
    simp only [e0, e1, e2, e3, e4, e5]
    exact (Cert.FmlpKernelIdeal.Value.final_11 m c).symm
  · refine (h12.trans (val_main_v24_eq m' c)).trans ?_
    simp only [e0, e1, e2, e3, e4, e5, e6]
    exact (Cert.FmlpKernelIdeal.Value.final_12 m c).symm

end Cert.FmlpClaim

end

end
-- ==== Proof.FretFrame.lean ====
/- The reference of the forward retention call: whatever the arguments, a run leaves them as they were. -/
module

public import proofs.«01_k».proof.Proof.Gen.FretReferenceIdeal.Run
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem

namespace Cert.FretReferenceIdeal.Host

open Cert.FretReferenceIdeal Cert.FretReferenceIdeal.Gen Cert.FretReferenceIdeal.Value

variable (W : Valuation τ sig (Elt Ideal)) (m : (ℓ : Loc nD τ sig) → Buf (Elt Ideal) ℓ) (ρ : Dev nD → PrngReg) (c : Dev nD)

/-- The buffers that no operation of the loop writes. -/
abbrev Outside (b : Ref sig .tc) : Prop :=
  b ∉ condOps_W ∧ b ∉ while0Ops0_W ∧ b ∉ while0Ops0_1_W ∧ b ∉ while0Ops0_2_W ∧ b ∉ while0Ops0_3_W

theorem trip_keeps (b : Ref sig .tc) (h : Outside b) :
    StableHlo.afterL bodyI (StableHlo.after condOps W) (Proc.devRef .tc b) = W (Proc.devRef .tc b) := by
  simp only [StableHlo.afterL_cons, StableHlo.afterL_nil]
  rw [StableHlo.after_of_writes_sub while0Ops0_3 _ while0Ops0_3_writes h.2.2.2.2,
    StableHlo.after_of_writes_sub while0Ops0_2 _ while0Ops0_2_writes h.2.2.2.1,
    StableHlo.after_of_writes_sub while0Ops0_1 _ while0Ops0_1_writes h.2.2.1,
    StableHlo.after_of_writes_sub while0Ops0 _ while0Ops0_writes h.2.1,
    StableHlo.after_of_writes_sub condOps _ condOps_writes h.1]

theorem kept (b : Ref sig .tc) (h : Outside b) : ∀ k, atK m k c (Proc.devRef .tc b) = StableHlo.entryContents preI m c (Proc.devRef .tc b)
  | 0 => rfl
  | k + 1 => (trip_keeps (atK m k c) b h).trans (kept b h k)

theorem post_keeps : StableHlo.afterL postI W (Proc.devRef .tc main_arg0) = W (Proc.devRef .tc main_arg0)
    ∧ StableHlo.afterL postI W (Proc.devRef .tc main_arg1) = W (Proc.devRef .tc main_arg1)
    ∧ StableHlo.afterL postI W (Proc.devRef .tc main_arg2) = W (Proc.devRef .tc main_arg2)
    ∧ StableHlo.afterL postI W (Proc.devRef .tc main_arg3) = W (Proc.devRef .tc main_arg3)
    ∧ StableHlo.afterL postI W (Proc.devRef .tc main_arg4) = W (Proc.devRef .tc main_arg4)
    ∧ StableHlo.afterL postI W (Proc.devRef .tc main_arg5) = W (Proc.devRef .tc main_arg5) := by
  simp only [StableHlo.afterL_cons, StableHlo.afterL_nil]
  refine ⟨?_, ?_, ?_, ?_, ?_, ?_⟩ <;> (funext i; after_reads_at)

theorem arg_kept (b : Ref sig .tc) (hp : ∀ W : Valuation τ sig (Elt Ideal), StableHlo.afterL postI W (Proc.devRef .tc b) = W (Proc.devRef .tc b))
    (h : Outside b) (h0 : b ∉ hostOps0_W) :
    StableHlo.finalContents condOps preI bodyI postI 128 m c (Proc.devRef .tc b) = m ((c : Thread nD τ).loc b) :=
  (hp _).trans ((StableHlo.after_of_writes_sub condOps _ condOps_writes h.1).trans ((kept m c b h 128).trans
    (StableHlo.after_of_writes_sub hostOps0 _ hostOps0_writes h0)))

/-- What a run leaves of the arguments. -/
theorem run : θ_run defs (onTc (τ := τ) (main (F := Ideal))) ⟨m, fun _ => 0, ρ⟩ fun r => ∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨
      (h c main_arg0 (by decide)).trans (arg_kept m c _ (fun W => (post_keeps W).1) (by decide) (by decide)),
      (h c main_arg1 (by decide)).trans (arg_kept m c _ (fun W => (post_keeps W).2.1) (by decide) (by decide)),
      (h c main_arg2 (by decide)).trans (arg_kept m c _ (fun W => (post_keeps W).2.2.1) (by decide) (by decide)),
      (h c main_arg3 (by decide)).trans (arg_kept m c _ (fun W => (post_keeps W).2.2.2.1) (by decide) (by decide)),
      (h c main_arg4 (by decide)).trans (arg_kept m c _ (fun W => (post_keeps W).2.2.2.2.1) (by decide) (by decide)),
      (h c main_arg5 (by decide)).trans (arg_kept m c _ (fun W => (post_keeps W).2.2.2.2.2) (by decide) (by decide))⟩)
    (run_fold m ρ)

end Cert.FretReferenceIdeal.Host

end

end
-- ==== Proof.AdamwPure.lean ====
/- The optimiser's step, one entry at a time: what the kernel's body stores at an entry of a tile and what the reference's
   operations compute there, as functions of the entries of the weight, its gradient and the two moments. -/
module

public import proofs.«01_k».proof.Proof.Gen.AdamwKernelIdeal.Skeleton
public import proofs.«01_k».proof.Proof.Gen.AdamwReferenceIdeal.Read
public import Idealize.ShloMosaic.Lib.Pointwise

@[expose] public section

set_option maxRecDepth 16384

noncomputable section

open Idealize.ShloMosaic Idealize.ShloMosaic.TcCoe Idealize.SL.Sem

/-! ## An entry's functions -/

namespace Cert.AdamwEntry

/-- The new first moment: 0.9 of the old and 0.1 of the gradient. -/
def first (g m : EReal) : EReal := Ideal.ofBits .f32 0x3F666666#32 * m + Ideal.ofBits .f32 0x3DCCCCCD#32 * g

/-- The new second moment: 0.999 of the old and 0.001 of the gradient's square. -/
def second (g v : EReal) : EReal := Ideal.ofBits .f32 0x3F7FBE77#32 * v + Ideal.ofBits .f32 0x3A83126F#32 * (g * g)

/-- The weight's change: the corrected first moment over the root of the corrected second, and the decay, times the rate. -/
def delta (w g m v : EReal) : EReal := Ideal.ofBits .f32 0xBA83126F#32
  * (Ideal.div (Ideal.div (first g m) (Ideal.ofBits .f32 0x3F26BD02#32))
      (Ideal.sqrt (Ideal.div (second g v) (Ideal.ofBits .f32 0x3C231ACC#32)) + Ideal.ofBits .f32 0x322BCC77#32)
    + Ideal.ofBits .f32 0x3C23D70A#32 * w)

end Cert.AdamwEntry

/-! ## The kernel's tile -/

namespace Cert.AdamwKernelIdeal.Pure
open Cert.AdamwKernelIdeal Cert.AdamwKernelIdeal.Gen Cert.AdamwEntry

variable (w g m v : FVec Ideal S512x384 .f32) (a : Fin 512) (k : Fin 384)

theorem pay2 : k0_pay2 (F := Ideal) g m (ix2 a k) = first (g (ix2 a k)) (m (ix2 a k)) := by
  pointwise [k0_pay2, k0_pay1]
  rfl

theorem pay3 : k0_pay3 (F := Ideal) g v (ix2 a k) = second (g (ix2 a k)) (v (ix2 a k)) := by
  pointwise [k0_pay3, k0_pay1]
  rfl

theorem pay4 : k0_pay4 (F := Ideal) g m v w (ix2 a k) = delta (w (ix2 a k)) (g (ix2 a k)) (m (ix2 a k)) (v (ix2 a k)) := by
  pointwise [k0_pay4, k0_pay3, k0_pay2, k0_pay1]
  rfl

end Cert.AdamwKernelIdeal.Pure

/-! ## The reference's operations -/

namespace Cert.AdamwReferenceIdeal.Pure
open Cert.AdamwReferenceIdeal Cert.AdamwReferenceIdeal.Read Cert.AdamwEntry

variable (w g m v : FVec Ideal S4x1024x384 .f32) (r : Fin 4096) (k : Fin 384)

/-- The entry of the weight that a row and column of the flat arrays hold. -/
abbrev src : S4x1024x384.Idx := ix3 ⟨r.val / 1024, by omega⟩ ⟨r.val % 1024, by omega⟩ k

theorem src_eq (i : S4x1024x384.Idx) (h0 : (i 0).val = (r.val * 384 + k.val) / 393216)
    (h1 : (i 1).val = (r.val * 384 + k.val) / 384 % 1024) (h2 : (i 2).val = (r.val * 384 + k.val) % 384) : i = src r k := by
  funext d
  match d with
  | ⟨0, _⟩ => exact Fin.ext (h0.trans (by show _ = r.val / 1024; omega))
  | ⟨1, _⟩ => exact Fin.ext (h1.trans (by show _ = r.val % 1024; omega))
  | ⟨2, _⟩ => exact Fin.ext (h2.trans (by show _ = k.val; omega))

theorem v4 (i : S4x1024x384.Idx) : val_main_v4 (F := Ideal) g m i = first (g i) (m i) := by
  pointwise [val_main_v4, val_main_v3, val_main_v2, val_main_v1, val_main_v0, val_main_cst, val_main_cst_0]
  rfl

theorem v10 (i : S4x1024x384.Idx) : val_main_v10 (F := Ideal) g v i = second (g i) (v i) := by
  pointwise [val_main_v10, val_main_v9, val_main_v8, val_main_v7, val_main_v6, val_main_v5, val_main_cst_1, val_main_cst_2]
  rfl

theorem v23 (i : S4x1024x384.Idx) : val_main_v23 (F := Ideal) w g m v i = delta (w i) (g i) (m i) (v i) := by
  unfold delta
  rw [← v4, ← v10]
  pointwise [val_main_v23, val_main_v22, val_main_v21, val_main_v20, val_main_v19, val_main_v18, val_main_v17, val_main_v16,
    val_main_v15, val_main_v14, val_main_v13, val_main_v12, val_main_v11, val_main_cst_3, val_main_cst_4, val_main_cst_5,
    val_main_cst_6, val_main_cst_7]

theorem v24 : val_main_v24 (F := Ideal) w g m v (ix2 r k)
    = delta (w (src r k)) (g (src r k)) (m (src r k)) (v (src r k)) := by
  rw [val_main_v24_apply, v23, src_eq r k (idx_main_v24 (ix2 r k)) rfl rfl rfl]

theorem v25 : val_main_v25 (F := Ideal) g m (ix2 r k) = first (g (src r k)) (m (src r k)) := by
  rw [val_main_v25_apply, v4, src_eq r k (idx_main_v25 (ix2 r k)) rfl rfl rfl]

theorem v26 : val_main_v26 (F := Ideal) g v (ix2 r k) = second (g (src r k)) (v (src r k)) := by
  rw [val_main_v26_apply, v10, src_eq r k (idx_main_v26 (ix2 r k)) rfl rfl rfl]

end Cert.AdamwReferenceIdeal.Pure

end

end
-- ==== Proof.AdamwValue.lean ====
/- The optimiser's call: its three output arrays after the run, as the reference's terms over the arguments. -/
module

public import proofs.«01_k».proof.Proof.AdamwPure
public import proofs.«01_k».proof.Proof.Gen.AdamwKernelIdeal.Value
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.AdamwKernelIdeal.Value

open Cert.AdamwKernelIdeal Cert.AdamwKernelIdeal.Gen Cert.AdamwEntry

variable (m : (ℓ : Loc nD τ sig) → Buf (Elt Ideal) ℓ)

theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

theorem row_lt (t : Fin cfg0.N) (a : Fin 512) : t.val * 512 + a.val < 4096 := by
  have := t.isLt; have := a.isLt; have : cfg0.N = 8 := N_0; omega

/-- The row of the flat arrays that a tile's row holds. -/
abbrev row (t : Fin cfg0.N) (a : Fin 512) : Fin 4096 := ⟨t.val * 512 + a.val, row_lt t a⟩

/-- The entry of the arguments that an entry of a tile holds. -/
abbrev at_ (t : Fin cfg0.N) (a : Fin 512) (k : Fin 384) : S4x1024x384.Idx := Cert.AdamwReferenceIdeal.Pure.src (row t a) k

abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)

theorem V1 (c : Dev nD) (r : Fin 4096) (k : Fin 384) : V m c main_v1 (ix2 r k) = A0 m c (Cert.AdamwReferenceIdeal.Pure.src r k) := by
  unfold V; simp only [hostOps0, List.flatten_cons, List.flatten_nil, List.append_nil, List.cons_append, List.nil_append]
  after_reads_at

theorem V2 (c : Dev nD) (r : Fin 4096) (k : Fin 384) : V m c main_v2 (ix2 r k) = A1 m c (Cert.AdamwReferenceIdeal.Pure.src r k) := by
  unfold V; simp only [hostOps0, List.flatten_cons, List.flatten_nil, List.append_nil, List.cons_append, List.nil_append]
  after_reads_at

theorem V3 (c : Dev nD) (r : Fin 4096) (k : Fin 384) : V m c main_v3 (ix2 r k) = A2 m c (Cert.AdamwReferenceIdeal.Pure.src r k) := by
  unfold V; simp only [hostOps0, List.flatten_cons, List.flatten_nil, List.append_nil, List.cons_append, List.nil_append]
  after_reads_at

theorem V4 (c : Dev nD) (r : Fin 4096) (k : Fin 384) : V m c main_v4 (ix2 r k) = A3 m c (Cert.AdamwReferenceIdeal.Pure.src r k) := by
  unfold V; simp only [hostOps0, List.flatten_cons, List.flatten_nil, List.append_nil, List.cons_append, List.nil_append]
  after_reads_at

theorem blk0 (c : Dev nD) (t : Fin cfg0.N) (a : Fin 512) (k : Fin 384) : iblk m c 0 t (ix2 a k) = A0 m c (at_ t a k) := by
  refine Eq.trans ?_ (V1 m c (row t a) k)
  blk_simp [iblk, idx_val t]
  blk_ext [idx_val t]

theorem blk1 (c : Dev nD) (t : Fin cfg0.N) (a : Fin 512) (k : Fin 384) : iblk m c 1 t (ix2 a k) = A1 m c (at_ t a k) := by
  refine Eq.trans ?_ (V2 m c (row t a) k)
  blk_simp [iblk, idx_val t]
  blk_ext [idx_val t]

theorem blk2 (c : Dev nD) (t : Fin cfg0.N) (a : Fin 512) (k : Fin 384) : iblk m c 2 t (ix2 a k) = A2 m c (at_ t a k) := by
  refine Eq.trans ?_ (V3 m c (row t a) k)
  blk_simp [iblk, idx_val t]
  blk_ext [idx_val t]

theorem blk3 (c : Dev nD) (t : Fin cfg0.N) (a : Fin 512) (k : Fin 384) : iblk m c 3 t (ix2 a k) = A3 m c (at_ t a k) := by
  refine Eq.trans ?_ (V4 m c (row t a) k)
  blk_simp [iblk, idx_val t]
  blk_ext [idx_val t]

theorem final_4 (c : Dev nD) : (dats m 0 c).arrAt 4 (cfgs 0).N
    = Cert.AdamwReferenceIdeal.Read.val_main_v24 (F := Ideal) (A0 m c) (A1 m c) (A2 m c) (A3 m c) := by
  refine (dats m 0 c).arrAt_eq_of_covers 4 _ (by decide +kernel) fun t hc y => ?_
  blk_simp; rw [after0_4]
  obtain ⟨a, k, rfl⟩ : ∃ a k, y = ix2 a k := ⟨y 0, y 1, eq_ix2 y⟩
  have hv : out0_4 (iblk m c 0 t) (iblk m c 1 t) (iblk m c 2 t) (iblk m c 3 t) (ix2 a k) = delta (iblk m c 0 t (ix2 a k)) (iblk m c 1 t (ix2 a k)) (iblk m c 2 t (ix2 a k)) (iblk m c 3 t (ix2 a k)) := by
    unfold out0_4; frame_out; exact Pure.pay4 ..
  rw [hv, blk0, blk1, blk2, blk3]
  refine (Cert.AdamwReferenceIdeal.Pure.v24 (A0 m c) (A1 m c) (A2 m c) (A3 m c) (row t a) k).symm.trans ?_
  congr 1
  blk_ext [idx_val t]

theorem final_5 (c : Dev nD) : (dats m 0 c).arrAt 5 (cfgs 0).N
    = Cert.AdamwReferenceIdeal.Read.val_main_v25 (F := Ideal) (A1 m c) (A2 m c) := by
  refine (dats m 0 c).arrAt_eq_of_covers 5 _ (by decide +kernel) fun t hc y => ?_
  blk_simp; rw [after0_5]
  obtain ⟨a, k, rfl⟩ : ∃ a k, y = ix2 a k := ⟨y 0, y 1, eq_ix2 y⟩
  have hv : out0_5 (iblk m c 0 t) (iblk m c 1 t) (iblk m c 2 t) (iblk m c 3 t) (ix2 a k) = first (iblk m c 1 t (ix2 a k)) (iblk m c 2 t (ix2 a k)) := by
    unfold out0_5; frame_out; exact Pure.pay2 ..
  rw [hv, blk1, blk2]
  refine (Cert.AdamwReferenceIdeal.Pure.v25 (A1 m c) (A2 m c) (row t a) k).symm.trans ?_
  congr 1
  blk_ext [idx_val t]

theorem final_6 (c : Dev nD) : (dats m 0 c).arrAt 6 (cfgs 0).N
    = Cert.AdamwReferenceIdeal.Read.val_main_v26 (F := Ideal) (A1 m c) (A3 m c) := by
  refine (dats m 0 c).arrAt_eq_of_covers 6 _ (by decide +kernel) fun t hc y => ?_
  blk_simp; rw [after0_6]
  obtain ⟨a, k, rfl⟩ : ∃ a k, y = ix2 a k := ⟨y 0, y 1, eq_ix2 y⟩
  have hv : out0_6 (iblk m c 0 t) (iblk m c 1 t) (iblk m c 2 t) (iblk m c 3 t) (ix2 a k) = second (iblk m c 1 t (ix2 a k)) (iblk m c 3 t (ix2 a k)) := by
    unfold out0_6; frame_out; exact Pure.pay3 ..
  rw [hv, blk1, blk3]
  refine (Cert.AdamwReferenceIdeal.Pure.v26 (A1 m c) (A3 m c) (row t a) k).symm.trans ?_
  congr 1
  blk_ext [idx_val t]

end Cert.AdamwKernelIdeal.Value

end

end
-- ==== Proof.AdamwClaim.lean ====
/- The value claim of the optimiser's call: the kernel's three results are the reference's, whatever the arguments. -/
module

public import proofs.«01_k».proof.Defs
public import proofs.«01_k».proof.Proof.AdamwValue
public import proofs.«01_k».proof.Proof.Gen.AdamwReferenceIdeal.Run
public import Idealize.ShloMosaic.Lib.Claim

@[expose] public section

set_option maxRecDepth 16384

noncomputable section

namespace Cert.AdamwClaim

open Idealize.ShloMosaic Idealize.ShloMosaic.TcCoe Idealize.SL.Sem Cert.AdamwReferenceIdeal.Read

theorem algebraic : Cert.algebraic_AdamwKernelIdeal_AdamwReferenceIdeal
    (hAdamwKernelIdeal := Cert.AdamwKernelIdeal.Gen.facts) (hAdamwReferenceIdeal := Cert.AdamwReferenceIdeal.Gen.facts) := by
  intro m g m' g' _ hm
  refine ⟨fun c => (Cert.AdamwKernelIdeal.Gen.dats m 0 c).arrAt 4 Cert.AdamwKernelIdeal.cfg0.N,
    fun c => (Cert.AdamwKernelIdeal.Gen.dats m 0 c).arrAt 5 Cert.AdamwKernelIdeal.cfg0.N,
    fun c => (Cert.AdamwKernelIdeal.Gen.dats m 0 c).arrAt 6 Cert.AdamwKernelIdeal.cfg0.N,
    Cert.AdamwKernelIdeal.Value.run_blocks m g, ?_⟩
  refine (θ_run Cert.AdamwReferenceIdeal.defs _ _).mono (fun r h c => ?_) (Cert.AdamwReferenceIdeal.Value.run (F := Ideal) m' g')
  obtain ⟨h4, h5, h6, k⟩ := h c
  obtain ⟨e0, e1, e2, e3⟩ := hm c
  refine ⟨?_, ?_, ?_, k⟩
  · refine h4.trans ((val_main_v24_eq _ _ _ _).trans ?_)
    simp only [e0, e1, e2, e3]
    exact (Cert.AdamwKernelIdeal.Value.final_4 m c).symm
  · refine h5.trans ((val_main_v25_eq _ _).trans ?_)
    simp only [e1, e2]
    exact (Cert.AdamwKernelIdeal.Value.final_5 m c).symm
  · refine h6.trans ((val_main_v26_eq _ _).trans ?_)
    simp only [e1, e3]
    exact (Cert.AdamwKernelIdeal.Value.final_6 m c).symm

end Cert.AdamwClaim

end

end
-- ==== Proof.DwValue.lean ====
/- A weight's gradient, the product of two matrices over the rows: the call's two output arrays after the run, as the
   reference's terms over the arguments. -/
module

public import proofs.«01_k».proof.Proof.Gen.DwKernelIdeal.Value
public import proofs.«01_k».proof.Proof.Gen.DwReferenceIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open scoped BigOperators

/-! ## The reference's operations -/

namespace Cert.DwReferenceIdeal.Pure
open Cert.DwReferenceIdeal Cert.DwReferenceIdeal.Read

variable (x : FVec Ideal S8192x3072 .bf16) (y : FVec Ideal S8192x1024 .bf16) (i : Fin 3072) (k : Fin 1024)

/-- The product of the two matrices over the rows. -/
def dw (x : FVec Ideal S8192x3072 .bf16) (y : FVec Ideal S8192x1024 .bf16) (i : Fin 3072) (k : Fin 1024) : EReal :=
  ∑ r : Fin 8192, (x (ix2 r i) * y (ix2 r k) : EReal)

theorem v3 : val_main_v3 (F := Ideal) x y (ix2 i k) = dw x y i k := by
  rw [val_main_v3_apply]
  unfold dw
  refine Finset.sum_congr rfl fun r _ => ?_
  rw [val_main_v1_apply, val_main_v0_apply, val_main_v2_apply]
  refine congrArg₂ (fun a b : EReal => a * b) (congrArg x ?_) (congrArg y ?_)
  · exact eq_ix2 _
  · exact eq_ix2 _

theorem v4 : (val_main_v4 (F := Ideal) x y (ix2 i k) : EReal) = dw x y i k :=
  v3 x y i k

end Cert.DwReferenceIdeal.Pure

/-! ## The kernel's tile -/

namespace Cert.DwKernelIdeal.Pure
open Cert.DwKernelIdeal Cert.DwKernelIdeal.Gen

variable (o : FVec Ideal S1536x1024 .f32) (x : FVec Ideal S2048x1536 .bf16) (y : FVec Ideal S2048x1024 .bf16)
  (a : Fin 1536) (k : Fin 1024)

/-- A tile's part of the product: the sum over the tile's rows. -/
def part (x : FVec Ideal S2048x1536 .bf16) (y : FVec Ideal S2048x1024 .bf16) (a : Fin 1536) (k : Fin 1024) : EReal :=
  ∑ s : Fin 2048, (x (ix2 s a) * y (ix2 s k) : EReal)

theorem pay1 : k0_pay1 (F := Ideal) (ix2 a k) = 0 := by pointwise! [k0_pay1]

theorem pay2 : k0_pay2 (F := Ideal) o x y (ix2 a k) = o (ix2 a k) + part x y a k := by
  pointwise [k0_pay2]
  rfl

theorem pay3 : (k0_pay3 (F := Ideal) o (ix2 a k) : EReal) = o (ix2 a k) := by pointwise [k0_pay3]

end Cert.DwKernelIdeal.Pure

namespace Cert.DwKernelIdeal.Value

open Cert.DwKernelIdeal Cert.DwKernelIdeal.Gen

variable (m : (ℓ : Loc nD τ sig) → Buf (Elt Ideal) ℓ)

theorem idx_val : ∀ t : Fin cfg0.N, win0_0.index t = ![t.val % 4, t.val / 4]
    ∧ win0_1.index t = ![t.val % 4, 0]
    ∧ win0_2.index t = ![t.val / 4, 0]
    ∧ win0_3.index t = ![t.val / 4, 0] :=
  (by decide +kernel : ∀ t : Fin grid0.N, _)

theorem row_lt (q : Fin 4) (s : Fin 2048) : q.val * 2048 + s.val < 8192 := by omega

theorem col_lt (t : Fin cfg0.N) (a : Fin 1536) : t.val / 4 * 1536 + a.val < 3072 := by
  have := t.isLt; have : cfg0.N = 8 := N_0; omega

/-- The row of the arguments that a row of a point's tile holds. -/
abbrev row (t : Fin cfg0.N) (s : Fin 2048) : Fin 8192 := ⟨t.val % 4 * 2048 + s.val, by omega⟩

/-- The column of the first argument that a column of a point's tile holds. -/
abbrev col (t : Fin cfg0.N) (a : Fin 1536) : Fin 3072 := ⟨t.val / 4 * 1536 + a.val, col_lt t a⟩

abbrev A0 (c : Dev nD) := m ((c : Thread nD τ).loc main_arg0)
abbrev A1 (c : Dev nD) := m ((c : Thread nD τ).loc main_arg1)

theorem blk0 (c : Dev nD) (t : Fin cfg0.N) (s : Fin 2048) (a : Fin 1536) :
    iblk m c 0 t (ix2 s a) = A0 m c (ix2 (row t s) (col t a)) := by
  blk_simp [iblk, idx_val t]; try entry_read
  try pointwise
  blk_ext [idx_val t]

theorem blk1 (c : Dev nD) (t : Fin cfg0.N) (s : Fin 2048) (k : Fin 1024) :
    iblk m c 1 t (ix2 s k) = A1 m c (ix2 (row t s) k) := by
  blk_simp [iblk, idx_val t]; try entry_read
  try pointwise
  blk_ext [idx_val t]

/-- The sum over a run's four tiles of rows is the sum over all the rows. -/
theorem sum_rows (f : Fin 8192 → EReal) : ∑ q : Fin 4, ∑ s : Fin 2048, f ⟨q.val * 2048 + s.val, row_lt q s⟩ = ∑ r, f r :=
  (Fin.sum_univ_tiles 4 2048 rfl f).symm

/-- The accumulator at a run's last point. -/
theorem last (c : Dev nD) (t : Fin cfg0.N) (ht : t.val % 4 = 3) (a : Fin 1536) (k : Fin 1024) :
    ((outsAt0 m c t.val t.isLt).1 (ix2 a k) : EReal)
      = Cert.DwReferenceIdeal.Pure.dw (A0 m c) (A1 m c) (col t a) k := by
  have h := Pipeline.eq_sum_fin_of_reset_step_apply_of_flush
    (fun n h => fun p : Fin 1536 × Fin 1024 => ((outsAt0 m c n h).1 (ix2 p.1 p.2) : EReal)) 4 (fun _ => 0)
    (fun t p => Pure.part (iblk m c 0 t) (iblk m c 1 t) p.1 p.2)
    (fun t h p => by
      rw [outsAt0_A m c t h (by omega)]; frame_out; rw [Pure.pay2, Pure.pay1])
    (fun t h p => by
      by_cases h1 : t.val % 4 = 3
      · rw [outsAt0_C m c t h h1]; frame_out; rw [Pure.pay2]
      · rw [outsAt0_B m c t h h1]; frame_out; rw [Pure.pay2])
    t ht (a, k)
  refine h.trans ?_
  unfold Cert.DwReferenceIdeal.Pure.dw
  rw [zero_add, ← sum_rows]
  refine Finset.sum_congr rfl fun q _ => ?_
  unfold Pure.part
  refine Finset.sum_congr rfl fun s _ => ?_
  rw [blk0, blk1]
  have hr : row ⟨4 * (t.val / 4) + q.val, Pipeline.run_point_lt_of_flush t ht q⟩ s = ⟨q.val * 2048 + s.val, row_lt q s⟩ :=
    Fin.ext (by show (4 * (t.val / 4) + q.val) % 4 * 2048 + s.val = q.val * 2048 + s.val; omega)
  have hc : col ⟨4 * (t.val / 4) + q.val, Pipeline.run_point_lt_of_flush t ht q⟩ a = col t a :=
    Fin.ext (by show (4 * (t.val / 4) + q.val) / 4 * 1536 + a.val = t.val / 4 * 1536 + a.val; omega)
  rw [hr, hc]

/-- The rounded copy at a run's last point is the accumulator. -/
theorem copy (c : Dev nD) (t : Fin cfg0.N) (ht : t.val % 4 = 3) (a : Fin 1536) (k : Fin 1024) :
    ((outsAt0 m c t.val t.isLt).2 (ix2 a k) : EReal) = (outsAt0 m c t.val t.isLt).1 (ix2 a k) := by
  rw [outsAt0_C m c t (by omega) ht]; frame_out; rw [Pure.pay3]

theorem final_2 (c : Dev nD) : (dats m 0 c).arrAt 2 (cfgs 0).N
    = Cert.DwReferenceIdeal.Read.val_main_v3 (F := Ideal) (A0 m c) (A1 m c) := by
  refine (dats m 0 c).arrAt_eq_of_covers 2 _ (by decide +kernel) fun t hf y => ?_
  blk_simp; rw [after0_2]
  obtain ⟨a, k, rfl⟩ : ∃ a k, y = ix2 a k := ⟨y 0, y 1, eq_ix2 y⟩
  rw [last m c t ((flush0_2 t).mp hf) a k]
  refine (Cert.DwReferenceIdeal.Pure.v3 (A0 m c) (A1 m c) (col t a) k).symm.trans ?_
  congr 1
  blk_ext [idx_val t]

theorem final_3 (c : Dev nD) : (dats m 0 c).arrAt 3 (cfgs 0).N
    = Cert.DwReferenceIdeal.Read.val_main_v4 (F := Ideal) (A0 m c) (A1 m c) := by
  refine (dats m 0 c).arrAt_eq_of_covers 3 _ (by decide +kernel) fun t hf y => ?_
  blk_simp; rw [after0_3]
  obtain ⟨a, k, rfl⟩ : ∃ a k, y = ix2 a k := ⟨y 0, y 1, eq_ix2 y⟩
  refine ((copy m c t ((flush0_3 t).mp hf) a k).trans (last m c t ((flush0_3 t).mp hf) a k)).trans ?_
  refine (Cert.DwReferenceIdeal.Pure.v4 (A0 m c) (A1 m c) (col t a) k).symm.trans ?_
  congr 1
  blk_ext [idx_val t]

end Cert.DwKernelIdeal.Value

end

end
-- ==== Proof.DwClaim.lean ====
/- The value claim of a weight's gradient: the kernel's two results are the reference's, whatever the arguments. -/
module

public import proofs.«01_k».proof.Defs
public import proofs.«01_k».proof.Proof.DwValue
public import proofs.«01_k».proof.Proof.Gen.DwReferenceIdeal.Run
public import Idealize.ShloMosaic.Lib.Claim

@[expose] public section

set_option maxRecDepth 16384

noncomputable section

namespace Cert.DwClaim

open Idealize.ShloMosaic Idealize.ShloMosaic.TcCoe Idealize.SL.Sem Cert.DwReferenceIdeal.Read

theorem algebraic : Cert.algebraic_DwKernelIdeal_DwReferenceIdeal
    (hDwKernelIdeal := Cert.DwKernelIdeal.Gen.facts) (hDwReferenceIdeal := Cert.DwReferenceIdeal.Gen.facts) := by
  intro m g m' g' _ hm
  refine ⟨fun c => (Cert.DwKernelIdeal.Gen.dats m 0 c).arrAt 2 Cert.DwKernelIdeal.cfg0.N,
    fun c => (Cert.DwKernelIdeal.Gen.dats m 0 c).arrAt 3 Cert.DwKernelIdeal.cfg0.N,
    Cert.DwKernelIdeal.Value.run_blocks m g, ?_⟩
  refine (θ_run Cert.DwReferenceIdeal.defs _ _).mono (fun r h c => ?_) (Cert.DwReferenceIdeal.Value.run (F := Ideal) m' g')
  obtain ⟨h2, h3, k⟩ := h c
  obtain ⟨e0, e1⟩ := hm c
  refine ⟨?_, ?_, k⟩
  · refine h2.trans ((val_main_v3_eq _ _).trans ?_)
    simp only [e0, e1]
    exact (Cert.DwKernelIdeal.Value.final_2 m c).symm
  · refine h3.trans ((val_main_v4_eq _ _).trans ?_)
    simp only [e0, e1]
    exact (Cert.DwKernelIdeal.Value.final_3 m c).symm

end Cert.DwClaim

end

end
-- ==== Proof.lean ====
/- The certificate's claim: what each call's frame and value are, put together from the modules of the calls. -/
module

public import proofs.«01_k».proof.Defs
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossKernelIdeal.Value
public import proofs.«01_k».proof.Proof.Gen.LossReferenceIdeal
public import proofs.«01_k».proof.Proof.Gen.LossReferenceIdeal.Run
public import proofs.«01_k».proof.Proof.Gen.LossReferenceIdeal.Read
public import proofs.«01_k».proof.Proof.LossClaim
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InKernelIdeal.Value
public import proofs.«01_k».proof.Proof.Gen.InReferenceIdeal
public import proofs.«01_k».proof.Proof.Gen.InReferenceIdeal.Run
public import proofs.«01_k».proof.Proof.Gen.InReferenceIdeal.Read
public import proofs.«01_k».proof.Proof.InClaim
public import proofs.«01_k».proof.Proof.Gen.MlpKernel
public import proofs.«01_k».proof.Proof.Gen.MlpKernel.Skeleton
public import proofs.«01_k».proof.Proof.Gen.MlpKernel.Launch
public import proofs.«01_k».proof.Proof.Gen.MlpKernel.Points
public import proofs.«01_k».proof.Proof.Gen.MlpKernel.Frame
public import proofs.«01_k».proof.Proof.Gen.MlpKernelIdeal
public import proofs.«01_k».proof.Proof.Gen.MlpKernelIdeal.Skeleton
public import proofs.«01_k».proof.Proof.Gen.MlpKernelIdeal.Launch
public import proofs.«01_k».proof.Proof.Gen.MlpKernelIdeal.Points
public import proofs.«01_k».proof.Proof.Gen.MlpKernelIdeal.Frame
public import proofs.«01_k».proof.Proof.Gen.MlpKernelIdeal.Value
public import proofs.«01_k».proof.Proof.Gen.MlpReferenceIdeal
public import proofs.«01_k».proof.Proof.Gen.MlpReferenceIdeal.Run
public import proofs.«01_k».proof.Proof.Gen.MlpReferenceIdeal.Read
public import proofs.«01_k».proof.Proof.MlpClaim
public import proofs.«01_k».proof.Proof.Gen.RetKernel
public import proofs.«01_k».proof.Proof.Gen.RetKernel.Skeleton
public import proofs.«01_k».proof.Proof.Gen.RetKernel.Launch
public import proofs.«01_k».proof.Proof.Gen.RetKernel.Points
public import proofs.«01_k».proof.Proof.Gen.RetKernel.Frame
public import proofs.«01_k».proof.Proof.Gen.RetKernelIdeal
public import proofs.«01_k».proof.Proof.Gen.RetKernelIdeal.Skeleton
public import proofs.«01_k».proof.Proof.Gen.RetKernelIdeal.Launch
public import proofs.«01_k».proof.Proof.Gen.RetKernelIdeal.Points
public import proofs.«01_k».proof.Proof.Gen.RetKernelIdeal.Frame
public import proofs.«01_k».proof.Proof.Gen.RetReferenceIdeal
public import proofs.«01_k».proof.Proof.Gen.RetReferenceIdeal.Run
public import proofs.«01_k».proof.Proof.RetClaim
public import proofs.«01_k».proof.Proof.Gen.ConvKernel
public import proofs.«01_k».proof.Proof.Gen.ConvKernel.Skeleton
public import proofs.«01_k».proof.Proof.Gen.ConvKernel.Launch
public import proofs.«01_k».proof.Proof.Gen.ConvKernel.Points
public import proofs.«01_k».proof.Proof.Gen.ConvKernel.Frame
public import proofs.«01_k».proof.Proof.Gen.ConvKernelIdeal
public import proofs.«01_k».proof.Proof.Gen.ConvKernelIdeal.Skeleton
public import proofs.«01_k».proof.Proof.Gen.ConvKernelIdeal.Launch
public import proofs.«01_k».proof.Proof.Gen.ConvKernelIdeal.Points
public import proofs.«01_k».proof.Proof.Gen.ConvKernelIdeal.Frame
public import proofs.«01_k».proof.Proof.Gen.ConvReferenceIdeal
public import proofs.«01_k».proof.Proof.Gen.ConvReferenceIdeal.Run
public import proofs.«01_k».proof.Proof.Gen.FmlpKernel
public import proofs.«01_k».proof.Proof.Gen.FmlpKernel.Skeleton
public import proofs.«01_k».proof.Proof.Gen.FmlpKernel.Launch
public import proofs.«01_k».proof.Proof.Gen.FmlpKernel.Points
public import proofs.«01_k».proof.Proof.Gen.FmlpKernel.Frame
public import proofs.«01_k».proof.Proof.Gen.FmlpKernelIdeal
public import proofs.«01_k».proof.Proof.Gen.FmlpKernelIdeal.Skeleton
public import proofs.«01_k».proof.Proof.Gen.FmlpKernelIdeal.Launch
public import proofs.«01_k».proof.Proof.Gen.FmlpKernelIdeal.Points
public import proofs.«01_k».proof.Proof.Gen.FmlpKernelIdeal.Frame
public import proofs.«01_k».proof.Proof.Gen.FmlpKernelIdeal.Value
public import proofs.«01_k».proof.Proof.Gen.FmlpReferenceIdeal
public import proofs.«01_k».proof.Proof.Gen.FmlpReferenceIdeal.Run
public import proofs.«01_k».proof.Proof.Gen.FmlpReferenceIdeal.Read
public import proofs.«01_k».proof.Proof.FmlpClaim
public import proofs.«01_k».proof.Proof.Gen.FretKernel
public import proofs.«01_k».proof.Proof.Gen.FretKernel.Skeleton
public import proofs.«01_k».proof.Proof.Gen.FretKernel.Launch
public import proofs.«01_k».proof.Proof.Gen.FretKernel.Points
public import proofs.«01_k».proof.Proof.Gen.FretKernel.Frame
public import proofs.«01_k».proof.Proof.Gen.FretKernelIdeal
public import proofs.«01_k».proof.Proof.Gen.FretKernelIdeal.Skeleton
public import proofs.«01_k».proof.Proof.Gen.FretKernelIdeal.Launch
public import proofs.«01_k».proof.Proof.Gen.FretKernelIdeal.Points
public import proofs.«01_k».proof.Proof.Gen.FretKernelIdeal.Frame
public import proofs.«01_k».proof.Proof.Gen.FretReferenceIdeal
public import proofs.«01_k».proof.Proof.Gen.FretReferenceIdeal.Run
public import proofs.«01_k».proof.Proof.FretFrame
public import proofs.«01_k».proof.Proof.Gen.FinKernel
public import proofs.«01_k».proof.Proof.Gen.FinKernel.Skeleton
public import proofs.«01_k».proof.Proof.Gen.FinKernel.Launch
public import proofs.«01_k».proof.Proof.Gen.FinKernel.Points
public import proofs.«01_k».proof.Proof.Gen.FinKernel.Frame
public import proofs.«01_k».proof.Proof.Gen.FinKernelIdeal
public import proofs.«01_k».proof.Proof.Gen.FinKernelIdeal.Skeleton
public import proofs.«01_k».proof.Proof.Gen.FinKernelIdeal.Launch
public import proofs.«01_k».proof.Proof.Gen.FinKernelIdeal.Points
public import proofs.«01_k».proof.Proof.Gen.FinKernelIdeal.Frame
public import proofs.«01_k».proof.Proof.Gen.FinReferenceIdeal
public import proofs.«01_k».proof.Proof.Gen.FinReferenceIdeal.Run
public import proofs.«01_k».proof.Proof.Gen.AdamwKernel
public import proofs.«01_k».proof.Proof.Gen.AdamwKernel.Skeleton
public import proofs.«01_k».proof.Proof.Gen.AdamwKernel.Launch
public import proofs.«01_k».proof.Proof.Gen.AdamwKernel.Points
public import proofs.«01_k».proof.Proof.Gen.AdamwKernel.Frame
public import proofs.«01_k».proof.Proof.Gen.AdamwKernelIdeal
public import proofs.«01_k».proof.Proof.Gen.AdamwKernelIdeal.Skeleton
public import proofs.«01_k».proof.Proof.Gen.AdamwKernelIdeal.Launch
public import proofs.«01_k».proof.Proof.Gen.AdamwKernelIdeal.Points
public import proofs.«01_k».proof.Proof.Gen.AdamwKernelIdeal.Frame
public import proofs.«01_k».proof.Proof.Gen.AdamwKernelIdeal.Value
public import proofs.«01_k».proof.Proof.Gen.AdamwReferenceIdeal
public import proofs.«01_k».proof.Proof.Gen.AdamwReferenceIdeal.Run
public import proofs.«01_k».proof.Proof.Gen.AdamwReferenceIdeal.Read
public import proofs.«01_k».proof.Proof.AdamwClaim
public import proofs.«01_k».proof.Proof.DwClaim
public import proofs.«01_k».proof.Proof.Gen.DwKernel
public import proofs.«01_k».proof.Proof.Gen.DwKernel.Skeleton
public import proofs.«01_k».proof.Proof.Gen.DwKernel.Launch
public import proofs.«01_k».proof.Proof.Gen.DwKernel.Points
public import proofs.«01_k».proof.Proof.Gen.DwKernel.Frame
public import proofs.«01_k».proof.Proof.Gen.DwKernelIdeal
public import proofs.«01_k».proof.Proof.Gen.DwKernelIdeal.Skeleton
public import proofs.«01_k».proof.Proof.Gen.DwKernelIdeal.Launch
public import proofs.«01_k».proof.Proof.Gen.DwKernelIdeal.Points
public import proofs.«01_k».proof.Proof.Gen.DwKernelIdeal.Frame
public import proofs.«01_k».proof.Proof.Gen.DwKernelIdeal.Value
public import proofs.«01_k».proof.Proof.Gen.DwReferenceIdeal
public import proofs.«01_k».proof.Proof.Gen.DwReferenceIdeal.Run
public import proofs.«01_k».proof.Proof.Gen.DwReferenceIdeal.Read
public import Idealize.ShloMosaic.Adequacy
public import Idealize.ShloMosaic.Init

@[expose] public section

noncomputable section

namespace Cert.Proof

open Idealize.ShloMosaic Idealize.SL.Sem

theorem claim : Cert.Claim := ⟨Cert.LossKernel.Gen.facts,
  Cert.LossKernelIdeal.Gen.facts,
  Cert.LossReferenceIdeal.Gen.facts,
  Cert.InKernel.Gen.facts,
  Cert.InKernelIdeal.Gen.facts,
  Cert.InReferenceIdeal.Gen.facts,
  Cert.MlpKernel.Gen.facts,
  Cert.MlpKernelIdeal.Gen.facts,
  Cert.MlpReferenceIdeal.Gen.facts,
  Cert.RetKernel.Gen.facts,
  Cert.RetKernelIdeal.Gen.facts,
  Cert.RetReferenceIdeal.Gen.facts,
  Cert.ConvKernel.Gen.facts,
  Cert.ConvKernelIdeal.Gen.facts,
  Cert.ConvReferenceIdeal.Gen.facts,
  Cert.FmlpKernel.Gen.facts,
  Cert.FmlpKernelIdeal.Gen.facts,
  Cert.FmlpReferenceIdeal.Gen.facts,
  Cert.FretKernel.Gen.facts,
  Cert.FretKernelIdeal.Gen.facts,
  Cert.FretReferenceIdeal.Gen.facts,
  Cert.FinKernel.Gen.facts,
  Cert.FinKernelIdeal.Gen.facts,
  Cert.FinReferenceIdeal.Gen.facts,
  Cert.AdamwKernel.Gen.facts,
  Cert.AdamwKernelIdeal.Gen.facts,
  Cert.AdamwReferenceIdeal.Gen.facts,
  Cert.DwKernel.Gen.facts,
  Cert.DwKernelIdeal.Gen.facts,
  Cert.DwReferenceIdeal.Gen.facts,
  Cert.MlpClaim.facts,
  Cert.RetClaim.facts,
  fun m ρ _ => Cert.LossKernel.Gen.frame m ρ,
  fun m ρ _ => Cert.LossKernelIdeal.Gen.frame m ρ,
  fun m ρ _ => (θ_run Cert.LossReferenceIdeal.defs _ _).mono (fun r h => ⟨fun c => (h c).2.2.2.2,
      Idealize.ShloMosaic.sem_eq_zero_of_no_sems (by decide) r.2⟩)
    (Cert.LossReferenceIdeal.Value.run (F := Ideal) m ρ),
  fun m ρ _ => Cert.InKernel.Gen.frame m ρ,
  fun m ρ _ => Cert.InKernelIdeal.Gen.frame m ρ,
  fun m ρ _ => (θ_run Cert.InReferenceIdeal.defs _ _).mono (fun r h => ⟨fun c => (h c).2.2.2,
      Idealize.ShloMosaic.sem_eq_zero_of_no_sems (by decide) r.2⟩)
    (Cert.InReferenceIdeal.Value.run (F := Ideal) m ρ),
  fun m ρ _ => Cert.MlpKernel.Gen.frame m ρ,
  fun m ρ _ => Cert.MlpKernelIdeal.Gen.frame m ρ,
  fun m ρ _ => Cert.MlpKernelIdeal.Gen.frame m ρ,
  fun m ρ _ => (θ_run Cert.MlpReferenceIdeal.defs _ _).mono (fun r h => ⟨fun c => (h c).2.2.2.2.2.2,
      Idealize.ShloMosaic.sem_eq_zero_of_no_sems (by decide) r.2⟩)
    (Cert.MlpReferenceIdeal.Value.run (F := Ideal) m ρ),
  fun m ρ _ => (θ_run Cert.MlpReferenceIdeal.defs _ _).mono (fun r h => ⟨fun c => (h c).2.2.2.2.2.2,
      Idealize.ShloMosaic.sem_eq_zero_of_no_sems (by decide) r.2⟩)
    (Cert.MlpReferenceIdeal.Value.run (F := Ideal) m ρ),
  fun m ρ _ => Cert.RetKernel.Gen.frame m ρ,
  fun m ρ _ => Cert.RetKernelIdeal.Gen.frame m ρ,
  fun m ρ _ => Cert.RetKernelIdeal.Gen.frame m ρ,
  fun m ρ _ => (θ_run Cert.RetReferenceIdeal.defs _ _).mono (fun r h => ⟨fun c => (h c).2.2.2,
      Idealize.ShloMosaic.sem_eq_zero_of_no_sems (by decide) r.2⟩)
    (Cert.RetReferenceIdeal.Host.run m ρ),
  fun m ρ _ => (θ_run Cert.RetReferenceIdeal.defs _ _).mono (fun r h => ⟨fun c => (h c).2.2.2,
      Idealize.ShloMosaic.sem_eq_zero_of_no_sems (by decide) r.2⟩)
    (Cert.RetReferenceIdeal.Host.run m ρ),
  fun m ρ _ => Cert.ConvKernel.Gen.frame m ρ,
  fun m ρ _ => Cert.ConvKernelIdeal.Gen.frame m ρ,
  fun m ρ _ => (θ_run Cert.ConvReferenceIdeal.defs _ _).mono (fun r h => ⟨fun c => (h c).2.2.2.2.2,
      Idealize.ShloMosaic.sem_eq_zero_of_no_sems (by decide) r.2⟩)
    (Cert.ConvReferenceIdeal.Value.run (F := Ideal) m ρ),
  fun m ρ _ => Cert.FmlpKernel.Gen.frame m ρ,
  fun m ρ _ => Cert.FmlpKernelIdeal.Gen.frame m ρ,
  fun m ρ _ => (θ_run Cert.FmlpReferenceIdeal.defs _ _).mono (fun r h => ⟨fun c => (h c).2.2.2.2.2.2,
      Idealize.ShloMosaic.sem_eq_zero_of_no_sems (by decide) r.2⟩)
    (Cert.FmlpReferenceIdeal.Value.run (F := Ideal) m ρ),
  fun m ρ _ => Cert.FretKernel.Gen.frame m ρ,
  fun m ρ _ => Cert.FretKernelIdeal.Gen.frame m ρ,
  fun m ρ _ => (θ_run Cert.FretReferenceIdeal.defs _ _).mono (fun r h => ⟨fun c => h c,
      Idealize.ShloMosaic.sem_eq_zero_of_no_sems (by decide) r.2⟩)
    (Cert.FretReferenceIdeal.Host.run m ρ),
  fun m ρ _ => Cert.FinKernel.Gen.frame m ρ,
  fun m ρ _ => Cert.FinKernelIdeal.Gen.frame m ρ,
  fun m ρ _ => (θ_run Cert.FinReferenceIdeal.defs _ _).mono (fun r h => ⟨fun c => (h c).2.2.2.2,
      Idealize.ShloMosaic.sem_eq_zero_of_no_sems (by decide) r.2⟩)
    (Cert.FinReferenceIdeal.Value.run (F := Ideal) m ρ),
  fun m ρ _ => Cert.AdamwKernel.Gen.frame m ρ,
  fun m ρ _ => Cert.AdamwKernelIdeal.Gen.frame m ρ,
  fun m ρ _ => (θ_run Cert.AdamwReferenceIdeal.defs _ _).mono (fun r h => ⟨fun c => (h c).2.2.2,
      Idealize.ShloMosaic.sem_eq_zero_of_no_sems (by decide) r.2⟩)
    (Cert.AdamwReferenceIdeal.Value.run (F := Ideal) m ρ),
  fun m ρ _ => Cert.DwKernel.Gen.frame m ρ,
  fun m ρ _ => Cert.DwKernelIdeal.Gen.frame m ρ,
  fun m ρ _ => (θ_run Cert.DwReferenceIdeal.defs _ _).mono (fun r h => ⟨fun c => (h c).2.2,
      Idealize.ShloMosaic.sem_eq_zero_of_no_sems (by decide) r.2⟩)
    (Cert.DwReferenceIdeal.Value.run (F := Ideal) m ρ),
  trivial, Cert.LossClaim.algebraic, trivial, Cert.InClaim.algebraic, trivial, Cert.MlpClaim.algebraic, trivial, Cert.RetClaim.algebraic, trivial, trivial, Cert.FmlpClaim.algebraic, trivial, trivial, trivial, Cert.AdamwClaim.algebraic, trivial, Cert.DwClaim.algebraic⟩

end Cert.Proof

end

end
